-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdIdeal_finite [hPre_finite : Cert.Pre_finite.Facts] (m : (ℓ : Loc Cert.MlpBwdIdeal.nD Cert.MlpBwdIdeal.τ Cert.MlpBwdIdeal.sig) → Buf (Elt Ideal) ℓ) : Prop :=
  ∀ c : Dev Cert.MlpBwdIdeal.nD,
    (Cert.Pre_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))).1 = (fun _ => 1#1)
    ∧ (Cert.Pre_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))).2.1 = (fun _ => 1#1)
    ∧ (Cert.Pre_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))).2.2.1 = (fun _ => 1#1)
    ∧ (Cert.Pre_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))).2.2.2.1 = (fun _ => 1#1)
    ∧ (Cert.Pre_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))).2.2.2.2 = (fun _ => 1#1)

def Pre_MlpBwdRefIdeal (m : (ℓ : Loc Cert.MlpBwdRefIdeal.nD Cert.MlpBwdRefIdeal.τ Cert.MlpBwdRefIdeal.sig) → Buf (Elt Ideal) ℓ) : Prop :=
  True

def Pre_MlpBwdRefIdeal_finite [hPre_finite : Cert.Pre_finite.Facts] (m : (ℓ : Loc Cert.MlpBwdRefIdeal.nD Cert.MlpBwdRefIdeal.τ Cert.MlpBwdRefIdeal.sig) → Buf (Elt Ideal) ℓ) : Prop :=
  ∀ c : Dev Cert.MlpBwdRefIdeal.nD,
    (Cert.Pre_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5))).1 = (fun _ => 1#1)
    ∧ (Cert.Pre_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5))).2.1 = (fun _ => 1#1)
    ∧ (Cert.Pre_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5))).2.2.1 = (fun _ => 1#1)
    ∧ (Cert.Pre_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5))).2.2.2.1 = (fun _ => 1#1)
    ∧ (Cert.Pre_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5))).2.2.2.2 = (fun _ => 1#1)

def Pre_OutMlp (m : (ℓ : Loc Cert.OutMlp.nD Cert.OutMlp.τ Cert.OutMlp.sig) → Buf (Elt Bits) ℓ) : Prop :=
  True

def Pre_OutMlpIdeal (m : (ℓ : Loc Cert.OutMlpIdeal.nD Cert.OutMlpIdeal.τ Cert.OutMlpIdeal.sig) → Buf (Elt Ideal) ℓ) : Prop :=
  True

def Pre_OutMlpRefIdeal (m : (ℓ : Loc Cert.OutMlpRefIdeal.nD Cert.OutMlpRefIdeal.τ Cert.OutMlpRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdRefIdeal (m : (ℓ : Loc Cert.InProjBwdRefIdeal.nD Cert.InProjBwdRefIdeal.τ Cert.InProjBwdRefIdeal.sig) → Buf (Elt Ideal) ℓ) : Prop :=
  True

def Pre_WgradGu (m : (ℓ : Loc Cert.WgradGu.nD Cert.WgradGu.τ Cert.WgradGu.sig) → Buf (Elt Bits) ℓ) : Prop :=
  True

def Pre_WgradGuIdeal (m : (ℓ : Loc Cert.WgradGuIdeal.nD Cert.WgradGuIdeal.τ Cert.WgradGuIdeal.sig) → Buf (Elt Ideal) ℓ) : Prop :=
  True

def Pre_WgradGuRefIdeal (m : (ℓ : Loc Cert.WgradGuRefIdeal.nD Cert.WgradGuRefIdeal.τ Cert.WgradGuRefIdeal.sig) → Buf (Elt Ideal) ℓ) : Prop :=
  True

def Pre_WgradDown (m : (ℓ : Loc Cert.WgradDown.nD Cert.WgradDown.τ Cert.WgradDown.sig) → Buf (Elt Bits) ℓ) : Prop :=
  True

def Pre_WgradDownIdeal (m : (ℓ : Loc Cert.WgradDownIdeal.nD Cert.WgradDownIdeal.τ Cert.WgradDownIdeal.sig) → Buf (Elt Ideal) ℓ) : Prop :=
  True

def Pre_WgradDownRefIdeal (m : (ℓ : Loc Cert.WgradDownRefIdeal.nD Cert.WgradDownRefIdeal.τ Cert.WgradDownRefIdeal.sig) → Buf (Elt Ideal) ℓ) : Prop :=
  True

def Pre_WgradOut (m : (ℓ : Loc Cert.WgradOut.nD Cert.WgradOut.τ Cert.WgradOut.sig) → Buf (Elt Bits) ℓ) : Prop :=
  True

def Pre_WgradOutIdeal (m : (ℓ : Loc Cert.WgradOutIdeal.nD Cert.WgradOutIdeal.τ Cert.WgradOutIdeal.sig) → Buf (Elt Ideal) ℓ) : Prop :=
  True

def Pre_WgradOutRefIdeal (m : (ℓ : Loc Cert.WgradOutRefIdeal.nD Cert.WgradOutRefIdeal.τ Cert.WgradOutRefIdeal.sig) → Buf (Elt Ideal) ℓ) : Prop :=
  True

def Pre_WgradIn (m : (ℓ : Loc Cert.WgradIn.nD Cert.WgradIn.τ Cert.WgradIn.sig) → Buf (Elt Bits) ℓ) : Prop :=
  True

def Pre_WgradInIdeal (m : (ℓ : Loc Cert.WgradInIdeal.nD Cert.WgradInIdeal.τ Cert.WgradInIdeal.sig) → Buf (Elt Ideal) ℓ) : Prop :=
  True

def Pre_WgradInRefIdeal (m : (ℓ : Loc Cert.WgradInRefIdeal.nD Cert.WgradInRefIdeal.τ Cert.WgradInRefIdeal.sig) → Buf (Elt Ideal) ℓ) : Prop :=
  True

def Pre_InProjBwd0 (m : (ℓ : Loc Cert.InProjBwd0.nD Cert.InProjBwd0.τ Cert.InProjBwd0.sig) → Buf (Elt Bits) ℓ) : Prop :=
  True

def Pre_InProjBwd0Ideal (m : (ℓ : Loc Cert.InProjBwd0Ideal.nD Cert.InProjBwd0Ideal.τ Cert.InProjBwd0Ideal.sig) → Buf (Elt Ideal) ℓ) : Prop :=
  True

def Pre_InProjBwd0RefIdeal (m : (ℓ : Loc Cert.InProjBwd0RefIdeal.nD Cert.InProjBwd0RefIdeal.τ Cert.InProjBwd0RefIdeal.sig) → Buf (Elt Ideal) ℓ) : Prop :=
  True

def Pre_MlpBwd0 (m : (ℓ : Loc Cert.MlpBwd0.nD Cert.MlpBwd0.τ Cert.MlpBwd0.sig) → Buf (Elt Bits) ℓ) : Prop :=
  True

def Pre_MlpBwd0Ideal (m : (ℓ : Loc Cert.MlpBwd0Ideal.nD Cert.MlpBwd0Ideal.τ Cert.MlpBwd0Ideal.sig) → Buf (Elt Ideal) ℓ) : Prop :=
  True

def Pre_MlpBwd0Ideal_finite [hPre_finite : Cert.Pre_finite.Facts] (m : (ℓ : Loc Cert.MlpBwd0Ideal.nD Cert.MlpBwd0Ideal.τ Cert.MlpBwd0Ideal.sig) → Buf (Elt Ideal) ℓ) : Prop :=
  ∀ c : Dev Cert.MlpBwd0Ideal.nD,
    (Cert.Pre_finite.fn (F := Ideal) (m ((c.tc : Thread Cert.MlpBwd0Ideal.nD Cert.MlpBwd0Ideal.τ).loc Cert.MlpBwd0Ideal.main_arg0)) (m ((c.tc : Thread Cert.MlpBwd0Ideal.nD Cert.MlpBwd0Ideal.τ).loc Cert.MlpBwd0Ideal.main_arg1)) (m ((c.tc : Thread Cert.MlpBwd0Ideal.nD Cert.MlpBwd0Ideal.τ).loc Cert.MlpBwd0Ideal.main_arg2)) (m ((c.tc : Thread Cert.MlpBwd0Ideal.nD Cert.MlpBwd0Ideal.τ).loc Cert.MlpBwd0Ideal.main_arg3)) (m ((c.tc : Thread Cert.MlpBwd0Ideal.nD Cert.MlpBwd0Ideal.τ).loc Cert.MlpBwd0Ideal.main_arg4)) (m ((c.tc : Thread Cert.MlpBwd0Ideal.nD Cert.MlpBwd0Ideal.τ).loc Cert.MlpBwd0Ideal.main_arg5))).1 = (fun _ => 1#1)
    ∧ (Cert.Pre_finite.fn (F := Ideal) (m ((c.tc : Thread Cert.MlpBwd0Ideal.nD Cert.MlpBwd0Ideal.τ).loc Cert.MlpBwd0Ideal.main_arg0)) (m ((c.tc : Thread Cert.MlpBwd0Ideal.nD Cert.MlpBwd0Ideal.τ).loc Cert.MlpBwd0Ideal.main_arg1)) (m ((c.tc : Thread Cert.MlpBwd0Ideal.nD Cert.MlpBwd0Ideal.τ).loc Cert.MlpBwd0Ideal.main_arg2)) (m ((c.tc : Thread Cert.MlpBwd0Ideal.nD Cert.MlpBwd0Ideal.τ).loc Cert.MlpBwd0Ideal.main_arg3)) (m ((c.tc : Thread Cert.MlpBwd0Ideal.nD Cert.MlpBwd0Ideal.τ).loc Cert.MlpBwd0Ideal.main_arg4)) (m ((c.tc : Thread Cert.MlpBwd0Ideal.nD Cert.MlpBwd0Ideal.τ).loc Cert.MlpBwd0Ideal.main_arg5))).2.1 = (fun _ => 1#1)
    ∧ (Cert.Pre_finite.fn (F := Ideal) (m ((c.tc : Thread Cert.MlpBwd0Ideal.nD Cert.MlpBwd0Ideal.τ).loc Cert.MlpBwd0Ideal.main_arg0)) (m ((c.tc : Thread Cert.MlpBwd0Ideal.nD Cert.MlpBwd0Ideal.τ).loc Cert.MlpBwd0Ideal.main_arg1)) (m ((c.tc : Thread Cert.MlpBwd0Ideal.nD Cert.MlpBwd0Ideal.τ).loc Cert.MlpBwd0Ideal.main_arg2)) (m ((c.tc : Thread Cert.MlpBwd0Ideal.nD Cert.MlpBwd0Ideal.τ).loc Cert.MlpBwd0Ideal.main_arg3)) (m ((c.tc : Thread Cert.MlpBwd0Ideal.nD Cert.MlpBwd0Ideal.τ).loc Cert.MlpBwd0Ideal.main_arg4)) (m ((c.tc : Thread Cert.MlpBwd0Ideal.nD Cert.MlpBwd0Ideal.τ).loc Cert.MlpBwd0Ideal.main_arg5))).2.2.1 = (fun _ => 1#1)
    ∧ (Cert.Pre_finite.fn (F := Ideal) (m ((c.tc : Thread Cert.MlpBwd0Ideal.nD Cert.MlpBwd0Ideal.τ).loc Cert.MlpBwd0Ideal.main_arg0)) (m ((c.tc : Thread Cert.MlpBwd0Ideal.nD Cert.MlpBwd0Ideal.τ).loc Cert.MlpBwd0Ideal.main_arg1)) (m ((c.tc : Thread Cert.MlpBwd0Ideal.nD Cert.MlpBwd0Ideal.τ).loc Cert.MlpBwd0Ideal.main_arg2)) (m ((c.tc : Thread Cert.MlpBwd0Ideal.nD Cert.MlpBwd0Ideal.τ).loc Cert.MlpBwd0Ideal.main_arg3)) (m ((c.tc : Thread Cert.MlpBwd0Ideal.nD Cert.MlpBwd0Ideal.τ).loc Cert.MlpBwd0Ideal.main_arg4)) (m ((c.tc : Thread Cert.MlpBwd0Ideal.nD Cert.MlpBwd0Ideal.τ).loc Cert.MlpBwd0Ideal.main_arg5))).2.2.2.1 = (fun _ => 1#1)
    ∧ (Cert.Pre_finite.fn (F := Ideal) (m ((c.tc : Thread Cert.MlpBwd0Ideal.nD Cert.MlpBwd0Ideal.τ).loc Cert.MlpBwd0Ideal.main_arg0)) (m ((c.tc : Thread Cert.MlpBwd0Ideal.nD Cert.MlpBwd0Ideal.τ).loc Cert.MlpBwd0Ideal.main_arg1)) (m ((c.tc : Thread Cert.MlpBwd0Ideal.nD Cert.MlpBwd0Ideal.τ).loc Cert.MlpBwd0Ideal.main_arg2)) (m ((c.tc : Thread Cert.MlpBwd0Ideal.nD Cert.MlpBwd0Ideal.τ).loc Cert.MlpBwd0Ideal.main_arg3)) (m ((c.tc : Thread Cert.MlpBwd0Ideal.nD Cert.MlpBwd0Ideal.τ).loc Cert.MlpBwd0Ideal.main_arg4)) (m ((c.tc : Thread Cert.MlpBwd0Ideal.nD Cert.MlpBwd0Ideal.τ).loc Cert.MlpBwd0Ideal.main_arg5))).2.2.2.2 = (fun _ => 1#1)

def Pre_MlpBwd0RefIdeal (m : (ℓ : Loc Cert.MlpBwd0RefIdeal.nD Cert.MlpBwd0RefIdeal.τ Cert.MlpBwd0RefIdeal.sig) → Buf (Elt Ideal) ℓ) : Prop :=
  True

def Pre_MlpBwd0RefIdeal_finite [hPre_finite : Cert.Pre_finite.Facts] (m : (ℓ : Loc Cert.MlpBwd0RefIdeal.nD Cert.MlpBwd0RefIdeal.τ Cert.MlpBwd0RefIdeal.sig) → Buf (Elt Ideal) ℓ) : Prop :=
  ∀ c : Dev Cert.MlpBwd0RefIdeal.nD,
    (Cert.Pre_finite.fn (F := Ideal) (m ((c.tc : Thread Cert.MlpBwd0RefIdeal.nD Cert.MlpBwd0RefIdeal.τ).loc Cert.MlpBwd0RefIdeal.main_arg0)) (m ((c.tc : Thread Cert.MlpBwd0RefIdeal.nD Cert.MlpBwd0RefIdeal.τ).loc Cert.MlpBwd0RefIdeal.main_arg1)) (m ((c.tc : Thread Cert.MlpBwd0RefIdeal.nD Cert.MlpBwd0RefIdeal.τ).loc Cert.MlpBwd0RefIdeal.main_arg2)) (m ((c.tc : Thread Cert.MlpBwd0RefIdeal.nD Cert.MlpBwd0RefIdeal.τ).loc Cert.MlpBwd0RefIdeal.main_arg3)) (m ((c.tc : Thread Cert.MlpBwd0RefIdeal.nD Cert.MlpBwd0RefIdeal.τ).loc Cert.MlpBwd0RefIdeal.main_arg4)) (m ((c.tc : Thread Cert.MlpBwd0RefIdeal.nD Cert.MlpBwd0RefIdeal.τ).loc Cert.MlpBwd0RefIdeal.main_arg5))).1 = (fun _ => 1#1)
    ∧ (Cert.Pre_finite.fn (F := Ideal) (m ((c.tc : Thread Cert.MlpBwd0RefIdeal.nD Cert.MlpBwd0RefIdeal.τ).loc Cert.MlpBwd0RefIdeal.main_arg0)) (m ((c.tc : Thread Cert.MlpBwd0RefIdeal.nD Cert.MlpBwd0RefIdeal.τ).loc Cert.MlpBwd0RefIdeal.main_arg1)) (m ((c.tc : Thread Cert.MlpBwd0RefIdeal.nD Cert.MlpBwd0RefIdeal.τ).loc Cert.MlpBwd0RefIdeal.main_arg2)) (m ((c.tc : Thread Cert.MlpBwd0RefIdeal.nD Cert.MlpBwd0RefIdeal.τ).loc Cert.MlpBwd0RefIdeal.main_arg3)) (m ((c.tc : Thread Cert.MlpBwd0RefIdeal.nD Cert.MlpBwd0RefIdeal.τ).loc Cert.MlpBwd0RefIdeal.main_arg4)) (m ((c.tc : Thread Cert.MlpBwd0RefIdeal.nD Cert.MlpBwd0RefIdeal.τ).loc Cert.MlpBwd0RefIdeal.main_arg5))).2.1 = (fun _ => 1#1)
    ∧ (Cert.Pre_finite.fn (F := Ideal) (m ((c.tc : Thread Cert.MlpBwd0RefIdeal.nD Cert.MlpBwd0RefIdeal.τ).loc Cert.MlpBwd0RefIdeal.main_arg0)) (m ((c.tc : Thread Cert.MlpBwd0RefIdeal.nD Cert.MlpBwd0RefIdeal.τ).loc Cert.MlpBwd0RefIdeal.main_arg1)) (m ((c.tc : Thread Cert.MlpBwd0RefIdeal.nD Cert.MlpBwd0RefIdeal.τ).loc Cert.MlpBwd0RefIdeal.main_arg2)) (m ((c.tc : Thread Cert.MlpBwd0RefIdeal.nD Cert.MlpBwd0RefIdeal.τ).loc Cert.MlpBwd0RefIdeal.main_arg3)) (m ((c.tc : Thread Cert.MlpBwd0RefIdeal.nD Cert.MlpBwd0RefIdeal.τ).loc Cert.MlpBwd0RefIdeal.main_arg4)) (m ((c.tc : Thread Cert.MlpBwd0RefIdeal.nD Cert.MlpBwd0RefIdeal.τ).loc Cert.MlpBwd0RefIdeal.main_arg5))).2.2.1 = (fun _ => 1#1)
    ∧ (Cert.Pre_finite.fn (F := Ideal) (m ((c.tc : Thread Cert.MlpBwd0RefIdeal.nD Cert.MlpBwd0RefIdeal.τ).loc Cert.MlpBwd0RefIdeal.main_arg0)) (m ((c.tc : Thread Cert.MlpBwd0RefIdeal.nD Cert.MlpBwd0RefIdeal.τ).loc Cert.MlpBwd0RefIdeal.main_arg1)) (m ((c.tc : Thread Cert.MlpBwd0RefIdeal.nD Cert.MlpBwd0RefIdeal.τ).loc Cert.MlpBwd0RefIdeal.main_arg2)) (m ((c.tc : Thread Cert.MlpBwd0RefIdeal.nD Cert.MlpBwd0RefIdeal.τ).loc Cert.MlpBwd0RefIdeal.main_arg3)) (m ((c.tc : Thread Cert.MlpBwd0RefIdeal.nD Cert.MlpBwd0RefIdeal.τ).loc Cert.MlpBwd0RefIdeal.main_arg4)) (m ((c.tc : Thread Cert.MlpBwd0RefIdeal.nD Cert.MlpBwd0RefIdeal.τ).loc Cert.MlpBwd0RefIdeal.main_arg5))).2.2.2.1 = (fun _ => 1#1)
    ∧ (Cert.Pre_finite.fn (F := Ideal) (m ((c.tc : Thread Cert.MlpBwd0RefIdeal.nD Cert.MlpBwd0RefIdeal.τ).loc Cert.MlpBwd0RefIdeal.main_arg0)) (m ((c.tc : Thread Cert.MlpBwd0RefIdeal.nD Cert.MlpBwd0RefIdeal.τ).loc Cert.MlpBwd0RefIdeal.main_arg1)) (m ((c.tc : Thread Cert.MlpBwd0RefIdeal.nD Cert.MlpBwd0RefIdeal.τ).loc Cert.MlpBwd0RefIdeal.main_arg2)) (m ((c.tc : Thread Cert.MlpBwd0RefIdeal.nD Cert.MlpBwd0RefIdeal.τ).loc Cert.MlpBwd0RefIdeal.main_arg3)) (m ((c.tc : Thread Cert.MlpBwd0RefIdeal.nD Cert.MlpBwd0RefIdeal.τ).loc Cert.MlpBwd0RefIdeal.main_arg4)) (m ((c.tc : Thread Cert.MlpBwd0RefIdeal.nD Cert.MlpBwd0RefIdeal.τ).loc Cert.MlpBwd0RefIdeal.main_arg5))).2.2.2.2 = (fun _ => 1#1)

def Pre_AdamwGu (m : (ℓ : Loc Cert.AdamwGu.nD Cert.AdamwGu.τ Cert.AdamwGu.sig) → Buf (Elt Bits) ℓ) : Prop :=
  True

def Pre_AdamwGuIdeal (m : (ℓ : Loc Cert.AdamwGuIdeal.nD Cert.AdamwGuIdeal.τ Cert.AdamwGuIdeal.sig) → Buf (Elt Ideal) ℓ) : Prop :=
  True

def Pre_AdamwGuRefIdeal (m : (ℓ : Loc Cert.AdamwGuRefIdeal.nD Cert.AdamwGuRefIdeal.τ Cert.AdamwGuRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_AdamwDownRefIdeal (m : (ℓ : Loc Cert.AdamwDownRefIdeal.nD Cert.AdamwDownRefIdeal.τ Cert.AdamwDownRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwShards (m : (ℓ : Loc Cert.AdamwShards.nD Cert.AdamwShards.τ Cert.AdamwShards.sig) → Buf (Elt Bits) ℓ) : Prop :=
  True

def Pre_AdamwShardsIdeal (m : (ℓ : Loc Cert.AdamwShardsIdeal.nD Cert.AdamwShardsIdeal.τ Cert.AdamwShardsIdeal.sig) → Buf (Elt Ideal) ℓ) : Prop :=
  True

def Pre_AdamwShardsRefIdeal (m : (ℓ : Loc Cert.AdamwShardsRefIdeal.nD Cert.AdamwShardsRefIdeal.τ Cert.AdamwShardsRefIdeal.sig) → Buf (Elt Ideal) ℓ) : Prop :=
  True

def Pre_QkvBwd (m : (ℓ : Loc Cert.QkvBwd.nD Cert.QkvBwd.τ Cert.QkvBwd.sig) → Buf (Elt Bits) ℓ) : Prop :=
  True

def Pre_QkvBwdIdeal (m : (ℓ : Loc Cert.QkvBwdIdeal.nD Cert.QkvBwdIdeal.τ Cert.QkvBwdIdeal.sig) → Buf (Elt Ideal) ℓ) : Prop :=
  True

def Pre_QkvBwdIdeal_qkv_finite [hPre_qkv_finite : Cert.Pre_qkv_finite.Facts] (m : (ℓ : Loc Cert.QkvBwdIdeal.nD Cert.QkvBwdIdeal.τ Cert.QkvBwdIdeal.sig) → Buf (Elt Ideal) ℓ) : Prop :=
  ∀ c : Dev Cert.QkvBwdIdeal.nD,
    (Cert.Pre_qkv_finite.fn (F := Ideal) (m ((c.tc : Thread Cert.QkvBwdIdeal.nD Cert.QkvBwdIdeal.τ).loc Cert.QkvBwdIdeal.main_arg0)) (m ((c.tc : Thread Cert.QkvBwdIdeal.nD Cert.QkvBwdIdeal.τ).loc Cert.QkvBwdIdeal.main_arg1)) (m ((c.tc : Thread Cert.QkvBwdIdeal.nD Cert.QkvBwdIdeal.τ).loc Cert.QkvBwdIdeal.main_arg2))) = (fun _ => 1#1)

def Pre_QkvBwdRefIdeal (m : (ℓ : Loc Cert.QkvBwdRefIdeal.nD Cert.QkvBwdRefIdeal.τ Cert.QkvBwdRefIdeal.sig) → Buf (Elt Ideal) ℓ) : Prop :=
  True

def Pre_QkvBwdRefIdeal_qkv_finite [hPre_qkv_finite : Cert.Pre_qkv_finite.Facts] (m : (ℓ : Loc Cert.QkvBwdRefIdeal.nD Cert.QkvBwdRefIdeal.τ Cert.QkvBwdRefIdeal.sig) → Buf (Elt Ideal) ℓ) : Prop :=
  ∀ c : Dev Cert.QkvBwdRefIdeal.nD,
    (Cert.Pre_qkv_finite.fn (F := Ideal) (m ((c.tc : Thread Cert.QkvBwdRefIdeal.nD Cert.QkvBwdRefIdeal.τ).loc Cert.QkvBwdRefIdeal.main_arg0)) (m ((c.tc : Thread Cert.QkvBwdRefIdeal.nD Cert.QkvBwdRefIdeal.τ).loc Cert.QkvBwdRefIdeal.main_arg1)) (m ((c.tc : Thread Cert.QkvBwdRefIdeal.nD Cert.QkvBwdRefIdeal.τ).loc Cert.QkvBwdRefIdeal.main_arg2))) = (fun _ => 1#1)

def Pre_SconvFwd (m : (ℓ : Loc Cert.SconvFwd.nD Cert.SconvFwd.τ Cert.SconvFwd.sig) → Buf (Elt Bits) ℓ) : Prop :=
  True

def Pre_SconvFwdIdeal (m : (ℓ : Loc Cert.SconvFwdIdeal.nD Cert.SconvFwdIdeal.τ Cert.SconvFwdIdeal.sig) → Buf (Elt Ideal) ℓ) : Prop :=
  True

def Pre_SconvFwdRefIdeal (m : (ℓ : Loc Cert.SconvFwdRefIdeal.nD Cert.SconvFwdRefIdeal.τ Cert.SconvFwdRefIdeal.sig) → Buf (Elt Ideal) ℓ) : Prop :=
  True

def Pre_QkvFwd (m : (ℓ : Loc Cert.QkvFwd.nD Cert.QkvFwd.τ Cert.QkvFwd.sig) → Buf (Elt Bits) ℓ) : Prop :=
  True

def Pre_QkvFwdIdeal (m : (ℓ : Loc Cert.QkvFwdIdeal.nD Cert.QkvFwdIdeal.τ Cert.QkvFwdIdeal.sig) → Buf (Elt Ideal) ℓ) : Prop :=
  True

def Pre_QkvFwdRefIdeal (m : (ℓ : Loc Cert.QkvFwdRefIdeal.nD Cert.QkvFwdRefIdeal.τ Cert.QkvFwdRefIdeal.sig) → Buf (Elt Ideal) ℓ) : Prop :=
  True

def Pre_SconvBwd0 (m : (ℓ : Loc Cert.SconvBwd0.nD Cert.SconvBwd0.τ Cert.SconvBwd0.sig) → Buf (Elt Bits) ℓ) : Prop :=
  True

def Pre_SconvBwd0Ideal (m : (ℓ : Loc Cert.SconvBwd0Ideal.nD Cert.SconvBwd0Ideal.τ Cert.SconvBwd0Ideal.sig) → Buf (Elt Ideal) ℓ) : Prop :=
  True

def Pre_SconvBwd0RefIdeal (m : (ℓ : Loc Cert.SconvBwd0RefIdeal.nD Cert.SconvBwd0RefIdeal.τ Cert.SconvBwd0RefIdeal.sig) → Buf (Elt Ideal) ℓ) : Prop :=
  True

def Pre_QkvBwd0 (m : (ℓ : Loc Cert.QkvBwd0.nD Cert.QkvBwd0.τ Cert.QkvBwd0.sig) → Buf (Elt Bits) ℓ) : Prop :=
  True

def Pre_QkvBwd0Ideal (m : (ℓ : Loc Cert.QkvBwd0Ideal.nD Cert.QkvBwd0Ideal.τ Cert.QkvBwd0Ideal.sig) → Buf (Elt Ideal) ℓ) : Prop :=
  True

def Pre_QkvBwd0Ideal_qkv_finite [hPre_qkv_finite : Cert.Pre_qkv_finite.Facts] (m : (ℓ : Loc Cert.QkvBwd0Ideal.nD Cert.QkvBwd0Ideal.τ Cert.QkvBwd0Ideal.sig) → Buf (Elt Ideal) ℓ) : Prop :=
  ∀ c : Dev Cert.QkvBwd0Ideal.nD,
    (Cert.Pre_qkv_finite.fn (F := Ideal) (m ((c.tc : Thread Cert.QkvBwd0Ideal.nD Cert.QkvBwd0Ideal.τ).loc Cert.QkvBwd0Ideal.main_arg0)) (m ((c.tc : Thread Cert.QkvBwd0Ideal.nD Cert.QkvBwd0Ideal.τ).loc Cert.QkvBwd0Ideal.main_arg1)) (m ((c.tc : Thread Cert.QkvBwd0Ideal.nD Cert.QkvBwd0Ideal.τ).loc Cert.QkvBwd0Ideal.main_arg2))) = (fun _ => 1#1)

def Pre_QkvBwd0RefIdeal (m : (ℓ : Loc Cert.QkvBwd0RefIdeal.nD Cert.QkvBwd0RefIdeal.τ Cert.QkvBwd0RefIdeal.sig) → Buf (Elt Ideal) ℓ) : Prop :=
  True

def Pre_QkvBwd0RefIdeal_qkv_finite [hPre_qkv_finite : Cert.Pre_qkv_finite.Facts] (m : (ℓ : Loc Cert.QkvBwd0RefIdeal.nD Cert.QkvBwd0RefIdeal.τ Cert.QkvBwd0RefIdeal.sig) → Buf (Elt Ideal) ℓ) : Prop :=
  ∀ c : Dev Cert.QkvBwd0RefIdeal.nD,
    (Cert.Pre_qkv_finite.fn (F := Ideal) (m ((c.tc : Thread Cert.QkvBwd0RefIdeal.nD Cert.QkvBwd0RefIdeal.τ).loc Cert.QkvBwd0RefIdeal.main_arg0)) (m ((c.tc : Thread Cert.QkvBwd0RefIdeal.nD Cert.QkvBwd0RefIdeal.τ).loc Cert.QkvBwd0RefIdeal.main_arg1)) (m ((c.tc : Thread Cert.QkvBwd0RefIdeal.nD Cert.QkvBwd0RefIdeal.τ).loc Cert.QkvBwd0RefIdeal.main_arg2))) = (fun _ => 1#1)

def Pre_SconvFwd0 (m : (ℓ : Loc Cert.SconvFwd0.nD Cert.SconvFwd0.τ Cert.SconvFwd0.sig) → Buf (Elt Bits) ℓ) : Prop :=
  True

def Pre_SconvFwd0Ideal (m : (ℓ : Loc Cert.SconvFwd0Ideal.nD Cert.SconvFwd0Ideal.τ Cert.SconvFwd0Ideal.sig) → Buf (Elt Ideal) ℓ) : Prop :=
  True

def Pre_SconvFwd0RefIdeal (m : (ℓ : Loc Cert.SconvFwd0RefIdeal.nD Cert.SconvFwd0RefIdeal.τ Cert.SconvFwd0RefIdeal.sig) → Buf (Elt Ideal) ℓ) : Prop :=
  True

def Pre_QkvFwd0 (m : (ℓ : Loc Cert.QkvFwd0.nD Cert.QkvFwd0.τ Cert.QkvFwd0.sig) → Buf (Elt Bits) ℓ) : Prop :=
  True

def Pre_QkvFwd0Ideal (m : (ℓ : Loc Cert.QkvFwd0Ideal.nD Cert.QkvFwd0Ideal.τ Cert.QkvFwd0Ideal.sig) → Buf (Elt Ideal) ℓ) : Prop :=
  True

def Pre_QkvFwd0RefIdeal (m : (ℓ : Loc Cert.QkvFwd0RefIdeal.nD Cert.QkvFwd0RefIdeal.τ Cert.QkvFwd0RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4)
      ∧ r.2.mem ((c.tc : Thread Cert.MlpBwd.nD Cert.MlpBwd.τ).loc Cert.MlpBwd.main_arg5) = m ((c.tc : Thread Cert.MlpBwd.nD Cert.MlpBwd.τ).loc Cert.MlpBwd.main_arg5))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ r.2.sem = fun _ => 0)

def quiescent_MlpBwdIdeal_pre_finite [hMlpBwdIdeal : Cert.MlpBwdIdeal.Facts] [hPre_finite : Cert.Pre_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal_finite m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4)
      ∧ r.2.mem ((c.tc : Thread Cert.MlpBwdRefIdeal.nD Cert.MlpBwdRefIdeal.τ).loc Cert.MlpBwdRefIdeal.main_arg5) = m ((c.tc : Thread Cert.MlpBwdRefIdeal.nD Cert.MlpBwdRefIdeal.τ).loc Cert.MlpBwdRefIdeal.main_arg5))
      ∧ r.2.sem = fun _ => 0)

def quiescent_MlpBwdRefIdeal_pre_finite [hMlpBwdRefIdeal : Cert.MlpBwdRefIdeal.Facts] [hPre_finite : Cert.Pre_finite.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal_finite m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4)
      ∧ r.2.mem ((c.tc : Thread Cert.MlpBwdRefIdeal.nD Cert.MlpBwdRefIdeal.τ).loc Cert.MlpBwdRefIdeal.main_arg5) = m ((c.tc : Thread Cert.MlpBwdRefIdeal.nD Cert.MlpBwdRefIdeal.τ).loc Cert.MlpBwdRefIdeal.main_arg5))
      ∧ r.2.sem = fun _ => 0)

def quiescent_OutMlp [hOutMlp : Cert.OutMlp.Facts] : Prop :=
  ∀ (m : (ℓ : Loc Cert.OutMlp.nD Cert.OutMlp.τ Cert.OutMlp.sig) → Buf (Elt Bits) ℓ) (g : Dev Cert.OutMlp.nD → PrngReg), Pre_OutMlp m →
    θ_run (Cert.OutMlp.defs (F := Bits)) (onTc (τ := Cert.OutMlp.τ) (Cert.OutMlp.main (F := Bits))) ⟨m, fun _ => 0, g⟩ (fun r => (∀ c : Dev Cert.OutMlp.nD,
      r.2.mem ((c.tc : Thread Cert.OutMlp.nD Cert.OutMlp.τ).loc Cert.OutMlp.main_arg0) = m ((c.tc : Thread Cert.OutMlp.nD Cert.OutMlp.τ).loc Cert.OutMlp.main_arg0)
      ∧ r.2.mem ((c.tc : Thread Cert.OutMlp.nD Cert.OutMlp.τ).loc Cert.OutMlp.main_arg1) = m ((c.tc : Thread Cert.OutMlp.nD Cert.OutMlp.τ).loc Cert.OutMlp.main_arg1)
      ∧ r.2.mem ((c.tc : Thread Cert.OutMlp.nD Cert.OutMlp.τ).loc Cert.OutMlp.main_arg2) = m ((c.tc : Thread Cert.OutMlp.nD Cert.OutMlp.τ).loc Cert.OutMlp.main_arg2)
      ∧ r.2.mem ((c.tc : Thread Cert.OutMlp.nD Cert.OutMlp.τ).loc Cert.OutMlp.main_arg3) = m ((c.tc : Thread Cert.OutMlp.nD Cert.OutMlp.τ).loc Cert.OutMlp.main_arg3)
      ∧ r.2.mem ((c.tc : Thread Cert.OutMlp.nD Cert.OutMlp.τ).loc Cert.OutMlp.main_arg4) = m ((c.tc : Thread Cert.OutMlp.nD Cert.OutMlp.τ).loc Cert.OutMlp.main_arg4)
      ∧ r.2.mem ((c.tc : Thread Cert.OutMlp.nD Cert.OutMlp.τ).loc Cert.OutMlp.main_arg5) = m ((c.tc : Thread Cert.OutMlp.nD Cert.OutMlp.τ).loc Cert.OutMlp.main_arg5)
      ∧ r.2.mem ((c.tc : Thread Cert.OutMlp.nD Cert.OutMlp.τ).loc Cert.OutMlp.main_arg6) = m ((c.tc : Thread Cert.OutMlp.nD Cert.OutMlp.τ).loc Cert.OutMlp.main_arg6)
      ∧ r.2.mem ((c.tc : Thread Cert.OutMlp.nD Cert.OutMlp.τ).loc Cert.OutMlp.main_arg7) = m ((c.tc : Thread Cert.OutMlp.nD Cert.OutMlp.τ).loc Cert.OutMlp.main_arg7)
      ∧ r.2.mem ((c.tc : Thread Cert.OutMlp.nD Cert.OutMlp.τ).loc Cert.OutMlp.main_arg8) = m ((c.tc : Thread Cert.OutMlp.nD Cert.OutMlp.τ).loc Cert.OutMlp.main_arg8))
      ∧ r.2.sem = fun _ => 0)

def quiescent_OutMlpIdeal [hOutMlpIdeal : Cert.OutMlpIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg), Pre_OutMlpIdeal m →
    θ_run (Cert.OutMlpIdeal.defs (F := Ideal)) (onTc (τ := Cert.OutMlpIdeal.τ) (Cert.OutMlpIdeal.main (F := Ideal))) ⟨m, fun _ => 0, g⟩ (fun r => (∀ c : Dev Cert.OutMlpIdeal.nD,
      r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
      ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
      ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
      ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
      ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
      ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
      ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6)
      ∧ r.2.mem ((c.tc : Thread Cert.OutMlpIdeal.nD Cert.OutMlpIdeal.τ).loc Cert.OutMlpIdeal.main_arg7) = m ((c.tc : Thread Cert.OutMlpIdeal.nD Cert.OutMlpIdeal.τ).loc Cert.OutMlpIdeal.main_arg7)
      ∧ r.2.mem ((c.tc : Thread Cert.OutMlpIdeal.nD Cert.OutMlpIdeal.τ).loc Cert.OutMlpIdeal.main_arg8) = m ((c.tc : Thread Cert.OutMlpIdeal.nD Cert.OutMlpIdeal.τ).loc Cert.OutMlpIdeal.main_arg8))
      ∧ r.2.sem = fun _ => 0)

def quiescent_OutMlpRefIdeal [hOutMlpRefIdeal : Cert.OutMlpRefIdeal.Facts] : Prop :=
  ∀ (m : (ℓ : Loc Cert.OutMlpRefIdeal.nD Cert.OutMlpRefIdeal.τ Cert.OutMlpRefIdeal.sig) → Buf (Elt Ideal) ℓ) (g : Dev Cert.OutMlpRefIdeal.nD → PrngReg), Pre_OutMlpRefIdeal m →
    θ_run (Cert.OutMlpRefIdeal.defs (F := Ideal)) (onTc (τ := Cert.OutMlpRefIdeal.τ) (Cert.OutMlpRefIdeal.main (F := Ideal))) ⟨m, fun _ => 0, g⟩ (fun r => (∀ c : Dev Cert.OutMlpRefIdeal.nD,
      r.2.mem ((c.tc : Thread Cert.OutMlpRefIdeal.nD Cert.OutMlpRefIdeal.τ).loc Cert.OutMlpRefIdeal.main_arg0) = m ((c.tc : Thread Cert.OutMlpRefIdeal.nD Cert.OutMlpRefIdeal.τ).loc Cert.OutMlpRefIdeal.main_arg0)
      ∧ r.2.mem ((c.tc : Thread Cert.OutMlpRefIdeal.nD Cert.OutMlpRefIdeal.τ).loc Cert.OutMlpRefIdeal.main_arg1) = m ((c.tc : Thread Cert.OutMlpRefIdeal.nD Cert.OutMlpRefIdeal.τ).loc Cert.OutMlpRefIdeal.main_arg1)
      ∧ r.2.mem ((c.tc : Thread Cert.OutMlpRefIdeal.nD Cert.OutMlpRefIdeal.τ).loc Cert.OutMlpRefIdeal.main_arg2) = m ((c.tc : Thread Cert.OutMlpRefIdeal.nD Cert.OutMlpRefIdeal.τ).loc Cert.OutMlpRefIdeal.main_arg2)
      ∧ r.2.mem ((c.tc : Thread Cert.OutMlpRefIdeal.nD Cert.OutMlpRefIdeal.τ).loc Cert.OutMlpRefIdeal.main_arg3) = m ((c.tc : Thread Cert.OutMlpRefIdeal.nD Cert.OutMlpRefIdeal.τ).loc Cert.OutMlpRefIdeal.main_arg3)
      ∧ r.2.mem ((c.tc : Thread Cert.OutMlpRefIdeal.nD Cert.OutMlpRefIdeal.τ).loc Cert.OutMlpRefIdeal.main_arg4) = m ((c.tc : Thread Cert.OutMlpRefIdeal.nD Cert.OutMlpRefIdeal.τ).loc Cert.OutMlpRefIdeal.main_arg4)
      ∧ r.2.mem ((c.tc : Thread Cert.OutMlpRefIdeal.nD Cert.OutMlpRefIdeal.τ).loc Cert.OutMlpRefIdeal.main_arg5) = m ((c.tc : Thread Cert.OutMlpRefIdeal.nD Cert.OutMlpRefIdeal.τ).loc Cert.OutMlpRefIdeal.main_arg5)
      ∧ r.2.mem ((c.tc : Thread Cert.OutMlpRefIdeal.nD Cert.OutMlpRefIdeal.τ).loc Cert.OutMlpRefIdeal.main_arg6) = m ((c.tc : Thread Cert.OutMlpRefIdeal.nD Cert.OutMlpRefIdeal.τ).loc Cert.OutMlpRefIdeal.main_arg6)
      ∧ r.2.mem ((c.tc : Thread Cert.OutMlpRefIdeal.nD Cert.OutMlpRefIdeal.τ).loc Cert.OutMlpRefIdeal.main_arg7) = m ((c.tc : Thread Cert.OutMlpRefIdeal.nD Cert.OutMlpRefIdeal.τ).loc Cert.OutMlpRefIdeal.main_arg7)
      ∧ r.2.mem ((c.tc : Thread Cert.OutMlpRefIdeal.nD Cert.OutMlpRefIdeal.τ).loc Cert.OutMlpRefIdeal.main_arg8) = m ((c.tc : Thread Cert.OutMlpRefIdeal.nD Cert.OutMlpRefIdeal.τ).loc Cert.OutMlpRefIdeal.main_arg8))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9)
      ∧ r.2.mem ((c.tc : Thread Cert.Head.nD Cert.Head.τ).loc Cert.Head.main_arg10) = m ((c.tc : Thread Cert.Head.nD Cert.Head.τ).loc Cert.Head.main_arg10))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9)
      ∧ r.2.mem ((c.tc : Thread Cert.HeadRefIdeal.nD Cert.HeadRefIdeal.τ).loc Cert.HeadRefIdeal.main_arg10) = m ((c.tc : Thread Cert.HeadRefIdeal.nD Cert.HeadRefIdeal.τ).loc Cert.HeadRefIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4)
      ∧ r.2.mem ((c.tc : Thread Cert.InProjBwd.nD Cert.InProjBwd.τ).loc Cert.InProjBwd.main_arg5) = m ((c.tc : Thread Cert.InProjBwd.nD Cert.InProjBwd.τ).loc Cert.InProjBwd.main_arg5)
      ∧ r.2.mem ((c.tc : Thread Cert.InProjBwd.nD Cert.InProjBwd.τ).loc Cert.InProjBwd.main_arg6) = m ((c.tc : Thread Cert.InProjBwd.nD Cert.InProjBwd.τ).loc Cert.InProjBwd.main_arg6)
      ∧ r.2.mem ((c.tc : Thread Cert.InProjBwd.nD Cert.InProjBwd.τ).loc Cert.InProjBwd.main_arg7) = m ((c.tc : Thread Cert.InProjBwd.nD Cert.InProjBwd.τ).loc Cert.InProjBwd.main_arg7)
      ∧ r.2.mem ((c.tc : Thread Cert.InProjBwd.nD Cert.InProjBwd.τ).loc Cert.InProjBwd.main_arg8) = m ((c.tc : Thread Cert.InProjBwd.nD Cert.InProjBwd.τ).loc Cert.InProjBwd.main_arg8)
      ∧ r.2.mem ((c.tc : Thread Cert.InProjBwd.nD Cert.InProjBwd.τ).loc Cert.InProjBwd.main_arg9) = m ((c.tc : Thread Cert.InProjBwd.nD Cert.InProjBwd.τ).loc Cert.InProjBwd.main_arg9)
      ∧ r.2.mem ((c.tc : Thread Cert.InProjBwd.nD Cert.InProjBwd.τ).loc Cert.InProjBwd.main_arg10) = m ((c.tc : Thread Cert.InProjBwd.nD Cert.InProjBwd.τ).loc Cert.InProjBwd.main_arg10)
      ∧ r.2.mem ((c.tc : Thread Cert.InProjBwd.nD Cert.InProjBwd.τ).loc Cert.InProjBwd.main_arg11) = m ((c.tc : Thread Cert.InProjBwd.nD Cert.InProjBwd.τ).loc Cert.InProjBwd.main_arg11))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
      ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9)
      ∧ r.2.mem ((c.tc : Thread Cert.InProjBwdIdeal.nD Cert.InProjBwdIdeal.τ).loc Cert.InProjBwdIdeal.main_arg10) = m ((c.tc : Thread Cert.InProjBwdIdeal.nD Cert.InProjBwdIdeal.τ).loc Cert.InProjBwdIdeal.main_arg10)
      ∧ r.2.mem ((c.tc : Thread Cert.InProjBwdIdeal.nD Cert.InProjBwdIdeal.τ).loc Cert.InProjBwdIdeal.main_arg11) = m ((c.tc : Thread Cert.InProjBwdIdeal.nD Cert.InProjBwdIdeal.τ).loc Cert.InProjBwdIdeal.main_arg11))
      ∧ r.2.sem = fun _ => 0)

def quiescent_InProjBwdRefIdeal [hInProjBwdRefIdeal : Cert.InProjBwdRefIdeal.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5)
      ∧ r.2.mem ((c.tc : Thread Cert.InProjBwdRefIdeal.nD Cert.InProjBwdRefIdeal.τ).loc Cert.InProjBwdRefIdeal.main_arg6) = m ((c.tc : Thread Cert.InProjBwdRefIdeal.nD Cert.InProjBwdRefIdeal.τ).loc Cert.InProjBwdRefIdeal.main_arg6)
      ∧ r.2.mem ((c.tc : Thread Cert.InProjBwdRefIdeal.nD Cert.InProjBwdRefIdeal.τ).loc Cert.InProjBwdRefIdeal.main_arg7) = m ((c.tc : Thread Cert.InProjBwdRefIdeal.nD Cert.InProjBwdRefIdeal.τ).loc Cert.InProjBwdRefIdeal.main_arg7)
      ∧ r.2.mem ((c.tc : Thread Cert.InProjBwdRefIdeal.nD Cert.InProjBwdRefIdeal.τ).loc Cert.InProjBwdRefIdeal.main_arg8) = m ((c.tc : Thread Cert.InProjBwdRefIdeal.nD Cert.InProjBwdRefIdeal.τ).loc Cert.InProjBwdRefIdeal.main_arg8)
      ∧ r.2.mem ((c.tc : Thread Cert.InProjBwdRefIdeal.nD Cert.InProjBwdRefIdeal.τ).loc Cert.InProjBwdRefIdeal.main_arg9) = m ((c.tc : Thread Cert.InProjBwdRefIdeal.nD Cert.InProjBwdRefIdeal.τ).loc Cert.InProjBwdRefIdeal.main_arg9)
      ∧ r.2.mem ((c.tc : Thread Cert.InProjBwdRefIdeal.nD Cert.InProjBwdRefIdeal.τ).loc Cert.InProjBwdRefIdeal.main_arg10) = m ((c.tc : Thread Cert.InProjBwdRefIdeal.nD Cert.InProjBwdRefIdeal.τ).loc Cert.InProjBwdRefIdeal.main_arg10)
      ∧ r.2.mem ((c.tc : Thread Cert.InProjBwdRefIdeal.nD Cert.InProjBwdRefIdeal.τ).loc Cert.InProjBwdRefIdeal.main_arg11) = m ((c.tc : Thread Cert.InProjBwdRefIdeal.nD Cert.InProjBwdRefIdeal.τ).loc Cert.InProjBwdRefIdeal.main_arg11))
      ∧ r.2.sem = fun _ => 0)

def quiescent_WgradGu [hWgradGu : Cert.WgradGu.Facts] : Prop :=
  ∀ (m : (ℓ : Loc Cert.WgradGu.nD Cert.WgradGu.τ Cert.WgradGu.sig) → Buf (Elt Bits) ℓ) (g : Dev Cert.WgradGu.nD → PrngReg), Pre_WgradGu m →
    θ_run (Cert.WgradGu.defs (F := Bits)) (onTc (τ := Cert.WgradGu.τ) (Cert.WgradGu.main (F := Bits))) ⟨m, fun _ => 0, g⟩ (fun r => (∀ c : Dev Cert.WgradGu.nD,
      r.2.mem ((c.tc : Thread Cert.WgradGu.nD Cert.WgradGu.τ).loc Cert.WgradGu.main_arg0) = m ((c.tc : Thread Cert.WgradGu.nD Cert.WgradGu.τ).loc Cert.WgradGu.main_arg0)
      ∧ r.2.mem ((c.tc : Thread Cert.WgradGu.nD Cert.WgradGu.τ).loc Cert.WgradGu.main_arg1) = m ((c.tc : Thread Cert.WgradGu.nD Cert.WgradGu.τ).loc Cert.WgradGu.main_arg1))
      ∧ r.2.sem = fun _ => 0)

def quiescent_WgradGuIdeal [hWgradGuIdeal : Cert.WgradGuIdeal.Facts] : Prop :=
  ∀ (m : (ℓ : Loc Cert.WgradGuIdeal.nD Cert.WgradGuIdeal.τ Cert.WgradGuIdeal.sig) → Buf (Elt Ideal) ℓ) (g : Dev Cert.WgradGuIdeal.nD → PrngReg), Pre_WgradGuIdeal m →
    θ_run (Cert.WgradGuIdeal.defs (F := Ideal)) (onTc (τ := Cert.WgradGuIdeal.τ) (Cert.WgradGuIdeal.main (F := Ideal))) ⟨m, fun _ => 0, g⟩ (fun r => (∀ c : Dev Cert.WgradGuIdeal.nD,
      r.2.mem ((c.tc : Thread Cert.WgradGuIdeal.nD Cert.WgradGuIdeal.τ).loc Cert.WgradGuIdeal.main_arg0) = m ((c.tc : Thread Cert.WgradGuIdeal.nD Cert.WgradGuIdeal.τ).loc Cert.WgradGuIdeal.main_arg0)
      ∧ r.2.mem ((c.tc : Thread Cert.WgradGuIdeal.nD Cert.WgradGuIdeal.τ).loc Cert.WgradGuIdeal.main_arg1) = m ((c.tc : Thread Cert.WgradGuIdeal.nD Cert.WgradGuIdeal.τ).loc Cert.WgradGuIdeal.main_arg1))
      ∧ r.2.sem = fun _ => 0)

def quiescent_WgradGuRefIdeal [hWgradGuRefIdeal : Cert.WgradGuRefIdeal.Facts] : Prop :=
  ∀ (m : (ℓ : Loc Cert.WgradGuRefIdeal.nD Cert.WgradGuRefIdeal.τ Cert.WgradGuRefIdeal.sig) → Buf (Elt Ideal) ℓ) (g : Dev Cert.WgradGuRefIdeal.nD → PrngReg), Pre_WgradGuRefIdeal m →
    θ_run (Cert.WgradGuRefIdeal.defs (F := Ideal)) (onTc (τ := Cert.WgradGuRefIdeal.τ) (Cert.WgradGuRefIdeal.main (F := Ideal))) ⟨m, fun _ => 0, g⟩ (fun r => (∀ c : Dev Cert.WgradGuRefIdeal.nD,
      r.2.mem ((c.tc : Thread Cert.WgradGuRefIdeal.nD Cert.WgradGuRefIdeal.τ).loc Cert.WgradGuRefIdeal.main_arg0) = m ((c.tc : Thread Cert.WgradGuRefIdeal.nD Cert.WgradGuRefIdeal.τ).loc Cert.WgradGuRefIdeal.main_arg0)
      ∧ r.2.mem ((c.tc : Thread Cert.WgradGuRefIdeal.nD Cert.WgradGuRefIdeal.τ).loc Cert.WgradGuRefIdeal.main_arg1) = m ((c.tc : Thread Cert.WgradGuRefIdeal.nD Cert.WgradGuRefIdeal.τ).loc Cert.WgradGuRefIdeal.main_arg1))
      ∧ r.2.sem = fun _ => 0)

def quiescent_WgradDown [hWgradDown : Cert.WgradDown.Facts] : Prop :=
  ∀ (m : (ℓ : Loc Cert.WgradDown.nD Cert.WgradDown.τ Cert.WgradDown.sig) → Buf (Elt Bits) ℓ) (g : Dev Cert.WgradDown.nD → PrngReg), Pre_WgradDown m →
    θ_run (Cert.WgradDown.defs (F := Bits)) (onTc (τ := Cert.WgradDown.τ) (Cert.WgradDown.main (F := Bits))) ⟨m, fun _ => 0, g⟩ (fun r => (∀ c : Dev Cert.WgradDown.nD,
      r.2.mem ((c.tc : Thread Cert.WgradDown.nD Cert.WgradDown.τ).loc Cert.WgradDown.main_arg0) = m ((c.tc : Thread Cert.WgradDown.nD Cert.WgradDown.τ).loc Cert.WgradDown.main_arg0)
      ∧ r.2.mem ((c.tc : Thread Cert.WgradDown.nD Cert.WgradDown.τ).loc Cert.WgradDown.main_arg1) = m ((c.tc : Thread Cert.WgradDown.nD Cert.WgradDown.τ).loc Cert.WgradDown.main_arg1))
      ∧ r.2.sem = fun _ => 0)

def quiescent_WgradDownIdeal [hWgradDownIdeal : Cert.WgradDownIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg), Pre_WgradDownIdeal m →
    θ_run (Cert.WgradDownIdeal.defs (F := Ideal)) (onTc (τ := Cert.WgradDownIdeal.τ) (Cert.WgradDownIdeal.main (F := Ideal))) ⟨m, fun _ => 0, g⟩ (fun r => (∀ c : Dev Cert.WgradDownIdeal.nD,
      r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
      ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ r.2.sem = fun _ => 0)

def quiescent_WgradDownRefIdeal [hWgradDownRefIdeal : Cert.WgradDownRefIdeal.Facts] : Prop :=
  ∀ (m : (ℓ : Loc Cert.WgradDownRefIdeal.nD Cert.WgradDownRefIdeal.τ Cert.WgradDownRefIdeal.sig) → Buf (Elt Ideal) ℓ) (g : Dev Cert.WgradDownRefIdeal.nD → PrngReg), Pre_WgradDownRefIdeal m →
    θ_run (Cert.WgradDownRefIdeal.defs (F := Ideal)) (onTc (τ := Cert.WgradDownRefIdeal.τ) (Cert.WgradDownRefIdeal.main (F := Ideal))) ⟨m, fun _ => 0, g⟩ (fun r => (∀ c : Dev Cert.WgradDownRefIdeal.nD,
      r.2.mem ((c.tc : Thread Cert.WgradDownRefIdeal.nD Cert.WgradDownRefIdeal.τ).loc Cert.WgradDownRefIdeal.main_arg0) = m ((c.tc : Thread Cert.WgradDownRefIdeal.nD Cert.WgradDownRefIdeal.τ).loc Cert.WgradDownRefIdeal.main_arg0)
      ∧ r.2.mem ((c.tc : Thread Cert.WgradDownRefIdeal.nD Cert.WgradDownRefIdeal.τ).loc Cert.WgradDownRefIdeal.main_arg1) = m ((c.tc : Thread Cert.WgradDownRefIdeal.nD Cert.WgradDownRefIdeal.τ).loc Cert.WgradDownRefIdeal.main_arg1))
      ∧ r.2.sem = fun _ => 0)

def quiescent_WgradOut [hWgradOut : Cert.WgradOut.Facts] : Prop :=
  ∀ (m : (ℓ : Loc Cert.WgradOut.nD Cert.WgradOut.τ Cert.WgradOut.sig) → Buf (Elt Bits) ℓ) (g : Dev Cert.WgradOut.nD → PrngReg), Pre_WgradOut m →
    θ_run (Cert.WgradOut.defs (F := Bits)) (onTc (τ := Cert.WgradOut.τ) (Cert.WgradOut.main (F := Bits))) ⟨m, fun _ => 0, g⟩ (fun r => (∀ c : Dev Cert.WgradOut.nD,
      r.2.mem ((c.tc : Thread Cert.WgradOut.nD Cert.WgradOut.τ).loc Cert.WgradOut.main_arg0) = m ((c.tc : Thread Cert.WgradOut.nD Cert.WgradOut.τ).loc Cert.WgradOut.main_arg0)
      ∧ r.2.mem ((c.tc : Thread Cert.WgradOut.nD Cert.WgradOut.τ).loc Cert.WgradOut.main_arg1) = m ((c.tc : Thread Cert.WgradOut.nD Cert.WgradOut.τ).loc Cert.WgradOut.main_arg1))
      ∧ r.2.sem = fun _ => 0)

def quiescent_WgradOutIdeal [hWgradOutIdeal : Cert.WgradOutIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg), Pre_WgradOutIdeal m →
    θ_run (Cert.WgradOutIdeal.defs (F := Ideal)) (onTc (τ := Cert.WgradOutIdeal.τ) (Cert.WgradOutIdeal.main (F := Ideal))) ⟨m, fun _ => 0, g⟩ (fun r => (∀ c : Dev Cert.WgradOutIdeal.nD,
      r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
      ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ r.2.sem = fun _ => 0)

def quiescent_WgradOutRefIdeal [hWgradOutRefIdeal : Cert.WgradOutRefIdeal.Facts] : Prop :=
  ∀ (m : (ℓ : Loc Cert.WgradOutRefIdeal.nD Cert.WgradOutRefIdeal.τ Cert.WgradOutRefIdeal.sig) → Buf (Elt Ideal) ℓ) (g : Dev Cert.WgradOutRefIdeal.nD → PrngReg), Pre_WgradOutRefIdeal m →
    θ_run (Cert.WgradOutRefIdeal.defs (F := Ideal)) (onTc (τ := Cert.WgradOutRefIdeal.τ) (Cert.WgradOutRefIdeal.main (F := Ideal))) ⟨m, fun _ => 0, g⟩ (fun r => (∀ c : Dev Cert.WgradOutRefIdeal.nD,
      r.2.mem ((c.tc : Thread Cert.WgradOutRefIdeal.nD Cert.WgradOutRefIdeal.τ).loc Cert.WgradOutRefIdeal.main_arg0) = m ((c.tc : Thread Cert.WgradOutRefIdeal.nD Cert.WgradOutRefIdeal.τ).loc Cert.WgradOutRefIdeal.main_arg0)
      ∧ r.2.mem ((c.tc : Thread Cert.WgradOutRefIdeal.nD Cert.WgradOutRefIdeal.τ).loc Cert.WgradOutRefIdeal.main_arg1) = m ((c.tc : Thread Cert.WgradOutRefIdeal.nD Cert.WgradOutRefIdeal.τ).loc Cert.WgradOutRefIdeal.main_arg1))
      ∧ r.2.sem = fun _ => 0)

def quiescent_WgradIn [hWgradIn : Cert.WgradIn.Facts] : Prop :=
  ∀ (m : (ℓ : Loc Cert.WgradIn.nD Cert.WgradIn.τ Cert.WgradIn.sig) → Buf (Elt Bits) ℓ) (g : Dev Cert.WgradIn.nD → PrngReg), Pre_WgradIn m →
    θ_run (Cert.WgradIn.defs (F := Bits)) (onTc (τ := Cert.WgradIn.τ) (Cert.WgradIn.main (F := Bits))) ⟨m, fun _ => 0, g⟩ (fun r => (∀ c : Dev Cert.WgradIn.nD,
      r.2.mem ((c.tc : Thread Cert.WgradIn.nD Cert.WgradIn.τ).loc Cert.WgradIn.main_arg0) = m ((c.tc : Thread Cert.WgradIn.nD Cert.WgradIn.τ).loc Cert.WgradIn.main_arg0)
      ∧ r.2.mem ((c.tc : Thread Cert.WgradIn.nD Cert.WgradIn.τ).loc Cert.WgradIn.main_arg1) = m ((c.tc : Thread Cert.WgradIn.nD Cert.WgradIn.τ).loc Cert.WgradIn.main_arg1))
      ∧ r.2.sem = fun _ => 0)

def quiescent_WgradInIdeal [hWgradInIdeal : Cert.WgradInIdeal.Facts] : Prop :=
  ∀ (m : (ℓ : Loc Cert.WgradInIdeal.nD Cert.WgradInIdeal.τ Cert.WgradInIdeal.sig) → Buf (Elt Ideal) ℓ) (g : Dev Cert.WgradInIdeal.nD → PrngReg), Pre_WgradInIdeal m →
    θ_run (Cert.WgradInIdeal.defs (F := Ideal)) (onTc (τ := Cert.WgradInIdeal.τ) (Cert.WgradInIdeal.main (F := Ideal))) ⟨m, fun _ => 0, g⟩ (fun r => (∀ c : Dev Cert.WgradInIdeal.nD,
      r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
      ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1))
      ∧ r.2.sem = fun _ => 0)

def quiescent_WgradInRefIdeal [hWgradInRefIdeal : Cert.WgradInRefIdeal.Facts] : Prop :=
  ∀ (m : (ℓ : Loc Cert.WgradInRefIdeal.nD Cert.WgradInRefIdeal.τ Cert.WgradInRefIdeal.sig) → Buf (Elt Ideal) ℓ) (g : Dev Cert.WgradInRefIdeal.nD → PrngReg), Pre_WgradInRefIdeal m →
    θ_run (Cert.WgradInRefIdeal.defs (F := Ideal)) (onTc (τ := Cert.WgradInRefIdeal.τ) (Cert.WgradInRefIdeal.main (F := Ideal))) ⟨m, fun _ => 0, g⟩ (fun r => (∀ c : Dev Cert.WgradInRefIdeal.nD,
      r.2.mem ((c.tc : Thread Cert.WgradInRefIdeal.nD Cert.WgradInRefIdeal.τ).loc Cert.WgradInRefIdeal.main_arg0) = m ((c.tc : Thread Cert.WgradInRefIdeal.nD Cert.WgradInRefIdeal.τ).loc Cert.WgradInRefIdeal.main_arg0)
      ∧ r.2.mem ((c.tc : Thread Cert.WgradInRefIdeal.nD Cert.WgradInRefIdeal.τ).loc Cert.WgradInRefIdeal.main_arg1) = m ((c.tc : Thread Cert.WgradInRefIdeal.nD Cert.WgradInRefIdeal.τ).loc Cert.WgradInRefIdeal.main_arg1))
      ∧ r.2.sem = fun _ => 0)

def quiescent_InProjBwd0 [hInProjBwd0 : Cert.InProjBwd0.Facts] : Prop :=
  ∀ (m : (ℓ : Loc Cert.InProjBwd0.nD Cert.InProjBwd0.τ Cert.InProjBwd0.sig) → Buf (Elt Bits) ℓ) (g : Dev Cert.InProjBwd0.nD → PrngReg), Pre_InProjBwd0 m →
    θ_run (Cert.InProjBwd0.defs (F := Bits)) (onTc (τ := Cert.InProjBwd0.τ) (Cert.InProjBwd0.main (F := Bits))) ⟨m, fun _ => 0, g⟩ (fun r => (∀ c : Dev Cert.InProjBwd0.nD,
      r.2.mem ((c.tc : Thread Cert.InProjBwd0.nD Cert.InProjBwd0.τ).loc Cert.InProjBwd0.main_arg0) = m ((c.tc : Thread Cert.InProjBwd0.nD Cert.InProjBwd0.τ).loc Cert.InProjBwd0.main_arg0)
      ∧ r.2.mem ((c.tc : Thread Cert.InProjBwd0.nD Cert.InProjBwd0.τ).loc Cert.InProjBwd0.main_arg1) = m ((c.tc : Thread Cert.InProjBwd0.nD Cert.InProjBwd0.τ).loc Cert.InProjBwd0.main_arg1)
      ∧ r.2.mem ((c.tc : Thread Cert.InProjBwd0.nD Cert.InProjBwd0.τ).loc Cert.InProjBwd0.main_arg2) = m ((c.tc : Thread Cert.InProjBwd0.nD Cert.InProjBwd0.τ).loc Cert.InProjBwd0.main_arg2)
      ∧ r.2.mem ((c.tc : Thread Cert.InProjBwd0.nD Cert.InProjBwd0.τ).loc Cert.InProjBwd0.main_arg3) = m ((c.tc : Thread Cert.InProjBwd0.nD Cert.InProjBwd0.τ).loc Cert.InProjBwd0.main_arg3)
      ∧ r.2.mem ((c.tc : Thread Cert.InProjBwd0.nD Cert.InProjBwd0.τ).loc Cert.InProjBwd0.main_arg4) = m ((c.tc : Thread Cert.InProjBwd0.nD Cert.InProjBwd0.τ).loc Cert.InProjBwd0.main_arg4)
      ∧ r.2.mem ((c.tc : Thread Cert.InProjBwd0.nD Cert.InProjBwd0.τ).loc Cert.InProjBwd0.main_arg5) = m ((c.tc : Thread Cert.InProjBwd0.nD Cert.InProjBwd0.τ).loc Cert.InProjBwd0.main_arg5)
      ∧ r.2.mem ((c.tc : Thread Cert.InProjBwd0.nD Cert.InProjBwd0.τ).loc Cert.InProjBwd0.main_arg6) = m ((c.tc : Thread Cert.InProjBwd0.nD Cert.InProjBwd0.τ).loc Cert.InProjBwd0.main_arg6)
      ∧ r.2.mem ((c.tc : Thread Cert.InProjBwd0.nD Cert.InProjBwd0.τ).loc Cert.InProjBwd0.main_arg7) = m ((c.tc : Thread Cert.InProjBwd0.nD Cert.InProjBwd0.τ).loc Cert.InProjBwd0.main_arg7)
      ∧ r.2.mem ((c.tc : Thread Cert.InProjBwd0.nD Cert.InProjBwd0.τ).loc Cert.InProjBwd0.main_arg8) = m ((c.tc : Thread Cert.InProjBwd0.nD Cert.InProjBwd0.τ).loc Cert.InProjBwd0.main_arg8)
      ∧ r.2.mem ((c.tc : Thread Cert.InProjBwd0.nD Cert.InProjBwd0.τ).loc Cert.InProjBwd0.main_arg9) = m ((c.tc : Thread Cert.InProjBwd0.nD Cert.InProjBwd0.τ).loc Cert.InProjBwd0.main_arg9)
      ∧ r.2.mem ((c.tc : Thread Cert.InProjBwd0.nD Cert.InProjBwd0.τ).loc Cert.InProjBwd0.main_arg10) = m ((c.tc : Thread Cert.InProjBwd0.nD Cert.InProjBwd0.τ).loc Cert.InProjBwd0.main_arg10)
      ∧ r.2.mem ((c.tc : Thread Cert.InProjBwd0.nD Cert.InProjBwd0.τ).loc Cert.InProjBwd0.main_arg11) = m ((c.tc : Thread Cert.InProjBwd0.nD Cert.InProjBwd0.τ).loc Cert.InProjBwd0.main_arg11))
      ∧ r.2.sem = fun _ => 0)

def quiescent_InProjBwd0Ideal [hInProjBwd0Ideal : Cert.InProjBwd0Ideal.Facts] : Prop :=
  ∀ (m : (ℓ : Loc Cert.InProjBwd0Ideal.nD Cert.InProjBwd0Ideal.τ Cert.InProjBwd0Ideal.sig) → Buf (Elt Ideal) ℓ) (g : Dev Cert.InProjBwd0Ideal.nD → PrngReg), Pre_InProjBwd0Ideal m →
    θ_run (Cert.InProjBwd0Ideal.defs (F := Ideal)) (onTc (τ := Cert.InProjBwd0Ideal.τ) (Cert.InProjBwd0Ideal.main (F := Ideal))) ⟨m, fun _ => 0, g⟩ (fun r => (∀ c : Dev Cert.InProjBwd0Ideal.nD,
      r.2.mem ((c.tc : Thread Cert.InProjBwd0Ideal.nD Cert.InProjBwd0Ideal.τ).loc Cert.InProjBwd0Ideal.main_arg0) = m ((c.tc : Thread Cert.InProjBwd0Ideal.nD Cert.InProjBwd0Ideal.τ).loc Cert.InProjBwd0Ideal.main_arg0)
      ∧ r.2.mem ((c.tc : Thread Cert.InProjBwd0Ideal.nD Cert.InProjBwd0Ideal.τ).loc Cert.InProjBwd0Ideal.main_arg1) = m ((c.tc : Thread Cert.InProjBwd0Ideal.nD Cert.InProjBwd0Ideal.τ).loc Cert.InProjBwd0Ideal.main_arg1)
      ∧ r.2.mem ((c.tc : Thread Cert.InProjBwd0Ideal.nD Cert.InProjBwd0Ideal.τ).loc Cert.InProjBwd0Ideal.main_arg2) = m ((c.tc : Thread Cert.InProjBwd0Ideal.nD Cert.InProjBwd0Ideal.τ).loc Cert.InProjBwd0Ideal.main_arg2)
      ∧ r.2.mem ((c.tc : Thread Cert.InProjBwd0Ideal.nD Cert.InProjBwd0Ideal.τ).loc Cert.InProjBwd0Ideal.main_arg3) = m ((c.tc : Thread Cert.InProjBwd0Ideal.nD Cert.InProjBwd0Ideal.τ).loc Cert.InProjBwd0Ideal.main_arg3)
      ∧ r.2.mem ((c.tc : Thread Cert.InProjBwd0Ideal.nD Cert.InProjBwd0Ideal.τ).loc Cert.InProjBwd0Ideal.main_arg4) = m ((c.tc : Thread Cert.InProjBwd0Ideal.nD Cert.InProjBwd0Ideal.τ).loc Cert.InProjBwd0Ideal.main_arg4)
      ∧ r.2.mem ((c.tc : Thread Cert.InProjBwd0Ideal.nD Cert.InProjBwd0Ideal.τ).loc Cert.InProjBwd0Ideal.main_arg5) = m ((c.tc : Thread Cert.InProjBwd0Ideal.nD Cert.InProjBwd0Ideal.τ).loc Cert.InProjBwd0Ideal.main_arg5)
      ∧ r.2.mem ((c.tc : Thread Cert.InProjBwd0Ideal.nD Cert.InProjBwd0Ideal.τ).loc Cert.InProjBwd0Ideal.main_arg6) = m ((c.tc : Thread Cert.InProjBwd0Ideal.nD Cert.InProjBwd0Ideal.τ).loc Cert.InProjBwd0Ideal.main_arg6)
      ∧ r.2.mem ((c.tc : Thread Cert.InProjBwd0Ideal.nD Cert.InProjBwd0Ideal.τ).loc Cert.InProjBwd0Ideal.main_arg7) = m ((c.tc : Thread Cert.InProjBwd0Ideal.nD Cert.InProjBwd0Ideal.τ).loc Cert.InProjBwd0Ideal.main_arg7)
      ∧ r.2.mem ((c.tc : Thread Cert.InProjBwd0Ideal.nD Cert.InProjBwd0Ideal.τ).loc Cert.InProjBwd0Ideal.main_arg8) = m ((c.tc : Thread Cert.InProjBwd0Ideal.nD Cert.InProjBwd0Ideal.τ).loc Cert.InProjBwd0Ideal.main_arg8)
      ∧ r.2.mem ((c.tc : Thread Cert.InProjBwd0Ideal.nD Cert.InProjBwd0Ideal.τ).loc Cert.InProjBwd0Ideal.main_arg9) = m ((c.tc : Thread Cert.InProjBwd0Ideal.nD Cert.InProjBwd0Ideal.τ).loc Cert.InProjBwd0Ideal.main_arg9)
      ∧ r.2.mem ((c.tc : Thread Cert.InProjBwd0Ideal.nD Cert.InProjBwd0Ideal.τ).loc Cert.InProjBwd0Ideal.main_arg10) = m ((c.tc : Thread Cert.InProjBwd0Ideal.nD Cert.InProjBwd0Ideal.τ).loc Cert.InProjBwd0Ideal.main_arg10)
      ∧ r.2.mem ((c.tc : Thread Cert.InProjBwd0Ideal.nD Cert.InProjBwd0Ideal.τ).loc Cert.InProjBwd0Ideal.main_arg11) = m ((c.tc : Thread Cert.InProjBwd0Ideal.nD Cert.InProjBwd0Ideal.τ).loc Cert.InProjBwd0Ideal.main_arg11))
      ∧ r.2.sem = fun _ => 0)

def quiescent_InProjBwd0RefIdeal [hInProjBwd0RefIdeal : Cert.InProjBwd0RefIdeal.Facts] : Prop :=
  ∀ (m : (ℓ : Loc Cert.InProjBwd0RefIdeal.nD Cert.InProjBwd0RefIdeal.τ Cert.InProjBwd0RefIdeal.sig) → Buf (Elt Ideal) ℓ) (g : Dev Cert.InProjBwd0RefIdeal.nD → PrngReg), Pre_InProjBwd0RefIdeal m →
    θ_run (Cert.InProjBwd0RefIdeal.defs (F := Ideal)) (onTc (τ := Cert.InProjBwd0RefIdeal.τ) (Cert.InProjBwd0RefIdeal.main (F := Ideal))) ⟨m, fun _ => 0, g⟩ (fun r => (∀ c : Dev Cert.InProjBwd0RefIdeal.nD,
      r.2.mem ((c.tc : Thread Cert.InProjBwd0RefIdeal.nD Cert.InProjBwd0RefIdeal.τ).loc Cert.InProjBwd0RefIdeal.main_arg0) = m ((c.tc : Thread Cert.InProjBwd0RefIdeal.nD Cert.InProjBwd0RefIdeal.τ).loc Cert.InProjBwd0RefIdeal.main_arg0)
      ∧ r.2.mem ((c.tc : Thread Cert.InProjBwd0RefIdeal.nD Cert.InProjBwd0RefIdeal.τ).loc Cert.InProjBwd0RefIdeal.main_arg1) = m ((c.tc : Thread Cert.InProjBwd0RefIdeal.nD Cert.InProjBwd0RefIdeal.τ).loc Cert.InProjBwd0RefIdeal.main_arg1)
      ∧ r.2.mem ((c.tc : Thread Cert.InProjBwd0RefIdeal.nD Cert.InProjBwd0RefIdeal.τ).loc Cert.InProjBwd0RefIdeal.main_arg2) = m ((c.tc : Thread Cert.InProjBwd0RefIdeal.nD Cert.InProjBwd0RefIdeal.τ).loc Cert.InProjBwd0RefIdeal.main_arg2)
      ∧ r.2.mem ((c.tc : Thread Cert.InProjBwd0RefIdeal.nD Cert.InProjBwd0RefIdeal.τ).loc Cert.InProjBwd0RefIdeal.main_arg3) = m ((c.tc : Thread Cert.InProjBwd0RefIdeal.nD Cert.InProjBwd0RefIdeal.τ).loc Cert.InProjBwd0RefIdeal.main_arg3)
      ∧ r.2.mem ((c.tc : Thread Cert.InProjBwd0RefIdeal.nD Cert.InProjBwd0RefIdeal.τ).loc Cert.InProjBwd0RefIdeal.main_arg4) = m ((c.tc : Thread Cert.InProjBwd0RefIdeal.nD Cert.InProjBwd0RefIdeal.τ).loc Cert.InProjBwd0RefIdeal.main_arg4)
      ∧ r.2.mem ((c.tc : Thread Cert.InProjBwd0RefIdeal.nD Cert.InProjBwd0RefIdeal.τ).loc Cert.InProjBwd0RefIdeal.main_arg5) = m ((c.tc : Thread Cert.InProjBwd0RefIdeal.nD Cert.InProjBwd0RefIdeal.τ).loc Cert.InProjBwd0RefIdeal.main_arg5)
      ∧ r.2.mem ((c.tc : Thread Cert.InProjBwd0RefIdeal.nD Cert.InProjBwd0RefIdeal.τ).loc Cert.InProjBwd0RefIdeal.main_arg6) = m ((c.tc : Thread Cert.InProjBwd0RefIdeal.nD Cert.InProjBwd0RefIdeal.τ).loc Cert.InProjBwd0RefIdeal.main_arg6)
      ∧ r.2.mem ((c.tc : Thread Cert.InProjBwd0RefIdeal.nD Cert.InProjBwd0RefIdeal.τ).loc Cert.InProjBwd0RefIdeal.main_arg7) = m ((c.tc : Thread Cert.InProjBwd0RefIdeal.nD Cert.InProjBwd0RefIdeal.τ).loc Cert.InProjBwd0RefIdeal.main_arg7)
      ∧ r.2.mem ((c.tc : Thread Cert.InProjBwd0RefIdeal.nD Cert.InProjBwd0RefIdeal.τ).loc Cert.InProjBwd0RefIdeal.main_arg8) = m ((c.tc : Thread Cert.InProjBwd0RefIdeal.nD Cert.InProjBwd0RefIdeal.τ).loc Cert.InProjBwd0RefIdeal.main_arg8)
      ∧ r.2.mem ((c.tc : Thread Cert.InProjBwd0RefIdeal.nD Cert.InProjBwd0RefIdeal.τ).loc Cert.InProjBwd0RefIdeal.main_arg9) = m ((c.tc : Thread Cert.InProjBwd0RefIdeal.nD Cert.InProjBwd0RefIdeal.τ).loc Cert.InProjBwd0RefIdeal.main_arg9)
      ∧ r.2.mem ((c.tc : Thread Cert.InProjBwd0RefIdeal.nD Cert.InProjBwd0RefIdeal.τ).loc Cert.InProjBwd0RefIdeal.main_arg10) = m ((c.tc : Thread Cert.InProjBwd0RefIdeal.nD Cert.InProjBwd0RefIdeal.τ).loc Cert.InProjBwd0RefIdeal.main_arg10)
      ∧ r.2.mem ((c.tc : Thread Cert.InProjBwd0RefIdeal.nD Cert.InProjBwd0RefIdeal.τ).loc Cert.InProjBwd0RefIdeal.main_arg11) = m ((c.tc : Thread Cert.InProjBwd0RefIdeal.nD Cert.InProjBwd0RefIdeal.τ).loc Cert.InProjBwd0RefIdeal.main_arg11))
      ∧ r.2.sem = fun _ => 0)

def quiescent_MlpBwd0 [hMlpBwd0 : Cert.MlpBwd0.Facts] : Prop :=
  ∀ (m : (ℓ : Loc Cert.MlpBwd0.nD Cert.MlpBwd0.τ Cert.MlpBwd0.sig) → Buf (Elt Bits) ℓ) (g : Dev Cert.MlpBwd0.nD → PrngReg), Pre_MlpBwd0 m →
    θ_run (Cert.MlpBwd0.defs (F := Bits)) (onTc (τ := Cert.MlpBwd0.τ) (Cert.MlpBwd0.main (F := Bits))) ⟨m, fun _ => 0, g⟩ (fun r => (∀ c : Dev Cert.MlpBwd0.nD,
      r.2.mem ((c.tc : Thread Cert.MlpBwd0.nD Cert.MlpBwd0.τ).loc Cert.MlpBwd0.main_arg0) = m ((c.tc : Thread Cert.MlpBwd0.nD Cert.MlpBwd0.τ).loc Cert.MlpBwd0.main_arg0)
      ∧ r.2.mem ((c.tc : Thread Cert.MlpBwd0.nD Cert.MlpBwd0.τ).loc Cert.MlpBwd0.main_arg1) = m ((c.tc : Thread Cert.MlpBwd0.nD Cert.MlpBwd0.τ).loc Cert.MlpBwd0.main_arg1)
      ∧ r.2.mem ((c.tc : Thread Cert.MlpBwd0.nD Cert.MlpBwd0.τ).loc Cert.MlpBwd0.main_arg2) = m ((c.tc : Thread Cert.MlpBwd0.nD Cert.MlpBwd0.τ).loc Cert.MlpBwd0.main_arg2)
      ∧ r.2.mem ((c.tc : Thread Cert.MlpBwd0.nD Cert.MlpBwd0.τ).loc Cert.MlpBwd0.main_arg3) = m ((c.tc : Thread Cert.MlpBwd0.nD Cert.MlpBwd0.τ).loc Cert.MlpBwd0.main_arg3)
      ∧ r.2.mem ((c.tc : Thread Cert.MlpBwd0.nD Cert.MlpBwd0.τ).loc Cert.MlpBwd0.main_arg4) = m ((c.tc : Thread Cert.MlpBwd0.nD Cert.MlpBwd0.τ).loc Cert.MlpBwd0.main_arg4)
      ∧ r.2.mem ((c.tc : Thread Cert.MlpBwd0.nD Cert.MlpBwd0.τ).loc Cert.MlpBwd0.main_arg5) = m ((c.tc : Thread Cert.MlpBwd0.nD Cert.MlpBwd0.τ).loc Cert.MlpBwd0.main_arg5))
      ∧ r.2.sem = fun _ => 0)

def quiescent_MlpBwd0Ideal [hMlpBwd0Ideal : Cert.MlpBwd0Ideal.Facts] : Prop :=
  ∀ (m : (ℓ : Loc Cert.MlpBwd0Ideal.nD Cert.MlpBwd0Ideal.τ Cert.MlpBwd0Ideal.sig) → Buf (Elt Ideal) ℓ) (g : Dev Cert.MlpBwd0Ideal.nD → PrngReg), Pre_MlpBwd0Ideal m →
    θ_run (Cert.MlpBwd0Ideal.defs (F := Ideal)) (onTc (τ := Cert.MlpBwd0Ideal.τ) (Cert.MlpBwd0Ideal.main (F := Ideal))) ⟨m, fun _ => 0, g⟩ (fun r => (∀ c : Dev Cert.MlpBwd0Ideal.nD,
      r.2.mem ((c.tc : Thread Cert.MlpBwd0Ideal.nD Cert.MlpBwd0Ideal.τ).loc Cert.MlpBwd0Ideal.main_arg0) = m ((c.tc : Thread Cert.MlpBwd0Ideal.nD Cert.MlpBwd0Ideal.τ).loc Cert.MlpBwd0Ideal.main_arg0)
      ∧ r.2.mem ((c.tc : Thread Cert.MlpBwd0Ideal.nD Cert.MlpBwd0Ideal.τ).loc Cert.MlpBwd0Ideal.main_arg1) = m ((c.tc : Thread Cert.MlpBwd0Ideal.nD Cert.MlpBwd0Ideal.τ).loc Cert.MlpBwd0Ideal.main_arg1)
      ∧ r.2.mem ((c.tc : Thread Cert.MlpBwd0Ideal.nD Cert.MlpBwd0Ideal.τ).loc Cert.MlpBwd0Ideal.main_arg2) = m ((c.tc : Thread Cert.MlpBwd0Ideal.nD Cert.MlpBwd0Ideal.τ).loc Cert.MlpBwd0Ideal.main_arg2)
      ∧ r.2.mem ((c.tc : Thread Cert.MlpBwd0Ideal.nD Cert.MlpBwd0Ideal.τ).loc Cert.MlpBwd0Ideal.main_arg3) = m ((c.tc : Thread Cert.MlpBwd0Ideal.nD Cert.MlpBwd0Ideal.τ).loc Cert.MlpBwd0Ideal.main_arg3)
      ∧ r.2.mem ((c.tc : Thread Cert.MlpBwd0Ideal.nD Cert.MlpBwd0Ideal.τ).loc Cert.MlpBwd0Ideal.main_arg4) = m ((c.tc : Thread Cert.MlpBwd0Ideal.nD Cert.MlpBwd0Ideal.τ).loc Cert.MlpBwd0Ideal.main_arg4)
      ∧ r.2.mem ((c.tc : Thread Cert.MlpBwd0Ideal.nD Cert.MlpBwd0Ideal.τ).loc Cert.MlpBwd0Ideal.main_arg5) = m ((c.tc : Thread Cert.MlpBwd0Ideal.nD Cert.MlpBwd0Ideal.τ).loc Cert.MlpBwd0Ideal.main_arg5))
      ∧ r.2.sem = fun _ => 0)

def quiescent_MlpBwd0Ideal_pre_finite [hMlpBwd0Ideal : Cert.MlpBwd0Ideal.Facts] [hPre_finite : Cert.Pre_finite.Facts] : Prop :=
  ∀ (m : (ℓ : Loc Cert.MlpBwd0Ideal.nD Cert.MlpBwd0Ideal.τ Cert.MlpBwd0Ideal.sig) → Buf (Elt Ideal) ℓ) (g : Dev Cert.MlpBwd0Ideal.nD → PrngReg), Pre_MlpBwd0Ideal_finite m →
    θ_run (Cert.MlpBwd0Ideal.defs (F := Ideal)) (onTc (τ := Cert.MlpBwd0Ideal.τ) (Cert.MlpBwd0Ideal.main (F := Ideal))) ⟨m, fun _ => 0, g⟩ (fun r => (∀ c : Dev Cert.MlpBwd0Ideal.nD,
      r.2.mem ((c.tc : Thread Cert.MlpBwd0Ideal.nD Cert.MlpBwd0Ideal.τ).loc Cert.MlpBwd0Ideal.main_arg0) = m ((c.tc : Thread Cert.MlpBwd0Ideal.nD Cert.MlpBwd0Ideal.τ).loc Cert.MlpBwd0Ideal.main_arg0)
      ∧ r.2.mem ((c.tc : Thread Cert.MlpBwd0Ideal.nD Cert.MlpBwd0Ideal.τ).loc Cert.MlpBwd0Ideal.main_arg1) = m ((c.tc : Thread Cert.MlpBwd0Ideal.nD Cert.MlpBwd0Ideal.τ).loc Cert.MlpBwd0Ideal.main_arg1)
      ∧ r.2.mem ((c.tc : Thread Cert.MlpBwd0Ideal.nD Cert.MlpBwd0Ideal.τ).loc Cert.MlpBwd0Ideal.main_arg2) = m ((c.tc : Thread Cert.MlpBwd0Ideal.nD Cert.MlpBwd0Ideal.τ).loc Cert.MlpBwd0Ideal.main_arg2)
      ∧ r.2.mem ((c.tc : Thread Cert.MlpBwd0Ideal.nD Cert.MlpBwd0Ideal.τ).loc Cert.MlpBwd0Ideal.main_arg3) = m ((c.tc : Thread Cert.MlpBwd0Ideal.nD Cert.MlpBwd0Ideal.τ).loc Cert.MlpBwd0Ideal.main_arg3)
      ∧ r.2.mem ((c.tc : Thread Cert.MlpBwd0Ideal.nD Cert.MlpBwd0Ideal.τ).loc Cert.MlpBwd0Ideal.main_arg4) = m ((c.tc : Thread Cert.MlpBwd0Ideal.nD Cert.MlpBwd0Ideal.τ).loc Cert.MlpBwd0Ideal.main_arg4)
      ∧ r.2.mem ((c.tc : Thread Cert.MlpBwd0Ideal.nD Cert.MlpBwd0Ideal.τ).loc Cert.MlpBwd0Ideal.main_arg5) = m ((c.tc : Thread Cert.MlpBwd0Ideal.nD Cert.MlpBwd0Ideal.τ).loc Cert.MlpBwd0Ideal.main_arg5))
      ∧ r.2.sem = fun _ => 0)

def quiescent_MlpBwd0RefIdeal [hMlpBwd0RefIdeal : Cert.MlpBwd0RefIdeal.Facts] : Prop :=
  ∀ (m : (ℓ : Loc Cert.MlpBwd0RefIdeal.nD Cert.MlpBwd0RefIdeal.τ Cert.MlpBwd0RefIdeal.sig) → Buf (Elt Ideal) ℓ) (g : Dev Cert.MlpBwd0RefIdeal.nD → PrngReg), Pre_MlpBwd0RefIdeal m →
    θ_run (Cert.MlpBwd0RefIdeal.defs (F := Ideal)) (onTc (τ := Cert.MlpBwd0RefIdeal.τ) (Cert.MlpBwd0RefIdeal.main (F := Ideal))) ⟨m, fun _ => 0, g⟩ (fun r => (∀ c : Dev Cert.MlpBwd0RefIdeal.nD,
      r.2.mem ((c.tc : Thread Cert.MlpBwd0RefIdeal.nD Cert.MlpBwd0RefIdeal.τ).loc Cert.MlpBwd0RefIdeal.main_arg0) = m ((c.tc : Thread Cert.MlpBwd0RefIdeal.nD Cert.MlpBwd0RefIdeal.τ).loc Cert.MlpBwd0RefIdeal.main_arg0)
      ∧ r.2.mem ((c.tc : Thread Cert.MlpBwd0RefIdeal.nD Cert.MlpBwd0RefIdeal.τ).loc Cert.MlpBwd0RefIdeal.main_arg1) = m ((c.tc : Thread Cert.MlpBwd0RefIdeal.nD Cert.MlpBwd0RefIdeal.τ).loc Cert.MlpBwd0RefIdeal.main_arg1)
      ∧ r.2.mem ((c.tc : Thread Cert.MlpBwd0RefIdeal.nD Cert.MlpBwd0RefIdeal.τ).loc Cert.MlpBwd0RefIdeal.main_arg2) = m ((c.tc : Thread Cert.MlpBwd0RefIdeal.nD Cert.MlpBwd0RefIdeal.τ).loc Cert.MlpBwd0RefIdeal.main_arg2)
      ∧ r.2.mem ((c.tc : Thread Cert.MlpBwd0RefIdeal.nD Cert.MlpBwd0RefIdeal.τ).loc Cert.MlpBwd0RefIdeal.main_arg3) = m ((c.tc : Thread Cert.MlpBwd0RefIdeal.nD Cert.MlpBwd0RefIdeal.τ).loc Cert.MlpBwd0RefIdeal.main_arg3)
      ∧ r.2.mem ((c.tc : Thread Cert.MlpBwd0RefIdeal.nD Cert.MlpBwd0RefIdeal.τ).loc Cert.MlpBwd0RefIdeal.main_arg4) = m ((c.tc : Thread Cert.MlpBwd0RefIdeal.nD Cert.MlpBwd0RefIdeal.τ).loc Cert.MlpBwd0RefIdeal.main_arg4)
      ∧ r.2.mem ((c.tc : Thread Cert.MlpBwd0RefIdeal.nD Cert.MlpBwd0RefIdeal.τ).loc Cert.MlpBwd0RefIdeal.main_arg5) = m ((c.tc : Thread Cert.MlpBwd0RefIdeal.nD Cert.MlpBwd0RefIdeal.τ).loc Cert.MlpBwd0RefIdeal.main_arg5))
      ∧ r.2.sem = fun _ => 0)

def quiescent_MlpBwd0RefIdeal_pre_finite [hMlpBwd0RefIdeal : Cert.MlpBwd0RefIdeal.Facts] [hPre_finite : Cert.Pre_finite.Facts] : Prop :=
  ∀ (m : (ℓ : Loc Cert.MlpBwd0RefIdeal.nD Cert.MlpBwd0RefIdeal.τ Cert.MlpBwd0RefIdeal.sig) → Buf (Elt Ideal) ℓ) (g : Dev Cert.MlpBwd0RefIdeal.nD → PrngReg), Pre_MlpBwd0RefIdeal_finite m →
    θ_run (Cert.MlpBwd0RefIdeal.defs (F := Ideal)) (onTc (τ := Cert.MlpBwd0RefIdeal.τ) (Cert.MlpBwd0RefIdeal.main (F := Ideal))) ⟨m, fun _ => 0, g⟩ (fun r => (∀ c : Dev Cert.MlpBwd0RefIdeal.nD,
      r.2.mem ((c.tc : Thread Cert.MlpBwd0RefIdeal.nD Cert.MlpBwd0RefIdeal.τ).loc Cert.MlpBwd0RefIdeal.main_arg0) = m ((c.tc : Thread Cert.MlpBwd0RefIdeal.nD Cert.MlpBwd0RefIdeal.τ).loc Cert.MlpBwd0RefIdeal.main_arg0)
      ∧ r.2.mem ((c.tc : Thread Cert.MlpBwd0RefIdeal.nD Cert.MlpBwd0RefIdeal.τ).loc Cert.MlpBwd0RefIdeal.main_arg1) = m ((c.tc : Thread Cert.MlpBwd0RefIdeal.nD Cert.MlpBwd0RefIdeal.τ).loc Cert.MlpBwd0RefIdeal.main_arg1)
      ∧ r.2.mem ((c.tc : Thread Cert.MlpBwd0RefIdeal.nD Cert.MlpBwd0RefIdeal.τ).loc Cert.MlpBwd0RefIdeal.main_arg2) = m ((c.tc : Thread Cert.MlpBwd0RefIdeal.nD Cert.MlpBwd0RefIdeal.τ).loc Cert.MlpBwd0RefIdeal.main_arg2)
      ∧ r.2.mem ((c.tc : Thread Cert.MlpBwd0RefIdeal.nD Cert.MlpBwd0RefIdeal.τ).loc Cert.MlpBwd0RefIdeal.main_arg3) = m ((c.tc : Thread Cert.MlpBwd0RefIdeal.nD Cert.MlpBwd0RefIdeal.τ).loc Cert.MlpBwd0RefIdeal.main_arg3)
      ∧ r.2.mem ((c.tc : Thread Cert.MlpBwd0RefIdeal.nD Cert.MlpBwd0RefIdeal.τ).loc Cert.MlpBwd0RefIdeal.main_arg4) = m ((c.tc : Thread Cert.MlpBwd0RefIdeal.nD Cert.MlpBwd0RefIdeal.τ).loc Cert.MlpBwd0RefIdeal.main_arg4)
      ∧ r.2.mem ((c.tc : Thread Cert.MlpBwd0RefIdeal.nD Cert.MlpBwd0RefIdeal.τ).loc Cert.MlpBwd0RefIdeal.main_arg5) = m ((c.tc : Thread Cert.MlpBwd0RefIdeal.nD Cert.MlpBwd0RefIdeal.τ).loc Cert.MlpBwd0RefIdeal.main_arg5))
      ∧ r.2.sem = fun _ => 0)

def quiescent_AdamwGu [hAdamwGu : Cert.AdamwGu.Facts] : Prop :=
  ∀ (m : (ℓ : Loc Cert.AdamwGu.nD Cert.AdamwGu.τ Cert.AdamwGu.sig) → Buf (Elt Bits) ℓ) (g : Dev Cert.AdamwGu.nD → PrngReg), Pre_AdamwGu m →
    θ_run (Cert.AdamwGu.defs (F := Bits)) (onTc (τ := Cert.AdamwGu.τ) (Cert.AdamwGu.main (F := Bits))) ⟨m, fun _ => 0, g⟩ (fun r => (∀ c : Dev Cert.AdamwGu.nD,
      r.2.mem ((c.tc : Thread Cert.AdamwGu.nD Cert.AdamwGu.τ).loc Cert.AdamwGu.main_arg0) = m ((c.tc : Thread Cert.AdamwGu.nD Cert.AdamwGu.τ).loc Cert.AdamwGu.main_arg0)
      ∧ r.2.mem ((c.tc : Thread Cert.AdamwGu.nD Cert.AdamwGu.τ).loc Cert.AdamwGu.main_arg1) = m ((c.tc : Thread Cert.AdamwGu.nD Cert.AdamwGu.τ).loc Cert.AdamwGu.main_arg1)
      ∧ r.2.mem ((c.tc : Thread Cert.AdamwGu.nD Cert.AdamwGu.τ).loc Cert.AdamwGu.main_arg2) = m ((c.tc : Thread Cert.AdamwGu.nD Cert.AdamwGu.τ).loc Cert.AdamwGu.main_arg2)
      ∧ r.2.mem ((c.tc : Thread Cert.AdamwGu.nD Cert.AdamwGu.τ).loc Cert.AdamwGu.main_arg3) = m ((c.tc : Thread Cert.AdamwGu.nD Cert.AdamwGu.τ).loc Cert.AdamwGu.main_arg3)
      ∧ r.2.mem ((c.tc : Thread Cert.AdamwGu.nD Cert.AdamwGu.τ).loc Cert.AdamwGu.main_arg4) = m ((c.tc : Thread Cert.AdamwGu.nD Cert.AdamwGu.τ).loc Cert.AdamwGu.main_arg4))
      ∧ r.2.sem = fun _ => 0)

def quiescent_AdamwGuIdeal [hAdamwGuIdeal : Cert.AdamwGuIdeal.Facts] : Prop :=
  ∀ (m : (ℓ : Loc Cert.AdamwGuIdeal.nD Cert.AdamwGuIdeal.τ Cert.AdamwGuIdeal.sig) → Buf (Elt Ideal) ℓ) (g : Dev Cert.AdamwGuIdeal.nD → PrngReg), Pre_AdamwGuIdeal m →
    θ_run (Cert.AdamwGuIdeal.defs (F := Ideal)) (onTc (τ := Cert.AdamwGuIdeal.τ) (Cert.AdamwGuIdeal.main (F := Ideal))) ⟨m, fun _ => 0, g⟩ (fun r => (∀ c : Dev Cert.AdamwGuIdeal.nD,
      r.2.mem ((c.tc : Thread Cert.AdamwGuIdeal.nD Cert.AdamwGuIdeal.τ).loc Cert.AdamwGuIdeal.main_arg0) = m ((c.tc : Thread Cert.AdamwGuIdeal.nD Cert.AdamwGuIdeal.τ).loc Cert.AdamwGuIdeal.main_arg0)
      ∧ r.2.mem ((c.tc : Thread Cert.AdamwGuIdeal.nD Cert.AdamwGuIdeal.τ).loc Cert.AdamwGuIdeal.main_arg1) = m ((c.tc : Thread Cert.AdamwGuIdeal.nD Cert.AdamwGuIdeal.τ).loc Cert.AdamwGuIdeal.main_arg1)
      ∧ r.2.mem ((c.tc : Thread Cert.AdamwGuIdeal.nD Cert.AdamwGuIdeal.τ).loc Cert.AdamwGuIdeal.main_arg2) = m ((c.tc : Thread Cert.AdamwGuIdeal.nD Cert.AdamwGuIdeal.τ).loc Cert.AdamwGuIdeal.main_arg2)
      ∧ r.2.mem ((c.tc : Thread Cert.AdamwGuIdeal.nD Cert.AdamwGuIdeal.τ).loc Cert.AdamwGuIdeal.main_arg3) = m ((c.tc : Thread Cert.AdamwGuIdeal.nD Cert.AdamwGuIdeal.τ).loc Cert.AdamwGuIdeal.main_arg3)
      ∧ r.2.mem ((c.tc : Thread Cert.AdamwGuIdeal.nD Cert.AdamwGuIdeal.τ).loc Cert.AdamwGuIdeal.main_arg4) = m ((c.tc : Thread Cert.AdamwGuIdeal.nD Cert.AdamwGuIdeal.τ).loc Cert.AdamwGuIdeal.main_arg4))
      ∧ r.2.sem = fun _ => 0)

def quiescent_AdamwGuRefIdeal [hAdamwGuRefIdeal : Cert.AdamwGuRefIdeal.Facts] : Prop :=
  ∀ (m : (ℓ : Loc Cert.AdamwGuRefIdeal.nD Cert.AdamwGuRefIdeal.τ Cert.AdamwGuRefIdeal.sig) → Buf (Elt Ideal) ℓ) (g : Dev Cert.AdamwGuRefIdeal.nD → PrngReg), Pre_AdamwGuRefIdeal m →
    θ_run (Cert.AdamwGuRefIdeal.defs (F := Ideal)) (onTc (τ := Cert.AdamwGuRefIdeal.τ) (Cert.AdamwGuRefIdeal.main (F := Ideal))) ⟨m, fun _ => 0, g⟩ (fun r => (∀ c : Dev Cert.AdamwGuRefIdeal.nD,
      r.2.mem ((c.tc : Thread Cert.AdamwGuRefIdeal.nD Cert.AdamwGuRefIdeal.τ).loc Cert.AdamwGuRefIdeal.main_arg0) = m ((c.tc : Thread Cert.AdamwGuRefIdeal.nD Cert.AdamwGuRefIdeal.τ).loc Cert.AdamwGuRefIdeal.main_arg0)
      ∧ r.2.mem ((c.tc : Thread Cert.AdamwGuRefIdeal.nD Cert.AdamwGuRefIdeal.τ).loc Cert.AdamwGuRefIdeal.main_arg1) = m ((c.tc : Thread Cert.AdamwGuRefIdeal.nD Cert.AdamwGuRefIdeal.τ).loc Cert.AdamwGuRefIdeal.main_arg1)
      ∧ r.2.mem ((c.tc : Thread Cert.AdamwGuRefIdeal.nD Cert.AdamwGuRefIdeal.τ).loc Cert.AdamwGuRefIdeal.main_arg2) = m ((c.tc : Thread Cert.AdamwGuRefIdeal.nD Cert.AdamwGuRefIdeal.τ).loc Cert.AdamwGuRefIdeal.main_arg2)
      ∧ r.2.mem ((c.tc : Thread Cert.AdamwGuRefIdeal.nD Cert.AdamwGuRefIdeal.τ).loc Cert.AdamwGuRefIdeal.main_arg3) = m ((c.tc : Thread Cert.AdamwGuRefIdeal.nD Cert.AdamwGuRefIdeal.τ).loc Cert.AdamwGuRefIdeal.main_arg3)
      ∧ r.2.mem ((c.tc : Thread Cert.AdamwGuRefIdeal.nD Cert.AdamwGuRefIdeal.τ).loc Cert.AdamwGuRefIdeal.main_arg4) = m ((c.tc : Thread Cert.AdamwGuRefIdeal.nD Cert.AdamwGuRefIdeal.τ).loc Cert.AdamwGuRefIdeal.main_arg4))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3)
      ∧ r.2.mem ((c.tc : Thread Cert.AdamwOut.nD Cert.AdamwOut.τ).loc Cert.AdamwOut.main_arg4) = m ((c.tc : Thread Cert.AdamwOut.nD Cert.AdamwOut.τ).loc Cert.AdamwOut.main_arg4))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
      ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3)
      ∧ r.2.mem ((c.tc : Thread Cert.AdamwOutRefIdeal.nD Cert.AdamwOutRefIdeal.τ).loc Cert.AdamwOutRefIdeal.main_arg4) = m ((c.tc : Thread Cert.AdamwOutRefIdeal.nD Cert.AdamwOutRefIdeal.τ).loc Cert.AdamwOutRefIdeal.main_arg4))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3)
      ∧ r.2.mem ((c.tc : Thread Cert.AdamwDown.nD Cert.AdamwDown.τ).loc Cert.AdamwDown.main_arg4) = m ((c.tc : Thread Cert.AdamwDown.nD Cert.AdamwDown.τ).loc Cert.AdamwDown.main_arg4))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3)
      ∧ r.2.mem ((c.tc : Thread Cert.AdamwDownIdeal.nD Cert.AdamwDownIdeal.τ).loc Cert.AdamwDownIdeal.main_arg4) = m ((c.tc : Thread Cert.AdamwDownIdeal.nD Cert.AdamwDownIdeal.τ).loc Cert.AdamwDownIdeal.main_arg4))
      ∧ r.2.sem = fun _ => 0)

def quiescent_AdamwDownRefIdeal [hAdamwDownRefIdeal : Cert.AdamwDownRefIdeal.Facts] : Prop :=
  ∀ (m : (ℓ : Loc Cert.AdamwDownRefIdeal.nD Cert.AdamwDownRefIdeal.τ Cert.AdamwDownRefIdeal.sig) → Buf (Elt Ideal) ℓ) (g : Dev Cert.AdamwDownRefIdeal.nD → PrngReg), Pre_AdamwDownRefIdeal m →
    θ_run (Cert.AdamwDownRefIdeal.defs (F := Ideal)) (onTc (τ := Cert.AdamwDownRefIdeal.τ) (Cert.AdamwDownRefIdeal.main (F := Ideal))) ⟨m, fun _ => 0, g⟩ (fun r => (∀ c : Dev Cert.AdamwDownRefIdeal.nD,
      r.2.mem ((c.tc : Thread Cert.AdamwDownRefIdeal.nD Cert.AdamwDownRefIdeal.τ).loc Cert.AdamwDownRefIdeal.main_arg0) = m ((c.tc : Thread Cert.AdamwDownRefIdeal.nD Cert.AdamwDownRefIdeal.τ).loc Cert.AdamwDownRefIdeal.main_arg0)
      ∧ r.2.mem ((c.tc : Thread Cert.AdamwDownRefIdeal.nD Cert.AdamwDownRefIdeal.τ).loc Cert.AdamwDownRefIdeal.main_arg1) = m ((c.tc : Thread Cert.AdamwDownRefIdeal.nD Cert.AdamwDownRefIdeal.τ).loc Cert.AdamwDownRefIdeal.main_arg1)
      ∧ r.2.mem ((c.tc : Thread Cert.AdamwDownRefIdeal.nD Cert.AdamwDownRefIdeal.τ).loc Cert.AdamwDownRefIdeal.main_arg2) = m ((c.tc : Thread Cert.AdamwDownRefIdeal.nD Cert.AdamwDownRefIdeal.τ).loc Cert.AdamwDownRefIdeal.main_arg2)
      ∧ r.2.mem ((c.tc : Thread Cert.AdamwDownRefIdeal.nD Cert.AdamwDownRefIdeal.τ).loc Cert.AdamwDownRefIdeal.main_arg3) = m ((c.tc : Thread Cert.AdamwDownRefIdeal.nD Cert.AdamwDownRefIdeal.τ).loc Cert.AdamwDownRefIdeal.main_arg3)
      ∧ r.2.mem ((c.tc : Thread Cert.AdamwDownRefIdeal.nD Cert.AdamwDownRefIdeal.τ).loc Cert.AdamwDownRefIdeal.main_arg4) = m ((c.tc : Thread Cert.AdamwDownRefIdeal.nD Cert.AdamwDownRefIdeal.τ).loc Cert.AdamwDownRefIdeal.main_arg4))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3)
      ∧ r.2.mem ((c.tc : Thread Cert.AdamwIn.nD Cert.AdamwIn.τ).loc Cert.AdamwIn.main_arg4) = m ((c.tc : Thread Cert.AdamwIn.nD Cert.AdamwIn.τ).loc Cert.AdamwIn.main_arg4))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
      ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3)
      ∧ r.2.mem ((c.tc : Thread Cert.AdamwInRefIdeal.nD Cert.AdamwInRefIdeal.τ).loc Cert.AdamwInRefIdeal.main_arg4) = m ((c.tc : Thread Cert.AdamwInRefIdeal.nD Cert.AdamwInRefIdeal.τ).loc Cert.AdamwInRefIdeal.main_arg4))
      ∧ r.2.sem = fun _ => 0)

def quiescent_AdamwShards [hAdamwShards : Cert.AdamwShards.Facts] : Prop :=
  ∀ (m : (ℓ : Loc Cert.AdamwShards.nD Cert.AdamwShards.τ Cert.AdamwShards.sig) → Buf (Elt Bits) ℓ) (g : Dev Cert.AdamwShards.nD → PrngReg), Pre_AdamwShards m →
    θ_run (Cert.AdamwShards.defs (F := Bits)) (onTc (τ := Cert.AdamwShards.τ) (Cert.AdamwShards.main (F := Bits))) ⟨m, fun _ => 0, g⟩ (fun r => (∀ c : Dev Cert.AdamwShards.nD,
      r.2.mem ((c.tc : Thread Cert.AdamwShards.nD Cert.AdamwShards.τ).loc Cert.AdamwShards.main_arg0) = m ((c.tc : Thread Cert.AdamwShards.nD Cert.AdamwShards.τ).loc Cert.AdamwShards.main_arg0)
      ∧ r.2.mem ((c.tc : Thread Cert.AdamwShards.nD Cert.AdamwShards.τ).loc Cert.AdamwShards.main_arg1) = m ((c.tc : Thread Cert.AdamwShards.nD Cert.AdamwShards.τ).loc Cert.AdamwShards.main_arg1)
      ∧ r.2.mem ((c.tc : Thread Cert.AdamwShards.nD Cert.AdamwShards.τ).loc Cert.AdamwShards.main_arg2) = m ((c.tc : Thread Cert.AdamwShards.nD Cert.AdamwShards.τ).loc Cert.AdamwShards.main_arg2)
      ∧ r.2.mem ((c.tc : Thread Cert.AdamwShards.nD Cert.AdamwShards.τ).loc Cert.AdamwShards.main_arg3) = m ((c.tc : Thread Cert.AdamwShards.nD Cert.AdamwShards.τ).loc Cert.AdamwShards.main_arg3)
      ∧ r.2.mem ((c.tc : Thread Cert.AdamwShards.nD Cert.AdamwShards.τ).loc Cert.AdamwShards.main_arg4) = m ((c.tc : Thread Cert.AdamwShards.nD Cert.AdamwShards.τ).loc Cert.AdamwShards.main_arg4)
      ∧ r.2.mem ((c.tc : Thread Cert.AdamwShards.nD Cert.AdamwShards.τ).loc Cert.AdamwShards.main_arg5) = m ((c.tc : Thread Cert.AdamwShards.nD Cert.AdamwShards.τ).loc Cert.AdamwShards.main_arg5)
      ∧ r.2.mem ((c.tc : Thread Cert.AdamwShards.nD Cert.AdamwShards.τ).loc Cert.AdamwShards.main_arg6) = m ((c.tc : Thread Cert.AdamwShards.nD Cert.AdamwShards.τ).loc Cert.AdamwShards.main_arg6)
      ∧ r.2.mem ((c.tc : Thread Cert.AdamwShards.nD Cert.AdamwShards.τ).loc Cert.AdamwShards.main_arg7) = m ((c.tc : Thread Cert.AdamwShards.nD Cert.AdamwShards.τ).loc Cert.AdamwShards.main_arg7)
      ∧ r.2.mem ((c.tc : Thread Cert.AdamwShards.nD Cert.AdamwShards.τ).loc Cert.AdamwShards.main_arg8) = m ((c.tc : Thread Cert.AdamwShards.nD Cert.AdamwShards.τ).loc Cert.AdamwShards.main_arg8)
      ∧ r.2.mem ((c.tc : Thread Cert.AdamwShards.nD Cert.AdamwShards.τ).loc Cert.AdamwShards.main_arg9) = m ((c.tc : Thread Cert.AdamwShards.nD Cert.AdamwShards.τ).loc Cert.AdamwShards.main_arg9)
      ∧ r.2.mem ((c.tc : Thread Cert.AdamwShards.nD Cert.AdamwShards.τ).loc Cert.AdamwShards.main_arg10) = m ((c.tc : Thread Cert.AdamwShards.nD Cert.AdamwShards.τ).loc Cert.AdamwShards.main_arg10)
      ∧ r.2.mem ((c.tc : Thread Cert.AdamwShards.nD Cert.AdamwShards.τ).loc Cert.AdamwShards.main_arg11) = m ((c.tc : Thread Cert.AdamwShards.nD Cert.AdamwShards.τ).loc Cert.AdamwShards.main_arg11))
      ∧ r.2.sem = fun _ => 0)

def quiescent_AdamwShardsIdeal [hAdamwShardsIdeal : Cert.AdamwShardsIdeal.Facts] : Prop :=
  ∀ (m : (ℓ : Loc Cert.AdamwShardsIdeal.nD Cert.AdamwShardsIdeal.τ Cert.AdamwShardsIdeal.sig) → Buf (Elt Ideal) ℓ) (g : Dev Cert.AdamwShardsIdeal.nD → PrngReg), Pre_AdamwShardsIdeal m →
    θ_run (Cert.AdamwShardsIdeal.defs (F := Ideal)) (onTc (τ := Cert.AdamwShardsIdeal.τ) (Cert.AdamwShardsIdeal.main (F := Ideal))) ⟨m, fun _ => 0, g⟩ (fun r => (∀ c : Dev Cert.AdamwShardsIdeal.nD,
      r.2.mem ((c.tc : Thread Cert.AdamwShardsIdeal.nD Cert.AdamwShardsIdeal.τ).loc Cert.AdamwShardsIdeal.main_arg0) = m ((c.tc : Thread Cert.AdamwShardsIdeal.nD Cert.AdamwShardsIdeal.τ).loc Cert.AdamwShardsIdeal.main_arg0)
      ∧ r.2.mem ((c.tc : Thread Cert.AdamwShardsIdeal.nD Cert.AdamwShardsIdeal.τ).loc Cert.AdamwShardsIdeal.main_arg1) = m ((c.tc : Thread Cert.AdamwShardsIdeal.nD Cert.AdamwShardsIdeal.τ).loc Cert.AdamwShardsIdeal.main_arg1)
      ∧ r.2.mem ((c.tc : Thread Cert.AdamwShardsIdeal.nD Cert.AdamwShardsIdeal.τ).loc Cert.AdamwShardsIdeal.main_arg2) = m ((c.tc : Thread Cert.AdamwShardsIdeal.nD Cert.AdamwShardsIdeal.τ).loc Cert.AdamwShardsIdeal.main_arg2)
      ∧ r.2.mem ((c.tc : Thread Cert.AdamwShardsIdeal.nD Cert.AdamwShardsIdeal.τ).loc Cert.AdamwShardsIdeal.main_arg3) = m ((c.tc : Thread Cert.AdamwShardsIdeal.nD Cert.AdamwShardsIdeal.τ).loc Cert.AdamwShardsIdeal.main_arg3)
      ∧ r.2.mem ((c.tc : Thread Cert.AdamwShardsIdeal.nD Cert.AdamwShardsIdeal.τ).loc Cert.AdamwShardsIdeal.main_arg4) = m ((c.tc : Thread Cert.AdamwShardsIdeal.nD Cert.AdamwShardsIdeal.τ).loc Cert.AdamwShardsIdeal.main_arg4)
      ∧ r.2.mem ((c.tc : Thread Cert.AdamwShardsIdeal.nD Cert.AdamwShardsIdeal.τ).loc Cert.AdamwShardsIdeal.main_arg5) = m ((c.tc : Thread Cert.AdamwShardsIdeal.nD Cert.AdamwShardsIdeal.τ).loc Cert.AdamwShardsIdeal.main_arg5)
      ∧ r.2.mem ((c.tc : Thread Cert.AdamwShardsIdeal.nD Cert.AdamwShardsIdeal.τ).loc Cert.AdamwShardsIdeal.main_arg6) = m ((c.tc : Thread Cert.AdamwShardsIdeal.nD Cert.AdamwShardsIdeal.τ).loc Cert.AdamwShardsIdeal.main_arg6)
      ∧ r.2.mem ((c.tc : Thread Cert.AdamwShardsIdeal.nD Cert.AdamwShardsIdeal.τ).loc Cert.AdamwShardsIdeal.main_arg7) = m ((c.tc : Thread Cert.AdamwShardsIdeal.nD Cert.AdamwShardsIdeal.τ).loc Cert.AdamwShardsIdeal.main_arg7)
      ∧ r.2.mem ((c.tc : Thread Cert.AdamwShardsIdeal.nD Cert.AdamwShardsIdeal.τ).loc Cert.AdamwShardsIdeal.main_arg8) = m ((c.tc : Thread Cert.AdamwShardsIdeal.nD Cert.AdamwShardsIdeal.τ).loc Cert.AdamwShardsIdeal.main_arg8)
      ∧ r.2.mem ((c.tc : Thread Cert.AdamwShardsIdeal.nD Cert.AdamwShardsIdeal.τ).loc Cert.AdamwShardsIdeal.main_arg9) = m ((c.tc : Thread Cert.AdamwShardsIdeal.nD Cert.AdamwShardsIdeal.τ).loc Cert.AdamwShardsIdeal.main_arg9)
      ∧ r.2.mem ((c.tc : Thread Cert.AdamwShardsIdeal.nD Cert.AdamwShardsIdeal.τ).loc Cert.AdamwShardsIdeal.main_arg10) = m ((c.tc : Thread Cert.AdamwShardsIdeal.nD Cert.AdamwShardsIdeal.τ).loc Cert.AdamwShardsIdeal.main_arg10)
      ∧ r.2.mem ((c.tc : Thread Cert.AdamwShardsIdeal.nD Cert.AdamwShardsIdeal.τ).loc Cert.AdamwShardsIdeal.main_arg11) = m ((c.tc : Thread Cert.AdamwShardsIdeal.nD Cert.AdamwShardsIdeal.τ).loc Cert.AdamwShardsIdeal.main_arg11))
      ∧ r.2.sem = fun _ => 0)

def quiescent_AdamwShardsRefIdeal [hAdamwShardsRefIdeal : Cert.AdamwShardsRefIdeal.Facts] : Prop :=
  ∀ (m : (ℓ : Loc Cert.AdamwShardsRefIdeal.nD Cert.AdamwShardsRefIdeal.τ Cert.AdamwShardsRefIdeal.sig) → Buf (Elt Ideal) ℓ) (g : Dev Cert.AdamwShardsRefIdeal.nD → PrngReg), Pre_AdamwShardsRefIdeal m →
    θ_run (Cert.AdamwShardsRefIdeal.defs (F := Ideal)) (onTc (τ := Cert.AdamwShardsRefIdeal.τ) (Cert.AdamwShardsRefIdeal.main (F := Ideal))) ⟨m, fun _ => 0, g⟩ (fun r => (∀ c : Dev Cert.AdamwShardsRefIdeal.nD,
      r.2.mem ((c.tc : Thread Cert.AdamwShardsRefIdeal.nD Cert.AdamwShardsRefIdeal.τ).loc Cert.AdamwShardsRefIdeal.main_arg0) = m ((c.tc : Thread Cert.AdamwShardsRefIdeal.nD Cert.AdamwShardsRefIdeal.τ).loc Cert.AdamwShardsRefIdeal.main_arg0)
      ∧ r.2.mem ((c.tc : Thread Cert.AdamwShardsRefIdeal.nD Cert.AdamwShardsRefIdeal.τ).loc Cert.AdamwShardsRefIdeal.main_arg1) = m ((c.tc : Thread Cert.AdamwShardsRefIdeal.nD Cert.AdamwShardsRefIdeal.τ).loc Cert.AdamwShardsRefIdeal.main_arg1)
      ∧ r.2.mem ((c.tc : Thread Cert.AdamwShardsRefIdeal.nD Cert.AdamwShardsRefIdeal.τ).loc Cert.AdamwShardsRefIdeal.main_arg2) = m ((c.tc : Thread Cert.AdamwShardsRefIdeal.nD Cert.AdamwShardsRefIdeal.τ).loc Cert.AdamwShardsRefIdeal.main_arg2)
      ∧ r.2.mem ((c.tc : Thread Cert.AdamwShardsRefIdeal.nD Cert.AdamwShardsRefIdeal.τ).loc Cert.AdamwShardsRefIdeal.main_arg3) = m ((c.tc : Thread Cert.AdamwShardsRefIdeal.nD Cert.AdamwShardsRefIdeal.τ).loc Cert.AdamwShardsRefIdeal.main_arg3)
      ∧ r.2.mem ((c.tc : Thread Cert.AdamwShardsRefIdeal.nD Cert.AdamwShardsRefIdeal.τ).loc Cert.AdamwShardsRefIdeal.main_arg4) = m ((c.tc : Thread Cert.AdamwShardsRefIdeal.nD Cert.AdamwShardsRefIdeal.τ).loc Cert.AdamwShardsRefIdeal.main_arg4)
      ∧ r.2.mem ((c.tc : Thread Cert.AdamwShardsRefIdeal.nD Cert.AdamwShardsRefIdeal.τ).loc Cert.AdamwShardsRefIdeal.main_arg5) = m ((c.tc : Thread Cert.AdamwShardsRefIdeal.nD Cert.AdamwShardsRefIdeal.τ).loc Cert.AdamwShardsRefIdeal.main_arg5)
      ∧ r.2.mem ((c.tc : Thread Cert.AdamwShardsRefIdeal.nD Cert.AdamwShardsRefIdeal.τ).loc Cert.AdamwShardsRefIdeal.main_arg6) = m ((c.tc : Thread Cert.AdamwShardsRefIdeal.nD Cert.AdamwShardsRefIdeal.τ).loc Cert.AdamwShardsRefIdeal.main_arg6)
      ∧ r.2.mem ((c.tc : Thread Cert.AdamwShardsRefIdeal.nD Cert.AdamwShardsRefIdeal.τ).loc Cert.AdamwShardsRefIdeal.main_arg7) = m ((c.tc : Thread Cert.AdamwShardsRefIdeal.nD Cert.AdamwShardsRefIdeal.τ).loc Cert.AdamwShardsRefIdeal.main_arg7)
      ∧ r.2.mem ((c.tc : Thread Cert.AdamwShardsRefIdeal.nD Cert.AdamwShardsRefIdeal.τ).loc Cert.AdamwShardsRefIdeal.main_arg8) = m ((c.tc : Thread Cert.AdamwShardsRefIdeal.nD Cert.AdamwShardsRefIdeal.τ).loc Cert.AdamwShardsRefIdeal.main_arg8)
      ∧ r.2.mem ((c.tc : Thread Cert.AdamwShardsRefIdeal.nD Cert.AdamwShardsRefIdeal.τ).loc Cert.AdamwShardsRefIdeal.main_arg9) = m ((c.tc : Thread Cert.AdamwShardsRefIdeal.nD Cert.AdamwShardsRefIdeal.τ).loc Cert.AdamwShardsRefIdeal.main_arg9)
      ∧ r.2.mem ((c.tc : Thread Cert.AdamwShardsRefIdeal.nD Cert.AdamwShardsRefIdeal.τ).loc Cert.AdamwShardsRefIdeal.main_arg10) = m ((c.tc : Thread Cert.AdamwShardsRefIdeal.nD Cert.AdamwShardsRefIdeal.τ).loc Cert.AdamwShardsRefIdeal.main_arg10)
      ∧ r.2.mem ((c.tc : Thread Cert.AdamwShardsRefIdeal.nD Cert.AdamwShardsRefIdeal.τ).loc Cert.AdamwShardsRefIdeal.main_arg11) = m ((c.tc : Thread Cert.AdamwShardsRefIdeal.nD Cert.AdamwShardsRefIdeal.τ).loc Cert.AdamwShardsRefIdeal.main_arg11))
      ∧ r.2.sem = fun _ => 0)

def quiescent_QkvBwd [hQkvBwd : Cert.QkvBwd.Facts] : Prop :=
  ∀ (m : (ℓ : Loc Cert.QkvBwd.nD Cert.QkvBwd.τ Cert.QkvBwd.sig) → Buf (Elt Bits) ℓ) (g : Dev Cert.QkvBwd.nD → PrngReg), Pre_QkvBwd m →
    θ_run (Cert.QkvBwd.defs (F := Bits)) (onTc (τ := Cert.QkvBwd.τ) (Cert.QkvBwd.main (F := Bits))) ⟨m, fun _ => 0, g⟩ (fun r => (∀ c : Dev Cert.QkvBwd.nD,
      r.2.mem ((c.tc : Thread Cert.QkvBwd.nD Cert.QkvBwd.τ).loc Cert.QkvBwd.main_arg0) = m ((c.tc : Thread Cert.QkvBwd.nD Cert.QkvBwd.τ).loc Cert.QkvBwd.main_arg0)
      ∧ r.2.mem ((c.tc : Thread Cert.QkvBwd.nD Cert.QkvBwd.τ).loc Cert.QkvBwd.main_arg1) = m ((c.tc : Thread Cert.QkvBwd.nD Cert.QkvBwd.τ).loc Cert.QkvBwd.main_arg1)
      ∧ r.2.mem ((c.tc : Thread Cert.QkvBwd.nD Cert.QkvBwd.τ).loc Cert.QkvBwd.main_arg2) = m ((c.tc : Thread Cert.QkvBwd.nD Cert.QkvBwd.τ).loc Cert.QkvBwd.main_arg2))
      ∧ r.2.sem = fun _ => 0)

def quiescent_QkvBwdIdeal [hQkvBwdIdeal : Cert.QkvBwdIdeal.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg), Pre_QkvBwdIdeal m →
    θ_run (Cert.QkvBwdIdeal.defs (F := Ideal)) (onTc (τ := Cert.QkvBwdIdeal.τ) (Cert.QkvBwdIdeal.main (F := Ideal))) ⟨m, fun _ => 0, g⟩ (fun r => (∀ c : Dev Cert.QkvBwdIdeal.nD,
      r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
      ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
      ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2))
      ∧ r.2.sem = fun _ => 0)

def quiescent_QkvBwdIdeal_pre_qkv_finite [hQkvBwdIdeal : Cert.QkvBwdIdeal.Facts] [hPre_qkv_finite : Cert.Pre_qkv_finite.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg), Pre_QkvBwdIdeal_qkv_finite m →
    θ_run (Cert.QkvBwdIdeal.defs (F := Ideal)) (onTc (τ := Cert.QkvBwdIdeal.τ) (Cert.QkvBwdIdeal.main (F := Ideal))) ⟨m, fun _ => 0, g⟩ (fun r => (∀ c : Dev Cert.QkvBwdIdeal.nD,
      r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
      ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
      ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2))
      ∧ r.2.sem = fun _ => 0)

def quiescent_QkvBwdRefIdeal [hQkvBwdRefIdeal : Cert.QkvBwdRefIdeal.Facts] : Prop :=
  ∀ (m : (ℓ : Loc Cert.QkvBwdRefIdeal.nD Cert.QkvBwdRefIdeal.τ Cert.QkvBwdRefIdeal.sig) → Buf (Elt Ideal) ℓ) (g : Dev Cert.QkvBwdRefIdeal.nD → PrngReg), Pre_QkvBwdRefIdeal m →
    θ_run (Cert.QkvBwdRefIdeal.defs (F := Ideal)) (onTc (τ := Cert.QkvBwdRefIdeal.τ) (Cert.QkvBwdRefIdeal.main (F := Ideal))) ⟨m, fun _ => 0, g⟩ (fun r => (∀ c : Dev Cert.QkvBwdRefIdeal.nD,
      r.2.mem ((c.tc : Thread Cert.QkvBwdRefIdeal.nD Cert.QkvBwdRefIdeal.τ).loc Cert.QkvBwdRefIdeal.main_arg0) = m ((c.tc : Thread Cert.QkvBwdRefIdeal.nD Cert.QkvBwdRefIdeal.τ).loc Cert.QkvBwdRefIdeal.main_arg0)
      ∧ r.2.mem ((c.tc : Thread Cert.QkvBwdRefIdeal.nD Cert.QkvBwdRefIdeal.τ).loc Cert.QkvBwdRefIdeal.main_arg1) = m ((c.tc : Thread Cert.QkvBwdRefIdeal.nD Cert.QkvBwdRefIdeal.τ).loc Cert.QkvBwdRefIdeal.main_arg1)
      ∧ r.2.mem ((c.tc : Thread Cert.QkvBwdRefIdeal.nD Cert.QkvBwdRefIdeal.τ).loc Cert.QkvBwdRefIdeal.main_arg2) = m ((c.tc : Thread Cert.QkvBwdRefIdeal.nD Cert.QkvBwdRefIdeal.τ).loc Cert.QkvBwdRefIdeal.main_arg2))
      ∧ r.2.sem = fun _ => 0)

def quiescent_QkvBwdRefIdeal_pre_qkv_finite [hQkvBwdRefIdeal : Cert.QkvBwdRefIdeal.Facts] [hPre_qkv_finite : Cert.Pre_qkv_finite.Facts] : Prop :=
  ∀ (m : (ℓ : Loc Cert.QkvBwdRefIdeal.nD Cert.QkvBwdRefIdeal.τ Cert.QkvBwdRefIdeal.sig) → Buf (Elt Ideal) ℓ) (g : Dev Cert.QkvBwdRefIdeal.nD → PrngReg), Pre_QkvBwdRefIdeal_qkv_finite m →
    θ_run (Cert.QkvBwdRefIdeal.defs (F := Ideal)) (onTc (τ := Cert.QkvBwdRefIdeal.τ) (Cert.QkvBwdRefIdeal.main (F := Ideal))) ⟨m, fun _ => 0, g⟩ (fun r => (∀ c : Dev Cert.QkvBwdRefIdeal.nD,
      r.2.mem ((c.tc : Thread Cert.QkvBwdRefIdeal.nD Cert.QkvBwdRefIdeal.τ).loc Cert.QkvBwdRefIdeal.main_arg0) = m ((c.tc : Thread Cert.QkvBwdRefIdeal.nD Cert.QkvBwdRefIdeal.τ).loc Cert.QkvBwdRefIdeal.main_arg0)
      ∧ r.2.mem ((c.tc : Thread Cert.QkvBwdRefIdeal.nD Cert.QkvBwdRefIdeal.τ).loc Cert.QkvBwdRefIdeal.main_arg1) = m ((c.tc : Thread Cert.QkvBwdRefIdeal.nD Cert.QkvBwdRefIdeal.τ).loc Cert.QkvBwdRefIdeal.main_arg1)
      ∧ r.2.mem ((c.tc : Thread Cert.QkvBwdRefIdeal.nD Cert.QkvBwdRefIdeal.τ).loc Cert.QkvBwdRefIdeal.main_arg2) = m ((c.tc : Thread Cert.QkvBwdRefIdeal.nD Cert.QkvBwdRefIdeal.τ).loc Cert.QkvBwdRefIdeal.main_arg2))
      ∧ r.2.sem = fun _ => 0)

def quiescent_SconvFwd [hSconvFwd : Cert.SconvFwd.Facts] : Prop :=
  ∀ (m : (ℓ : Loc Cert.SconvFwd.nD Cert.SconvFwd.τ Cert.SconvFwd.sig) → Buf (Elt Bits) ℓ) (g : Dev Cert.SconvFwd.nD → PrngReg), Pre_SconvFwd m →
    θ_run (Cert.SconvFwd.defs (F := Bits)) (onTc (τ := Cert.SconvFwd.τ) (Cert.SconvFwd.main (F := Bits))) ⟨m, fun _ => 0, g⟩ (fun r => (∀ c : Dev Cert.SconvFwd.nD,
      r.2.mem ((c.tc : Thread Cert.SconvFwd.nD Cert.SconvFwd.τ).loc Cert.SconvFwd.main_arg0) = m ((c.tc : Thread Cert.SconvFwd.nD Cert.SconvFwd.τ).loc Cert.SconvFwd.main_arg0)
      ∧ r.2.mem ((c.tc : Thread Cert.SconvFwd.nD Cert.SconvFwd.τ).loc Cert.SconvFwd.main_arg1) = m ((c.tc : Thread Cert.SconvFwd.nD Cert.SconvFwd.τ).loc Cert.SconvFwd.main_arg1))
      ∧ r.2.sem = fun _ => 0)

def quiescent_SconvFwdIdeal [hSconvFwdIdeal : Cert.SconvFwdIdeal.Facts] : Prop :=
  ∀ (m : (ℓ : Loc Cert.SconvFwdIdeal.nD Cert.SconvFwdIdeal.τ Cert.SconvFwdIdeal.sig) → Buf (Elt Ideal) ℓ) (g : Dev Cert.SconvFwdIdeal.nD → PrngReg), Pre_SconvFwdIdeal m →
    θ_run (Cert.SconvFwdIdeal.defs (F := Ideal)) (onTc (τ := Cert.SconvFwdIdeal.τ) (Cert.SconvFwdIdeal.main (F := Ideal))) ⟨m, fun _ => 0, g⟩ (fun r => (∀ c : Dev Cert.SconvFwdIdeal.nD,
      r.2.mem ((c.tc : Thread Cert.SconvFwdIdeal.nD Cert.SconvFwdIdeal.τ).loc Cert.SconvFwdIdeal.main_arg0) = m ((c.tc : Thread Cert.SconvFwdIdeal.nD Cert.SconvFwdIdeal.τ).loc Cert.SconvFwdIdeal.main_arg0)
      ∧ r.2.mem ((c.tc : Thread Cert.SconvFwdIdeal.nD Cert.SconvFwdIdeal.τ).loc Cert.SconvFwdIdeal.main_arg1) = m ((c.tc : Thread Cert.SconvFwdIdeal.nD Cert.SconvFwdIdeal.τ).loc Cert.SconvFwdIdeal.main_arg1))
      ∧ r.2.sem = fun _ => 0)

def quiescent_SconvFwdRefIdeal [hSconvFwdRefIdeal : Cert.SconvFwdRefIdeal.Facts] : Prop :=
  ∀ (m : (ℓ : Loc Cert.SconvFwdRefIdeal.nD Cert.SconvFwdRefIdeal.τ Cert.SconvFwdRefIdeal.sig) → Buf (Elt Ideal) ℓ) (g : Dev Cert.SconvFwdRefIdeal.nD → PrngReg), Pre_SconvFwdRefIdeal m →
    θ_run (Cert.SconvFwdRefIdeal.defs (F := Ideal)) (onTc (τ := Cert.SconvFwdRefIdeal.τ) (Cert.SconvFwdRefIdeal.main (F := Ideal))) ⟨m, fun _ => 0, g⟩ (fun r => (∀ c : Dev Cert.SconvFwdRefIdeal.nD,
      r.2.mem ((c.tc : Thread Cert.SconvFwdRefIdeal.nD Cert.SconvFwdRefIdeal.τ).loc Cert.SconvFwdRefIdeal.main_arg0) = m ((c.tc : Thread Cert.SconvFwdRefIdeal.nD Cert.SconvFwdRefIdeal.τ).loc Cert.SconvFwdRefIdeal.main_arg0)
      ∧ r.2.mem ((c.tc : Thread Cert.SconvFwdRefIdeal.nD Cert.SconvFwdRefIdeal.τ).loc Cert.SconvFwdRefIdeal.main_arg1) = m ((c.tc : Thread Cert.SconvFwdRefIdeal.nD Cert.SconvFwdRefIdeal.τ).loc Cert.SconvFwdRefIdeal.main_arg1))
      ∧ r.2.sem = fun _ => 0)

def quiescent_QkvFwd [hQkvFwd : Cert.QkvFwd.Facts] : Prop :=
  ∀ (m : (ℓ : Loc Cert.QkvFwd.nD Cert.QkvFwd.τ Cert.QkvFwd.sig) → Buf (Elt Bits) ℓ) (g : Dev Cert.QkvFwd.nD → PrngReg), Pre_QkvFwd m →
    θ_run (Cert.QkvFwd.defs (F := Bits)) (onTc (τ := Cert.QkvFwd.τ) (Cert.QkvFwd.main (F := Bits))) ⟨m, fun _ => 0, g⟩ (fun r => (∀ c : Dev Cert.QkvFwd.nD,
      r.2.mem ((c.tc : Thread Cert.QkvFwd.nD Cert.QkvFwd.τ).loc Cert.QkvFwd.main_arg0) = m ((c.tc : Thread Cert.QkvFwd.nD Cert.QkvFwd.τ).loc Cert.QkvFwd.main_arg0)
      ∧ r.2.mem ((c.tc : Thread Cert.QkvFwd.nD Cert.QkvFwd.τ).loc Cert.QkvFwd.main_arg1) = m ((c.tc : Thread Cert.QkvFwd.nD Cert.QkvFwd.τ).loc Cert.QkvFwd.main_arg1))
      ∧ r.2.sem = fun _ => 0)

def quiescent_QkvFwdIdeal [hQkvFwdIdeal : Cert.QkvFwdIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg), Pre_QkvFwdIdeal m →
    θ_run (Cert.QkvFwdIdeal.defs (F := Ideal)) (onTc (τ := Cert.QkvFwdIdeal.τ) (Cert.QkvFwdIdeal.main (F := Ideal))) ⟨m, fun _ => 0, g⟩ (fun r => (∀ c : Dev Cert.QkvFwdIdeal.nD,
      r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
      ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1))
      ∧ r.2.sem = fun _ => 0)

def quiescent_QkvFwdRefIdeal [hQkvFwdRefIdeal : Cert.QkvFwdRefIdeal.Facts] : Prop :=
  ∀ (m : (ℓ : Loc Cert.QkvFwdRefIdeal.nD Cert.QkvFwdRefIdeal.τ Cert.QkvFwdRefIdeal.sig) → Buf (Elt Ideal) ℓ) (g : Dev Cert.QkvFwdRefIdeal.nD → PrngReg), Pre_QkvFwdRefIdeal m →
    θ_run (Cert.QkvFwdRefIdeal.defs (F := Ideal)) (onTc (τ := Cert.QkvFwdRefIdeal.τ) (Cert.QkvFwdRefIdeal.main (F := Ideal))) ⟨m, fun _ => 0, g⟩ (fun r => (∀ c : Dev Cert.QkvFwdRefIdeal.nD,
      r.2.mem ((c.tc : Thread Cert.QkvFwdRefIdeal.nD Cert.QkvFwdRefIdeal.τ).loc Cert.QkvFwdRefIdeal.main_arg0) = m ((c.tc : Thread Cert.QkvFwdRefIdeal.nD Cert.QkvFwdRefIdeal.τ).loc Cert.QkvFwdRefIdeal.main_arg0)
      ∧ r.2.mem ((c.tc : Thread Cert.QkvFwdRefIdeal.nD Cert.QkvFwdRefIdeal.τ).loc Cert.QkvFwdRefIdeal.main_arg1) = m ((c.tc : Thread Cert.QkvFwdRefIdeal.nD Cert.QkvFwdRefIdeal.τ).loc Cert.QkvFwdRefIdeal.main_arg1))
      ∧ r.2.sem = fun _ => 0)

def quiescent_SconvBwd0 [hSconvBwd0 : Cert.SconvBwd0.Facts] : Prop :=
  ∀ (m : (ℓ : Loc Cert.SconvBwd0.nD Cert.SconvBwd0.τ Cert.SconvBwd0.sig) → Buf (Elt Bits) ℓ) (g : Dev Cert.SconvBwd0.nD → PrngReg), Pre_SconvBwd0 m →
    θ_run (Cert.SconvBwd0.defs (F := Bits)) (onTc (τ := Cert.SconvBwd0.τ) (Cert.SconvBwd0.main (F := Bits))) ⟨m, fun _ => 0, g⟩ (fun r => (∀ c : Dev Cert.SconvBwd0.nD,
      r.2.mem ((c.tc : Thread Cert.SconvBwd0.nD Cert.SconvBwd0.τ).loc Cert.SconvBwd0.main_arg0) = m ((c.tc : Thread Cert.SconvBwd0.nD Cert.SconvBwd0.τ).loc Cert.SconvBwd0.main_arg0)
      ∧ r.2.mem ((c.tc : Thread Cert.SconvBwd0.nD Cert.SconvBwd0.τ).loc Cert.SconvBwd0.main_arg1) = m ((c.tc : Thread Cert.SconvBwd0.nD Cert.SconvBwd0.τ).loc Cert.SconvBwd0.main_arg1)
      ∧ r.2.mem ((c.tc : Thread Cert.SconvBwd0.nD Cert.SconvBwd0.τ).loc Cert.SconvBwd0.main_arg2) = m ((c.tc : Thread Cert.SconvBwd0.nD Cert.SconvBwd0.τ).loc Cert.SconvBwd0.main_arg2))
      ∧ r.2.sem = fun _ => 0)

def quiescent_SconvBwd0Ideal [hSconvBwd0Ideal : Cert.SconvBwd0Ideal.Facts] : Prop :=
  ∀ (m : (ℓ : Loc Cert.SconvBwd0Ideal.nD Cert.SconvBwd0Ideal.τ Cert.SconvBwd0Ideal.sig) → Buf (Elt Ideal) ℓ) (g : Dev Cert.SconvBwd0Ideal.nD → PrngReg), Pre_SconvBwd0Ideal m →
    θ_run (Cert.SconvBwd0Ideal.defs (F := Ideal)) (onTc (τ := Cert.SconvBwd0Ideal.τ) (Cert.SconvBwd0Ideal.main (F := Ideal))) ⟨m, fun _ => 0, g⟩ (fun r => (∀ c : Dev Cert.SconvBwd0Ideal.nD,
      r.2.mem ((c.tc : Thread Cert.SconvBwd0Ideal.nD Cert.SconvBwd0Ideal.τ).loc Cert.SconvBwd0Ideal.main_arg0) = m ((c.tc : Thread Cert.SconvBwd0Ideal.nD Cert.SconvBwd0Ideal.τ).loc Cert.SconvBwd0Ideal.main_arg0)
      ∧ r.2.mem ((c.tc : Thread Cert.SconvBwd0Ideal.nD Cert.SconvBwd0Ideal.τ).loc Cert.SconvBwd0Ideal.main_arg1) = m ((c.tc : Thread Cert.SconvBwd0Ideal.nD Cert.SconvBwd0Ideal.τ).loc Cert.SconvBwd0Ideal.main_arg1)
      ∧ r.2.mem ((c.tc : Thread Cert.SconvBwd0Ideal.nD Cert.SconvBwd0Ideal.τ).loc Cert.SconvBwd0Ideal.main_arg2) = m ((c.tc : Thread Cert.SconvBwd0Ideal.nD Cert.SconvBwd0Ideal.τ).loc Cert.SconvBwd0Ideal.main_arg2))
      ∧ r.2.sem = fun _ => 0)

def quiescent_SconvBwd0RefIdeal [hSconvBwd0RefIdeal : Cert.SconvBwd0RefIdeal.Facts] : Prop :=
  ∀ (m : (ℓ : Loc Cert.SconvBwd0RefIdeal.nD Cert.SconvBwd0RefIdeal.τ Cert.SconvBwd0RefIdeal.sig) → Buf (Elt Ideal) ℓ) (g : Dev Cert.SconvBwd0RefIdeal.nD → PrngReg), Pre_SconvBwd0RefIdeal m →
    θ_run (Cert.SconvBwd0RefIdeal.defs (F := Ideal)) (onTc (τ := Cert.SconvBwd0RefIdeal.τ) (Cert.SconvBwd0RefIdeal.main (F := Ideal))) ⟨m, fun _ => 0, g⟩ (fun r => (∀ c : Dev Cert.SconvBwd0RefIdeal.nD,
      r.2.mem ((c.tc : Thread Cert.SconvBwd0RefIdeal.nD Cert.SconvBwd0RefIdeal.τ).loc Cert.SconvBwd0RefIdeal.main_arg0) = m ((c.tc : Thread Cert.SconvBwd0RefIdeal.nD Cert.SconvBwd0RefIdeal.τ).loc Cert.SconvBwd0RefIdeal.main_arg0)
      ∧ r.2.mem ((c.tc : Thread Cert.SconvBwd0RefIdeal.nD Cert.SconvBwd0RefIdeal.τ).loc Cert.SconvBwd0RefIdeal.main_arg1) = m ((c.tc : Thread Cert.SconvBwd0RefIdeal.nD Cert.SconvBwd0RefIdeal.τ).loc Cert.SconvBwd0RefIdeal.main_arg1)
      ∧ r.2.mem ((c.tc : Thread Cert.SconvBwd0RefIdeal.nD Cert.SconvBwd0RefIdeal.τ).loc Cert.SconvBwd0RefIdeal.main_arg2) = m ((c.tc : Thread Cert.SconvBwd0RefIdeal.nD Cert.SconvBwd0RefIdeal.τ).loc Cert.SconvBwd0RefIdeal.main_arg2))
      ∧ r.2.sem = fun _ => 0)

def quiescent_QkvBwd0 [hQkvBwd0 : Cert.QkvBwd0.Facts] : Prop :=
  ∀ (m : (ℓ : Loc Cert.QkvBwd0.nD Cert.QkvBwd0.τ Cert.QkvBwd0.sig) → Buf (Elt Bits) ℓ) (g : Dev Cert.QkvBwd0.nD → PrngReg), Pre_QkvBwd0 m →
    θ_run (Cert.QkvBwd0.defs (F := Bits)) (onTc (τ := Cert.QkvBwd0.τ) (Cert.QkvBwd0.main (F := Bits))) ⟨m, fun _ => 0, g⟩ (fun r => (∀ c : Dev Cert.QkvBwd0.nD,
      r.2.mem ((c.tc : Thread Cert.QkvBwd0.nD Cert.QkvBwd0.τ).loc Cert.QkvBwd0.main_arg0) = m ((c.tc : Thread Cert.QkvBwd0.nD Cert.QkvBwd0.τ).loc Cert.QkvBwd0.main_arg0)
      ∧ r.2.mem ((c.tc : Thread Cert.QkvBwd0.nD Cert.QkvBwd0.τ).loc Cert.QkvBwd0.main_arg1) = m ((c.tc : Thread Cert.QkvBwd0.nD Cert.QkvBwd0.τ).loc Cert.QkvBwd0.main_arg1)
      ∧ r.2.mem ((c.tc : Thread Cert.QkvBwd0.nD Cert.QkvBwd0.τ).loc Cert.QkvBwd0.main_arg2) = m ((c.tc : Thread Cert.QkvBwd0.nD Cert.QkvBwd0.τ).loc Cert.QkvBwd0.main_arg2))
      ∧ r.2.sem = fun _ => 0)

def quiescent_QkvBwd0Ideal [hQkvBwd0Ideal : Cert.QkvBwd0Ideal.Facts] : Prop :=
  ∀ (m : (ℓ : Loc Cert.QkvBwd0Ideal.nD Cert.QkvBwd0Ideal.τ Cert.QkvBwd0Ideal.sig) → Buf (Elt Ideal) ℓ) (g : Dev Cert.QkvBwd0Ideal.nD → PrngReg), Pre_QkvBwd0Ideal m →
    θ_run (Cert.QkvBwd0Ideal.defs (F := Ideal)) (onTc (τ := Cert.QkvBwd0Ideal.τ) (Cert.QkvBwd0Ideal.main (F := Ideal))) ⟨m, fun _ => 0, g⟩ (fun r => (∀ c : Dev Cert.QkvBwd0Ideal.nD,
      r.2.mem ((c.tc : Thread Cert.QkvBwd0Ideal.nD Cert.QkvBwd0Ideal.τ).loc Cert.QkvBwd0Ideal.main_arg0) = m ((c.tc : Thread Cert.QkvBwd0Ideal.nD Cert.QkvBwd0Ideal.τ).loc Cert.QkvBwd0Ideal.main_arg0)
      ∧ r.2.mem ((c.tc : Thread Cert.QkvBwd0Ideal.nD Cert.QkvBwd0Ideal.τ).loc Cert.QkvBwd0Ideal.main_arg1) = m ((c.tc : Thread Cert.QkvBwd0Ideal.nD Cert.QkvBwd0Ideal.τ).loc Cert.QkvBwd0Ideal.main_arg1)
      ∧ r.2.mem ((c.tc : Thread Cert.QkvBwd0Ideal.nD Cert.QkvBwd0Ideal.τ).loc Cert.QkvBwd0Ideal.main_arg2) = m ((c.tc : Thread Cert.QkvBwd0Ideal.nD Cert.QkvBwd0Ideal.τ).loc Cert.QkvBwd0Ideal.main_arg2))
      ∧ r.2.sem = fun _ => 0)

def quiescent_QkvBwd0Ideal_pre_qkv_finite [hQkvBwd0Ideal : Cert.QkvBwd0Ideal.Facts] [hPre_qkv_finite : Cert.Pre_qkv_finite.Facts] : Prop :=
  ∀ (m : (ℓ : Loc Cert.QkvBwd0Ideal.nD Cert.QkvBwd0Ideal.τ Cert.QkvBwd0Ideal.sig) → Buf (Elt Ideal) ℓ) (g : Dev Cert.QkvBwd0Ideal.nD → PrngReg), Pre_QkvBwd0Ideal_qkv_finite m →
    θ_run (Cert.QkvBwd0Ideal.defs (F := Ideal)) (onTc (τ := Cert.QkvBwd0Ideal.τ) (Cert.QkvBwd0Ideal.main (F := Ideal))) ⟨m, fun _ => 0, g⟩ (fun r => (∀ c : Dev Cert.QkvBwd0Ideal.nD,
      r.2.mem ((c.tc : Thread Cert.QkvBwd0Ideal.nD Cert.QkvBwd0Ideal.τ).loc Cert.QkvBwd0Ideal.main_arg0) = m ((c.tc : Thread Cert.QkvBwd0Ideal.nD Cert.QkvBwd0Ideal.τ).loc Cert.QkvBwd0Ideal.main_arg0)
      ∧ r.2.mem ((c.tc : Thread Cert.QkvBwd0Ideal.nD Cert.QkvBwd0Ideal.τ).loc Cert.QkvBwd0Ideal.main_arg1) = m ((c.tc : Thread Cert.QkvBwd0Ideal.nD Cert.QkvBwd0Ideal.τ).loc Cert.QkvBwd0Ideal.main_arg1)
      ∧ r.2.mem ((c.tc : Thread Cert.QkvBwd0Ideal.nD Cert.QkvBwd0Ideal.τ).loc Cert.QkvBwd0Ideal.main_arg2) = m ((c.tc : Thread Cert.QkvBwd0Ideal.nD Cert.QkvBwd0Ideal.τ).loc Cert.QkvBwd0Ideal.main_arg2))
      ∧ r.2.sem = fun _ => 0)

def quiescent_QkvBwd0RefIdeal [hQkvBwd0RefIdeal : Cert.QkvBwd0RefIdeal.Facts] : Prop :=
  ∀ (m : (ℓ : Loc Cert.QkvBwd0RefIdeal.nD Cert.QkvBwd0RefIdeal.τ Cert.QkvBwd0RefIdeal.sig) → Buf (Elt Ideal) ℓ) (g : Dev Cert.QkvBwd0RefIdeal.nD → PrngReg), Pre_QkvBwd0RefIdeal m →
    θ_run (Cert.QkvBwd0RefIdeal.defs (F := Ideal)) (onTc (τ := Cert.QkvBwd0RefIdeal.τ) (Cert.QkvBwd0RefIdeal.main (F := Ideal))) ⟨m, fun _ => 0, g⟩ (fun r => (∀ c : Dev Cert.QkvBwd0RefIdeal.nD,
      r.2.mem ((c.tc : Thread Cert.QkvBwd0RefIdeal.nD Cert.QkvBwd0RefIdeal.τ).loc Cert.QkvBwd0RefIdeal.main_arg0) = m ((c.tc : Thread Cert.QkvBwd0RefIdeal.nD Cert.QkvBwd0RefIdeal.τ).loc Cert.QkvBwd0RefIdeal.main_arg0)
      ∧ r.2.mem ((c.tc : Thread Cert.QkvBwd0RefIdeal.nD Cert.QkvBwd0RefIdeal.τ).loc Cert.QkvBwd0RefIdeal.main_arg1) = m ((c.tc : Thread Cert.QkvBwd0RefIdeal.nD Cert.QkvBwd0RefIdeal.τ).loc Cert.QkvBwd0RefIdeal.main_arg1)
      ∧ r.2.mem ((c.tc : Thread Cert.QkvBwd0RefIdeal.nD Cert.QkvBwd0RefIdeal.τ).loc Cert.QkvBwd0RefIdeal.main_arg2) = m ((c.tc : Thread Cert.QkvBwd0RefIdeal.nD Cert.QkvBwd0RefIdeal.τ).loc Cert.QkvBwd0RefIdeal.main_arg2))
      ∧ r.2.sem = fun _ => 0)

def quiescent_QkvBwd0RefIdeal_pre_qkv_finite [hQkvBwd0RefIdeal : Cert.QkvBwd0RefIdeal.Facts] [hPre_qkv_finite : Cert.Pre_qkv_finite.Facts] : Prop :=
  ∀ (m : (ℓ : Loc Cert.QkvBwd0RefIdeal.nD Cert.QkvBwd0RefIdeal.τ Cert.QkvBwd0RefIdeal.sig) → Buf (Elt Ideal) ℓ) (g : Dev Cert.QkvBwd0RefIdeal.nD → PrngReg), Pre_QkvBwd0RefIdeal_qkv_finite m →
    θ_run (Cert.QkvBwd0RefIdeal.defs (F := Ideal)) (onTc (τ := Cert.QkvBwd0RefIdeal.τ) (Cert.QkvBwd0RefIdeal.main (F := Ideal))) ⟨m, fun _ => 0, g⟩ (fun r => (∀ c : Dev Cert.QkvBwd0RefIdeal.nD,
      r.2.mem ((c.tc : Thread Cert.QkvBwd0RefIdeal.nD Cert.QkvBwd0RefIdeal.τ).loc Cert.QkvBwd0RefIdeal.main_arg0) = m ((c.tc : Thread Cert.QkvBwd0RefIdeal.nD Cert.QkvBwd0RefIdeal.τ).loc Cert.QkvBwd0RefIdeal.main_arg0)
      ∧ r.2.mem ((c.tc : Thread Cert.QkvBwd0RefIdeal.nD Cert.QkvBwd0RefIdeal.τ).loc Cert.QkvBwd0RefIdeal.main_arg1) = m ((c.tc : Thread Cert.QkvBwd0RefIdeal.nD Cert.QkvBwd0RefIdeal.τ).loc Cert.QkvBwd0RefIdeal.main_arg1)
      ∧ r.2.mem ((c.tc : Thread Cert.QkvBwd0RefIdeal.nD Cert.QkvBwd0RefIdeal.τ).loc Cert.QkvBwd0RefIdeal.main_arg2) = m ((c.tc : Thread Cert.QkvBwd0RefIdeal.nD Cert.QkvBwd0RefIdeal.τ).loc Cert.QkvBwd0RefIdeal.main_arg2))
      ∧ r.2.sem = fun _ => 0)

def quiescent_SconvFwd0 [hSconvFwd0 : Cert.SconvFwd0.Facts] : Prop :=
  ∀ (m : (ℓ : Loc Cert.SconvFwd0.nD Cert.SconvFwd0.τ Cert.SconvFwd0.sig) → Buf (Elt Bits) ℓ) (g : Dev Cert.SconvFwd0.nD → PrngReg), Pre_SconvFwd0 m →
    θ_run (Cert.SconvFwd0.defs (F := Bits)) (onTc (τ := Cert.SconvFwd0.τ) (Cert.SconvFwd0.main (F := Bits))) ⟨m, fun _ => 0, g⟩ (fun r => (∀ c : Dev Cert.SconvFwd0.nD,
      r.2.mem ((c.tc : Thread Cert.SconvFwd0.nD Cert.SconvFwd0.τ).loc Cert.SconvFwd0.main_arg0) = m ((c.tc : Thread Cert.SconvFwd0.nD Cert.SconvFwd0.τ).loc Cert.SconvFwd0.main_arg0)
      ∧ r.2.mem ((c.tc : Thread Cert.SconvFwd0.nD Cert.SconvFwd0.τ).loc Cert.SconvFwd0.main_arg1) = m ((c.tc : Thread Cert.SconvFwd0.nD Cert.SconvFwd0.τ).loc Cert.SconvFwd0.main_arg1))
      ∧ r.2.sem = fun _ => 0)

def quiescent_SconvFwd0Ideal [hSconvFwd0Ideal : Cert.SconvFwd0Ideal.Facts] : Prop :=
  ∀ (m : (ℓ : Loc Cert.SconvFwd0Ideal.nD Cert.SconvFwd0Ideal.τ Cert.SconvFwd0Ideal.sig) → Buf (Elt Ideal) ℓ) (g : Dev Cert.SconvFwd0Ideal.nD → PrngReg), Pre_SconvFwd0Ideal m →
    θ_run (Cert.SconvFwd0Ideal.defs (F := Ideal)) (onTc (τ := Cert.SconvFwd0Ideal.τ) (Cert.SconvFwd0Ideal.main (F := Ideal))) ⟨m, fun _ => 0, g⟩ (fun r => (∀ c : Dev Cert.SconvFwd0Ideal.nD,
      r.2.mem ((c.tc : Thread Cert.SconvFwd0Ideal.nD Cert.SconvFwd0Ideal.τ).loc Cert.SconvFwd0Ideal.main_arg0) = m ((c.tc : Thread Cert.SconvFwd0Ideal.nD Cert.SconvFwd0Ideal.τ).loc Cert.SconvFwd0Ideal.main_arg0)
      ∧ r.2.mem ((c.tc : Thread Cert.SconvFwd0Ideal.nD Cert.SconvFwd0Ideal.τ).loc Cert.SconvFwd0Ideal.main_arg1) = m ((c.tc : Thread Cert.SconvFwd0Ideal.nD Cert.SconvFwd0Ideal.τ).loc Cert.SconvFwd0Ideal.main_arg1))
      ∧ r.2.sem = fun _ => 0)

def quiescent_SconvFwd0RefIdeal [hSconvFwd0RefIdeal : Cert.SconvFwd0RefIdeal.Facts] : Prop :=
  ∀ (m : (ℓ : Loc Cert.SconvFwd0RefIdeal.nD Cert.SconvFwd0RefIdeal.τ Cert.SconvFwd0RefIdeal.sig) → Buf (Elt Ideal) ℓ) (g : Dev Cert.SconvFwd0RefIdeal.nD → PrngReg), Pre_SconvFwd0RefIdeal m →
    θ_run (Cert.SconvFwd0RefIdeal.defs (F := Ideal)) (onTc (τ := Cert.SconvFwd0RefIdeal.τ) (Cert.SconvFwd0RefIdeal.main (F := Ideal))) ⟨m, fun _ => 0, g⟩ (fun r => (∀ c : Dev Cert.SconvFwd0RefIdeal.nD,
      r.2.mem ((c.tc : Thread Cert.SconvFwd0RefIdeal.nD Cert.SconvFwd0RefIdeal.τ).loc Cert.SconvFwd0RefIdeal.main_arg0) = m ((c.tc : Thread Cert.SconvFwd0RefIdeal.nD Cert.SconvFwd0RefIdeal.τ).loc Cert.SconvFwd0RefIdeal.main_arg0)
      ∧ r.2.mem ((c.tc : Thread Cert.SconvFwd0RefIdeal.nD Cert.SconvFwd0RefIdeal.τ).loc Cert.SconvFwd0RefIdeal.main_arg1) = m ((c.tc : Thread Cert.SconvFwd0RefIdeal.nD Cert.SconvFwd0RefIdeal.τ).loc Cert.SconvFwd0RefIdeal.main_arg1))
      ∧ r.2.sem = fun _ => 0)

def quiescent_QkvFwd0 [hQkvFwd0 : Cert.QkvFwd0.Facts] : Prop :=
  ∀ (m : (ℓ : Loc Cert.QkvFwd0.nD Cert.QkvFwd0.τ Cert.QkvFwd0.sig) → Buf (Elt Bits) ℓ) (g : Dev Cert.QkvFwd0.nD → PrngReg), Pre_QkvFwd0 m →
    θ_run (Cert.QkvFwd0.defs (F := Bits)) (onTc (τ := Cert.QkvFwd0.τ) (Cert.QkvFwd0.main (F := Bits))) ⟨m, fun _ => 0, g⟩ (fun r => (∀ c : Dev Cert.QkvFwd0.nD,
      r.2.mem ((c.tc : Thread Cert.QkvFwd0.nD Cert.QkvFwd0.τ).loc Cert.QkvFwd0.main_arg0) = m ((c.tc : Thread Cert.QkvFwd0.nD Cert.QkvFwd0.τ).loc Cert.QkvFwd0.main_arg0)
      ∧ r.2.mem ((c.tc : Thread Cert.QkvFwd0.nD Cert.QkvFwd0.τ).loc Cert.QkvFwd0.main_arg1) = m ((c.tc : Thread Cert.QkvFwd0.nD Cert.QkvFwd0.τ).loc Cert.QkvFwd0.main_arg1))
      ∧ r.2.sem = fun _ => 0)

def quiescent_QkvFwd0Ideal [hQkvFwd0Ideal : Cert.QkvFwd0Ideal.Facts] : Prop :=
  ∀ (m : (ℓ : Loc Cert.QkvFwd0Ideal.nD Cert.QkvFwd0Ideal.τ Cert.QkvFwd0Ideal.sig) → Buf (Elt Ideal) ℓ) (g : Dev Cert.QkvFwd0Ideal.nD → PrngReg), Pre_QkvFwd0Ideal m →
    θ_run (Cert.QkvFwd0Ideal.defs (F := Ideal)) (onTc (τ := Cert.QkvFwd0Ideal.τ) (Cert.QkvFwd0Ideal.main (F := Ideal))) ⟨m, fun _ => 0, g⟩ (fun r => (∀ c : Dev Cert.QkvFwd0Ideal.nD,
      r.2.mem ((c.tc : Thread Cert.QkvFwd0Ideal.nD Cert.QkvFwd0Ideal.τ).loc Cert.QkvFwd0Ideal.main_arg0) = m ((c.tc : Thread Cert.QkvFwd0Ideal.nD Cert.QkvFwd0Ideal.τ).loc Cert.QkvFwd0Ideal.main_arg0)
      ∧ r.2.mem ((c.tc : Thread Cert.QkvFwd0Ideal.nD Cert.QkvFwd0Ideal.τ).loc Cert.QkvFwd0Ideal.main_arg1) = m ((c.tc : Thread Cert.QkvFwd0Ideal.nD Cert.QkvFwd0Ideal.τ).loc Cert.QkvFwd0Ideal.main_arg1))
      ∧ r.2.sem = fun _ => 0)

def quiescent_QkvFwd0RefIdeal [hQkvFwd0RefIdeal : Cert.QkvFwd0RefIdeal.Facts] : Prop :=
  ∀ (m : (ℓ : Loc Cert.QkvFwd0RefIdeal.nD Cert.QkvFwd0RefIdeal.τ Cert.QkvFwd0RefIdeal.sig) → Buf (Elt Ideal) ℓ) (g : Dev Cert.QkvFwd0RefIdeal.nD → PrngReg), Pre_QkvFwd0RefIdeal m →
    θ_run (Cert.QkvFwd0RefIdeal.defs (F := Ideal)) (onTc (τ := Cert.QkvFwd0RefIdeal.τ) (Cert.QkvFwd0RefIdeal.main (F := Ideal))) ⟨m, fun _ => 0, g⟩ (fun r => (∀ c : Dev Cert.QkvFwd0RefIdeal.nD,
      r.2.mem ((c.tc : Thread Cert.QkvFwd0RefIdeal.nD Cert.QkvFwd0RefIdeal.τ).loc Cert.QkvFwd0RefIdeal.main_arg0) = m ((c.tc : Thread Cert.QkvFwd0RefIdeal.nD Cert.QkvFwd0RefIdeal.τ).loc Cert.QkvFwd0RefIdeal.main_arg0)
      ∧ r.2.mem ((c.tc : Thread Cert.QkvFwd0RefIdeal.nD Cert.QkvFwd0RefIdeal.τ).loc Cert.QkvFwd0RefIdeal.main_arg1) = m ((c.tc : Thread Cert.QkvFwd0RefIdeal.nD Cert.QkvFwd0RefIdeal.τ).loc Cert.QkvFwd0RefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_MlpBwd_MlpBwdIdeal : Prop :=
  True

def algebraic_MlpBwdIdeal_MlpBwdRefIdeal_pre_finite [hMlpBwdIdeal : Cert.MlpBwdIdeal.Facts] [hMlpBwdRefIdeal : Cert.MlpBwdRefIdeal.Facts] [hPre_finite : Cert.Pre_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal_finite m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)
      ∧ m' ((c.tc : Thread Cert.MlpBwdRefIdeal.nD Cert.MlpBwdRefIdeal.τ).loc Cert.MlpBwdRefIdeal.main_arg4) = m ((c.tc : Thread Cert.MlpBwdIdeal.nD Cert.MlpBwdIdeal.τ).loc Cert.MlpBwdIdeal.main_arg4)
      ∧ m' ((c.tc : Thread Cert.MlpBwdRefIdeal.nD Cert.MlpBwdRefIdeal.τ).loc Cert.MlpBwdRefIdeal.main_arg5) = m ((c.tc : Thread Cert.MlpBwdIdeal.nD Cert.MlpBwdIdeal.τ).loc Cert.MlpBwdIdeal.main_arg5)) →
    ∃ (v0 : (c : Dev Cert.MlpBwdIdeal.nD) → Buf (Elt Ideal) ((c.tc : Thread Cert.MlpBwdIdeal.nD Cert.MlpBwdIdeal.τ).loc Cert.MlpBwdIdeal.main_v22_0)) (v1 : (c : Dev Cert.MlpBwdIdeal.nD) → Buf (Elt Ideal) ((c.tc : Thread Cert.MlpBwdIdeal.nD Cert.MlpBwdIdeal.τ).loc Cert.MlpBwdIdeal.main_v22_1)) (v2 : (c : Dev Cert.MlpBwdIdeal.nD) → Buf (Elt Ideal) ((c.tc : Thread Cert.MlpBwdIdeal.nD Cert.MlpBwdIdeal.τ).loc Cert.MlpBwdIdeal.main_v22_2)) (v3 : (c : Dev Cert.MlpBwdIdeal.nD) → Buf (Elt Ideal) ((c.tc : Thread Cert.MlpBwdIdeal.nD Cert.MlpBwdIdeal.τ).loc Cert.MlpBwdIdeal.main_v22_3)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v22_0) = v0 c
          ∧ r.2.mem ((c.tc : Thread Cert.MlpBwdIdeal.nD Cert.MlpBwdIdeal.τ).loc Cert.MlpBwdIdeal.main_v22_1) = v1 c
          ∧ r.2.mem ((c.tc : Thread Cert.MlpBwdIdeal.nD Cert.MlpBwdIdeal.τ).loc Cert.MlpBwdIdeal.main_v22_2) = v2 c
          ∧ r.2.mem ((c.tc : Thread Cert.MlpBwdIdeal.nD Cert.MlpBwdIdeal.τ).loc Cert.MlpBwdIdeal.main_v22_3) = v3 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
          ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v65) = v0 c
          ∧ r.2.mem ((c.tc : Thread Cert.MlpBwdRefIdeal.nD Cert.MlpBwdRefIdeal.τ).loc Cert.MlpBwdRefIdeal.main_v58) = v1 c
          ∧ r.2.mem ((c.tc : Thread Cert.MlpBwdRefIdeal.nD Cert.MlpBwdRefIdeal.τ).loc Cert.MlpBwdRefIdeal.main_v64) = v2 c
          ∧ r.2.mem ((c.tc : Thread Cert.MlpBwdRefIdeal.nD Cert.MlpBwdRefIdeal.τ).loc Cert.MlpBwdRefIdeal.main_v66) = v3 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3)
          ∧ r.2.mem ((c.tc : Thread Cert.MlpBwdRefIdeal.nD Cert.MlpBwdRefIdeal.τ).loc Cert.MlpBwdRefIdeal.main_arg4) = m' ((c.tc : Thread Cert.MlpBwdRefIdeal.nD Cert.MlpBwdRefIdeal.τ).loc Cert.MlpBwdRefIdeal.main_arg4)
          ∧ r.2.mem ((c.tc : Thread Cert.MlpBwdRefIdeal.nD Cert.MlpBwdRefIdeal.τ).loc Cert.MlpBwdRefIdeal.main_arg5) = m' ((c.tc : Thread Cert.MlpBwdRefIdeal.nD Cert.MlpBwdRefIdeal.τ).loc Cert.MlpBwdRefIdeal.main_arg5))

def preserves_OutMlp_OutMlpIdeal : Prop :=
  True

def algebraic_OutMlpIdeal_OutMlpRefIdeal [hOutMlpIdeal : Cert.OutMlpIdeal.Facts] [hOutMlpRefIdeal : Cert.OutMlpRefIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg)
    (m' : (ℓ : Loc Cert.OutMlpRefIdeal.nD Cert.OutMlpRefIdeal.τ Cert.OutMlpRefIdeal.sig) → Buf (Elt Ideal) ℓ) (g' : Dev Cert.OutMlpRefIdeal.nD → PrngReg), Pre_OutMlpIdeal m →
    (∀ c : Dev Cert.OutMlpIdeal.nD,
      m' ((c.tc : Thread Cert.OutMlpRefIdeal.nD Cert.OutMlpRefIdeal.τ).loc Cert.OutMlpRefIdeal.main_arg0) = m ((c.tc : Thread Cert.OutMlpIdeal.nD Cert.OutMlpIdeal.τ).loc Cert.OutMlpIdeal.main_arg0)
      ∧ m' ((c.tc : Thread Cert.OutMlpRefIdeal.nD Cert.OutMlpRefIdeal.τ).loc Cert.OutMlpRefIdeal.main_arg1) = m ((c.tc : Thread Cert.OutMlpIdeal.nD Cert.OutMlpIdeal.τ).loc Cert.OutMlpIdeal.main_arg1)
      ∧ m' ((c.tc : Thread Cert.OutMlpRefIdeal.nD Cert.OutMlpRefIdeal.τ).loc Cert.OutMlpRefIdeal.main_arg2) = m ((c.tc : Thread Cert.OutMlpIdeal.nD Cert.OutMlpIdeal.τ).loc Cert.OutMlpIdeal.main_arg2)
      ∧ m' ((c.tc : Thread Cert.OutMlpRefIdeal.nD Cert.OutMlpRefIdeal.τ).loc Cert.OutMlpRefIdeal.main_arg3) = m ((c.tc : Thread Cert.OutMlpIdeal.nD Cert.OutMlpIdeal.τ).loc Cert.OutMlpIdeal.main_arg3)
      ∧ m' ((c.tc : Thread Cert.OutMlpRefIdeal.nD Cert.OutMlpRefIdeal.τ).loc Cert.OutMlpRefIdeal.main_arg4) = m ((c.tc : Thread Cert.OutMlpIdeal.nD Cert.OutMlpIdeal.τ).loc Cert.OutMlpIdeal.main_arg4)
      ∧ m' ((c.tc : Thread Cert.OutMlpRefIdeal.nD Cert.OutMlpRefIdeal.τ).loc Cert.OutMlpRefIdeal.main_arg5) = m ((c.tc : Thread Cert.OutMlpIdeal.nD Cert.OutMlpIdeal.τ).loc Cert.OutMlpIdeal.main_arg5)
      ∧ m' ((c.tc : Thread Cert.OutMlpRefIdeal.nD Cert.OutMlpRefIdeal.τ).loc Cert.OutMlpRefIdeal.main_arg6) = m ((c.tc : Thread Cert.OutMlpIdeal.nD Cert.OutMlpIdeal.τ).loc Cert.OutMlpIdeal.main_arg6)
      ∧ m' ((c.tc : Thread Cert.OutMlpRefIdeal.nD Cert.OutMlpRefIdeal.τ).loc Cert.OutMlpRefIdeal.main_arg7) = m ((c.tc : Thread Cert.OutMlpIdeal.nD Cert.OutMlpIdeal.τ).loc Cert.OutMlpIdeal.main_arg7)
      ∧ m' ((c.tc : Thread Cert.OutMlpRefIdeal.nD Cert.OutMlpRefIdeal.τ).loc Cert.OutMlpRefIdeal.main_arg8) = m ((c.tc : Thread Cert.OutMlpIdeal.nD Cert.OutMlpIdeal.τ).loc Cert.OutMlpIdeal.main_arg8)) →
    ∃ (v0 : (c : Dev Cert.OutMlpIdeal.nD) → Buf (Elt Ideal) ((c.tc : Thread Cert.OutMlpIdeal.nD Cert.OutMlpIdeal.τ).loc Cert.OutMlpIdeal.main_v0_0)) (v1 : (c : Dev Cert.OutMlpIdeal.nD) → Buf (Elt Ideal) ((c.tc : Thread Cert.OutMlpIdeal.nD Cert.OutMlpIdeal.τ).loc Cert.OutMlpIdeal.main_v0_1)) (v2 : (c : Dev Cert.OutMlpIdeal.nD) → Buf (Elt Ideal) ((c.tc : Thread Cert.OutMlpIdeal.nD Cert.OutMlpIdeal.τ).loc Cert.OutMlpIdeal.main_v0_2)) (v3 : (c : Dev Cert.OutMlpIdeal.nD) → Buf (Elt Ideal) ((c.tc : Thread Cert.OutMlpIdeal.nD Cert.OutMlpIdeal.τ).loc Cert.OutMlpIdeal.main_v0_3)) (v4 : (c : Dev Cert.OutMlpIdeal.nD) → Buf (Elt Ideal) ((c.tc : Thread Cert.OutMlpIdeal.nD Cert.OutMlpIdeal.τ).loc Cert.OutMlpIdeal.main_v0_4)) (v5 : (c : Dev Cert.OutMlpIdeal.nD) → Buf (Elt Ideal) ((c.tc : Thread Cert.OutMlpIdeal.nD Cert.OutMlpIdeal.τ).loc Cert.OutMlpIdeal.main_v0_5)),
      θ_run (Cert.OutMlpIdeal.defs (F := Ideal)) (onTc (τ := Cert.OutMlpIdeal.τ) (Cert.OutMlpIdeal.main (F := Ideal))) ⟨m, fun _ => 0, g⟩ (fun r => ∀ c : Dev Cert.OutMlpIdeal.nD,
          r.2.mem ((c.tc : Thread Cert.OutMlpIdeal.nD Cert.OutMlpIdeal.τ).loc Cert.OutMlpIdeal.main_v0_0) = v0 c
          ∧ r.2.mem ((c.tc : Thread Cert.OutMlpIdeal.nD Cert.OutMlpIdeal.τ).loc Cert.OutMlpIdeal.main_v0_1) = v1 c
          ∧ r.2.mem ((c.tc : Thread Cert.OutMlpIdeal.nD Cert.OutMlpIdeal.τ).loc Cert.OutMlpIdeal.main_v0_2) = v2 c
          ∧ r.2.mem ((c.tc : Thread Cert.OutMlpIdeal.nD Cert.OutMlpIdeal.τ).loc Cert.OutMlpIdeal.main_v0_3) = v3 c
          ∧ r.2.mem ((c.tc : Thread Cert.OutMlpIdeal.nD Cert.OutMlpIdeal.τ).loc Cert.OutMlpIdeal.main_v0_4) = v4 c
          ∧ r.2.mem ((c.tc : Thread Cert.OutMlpIdeal.nD Cert.OutMlpIdeal.τ).loc Cert.OutMlpIdeal.main_v0_5) = v5 c
          ∧ r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
          ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
          ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
          ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
          ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
          ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
          ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6)
          ∧ r.2.mem ((c.tc : Thread Cert.OutMlpIdeal.nD Cert.OutMlpIdeal.τ).loc Cert.OutMlpIdeal.main_arg7) = m ((c.tc : Thread Cert.OutMlpIdeal.nD Cert.OutMlpIdeal.τ).loc Cert.OutMlpIdeal.main_arg7)
          ∧ r.2.mem ((c.tc : Thread Cert.OutMlpIdeal.nD Cert.OutMlpIdeal.τ).loc Cert.OutMlpIdeal.main_arg8) = m ((c.tc : Thread Cert.OutMlpIdeal.nD Cert.OutMlpIdeal.τ).loc Cert.OutMlpIdeal.main_arg8))
      ∧ θ_run (Cert.OutMlpRefIdeal.defs (F := Ideal)) (onTc (τ := Cert.OutMlpRefIdeal.τ) (Cert.OutMlpRefIdeal.main (F := Ideal))) ⟨m', fun _ => 0, g'⟩ (fun r => ∀ c : Dev Cert.OutMlpRefIdeal.nD,
          r.2.mem ((c.tc : Thread Cert.OutMlpRefIdeal.nD Cert.OutMlpRefIdeal.τ).loc Cert.OutMlpRefIdeal.main_v37) = v0 c
          ∧ r.2.mem ((c.tc : Thread Cert.OutMlpRefIdeal.nD Cert.OutMlpRefIdeal.τ).loc Cert.OutMlpRefIdeal.main_v6) = v1 c
          ∧ r.2.mem ((c.tc : Thread Cert.OutMlpRefIdeal.nD Cert.OutMlpRefIdeal.τ).loc Cert.OutMlpRefIdeal.main_v38) = v2 c
          ∧ r.2.mem ((c.tc : Thread Cert.OutMlpRefIdeal.nD Cert.OutMlpRefIdeal.τ).loc Cert.OutMlpRefIdeal.main_v39) = v3 c
          ∧ r.2.mem ((c.tc : Thread Cert.OutMlpRefIdeal.nD Cert.OutMlpRefIdeal.τ).loc Cert.OutMlpRefIdeal.main_v40) = v4 c
          ∧ r.2.mem ((c.tc : Thread Cert.OutMlpRefIdeal.nD Cert.OutMlpRefIdeal.τ).loc Cert.OutMlpRefIdeal.main_v36) = v5 c
          ∧ r.2.mem ((c.tc : Thread Cert.OutMlpRefIdeal.nD Cert.OutMlpRefIdeal.τ).loc Cert.OutMlpRefIdeal.main_arg0) = m' ((c.tc : Thread Cert.OutMlpRefIdeal.nD Cert.OutMlpRefIdeal.τ).loc Cert.OutMlpRefIdeal.main_arg0)
          ∧ r.2.mem ((c.tc : Thread Cert.OutMlpRefIdeal.nD Cert.OutMlpRefIdeal.τ).loc Cert.OutMlpRefIdeal.main_arg1) = m' ((c.tc : Thread Cert.OutMlpRefIdeal.nD Cert.OutMlpRefIdeal.τ).loc Cert.OutMlpRefIdeal.main_arg1)
          ∧ r.2.mem ((c.tc : Thread Cert.OutMlpRefIdeal.nD Cert.OutMlpRefIdeal.τ).loc Cert.OutMlpRefIdeal.main_arg2) = m' ((c.tc : Thread Cert.OutMlpRefIdeal.nD Cert.OutMlpRefIdeal.τ).loc Cert.OutMlpRefIdeal.main_arg2)
          ∧ r.2.mem ((c.tc : Thread Cert.OutMlpRefIdeal.nD Cert.OutMlpRefIdeal.τ).loc Cert.OutMlpRefIdeal.main_arg3) = m' ((c.tc : Thread Cert.OutMlpRefIdeal.nD Cert.OutMlpRefIdeal.τ).loc Cert.OutMlpRefIdeal.main_arg3)
          ∧ r.2.mem ((c.tc : Thread Cert.OutMlpRefIdeal.nD Cert.OutMlpRefIdeal.τ).loc Cert.OutMlpRefIdeal.main_arg4) = m' ((c.tc : Thread Cert.OutMlpRefIdeal.nD Cert.OutMlpRefIdeal.τ).loc Cert.OutMlpRefIdeal.main_arg4)
          ∧ r.2.mem ((c.tc : Thread Cert.OutMlpRefIdeal.nD Cert.OutMlpRefIdeal.τ).loc Cert.OutMlpRefIdeal.main_arg5) = m' ((c.tc : Thread Cert.OutMlpRefIdeal.nD Cert.OutMlpRefIdeal.τ).loc Cert.OutMlpRefIdeal.main_arg5)
          ∧ r.2.mem ((c.tc : Thread Cert.OutMlpRefIdeal.nD Cert.OutMlpRefIdeal.τ).loc Cert.OutMlpRefIdeal.main_arg6) = m' ((c.tc : Thread Cert.OutMlpRefIdeal.nD Cert.OutMlpRefIdeal.τ).loc Cert.OutMlpRefIdeal.main_arg6)
          ∧ r.2.mem ((c.tc : Thread Cert.OutMlpRefIdeal.nD Cert.OutMlpRefIdeal.τ).loc Cert.OutMlpRefIdeal.main_arg7) = m' ((c.tc : Thread Cert.OutMlpRefIdeal.nD Cert.OutMlpRefIdeal.τ).loc Cert.OutMlpRefIdeal.main_arg7)
          ∧ r.2.mem ((c.tc : Thread Cert.OutMlpRefIdeal.nD Cert.OutMlpRefIdeal.τ).loc Cert.OutMlpRefIdeal.main_arg8) = m' ((c.tc : Thread Cert.OutMlpRefIdeal.nD Cert.OutMlpRefIdeal.τ).loc Cert.OutMlpRefIdeal.main_arg8))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)
      ∧ m' ((c.tc : Thread Cert.HeadRefIdeal.nD Cert.HeadRefIdeal.τ).loc Cert.HeadRefIdeal.main_arg9) = m ((c.tc : Thread Cert.HeadIdeal.nD Cert.HeadIdeal.τ).loc Cert.HeadIdeal.main_arg9)
      ∧ m' ((c.tc : Thread Cert.HeadRefIdeal.nD Cert.HeadRefIdeal.τ).loc Cert.HeadRefIdeal.main_arg10) = m ((c.tc : Thread Cert.HeadIdeal.nD Cert.HeadIdeal.τ).loc Cert.HeadIdeal.main_arg10)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)) (v3 : (c : Dev Cert.HeadIdeal.nD) → Buf (Elt Ideal) ((c.tc : Thread Cert.HeadIdeal.nD Cert.HeadIdeal.τ).loc Cert.HeadIdeal.main_v0_3)) (v4 : (c : Dev Cert.HeadIdeal.nD) → Buf (Elt Ideal) ((c.tc : Thread Cert.HeadIdeal.nD Cert.HeadIdeal.τ).loc Cert.HeadIdeal.main_v0_4)) (v5 : (c : Dev Cert.HeadIdeal.nD) → Buf (Elt Ideal) ((c.tc : Thread Cert.HeadIdeal.nD Cert.HeadIdeal.τ).loc Cert.HeadIdeal.main_v0_5)) (v6 : (c : Dev Cert.HeadIdeal.nD) → Buf (Elt Ideal) ((c.tc : Thread Cert.HeadIdeal.nD Cert.HeadIdeal.τ).loc Cert.HeadIdeal.main_v0_6)) (v7 : (c : Dev Cert.HeadIdeal.nD) → Buf (Elt Ideal) ((c.tc : Thread Cert.HeadIdeal.nD Cert.HeadIdeal.τ).loc Cert.HeadIdeal.main_v0_7)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_v0_3) = v3 c
          ∧ r.2.mem ((c.tc : Thread Cert.HeadIdeal.nD Cert.HeadIdeal.τ).loc Cert.HeadIdeal.main_v0_4) = v4 c
          ∧ r.2.mem ((c.tc : Thread Cert.HeadIdeal.nD Cert.HeadIdeal.τ).loc Cert.HeadIdeal.main_v0_5) = v5 c
          ∧ r.2.mem ((c.tc : Thread Cert.HeadIdeal.nD Cert.HeadIdeal.τ).loc Cert.HeadIdeal.main_v0_6) = v6 c
          ∧ r.2.mem ((c.tc : Thread Cert.HeadIdeal.nD Cert.HeadIdeal.τ).loc Cert.HeadIdeal.main_v0_7) = v7 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
          ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v37) = v0 c
          ∧ r.2.mem ((c.tc : Thread Cert.HeadRefIdeal.nD Cert.HeadRefIdeal.τ).loc Cert.HeadRefIdeal.main_v6) = v1 c
          ∧ r.2.mem ((c.tc : Thread Cert.HeadRefIdeal.nD Cert.HeadRefIdeal.τ).loc Cert.HeadRefIdeal.main_v38) = v2 c
          ∧ r.2.mem ((c.tc : Thread Cert.HeadRefIdeal.nD Cert.HeadRefIdeal.τ).loc Cert.HeadRefIdeal.main_v39) = v3 c
          ∧ r.2.mem ((c.tc : Thread Cert.HeadRefIdeal.nD Cert.HeadRefIdeal.τ).loc Cert.HeadRefIdeal.main_v40) = v4 c
          ∧ r.2.mem ((c.tc : Thread Cert.HeadRefIdeal.nD Cert.HeadRefIdeal.τ).loc Cert.HeadRefIdeal.main_v92) = v5 c
          ∧ r.2.mem ((c.tc : Thread Cert.HeadRefIdeal.nD Cert.HeadRefIdeal.τ).loc Cert.HeadRefIdeal.main_v93) = v6 c
          ∧ r.2.mem ((c.tc : Thread Cert.HeadRefIdeal.nD Cert.HeadRefIdeal.τ).loc Cert.HeadRefIdeal.main_v94) = v7 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8)
          ∧ r.2.mem ((c.tc : Thread Cert.HeadRefIdeal.nD Cert.HeadRefIdeal.τ).loc Cert.HeadRefIdeal.main_arg9) = m' ((c.tc : Thread Cert.HeadRefIdeal.nD Cert.HeadRefIdeal.τ).loc Cert.HeadRefIdeal.main_arg9)
          ∧ r.2.mem ((c.tc : Thread Cert.HeadRefIdeal.nD Cert.HeadRefIdeal.τ).loc Cert.HeadRefIdeal.main_arg10) = m' ((c.tc : Thread Cert.HeadRefIdeal.nD Cert.HeadRefIdeal.τ).loc Cert.HeadRefIdeal.main_arg10))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_v17) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_InProjBwd_InProjBwdIdeal : Prop :=
  True

def algebraic_InProjBwdIdeal_InProjBwdRefIdeal [hInProjBwdIdeal : Cert.InProjBwdIdeal.Facts] [hInProjBwdRefIdeal : Cert.InProjBwdRefIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjBwdRefIdeal.nD Cert.InProjBwdRefIdeal.τ Cert.InProjBwdRefIdeal.sig) → Buf (Elt Ideal) ℓ) (g' : Dev Cert.InProjBwdRefIdeal.nD → PrngReg), Pre_InProjBwdIdeal m →
    (∀ c : Dev Cert.InProjBwdIdeal.nD,
      m' ((c.tc : Thread Cert.InProjBwdRefIdeal.nD Cert.InProjBwdRefIdeal.τ).loc Cert.InProjBwdRefIdeal.main_arg0) = m ((c.tc : Thread Cert.InProjBwdIdeal.nD Cert.InProjBwdIdeal.τ).loc Cert.InProjBwdIdeal.main_arg0)
      ∧ m' ((c.tc : Thread Cert.InProjBwdRefIdeal.nD Cert.InProjBwdRefIdeal.τ).loc Cert.InProjBwdRefIdeal.main_arg1) = m ((c.tc : Thread Cert.InProjBwdIdeal.nD Cert.InProjBwdIdeal.τ).loc Cert.InProjBwdIdeal.main_arg1)
      ∧ m' ((c.tc : Thread Cert.InProjBwdRefIdeal.nD Cert.InProjBwdRefIdeal.τ).loc Cert.InProjBwdRefIdeal.main_arg2) = m ((c.tc : Thread Cert.InProjBwdIdeal.nD Cert.InProjBwdIdeal.τ).loc Cert.InProjBwdIdeal.main_arg2)
      ∧ m' ((c.tc : Thread Cert.InProjBwdRefIdeal.nD Cert.InProjBwdRefIdeal.τ).loc Cert.InProjBwdRefIdeal.main_arg3) = m ((c.tc : Thread Cert.InProjBwdIdeal.nD Cert.InProjBwdIdeal.τ).loc Cert.InProjBwdIdeal.main_arg3)
      ∧ m' ((c.tc : Thread Cert.InProjBwdRefIdeal.nD Cert.InProjBwdRefIdeal.τ).loc Cert.InProjBwdRefIdeal.main_arg4) = m ((c.tc : Thread Cert.InProjBwdIdeal.nD Cert.InProjBwdIdeal.τ).loc Cert.InProjBwdIdeal.main_arg4)
      ∧ m' ((c.tc : Thread Cert.InProjBwdRefIdeal.nD Cert.InProjBwdRefIdeal.τ).loc Cert.InProjBwdRefIdeal.main_arg5) = m ((c.tc : Thread Cert.InProjBwdIdeal.nD Cert.InProjBwdIdeal.τ).loc Cert.InProjBwdIdeal.main_arg5)
      ∧ m' ((c.tc : Thread Cert.InProjBwdRefIdeal.nD Cert.InProjBwdRefIdeal.τ).loc Cert.InProjBwdRefIdeal.main_arg6) = m ((c.tc : Thread Cert.InProjBwdIdeal.nD Cert.InProjBwdIdeal.τ).loc Cert.InProjBwdIdeal.main_arg6)
      ∧ m' ((c.tc : Thread Cert.InProjBwdRefIdeal.nD Cert.InProjBwdRefIdeal.τ).loc Cert.InProjBwdRefIdeal.main_arg7) = m ((c.tc : Thread Cert.InProjBwdIdeal.nD Cert.InProjBwdIdeal.τ).loc Cert.InProjBwdIdeal.main_arg7)
      ∧ m' ((c.tc : Thread Cert.InProjBwdRefIdeal.nD Cert.InProjBwdRefIdeal.τ).loc Cert.InProjBwdRefIdeal.main_arg8) = m ((c.tc : Thread Cert.InProjBwdIdeal.nD Cert.InProjBwdIdeal.τ).loc Cert.InProjBwdIdeal.main_arg8)
      ∧ m' ((c.tc : Thread Cert.InProjBwdRefIdeal.nD Cert.InProjBwdRefIdeal.τ).loc Cert.InProjBwdRefIdeal.main_arg9) = m ((c.tc : Thread Cert.InProjBwdIdeal.nD Cert.InProjBwdIdeal.τ).loc Cert.InProjBwdIdeal.main_arg9)
      ∧ m' ((c.tc : Thread Cert.InProjBwdRefIdeal.nD Cert.InProjBwdRefIdeal.τ).loc Cert.InProjBwdRefIdeal.main_arg10) = m ((c.tc : Thread Cert.InProjBwdIdeal.nD Cert.InProjBwdIdeal.τ).loc Cert.InProjBwdIdeal.main_arg10)
      ∧ m' ((c.tc : Thread Cert.InProjBwdRefIdeal.nD Cert.InProjBwdRefIdeal.τ).loc Cert.InProjBwdRefIdeal.main_arg11) = m ((c.tc : Thread Cert.InProjBwdIdeal.nD Cert.InProjBwdIdeal.τ).loc Cert.InProjBwdIdeal.main_arg11)) →
    ∃ (v0 : (c : Dev Cert.InProjBwdIdeal.nD) → Buf (Elt Ideal) ((c.tc : Thread Cert.InProjBwdIdeal.nD Cert.InProjBwdIdeal.τ).loc Cert.InProjBwdIdeal.main_v0_0)) (v1 : (c : Dev Cert.InProjBwdIdeal.nD) → Buf (Elt Ideal) ((c.tc : Thread Cert.InProjBwdIdeal.nD Cert.InProjBwdIdeal.τ).loc Cert.InProjBwdIdeal.main_v0_1)) (v2 : (c : Dev Cert.InProjBwdIdeal.nD) → Buf (Elt Ideal) ((c.tc : Thread Cert.InProjBwdIdeal.nD Cert.InProjBwdIdeal.τ).loc Cert.InProjBwdIdeal.main_v0_2)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v0_0) = v0 c
          ∧ r.2.mem ((c.tc : Thread Cert.InProjBwdIdeal.nD Cert.InProjBwdIdeal.τ).loc Cert.InProjBwdIdeal.main_v0_1) = v1 c
          ∧ r.2.mem ((c.tc : Thread Cert.InProjBwdIdeal.nD Cert.InProjBwdIdeal.τ).loc Cert.InProjBwdIdeal.main_v0_2) = v2 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
          ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
          ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
          ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
          ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
          ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9)
          ∧ r.2.mem ((c.tc : Thread Cert.InProjBwdIdeal.nD Cert.InProjBwdIdeal.τ).loc Cert.InProjBwdIdeal.main_arg10) = m ((c.tc : Thread Cert.InProjBwdIdeal.nD Cert.InProjBwdIdeal.τ).loc Cert.InProjBwdIdeal.main_arg10)
          ∧ r.2.mem ((c.tc : Thread Cert.InProjBwdIdeal.nD Cert.InProjBwdIdeal.τ).loc Cert.InProjBwdIdeal.main_arg11) = m ((c.tc : Thread Cert.InProjBwdIdeal.nD Cert.InProjBwdIdeal.τ).loc Cert.InProjBwdIdeal.main_arg11))
      ∧ θ_run (Cert.InProjBwdRefIdeal.defs (F := Ideal)) (onTc (τ := Cert.InProjBwdRefIdeal.τ) (Cert.InProjBwdRefIdeal.main (F := Ideal))) ⟨m', fun _ => 0, g'⟩ (fun r => ∀ c : Dev Cert.InProjBwdRefIdeal.nD,
          r.2.mem ((c.tc : Thread Cert.InProjBwdRefIdeal.nD Cert.InProjBwdRefIdeal.τ).loc Cert.InProjBwdRefIdeal.main_v0) = v0 c
          ∧ r.2.mem ((c.tc : Thread Cert.InProjBwdRefIdeal.nD Cert.InProjBwdRefIdeal.τ).loc Cert.InProjBwdRefIdeal.main_v43) = v1 c
          ∧ r.2.mem ((c.tc : Thread Cert.InProjBwdRefIdeal.nD Cert.InProjBwdRefIdeal.τ).loc Cert.InProjBwdRefIdeal.main_v44) = v2 c
          ∧ r.2.mem ((c.tc : Thread Cert.InProjBwdRefIdeal.nD Cert.InProjBwdRefIdeal.τ).loc Cert.InProjBwdRefIdeal.main_arg0) = m' ((c.tc : Thread Cert.InProjBwdRefIdeal.nD Cert.InProjBwdRefIdeal.τ).loc Cert.InProjBwdRefIdeal.main_arg0)
          ∧ r.2.mem ((c.tc : Thread Cert.InProjBwdRefIdeal.nD Cert.InProjBwdRefIdeal.τ).loc Cert.InProjBwdRefIdeal.main_arg1) = m' ((c.tc : Thread Cert.InProjBwdRefIdeal.nD Cert.InProjBwdRefIdeal.τ).loc Cert.InProjBwdRefIdeal.main_arg1)
          ∧ r.2.mem ((c.tc : Thread Cert.InProjBwdRefIdeal.nD Cert.InProjBwdRefIdeal.τ).loc Cert.InProjBwdRefIdeal.main_arg2) = m' ((c.tc : Thread Cert.InProjBwdRefIdeal.nD Cert.InProjBwdRefIdeal.τ).loc Cert.InProjBwdRefIdeal.main_arg2)
          ∧ r.2.mem ((c.tc : Thread Cert.InProjBwdRefIdeal.nD Cert.InProjBwdRefIdeal.τ).loc Cert.InProjBwdRefIdeal.main_arg3) = m' ((c.tc : Thread Cert.InProjBwdRefIdeal.nD Cert.InProjBwdRefIdeal.τ).loc Cert.InProjBwdRefIdeal.main_arg3)
          ∧ r.2.mem ((c.tc : Thread Cert.InProjBwdRefIdeal.nD Cert.InProjBwdRefIdeal.τ).loc Cert.InProjBwdRefIdeal.main_arg4) = m' ((c.tc : Thread Cert.InProjBwdRefIdeal.nD Cert.InProjBwdRefIdeal.τ).loc Cert.InProjBwdRefIdeal.main_arg4)
          ∧ r.2.mem ((c.tc : Thread Cert.InProjBwdRefIdeal.nD Cert.InProjBwdRefIdeal.τ).loc Cert.InProjBwdRefIdeal.main_arg5) = m' ((c.tc : Thread Cert.InProjBwdRefIdeal.nD Cert.InProjBwdRefIdeal.τ).loc Cert.InProjBwdRefIdeal.main_arg5)
          ∧ r.2.mem ((c.tc : Thread Cert.InProjBwdRefIdeal.nD Cert.InProjBwdRefIdeal.τ).loc Cert.InProjBwdRefIdeal.main_arg6) = m' ((c.tc : Thread Cert.InProjBwdRefIdeal.nD Cert.InProjBwdRefIdeal.τ).loc Cert.InProjBwdRefIdeal.main_arg6)
          ∧ r.2.mem ((c.tc : Thread Cert.InProjBwdRefIdeal.nD Cert.InProjBwdRefIdeal.τ).loc Cert.InProjBwdRefIdeal.main_arg7) = m' ((c.tc : Thread Cert.InProjBwdRefIdeal.nD Cert.InProjBwdRefIdeal.τ).loc Cert.InProjBwdRefIdeal.main_arg7)
          ∧ r.2.mem ((c.tc : Thread Cert.InProjBwdRefIdeal.nD Cert.InProjBwdRefIdeal.τ).loc Cert.InProjBwdRefIdeal.main_arg8) = m' ((c.tc : Thread Cert.InProjBwdRefIdeal.nD Cert.InProjBwdRefIdeal.τ).loc Cert.InProjBwdRefIdeal.main_arg8)
          ∧ r.2.mem ((c.tc : Thread Cert.InProjBwdRefIdeal.nD Cert.InProjBwdRefIdeal.τ).loc Cert.InProjBwdRefIdeal.main_arg9) = m' ((c.tc : Thread Cert.InProjBwdRefIdeal.nD Cert.InProjBwdRefIdeal.τ).loc Cert.InProjBwdRefIdeal.main_arg9)
          ∧ r.2.mem ((c.tc : Thread Cert.InProjBwdRefIdeal.nD Cert.InProjBwdRefIdeal.τ).loc Cert.InProjBwdRefIdeal.main_arg10) = m' ((c.tc : Thread Cert.InProjBwdRefIdeal.nD Cert.InProjBwdRefIdeal.τ).loc Cert.InProjBwdRefIdeal.main_arg10)
          ∧ r.2.mem ((c.tc : Thread Cert.InProjBwdRefIdeal.nD Cert.InProjBwdRefIdeal.τ).loc Cert.InProjBwdRefIdeal.main_arg11) = m' ((c.tc : Thread Cert.InProjBwdRefIdeal.nD Cert.InProjBwdRefIdeal.τ).loc Cert.InProjBwdRefIdeal.main_arg11))

def preserves_WgradGu_WgradGuIdeal : Prop :=
  True

def algebraic_WgradGuIdeal_WgradGuRefIdeal [hWgradGuIdeal : Cert.WgradGuIdeal.Facts] [hWgradGuRefIdeal : Cert.WgradGuRefIdeal.Facts] : Prop :=
  ∀ (m : (ℓ : Loc Cert.WgradGuIdeal.nD Cert.WgradGuIdeal.τ Cert.WgradGuIdeal.sig) → Buf (Elt Ideal) ℓ) (g : Dev Cert.WgradGuIdeal.nD → PrngReg)
    (m' : (ℓ : Loc Cert.WgradGuRefIdeal.nD Cert.WgradGuRefIdeal.τ Cert.WgradGuRefIdeal.sig) → Buf (Elt Ideal) ℓ) (g' : Dev Cert.WgradGuRefIdeal.nD → PrngReg), Pre_WgradGuIdeal m →
    (∀ c : Dev Cert.WgradGuIdeal.nD,
      m' ((c.tc : Thread Cert.WgradGuRefIdeal.nD Cert.WgradGuRefIdeal.τ).loc Cert.WgradGuRefIdeal.main_arg0) = m ((c.tc : Thread Cert.WgradGuIdeal.nD Cert.WgradGuIdeal.τ).loc Cert.WgradGuIdeal.main_arg0)
      ∧ m' ((c.tc : Thread Cert.WgradGuRefIdeal.nD Cert.WgradGuRefIdeal.τ).loc Cert.WgradGuRefIdeal.main_arg1) = m ((c.tc : Thread Cert.WgradGuIdeal.nD Cert.WgradGuIdeal.τ).loc Cert.WgradGuIdeal.main_arg1)) →
    ∃ (v0 : (c : Dev Cert.WgradGuIdeal.nD) → Buf (Elt Ideal) ((c.tc : Thread Cert.WgradGuIdeal.nD Cert.WgradGuIdeal.τ).loc Cert.WgradGuIdeal.main_v0)),
      θ_run (Cert.WgradGuIdeal.defs (F := Ideal)) (onTc (τ := Cert.WgradGuIdeal.τ) (Cert.WgradGuIdeal.main (F := Ideal))) ⟨m, fun _ => 0, g⟩ (fun r => ∀ c : Dev Cert.WgradGuIdeal.nD,
          r.2.mem ((c.tc : Thread Cert.WgradGuIdeal.nD Cert.WgradGuIdeal.τ).loc Cert.WgradGuIdeal.main_v0) = v0 c
          ∧ r.2.mem ((c.tc : Thread Cert.WgradGuIdeal.nD Cert.WgradGuIdeal.τ).loc Cert.WgradGuIdeal.main_arg0) = m ((c.tc : Thread Cert.WgradGuIdeal.nD Cert.WgradGuIdeal.τ).loc Cert.WgradGuIdeal.main_arg0)
          ∧ r.2.mem ((c.tc : Thread Cert.WgradGuIdeal.nD Cert.WgradGuIdeal.τ).loc Cert.WgradGuIdeal.main_arg1) = m ((c.tc : Thread Cert.WgradGuIdeal.nD Cert.WgradGuIdeal.τ).loc Cert.WgradGuIdeal.main_arg1))
      ∧ θ_run (Cert.WgradGuRefIdeal.defs (F := Ideal)) (onTc (τ := Cert.WgradGuRefIdeal.τ) (Cert.WgradGuRefIdeal.main (F := Ideal))) ⟨m', fun _ => 0, g'⟩ (fun r => ∀ c : Dev Cert.WgradGuRefIdeal.nD,
          r.2.mem ((c.tc : Thread Cert.WgradGuRefIdeal.nD Cert.WgradGuRefIdeal.τ).loc Cert.WgradGuRefIdeal.main_v7) = v0 c
          ∧ r.2.mem ((c.tc : Thread Cert.WgradGuRefIdeal.nD Cert.WgradGuRefIdeal.τ).loc Cert.WgradGuRefIdeal.main_arg0) = m' ((c.tc : Thread Cert.WgradGuRefIdeal.nD Cert.WgradGuRefIdeal.τ).loc Cert.WgradGuRefIdeal.main_arg0)
          ∧ r.2.mem ((c.tc : Thread Cert.WgradGuRefIdeal.nD Cert.WgradGuRefIdeal.τ).loc Cert.WgradGuRefIdeal.main_arg1) = m' ((c.tc : Thread Cert.WgradGuRefIdeal.nD Cert.WgradGuRefIdeal.τ).loc Cert.WgradGuRefIdeal.main_arg1))

def preserves_WgradDown_WgradDownIdeal : Prop :=
  True

def algebraic_WgradDownIdeal_WgradDownRefIdeal [hWgradDownIdeal : Cert.WgradDownIdeal.Facts] [hWgradDownRefIdeal : Cert.WgradDownRefIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg)
    (m' : (ℓ : Loc Cert.WgradDownRefIdeal.nD Cert.WgradDownRefIdeal.τ Cert.WgradDownRefIdeal.sig) → Buf (Elt Ideal) ℓ) (g' : Dev Cert.WgradDownRefIdeal.nD → PrngReg), Pre_WgradDownIdeal m →
    (∀ c : Dev Cert.WgradDownIdeal.nD,
      m' ((c.tc : Thread Cert.WgradDownRefIdeal.nD Cert.WgradDownRefIdeal.τ).loc Cert.WgradDownRefIdeal.main_arg0) = m ((c.tc : Thread Cert.WgradDownIdeal.nD Cert.WgradDownIdeal.τ).loc Cert.WgradDownIdeal.main_arg0)
      ∧ m' ((c.tc : Thread Cert.WgradDownRefIdeal.nD Cert.WgradDownRefIdeal.τ).loc Cert.WgradDownRefIdeal.main_arg1) = m ((c.tc : Thread Cert.WgradDownIdeal.nD Cert.WgradDownIdeal.τ).loc Cert.WgradDownIdeal.main_arg1)) →
    ∃ (v0 : (c : Dev Cert.WgradDownIdeal.nD) → Buf (Elt Ideal) ((c.tc : Thread Cert.WgradDownIdeal.nD Cert.WgradDownIdeal.τ).loc Cert.WgradDownIdeal.main_v0)),
      θ_run (Cert.WgradDownIdeal.defs (F := Ideal)) (onTc (τ := Cert.WgradDownIdeal.τ) (Cert.WgradDownIdeal.main (F := Ideal))) ⟨m, fun _ => 0, g⟩ (fun r => ∀ c : Dev Cert.WgradDownIdeal.nD,
          r.2.mem ((c.tc : Thread Cert.WgradDownIdeal.nD Cert.WgradDownIdeal.τ).loc Cert.WgradDownIdeal.main_v0) = v0 c
          ∧ r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
          ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ θ_run (Cert.WgradDownRefIdeal.defs (F := Ideal)) (onTc (τ := Cert.WgradDownRefIdeal.τ) (Cert.WgradDownRefIdeal.main (F := Ideal))) ⟨m', fun _ => 0, g'⟩ (fun r => ∀ c : Dev Cert.WgradDownRefIdeal.nD,
          r.2.mem ((c.tc : Thread Cert.WgradDownRefIdeal.nD Cert.WgradDownRefIdeal.τ).loc Cert.WgradDownRefIdeal.main_v5) = v0 c
          ∧ r.2.mem ((c.tc : Thread Cert.WgradDownRefIdeal.nD Cert.WgradDownRefIdeal.τ).loc Cert.WgradDownRefIdeal.main_arg0) = m' ((c.tc : Thread Cert.WgradDownRefIdeal.nD Cert.WgradDownRefIdeal.τ).loc Cert.WgradDownRefIdeal.main_arg0)
          ∧ r.2.mem ((c.tc : Thread Cert.WgradDownRefIdeal.nD Cert.WgradDownRefIdeal.τ).loc Cert.WgradDownRefIdeal.main_arg1) = m' ((c.tc : Thread Cert.WgradDownRefIdeal.nD Cert.WgradDownRefIdeal.τ).loc Cert.WgradDownRefIdeal.main_arg1))

def preserves_WgradOut_WgradOutIdeal : Prop :=
  True

def algebraic_WgradOutIdeal_WgradOutRefIdeal [hWgradOutIdeal : Cert.WgradOutIdeal.Facts] [hWgradOutRefIdeal : Cert.WgradOutRefIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg)
    (m' : (ℓ : Loc Cert.WgradOutRefIdeal.nD Cert.WgradOutRefIdeal.τ Cert.WgradOutRefIdeal.sig) → Buf (Elt Ideal) ℓ) (g' : Dev Cert.WgradOutRefIdeal.nD → PrngReg), Pre_WgradOutIdeal m →
    (∀ c : Dev Cert.WgradOutIdeal.nD,
      m' ((c.tc : Thread Cert.WgradOutRefIdeal.nD Cert.WgradOutRefIdeal.τ).loc Cert.WgradOutRefIdeal.main_arg0) = m ((c.tc : Thread Cert.WgradOutIdeal.nD Cert.WgradOutIdeal.τ).loc Cert.WgradOutIdeal.main_arg0)
      ∧ m' ((c.tc : Thread Cert.WgradOutRefIdeal.nD Cert.WgradOutRefIdeal.τ).loc Cert.WgradOutRefIdeal.main_arg1) = m ((c.tc : Thread Cert.WgradOutIdeal.nD Cert.WgradOutIdeal.τ).loc Cert.WgradOutIdeal.main_arg1)) →
    ∃ (v0 : (c : Dev Cert.WgradOutIdeal.nD) → Buf (Elt Ideal) ((c.tc : Thread Cert.WgradOutIdeal.nD Cert.WgradOutIdeal.τ).loc Cert.WgradOutIdeal.main_v0)),
      θ_run (Cert.WgradOutIdeal.defs (F := Ideal)) (onTc (τ := Cert.WgradOutIdeal.τ) (Cert.WgradOutIdeal.main (F := Ideal))) ⟨m, fun _ => 0, g⟩ (fun r => ∀ c : Dev Cert.WgradOutIdeal.nD,
          r.2.mem ((c.tc : Thread Cert.WgradOutIdeal.nD Cert.WgradOutIdeal.τ).loc Cert.WgradOutIdeal.main_v0) = v0 c
          ∧ r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
          ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ θ_run (Cert.WgradOutRefIdeal.defs (F := Ideal)) (onTc (τ := Cert.WgradOutRefIdeal.τ) (Cert.WgradOutRefIdeal.main (F := Ideal))) ⟨m', fun _ => 0, g'⟩ (fun r => ∀ c : Dev Cert.WgradOutRefIdeal.nD,
          r.2.mem ((c.tc : Thread Cert.WgradOutRefIdeal.nD Cert.WgradOutRefIdeal.τ).loc Cert.WgradOutRefIdeal.main_v5) = v0 c
          ∧ r.2.mem ((c.tc : Thread Cert.WgradOutRefIdeal.nD Cert.WgradOutRefIdeal.τ).loc Cert.WgradOutRefIdeal.main_arg0) = m' ((c.tc : Thread Cert.WgradOutRefIdeal.nD Cert.WgradOutRefIdeal.τ).loc Cert.WgradOutRefIdeal.main_arg0)
          ∧ r.2.mem ((c.tc : Thread Cert.WgradOutRefIdeal.nD Cert.WgradOutRefIdeal.τ).loc Cert.WgradOutRefIdeal.main_arg1) = m' ((c.tc : Thread Cert.WgradOutRefIdeal.nD Cert.WgradOutRefIdeal.τ).loc Cert.WgradOutRefIdeal.main_arg1))

def preserves_WgradIn_WgradInIdeal : Prop :=
  True

def algebraic_WgradInIdeal_WgradInRefIdeal [hWgradInIdeal : Cert.WgradInIdeal.Facts] [hWgradInRefIdeal : Cert.WgradInRefIdeal.Facts] : Prop :=
  ∀ (m : (ℓ : Loc Cert.WgradInIdeal.nD Cert.WgradInIdeal.τ Cert.WgradInIdeal.sig) → Buf (Elt Ideal) ℓ) (g : Dev Cert.WgradInIdeal.nD → PrngReg)
    (m' : (ℓ : Loc Cert.WgradInRefIdeal.nD Cert.WgradInRefIdeal.τ Cert.WgradInRefIdeal.sig) → Buf (Elt Ideal) ℓ) (g' : Dev Cert.WgradInRefIdeal.nD → PrngReg), Pre_WgradInIdeal m →
    (∀ c : Dev Cert.WgradInIdeal.nD,
      m' ((c.tc : Thread Cert.WgradInRefIdeal.nD Cert.WgradInRefIdeal.τ).loc Cert.WgradInRefIdeal.main_arg0) = m ((c.tc : Thread Cert.WgradInIdeal.nD Cert.WgradInIdeal.τ).loc Cert.WgradInIdeal.main_arg0)
      ∧ m' ((c.tc : Thread Cert.WgradInRefIdeal.nD Cert.WgradInRefIdeal.τ).loc Cert.WgradInRefIdeal.main_arg1) = m ((c.tc : Thread Cert.WgradInIdeal.nD Cert.WgradInIdeal.τ).loc Cert.WgradInIdeal.main_arg1)) →
    ∃ (v0 : (c : Dev Cert.WgradInIdeal.nD) → Buf (Elt Ideal) ((c.tc : Thread Cert.WgradInIdeal.nD Cert.WgradInIdeal.τ).loc Cert.WgradInIdeal.main_v0)),
      θ_run (Cert.WgradInIdeal.defs (F := Ideal)) (onTc (τ := Cert.WgradInIdeal.τ) (Cert.WgradInIdeal.main (F := Ideal))) ⟨m, fun _ => 0, g⟩ (fun r => ∀ c : Dev Cert.WgradInIdeal.nD,
          r.2.mem ((c.tc : Thread Cert.WgradInIdeal.nD Cert.WgradInIdeal.τ).loc Cert.WgradInIdeal.main_v0) = v0 c
          ∧ r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
          ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1))
      ∧ θ_run (Cert.WgradInRefIdeal.defs (F := Ideal)) (onTc (τ := Cert.WgradInRefIdeal.τ) (Cert.WgradInRefIdeal.main (F := Ideal))) ⟨m', fun _ => 0, g'⟩ (fun r => ∀ c : Dev Cert.WgradInRefIdeal.nD,
          r.2.mem ((c.tc : Thread Cert.WgradInRefIdeal.nD Cert.WgradInRefIdeal.τ).loc Cert.WgradInRefIdeal.main_v6) = v0 c
          ∧ r.2.mem ((c.tc : Thread Cert.WgradInRefIdeal.nD Cert.WgradInRefIdeal.τ).loc Cert.WgradInRefIdeal.main_arg0) = m' ((c.tc : Thread Cert.WgradInRefIdeal.nD Cert.WgradInRefIdeal.τ).loc Cert.WgradInRefIdeal.main_arg0)
          ∧ r.2.mem ((c.tc : Thread Cert.WgradInRefIdeal.nD Cert.WgradInRefIdeal.τ).loc Cert.WgradInRefIdeal.main_arg1) = m' ((c.tc : Thread Cert.WgradInRefIdeal.nD Cert.WgradInRefIdeal.τ).loc Cert.WgradInRefIdeal.main_arg1))

def preserves_InProjBwd0_InProjBwd0Ideal : Prop :=
  True

def algebraic_InProjBwd0Ideal_InProjBwd0RefIdeal [hInProjBwd0Ideal : Cert.InProjBwd0Ideal.Facts] [hInProjBwd0RefIdeal : Cert.InProjBwd0RefIdeal.Facts] : Prop :=
  ∀ (m : (ℓ : Loc Cert.InProjBwd0Ideal.nD Cert.InProjBwd0Ideal.τ Cert.InProjBwd0Ideal.sig) → Buf (Elt Ideal) ℓ) (g : Dev Cert.InProjBwd0Ideal.nD → PrngReg)
    (m' : (ℓ : Loc Cert.InProjBwd0RefIdeal.nD Cert.InProjBwd0RefIdeal.τ Cert.InProjBwd0RefIdeal.sig) → Buf (Elt Ideal) ℓ) (g' : Dev Cert.InProjBwd0RefIdeal.nD → PrngReg), Pre_InProjBwd0Ideal m →
    (∀ c : Dev Cert.InProjBwd0Ideal.nD,
      m' ((c.tc : Thread Cert.InProjBwd0RefIdeal.nD Cert.InProjBwd0RefIdeal.τ).loc Cert.InProjBwd0RefIdeal.main_arg0) = m ((c.tc : Thread Cert.InProjBwd0Ideal.nD Cert.InProjBwd0Ideal.τ).loc Cert.InProjBwd0Ideal.main_arg0)
      ∧ m' ((c.tc : Thread Cert.InProjBwd0RefIdeal.nD Cert.InProjBwd0RefIdeal.τ).loc Cert.InProjBwd0RefIdeal.main_arg1) = m ((c.tc : Thread Cert.InProjBwd0Ideal.nD Cert.InProjBwd0Ideal.τ).loc Cert.InProjBwd0Ideal.main_arg1)
      ∧ m' ((c.tc : Thread Cert.InProjBwd0RefIdeal.nD Cert.InProjBwd0RefIdeal.τ).loc Cert.InProjBwd0RefIdeal.main_arg2) = m ((c.tc : Thread Cert.InProjBwd0Ideal.nD Cert.InProjBwd0Ideal.τ).loc Cert.InProjBwd0Ideal.main_arg2)
      ∧ m' ((c.tc : Thread Cert.InProjBwd0RefIdeal.nD Cert.InProjBwd0RefIdeal.τ).loc Cert.InProjBwd0RefIdeal.main_arg3) = m ((c.tc : Thread Cert.InProjBwd0Ideal.nD Cert.InProjBwd0Ideal.τ).loc Cert.InProjBwd0Ideal.main_arg3)
      ∧ m' ((c.tc : Thread Cert.InProjBwd0RefIdeal.nD Cert.InProjBwd0RefIdeal.τ).loc Cert.InProjBwd0RefIdeal.main_arg4) = m ((c.tc : Thread Cert.InProjBwd0Ideal.nD Cert.InProjBwd0Ideal.τ).loc Cert.InProjBwd0Ideal.main_arg4)
      ∧ m' ((c.tc : Thread Cert.InProjBwd0RefIdeal.nD Cert.InProjBwd0RefIdeal.τ).loc Cert.InProjBwd0RefIdeal.main_arg5) = m ((c.tc : Thread Cert.InProjBwd0Ideal.nD Cert.InProjBwd0Ideal.τ).loc Cert.InProjBwd0Ideal.main_arg5)
      ∧ m' ((c.tc : Thread Cert.InProjBwd0RefIdeal.nD Cert.InProjBwd0RefIdeal.τ).loc Cert.InProjBwd0RefIdeal.main_arg6) = m ((c.tc : Thread Cert.InProjBwd0Ideal.nD Cert.InProjBwd0Ideal.τ).loc Cert.InProjBwd0Ideal.main_arg6)
      ∧ m' ((c.tc : Thread Cert.InProjBwd0RefIdeal.nD Cert.InProjBwd0RefIdeal.τ).loc Cert.InProjBwd0RefIdeal.main_arg7) = m ((c.tc : Thread Cert.InProjBwd0Ideal.nD Cert.InProjBwd0Ideal.τ).loc Cert.InProjBwd0Ideal.main_arg7)
      ∧ m' ((c.tc : Thread Cert.InProjBwd0RefIdeal.nD Cert.InProjBwd0RefIdeal.τ).loc Cert.InProjBwd0RefIdeal.main_arg8) = m ((c.tc : Thread Cert.InProjBwd0Ideal.nD Cert.InProjBwd0Ideal.τ).loc Cert.InProjBwd0Ideal.main_arg8)
      ∧ m' ((c.tc : Thread Cert.InProjBwd0RefIdeal.nD Cert.InProjBwd0RefIdeal.τ).loc Cert.InProjBwd0RefIdeal.main_arg9) = m ((c.tc : Thread Cert.InProjBwd0Ideal.nD Cert.InProjBwd0Ideal.τ).loc Cert.InProjBwd0Ideal.main_arg9)
      ∧ m' ((c.tc : Thread Cert.InProjBwd0RefIdeal.nD Cert.InProjBwd0RefIdeal.τ).loc Cert.InProjBwd0RefIdeal.main_arg10) = m ((c.tc : Thread Cert.InProjBwd0Ideal.nD Cert.InProjBwd0Ideal.τ).loc Cert.InProjBwd0Ideal.main_arg10)
      ∧ m' ((c.tc : Thread Cert.InProjBwd0RefIdeal.nD Cert.InProjBwd0RefIdeal.τ).loc Cert.InProjBwd0RefIdeal.main_arg11) = m ((c.tc : Thread Cert.InProjBwd0Ideal.nD Cert.InProjBwd0Ideal.τ).loc Cert.InProjBwd0Ideal.main_arg11)) →
    ∃ (v0 : (c : Dev Cert.InProjBwd0Ideal.nD) → Buf (Elt Ideal) ((c.tc : Thread Cert.InProjBwd0Ideal.nD Cert.InProjBwd0Ideal.τ).loc Cert.InProjBwd0Ideal.main_v0_0)) (v1 : (c : Dev Cert.InProjBwd0Ideal.nD) → Buf (Elt Ideal) ((c.tc : Thread Cert.InProjBwd0Ideal.nD Cert.InProjBwd0Ideal.τ).loc Cert.InProjBwd0Ideal.main_v0_1)) (v2 : (c : Dev Cert.InProjBwd0Ideal.nD) → Buf (Elt Ideal) ((c.tc : Thread Cert.InProjBwd0Ideal.nD Cert.InProjBwd0Ideal.τ).loc Cert.InProjBwd0Ideal.main_v0_2)),
      θ_run (Cert.InProjBwd0Ideal.defs (F := Ideal)) (onTc (τ := Cert.InProjBwd0Ideal.τ) (Cert.InProjBwd0Ideal.main (F := Ideal))) ⟨m, fun _ => 0, g⟩ (fun r => ∀ c : Dev Cert.InProjBwd0Ideal.nD,
          r.2.mem ((c.tc : Thread Cert.InProjBwd0Ideal.nD Cert.InProjBwd0Ideal.τ).loc Cert.InProjBwd0Ideal.main_v0_0) = v0 c
          ∧ r.2.mem ((c.tc : Thread Cert.InProjBwd0Ideal.nD Cert.InProjBwd0Ideal.τ).loc Cert.InProjBwd0Ideal.main_v0_1) = v1 c
          ∧ r.2.mem ((c.tc : Thread Cert.InProjBwd0Ideal.nD Cert.InProjBwd0Ideal.τ).loc Cert.InProjBwd0Ideal.main_v0_2) = v2 c
          ∧ r.2.mem ((c.tc : Thread Cert.InProjBwd0Ideal.nD Cert.InProjBwd0Ideal.τ).loc Cert.InProjBwd0Ideal.main_arg0) = m ((c.tc : Thread Cert.InProjBwd0Ideal.nD Cert.InProjBwd0Ideal.τ).loc Cert.InProjBwd0Ideal.main_arg0)
          ∧ r.2.mem ((c.tc : Thread Cert.InProjBwd0Ideal.nD Cert.InProjBwd0Ideal.τ).loc Cert.InProjBwd0Ideal.main_arg1) = m ((c.tc : Thread Cert.InProjBwd0Ideal.nD Cert.InProjBwd0Ideal.τ).loc Cert.InProjBwd0Ideal.main_arg1)
          ∧ r.2.mem ((c.tc : Thread Cert.InProjBwd0Ideal.nD Cert.InProjBwd0Ideal.τ).loc Cert.InProjBwd0Ideal.main_arg2) = m ((c.tc : Thread Cert.InProjBwd0Ideal.nD Cert.InProjBwd0Ideal.τ).loc Cert.InProjBwd0Ideal.main_arg2)
          ∧ r.2.mem ((c.tc : Thread Cert.InProjBwd0Ideal.nD Cert.InProjBwd0Ideal.τ).loc Cert.InProjBwd0Ideal.main_arg3) = m ((c.tc : Thread Cert.InProjBwd0Ideal.nD Cert.InProjBwd0Ideal.τ).loc Cert.InProjBwd0Ideal.main_arg3)
          ∧ r.2.mem ((c.tc : Thread Cert.InProjBwd0Ideal.nD Cert.InProjBwd0Ideal.τ).loc Cert.InProjBwd0Ideal.main_arg4) = m ((c.tc : Thread Cert.InProjBwd0Ideal.nD Cert.InProjBwd0Ideal.τ).loc Cert.InProjBwd0Ideal.main_arg4)
          ∧ r.2.mem ((c.tc : Thread Cert.InProjBwd0Ideal.nD Cert.InProjBwd0Ideal.τ).loc Cert.InProjBwd0Ideal.main_arg5) = m ((c.tc : Thread Cert.InProjBwd0Ideal.nD Cert.InProjBwd0Ideal.τ).loc Cert.InProjBwd0Ideal.main_arg5)
          ∧ r.2.mem ((c.tc : Thread Cert.InProjBwd0Ideal.nD Cert.InProjBwd0Ideal.τ).loc Cert.InProjBwd0Ideal.main_arg6) = m ((c.tc : Thread Cert.InProjBwd0Ideal.nD Cert.InProjBwd0Ideal.τ).loc Cert.InProjBwd0Ideal.main_arg6)
          ∧ r.2.mem ((c.tc : Thread Cert.InProjBwd0Ideal.nD Cert.InProjBwd0Ideal.τ).loc Cert.InProjBwd0Ideal.main_arg7) = m ((c.tc : Thread Cert.InProjBwd0Ideal.nD Cert.InProjBwd0Ideal.τ).loc Cert.InProjBwd0Ideal.main_arg7)
          ∧ r.2.mem ((c.tc : Thread Cert.InProjBwd0Ideal.nD Cert.InProjBwd0Ideal.τ).loc Cert.InProjBwd0Ideal.main_arg8) = m ((c.tc : Thread Cert.InProjBwd0Ideal.nD Cert.InProjBwd0Ideal.τ).loc Cert.InProjBwd0Ideal.main_arg8)
          ∧ r.2.mem ((c.tc : Thread Cert.InProjBwd0Ideal.nD Cert.InProjBwd0Ideal.τ).loc Cert.InProjBwd0Ideal.main_arg9) = m ((c.tc : Thread Cert.InProjBwd0Ideal.nD Cert.InProjBwd0Ideal.τ).loc Cert.InProjBwd0Ideal.main_arg9)
          ∧ r.2.mem ((c.tc : Thread Cert.InProjBwd0Ideal.nD Cert.InProjBwd0Ideal.τ).loc Cert.InProjBwd0Ideal.main_arg10) = m ((c.tc : Thread Cert.InProjBwd0Ideal.nD Cert.InProjBwd0Ideal.τ).loc Cert.InProjBwd0Ideal.main_arg10)
          ∧ r.2.mem ((c.tc : Thread Cert.InProjBwd0Ideal.nD Cert.InProjBwd0Ideal.τ).loc Cert.InProjBwd0Ideal.main_arg11) = m ((c.tc : Thread Cert.InProjBwd0Ideal.nD Cert.InProjBwd0Ideal.τ).loc Cert.InProjBwd0Ideal.main_arg11))
      ∧ θ_run (Cert.InProjBwd0RefIdeal.defs (F := Ideal)) (onTc (τ := Cert.InProjBwd0RefIdeal.τ) (Cert.InProjBwd0RefIdeal.main (F := Ideal))) ⟨m', fun _ => 0, g'⟩ (fun r => ∀ c : Dev Cert.InProjBwd0RefIdeal.nD,
          r.2.mem ((c.tc : Thread Cert.InProjBwd0RefIdeal.nD Cert.InProjBwd0RefIdeal.τ).loc Cert.InProjBwd0RefIdeal.main_v0) = v0 c
          ∧ r.2.mem ((c.tc : Thread Cert.InProjBwd0RefIdeal.nD Cert.InProjBwd0RefIdeal.τ).loc Cert.InProjBwd0RefIdeal.main_v43) = v1 c
          ∧ r.2.mem ((c.tc : Thread Cert.InProjBwd0RefIdeal.nD Cert.InProjBwd0RefIdeal.τ).loc Cert.InProjBwd0RefIdeal.main_v44) = v2 c
          ∧ r.2.mem ((c.tc : Thread Cert.InProjBwd0RefIdeal.nD Cert.InProjBwd0RefIdeal.τ).loc Cert.InProjBwd0RefIdeal.main_arg0) = m' ((c.tc : Thread Cert.InProjBwd0RefIdeal.nD Cert.InProjBwd0RefIdeal.τ).loc Cert.InProjBwd0RefIdeal.main_arg0)
          ∧ r.2.mem ((c.tc : Thread Cert.InProjBwd0RefIdeal.nD Cert.InProjBwd0RefIdeal.τ).loc Cert.InProjBwd0RefIdeal.main_arg1) = m' ((c.tc : Thread Cert.InProjBwd0RefIdeal.nD Cert.InProjBwd0RefIdeal.τ).loc Cert.InProjBwd0RefIdeal.main_arg1)
          ∧ r.2.mem ((c.tc : Thread Cert.InProjBwd0RefIdeal.nD Cert.InProjBwd0RefIdeal.τ).loc Cert.InProjBwd0RefIdeal.main_arg2) = m' ((c.tc : Thread Cert.InProjBwd0RefIdeal.nD Cert.InProjBwd0RefIdeal.τ).loc Cert.InProjBwd0RefIdeal.main_arg2)
          ∧ r.2.mem ((c.tc : Thread Cert.InProjBwd0RefIdeal.nD Cert.InProjBwd0RefIdeal.τ).loc Cert.InProjBwd0RefIdeal.main_arg3) = m' ((c.tc : Thread Cert.InProjBwd0RefIdeal.nD Cert.InProjBwd0RefIdeal.τ).loc Cert.InProjBwd0RefIdeal.main_arg3)
          ∧ r.2.mem ((c.tc : Thread Cert.InProjBwd0RefIdeal.nD Cert.InProjBwd0RefIdeal.τ).loc Cert.InProjBwd0RefIdeal.main_arg4) = m' ((c.tc : Thread Cert.InProjBwd0RefIdeal.nD Cert.InProjBwd0RefIdeal.τ).loc Cert.InProjBwd0RefIdeal.main_arg4)
          ∧ r.2.mem ((c.tc : Thread Cert.InProjBwd0RefIdeal.nD Cert.InProjBwd0RefIdeal.τ).loc Cert.InProjBwd0RefIdeal.main_arg5) = m' ((c.tc : Thread Cert.InProjBwd0RefIdeal.nD Cert.InProjBwd0RefIdeal.τ).loc Cert.InProjBwd0RefIdeal.main_arg5)
          ∧ r.2.mem ((c.tc : Thread Cert.InProjBwd0RefIdeal.nD Cert.InProjBwd0RefIdeal.τ).loc Cert.InProjBwd0RefIdeal.main_arg6) = m' ((c.tc : Thread Cert.InProjBwd0RefIdeal.nD Cert.InProjBwd0RefIdeal.τ).loc Cert.InProjBwd0RefIdeal.main_arg6)
          ∧ r.2.mem ((c.tc : Thread Cert.InProjBwd0RefIdeal.nD Cert.InProjBwd0RefIdeal.τ).loc Cert.InProjBwd0RefIdeal.main_arg7) = m' ((c.tc : Thread Cert.InProjBwd0RefIdeal.nD Cert.InProjBwd0RefIdeal.τ).loc Cert.InProjBwd0RefIdeal.main_arg7)
          ∧ r.2.mem ((c.tc : Thread Cert.InProjBwd0RefIdeal.nD Cert.InProjBwd0RefIdeal.τ).loc Cert.InProjBwd0RefIdeal.main_arg8) = m' ((c.tc : Thread Cert.InProjBwd0RefIdeal.nD Cert.InProjBwd0RefIdeal.τ).loc Cert.InProjBwd0RefIdeal.main_arg8)
          ∧ r.2.mem ((c.tc : Thread Cert.InProjBwd0RefIdeal.nD Cert.InProjBwd0RefIdeal.τ).loc Cert.InProjBwd0RefIdeal.main_arg9) = m' ((c.tc : Thread Cert.InProjBwd0RefIdeal.nD Cert.InProjBwd0RefIdeal.τ).loc Cert.InProjBwd0RefIdeal.main_arg9)
          ∧ r.2.mem ((c.tc : Thread Cert.InProjBwd0RefIdeal.nD Cert.InProjBwd0RefIdeal.τ).loc Cert.InProjBwd0RefIdeal.main_arg10) = m' ((c.tc : Thread Cert.InProjBwd0RefIdeal.nD Cert.InProjBwd0RefIdeal.τ).loc Cert.InProjBwd0RefIdeal.main_arg10)
          ∧ r.2.mem ((c.tc : Thread Cert.InProjBwd0RefIdeal.nD Cert.InProjBwd0RefIdeal.τ).loc Cert.InProjBwd0RefIdeal.main_arg11) = m' ((c.tc : Thread Cert.InProjBwd0RefIdeal.nD Cert.InProjBwd0RefIdeal.τ).loc Cert.InProjBwd0RefIdeal.main_arg11))

def preserves_MlpBwd0_MlpBwd0Ideal : Prop :=
  True

def algebraic_MlpBwd0Ideal_MlpBwd0RefIdeal_pre_finite [hMlpBwd0Ideal : Cert.MlpBwd0Ideal.Facts] [hMlpBwd0RefIdeal : Cert.MlpBwd0RefIdeal.Facts] [hPre_finite : Cert.Pre_finite.Facts] : Prop :=
  ∀ (m : (ℓ : Loc Cert.MlpBwd0Ideal.nD Cert.MlpBwd0Ideal.τ Cert.MlpBwd0Ideal.sig) → Buf (Elt Ideal) ℓ) (g : Dev Cert.MlpBwd0Ideal.nD → PrngReg)
    (m' : (ℓ : Loc Cert.MlpBwd0RefIdeal.nD Cert.MlpBwd0RefIdeal.τ Cert.MlpBwd0RefIdeal.sig) → Buf (Elt Ideal) ℓ) (g' : Dev Cert.MlpBwd0RefIdeal.nD → PrngReg), Pre_MlpBwd0Ideal_finite m →
    (∀ c : Dev Cert.MlpBwd0Ideal.nD,
      m' ((c.tc : Thread Cert.MlpBwd0RefIdeal.nD Cert.MlpBwd0RefIdeal.τ).loc Cert.MlpBwd0RefIdeal.main_arg0) = m ((c.tc : Thread Cert.MlpBwd0Ideal.nD Cert.MlpBwd0Ideal.τ).loc Cert.MlpBwd0Ideal.main_arg0)
      ∧ m' ((c.tc : Thread Cert.MlpBwd0RefIdeal.nD Cert.MlpBwd0RefIdeal.τ).loc Cert.MlpBwd0RefIdeal.main_arg1) = m ((c.tc : Thread Cert.MlpBwd0Ideal.nD Cert.MlpBwd0Ideal.τ).loc Cert.MlpBwd0Ideal.main_arg1)
      ∧ m' ((c.tc : Thread Cert.MlpBwd0RefIdeal.nD Cert.MlpBwd0RefIdeal.τ).loc Cert.MlpBwd0RefIdeal.main_arg2) = m ((c.tc : Thread Cert.MlpBwd0Ideal.nD Cert.MlpBwd0Ideal.τ).loc Cert.MlpBwd0Ideal.main_arg2)
      ∧ m' ((c.tc : Thread Cert.MlpBwd0RefIdeal.nD Cert.MlpBwd0RefIdeal.τ).loc Cert.MlpBwd0RefIdeal.main_arg3) = m ((c.tc : Thread Cert.MlpBwd0Ideal.nD Cert.MlpBwd0Ideal.τ).loc Cert.MlpBwd0Ideal.main_arg3)
      ∧ m' ((c.tc : Thread Cert.MlpBwd0RefIdeal.nD Cert.MlpBwd0RefIdeal.τ).loc Cert.MlpBwd0RefIdeal.main_arg4) = m ((c.tc : Thread Cert.MlpBwd0Ideal.nD Cert.MlpBwd0Ideal.τ).loc Cert.MlpBwd0Ideal.main_arg4)
      ∧ m' ((c.tc : Thread Cert.MlpBwd0RefIdeal.nD Cert.MlpBwd0RefIdeal.τ).loc Cert.MlpBwd0RefIdeal.main_arg5) = m ((c.tc : Thread Cert.MlpBwd0Ideal.nD Cert.MlpBwd0Ideal.τ).loc Cert.MlpBwd0Ideal.main_arg5)) →
    ∃ (v0 : (c : Dev Cert.MlpBwd0Ideal.nD) → Buf (Elt Ideal) ((c.tc : Thread Cert.MlpBwd0Ideal.nD Cert.MlpBwd0Ideal.τ).loc Cert.MlpBwd0Ideal.main_v22_0)) (v1 : (c : Dev Cert.MlpBwd0Ideal.nD) → Buf (Elt Ideal) ((c.tc : Thread Cert.MlpBwd0Ideal.nD Cert.MlpBwd0Ideal.τ).loc Cert.MlpBwd0Ideal.main_v22_1)) (v2 : (c : Dev Cert.MlpBwd0Ideal.nD) → Buf (Elt Ideal) ((c.tc : Thread Cert.MlpBwd0Ideal.nD Cert.MlpBwd0Ideal.τ).loc Cert.MlpBwd0Ideal.main_v22_2)) (v3 : (c : Dev Cert.MlpBwd0Ideal.nD) → Buf (Elt Ideal) ((c.tc : Thread Cert.MlpBwd0Ideal.nD Cert.MlpBwd0Ideal.τ).loc Cert.MlpBwd0Ideal.main_v22_3)),
      θ_run (Cert.MlpBwd0Ideal.defs (F := Ideal)) (onTc (τ := Cert.MlpBwd0Ideal.τ) (Cert.MlpBwd0Ideal.main (F := Ideal))) ⟨m, fun _ => 0, g⟩ (fun r => ∀ c : Dev Cert.MlpBwd0Ideal.nD,
          r.2.mem ((c.tc : Thread Cert.MlpBwd0Ideal.nD Cert.MlpBwd0Ideal.τ).loc Cert.MlpBwd0Ideal.main_v22_0) = v0 c
          ∧ r.2.mem ((c.tc : Thread Cert.MlpBwd0Ideal.nD Cert.MlpBwd0Ideal.τ).loc Cert.MlpBwd0Ideal.main_v22_1) = v1 c
          ∧ r.2.mem ((c.tc : Thread Cert.MlpBwd0Ideal.nD Cert.MlpBwd0Ideal.τ).loc Cert.MlpBwd0Ideal.main_v22_2) = v2 c
          ∧ r.2.mem ((c.tc : Thread Cert.MlpBwd0Ideal.nD Cert.MlpBwd0Ideal.τ).loc Cert.MlpBwd0Ideal.main_v22_3) = v3 c
          ∧ r.2.mem ((c.tc : Thread Cert.MlpBwd0Ideal.nD Cert.MlpBwd0Ideal.τ).loc Cert.MlpBwd0Ideal.main_arg0) = m ((c.tc : Thread Cert.MlpBwd0Ideal.nD Cert.MlpBwd0Ideal.τ).loc Cert.MlpBwd0Ideal.main_arg0)
          ∧ r.2.mem ((c.tc : Thread Cert.MlpBwd0Ideal.nD Cert.MlpBwd0Ideal.τ).loc Cert.MlpBwd0Ideal.main_arg1) = m ((c.tc : Thread Cert.MlpBwd0Ideal.nD Cert.MlpBwd0Ideal.τ).loc Cert.MlpBwd0Ideal.main_arg1)
          ∧ r.2.mem ((c.tc : Thread Cert.MlpBwd0Ideal.nD Cert.MlpBwd0Ideal.τ).loc Cert.MlpBwd0Ideal.main_arg2) = m ((c.tc : Thread Cert.MlpBwd0Ideal.nD Cert.MlpBwd0Ideal.τ).loc Cert.MlpBwd0Ideal.main_arg2)
          ∧ r.2.mem ((c.tc : Thread Cert.MlpBwd0Ideal.nD Cert.MlpBwd0Ideal.τ).loc Cert.MlpBwd0Ideal.main_arg3) = m ((c.tc : Thread Cert.MlpBwd0Ideal.nD Cert.MlpBwd0Ideal.τ).loc Cert.MlpBwd0Ideal.main_arg3)
          ∧ r.2.mem ((c.tc : Thread Cert.MlpBwd0Ideal.nD Cert.MlpBwd0Ideal.τ).loc Cert.MlpBwd0Ideal.main_arg4) = m ((c.tc : Thread Cert.MlpBwd0Ideal.nD Cert.MlpBwd0Ideal.τ).loc Cert.MlpBwd0Ideal.main_arg4)
          ∧ r.2.mem ((c.tc : Thread Cert.MlpBwd0Ideal.nD Cert.MlpBwd0Ideal.τ).loc Cert.MlpBwd0Ideal.main_arg5) = m ((c.tc : Thread Cert.MlpBwd0Ideal.nD Cert.MlpBwd0Ideal.τ).loc Cert.MlpBwd0Ideal.main_arg5))
      ∧ θ_run (Cert.MlpBwd0RefIdeal.defs (F := Ideal)) (onTc (τ := Cert.MlpBwd0RefIdeal.τ) (Cert.MlpBwd0RefIdeal.main (F := Ideal))) ⟨m', fun _ => 0, g'⟩ (fun r => ∀ c : Dev Cert.MlpBwd0RefIdeal.nD,
          r.2.mem ((c.tc : Thread Cert.MlpBwd0RefIdeal.nD Cert.MlpBwd0RefIdeal.τ).loc Cert.MlpBwd0RefIdeal.main_v65) = v0 c
          ∧ r.2.mem ((c.tc : Thread Cert.MlpBwd0RefIdeal.nD Cert.MlpBwd0RefIdeal.τ).loc Cert.MlpBwd0RefIdeal.main_v58) = v1 c
          ∧ r.2.mem ((c.tc : Thread Cert.MlpBwd0RefIdeal.nD Cert.MlpBwd0RefIdeal.τ).loc Cert.MlpBwd0RefIdeal.main_v64) = v2 c
          ∧ r.2.mem ((c.tc : Thread Cert.MlpBwd0RefIdeal.nD Cert.MlpBwd0RefIdeal.τ).loc Cert.MlpBwd0RefIdeal.main_v66) = v3 c
          ∧ r.2.mem ((c.tc : Thread Cert.MlpBwd0RefIdeal.nD Cert.MlpBwd0RefIdeal.τ).loc Cert.MlpBwd0RefIdeal.main_arg0) = m' ((c.tc : Thread Cert.MlpBwd0RefIdeal.nD Cert.MlpBwd0RefIdeal.τ).loc Cert.MlpBwd0RefIdeal.main_arg0)
          ∧ r.2.mem ((c.tc : Thread Cert.MlpBwd0RefIdeal.nD Cert.MlpBwd0RefIdeal.τ).loc Cert.MlpBwd0RefIdeal.main_arg1) = m' ((c.tc : Thread Cert.MlpBwd0RefIdeal.nD Cert.MlpBwd0RefIdeal.τ).loc Cert.MlpBwd0RefIdeal.main_arg1)
          ∧ r.2.mem ((c.tc : Thread Cert.MlpBwd0RefIdeal.nD Cert.MlpBwd0RefIdeal.τ).loc Cert.MlpBwd0RefIdeal.main_arg2) = m' ((c.tc : Thread Cert.MlpBwd0RefIdeal.nD Cert.MlpBwd0RefIdeal.τ).loc Cert.MlpBwd0RefIdeal.main_arg2)
          ∧ r.2.mem ((c.tc : Thread Cert.MlpBwd0RefIdeal.nD Cert.MlpBwd0RefIdeal.τ).loc Cert.MlpBwd0RefIdeal.main_arg3) = m' ((c.tc : Thread Cert.MlpBwd0RefIdeal.nD Cert.MlpBwd0RefIdeal.τ).loc Cert.MlpBwd0RefIdeal.main_arg3)
          ∧ r.2.mem ((c.tc : Thread Cert.MlpBwd0RefIdeal.nD Cert.MlpBwd0RefIdeal.τ).loc Cert.MlpBwd0RefIdeal.main_arg4) = m' ((c.tc : Thread Cert.MlpBwd0RefIdeal.nD Cert.MlpBwd0RefIdeal.τ).loc Cert.MlpBwd0RefIdeal.main_arg4)
          ∧ r.2.mem ((c.tc : Thread Cert.MlpBwd0RefIdeal.nD Cert.MlpBwd0RefIdeal.τ).loc Cert.MlpBwd0RefIdeal.main_arg5) = m' ((c.tc : Thread Cert.MlpBwd0RefIdeal.nD Cert.MlpBwd0RefIdeal.τ).loc Cert.MlpBwd0RefIdeal.main_arg5))

def preserves_AdamwGu_AdamwGuIdeal : Prop :=
  True

def algebraic_AdamwGuIdeal_AdamwGuRefIdeal [hAdamwGuIdeal : Cert.AdamwGuIdeal.Facts] [hAdamwGuRefIdeal : Cert.AdamwGuRefIdeal.Facts] : Prop :=
  ∀ (m : (ℓ : Loc Cert.AdamwGuIdeal.nD Cert.AdamwGuIdeal.τ Cert.AdamwGuIdeal.sig) → Buf (Elt Ideal) ℓ) (g : Dev Cert.AdamwGuIdeal.nD → PrngReg)
    (m' : (ℓ : Loc Cert.AdamwGuRefIdeal.nD Cert.AdamwGuRefIdeal.τ Cert.AdamwGuRefIdeal.sig) → Buf (Elt Ideal) ℓ) (g' : Dev Cert.AdamwGuRefIdeal.nD → PrngReg), Pre_AdamwGuIdeal m →
    (∀ c : Dev Cert.AdamwGuIdeal.nD,
      m' ((c.tc : Thread Cert.AdamwGuRefIdeal.nD Cert.AdamwGuRefIdeal.τ).loc Cert.AdamwGuRefIdeal.main_arg0) = m ((c.tc : Thread Cert.AdamwGuIdeal.nD Cert.AdamwGuIdeal.τ).loc Cert.AdamwGuIdeal.main_arg0)
      ∧ m' ((c.tc : Thread Cert.AdamwGuRefIdeal.nD Cert.AdamwGuRefIdeal.τ).loc Cert.AdamwGuRefIdeal.main_arg1) = m ((c.tc : Thread Cert.AdamwGuIdeal.nD Cert.AdamwGuIdeal.τ).loc Cert.AdamwGuIdeal.main_arg1)
      ∧ m' ((c.tc : Thread Cert.AdamwGuRefIdeal.nD Cert.AdamwGuRefIdeal.τ).loc Cert.AdamwGuRefIdeal.main_arg2) = m ((c.tc : Thread Cert.AdamwGuIdeal.nD Cert.AdamwGuIdeal.τ).loc Cert.AdamwGuIdeal.main_arg2)
      ∧ m' ((c.tc : Thread Cert.AdamwGuRefIdeal.nD Cert.AdamwGuRefIdeal.τ).loc Cert.AdamwGuRefIdeal.main_arg3) = m ((c.tc : Thread Cert.AdamwGuIdeal.nD Cert.AdamwGuIdeal.τ).loc Cert.AdamwGuIdeal.main_arg3)
      ∧ m' ((c.tc : Thread Cert.AdamwGuRefIdeal.nD Cert.AdamwGuRefIdeal.τ).loc Cert.AdamwGuRefIdeal.main_arg4) = m ((c.tc : Thread Cert.AdamwGuIdeal.nD Cert.AdamwGuIdeal.τ).loc Cert.AdamwGuIdeal.main_arg4)) →
    ∃ (v0 : (c : Dev Cert.AdamwGuIdeal.nD) → Buf (Elt Ideal) ((c.tc : Thread Cert.AdamwGuIdeal.nD Cert.AdamwGuIdeal.τ).loc Cert.AdamwGuIdeal.main_v0_0)) (v1 : (c : Dev Cert.AdamwGuIdeal.nD) → Buf (Elt Ideal) ((c.tc : Thread Cert.AdamwGuIdeal.nD Cert.AdamwGuIdeal.τ).loc Cert.AdamwGuIdeal.main_v0_1)) (v2 : (c : Dev Cert.AdamwGuIdeal.nD) → Buf (Elt Ideal) ((c.tc : Thread Cert.AdamwGuIdeal.nD Cert.AdamwGuIdeal.τ).loc Cert.AdamwGuIdeal.main_v0_2)) (v3 : (c : Dev Cert.AdamwGuIdeal.nD) → Buf (Elt Ideal) ((c.tc : Thread Cert.AdamwGuIdeal.nD Cert.AdamwGuIdeal.τ).loc Cert.AdamwGuIdeal.main_v0_3)),
      θ_run (Cert.AdamwGuIdeal.defs (F := Ideal)) (onTc (τ := Cert.AdamwGuIdeal.τ) (Cert.AdamwGuIdeal.main (F := Ideal))) ⟨m, fun _ => 0, g⟩ (fun r => ∀ c : Dev Cert.AdamwGuIdeal.nD,
          r.2.mem ((c.tc : Thread Cert.AdamwGuIdeal.nD Cert.AdamwGuIdeal.τ).loc Cert.AdamwGuIdeal.main_v0_0) = v0 c
          ∧ r.2.mem ((c.tc : Thread Cert.AdamwGuIdeal.nD Cert.AdamwGuIdeal.τ).loc Cert.AdamwGuIdeal.main_v0_1) = v1 c
          ∧ r.2.mem ((c.tc : Thread Cert.AdamwGuIdeal.nD Cert.AdamwGuIdeal.τ).loc Cert.AdamwGuIdeal.main_v0_2) = v2 c
          ∧ r.2.mem ((c.tc : Thread Cert.AdamwGuIdeal.nD Cert.AdamwGuIdeal.τ).loc Cert.AdamwGuIdeal.main_v0_3) = v3 c
          ∧ r.2.mem ((c.tc : Thread Cert.AdamwGuIdeal.nD Cert.AdamwGuIdeal.τ).loc Cert.AdamwGuIdeal.main_arg0) = m ((c.tc : Thread Cert.AdamwGuIdeal.nD Cert.AdamwGuIdeal.τ).loc Cert.AdamwGuIdeal.main_arg0)
          ∧ r.2.mem ((c.tc : Thread Cert.AdamwGuIdeal.nD Cert.AdamwGuIdeal.τ).loc Cert.AdamwGuIdeal.main_arg1) = m ((c.tc : Thread Cert.AdamwGuIdeal.nD Cert.AdamwGuIdeal.τ).loc Cert.AdamwGuIdeal.main_arg1)
          ∧ r.2.mem ((c.tc : Thread Cert.AdamwGuIdeal.nD Cert.AdamwGuIdeal.τ).loc Cert.AdamwGuIdeal.main_arg2) = m ((c.tc : Thread Cert.AdamwGuIdeal.nD Cert.AdamwGuIdeal.τ).loc Cert.AdamwGuIdeal.main_arg2)
          ∧ r.2.mem ((c.tc : Thread Cert.AdamwGuIdeal.nD Cert.AdamwGuIdeal.τ).loc Cert.AdamwGuIdeal.main_arg3) = m ((c.tc : Thread Cert.AdamwGuIdeal.nD Cert.AdamwGuIdeal.τ).loc Cert.AdamwGuIdeal.main_arg3)
          ∧ r.2.mem ((c.tc : Thread Cert.AdamwGuIdeal.nD Cert.AdamwGuIdeal.τ).loc Cert.AdamwGuIdeal.main_arg4) = m ((c.tc : Thread Cert.AdamwGuIdeal.nD Cert.AdamwGuIdeal.τ).loc Cert.AdamwGuIdeal.main_arg4))
      ∧ θ_run (Cert.AdamwGuRefIdeal.defs (F := Ideal)) (onTc (τ := Cert.AdamwGuRefIdeal.τ) (Cert.AdamwGuRefIdeal.main (F := Ideal))) ⟨m', fun _ => 0, g'⟩ (fun r => ∀ c : Dev Cert.AdamwGuRefIdeal.nD,
          r.2.mem ((c.tc : Thread Cert.AdamwGuRefIdeal.nD Cert.AdamwGuRefIdeal.τ).loc Cert.AdamwGuRefIdeal.main_v6) = v0 c
          ∧ r.2.mem ((c.tc : Thread Cert.AdamwGuRefIdeal.nD Cert.AdamwGuRefIdeal.τ).loc Cert.AdamwGuRefIdeal.main_v30) = v1 c
          ∧ r.2.mem ((c.tc : Thread Cert.AdamwGuRefIdeal.nD Cert.AdamwGuRefIdeal.τ).loc Cert.AdamwGuRefIdeal.main_v11) = v2 c
          ∧ r.2.mem ((c.tc : Thread Cert.AdamwGuRefIdeal.nD Cert.AdamwGuRefIdeal.τ).loc Cert.AdamwGuRefIdeal.main_v17) = v3 c
          ∧ r.2.mem ((c.tc : Thread Cert.AdamwGuRefIdeal.nD Cert.AdamwGuRefIdeal.τ).loc Cert.AdamwGuRefIdeal.main_arg0) = m' ((c.tc : Thread Cert.AdamwGuRefIdeal.nD Cert.AdamwGuRefIdeal.τ).loc Cert.AdamwGuRefIdeal.main_arg0)
          ∧ r.2.mem ((c.tc : Thread Cert.AdamwGuRefIdeal.nD Cert.AdamwGuRefIdeal.τ).loc Cert.AdamwGuRefIdeal.main_arg1) = m' ((c.tc : Thread Cert.AdamwGuRefIdeal.nD Cert.AdamwGuRefIdeal.τ).loc Cert.AdamwGuRefIdeal.main_arg1)
          ∧ r.2.mem ((c.tc : Thread Cert.AdamwGuRefIdeal.nD Cert.AdamwGuRefIdeal.τ).loc Cert.AdamwGuRefIdeal.main_arg2) = m' ((c.tc : Thread Cert.AdamwGuRefIdeal.nD Cert.AdamwGuRefIdeal.τ).loc Cert.AdamwGuRefIdeal.main_arg2)
          ∧ r.2.mem ((c.tc : Thread Cert.AdamwGuRefIdeal.nD Cert.AdamwGuRefIdeal.τ).loc Cert.AdamwGuRefIdeal.main_arg3) = m' ((c.tc : Thread Cert.AdamwGuRefIdeal.nD Cert.AdamwGuRefIdeal.τ).loc Cert.AdamwGuRefIdeal.main_arg3)
          ∧ r.2.mem ((c.tc : Thread Cert.AdamwGuRefIdeal.nD Cert.AdamwGuRefIdeal.τ).loc Cert.AdamwGuRefIdeal.main_arg4) = m' ((c.tc : Thread Cert.AdamwGuRefIdeal.nD Cert.AdamwGuRefIdeal.τ).loc Cert.AdamwGuRefIdeal.main_arg4))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)
      ∧ m' ((c.tc : Thread Cert.AdamwOutRefIdeal.nD Cert.AdamwOutRefIdeal.τ).loc Cert.AdamwOutRefIdeal.main_arg4) = m ((c.tc : Thread Cert.AdamwOutIdeal.nD Cert.AdamwOutIdeal.τ).loc Cert.AdamwOutIdeal.main_arg4)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
          ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v6) = v0 c
          ∧ r.2.mem ((c.tc : Thread Cert.AdamwOutRefIdeal.nD Cert.AdamwOutRefIdeal.τ).loc Cert.AdamwOutRefIdeal.main_v30) = v1 c
          ∧ r.2.mem ((c.tc : Thread Cert.AdamwOutRefIdeal.nD Cert.AdamwOutRefIdeal.τ).loc Cert.AdamwOutRefIdeal.main_v11) = v2 c
          ∧ r.2.mem ((c.tc : Thread Cert.AdamwOutRefIdeal.nD Cert.AdamwOutRefIdeal.τ).loc Cert.AdamwOutRefIdeal.main_v17) = v3 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3)
          ∧ r.2.mem ((c.tc : Thread Cert.AdamwOutRefIdeal.nD Cert.AdamwOutRefIdeal.τ).loc Cert.AdamwOutRefIdeal.main_arg4) = m' ((c.tc : Thread Cert.AdamwOutRefIdeal.nD Cert.AdamwOutRefIdeal.τ).loc Cert.AdamwOutRefIdeal.main_arg4))

def preserves_AdamwDown_AdamwDownIdeal : Prop :=
  True

def algebraic_AdamwDownIdeal_AdamwDownRefIdeal [hAdamwDownIdeal : Cert.AdamwDownIdeal.Facts] [hAdamwDownRefIdeal : Cert.AdamwDownRefIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwDownRefIdeal.nD Cert.AdamwDownRefIdeal.τ Cert.AdamwDownRefIdeal.sig) → Buf (Elt Ideal) ℓ) (g' : Dev Cert.AdamwDownRefIdeal.nD → PrngReg), Pre_AdamwDownIdeal m →
    (∀ c : Dev Cert.AdamwDownIdeal.nD,
      m' ((c.tc : Thread Cert.AdamwDownRefIdeal.nD Cert.AdamwDownRefIdeal.τ).loc Cert.AdamwDownRefIdeal.main_arg0) = m ((c.tc : Thread Cert.AdamwDownIdeal.nD Cert.AdamwDownIdeal.τ).loc Cert.AdamwDownIdeal.main_arg0)
      ∧ m' ((c.tc : Thread Cert.AdamwDownRefIdeal.nD Cert.AdamwDownRefIdeal.τ).loc Cert.AdamwDownRefIdeal.main_arg1) = m ((c.tc : Thread Cert.AdamwDownIdeal.nD Cert.AdamwDownIdeal.τ).loc Cert.AdamwDownIdeal.main_arg1)
      ∧ m' ((c.tc : Thread Cert.AdamwDownRefIdeal.nD Cert.AdamwDownRefIdeal.τ).loc Cert.AdamwDownRefIdeal.main_arg2) = m ((c.tc : Thread Cert.AdamwDownIdeal.nD Cert.AdamwDownIdeal.τ).loc Cert.AdamwDownIdeal.main_arg2)
      ∧ m' ((c.tc : Thread Cert.AdamwDownRefIdeal.nD Cert.AdamwDownRefIdeal.τ).loc Cert.AdamwDownRefIdeal.main_arg3) = m ((c.tc : Thread Cert.AdamwDownIdeal.nD Cert.AdamwDownIdeal.τ).loc Cert.AdamwDownIdeal.main_arg3)
      ∧ m' ((c.tc : Thread Cert.AdamwDownRefIdeal.nD Cert.AdamwDownRefIdeal.τ).loc Cert.AdamwDownRefIdeal.main_arg4) = m ((c.tc : Thread Cert.AdamwDownIdeal.nD Cert.AdamwDownIdeal.τ).loc Cert.AdamwDownIdeal.main_arg4)) →
    ∃ (v0 : (c : Dev Cert.AdamwDownIdeal.nD) → Buf (Elt Ideal) ((c.tc : Thread Cert.AdamwDownIdeal.nD Cert.AdamwDownIdeal.τ).loc Cert.AdamwDownIdeal.main_v0_0)) (v1 : (c : Dev Cert.AdamwDownIdeal.nD) → Buf (Elt Ideal) ((c.tc : Thread Cert.AdamwDownIdeal.nD Cert.AdamwDownIdeal.τ).loc Cert.AdamwDownIdeal.main_v0_1)) (v2 : (c : Dev Cert.AdamwDownIdeal.nD) → Buf (Elt Ideal) ((c.tc : Thread Cert.AdamwDownIdeal.nD Cert.AdamwDownIdeal.τ).loc Cert.AdamwDownIdeal.main_v0_2)) (v3 : (c : Dev Cert.AdamwDownIdeal.nD) → Buf (Elt Ideal) ((c.tc : Thread Cert.AdamwDownIdeal.nD Cert.AdamwDownIdeal.τ).loc Cert.AdamwDownIdeal.main_v0_3)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v0_0) = v0 c
          ∧ r.2.mem ((c.tc : Thread Cert.AdamwDownIdeal.nD Cert.AdamwDownIdeal.τ).loc Cert.AdamwDownIdeal.main_v0_1) = v1 c
          ∧ r.2.mem ((c.tc : Thread Cert.AdamwDownIdeal.nD Cert.AdamwDownIdeal.τ).loc Cert.AdamwDownIdeal.main_v0_2) = v2 c
          ∧ r.2.mem ((c.tc : Thread Cert.AdamwDownIdeal.nD Cert.AdamwDownIdeal.τ).loc Cert.AdamwDownIdeal.main_v0_3) = v3 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3)
          ∧ r.2.mem ((c.tc : Thread Cert.AdamwDownIdeal.nD Cert.AdamwDownIdeal.τ).loc Cert.AdamwDownIdeal.main_arg4) = m ((c.tc : Thread Cert.AdamwDownIdeal.nD Cert.AdamwDownIdeal.τ).loc Cert.AdamwDownIdeal.main_arg4))
      ∧ θ_run (Cert.AdamwDownRefIdeal.defs (F := Ideal)) (onTc (τ := Cert.AdamwDownRefIdeal.τ) (Cert.AdamwDownRefIdeal.main (F := Ideal))) ⟨m', fun _ => 0, g'⟩ (fun r => ∀ c : Dev Cert.AdamwDownRefIdeal.nD,
          r.2.mem ((c.tc : Thread Cert.AdamwDownRefIdeal.nD Cert.AdamwDownRefIdeal.τ).loc Cert.AdamwDownRefIdeal.main_v6) = v0 c
          ∧ r.2.mem ((c.tc : Thread Cert.AdamwDownRefIdeal.nD Cert.AdamwDownRefIdeal.τ).loc Cert.AdamwDownRefIdeal.main_v30) = v1 c
          ∧ r.2.mem ((c.tc : Thread Cert.AdamwDownRefIdeal.nD Cert.AdamwDownRefIdeal.τ).loc Cert.AdamwDownRefIdeal.main_v11) = v2 c
          ∧ r.2.mem ((c.tc : Thread Cert.AdamwDownRefIdeal.nD Cert.AdamwDownRefIdeal.τ).loc Cert.AdamwDownRefIdeal.main_v17) = v3 c
          ∧ r.2.mem ((c.tc : Thread Cert.AdamwDownRefIdeal.nD Cert.AdamwDownRefIdeal.τ).loc Cert.AdamwDownRefIdeal.main_arg0) = m' ((c.tc : Thread Cert.AdamwDownRefIdeal.nD Cert.AdamwDownRefIdeal.τ).loc Cert.AdamwDownRefIdeal.main_arg0)
          ∧ r.2.mem ((c.tc : Thread Cert.AdamwDownRefIdeal.nD Cert.AdamwDownRefIdeal.τ).loc Cert.AdamwDownRefIdeal.main_arg1) = m' ((c.tc : Thread Cert.AdamwDownRefIdeal.nD Cert.AdamwDownRefIdeal.τ).loc Cert.AdamwDownRefIdeal.main_arg1)
          ∧ r.2.mem ((c.tc : Thread Cert.AdamwDownRefIdeal.nD Cert.AdamwDownRefIdeal.τ).loc Cert.AdamwDownRefIdeal.main_arg2) = m' ((c.tc : Thread Cert.AdamwDownRefIdeal.nD Cert.AdamwDownRefIdeal.τ).loc Cert.AdamwDownRefIdeal.main_arg2)
          ∧ r.2.mem ((c.tc : Thread Cert.AdamwDownRefIdeal.nD Cert.AdamwDownRefIdeal.τ).loc Cert.AdamwDownRefIdeal.main_arg3) = m' ((c.tc : Thread Cert.AdamwDownRefIdeal.nD Cert.AdamwDownRefIdeal.τ).loc Cert.AdamwDownRefIdeal.main_arg3)
          ∧ r.2.mem ((c.tc : Thread Cert.AdamwDownRefIdeal.nD Cert.AdamwDownRefIdeal.τ).loc Cert.AdamwDownRefIdeal.main_arg4) = m' ((c.tc : Thread Cert.AdamwDownRefIdeal.nD Cert.AdamwDownRefIdeal.τ).loc Cert.AdamwDownRefIdeal.main_arg4))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)
      ∧ m' ((c.tc : Thread Cert.AdamwInRefIdeal.nD Cert.AdamwInRefIdeal.τ).loc Cert.AdamwInRefIdeal.main_arg4) = m ((c.tc : Thread Cert.AdamwInIdeal.nD Cert.AdamwInIdeal.τ).loc Cert.AdamwInIdeal.main_arg4)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)) (v3 : (c : Dev Cert.AdamwInIdeal.nD) → Buf (Elt Ideal) ((c.tc : Thread Cert.AdamwInIdeal.nD Cert.AdamwInIdeal.τ).loc Cert.AdamwInIdeal.main_v0_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_v0_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
          ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v8) = v0 c
          ∧ r.2.mem ((c.tc : Thread Cert.AdamwInRefIdeal.nD Cert.AdamwInRefIdeal.τ).loc Cert.AdamwInRefIdeal.main_v32) = v1 c
          ∧ r.2.mem ((c.tc : Thread Cert.AdamwInRefIdeal.nD Cert.AdamwInRefIdeal.τ).loc Cert.AdamwInRefIdeal.main_v13) = v2 c
          ∧ r.2.mem ((c.tc : Thread Cert.AdamwInRefIdeal.nD Cert.AdamwInRefIdeal.τ).loc Cert.AdamwInRefIdeal.main_v19) = v3 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3)
          ∧ r.2.mem ((c.tc : Thread Cert.AdamwInRefIdeal.nD Cert.AdamwInRefIdeal.τ).loc Cert.AdamwInRefIdeal.main_arg4) = m' ((c.tc : Thread Cert.AdamwInRefIdeal.nD Cert.AdamwInRefIdeal.τ).loc Cert.AdamwInRefIdeal.main_arg4))

def preserves_AdamwShards_AdamwShardsIdeal : Prop :=
  True

def algebraic_AdamwShardsIdeal_AdamwShardsRefIdeal [hAdamwShardsIdeal : Cert.AdamwShardsIdeal.Facts] [hAdamwShardsRefIdeal : Cert.AdamwShardsRefIdeal.Facts] : Prop :=
  ∀ (m : (ℓ : Loc Cert.AdamwShardsIdeal.nD Cert.AdamwShardsIdeal.τ Cert.AdamwShardsIdeal.sig) → Buf (Elt Ideal) ℓ) (g : Dev Cert.AdamwShardsIdeal.nD → PrngReg)
    (m' : (ℓ : Loc Cert.AdamwShardsRefIdeal.nD Cert.AdamwShardsRefIdeal.τ Cert.AdamwShardsRefIdeal.sig) → Buf (Elt Ideal) ℓ) (g' : Dev Cert.AdamwShardsRefIdeal.nD → PrngReg), Pre_AdamwShardsIdeal m →
    (∀ c : Dev Cert.AdamwShardsIdeal.nD,
      m' ((c.tc : Thread Cert.AdamwShardsRefIdeal.nD Cert.AdamwShardsRefIdeal.τ).loc Cert.AdamwShardsRefIdeal.main_arg0) = m ((c.tc : Thread Cert.AdamwShardsIdeal.nD Cert.AdamwShardsIdeal.τ).loc Cert.AdamwShardsIdeal.main_arg0)
      ∧ m' ((c.tc : Thread Cert.AdamwShardsRefIdeal.nD Cert.AdamwShardsRefIdeal.τ).loc Cert.AdamwShardsRefIdeal.main_arg1) = m ((c.tc : Thread Cert.AdamwShardsIdeal.nD Cert.AdamwShardsIdeal.τ).loc Cert.AdamwShardsIdeal.main_arg1)
      ∧ m' ((c.tc : Thread Cert.AdamwShardsRefIdeal.nD Cert.AdamwShardsRefIdeal.τ).loc Cert.AdamwShardsRefIdeal.main_arg2) = m ((c.tc : Thread Cert.AdamwShardsIdeal.nD Cert.AdamwShardsIdeal.τ).loc Cert.AdamwShardsIdeal.main_arg2)
      ∧ m' ((c.tc : Thread Cert.AdamwShardsRefIdeal.nD Cert.AdamwShardsRefIdeal.τ).loc Cert.AdamwShardsRefIdeal.main_arg3) = m ((c.tc : Thread Cert.AdamwShardsIdeal.nD Cert.AdamwShardsIdeal.τ).loc Cert.AdamwShardsIdeal.main_arg3)
      ∧ m' ((c.tc : Thread Cert.AdamwShardsRefIdeal.nD Cert.AdamwShardsRefIdeal.τ).loc Cert.AdamwShardsRefIdeal.main_arg4) = m ((c.tc : Thread Cert.AdamwShardsIdeal.nD Cert.AdamwShardsIdeal.τ).loc Cert.AdamwShardsIdeal.main_arg4)
      ∧ m' ((c.tc : Thread Cert.AdamwShardsRefIdeal.nD Cert.AdamwShardsRefIdeal.τ).loc Cert.AdamwShardsRefIdeal.main_arg5) = m ((c.tc : Thread Cert.AdamwShardsIdeal.nD Cert.AdamwShardsIdeal.τ).loc Cert.AdamwShardsIdeal.main_arg5)
      ∧ m' ((c.tc : Thread Cert.AdamwShardsRefIdeal.nD Cert.AdamwShardsRefIdeal.τ).loc Cert.AdamwShardsRefIdeal.main_arg6) = m ((c.tc : Thread Cert.AdamwShardsIdeal.nD Cert.AdamwShardsIdeal.τ).loc Cert.AdamwShardsIdeal.main_arg6)
      ∧ m' ((c.tc : Thread Cert.AdamwShardsRefIdeal.nD Cert.AdamwShardsRefIdeal.τ).loc Cert.AdamwShardsRefIdeal.main_arg7) = m ((c.tc : Thread Cert.AdamwShardsIdeal.nD Cert.AdamwShardsIdeal.τ).loc Cert.AdamwShardsIdeal.main_arg7)
      ∧ m' ((c.tc : Thread Cert.AdamwShardsRefIdeal.nD Cert.AdamwShardsRefIdeal.τ).loc Cert.AdamwShardsRefIdeal.main_arg8) = m ((c.tc : Thread Cert.AdamwShardsIdeal.nD Cert.AdamwShardsIdeal.τ).loc Cert.AdamwShardsIdeal.main_arg8)
      ∧ m' ((c.tc : Thread Cert.AdamwShardsRefIdeal.nD Cert.AdamwShardsRefIdeal.τ).loc Cert.AdamwShardsRefIdeal.main_arg9) = m ((c.tc : Thread Cert.AdamwShardsIdeal.nD Cert.AdamwShardsIdeal.τ).loc Cert.AdamwShardsIdeal.main_arg9)
      ∧ m' ((c.tc : Thread Cert.AdamwShardsRefIdeal.nD Cert.AdamwShardsRefIdeal.τ).loc Cert.AdamwShardsRefIdeal.main_arg10) = m ((c.tc : Thread Cert.AdamwShardsIdeal.nD Cert.AdamwShardsIdeal.τ).loc Cert.AdamwShardsIdeal.main_arg10)
      ∧ m' ((c.tc : Thread Cert.AdamwShardsRefIdeal.nD Cert.AdamwShardsRefIdeal.τ).loc Cert.AdamwShardsRefIdeal.main_arg11) = m ((c.tc : Thread Cert.AdamwShardsIdeal.nD Cert.AdamwShardsIdeal.τ).loc Cert.AdamwShardsIdeal.main_arg11)) →
    ∃ (v0 : (c : Dev Cert.AdamwShardsIdeal.nD) → Buf (Elt Ideal) ((c.tc : Thread Cert.AdamwShardsIdeal.nD Cert.AdamwShardsIdeal.τ).loc Cert.AdamwShardsIdeal.main_v0_0)) (v1 : (c : Dev Cert.AdamwShardsIdeal.nD) → Buf (Elt Ideal) ((c.tc : Thread Cert.AdamwShardsIdeal.nD Cert.AdamwShardsIdeal.τ).loc Cert.AdamwShardsIdeal.main_v0_1)) (v2 : (c : Dev Cert.AdamwShardsIdeal.nD) → Buf (Elt Ideal) ((c.tc : Thread Cert.AdamwShardsIdeal.nD Cert.AdamwShardsIdeal.τ).loc Cert.AdamwShardsIdeal.main_v0_2)) (v3 : (c : Dev Cert.AdamwShardsIdeal.nD) → Buf (Elt Ideal) ((c.tc : Thread Cert.AdamwShardsIdeal.nD Cert.AdamwShardsIdeal.τ).loc Cert.AdamwShardsIdeal.main_v0_3)) (v4 : (c : Dev Cert.AdamwShardsIdeal.nD) → Buf (Elt Ideal) ((c.tc : Thread Cert.AdamwShardsIdeal.nD Cert.AdamwShardsIdeal.τ).loc Cert.AdamwShardsIdeal.main_v0_4)) (v5 : (c : Dev Cert.AdamwShardsIdeal.nD) → Buf (Elt Ideal) ((c.tc : Thread Cert.AdamwShardsIdeal.nD Cert.AdamwShardsIdeal.τ).loc Cert.AdamwShardsIdeal.main_v0_5)) (v6 : (c : Dev Cert.AdamwShardsIdeal.nD) → Buf (Elt Ideal) ((c.tc : Thread Cert.AdamwShardsIdeal.nD Cert.AdamwShardsIdeal.τ).loc Cert.AdamwShardsIdeal.main_v0_6)) (v7 : (c : Dev Cert.AdamwShardsIdeal.nD) → Buf (Elt Ideal) ((c.tc : Thread Cert.AdamwShardsIdeal.nD Cert.AdamwShardsIdeal.τ).loc Cert.AdamwShardsIdeal.main_v0_7)) (v8 : (c : Dev Cert.AdamwShardsIdeal.nD) → Buf (Elt Ideal) ((c.tc : Thread Cert.AdamwShardsIdeal.nD Cert.AdamwShardsIdeal.τ).loc Cert.AdamwShardsIdeal.main_v0_8)),
      θ_run (Cert.AdamwShardsIdeal.defs (F := Ideal)) (onTc (τ := Cert.AdamwShardsIdeal.τ) (Cert.AdamwShardsIdeal.main (F := Ideal))) ⟨m, fun _ => 0, g⟩ (fun r => ∀ c : Dev Cert.AdamwShardsIdeal.nD,
          r.2.mem ((c.tc : Thread Cert.AdamwShardsIdeal.nD Cert.AdamwShardsIdeal.τ).loc Cert.AdamwShardsIdeal.main_v0_0) = v0 c
          ∧ r.2.mem ((c.tc : Thread Cert.AdamwShardsIdeal.nD Cert.AdamwShardsIdeal.τ).loc Cert.AdamwShardsIdeal.main_v0_1) = v1 c
          ∧ r.2.mem ((c.tc : Thread Cert.AdamwShardsIdeal.nD Cert.AdamwShardsIdeal.τ).loc Cert.AdamwShardsIdeal.main_v0_2) = v2 c
          ∧ r.2.mem ((c.tc : Thread Cert.AdamwShardsIdeal.nD Cert.AdamwShardsIdeal.τ).loc Cert.AdamwShardsIdeal.main_v0_3) = v3 c
          ∧ r.2.mem ((c.tc : Thread Cert.AdamwShardsIdeal.nD Cert.AdamwShardsIdeal.τ).loc Cert.AdamwShardsIdeal.main_v0_4) = v4 c
          ∧ r.2.mem ((c.tc : Thread Cert.AdamwShardsIdeal.nD Cert.AdamwShardsIdeal.τ).loc Cert.AdamwShardsIdeal.main_v0_5) = v5 c
          ∧ r.2.mem ((c.tc : Thread Cert.AdamwShardsIdeal.nD Cert.AdamwShardsIdeal.τ).loc Cert.AdamwShardsIdeal.main_v0_6) = v6 c
          ∧ r.2.mem ((c.tc : Thread Cert.AdamwShardsIdeal.nD Cert.AdamwShardsIdeal.τ).loc Cert.AdamwShardsIdeal.main_v0_7) = v7 c
          ∧ r.2.mem ((c.tc : Thread Cert.AdamwShardsIdeal.nD Cert.AdamwShardsIdeal.τ).loc Cert.AdamwShardsIdeal.main_v0_8) = v8 c
          ∧ r.2.mem ((c.tc : Thread Cert.AdamwShardsIdeal.nD Cert.AdamwShardsIdeal.τ).loc Cert.AdamwShardsIdeal.main_arg0) = m ((c.tc : Thread Cert.AdamwShardsIdeal.nD Cert.AdamwShardsIdeal.τ).loc Cert.AdamwShardsIdeal.main_arg0)
          ∧ r.2.mem ((c.tc : Thread Cert.AdamwShardsIdeal.nD Cert.AdamwShardsIdeal.τ).loc Cert.AdamwShardsIdeal.main_arg1) = m ((c.tc : Thread Cert.AdamwShardsIdeal.nD Cert.AdamwShardsIdeal.τ).loc Cert.AdamwShardsIdeal.main_arg1)
          ∧ r.2.mem ((c.tc : Thread Cert.AdamwShardsIdeal.nD Cert.AdamwShardsIdeal.τ).loc Cert.AdamwShardsIdeal.main_arg2) = m ((c.tc : Thread Cert.AdamwShardsIdeal.nD Cert.AdamwShardsIdeal.τ).loc Cert.AdamwShardsIdeal.main_arg2)
          ∧ r.2.mem ((c.tc : Thread Cert.AdamwShardsIdeal.nD Cert.AdamwShardsIdeal.τ).loc Cert.AdamwShardsIdeal.main_arg3) = m ((c.tc : Thread Cert.AdamwShardsIdeal.nD Cert.AdamwShardsIdeal.τ).loc Cert.AdamwShardsIdeal.main_arg3)
          ∧ r.2.mem ((c.tc : Thread Cert.AdamwShardsIdeal.nD Cert.AdamwShardsIdeal.τ).loc Cert.AdamwShardsIdeal.main_arg4) = m ((c.tc : Thread Cert.AdamwShardsIdeal.nD Cert.AdamwShardsIdeal.τ).loc Cert.AdamwShardsIdeal.main_arg4)
          ∧ r.2.mem ((c.tc : Thread Cert.AdamwShardsIdeal.nD Cert.AdamwShardsIdeal.τ).loc Cert.AdamwShardsIdeal.main_arg5) = m ((c.tc : Thread Cert.AdamwShardsIdeal.nD Cert.AdamwShardsIdeal.τ).loc Cert.AdamwShardsIdeal.main_arg5)
          ∧ r.2.mem ((c.tc : Thread Cert.AdamwShardsIdeal.nD Cert.AdamwShardsIdeal.τ).loc Cert.AdamwShardsIdeal.main_arg6) = m ((c.tc : Thread Cert.AdamwShardsIdeal.nD Cert.AdamwShardsIdeal.τ).loc Cert.AdamwShardsIdeal.main_arg6)
          ∧ r.2.mem ((c.tc : Thread Cert.AdamwShardsIdeal.nD Cert.AdamwShardsIdeal.τ).loc Cert.AdamwShardsIdeal.main_arg7) = m ((c.tc : Thread Cert.AdamwShardsIdeal.nD Cert.AdamwShardsIdeal.τ).loc Cert.AdamwShardsIdeal.main_arg7)
          ∧ r.2.mem ((c.tc : Thread Cert.AdamwShardsIdeal.nD Cert.AdamwShardsIdeal.τ).loc Cert.AdamwShardsIdeal.main_arg8) = m ((c.tc : Thread Cert.AdamwShardsIdeal.nD Cert.AdamwShardsIdeal.τ).loc Cert.AdamwShardsIdeal.main_arg8)
          ∧ r.2.mem ((c.tc : Thread Cert.AdamwShardsIdeal.nD Cert.AdamwShardsIdeal.τ).loc Cert.AdamwShardsIdeal.main_arg9) = m ((c.tc : Thread Cert.AdamwShardsIdeal.nD Cert.AdamwShardsIdeal.τ).loc Cert.AdamwShardsIdeal.main_arg9)
          ∧ r.2.mem ((c.tc : Thread Cert.AdamwShardsIdeal.nD Cert.AdamwShardsIdeal.τ).loc Cert.AdamwShardsIdeal.main_arg10) = m ((c.tc : Thread Cert.AdamwShardsIdeal.nD Cert.AdamwShardsIdeal.τ).loc Cert.AdamwShardsIdeal.main_arg10)
          ∧ r.2.mem ((c.tc : Thread Cert.AdamwShardsIdeal.nD Cert.AdamwShardsIdeal.τ).loc Cert.AdamwShardsIdeal.main_arg11) = m ((c.tc : Thread Cert.AdamwShardsIdeal.nD Cert.AdamwShardsIdeal.τ).loc Cert.AdamwShardsIdeal.main_arg11))
      ∧ θ_run (Cert.AdamwShardsRefIdeal.defs (F := Ideal)) (onTc (τ := Cert.AdamwShardsRefIdeal.τ) (Cert.AdamwShardsRefIdeal.main (F := Ideal))) ⟨m', fun _ => 0, g'⟩ (fun r => ∀ c : Dev Cert.AdamwShardsRefIdeal.nD,
          r.2.mem ((c.tc : Thread Cert.AdamwShardsRefIdeal.nD Cert.AdamwShardsRefIdeal.τ).loc Cert.AdamwShardsRefIdeal.main_v23) = v0 c
          ∧ r.2.mem ((c.tc : Thread Cert.AdamwShardsRefIdeal.nD Cert.AdamwShardsRefIdeal.τ).loc Cert.AdamwShardsRefIdeal.main_v47) = v1 c
          ∧ r.2.mem ((c.tc : Thread Cert.AdamwShardsRefIdeal.nD Cert.AdamwShardsRefIdeal.τ).loc Cert.AdamwShardsRefIdeal.main_v71) = v2 c
          ∧ r.2.mem ((c.tc : Thread Cert.AdamwShardsRefIdeal.nD Cert.AdamwShardsRefIdeal.τ).loc Cert.AdamwShardsRefIdeal.main_v4) = v3 c
          ∧ r.2.mem ((c.tc : Thread Cert.AdamwShardsRefIdeal.nD Cert.AdamwShardsRefIdeal.τ).loc Cert.AdamwShardsRefIdeal.main_v28) = v4 c
          ∧ r.2.mem ((c.tc : Thread Cert.AdamwShardsRefIdeal.nD Cert.AdamwShardsRefIdeal.τ).loc Cert.AdamwShardsRefIdeal.main_v52) = v5 c
          ∧ r.2.mem ((c.tc : Thread Cert.AdamwShardsRefIdeal.nD Cert.AdamwShardsRefIdeal.τ).loc Cert.AdamwShardsRefIdeal.main_v10) = v6 c
          ∧ r.2.mem ((c.tc : Thread Cert.AdamwShardsRefIdeal.nD Cert.AdamwShardsRefIdeal.τ).loc Cert.AdamwShardsRefIdeal.main_v34) = v7 c
          ∧ r.2.mem ((c.tc : Thread Cert.AdamwShardsRefIdeal.nD Cert.AdamwShardsRefIdeal.τ).loc Cert.AdamwShardsRefIdeal.main_v58) = v8 c
          ∧ r.2.mem ((c.tc : Thread Cert.AdamwShardsRefIdeal.nD Cert.AdamwShardsRefIdeal.τ).loc Cert.AdamwShardsRefIdeal.main_arg0) = m' ((c.tc : Thread Cert.AdamwShardsRefIdeal.nD Cert.AdamwShardsRefIdeal.τ).loc Cert.AdamwShardsRefIdeal.main_arg0)
          ∧ r.2.mem ((c.tc : Thread Cert.AdamwShardsRefIdeal.nD Cert.AdamwShardsRefIdeal.τ).loc Cert.AdamwShardsRefIdeal.main_arg1) = m' ((c.tc : Thread Cert.AdamwShardsRefIdeal.nD Cert.AdamwShardsRefIdeal.τ).loc Cert.AdamwShardsRefIdeal.main_arg1)
          ∧ r.2.mem ((c.tc : Thread Cert.AdamwShardsRefIdeal.nD Cert.AdamwShardsRefIdeal.τ).loc Cert.AdamwShardsRefIdeal.main_arg2) = m' ((c.tc : Thread Cert.AdamwShardsRefIdeal.nD Cert.AdamwShardsRefIdeal.τ).loc Cert.AdamwShardsRefIdeal.main_arg2)
          ∧ r.2.mem ((c.tc : Thread Cert.AdamwShardsRefIdeal.nD Cert.AdamwShardsRefIdeal.τ).loc Cert.AdamwShardsRefIdeal.main_arg3) = m' ((c.tc : Thread Cert.AdamwShardsRefIdeal.nD Cert.AdamwShardsRefIdeal.τ).loc Cert.AdamwShardsRefIdeal.main_arg3)
          ∧ r.2.mem ((c.tc : Thread Cert.AdamwShardsRefIdeal.nD Cert.AdamwShardsRefIdeal.τ).loc Cert.AdamwShardsRefIdeal.main_arg4) = m' ((c.tc : Thread Cert.AdamwShardsRefIdeal.nD Cert.AdamwShardsRefIdeal.τ).loc Cert.AdamwShardsRefIdeal.main_arg4)
          ∧ r.2.mem ((c.tc : Thread Cert.AdamwShardsRefIdeal.nD Cert.AdamwShardsRefIdeal.τ).loc Cert.AdamwShardsRefIdeal.main_arg5) = m' ((c.tc : Thread Cert.AdamwShardsRefIdeal.nD Cert.AdamwShardsRefIdeal.τ).loc Cert.AdamwShardsRefIdeal.main_arg5)
          ∧ r.2.mem ((c.tc : Thread Cert.AdamwShardsRefIdeal.nD Cert.AdamwShardsRefIdeal.τ).loc Cert.AdamwShardsRefIdeal.main_arg6) = m' ((c.tc : Thread Cert.AdamwShardsRefIdeal.nD Cert.AdamwShardsRefIdeal.τ).loc Cert.AdamwShardsRefIdeal.main_arg6)
          ∧ r.2.mem ((c.tc : Thread Cert.AdamwShardsRefIdeal.nD Cert.AdamwShardsRefIdeal.τ).loc Cert.AdamwShardsRefIdeal.main_arg7) = m' ((c.tc : Thread Cert.AdamwShardsRefIdeal.nD Cert.AdamwShardsRefIdeal.τ).loc Cert.AdamwShardsRefIdeal.main_arg7)
          ∧ r.2.mem ((c.tc : Thread Cert.AdamwShardsRefIdeal.nD Cert.AdamwShardsRefIdeal.τ).loc Cert.AdamwShardsRefIdeal.main_arg8) = m' ((c.tc : Thread Cert.AdamwShardsRefIdeal.nD Cert.AdamwShardsRefIdeal.τ).loc Cert.AdamwShardsRefIdeal.main_arg8)
          ∧ r.2.mem ((c.tc : Thread Cert.AdamwShardsRefIdeal.nD Cert.AdamwShardsRefIdeal.τ).loc Cert.AdamwShardsRefIdeal.main_arg9) = m' ((c.tc : Thread Cert.AdamwShardsRefIdeal.nD Cert.AdamwShardsRefIdeal.τ).loc Cert.AdamwShardsRefIdeal.main_arg9)
          ∧ r.2.mem ((c.tc : Thread Cert.AdamwShardsRefIdeal.nD Cert.AdamwShardsRefIdeal.τ).loc Cert.AdamwShardsRefIdeal.main_arg10) = m' ((c.tc : Thread Cert.AdamwShardsRefIdeal.nD Cert.AdamwShardsRefIdeal.τ).loc Cert.AdamwShardsRefIdeal.main_arg10)
          ∧ r.2.mem ((c.tc : Thread Cert.AdamwShardsRefIdeal.nD Cert.AdamwShardsRefIdeal.τ).loc Cert.AdamwShardsRefIdeal.main_arg11) = m' ((c.tc : Thread Cert.AdamwShardsRefIdeal.nD Cert.AdamwShardsRefIdeal.τ).loc Cert.AdamwShardsRefIdeal.main_arg11))

def preserves_QkvBwd_QkvBwdIdeal : Prop :=
  True

def algebraic_QkvBwdIdeal_QkvBwdRefIdeal_pre_qkv_finite [hQkvBwdIdeal : Cert.QkvBwdIdeal.Facts] [hQkvBwdRefIdeal : Cert.QkvBwdRefIdeal.Facts] [hPre_qkv_finite : Cert.Pre_qkv_finite.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg)
    (m' : (ℓ : Loc Cert.QkvBwdRefIdeal.nD Cert.QkvBwdRefIdeal.τ Cert.QkvBwdRefIdeal.sig) → Buf (Elt Ideal) ℓ) (g' : Dev Cert.QkvBwdRefIdeal.nD → PrngReg), Pre_QkvBwdIdeal_qkv_finite m →
    (∀ c : Dev Cert.QkvBwdIdeal.nD,
      m' ((c.tc : Thread Cert.QkvBwdRefIdeal.nD Cert.QkvBwdRefIdeal.τ).loc Cert.QkvBwdRefIdeal.main_arg0) = m ((c.tc : Thread Cert.QkvBwdIdeal.nD Cert.QkvBwdIdeal.τ).loc Cert.QkvBwdIdeal.main_arg0)
      ∧ m' ((c.tc : Thread Cert.QkvBwdRefIdeal.nD Cert.QkvBwdRefIdeal.τ).loc Cert.QkvBwdRefIdeal.main_arg1) = m ((c.tc : Thread Cert.QkvBwdIdeal.nD Cert.QkvBwdIdeal.τ).loc Cert.QkvBwdIdeal.main_arg1)
      ∧ m' ((c.tc : Thread Cert.QkvBwdRefIdeal.nD Cert.QkvBwdRefIdeal.τ).loc Cert.QkvBwdRefIdeal.main_arg2) = m ((c.tc : Thread Cert.QkvBwdIdeal.nD Cert.QkvBwdIdeal.τ).loc Cert.QkvBwdIdeal.main_arg2)) →
    ∃ (v0 : (c : Dev Cert.QkvBwdIdeal.nD) → Buf (Elt Ideal) ((c.tc : Thread Cert.QkvBwdIdeal.nD Cert.QkvBwdIdeal.τ).loc Cert.QkvBwdIdeal.main_v0_0)) (v1 : (c : Dev Cert.QkvBwdIdeal.nD) → Buf (Elt Ideal) ((c.tc : Thread Cert.QkvBwdIdeal.nD Cert.QkvBwdIdeal.τ).loc Cert.QkvBwdIdeal.main_v0_1)),
      θ_run (Cert.QkvBwdIdeal.defs (F := Ideal)) (onTc (τ := Cert.QkvBwdIdeal.τ) (Cert.QkvBwdIdeal.main (F := Ideal))) ⟨m, fun _ => 0, g⟩ (fun r => ∀ c : Dev Cert.QkvBwdIdeal.nD,
          r.2.mem ((c.tc : Thread Cert.QkvBwdIdeal.nD Cert.QkvBwdIdeal.τ).loc Cert.QkvBwdIdeal.main_v0_0) = v0 c
          ∧ r.2.mem ((c.tc : Thread Cert.QkvBwdIdeal.nD Cert.QkvBwdIdeal.τ).loc Cert.QkvBwdIdeal.main_v0_1) = v1 c
          ∧ r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
          ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
          ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2))
      ∧ θ_run (Cert.QkvBwdRefIdeal.defs (F := Ideal)) (onTc (τ := Cert.QkvBwdRefIdeal.τ) (Cert.QkvBwdRefIdeal.main (F := Ideal))) ⟨m', fun _ => 0, g'⟩ (fun r => ∀ c : Dev Cert.QkvBwdRefIdeal.nD,
          r.2.mem ((c.tc : Thread Cert.QkvBwdRefIdeal.nD Cert.QkvBwdRefIdeal.τ).loc Cert.QkvBwdRefIdeal.main_v65) = v0 c
          ∧ r.2.mem ((c.tc : Thread Cert.QkvBwdRefIdeal.nD Cert.QkvBwdRefIdeal.τ).loc Cert.QkvBwdRefIdeal.main_v60) = v1 c
          ∧ r.2.mem ((c.tc : Thread Cert.QkvBwdRefIdeal.nD Cert.QkvBwdRefIdeal.τ).loc Cert.QkvBwdRefIdeal.main_arg0) = m' ((c.tc : Thread Cert.QkvBwdRefIdeal.nD Cert.QkvBwdRefIdeal.τ).loc Cert.QkvBwdRefIdeal.main_arg0)
          ∧ r.2.mem ((c.tc : Thread Cert.QkvBwdRefIdeal.nD Cert.QkvBwdRefIdeal.τ).loc Cert.QkvBwdRefIdeal.main_arg1) = m' ((c.tc : Thread Cert.QkvBwdRefIdeal.nD Cert.QkvBwdRefIdeal.τ).loc Cert.QkvBwdRefIdeal.main_arg1)
          ∧ r.2.mem ((c.tc : Thread Cert.QkvBwdRefIdeal.nD Cert.QkvBwdRefIdeal.τ).loc Cert.QkvBwdRefIdeal.main_arg2) = m' ((c.tc : Thread Cert.QkvBwdRefIdeal.nD Cert.QkvBwdRefIdeal.τ).loc Cert.QkvBwdRefIdeal.main_arg2))

def preserves_SconvFwd_SconvFwdIdeal : Prop :=
  True

def algebraic_SconvFwdIdeal_SconvFwdRefIdeal [hSconvFwdIdeal : Cert.SconvFwdIdeal.Facts] [hSconvFwdRefIdeal : Cert.SconvFwdRefIdeal.Facts] : Prop :=
  ∀ (m : (ℓ : Loc Cert.SconvFwdIdeal.nD Cert.SconvFwdIdeal.τ Cert.SconvFwdIdeal.sig) → Buf (Elt Ideal) ℓ) (g : Dev Cert.SconvFwdIdeal.nD → PrngReg)
    (m' : (ℓ : Loc Cert.SconvFwdRefIdeal.nD Cert.SconvFwdRefIdeal.τ Cert.SconvFwdRefIdeal.sig) → Buf (Elt Ideal) ℓ) (g' : Dev Cert.SconvFwdRefIdeal.nD → PrngReg), Pre_SconvFwdIdeal m →
    (∀ c : Dev Cert.SconvFwdIdeal.nD,
      m' ((c.tc : Thread Cert.SconvFwdRefIdeal.nD Cert.SconvFwdRefIdeal.τ).loc Cert.SconvFwdRefIdeal.main_arg0) = m ((c.tc : Thread Cert.SconvFwdIdeal.nD Cert.SconvFwdIdeal.τ).loc Cert.SconvFwdIdeal.main_arg0)
      ∧ m' ((c.tc : Thread Cert.SconvFwdRefIdeal.nD Cert.SconvFwdRefIdeal.τ).loc Cert.SconvFwdRefIdeal.main_arg1) = m ((c.tc : Thread Cert.SconvFwdIdeal.nD Cert.SconvFwdIdeal.τ).loc Cert.SconvFwdIdeal.main_arg1)) →
    ∃ (v0 : (c : Dev Cert.SconvFwdIdeal.nD) → Buf (Elt Ideal) ((c.tc : Thread Cert.SconvFwdIdeal.nD Cert.SconvFwdIdeal.τ).loc Cert.SconvFwdIdeal.main_v0)),
      θ_run (Cert.SconvFwdIdeal.defs (F := Ideal)) (onTc (τ := Cert.SconvFwdIdeal.τ) (Cert.SconvFwdIdeal.main (F := Ideal))) ⟨m, fun _ => 0, g⟩ (fun r => ∀ c : Dev Cert.SconvFwdIdeal.nD,
          r.2.mem ((c.tc : Thread Cert.SconvFwdIdeal.nD Cert.SconvFwdIdeal.τ).loc Cert.SconvFwdIdeal.main_v0) = v0 c
          ∧ r.2.mem ((c.tc : Thread Cert.SconvFwdIdeal.nD Cert.SconvFwdIdeal.τ).loc Cert.SconvFwdIdeal.main_arg0) = m ((c.tc : Thread Cert.SconvFwdIdeal.nD Cert.SconvFwdIdeal.τ).loc Cert.SconvFwdIdeal.main_arg0)
          ∧ r.2.mem ((c.tc : Thread Cert.SconvFwdIdeal.nD Cert.SconvFwdIdeal.τ).loc Cert.SconvFwdIdeal.main_arg1) = m ((c.tc : Thread Cert.SconvFwdIdeal.nD Cert.SconvFwdIdeal.τ).loc Cert.SconvFwdIdeal.main_arg1))
      ∧ θ_run (Cert.SconvFwdRefIdeal.defs (F := Ideal)) (onTc (τ := Cert.SconvFwdRefIdeal.τ) (Cert.SconvFwdRefIdeal.main (F := Ideal))) ⟨m', fun _ => 0, g'⟩ (fun r => ∀ c : Dev Cert.SconvFwdRefIdeal.nD,
          r.2.mem ((c.tc : Thread Cert.SconvFwdRefIdeal.nD Cert.SconvFwdRefIdeal.τ).loc Cert.SconvFwdRefIdeal.main_v25) = v0 c
          ∧ r.2.mem ((c.tc : Thread Cert.SconvFwdRefIdeal.nD Cert.SconvFwdRefIdeal.τ).loc Cert.SconvFwdRefIdeal.main_arg0) = m' ((c.tc : Thread Cert.SconvFwdRefIdeal.nD Cert.SconvFwdRefIdeal.τ).loc Cert.SconvFwdRefIdeal.main_arg0)
          ∧ r.2.mem ((c.tc : Thread Cert.SconvFwdRefIdeal.nD Cert.SconvFwdRefIdeal.τ).loc Cert.SconvFwdRefIdeal.main_arg1) = m' ((c.tc : Thread Cert.SconvFwdRefIdeal.nD Cert.SconvFwdRefIdeal.τ).loc Cert.SconvFwdRefIdeal.main_arg1))

def preserves_QkvFwd_QkvFwdIdeal : Prop :=
  True

def algebraic_QkvFwdIdeal_QkvFwdRefIdeal [hQkvFwdIdeal : Cert.QkvFwdIdeal.Facts] [hQkvFwdRefIdeal : Cert.QkvFwdRefIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg)
    (m' : (ℓ : Loc Cert.QkvFwdRefIdeal.nD Cert.QkvFwdRefIdeal.τ Cert.QkvFwdRefIdeal.sig) → Buf (Elt Ideal) ℓ) (g' : Dev Cert.QkvFwdRefIdeal.nD → PrngReg), Pre_QkvFwdIdeal m →
    (∀ c : Dev Cert.QkvFwdIdeal.nD,
      m' ((c.tc : Thread Cert.QkvFwdRefIdeal.nD Cert.QkvFwdRefIdeal.τ).loc Cert.QkvFwdRefIdeal.main_arg0) = m ((c.tc : Thread Cert.QkvFwdIdeal.nD Cert.QkvFwdIdeal.τ).loc Cert.QkvFwdIdeal.main_arg0)
      ∧ m' ((c.tc : Thread Cert.QkvFwdRefIdeal.nD Cert.QkvFwdRefIdeal.τ).loc Cert.QkvFwdRefIdeal.main_arg1) = m ((c.tc : Thread Cert.QkvFwdIdeal.nD Cert.QkvFwdIdeal.τ).loc Cert.QkvFwdIdeal.main_arg1)) →
    ∃ (v0 : (c : Dev Cert.QkvFwdIdeal.nD) → Buf (Elt Ideal) ((c.tc : Thread Cert.QkvFwdIdeal.nD Cert.QkvFwdIdeal.τ).loc Cert.QkvFwdIdeal.main_v0)),
      θ_run (Cert.QkvFwdIdeal.defs (F := Ideal)) (onTc (τ := Cert.QkvFwdIdeal.τ) (Cert.QkvFwdIdeal.main (F := Ideal))) ⟨m, fun _ => 0, g⟩ (fun r => ∀ c : Dev Cert.QkvFwdIdeal.nD,
          r.2.mem ((c.tc : Thread Cert.QkvFwdIdeal.nD Cert.QkvFwdIdeal.τ).loc Cert.QkvFwdIdeal.main_v0) = v0 c
          ∧ r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
          ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1))
      ∧ θ_run (Cert.QkvFwdRefIdeal.defs (F := Ideal)) (onTc (τ := Cert.QkvFwdRefIdeal.τ) (Cert.QkvFwdRefIdeal.main (F := Ideal))) ⟨m', fun _ => 0, g'⟩ (fun r => ∀ c : Dev Cert.QkvFwdRefIdeal.nD,
          r.2.mem ((c.tc : Thread Cert.QkvFwdRefIdeal.nD Cert.QkvFwdRefIdeal.τ).loc Cert.QkvFwdRefIdeal.main_v26) = v0 c
          ∧ r.2.mem ((c.tc : Thread Cert.QkvFwdRefIdeal.nD Cert.QkvFwdRefIdeal.τ).loc Cert.QkvFwdRefIdeal.main_arg0) = m' ((c.tc : Thread Cert.QkvFwdRefIdeal.nD Cert.QkvFwdRefIdeal.τ).loc Cert.QkvFwdRefIdeal.main_arg0)
          ∧ r.2.mem ((c.tc : Thread Cert.QkvFwdRefIdeal.nD Cert.QkvFwdRefIdeal.τ).loc Cert.QkvFwdRefIdeal.main_arg1) = m' ((c.tc : Thread Cert.QkvFwdRefIdeal.nD Cert.QkvFwdRefIdeal.τ).loc Cert.QkvFwdRefIdeal.main_arg1))

def preserves_SconvBwd0_SconvBwd0Ideal : Prop :=
  True

def algebraic_SconvBwd0Ideal_SconvBwd0RefIdeal [hSconvBwd0Ideal : Cert.SconvBwd0Ideal.Facts] [hSconvBwd0RefIdeal : Cert.SconvBwd0RefIdeal.Facts] : Prop :=
  ∀ (m : (ℓ : Loc Cert.SconvBwd0Ideal.nD Cert.SconvBwd0Ideal.τ Cert.SconvBwd0Ideal.sig) → Buf (Elt Ideal) ℓ) (g : Dev Cert.SconvBwd0Ideal.nD → PrngReg)
    (m' : (ℓ : Loc Cert.SconvBwd0RefIdeal.nD Cert.SconvBwd0RefIdeal.τ Cert.SconvBwd0RefIdeal.sig) → Buf (Elt Ideal) ℓ) (g' : Dev Cert.SconvBwd0RefIdeal.nD → PrngReg), Pre_SconvBwd0Ideal m →
    (∀ c : Dev Cert.SconvBwd0Ideal.nD,
      m' ((c.tc : Thread Cert.SconvBwd0RefIdeal.nD Cert.SconvBwd0RefIdeal.τ).loc Cert.SconvBwd0RefIdeal.main_arg0) = m ((c.tc : Thread Cert.SconvBwd0Ideal.nD Cert.SconvBwd0Ideal.τ).loc Cert.SconvBwd0Ideal.main_arg0)
      ∧ m' ((c.tc : Thread Cert.SconvBwd0RefIdeal.nD Cert.SconvBwd0RefIdeal.τ).loc Cert.SconvBwd0RefIdeal.main_arg1) = m ((c.tc : Thread Cert.SconvBwd0Ideal.nD Cert.SconvBwd0Ideal.τ).loc Cert.SconvBwd0Ideal.main_arg1)
      ∧ m' ((c.tc : Thread Cert.SconvBwd0RefIdeal.nD Cert.SconvBwd0RefIdeal.τ).loc Cert.SconvBwd0RefIdeal.main_arg2) = m ((c.tc : Thread Cert.SconvBwd0Ideal.nD Cert.SconvBwd0Ideal.τ).loc Cert.SconvBwd0Ideal.main_arg2)) →
    ∃ (v0 : (c : Dev Cert.SconvBwd0Ideal.nD) → Buf (Elt Ideal) ((c.tc : Thread Cert.SconvBwd0Ideal.nD Cert.SconvBwd0Ideal.τ).loc Cert.SconvBwd0Ideal.main_v0_0)) (v1 : (c : Dev Cert.SconvBwd0Ideal.nD) → Buf (Elt Ideal) ((c.tc : Thread Cert.SconvBwd0Ideal.nD Cert.SconvBwd0Ideal.τ).loc Cert.SconvBwd0Ideal.main_v0_1)),
      θ_run (Cert.SconvBwd0Ideal.defs (F := Ideal)) (onTc (τ := Cert.SconvBwd0Ideal.τ) (Cert.SconvBwd0Ideal.main (F := Ideal))) ⟨m, fun _ => 0, g⟩ (fun r => ∀ c : Dev Cert.SconvBwd0Ideal.nD,
          r.2.mem ((c.tc : Thread Cert.SconvBwd0Ideal.nD Cert.SconvBwd0Ideal.τ).loc Cert.SconvBwd0Ideal.main_v0_0) = v0 c
          ∧ r.2.mem ((c.tc : Thread Cert.SconvBwd0Ideal.nD Cert.SconvBwd0Ideal.τ).loc Cert.SconvBwd0Ideal.main_v0_1) = v1 c
          ∧ r.2.mem ((c.tc : Thread Cert.SconvBwd0Ideal.nD Cert.SconvBwd0Ideal.τ).loc Cert.SconvBwd0Ideal.main_arg0) = m ((c.tc : Thread Cert.SconvBwd0Ideal.nD Cert.SconvBwd0Ideal.τ).loc Cert.SconvBwd0Ideal.main_arg0)
          ∧ r.2.mem ((c.tc : Thread Cert.SconvBwd0Ideal.nD Cert.SconvBwd0Ideal.τ).loc Cert.SconvBwd0Ideal.main_arg1) = m ((c.tc : Thread Cert.SconvBwd0Ideal.nD Cert.SconvBwd0Ideal.τ).loc Cert.SconvBwd0Ideal.main_arg1)
          ∧ r.2.mem ((c.tc : Thread Cert.SconvBwd0Ideal.nD Cert.SconvBwd0Ideal.τ).loc Cert.SconvBwd0Ideal.main_arg2) = m ((c.tc : Thread Cert.SconvBwd0Ideal.nD Cert.SconvBwd0Ideal.τ).loc Cert.SconvBwd0Ideal.main_arg2))
      ∧ θ_run (Cert.SconvBwd0RefIdeal.defs (F := Ideal)) (onTc (τ := Cert.SconvBwd0RefIdeal.τ) (Cert.SconvBwd0RefIdeal.main (F := Ideal))) ⟨m', fun _ => 0, g'⟩ (fun r => ∀ c : Dev Cert.SconvBwd0RefIdeal.nD,
          r.2.mem ((c.tc : Thread Cert.SconvBwd0RefIdeal.nD Cert.SconvBwd0RefIdeal.τ).loc Cert.SconvBwd0RefIdeal.main_v59) = v0 c
          ∧ r.2.mem ((c.tc : Thread Cert.SconvBwd0RefIdeal.nD Cert.SconvBwd0RefIdeal.τ).loc Cert.SconvBwd0RefIdeal.main_v51) = v1 c
          ∧ r.2.mem ((c.tc : Thread Cert.SconvBwd0RefIdeal.nD Cert.SconvBwd0RefIdeal.τ).loc Cert.SconvBwd0RefIdeal.main_arg0) = m' ((c.tc : Thread Cert.SconvBwd0RefIdeal.nD Cert.SconvBwd0RefIdeal.τ).loc Cert.SconvBwd0RefIdeal.main_arg0)
          ∧ r.2.mem ((c.tc : Thread Cert.SconvBwd0RefIdeal.nD Cert.SconvBwd0RefIdeal.τ).loc Cert.SconvBwd0RefIdeal.main_arg1) = m' ((c.tc : Thread Cert.SconvBwd0RefIdeal.nD Cert.SconvBwd0RefIdeal.τ).loc Cert.SconvBwd0RefIdeal.main_arg1)
          ∧ r.2.mem ((c.tc : Thread Cert.SconvBwd0RefIdeal.nD Cert.SconvBwd0RefIdeal.τ).loc Cert.SconvBwd0RefIdeal.main_arg2) = m' ((c.tc : Thread Cert.SconvBwd0RefIdeal.nD Cert.SconvBwd0RefIdeal.τ).loc Cert.SconvBwd0RefIdeal.main_arg2))

def preserves_QkvBwd0_QkvBwd0Ideal : Prop :=
  True

def algebraic_QkvBwd0Ideal_QkvBwd0RefIdeal_pre_qkv_finite [hQkvBwd0Ideal : Cert.QkvBwd0Ideal.Facts] [hQkvBwd0RefIdeal : Cert.QkvBwd0RefIdeal.Facts] [hPre_qkv_finite : Cert.Pre_qkv_finite.Facts] : Prop :=
  ∀ (m : (ℓ : Loc Cert.QkvBwd0Ideal.nD Cert.QkvBwd0Ideal.τ Cert.QkvBwd0Ideal.sig) → Buf (Elt Ideal) ℓ) (g : Dev Cert.QkvBwd0Ideal.nD → PrngReg)
    (m' : (ℓ : Loc Cert.QkvBwd0RefIdeal.nD Cert.QkvBwd0RefIdeal.τ Cert.QkvBwd0RefIdeal.sig) → Buf (Elt Ideal) ℓ) (g' : Dev Cert.QkvBwd0RefIdeal.nD → PrngReg), Pre_QkvBwd0Ideal_qkv_finite m →
    (∀ c : Dev Cert.QkvBwd0Ideal.nD,
      m' ((c.tc : Thread Cert.QkvBwd0RefIdeal.nD Cert.QkvBwd0RefIdeal.τ).loc Cert.QkvBwd0RefIdeal.main_arg0) = m ((c.tc : Thread Cert.QkvBwd0Ideal.nD Cert.QkvBwd0Ideal.τ).loc Cert.QkvBwd0Ideal.main_arg0)
      ∧ m' ((c.tc : Thread Cert.QkvBwd0RefIdeal.nD Cert.QkvBwd0RefIdeal.τ).loc Cert.QkvBwd0RefIdeal.main_arg1) = m ((c.tc : Thread Cert.QkvBwd0Ideal.nD Cert.QkvBwd0Ideal.τ).loc Cert.QkvBwd0Ideal.main_arg1)
      ∧ m' ((c.tc : Thread Cert.QkvBwd0RefIdeal.nD Cert.QkvBwd0RefIdeal.τ).loc Cert.QkvBwd0RefIdeal.main_arg2) = m ((c.tc : Thread Cert.QkvBwd0Ideal.nD Cert.QkvBwd0Ideal.τ).loc Cert.QkvBwd0Ideal.main_arg2)) →
    ∃ (v0 : (c : Dev Cert.QkvBwd0Ideal.nD) → Buf (Elt Ideal) ((c.tc : Thread Cert.QkvBwd0Ideal.nD Cert.QkvBwd0Ideal.τ).loc Cert.QkvBwd0Ideal.main_v0_0)) (v1 : (c : Dev Cert.QkvBwd0Ideal.nD) → Buf (Elt Ideal) ((c.tc : Thread Cert.QkvBwd0Ideal.nD Cert.QkvBwd0Ideal.τ).loc Cert.QkvBwd0Ideal.main_v0_1)),
      θ_run (Cert.QkvBwd0Ideal.defs (F := Ideal)) (onTc (τ := Cert.QkvBwd0Ideal.τ) (Cert.QkvBwd0Ideal.main (F := Ideal))) ⟨m, fun _ => 0, g⟩ (fun r => ∀ c : Dev Cert.QkvBwd0Ideal.nD,
          r.2.mem ((c.tc : Thread Cert.QkvBwd0Ideal.nD Cert.QkvBwd0Ideal.τ).loc Cert.QkvBwd0Ideal.main_v0_0) = v0 c
          ∧ r.2.mem ((c.tc : Thread Cert.QkvBwd0Ideal.nD Cert.QkvBwd0Ideal.τ).loc Cert.QkvBwd0Ideal.main_v0_1) = v1 c
          ∧ r.2.mem ((c.tc : Thread Cert.QkvBwd0Ideal.nD Cert.QkvBwd0Ideal.τ).loc Cert.QkvBwd0Ideal.main_arg0) = m ((c.tc : Thread Cert.QkvBwd0Ideal.nD Cert.QkvBwd0Ideal.τ).loc Cert.QkvBwd0Ideal.main_arg0)
          ∧ r.2.mem ((c.tc : Thread Cert.QkvBwd0Ideal.nD Cert.QkvBwd0Ideal.τ).loc Cert.QkvBwd0Ideal.main_arg1) = m ((c.tc : Thread Cert.QkvBwd0Ideal.nD Cert.QkvBwd0Ideal.τ).loc Cert.QkvBwd0Ideal.main_arg1)
          ∧ r.2.mem ((c.tc : Thread Cert.QkvBwd0Ideal.nD Cert.QkvBwd0Ideal.τ).loc Cert.QkvBwd0Ideal.main_arg2) = m ((c.tc : Thread Cert.QkvBwd0Ideal.nD Cert.QkvBwd0Ideal.τ).loc Cert.QkvBwd0Ideal.main_arg2))
      ∧ θ_run (Cert.QkvBwd0RefIdeal.defs (F := Ideal)) (onTc (τ := Cert.QkvBwd0RefIdeal.τ) (Cert.QkvBwd0RefIdeal.main (F := Ideal))) ⟨m', fun _ => 0, g'⟩ (fun r => ∀ c : Dev Cert.QkvBwd0RefIdeal.nD,
          r.2.mem ((c.tc : Thread Cert.QkvBwd0RefIdeal.nD Cert.QkvBwd0RefIdeal.τ).loc Cert.QkvBwd0RefIdeal.main_v65) = v0 c
          ∧ r.2.mem ((c.tc : Thread Cert.QkvBwd0RefIdeal.nD Cert.QkvBwd0RefIdeal.τ).loc Cert.QkvBwd0RefIdeal.main_v60) = v1 c
          ∧ r.2.mem ((c.tc : Thread Cert.QkvBwd0RefIdeal.nD Cert.QkvBwd0RefIdeal.τ).loc Cert.QkvBwd0RefIdeal.main_arg0) = m' ((c.tc : Thread Cert.QkvBwd0RefIdeal.nD Cert.QkvBwd0RefIdeal.τ).loc Cert.QkvBwd0RefIdeal.main_arg0)
          ∧ r.2.mem ((c.tc : Thread Cert.QkvBwd0RefIdeal.nD Cert.QkvBwd0RefIdeal.τ).loc Cert.QkvBwd0RefIdeal.main_arg1) = m' ((c.tc : Thread Cert.QkvBwd0RefIdeal.nD Cert.QkvBwd0RefIdeal.τ).loc Cert.QkvBwd0RefIdeal.main_arg1)
          ∧ r.2.mem ((c.tc : Thread Cert.QkvBwd0RefIdeal.nD Cert.QkvBwd0RefIdeal.τ).loc Cert.QkvBwd0RefIdeal.main_arg2) = m' ((c.tc : Thread Cert.QkvBwd0RefIdeal.nD Cert.QkvBwd0RefIdeal.τ).loc Cert.QkvBwd0RefIdeal.main_arg2))

def preserves_SconvFwd0_SconvFwd0Ideal : Prop :=
  True

def algebraic_SconvFwd0Ideal_SconvFwd0RefIdeal [hSconvFwd0Ideal : Cert.SconvFwd0Ideal.Facts] [hSconvFwd0RefIdeal : Cert.SconvFwd0RefIdeal.Facts] : Prop :=
  ∀ (m : (ℓ : Loc Cert.SconvFwd0Ideal.nD Cert.SconvFwd0Ideal.τ Cert.SconvFwd0Ideal.sig) → Buf (Elt Ideal) ℓ) (g : Dev Cert.SconvFwd0Ideal.nD → PrngReg)
    (m' : (ℓ : Loc Cert.SconvFwd0RefIdeal.nD Cert.SconvFwd0RefIdeal.τ Cert.SconvFwd0RefIdeal.sig) → Buf (Elt Ideal) ℓ) (g' : Dev Cert.SconvFwd0RefIdeal.nD → PrngReg), Pre_SconvFwd0Ideal m →
    (∀ c : Dev Cert.SconvFwd0Ideal.nD,
      m' ((c.tc : Thread Cert.SconvFwd0RefIdeal.nD Cert.SconvFwd0RefIdeal.τ).loc Cert.SconvFwd0RefIdeal.main_arg0) = m ((c.tc : Thread Cert.SconvFwd0Ideal.nD Cert.SconvFwd0Ideal.τ).loc Cert.SconvFwd0Ideal.main_arg0)
      ∧ m' ((c.tc : Thread Cert.SconvFwd0RefIdeal.nD Cert.SconvFwd0RefIdeal.τ).loc Cert.SconvFwd0RefIdeal.main_arg1) = m ((c.tc : Thread Cert.SconvFwd0Ideal.nD Cert.SconvFwd0Ideal.τ).loc Cert.SconvFwd0Ideal.main_arg1)) →
    ∃ (v0 : (c : Dev Cert.SconvFwd0Ideal.nD) → Buf (Elt Ideal) ((c.tc : Thread Cert.SconvFwd0Ideal.nD Cert.SconvFwd0Ideal.τ).loc Cert.SconvFwd0Ideal.main_v0)),
      θ_run (Cert.SconvFwd0Ideal.defs (F := Ideal)) (onTc (τ := Cert.SconvFwd0Ideal.τ) (Cert.SconvFwd0Ideal.main (F := Ideal))) ⟨m, fun _ => 0, g⟩ (fun r => ∀ c : Dev Cert.SconvFwd0Ideal.nD,
          r.2.mem ((c.tc : Thread Cert.SconvFwd0Ideal.nD Cert.SconvFwd0Ideal.τ).loc Cert.SconvFwd0Ideal.main_v0) = v0 c
          ∧ r.2.mem ((c.tc : Thread Cert.SconvFwd0Ideal.nD Cert.SconvFwd0Ideal.τ).loc Cert.SconvFwd0Ideal.main_arg0) = m ((c.tc : Thread Cert.SconvFwd0Ideal.nD Cert.SconvFwd0Ideal.τ).loc Cert.SconvFwd0Ideal.main_arg0)
          ∧ r.2.mem ((c.tc : Thread Cert.SconvFwd0Ideal.nD Cert.SconvFwd0Ideal.τ).loc Cert.SconvFwd0Ideal.main_arg1) = m ((c.tc : Thread Cert.SconvFwd0Ideal.nD Cert.SconvFwd0Ideal.τ).loc Cert.SconvFwd0Ideal.main_arg1))
      ∧ θ_run (Cert.SconvFwd0RefIdeal.defs (F := Ideal)) (onTc (τ := Cert.SconvFwd0RefIdeal.τ) (Cert.SconvFwd0RefIdeal.main (F := Ideal))) ⟨m', fun _ => 0, g'⟩ (fun r => ∀ c : Dev Cert.SconvFwd0RefIdeal.nD,
          r.2.mem ((c.tc : Thread Cert.SconvFwd0RefIdeal.nD Cert.SconvFwd0RefIdeal.τ).loc Cert.SconvFwd0RefIdeal.main_v25) = v0 c
          ∧ r.2.mem ((c.tc : Thread Cert.SconvFwd0RefIdeal.nD Cert.SconvFwd0RefIdeal.τ).loc Cert.SconvFwd0RefIdeal.main_arg0) = m' ((c.tc : Thread Cert.SconvFwd0RefIdeal.nD Cert.SconvFwd0RefIdeal.τ).loc Cert.SconvFwd0RefIdeal.main_arg0)
          ∧ r.2.mem ((c.tc : Thread Cert.SconvFwd0RefIdeal.nD Cert.SconvFwd0RefIdeal.τ).loc Cert.SconvFwd0RefIdeal.main_arg1) = m' ((c.tc : Thread Cert.SconvFwd0RefIdeal.nD Cert.SconvFwd0RefIdeal.τ).loc Cert.SconvFwd0RefIdeal.main_arg1))

def preserves_QkvFwd0_QkvFwd0Ideal : Prop :=
  True

def algebraic_QkvFwd0Ideal_QkvFwd0RefIdeal [hQkvFwd0Ideal : Cert.QkvFwd0Ideal.Facts] [hQkvFwd0RefIdeal : Cert.QkvFwd0RefIdeal.Facts] : Prop :=
  ∀ (m : (ℓ : Loc Cert.QkvFwd0Ideal.nD Cert.QkvFwd0Ideal.τ Cert.QkvFwd0Ideal.sig) → Buf (Elt Ideal) ℓ) (g : Dev Cert.QkvFwd0Ideal.nD → PrngReg)
    (m' : (ℓ : Loc Cert.QkvFwd0RefIdeal.nD Cert.QkvFwd0RefIdeal.τ Cert.QkvFwd0RefIdeal.sig) → Buf (Elt Ideal) ℓ) (g' : Dev Cert.QkvFwd0RefIdeal.nD → PrngReg), Pre_QkvFwd0Ideal m →
    (∀ c : Dev Cert.QkvFwd0Ideal.nD,
      m' ((c.tc : Thread Cert.QkvFwd0RefIdeal.nD Cert.QkvFwd0RefIdeal.τ).loc Cert.QkvFwd0RefIdeal.main_arg0) = m ((c.tc : Thread Cert.QkvFwd0Ideal.nD Cert.QkvFwd0Ideal.τ).loc Cert.QkvFwd0Ideal.main_arg0)
      ∧ m' ((c.tc : Thread Cert.QkvFwd0RefIdeal.nD Cert.QkvFwd0RefIdeal.τ).loc Cert.QkvFwd0RefIdeal.main_arg1) = m ((c.tc : Thread Cert.QkvFwd0Ideal.nD Cert.QkvFwd0Ideal.τ).loc Cert.QkvFwd0Ideal.main_arg1)) →
    ∃ (v0 : (c : Dev Cert.QkvFwd0Ideal.nD) → Buf (Elt Ideal) ((c.tc : Thread Cert.QkvFwd0Ideal.nD Cert.QkvFwd0Ideal.τ).loc Cert.QkvFwd0Ideal.main_v0)),
      θ_run (Cert.QkvFwd0Ideal.defs (F := Ideal)) (onTc (τ := Cert.QkvFwd0Ideal.τ) (Cert.QkvFwd0Ideal.main (F := Ideal))) ⟨m, fun _ => 0, g⟩ (fun r => ∀ c : Dev Cert.QkvFwd0Ideal.nD,
          r.2.mem ((c.tc : Thread Cert.QkvFwd0Ideal.nD Cert.QkvFwd0Ideal.τ).loc Cert.QkvFwd0Ideal.main_v0) = v0 c
          ∧ r.2.mem ((c.tc : Thread Cert.QkvFwd0Ideal.nD Cert.QkvFwd0Ideal.τ).loc Cert.QkvFwd0Ideal.main_arg0) = m ((c.tc : Thread Cert.QkvFwd0Ideal.nD Cert.QkvFwd0Ideal.τ).loc Cert.QkvFwd0Ideal.main_arg0)
          ∧ r.2.mem ((c.tc : Thread Cert.QkvFwd0Ideal.nD Cert.QkvFwd0Ideal.τ).loc Cert.QkvFwd0Ideal.main_arg1) = m ((c.tc : Thread Cert.QkvFwd0Ideal.nD Cert.QkvFwd0Ideal.τ).loc Cert.QkvFwd0Ideal.main_arg1))
      ∧ θ_run (Cert.QkvFwd0RefIdeal.defs (F := Ideal)) (onTc (τ := Cert.QkvFwd0RefIdeal.τ) (Cert.QkvFwd0RefIdeal.main (F := Ideal))) ⟨m', fun _ => 0, g'⟩ (fun r => ∀ c : Dev Cert.QkvFwd0RefIdeal.nD,
          r.2.mem ((c.tc : Thread Cert.QkvFwd0RefIdeal.nD Cert.QkvFwd0RefIdeal.τ).loc Cert.QkvFwd0RefIdeal.main_v26) = v0 c
          ∧ r.2.mem ((c.tc : Thread Cert.QkvFwd0RefIdeal.nD Cert.QkvFwd0RefIdeal.τ).loc Cert.QkvFwd0RefIdeal.main_arg0) = m' ((c.tc : Thread Cert.QkvFwd0RefIdeal.nD Cert.QkvFwd0RefIdeal.τ).loc Cert.QkvFwd0RefIdeal.main_arg0)
          ∧ r.2.mem ((c.tc : Thread Cert.QkvFwd0RefIdeal.nD Cert.QkvFwd0RefIdeal.τ).loc Cert.QkvFwd0RefIdeal.main_arg1) = m' ((c.tc : Thread Cert.QkvFwd0RefIdeal.nD Cert.QkvFwd0RefIdeal.τ).loc Cert.QkvFwd0RefIdeal.main_arg1))

def Claim : Prop :=
  ∃ (hKernel : Cert.Kernel.Facts) (hKernelIdeal : Cert.KernelIdeal.Facts) (hReferenceIdeal : Cert.ReferenceIdeal.Facts) (hMlpBwd : Cert.MlpBwd.Facts) (hMlpBwdIdeal : Cert.MlpBwdIdeal.Facts) (hMlpBwdRefIdeal : Cert.MlpBwdRefIdeal.Facts) (hOutMlp : Cert.OutMlp.Facts) (hOutMlpIdeal : Cert.OutMlpIdeal.Facts) (hOutMlpRefIdeal : Cert.OutMlpRefIdeal.Facts) (hHead : Cert.Head.Facts) (hHeadIdeal : Cert.HeadIdeal.Facts) (hHeadRefIdeal : Cert.HeadRefIdeal.Facts) (hInProj : Cert.InProj.Facts) (hInProjIdeal : Cert.InProjIdeal.Facts) (hInProjRefIdeal : Cert.InProjRefIdeal.Facts) (hInProjBwd : Cert.InProjBwd.Facts) (hInProjBwdIdeal : Cert.InProjBwdIdeal.Facts) (hInProjBwdRefIdeal : Cert.InProjBwdRefIdeal.Facts) (hWgradGu : Cert.WgradGu.Facts) (hWgradGuIdeal : Cert.WgradGuIdeal.Facts) (hWgradGuRefIdeal : Cert.WgradGuRefIdeal.Facts) (hWgradDown : Cert.WgradDown.Facts) (hWgradDownIdeal : Cert.WgradDownIdeal.Facts) (hWgradDownRefIdeal : Cert.WgradDownRefIdeal.Facts) (hWgradOut : Cert.WgradOut.Facts) (hWgradOutIdeal : Cert.WgradOutIdeal.Facts) (hWgradOutRefIdeal : Cert.WgradOutRefIdeal.Facts) (hWgradIn : Cert.WgradIn.Facts) (hWgradInIdeal : Cert.WgradInIdeal.Facts) (hWgradInRefIdeal : Cert.WgradInRefIdeal.Facts) (hInProjBwd0 : Cert.InProjBwd0.Facts) (hInProjBwd0Ideal : Cert.InProjBwd0Ideal.Facts) (hInProjBwd0RefIdeal : Cert.InProjBwd0RefIdeal.Facts) (hMlpBwd0 : Cert.MlpBwd0.Facts) (hMlpBwd0Ideal : Cert.MlpBwd0Ideal.Facts) (hMlpBwd0RefIdeal : Cert.MlpBwd0RefIdeal.Facts) (hAdamwGu : Cert.AdamwGu.Facts) (hAdamwGuIdeal : Cert.AdamwGuIdeal.Facts) (hAdamwGuRefIdeal : Cert.AdamwGuRefIdeal.Facts) (hAdamwOut : Cert.AdamwOut.Facts) (hAdamwOutIdeal : Cert.AdamwOutIdeal.Facts) (hAdamwOutRefIdeal : Cert.AdamwOutRefIdeal.Facts) (hAdamwDown : Cert.AdamwDown.Facts) (hAdamwDownIdeal : Cert.AdamwDownIdeal.Facts) (hAdamwDownRefIdeal : Cert.AdamwDownRefIdeal.Facts) (hAdamwIn : Cert.AdamwIn.Facts) (hAdamwInIdeal : Cert.AdamwInIdeal.Facts) (hAdamwInRefIdeal : Cert.AdamwInRefIdeal.Facts) (hAdamwShards : Cert.AdamwShards.Facts) (hAdamwShardsIdeal : Cert.AdamwShardsIdeal.Facts) (hAdamwShardsRefIdeal : Cert.AdamwShardsRefIdeal.Facts) (hQkvBwd : Cert.QkvBwd.Facts) (hQkvBwdIdeal : Cert.QkvBwdIdeal.Facts) (hQkvBwdRefIdeal : Cert.QkvBwdRefIdeal.Facts) (hSconvFwd : Cert.SconvFwd.Facts) (hSconvFwdIdeal : Cert.SconvFwdIdeal.Facts) (hSconvFwdRefIdeal : Cert.SconvFwdRefIdeal.Facts) (hQkvFwd : Cert.QkvFwd.Facts) (hQkvFwdIdeal : Cert.QkvFwdIdeal.Facts) (hQkvFwdRefIdeal : Cert.QkvFwdRefIdeal.Facts) (hSconvBwd0 : Cert.SconvBwd0.Facts) (hSconvBwd0Ideal : Cert.SconvBwd0Ideal.Facts) (hSconvBwd0RefIdeal : Cert.SconvBwd0RefIdeal.Facts) (hQkvBwd0 : Cert.QkvBwd0.Facts) (hQkvBwd0Ideal : Cert.QkvBwd0Ideal.Facts) (hQkvBwd0RefIdeal : Cert.QkvBwd0RefIdeal.Facts) (hSconvFwd0 : Cert.SconvFwd0.Facts) (hSconvFwd0Ideal : Cert.SconvFwd0Ideal.Facts) (hSconvFwd0RefIdeal : Cert.SconvFwd0RefIdeal.Facts) (hQkvFwd0 : Cert.QkvFwd0.Facts) (hQkvFwd0Ideal : Cert.QkvFwd0Ideal.Facts) (hQkvFwd0RefIdeal : Cert.QkvFwd0RefIdeal.Facts) (hPre_finite : Cert.Pre_finite.Facts) (hPre_qkv_finite : Cert.Pre_qkv_finite.Facts),
    quiescent_Kernel (hKernel := hKernel)
    ∧ quiescent_KernelIdeal (hKernelIdeal := hKernelIdeal)
    ∧ quiescent_ReferenceIdeal (hReferenceIdeal := hReferenceIdeal)
    ∧ quiescent_MlpBwd (hMlpBwd := hMlpBwd)
    ∧ quiescent_MlpBwdIdeal (hMlpBwdIdeal := hMlpBwdIdeal)
    ∧ quiescent_MlpBwdIdeal_pre_finite (hMlpBwdIdeal := hMlpBwdIdeal) (hPre_finite := hPre_finite)
    ∧ quiescent_MlpBwdRefIdeal (hMlpBwdRefIdeal := hMlpBwdRefIdeal)
    ∧ quiescent_MlpBwdRefIdeal_pre_finite (hMlpBwdRefIdeal := hMlpBwdRefIdeal) (hPre_finite := hPre_finite)
    ∧ quiescent_OutMlp (hOutMlp := hOutMlp)
    ∧ quiescent_OutMlpIdeal (hOutMlpIdeal := hOutMlpIdeal)
    ∧ quiescent_OutMlpRefIdeal (hOutMlpRefIdeal := hOutMlpRefIdeal)
    ∧ quiescent_Head (hHead := hHead)
    ∧ quiescent_HeadIdeal (hHeadIdeal := hHeadIdeal)
    ∧ quiescent_HeadRefIdeal (hHeadRefIdeal := hHeadRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjBwd (hInProjBwd := hInProjBwd)
    ∧ quiescent_InProjBwdIdeal (hInProjBwdIdeal := hInProjBwdIdeal)
    ∧ quiescent_InProjBwdRefIdeal (hInProjBwdRefIdeal := hInProjBwdRefIdeal)
    ∧ quiescent_WgradGu (hWgradGu := hWgradGu)
    ∧ quiescent_WgradGuIdeal (hWgradGuIdeal := hWgradGuIdeal)
    ∧ quiescent_WgradGuRefIdeal (hWgradGuRefIdeal := hWgradGuRefIdeal)
    ∧ quiescent_WgradDown (hWgradDown := hWgradDown)
    ∧ quiescent_WgradDownIdeal (hWgradDownIdeal := hWgradDownIdeal)
    ∧ quiescent_WgradDownRefIdeal (hWgradDownRefIdeal := hWgradDownRefIdeal)
    ∧ quiescent_WgradOut (hWgradOut := hWgradOut)
    ∧ quiescent_WgradOutIdeal (hWgradOutIdeal := hWgradOutIdeal)
    ∧ quiescent_WgradOutRefIdeal (hWgradOutRefIdeal := hWgradOutRefIdeal)
    ∧ quiescent_WgradIn (hWgradIn := hWgradIn)
    ∧ quiescent_WgradInIdeal (hWgradInIdeal := hWgradInIdeal)
    ∧ quiescent_WgradInRefIdeal (hWgradInRefIdeal := hWgradInRefIdeal)
    ∧ quiescent_InProjBwd0 (hInProjBwd0 := hInProjBwd0)
    ∧ quiescent_InProjBwd0Ideal (hInProjBwd0Ideal := hInProjBwd0Ideal)
    ∧ quiescent_InProjBwd0RefIdeal (hInProjBwd0RefIdeal := hInProjBwd0RefIdeal)
    ∧ quiescent_MlpBwd0 (hMlpBwd0 := hMlpBwd0)
    ∧ quiescent_MlpBwd0Ideal (hMlpBwd0Ideal := hMlpBwd0Ideal)
    ∧ quiescent_MlpBwd0Ideal_pre_finite (hMlpBwd0Ideal := hMlpBwd0Ideal) (hPre_finite := hPre_finite)
    ∧ quiescent_MlpBwd0RefIdeal (hMlpBwd0RefIdeal := hMlpBwd0RefIdeal)
    ∧ quiescent_MlpBwd0RefIdeal_pre_finite (hMlpBwd0RefIdeal := hMlpBwd0RefIdeal) (hPre_finite := hPre_finite)
    ∧ quiescent_AdamwGu (hAdamwGu := hAdamwGu)
    ∧ quiescent_AdamwGuIdeal (hAdamwGuIdeal := hAdamwGuIdeal)
    ∧ quiescent_AdamwGuRefIdeal (hAdamwGuRefIdeal := hAdamwGuRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwDown (hAdamwDown := hAdamwDown)
    ∧ quiescent_AdamwDownIdeal (hAdamwDownIdeal := hAdamwDownIdeal)
    ∧ quiescent_AdamwDownRefIdeal (hAdamwDownRefIdeal := hAdamwDownRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwShards (hAdamwShards := hAdamwShards)
    ∧ quiescent_AdamwShardsIdeal (hAdamwShardsIdeal := hAdamwShardsIdeal)
    ∧ quiescent_AdamwShardsRefIdeal (hAdamwShardsRefIdeal := hAdamwShardsRefIdeal)
    ∧ quiescent_QkvBwd (hQkvBwd := hQkvBwd)
    ∧ quiescent_QkvBwdIdeal (hQkvBwdIdeal := hQkvBwdIdeal)
    ∧ quiescent_QkvBwdIdeal_pre_qkv_finite (hQkvBwdIdeal := hQkvBwdIdeal) (hPre_qkv_finite := hPre_qkv_finite)
    ∧ quiescent_QkvBwdRefIdeal (hQkvBwdRefIdeal := hQkvBwdRefIdeal)
    ∧ quiescent_QkvBwdRefIdeal_pre_qkv_finite (hQkvBwdRefIdeal := hQkvBwdRefIdeal) (hPre_qkv_finite := hPre_qkv_finite)
    ∧ quiescent_SconvFwd (hSconvFwd := hSconvFwd)
    ∧ quiescent_SconvFwdIdeal (hSconvFwdIdeal := hSconvFwdIdeal)
    ∧ quiescent_SconvFwdRefIdeal (hSconvFwdRefIdeal := hSconvFwdRefIdeal)
    ∧ quiescent_QkvFwd (hQkvFwd := hQkvFwd)
    ∧ quiescent_QkvFwdIdeal (hQkvFwdIdeal := hQkvFwdIdeal)
    ∧ quiescent_QkvFwdRefIdeal (hQkvFwdRefIdeal := hQkvFwdRefIdeal)
    ∧ quiescent_SconvBwd0 (hSconvBwd0 := hSconvBwd0)
    ∧ quiescent_SconvBwd0Ideal (hSconvBwd0Ideal := hSconvBwd0Ideal)
    ∧ quiescent_SconvBwd0RefIdeal (hSconvBwd0RefIdeal := hSconvBwd0RefIdeal)
    ∧ quiescent_QkvBwd0 (hQkvBwd0 := hQkvBwd0)
    ∧ quiescent_QkvBwd0Ideal (hQkvBwd0Ideal := hQkvBwd0Ideal)
    ∧ quiescent_QkvBwd0Ideal_pre_qkv_finite (hQkvBwd0Ideal := hQkvBwd0Ideal) (hPre_qkv_finite := hPre_qkv_finite)
    ∧ quiescent_QkvBwd0RefIdeal (hQkvBwd0RefIdeal := hQkvBwd0RefIdeal)
    ∧ quiescent_QkvBwd0RefIdeal_pre_qkv_finite (hQkvBwd0RefIdeal := hQkvBwd0RefIdeal) (hPre_qkv_finite := hPre_qkv_finite)
    ∧ quiescent_SconvFwd0 (hSconvFwd0 := hSconvFwd0)
    ∧ quiescent_SconvFwd0Ideal (hSconvFwd0Ideal := hSconvFwd0Ideal)
    ∧ quiescent_SconvFwd0RefIdeal (hSconvFwd0RefIdeal := hSconvFwd0RefIdeal)
    ∧ quiescent_QkvFwd0 (hQkvFwd0 := hQkvFwd0)
    ∧ quiescent_QkvFwd0Ideal (hQkvFwd0Ideal := hQkvFwd0Ideal)
    ∧ quiescent_QkvFwd0RefIdeal (hQkvFwd0RefIdeal := hQkvFwd0RefIdeal)
    ∧ preserves_Kernel_KernelIdeal
    ∧ algebraic_KernelIdeal_ReferenceIdeal (hKernelIdeal := hKernelIdeal) (hReferenceIdeal := hReferenceIdeal)
    ∧ preserves_MlpBwd_MlpBwdIdeal
    ∧ algebraic_MlpBwdIdeal_MlpBwdRefIdeal_pre_finite (hMlpBwdIdeal := hMlpBwdIdeal) (hMlpBwdRefIdeal := hMlpBwdRefIdeal) (hPre_finite := hPre_finite)
    ∧ preserves_OutMlp_OutMlpIdeal
    ∧ algebraic_OutMlpIdeal_OutMlpRefIdeal (hOutMlpIdeal := hOutMlpIdeal) (hOutMlpRefIdeal := hOutMlpRefIdeal)
    ∧ preserves_Head_HeadIdeal
    ∧ algebraic_HeadIdeal_HeadRefIdeal (hHeadIdeal := hHeadIdeal) (hHeadRefIdeal := hHeadRefIdeal)
    ∧ preserves_InProj_InProjIdeal
    ∧ algebraic_InProjIdeal_InProjRefIdeal (hInProjIdeal := hInProjIdeal) (hInProjRefIdeal := hInProjRefIdeal)
    ∧ preserves_InProjBwd_InProjBwdIdeal
    ∧ algebraic_InProjBwdIdeal_InProjBwdRefIdeal (hInProjBwdIdeal := hInProjBwdIdeal) (hInProjBwdRefIdeal := hInProjBwdRefIdeal)
    ∧ preserves_WgradGu_WgradGuIdeal
    ∧ algebraic_WgradGuIdeal_WgradGuRefIdeal (hWgradGuIdeal := hWgradGuIdeal) (hWgradGuRefIdeal := hWgradGuRefIdeal)
    ∧ preserves_WgradDown_WgradDownIdeal
    ∧ algebraic_WgradDownIdeal_WgradDownRefIdeal (hWgradDownIdeal := hWgradDownIdeal) (hWgradDownRefIdeal := hWgradDownRefIdeal)
    ∧ preserves_WgradOut_WgradOutIdeal
    ∧ algebraic_WgradOutIdeal_WgradOutRefIdeal (hWgradOutIdeal := hWgradOutIdeal) (hWgradOutRefIdeal := hWgradOutRefIdeal)
    ∧ preserves_WgradIn_WgradInIdeal
    ∧ algebraic_WgradInIdeal_WgradInRefIdeal (hWgradInIdeal := hWgradInIdeal) (hWgradInRefIdeal := hWgradInRefIdeal)
    ∧ preserves_InProjBwd0_InProjBwd0Ideal
    ∧ algebraic_InProjBwd0Ideal_InProjBwd0RefIdeal (hInProjBwd0Ideal := hInProjBwd0Ideal) (hInProjBwd0RefIdeal := hInProjBwd0RefIdeal)
    ∧ preserves_MlpBwd0_MlpBwd0Ideal
    ∧ algebraic_MlpBwd0Ideal_MlpBwd0RefIdeal_pre_finite (hMlpBwd0Ideal := hMlpBwd0Ideal) (hMlpBwd0RefIdeal := hMlpBwd0RefIdeal) (hPre_finite := hPre_finite)
    ∧ preserves_AdamwGu_AdamwGuIdeal
    ∧ algebraic_AdamwGuIdeal_AdamwGuRefIdeal (hAdamwGuIdeal := hAdamwGuIdeal) (hAdamwGuRefIdeal := hAdamwGuRefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwDown_AdamwDownIdeal
    ∧ algebraic_AdamwDownIdeal_AdamwDownRefIdeal (hAdamwDownIdeal := hAdamwDownIdeal) (hAdamwDownRefIdeal := hAdamwDownRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_AdamwShards_AdamwShardsIdeal
    ∧ algebraic_AdamwShardsIdeal_AdamwShardsRefIdeal (hAdamwShardsIdeal := hAdamwShardsIdeal) (hAdamwShardsRefIdeal := hAdamwShardsRefIdeal)
    ∧ preserves_QkvBwd_QkvBwdIdeal
    ∧ algebraic_QkvBwdIdeal_QkvBwdRefIdeal_pre_qkv_finite (hQkvBwdIdeal := hQkvBwdIdeal) (hQkvBwdRefIdeal := hQkvBwdRefIdeal) (hPre_qkv_finite := hPre_qkv_finite)
    ∧ preserves_SconvFwd_SconvFwdIdeal
    ∧ algebraic_SconvFwdIdeal_SconvFwdRefIdeal (hSconvFwdIdeal := hSconvFwdIdeal) (hSconvFwdRefIdeal := hSconvFwdRefIdeal)
    ∧ preserves_QkvFwd_QkvFwdIdeal
    ∧ algebraic_QkvFwdIdeal_QkvFwdRefIdeal (hQkvFwdIdeal := hQkvFwdIdeal) (hQkvFwdRefIdeal := hQkvFwdRefIdeal)
    ∧ preserves_SconvBwd0_SconvBwd0Ideal
    ∧ algebraic_SconvBwd0Ideal_SconvBwd0RefIdeal (hSconvBwd0Ideal := hSconvBwd0Ideal) (hSconvBwd0RefIdeal := hSconvBwd0RefIdeal)
    ∧ preserves_QkvBwd0_QkvBwd0Ideal
    ∧ algebraic_QkvBwd0Ideal_QkvBwd0RefIdeal_pre_qkv_finite (hQkvBwd0Ideal := hQkvBwd0Ideal) (hQkvBwd0RefIdeal := hQkvBwd0RefIdeal) (hPre_qkv_finite := hPre_qkv_finite)
    ∧ preserves_SconvFwd0_SconvFwd0Ideal
    ∧ algebraic_SconvFwd0Ideal_SconvFwd0RefIdeal (hSconvFwd0Ideal := hSconvFwd0Ideal) (hSconvFwd0RefIdeal := hSconvFwd0RefIdeal)
    ∧ preserves_QkvFwd0_QkvFwd0Ideal
    ∧ algebraic_QkvFwd0Ideal_QkvFwd0RefIdeal (hQkvFwd0Ideal := hQkvFwd0Ideal) (hQkvFwd0RefIdeal := hQkvFwd0RefIdeal)
-- ==== Pre_finite.lean ====
abbrev S8192x1024 : Shape := ⟨2, ![8192, 1024]⟩
abbrev S2x1024 : Shape := ⟨2, ![2, 1024]⟩
abbrev S2x2816x1024 : Shape := ⟨3, ![2, 2816, 1024]⟩
abbrev S8x2x704x1024 : Shape := ⟨4, ![8, 2, 704, 1024]⟩
abbrev S2x1024x1024 : Shape := ⟨3, ![2, 1024, 1024]⟩
abbrev S_ : Shape := ⟨0, ![]⟩

class Facts : Prop where
  bcast_S_S8192x1024 : S_.BroadcastsInDim S8192x1024 (![] : Fin 0 → Fin S8192x1024.rank)
  bcast_S_S2x1024 : S_.BroadcastsInDim S2x1024 (![] : Fin 0 → Fin S2x1024.rank)
  bitsLt_bf16_f32 : FTy.bits .bf16 < FTy.bits .f32
  bcast_S_S2x2816x1024 : S_.BroadcastsInDim S2x2816x1024 (![] : Fin 0 → Fin S2x2816x1024.rank)
  bcast_S_S8x2x704x1024 : S_.BroadcastsInDim S8x2x704x1024 (![] : Fin 0 → Fin S8x2x704x1024.rank)

variable [Facts]

def fn {F : FTy → Type} [FloatOps F] (main_arg0 : FVec F S8192x1024 .f32) (main_arg1 : FVec F S8192x1024 .f32) (main_arg2 : FVec F S2x1024 .f32) (main_arg3 : FVec F S2x2816x1024 .bf16) (main_arg4 : FVec F S8x2x704x1024 .bf16) (main_arg5 : FVec F S2x1024x1024 .bf16) : IVec S8192x1024 1 × IVec S8192x1024 1 × IVec S2x1024 1 × IVec S2x2816x1024 1 × IVec S8x2x704x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x2816x1024 .f32 := (extf .f32 · bitsLt_bf16_f32) main_arg3
  let main_v10 : FVec F S2x2816x1024 .f32 := Host.absf main_v9
  let main_cst_2 : FVec F S_ .f32 := constant S_ .f32 0x7F800000#32
  let main_v11 : FVec F S2x2816x1024 .f32 := broadcastInDim S2x2816x1024 ![] bcast_S_S2x2816x1024 main_cst_2
  let main_v12 : IVec S2x2816x1024 1 := cmpf .olt main_v10 main_v11
  let main_v13 : FVec F S8x2x704x1024 .f32 := (extf .f32 · bitsLt_bf16_f32) main_arg4
  let main_v14 : FVec F S8x2x704x1024 .f32 := Host.absf main_v13
  let main_cst_3 : FVec F S_ .f32 := constant S_ .f32 0x7F800000#32
  let main_v15 : FVec F S8x2x704x1024 .f32 := broadcastInDim S8x2x704x1024 ![] bcast_S_S8x2x704x1024 main_cst_3
  let main_v16 : IVec S8x2x704x1024 1 := cmpf .olt main_v14 main_v15
  (main_v2, main_v5, main_v8, main_v12, main_v16)
-- ==== Pre_qkv_finite.lean ====
abbrev S8192x3584 : Shape := ⟨2, ![8192, 3584]⟩
abbrev S8192x768 : Shape := ⟨2, ![8192, 768]⟩
abbrev S2x4x768 : Shape := ⟨3, ![2, 4, 768]⟩
abbrev S_ : Shape := ⟨0, ![]⟩

class Facts : Prop where
  bcast_S_S8192x768 : S_.BroadcastsInDim S8192x768 (![] : Fin 0 → Fin S8192x768.rank)

variable [Facts]

def fn {F : FTy → Type} [FloatOps F] (main_arg0 : FVec F S8192x3584 .f32) (main_arg1 : FVec F S8192x768 .f32) (main_arg2 : FVec F S2x4x768 .f32) : IVec S8192x768 1 :=
  let main_v0 : FVec F S8192x768 .f32 := Host.absf main_arg1
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  main_v2
-- ==== Kernel.lean ====
abbrev S8192x3584 : Shape := ⟨2, ![8192, 3584]⟩
abbrev S8192x1024 : Shape := ⟨2, ![8192, 1024]⟩
abbrev S2x3x256 : Shape := ⟨3, ![2, 3, 256]⟩
abbrev S8192x768 : Shape := ⟨2, ![8192, 768]⟩
abbrev S3x256 : Shape := ⟨2, ![3, 256]⟩
abbrev S2048x256 : Shape := ⟨2, ![2048, 256]⟩
abbrev S8x256 : Shape := ⟨2, ![8, 256]⟩
abbrev S1x3x256 : Shape := ⟨3, ![1, 3, 256]⟩
abbrev S2048x768 : Shape := ⟨2, ![2048, 768]⟩
abbrev S2056x256 : Shape := ⟨2, ![2056, 256]⟩
abbrev S1x256 : Shape := ⟨2, ![1, 256]⟩
abbrev S256 : Shape := ⟨1, ![256]⟩

abbrev nBuf : Space → Nat
  | .hbm => 5
  | .vmem => 20
  | .smem => 0
  | _ => 0

abbrev bufTy : (tb : Table) → Fin (tcTables nBuf tb) → BufTy
  | .hbm, ⟨0, _⟩ => ⟨S8192x3584, .f32⟩
  | .hbm, ⟨1, _⟩ => ⟨S8192x1024, .f32⟩
  | .hbm, ⟨2, _⟩ => ⟨S2x3x256, .f32⟩
  | .hbm, ⟨3, _⟩ => ⟨S8192x768, .bf16⟩
  | .hbm, ⟨4, _⟩ => ⟨S3x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S2048x256, .f32⟩
  | .local _ .vmem, ⟨13, _⟩ => ⟨S2048x256, .f32⟩
  | .local _ .vmem, ⟨14, _⟩ => ⟨S8x256, .f32⟩
  | .local _ .vmem, ⟨15, _⟩ => ⟨S8x256, .f32⟩
  | .local _ .vmem, ⟨16, _⟩ => ⟨S1x3x256, .f32⟩
  | .local _ .vmem, ⟨17, _⟩ => ⟨S2048x768, .bf16⟩
  | .local _ .vmem, ⟨18, _⟩ => ⟨S2048x768, .bf16⟩
  | .local _ .vmem, ⟨19, _⟩ => ⟨S3x256, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c256_i32 : BitVec 32 := 256#32
  let v0 : BitVec 32 := Scalar.muli arg0 c256_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_4 (i : grid0.Coords) : Fin 2 → Nat :=
  let arg0 : BitVec 32 := BitVec.ofNat 32 (i 0).val
  let c256_i32 : BitVec 32 := 256#32
  let v0 : BitVec 32 := Scalar.muli arg0 c256_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c1023_i32 : BitVec 32 := 1023#32
  let v2 : BitVec 32 := Scalar.minsi v1 c1023_i32
  let c8_i32 : BitVec 32 := 8#32
  let c0_i32 : BitVec 32 := 0#32
  ![v2.toNat, c8_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c1023_i32 : BitVec 32 := 1023#32
  let v2 : BitVec 32 := Scalar.minsi v1 c1023_i32
  let c1_i32_0 : BitVec 32 := 1#32
  let c0_i32 : BitVec 32 := 0#32
  ![v2.toNat, c1_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x3584 : Shape := ⟨2, ![8192, 3584]⟩
abbrev S8192x1024 : Shape := ⟨2, ![8192, 1024]⟩
abbrev S2x3x256 : Shape := ⟨3, ![2, 3, 256]⟩
abbrev S8192x256 : Shape := ⟨2, ![8192, 256]⟩
abbrev S1x3x256 : Shape := ⟨3, ![1, 3, 256]⟩
abbrev S3x256 : Shape := ⟨2, ![3, 256]⟩
abbrev S_ : Shape := ⟨0, ![]⟩
abbrev S2x256 : Shape := ⟨2, ![2, 256]⟩
abbrev S8194x256 : Shape := ⟨2, ![8194, 256]⟩
abbrev S1x256 : Shape := ⟨2, ![1, 256]⟩
abbrev S256 : Shape := ⟨1, ![256]⟩
abbrev S8192x768 : Shape := ⟨2, ![8192, 768]⟩

abbrev nBuf : Space → Nat
  | .hbm => 75
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S8192x1024, .f32⟩
  | .hbm, ⟨2, _⟩ => ⟨S2x3x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S1x3x256, .f32⟩
  | .hbm, ⟨7, _⟩ => ⟨S3x256, .f32⟩
  | .hbm, ⟨8, _⟩ => ⟨S8192x256, .f32⟩
  | .hbm, ⟨9, _⟩ => ⟨S_, .f32⟩
  | .hbm, ⟨10, _⟩ => ⟨S2x256, .f32⟩
  | .hbm, ⟨11, _⟩ => ⟨S8194x256, .f32⟩
  | .hbm, ⟨12, _⟩ => ⟨S_, .f32⟩
  | .hbm, ⟨13, _⟩ => ⟨S2x256, .f32⟩
  | .hbm, ⟨14, _⟩ => ⟨S8192x256, .f32⟩
  | .hbm, ⟨15, _⟩ => ⟨S1x256, .f32⟩
  | .hbm, ⟨16, _⟩ => ⟨S8192x256, .f32⟩
  | .hbm, ⟨17, _⟩ => ⟨S8192x256, .f32⟩
  | .hbm, ⟨18, _⟩ => ⟨S_, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S1x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S_, .f32⟩
  | .hbm, ⟨37, _⟩ => ⟨S256, .f32⟩
  | .hbm, ⟨38, _⟩ => ⟨S1x256, .f32⟩
  | .hbm, ⟨39, _⟩ => ⟨S8192x256, .f32⟩
  | .hbm, ⟨40, _⟩ => ⟨S8192x256, .f32⟩
  | .hbm, ⟨41, _⟩ => ⟨S_, .f32⟩
  | .hbm, ⟨42, _⟩ => ⟨S3x256, .f32⟩
  | .hbm, ⟨43, _⟩ => ⟨S_, .f32⟩
  | .hbm, ⟨44, _⟩ => ⟨S8194x256, .f32⟩
  | .hbm, ⟨45, _⟩ => ⟨S8192x256, .f32⟩
  | .hbm, ⟨46, _⟩ => ⟨S_, .f32⟩
  | .hbm, ⟨47, _⟩ => ⟨S256, .f32⟩
  | .hbm, ⟨48, _⟩ => ⟨S1x256, .f32⟩
  | .hbm, ⟨49, _⟩ => ⟨S8192x256, .f32⟩
  | .hbm, ⟨50, _⟩ => ⟨S8192x256, .f32⟩
  | .hbm, ⟨51, _⟩ => ⟨S_, .f32⟩
  | .hbm, ⟨52, _⟩ => ⟨S3x256, .f32⟩
  | .hbm, ⟨53, _⟩ => ⟨S3x256, .f32⟩
  | .hbm, ⟨54, _⟩ => ⟨S_, .f32⟩
  | .hbm, ⟨55, _⟩ => ⟨S8194x256, .f32⟩
  | .hbm, ⟨56, _⟩ => ⟨S8194x256, .f32⟩
  | .hbm, ⟨57, _⟩ => ⟨S8192x256, .f32⟩
  | .hbm, ⟨58, _⟩ => ⟨S_, .f32⟩
  | .hbm, ⟨59, _⟩ => ⟨S256, .f32⟩
  | .hbm, ⟨60, _⟩ => ⟨S1x256, .f32⟩
  | .hbm, ⟨61, _⟩ => ⟨S8192x256, .f32⟩
  | .hbm, ⟨62, _⟩ => ⟨S8192x256, .f32⟩
  | .hbm, ⟨63, _⟩ => ⟨S_, .f32⟩
  | .hbm, ⟨64, _⟩ => ⟨S3x256, .f32⟩
  | .hbm, ⟨65, _⟩ => ⟨S3x256, .f32⟩
  | .hbm, ⟨66, _⟩ => ⟨S_, .f32⟩
  | .hbm, ⟨67, _⟩ => ⟨S8194x256, .f32⟩
  | .hbm, ⟨68, _⟩ => ⟨S8194x256, .f32⟩
  | .hbm, ⟨69, _⟩ => ⟨S2x256, .f32⟩
  | .hbm, ⟨70, _⟩ => ⟨S8192x256, .f32⟩
  | .hbm, ⟨71, _⟩ => ⟨S8192x256, .f32⟩
  | .hbm, ⟨72, _⟩ => ⟨S8192x256, .f32⟩
  | .hbm, ⟨73, _⟩ => ⟨S8192x768, .f32⟩
  | .hbm, ⟨74, _⟩ => ⟨S8192x768, .bf16⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== MlpBwd.lean ====
abbrev S8192x1024 : Shape := ⟨2, ![8192, 1024]⟩
abbrev S2x1024 : Shape := ⟨2, ![2, 1024]⟩
abbrev S2x2816x1024 : Shape := ⟨3, ![2, 2816, 1024]⟩
abbrev S8x2x704x1024 : Shape := ⟨4, ![8, 2, 704, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x1x704x1024 : Shape := ⟨4, ![8, 1, 704, 1024]⟩
abbrev S8x704x1024 : Shape := ⟨3, ![8, 704, 1024]⟩
abbrev S5632x1024 : Shape := ⟨2, ![5632, 1024]⟩
abbrev S1024x5632 : Shape := ⟨2, ![1024, 5632]⟩
abbrev S8192x5632 : Shape := ⟨2, ![8192, 5632]⟩
abbrev S256x1024 : Shape := ⟨2, ![256, 1024]⟩
abbrev S256x5632 : Shape := ⟨2, ![256, 5632]⟩
abbrev S1x2816x1024 : Shape := ⟨3, ![1, 2816, 1024]⟩
abbrev S1x1024x1024 : Shape := ⟨3, ![1, 1024, 1024]⟩
abbrev S2816x1024 : Shape := ⟨2, ![2816, 1024]⟩
abbrev S256x2816 : Shape := ⟨2, ![256, 2816]⟩
abbrev S256 : Shape := ⟨1, ![256]⟩
abbrev S256x1 : Shape := ⟨2, ![256, 1]⟩
abbrev S1024x1024 : Shape := ⟨2, ![1024, 1024]⟩

abbrev nBuf : Space → Nat
  | .hbm => 35
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024, .f32⟩
  | .hbm, ⟨3, _⟩ => ⟨S2x2816x1024, .bf16⟩
  | .hbm, ⟨4, _⟩ => ⟨S8x2x704x1024, .bf16⟩
  | .hbm, ⟨5, _⟩ => ⟨S2x1024x1024, .bf16⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8x1x704x1024, .bf16⟩
  | .hbm, ⟨25, _⟩ => ⟨S8x704x1024, .bf16⟩
  | .hbm, ⟨26, _⟩ => ⟨S5632x1024, .bf16⟩
  | .hbm, ⟨27, _⟩ => ⟨S5632x1024, .f32⟩
  | .hbm, ⟨28, _⟩ => ⟨S1024x5632, .f32⟩
  | .hbm, ⟨29, _⟩ => ⟨S8192x5632, .f32⟩
  | .hbm, ⟨30, _⟩ => ⟨S8192x5632, .bf16⟩
  | .hbm, ⟨31, _⟩ => ⟨S8192x5632, .bf16⟩
  | .hbm, ⟨32, _⟩ => ⟨S8192x1024, .f32⟩
  | .hbm, ⟨33, _⟩ => ⟨S8192x1024, .f32⟩
  | .hbm, ⟨34, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .bf16⟩
  | .local _ .vmem, ⟨5, _⟩ => ⟨S256x5632, .bf16⟩
  | .local _ .vmem, ⟨6, _⟩ => ⟨S2x1024, .f32⟩
  | .local _ .vmem, ⟨7, _⟩ => ⟨S1x2816x1024, .bf16⟩
  | .local _ .vmem, ⟨8, _⟩ => ⟨S8x1x704x1024, .bf16⟩
  | .local _ .vmem, ⟨9, _⟩ => ⟨S1x1024x1024, .bf16⟩
  | .local _ .vmem, ⟨10, _⟩ => ⟨S256x5632, .bf16⟩
  | .local _ .vmem, ⟨11, _⟩ => ⟨S256x5632, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MlpBwdRefIdeal.lean ====
abbrev S8192x1024 : Shape := ⟨2, ![8192, 1024]⟩
abbrev S2x1024 : Shape := ⟨2, ![2, 1024]⟩
abbrev S2x2816x1024 : Shape := ⟨3, ![2, 2816, 1024]⟩
abbrev S8x2x704x1024 : Shape := ⟨4, ![8, 2, 704, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x1x704x1024 : Shape := ⟨4, ![8, 1, 704, 1024]⟩
abbrev S8x704x1024 : Shape := ⟨3, ![8, 704, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S1x2816x1024 : Shape := ⟨3, ![1, 2816, 1024]⟩
abbrev S2816x1024 : Shape := ⟨2, ![2816, 1024]⟩
abbrev S1x1024x1024 : Shape := ⟨3, ![1, 1024, 1024]⟩
abbrev S1024x1024 : Shape := ⟨2, ![1024, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024, .f32⟩
  | .hbm, ⟨3, _⟩ => ⟨S2x2816x1024, .bf16⟩
  | .hbm, ⟨4, _⟩ => ⟨S8x2x704x1024, .bf16⟩
  | .hbm, ⟨5, _⟩ => ⟨S2x1024x1024, .bf16⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8x1x704x1024, .bf16⟩
  | .hbm, ⟨29, _⟩ => ⟨S8x704x1024, .bf16⟩
  | .hbm, ⟨30, _⟩ => ⟨S5632x1024, .bf16⟩
  | .hbm, ⟨31, _⟩ => ⟨S5632x1024, .f32⟩
  | .hbm, ⟨32, _⟩ => ⟨S1024x5632, .f32⟩
  | .hbm, ⟨33, _⟩ => ⟨S8192x5632, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S1x2816x1024, .bf16⟩
  | .hbm, ⟨51, _⟩ => ⟨S2816x1024, .bf16⟩
  | .hbm, ⟨52, _⟩ => ⟨S2816x1024, .f32⟩
  | .hbm, ⟨53, _⟩ => ⟨S8192x1024, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x5632, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192x1024, .f32⟩
  | .hbm, ⟨91, _⟩ => ⟨S1x1024x1024, .bf16⟩
  | .hbm, ⟨92, _⟩ => ⟨S1024x1024, .bf16⟩
  | .hbm, ⟨93, _⟩ => ⟨S1024x1024, .f32⟩
  | .hbm, ⟨94, _⟩ => ⟨S8192x1024, .f32⟩
  | .hbm, ⟨95, _⟩ => ⟨S8192x1024, .f32⟩
  | .hbm, ⟨96, _⟩ => ⟨S8192x5632, .bf16⟩
  | .hbm, ⟨97, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v26_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v26_1 : Ref sig .tc := ⟨.hbm, 47, rfl⟩
abbrev main_v26_0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_4 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]
-- ==== OutMlp.lean ====
abbrev S8192x1024 : Shape := ⟨2, ![8192, 1024]⟩
abbrev S8192x256 : Shape := ⟨2, ![8192, 256]⟩
abbrev S2x1024x1024 : Shape := ⟨3, ![2, 1024, 1024]⟩
abbrev S2x1024 : Shape := ⟨2, ![2, 1024]⟩
abbrev S8x2x704x1024 : Shape := ⟨4, ![8, 2, 704, 1024]⟩
abbrev S2x2816x1024 : Shape := ⟨3, ![2, 2816, 1024]⟩
abbrev S8192x5632 : Shape := ⟨2, ![8192, 5632]⟩
abbrev S8192x2816 : Shape := ⟨2, ![8192, 2816]⟩
abbrev S256x1024 : Shape := ⟨2, ![256, 1024]⟩
abbrev S256x256 : Shape := ⟨2, ![256, 256]⟩
abbrev S1x1024x1024 : Shape := ⟨3, ![1, 1024, 1024]⟩
abbrev S8x1x704x1024 : Shape := ⟨4, ![8, 1, 704, 1024]⟩
abbrev S1x2816x1024 : Shape := ⟨3, ![1, 2816, 1024]⟩
abbrev S256x5632 : Shape := ⟨2, ![256, 5632]⟩
abbrev S256x2816 : Shape := ⟨2, ![256, 2816]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩
abbrev S8x704x1024 : Shape := ⟨3, ![8, 704, 1024]⟩
abbrev S5632x1024 : Shape := ⟨2, ![5632, 1024]⟩
abbrev S2816x1024 : Shape := ⟨2, ![2816, 1024]⟩

abbrev nBuf : Space → Nat
  | .hbm => 15
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S2x1024x1024, .bf16⟩
  | .hbm, ⟨6, _⟩ => ⟨S2x1024, .f32⟩
  | .hbm, ⟨7, _⟩ => ⟨S8x2x704x1024, .bf16⟩
  | .hbm, ⟨8, _⟩ => ⟨S2x2816x1024, .bf16⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S8192x5632, .bf16⟩
  | .hbm, ⟨13, _⟩ => ⟨S8192x2816, .bf16⟩
  | .hbm, ⟨14, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S1x1024x1024, .bf16⟩
  | .local _ .vmem, ⟨11, _⟩ => ⟨S2x1024, .f32⟩
  | .local _ .vmem, ⟨12, _⟩ => ⟨S8x1x704x1024, .bf16⟩
  | .local _ .vmem, ⟨13, _⟩ => ⟨S1x2816x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x5632, .bf16⟩
  | .local _ .vmem, ⟨21, _⟩ => ⟨S256x5632, .bf16⟩
  | .local _ .vmem, ⟨22, _⟩ => ⟨S256x2816, .bf16⟩
  | .local _ .vmem, ⟨23, _⟩ => ⟨S256x2816, .bf16⟩
  | .local _ .vmem, ⟨24, _⟩ => ⟨S256x1024, .f32⟩
  | .local _ .vmem, ⟨25, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OutMlpRefIdeal.lean ====
abbrev S8192x1024 : Shape := ⟨2, ![8192, 1024]⟩
abbrev S8192x256 : Shape := ⟨2, ![8192, 256]⟩
abbrev S2x1024x1024 : Shape := ⟨3, ![2, 1024, 1024]⟩
abbrev S2x1024 : Shape := ⟨2, ![2, 1024]⟩
abbrev S8x2x704x1024 : Shape := ⟨4, ![8, 2, 704, 1024]⟩
abbrev S2x2816x1024 : Shape := ⟨3, ![2, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x1x704x1024 : Shape := ⟨4, ![8, 1, 704, 1024]⟩
abbrev S8x704x1024 : Shape := ⟨3, ![8, 704, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S1x2816x1024 : Shape := ⟨3, ![1, 2816, 1024]⟩
abbrev S2816x1024 : Shape := ⟨2, ![2816, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S2x1024x1024, .bf16⟩
  | .hbm, ⟨6, _⟩ => ⟨S2x1024, .f32⟩
  | .hbm, ⟨7, _⟩ => ⟨S8x2x704x1024, .bf16⟩
  | .hbm, ⟨8, _⟩ => ⟨S2x2816x1024, .bf16⟩
  | .hbm, ⟨9, _⟩ => ⟨S8192x1024, .bf16⟩
  | .hbm, ⟨10, _⟩ => ⟨S8192x1024, .f32⟩
  | .hbm, ⟨11, _⟩ => ⟨S1x1024x1024, .bf16⟩
  | .hbm, ⟨12, _⟩ => ⟨S1024x1024, .bf16⟩
  | .hbm, ⟨13, _⟩ => ⟨S1024x1024, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8x1x704x1024, .bf16⟩
  | .hbm, ⟨35, _⟩ => ⟨S8x704x1024, .bf16⟩
  | .hbm, ⟨36, _⟩ => ⟨S5632x1024, .bf16⟩
  | .hbm, ⟨37, _⟩ => ⟨S5632x1024, .f32⟩
  | .hbm, ⟨38, _⟩ => ⟨S1024x5632, .f32⟩
  | .hbm, ⟨39, _⟩ => ⟨S8192x5632, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S1x2816x1024, .bf16⟩
  | .hbm, ⟨53, _⟩ => ⟨S2816x1024, .bf16⟩
  | .hbm, ⟨54, _⟩ => ⟨S2816x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S8192x1024, .bf16⟩
  | .hbm, ⟨59, _⟩ => ⟨S8192x5632, .bf16⟩
  | .hbm, ⟨60, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Head.lean ====
abbrev S8192x1024 : Shape := ⟨2, ![8192, 1024]⟩
abbrev S8192x256 : Shape := ⟨2, ![8192, 256]⟩
abbrev S2x1024x1024 : Shape := ⟨3, ![2, 1024, 1024]⟩
abbrev S2x1024 : Shape := ⟨2, ![2, 1024]⟩
abbrev S8x2x704x1024 : Shape := ⟨4, ![8, 2, 704, 1024]⟩
abbrev S2x2816x1024 : Shape := ⟨3, ![2, 2816, 1024]⟩
abbrev S1x1024 : Shape := ⟨2, ![1, 1024]⟩
abbrev S8192x5632 : Shape := ⟨2, ![8192, 5632]⟩
abbrev S8192x2816 : Shape := ⟨2, ![8192, 2816]⟩
abbrev S8x128 : Shape := ⟨2, ![8, 128]⟩
abbrev S256x1024 : Shape := ⟨2, ![256, 1024]⟩
abbrev S256x256 : Shape := ⟨2, ![256, 256]⟩
abbrev S1x1024x1024 : Shape := ⟨3, ![1, 1024, 1024]⟩
abbrev S8x1x704x1024 : Shape := ⟨4, ![8, 1, 704, 1024]⟩
abbrev S1x2816x1024 : Shape := ⟨3, ![1, 2816, 1024]⟩
abbrev S256x5632 : Shape := ⟨2, ![256, 5632]⟩
abbrev S256x2816 : Shape := ⟨2, ![256, 2816]⟩
abbrev S1024x1024 : Shape := ⟨2, ![1024, 1024]⟩
abbrev S256 : Shape := ⟨1, ![256]⟩
abbrev S256x1 : Shape := ⟨2, ![256, 1]⟩
abbrev S8x704x1024 : Shape := ⟨3, ![8, 704, 1024]⟩
abbrev S5632x1024 : Shape := ⟨2, ![5632, 1024]⟩
abbrev S2816x1024 : Shape := ⟨2, ![2816, 1024]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 19
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S2x1024x1024, .bf16⟩
  | .hbm, ⟨6, _⟩ => ⟨S2x1024, .f32⟩
  | .hbm, ⟨7, _⟩ => ⟨S8x2x704x1024, .bf16⟩
  | .hbm, ⟨8, _⟩ => ⟨S2x2816x1024, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S8192x1024, .bf16⟩
  | .hbm, ⟨14, _⟩ => ⟨S8192x5632, .bf16⟩
  | .hbm, ⟨15, _⟩ => ⟨S8192x2816, .bf16⟩
  | .hbm, ⟨16, _⟩ => ⟨S8192x1024, .f32⟩
  | .hbm, ⟨17, _⟩ => ⟨S8x128, .f32⟩
  | .hbm, ⟨18, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S1x1024x1024, .bf16⟩
  | .local _ .vmem, ⟨11, _⟩ => ⟨S2x1024, .f32⟩
  | .local _ .vmem, ⟨12, _⟩ => ⟨S8x1x704x1024, .bf16⟩
  | .local _ .vmem, ⟨13, _⟩ => ⟨S1x2816x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x5632, .bf16⟩
  | .local _ .vmem, ⟨24, _⟩ => ⟨S256x5632, .bf16⟩
  | .local _ .vmem, ⟨25, _⟩ => ⟨S256x2816, .bf16⟩
  | .local _ .vmem, ⟨26, _⟩ => ⟨S256x2816, .bf16⟩
  | .local _ .vmem, ⟨27, _⟩ => ⟨S256x1024, .f32⟩
  | .local _ .vmem, ⟨28, _⟩ => ⟨S256x1024, .f32⟩
  | .local _ .vmem, ⟨29, _⟩ => ⟨S8x128, .f32⟩
  | .local _ .vmem, ⟨30, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x5632 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== HeadRefIdeal.lean ====
abbrev S8192x1024 : Shape := ⟨2, ![8192, 1024]⟩
abbrev S8192x256 : Shape := ⟨2, ![8192, 256]⟩
abbrev S2x1024x1024 : Shape := ⟨3, ![2, 1024, 1024]⟩
abbrev S2x1024 : Shape := ⟨2, ![2, 1024]⟩
abbrev S8x2x704x1024 : Shape := ⟨4, ![8, 2, 704, 1024]⟩
abbrev S2x2816x1024 : Shape := ⟨3, ![2, 2816, 1024]⟩
abbrev S1x1024 : Shape := ⟨2, ![1, 1024]⟩
abbrev S1x1024x1024 : Shape := ⟨3, ![1, 1024, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x1x704x1024 : Shape := ⟨4, ![8, 1, 704, 1024]⟩
abbrev S8x704x1024 : Shape := ⟨3, ![8, 704, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S1x2816x1024 : Shape := ⟨3, ![1, 2816, 1024]⟩
abbrev S2816x1024 : Shape := ⟨2, ![2816, 1024]⟩
abbrev S8x128 : Shape := ⟨2, ![8, 128]⟩

abbrev nBuf : Space → Nat
  | .hbm => 134
  | .vmem => 0
  | .smem => 0
  | _ => 0

abbrev hbmTy0_0 (i : Nat) : BufTy := match i % 128 with
  | 0 => ⟨S8192x1024, .f32⟩
  | 1 => ⟨S8192x256, .bf16⟩
  | 2 => ⟨S8192x256, .bf16⟩
  | 3 => ⟨S8192x256, .bf16⟩
  | 4 => ⟨S8192x256, .bf16⟩
  | 5 => ⟨S2x1024x1024, .bf16⟩
  | 6 => ⟨S2x1024, .f32⟩
  | 7 => ⟨S8x2x704x1024, .bf16⟩
  | 8 => ⟨S2x2816x1024, .bf16⟩
  | 9 => ⟨S1x1024, .f32⟩
  | 10 => ⟨S8192x1024, .f32⟩
  | 11 => ⟨S8192x1024, .bf16⟩
  | 12 => ⟨S8192x1024, .f32⟩
  | 13 => ⟨S1x1024x1024, .bf16⟩
  | 14 => ⟨S1024x1024, .bf16⟩
  | 15 => ⟨S1024x1024, .f32⟩
  | 16 => ⟨S8192x1024, .f32⟩
  | 17 => ⟨S8192x1024, .f32⟩
  | 18 => ⟨S1x1024, .f32⟩
  | 19 => ⟨S1024, .f32⟩
  | 20 => ⟨S8192x1024, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1, .f32⟩
  | 31 => ⟨S8192x1024, .f32⟩
  | 32 => ⟨S8192x1024, .f32⟩
  | 33 => ⟨S1x1024, .f32⟩
  | 34 => ⟨S8192x1024, .f32⟩
  | 35 => ⟨S8192x1024, .f32⟩
  | 36 => ⟨S8x1x704x1024, .bf16⟩
  | 37 => ⟨S8x704x1024, .bf16⟩
  | 38 => ⟨S5632x1024, .bf16⟩
  | 39 => ⟨S5632x1024, .f32⟩
  | 40 => ⟨S1024x5632, .f32⟩
  | 41 => ⟨S8192x5632, .f32⟩
  | 42 => ⟨S8192x2816, .f32⟩
  | 43 => ⟨S8192x2816, .f32⟩
  | 44 => ⟨S8192x2816, .f32⟩
  | 45 => ⟨S8192x2816, .f32⟩
  | 46 => ⟨S_, .f32⟩
  | 47 => ⟨S8192x2816, .f32⟩
  | 48 => ⟨S8192x2816, .f32⟩
  | 49 => ⟨S_, .f32⟩
  | 50 => ⟨S8192x2816, .f32⟩
  | 51 => ⟨S8192x2816, .f32⟩
  | 52 => ⟨S8192x2816, .f32⟩
  | 53 => ⟨S8192x2816, .f32⟩
  | 54 => ⟨S1x2816x1024, .bf16⟩
  | 55 => ⟨S2816x1024, .bf16⟩
  | 56 => ⟨S2816x1024, .f32⟩
  | 57 => ⟨S8192x1024, .f32⟩
  | 58 => ⟨S8192x1024, .f32⟩
  | 59 => ⟨S8192x1024, .bf16⟩
  | 60 => ⟨S8192x1024, .bf16⟩
  | 61 => ⟨S8192x5632, .bf16⟩
  | 62 => ⟨S8192x2816, .bf16⟩
  | 63 => ⟨S1024, .f32⟩
  | 64 => ⟨S8192x1024, .f32⟩
  | 65 => ⟨S_, .f32⟩
  | 66 => ⟨S8192, .f32⟩
  | 67 => ⟨S8192x1, .f32⟩
  | 68 => ⟨S_, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x1, .f32⟩
  | 75 => ⟨S8192x1, .f32⟩
  | 76 => ⟨S_, .f32⟩
  | 77 => ⟨S8192x1, .f32⟩
  | 78 => ⟨S8192x1, .f32⟩
  | 79 => ⟨S8192x1024, .f32⟩
  | 80 => ⟨S8192x1024, .f32⟩
  | 81 => ⟨S1x1024, .f32⟩
  | 82 => ⟨S8192x1024, .f32⟩
  | 83 => ⟨S8192x1024, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S_, .f32⟩
  | 90 => ⟨S8192, .f32⟩
  | 91 => ⟨S_, .f32⟩
  | 92 => ⟨S8192, .f32⟩
  | 93 => ⟨S8192, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S8192, .f32⟩
  | 102 => ⟨S_, .f32⟩
  | 103 => ⟨S8192, .f32⟩
  | 104 => ⟨S8192, .f32⟩
  | 105 => ⟨S8192x1024, .f32⟩
  | 106 => ⟨S8192x1024, .f32⟩
  | 107 => ⟨S8192x1024, .f32⟩
  | 108 => ⟨S_, .f32⟩
  | 109 => ⟨S1024, .f32⟩
  | 110 => ⟨S1x1024, .f32⟩
  | 111 => ⟨S8192x1024, .f32⟩
  | 112 => ⟨S8192x1024, .f32⟩
  | 113 => ⟨S_, .f32⟩
  | 114 => ⟨S1024, .f32⟩
  | 115 => ⟨S8192x1024, .f32⟩
  | 116 => ⟨S_, .f32⟩
  | 117 => ⟨S8192, .f32⟩
  | 118 => ⟨S8192x1, .f32⟩
  | 119 => ⟨S8192x1024, .f32⟩
  | 120 => ⟨S8192x1024, .f32⟩
  | 121 => ⟨S8192x1, .f32⟩
  | 122 => ⟨S_, .f32⟩
  | 123 => ⟨S8192x1, .f32⟩
  | 124 => ⟨S8192x1, .f32⟩
  | 125 => ⟨S_, .f32⟩
  | 126 => ⟨S8192, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8x128, .f32⟩
  | 5 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_2 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_5 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_6 : Ref sig .tc := ⟨.hbm, 86, rfl⟩
abbrev main_v60 : Ref sig .tc := ⟨.hbm, 87, rfl⟩
abbrev main_v61 : Ref sig .tc := ⟨.hbm, 88, rfl⟩
abbrev main_cst_7 : Ref sig .tc := ⟨.hbm, 89, rfl⟩
abbrev main_v62 : Ref sig .tc := ⟨.hbm, 90, rfl⟩
abbrev main_cst_8 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_cst_11 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_15 : Ref sig .tc := ⟨.hbm, 113, rfl⟩
abbrev main_v78 : Ref sig .tc := ⟨.hbm, 114, rfl⟩
abbrev main_v79 : Ref sig .tc := ⟨.hbm, 115, rfl⟩
abbrev main_cst_16 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_17 : Ref sig .tc := ⟨.hbm, 122, rfl⟩
abbrev main_v85 : Ref sig .tc := ⟨.hbm, 123, rfl⟩
abbrev main_v86 : Ref sig .tc := ⟨.hbm, 124, rfl⟩
abbrev main_cst_18 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩

abbrev nD : Nat := 1
abbrev τ : Topo := Topo.v7x

variable {F : FTy → Type} [FloatOps F]
-- ==== InProj.lean ====
abbrev S8192x1024 : Shape := ⟨2, ![8192, 1024]⟩
abbrev S2x1024 : Shape := ⟨2, ![2, 1024]⟩
abbrev S1024x3584 : Shape := ⟨2, ![1024, 3584]⟩
abbrev S8192x3584 : Shape := ⟨2, ![8192, 3584]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1024x3584, .bf16⟩
  | .hbm, ⟨3, _⟩ => ⟨S8192x1024, .bf16⟩
  | .hbm, ⟨4, _⟩ => ⟨S8192x3584, .f32⟩
  | .local _ .vmem, ⟨0, _⟩ => ⟨S1024x1024, .f32⟩
  | .local _ .vmem, ⟨1, _⟩ => ⟨S1024x1024, .f32⟩
  | .local _ .vmem, ⟨2, _⟩ => ⟨S2x1024, .f32⟩
  | .local _ .vmem, ⟨3, _⟩ => ⟨S1024x3584, .bf16⟩
  | .local _ .vmem, ⟨4, _⟩ => ⟨S1024x1024, .bf16⟩
  | .local _ .vmem, ⟨5, _⟩ => ⟨S1024x1024, .bf16⟩
  | .local _ .vmem, ⟨6, _⟩ => ⟨S1024x3584, .f32⟩
  | .local _ .vmem, ⟨7, _⟩ => ⟨S1024x3584, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S8192x1024 : Shape := ⟨2, ![8192, 1024]⟩
abbrev S2x1024 : Shape := ⟨2, ![2, 1024]⟩
abbrev S1024x3584 : Shape := ⟨2, ![1024, 3584]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x3584 : Shape := ⟨2, ![8192, 3584]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1024x3584, .bf16⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S1024x3584, .f32⟩
  | .hbm, ⟨23, _⟩ => ⟨S8192x3584, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== InProjBwd.lean ====
abbrev S8192x768 : Shape := ⟨2, ![8192, 768]⟩
abbrev S8192x512 : Shape := ⟨2, ![8192, 512]⟩
abbrev S8192x256 : Shape := ⟨2, ![8192, 256]⟩
abbrev S8192x128 : Shape := ⟨2, ![8192, 128]⟩
abbrev S8192x1024 : Shape := ⟨2, ![8192, 1024]⟩
abbrev S2x1024 : Shape := ⟨2, ![2, 1024]⟩
abbrev S1024x3584 : Shape := ⟨2, ![1024, 3584]⟩
abbrev S8192x3584 : Shape := ⟨2, ![8192, 3584]⟩
abbrev S1x1024 : Shape := ⟨2, ![1, 1024]⟩
abbrev S512x768 : Shape := ⟨2, ![512, 768]⟩
abbrev S512x512 : Shape := ⟨2, ![512, 512]⟩
abbrev S512x256 : Shape := ⟨2, ![512, 256]⟩
abbrev S512x128 : Shape := ⟨2, ![512, 128]⟩
abbrev S512x1024 : Shape := ⟨2, ![512, 1024]⟩
abbrev S512x3584 : Shape := ⟨2, ![512, 3584]⟩
abbrev S512 : Shape := ⟨1, ![512]⟩
abbrev S512x1 : Shape := ⟨2, ![512, 1]⟩
abbrev S1024 : Shape := ⟨1, ![1024]⟩

abbrev nBuf : Space → Nat
  | .hbm => 15
  | .vmem => 27
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x512, .bf16⟩
  | .hbm, ⟨3, _⟩ => ⟨S8192x768, .bf16⟩
  | .hbm, ⟨4, _⟩ => ⟨S8192x256, .bf16⟩
  | .hbm, ⟨5, _⟩ => ⟨S8192x256, .bf16⟩
  | .hbm, ⟨6, _⟩ => ⟨S8192x128, .bf16⟩
  | .hbm, ⟨7, _⟩ => ⟨S8192x128, .bf16⟩
  | .hbm, ⟨8, _⟩ => ⟨S8192x1024, .f32⟩
  | .hbm, ⟨9, _⟩ => ⟨S8192x1024, .f32⟩
  | .hbm, ⟨10, _⟩ => ⟨S2x1024, .f32⟩
  | .hbm, ⟨11, _⟩ => ⟨S1024x3584, .bf16⟩
  | .hbm, ⟨12, _⟩ => ⟨S8192x3584, .bf16⟩
  | .hbm, ⟨13, _⟩ => ⟨S8192x1024, .f32⟩
  | .hbm, ⟨14, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x512, .bf16⟩
  | .local _ .vmem, ⟨5, _⟩ => ⟨S512x512, .bf16⟩
  | .local _ .vmem, ⟨6, _⟩ => ⟨S512x768, .bf16⟩
  | .local _ .vmem, ⟨7, _⟩ => ⟨S512x768, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S2x1024, .f32⟩
  | .local _ .vmem, ⟨21, _⟩ => ⟨S1024x3584, .bf16⟩
  | .local _ .vmem, ⟨22, _⟩ => ⟨S512x3584, .bf16⟩
  | .local _ .vmem, ⟨23, _⟩ => ⟨S512x3584, .bf16⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x3584 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x3584 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== InProjBwdRefIdeal.lean ====
abbrev S8192x768 : Shape := ⟨2, ![8192, 768]⟩
abbrev S8192x512 : Shape := ⟨2, ![8192, 512]⟩
abbrev S8192x256 : Shape := ⟨2, ![8192, 256]⟩
abbrev S8192x128 : Shape := ⟨2, ![8192, 128]⟩
abbrev S8192x1024 : Shape := ⟨2, ![8192, 1024]⟩
abbrev S2x1024 : Shape := ⟨2, ![2, 1024]⟩
abbrev S1024x3584 : Shape := ⟨2, ![1024, 3584]⟩
abbrev S8192x3584 : Shape := ⟨2, ![8192, 3584]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 66
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x512, .bf16⟩
  | .hbm, ⟨3, _⟩ => ⟨S8192x768, .bf16⟩
  | .hbm, ⟨4, _⟩ => ⟨S8192x256, .bf16⟩
  | .hbm, ⟨5, _⟩ => ⟨S8192x256, .bf16⟩
  | .hbm, ⟨6, _⟩ => ⟨S8192x128, .bf16⟩
  | .hbm, ⟨7, _⟩ => ⟨S8192x128, .bf16⟩
  | .hbm, ⟨8, _⟩ => ⟨S8192x1024, .f32⟩
  | .hbm, ⟨9, _⟩ => ⟨S8192x1024, .f32⟩
  | .hbm, ⟨10, _⟩ => ⟨S2x1024, .f32⟩
  | .hbm, ⟨11, _⟩ => ⟨S1024x3584, .bf16⟩
  | .hbm, ⟨12, _⟩ => ⟨S8192x3584, .bf16⟩
  | .hbm, ⟨13, _⟩ => ⟨S1x1024, .f32⟩
  | .hbm, ⟨14, _⟩ => ⟨S1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1024x3584, .f32⟩
  | .hbm, ⟨36, _⟩ => ⟨S8192x3584, .f32⟩
  | .hbm, ⟨37, _⟩ => ⟨S8192x3584, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S1x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== WgradGu.lean ====
abbrev S8192x5632 : Shape := ⟨2, ![8192, 5632]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradGuRefIdeal.lean ====
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WgradDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WgradOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradIn.lean ====
abbrev S8192x3584 : Shape := ⟨2, ![8192, 3584]⟩
abbrev S8192x1024 : Shape := ⟨2, ![8192, 1024]⟩
abbrev S3584x1024 : Shape := ⟨2, ![3584, 1024]⟩
abbrev S2048x1792 : Shape := ⟨2, ![2048, 1792]⟩
abbrev S2048x1024 : Shape := ⟨2, ![2048, 1024]⟩
abbrev S1792x1024 : Shape := ⟨2, ![1792, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3584, .bf16⟩
  | .hbm, ⟨1, _⟩ => ⟨S8192x1024, .bf16⟩
  | .hbm, ⟨2, _⟩ => ⟨S3584x1024, .f32⟩
  | .local _ .vmem, ⟨0, _⟩ => ⟨S2048x1792, .bf16⟩
  | .local _ .vmem, ⟨1, _⟩ => ⟨S2048x1792, .bf16⟩
  | .local _ .vmem, ⟨2, _⟩ => ⟨S2048x1024, .bf16⟩
  | .local _ .vmem, ⟨3, _⟩ => ⟨S2048x1024, .bf16⟩
  | .local _ .vmem, ⟨4, _⟩ => ⟨S1792x1024, .f32⟩
  | .local _ .vmem, ⟨5, _⟩ => ⟨S1792x1024, .f32⟩
  | .local _ .vmem, ⟨6, _⟩ => ⟨S1792x1024, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1792x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradInRefIdeal.lean ====
abbrev S8192x3584 : Shape := ⟨2, ![8192, 3584]⟩
abbrev S8192x1024 : Shape := ⟨2, ![8192, 1024]⟩
abbrev S_ : Shape := ⟨0, ![]⟩
abbrev S1024x3584 : Shape := ⟨2, ![1024, 3584]⟩
abbrev S3584x1024 : Shape := ⟨2, ![3584, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S8192x1024, .bf16⟩
  | .hbm, ⟨2, _⟩ => ⟨S_, .f32⟩
  | .hbm, ⟨3, _⟩ => ⟨S1024x3584, .f32⟩
  | .hbm, ⟨4, _⟩ => ⟨S8192x1024, .f32⟩
  | .hbm, ⟨5, _⟩ => ⟨S8192x3584, .f32⟩
  | .hbm, ⟨6, _⟩ => ⟨S8192x3584, .f32⟩
  | .hbm, ⟨7, _⟩ => ⟨S3584x1024, .f32⟩
  | .hbm, ⟨8, _⟩ => ⟨S1024x3584, .f32⟩
  | .hbm, ⟨9, _⟩ => ⟨S3584x1024, .f32⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProjBwd0.lean ====
abbrev S8192x768 : Shape := ⟨2, ![8192, 768]⟩
abbrev S8192x512 : Shape := ⟨2, ![8192, 512]⟩
abbrev S8192x256 : Shape := ⟨2, ![8192, 256]⟩
abbrev S8192x128 : Shape := ⟨2, ![8192, 128]⟩
abbrev S8192x1024 : Shape := ⟨2, ![8192, 1024]⟩
abbrev S2x1024 : Shape := ⟨2, ![2, 1024]⟩
abbrev S1024x3584 : Shape := ⟨2, ![1024, 3584]⟩
abbrev S8192x3584 : Shape := ⟨2, ![8192, 3584]⟩
abbrev S1x1024 : Shape := ⟨2, ![1, 1024]⟩
abbrev S512x768 : Shape := ⟨2, ![512, 768]⟩
abbrev S512x512 : Shape := ⟨2, ![512, 512]⟩
abbrev S512x256 : Shape := ⟨2, ![512, 256]⟩
abbrev S512x128 : Shape := ⟨2, ![512, 128]⟩
abbrev S512x1024 : Shape := ⟨2, ![512, 1024]⟩
abbrev S512x3584 : Shape := ⟨2, ![512, 3584]⟩
abbrev S512 : Shape := ⟨1, ![512]⟩
abbrev S512x1 : Shape := ⟨2, ![512, 1]⟩
abbrev S1024 : Shape := ⟨1, ![1024]⟩

abbrev nBuf : Space → Nat
  | .hbm => 15
  | .vmem => 27
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x512, .bf16⟩
  | .hbm, ⟨3, _⟩ => ⟨S8192x768, .bf16⟩
  | .hbm, ⟨4, _⟩ => ⟨S8192x256, .bf16⟩
  | .hbm, ⟨5, _⟩ => ⟨S8192x256, .bf16⟩
  | .hbm, ⟨6, _⟩ => ⟨S8192x128, .bf16⟩
  | .hbm, ⟨7, _⟩ => ⟨S8192x128, .bf16⟩
  | .hbm, ⟨8, _⟩ => ⟨S8192x1024, .f32⟩
  | .hbm, ⟨9, _⟩ => ⟨S8192x1024, .f32⟩
  | .hbm, ⟨10, _⟩ => ⟨S2x1024, .f32⟩
  | .hbm, ⟨11, _⟩ => ⟨S1024x3584, .bf16⟩
  | .hbm, ⟨12, _⟩ => ⟨S8192x3584, .bf16⟩
  | .hbm, ⟨13, _⟩ => ⟨S8192x1024, .f32⟩
  | .hbm, ⟨14, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x512, .bf16⟩
  | .local _ .vmem, ⟨5, _⟩ => ⟨S512x512, .bf16⟩
  | .local _ .vmem, ⟨6, _⟩ => ⟨S512x768, .bf16⟩
  | .local _ .vmem, ⟨7, _⟩ => ⟨S512x768, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S2x1024, .f32⟩
  | .local _ .vmem, ⟨21, _⟩ => ⟨S1024x3584, .bf16⟩
  | .local _ .vmem, ⟨22, _⟩ => ⟨S512x3584, .bf16⟩
  | .local _ .vmem, ⟨23, _⟩ => ⟨S512x3584, .bf16⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x3584 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x3584 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== InProjBwd0RefIdeal.lean ====
abbrev S8192x768 : Shape := ⟨2, ![8192, 768]⟩
abbrev S8192x512 : Shape := ⟨2, ![8192, 512]⟩
abbrev S8192x256 : Shape := ⟨2, ![8192, 256]⟩
abbrev S8192x128 : Shape := ⟨2, ![8192, 128]⟩
abbrev S8192x1024 : Shape := ⟨2, ![8192, 1024]⟩
abbrev S2x1024 : Shape := ⟨2, ![2, 1024]⟩
abbrev S1024x3584 : Shape := ⟨2, ![1024, 3584]⟩
abbrev S8192x3584 : Shape := ⟨2, ![8192, 3584]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 66
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x512, .bf16⟩
  | .hbm, ⟨3, _⟩ => ⟨S8192x768, .bf16⟩
  | .hbm, ⟨4, _⟩ => ⟨S8192x256, .bf16⟩
  | .hbm, ⟨5, _⟩ => ⟨S8192x256, .bf16⟩
  | .hbm, ⟨6, _⟩ => ⟨S8192x128, .bf16⟩
  | .hbm, ⟨7, _⟩ => ⟨S8192x128, .bf16⟩
  | .hbm, ⟨8, _⟩ => ⟨S8192x1024, .f32⟩
  | .hbm, ⟨9, _⟩ => ⟨S8192x1024, .f32⟩
  | .hbm, ⟨10, _⟩ => ⟨S2x1024, .f32⟩
  | .hbm, ⟨11, _⟩ => ⟨S1024x3584, .bf16⟩
  | .hbm, ⟨12, _⟩ => ⟨S8192x3584, .bf16⟩
  | .hbm, ⟨13, _⟩ => ⟨S1x1024, .f32⟩
  | .hbm, ⟨14, _⟩ => ⟨S1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1024x3584, .f32⟩
  | .hbm, ⟨36, _⟩ => ⟨S8192x3584, .f32⟩
  | .hbm, ⟨37, _⟩ => ⟨S8192x3584, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S1x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== MlpBwd0.lean ====
abbrev S8192x1024 : Shape := ⟨2, ![8192, 1024]⟩
abbrev S2x1024 : Shape := ⟨2, ![2, 1024]⟩
abbrev S2x2816x1024 : Shape := ⟨3, ![2, 2816, 1024]⟩
abbrev S8x2x704x1024 : Shape := ⟨4, ![8, 2, 704, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x1x704x1024 : Shape := ⟨4, ![8, 1, 704, 1024]⟩
abbrev S8x704x1024 : Shape := ⟨3, ![8, 704, 1024]⟩
abbrev S5632x1024 : Shape := ⟨2, ![5632, 1024]⟩
abbrev S1024x5632 : Shape := ⟨2, ![1024, 5632]⟩
abbrev S8192x5632 : Shape := ⟨2, ![8192, 5632]⟩
abbrev S256x1024 : Shape := ⟨2, ![256, 1024]⟩
abbrev S256x5632 : Shape := ⟨2, ![256, 5632]⟩
abbrev S1x2816x1024 : Shape := ⟨3, ![1, 2816, 1024]⟩
abbrev S1x1024x1024 : Shape := ⟨3, ![1, 1024, 1024]⟩
abbrev S2816x1024 : Shape := ⟨2, ![2816, 1024]⟩
abbrev S256x2816 : Shape := ⟨2, ![256, 2816]⟩
abbrev S256 : Shape := ⟨1, ![256]⟩
abbrev S256x1 : Shape := ⟨2, ![256, 1]⟩
abbrev S1024x1024 : Shape := ⟨2, ![1024, 1024]⟩

abbrev nBuf : Space → Nat
  | .hbm => 35
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024, .f32⟩
  | .hbm, ⟨3, _⟩ => ⟨S2x2816x1024, .bf16⟩
  | .hbm, ⟨4, _⟩ => ⟨S8x2x704x1024, .bf16⟩
  | .hbm, ⟨5, _⟩ => ⟨S2x1024x1024, .bf16⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8x1x704x1024, .bf16⟩
  | .hbm, ⟨25, _⟩ => ⟨S8x704x1024, .bf16⟩
  | .hbm, ⟨26, _⟩ => ⟨S5632x1024, .bf16⟩
  | .hbm, ⟨27, _⟩ => ⟨S5632x1024, .f32⟩
  | .hbm, ⟨28, _⟩ => ⟨S1024x5632, .f32⟩
  | .hbm, ⟨29, _⟩ => ⟨S8192x5632, .f32⟩
  | .hbm, ⟨30, _⟩ => ⟨S8192x5632, .bf16⟩
  | .hbm, ⟨31, _⟩ => ⟨S8192x5632, .bf16⟩
  | .hbm, ⟨32, _⟩ => ⟨S8192x1024, .f32⟩
  | .hbm, ⟨33, _⟩ => ⟨S8192x1024, .f32⟩
  | .hbm, ⟨34, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .bf16⟩
  | .local _ .vmem, ⟨5, _⟩ => ⟨S256x5632, .bf16⟩
  | .local _ .vmem, ⟨6, _⟩ => ⟨S2x1024, .f32⟩
  | .local _ .vmem, ⟨7, _⟩ => ⟨S1x2816x1024, .bf16⟩
  | .local _ .vmem, ⟨8, _⟩ => ⟨S8x1x704x1024, .bf16⟩
  | .local _ .vmem, ⟨9, _⟩ => ⟨S1x1024x1024, .bf16⟩
  | .local _ .vmem, ⟨10, _⟩ => ⟨S256x5632, .bf16⟩
  | .local _ .vmem, ⟨11, _⟩ => ⟨S256x5632, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MlpBwd0RefIdeal.lean ====
abbrev S8192x1024 : Shape := ⟨2, ![8192, 1024]⟩
abbrev S2x1024 : Shape := ⟨2, ![2, 1024]⟩
abbrev S2x2816x1024 : Shape := ⟨3, ![2, 2816, 1024]⟩
abbrev S8x2x704x1024 : Shape := ⟨4, ![8, 2, 704, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x1x704x1024 : Shape := ⟨4, ![8, 1, 704, 1024]⟩
abbrev S8x704x1024 : Shape := ⟨3, ![8, 704, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S1x2816x1024 : Shape := ⟨3, ![1, 2816, 1024]⟩
abbrev S2816x1024 : Shape := ⟨2, ![2816, 1024]⟩
abbrev S1x1024x1024 : Shape := ⟨3, ![1, 1024, 1024]⟩
abbrev S1024x1024 : Shape := ⟨2, ![1024, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024, .f32⟩
  | .hbm, ⟨3, _⟩ => ⟨S2x2816x1024, .bf16⟩
  | .hbm, ⟨4, _⟩ => ⟨S8x2x704x1024, .bf16⟩
  | .hbm, ⟨5, _⟩ => ⟨S2x1024x1024, .bf16⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8x1x704x1024, .bf16⟩
  | .hbm, ⟨29, _⟩ => ⟨S8x704x1024, .bf16⟩
  | .hbm, ⟨30, _⟩ => ⟨S5632x1024, .bf16⟩
  | .hbm, ⟨31, _⟩ => ⟨S5632x1024, .f32⟩
  | .hbm, ⟨32, _⟩ => ⟨S1024x5632, .f32⟩
  | .hbm, ⟨33, _⟩ => ⟨S8192x5632, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S1x2816x1024, .bf16⟩
  | .hbm, ⟨51, _⟩ => ⟨S2816x1024, .bf16⟩
  | .hbm, ⟨52, _⟩ => ⟨S2816x1024, .f32⟩
  | .hbm, ⟨53, _⟩ => ⟨S8192x1024, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x5632, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192x1024, .f32⟩
  | .hbm, ⟨91, _⟩ => ⟨S1x1024x1024, .bf16⟩
  | .hbm, ⟨92, _⟩ => ⟨S1024x1024, .bf16⟩
  | .hbm, ⟨93, _⟩ => ⟨S1024x1024, .f32⟩
  | .hbm, ⟨94, _⟩ => ⟨S8192x1024, .f32⟩
  | .hbm, ⟨95, _⟩ => ⟨S8192x1024, .f32⟩
  | .hbm, ⟨96, _⟩ => ⟨S8192x5632, .bf16⟩
  | .hbm, ⟨97, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v26_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v26_1 : Ref sig .tc := ⟨.hbm, 47, rfl⟩
abbrev main_v26_0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_4 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]
-- ==== AdamwGu.lean ====
abbrev S8x704x1024 : Shape := ⟨3, ![8, 704, 1024]⟩
abbrev S2x704x1024 : Shape := ⟨3, ![2, 704, 1024]⟩
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S8x352x1024, .bf16⟩
  | .local _ .vmem, ⟨3, _⟩ => ⟨S8x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwGuRefIdeal.lean ====
abbrev S8x704x1024 : Shape := ⟨3, ![8, 704, 1024]⟩
abbrev S2x704x1024 : Shape := ⟨3, ![2, 704, 1024]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S2x704x1024, .f32⟩
  | .hbm, ⟨14, _⟩ => ⟨S_, .f32⟩
  | .hbm, ⟨15, _⟩ => ⟨S2x704x1024, .f32⟩
  | .hbm, ⟨16, _⟩ => ⟨S2x704x1024, .f32⟩
  | .hbm, ⟨17, _⟩ => ⟨S_, .f32⟩
  | .hbm, ⟨18, _⟩ => ⟨S2x704x1024, .f32⟩
  | .hbm, ⟨19, _⟩ => ⟨S2x704x1024, .f32⟩
  | .hbm, ⟨20, _⟩ => ⟨S2x704x1024, .f32⟩
  | .hbm, ⟨21, _⟩ => ⟨S_, .f32⟩
  | .hbm, ⟨22, _⟩ => ⟨S2x704x1024, .f32⟩
  | .hbm, ⟨23, _⟩ => ⟨S2x704x1024, .f32⟩
  | .hbm, ⟨24, _⟩ => ⟨S2x704x1024, .f32⟩
  | .hbm, ⟨25, _⟩ => ⟨S_, .f32⟩
  | .hbm, ⟨26, _⟩ => ⟨S2x704x1024, .f32⟩
  | .hbm, ⟨27, _⟩ => ⟨S2x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S2x704x1024, .f32⟩
  | .hbm, ⟨36, _⟩ => ⟨S_, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S_, .f32⟩
  | .hbm, ⟨41, _⟩ => ⟨S2x704x1024, .f32⟩
  | .hbm, ⟨42, _⟩ => ⟨S2x704x1024, .f32⟩
  | .hbm, ⟨43, _⟩ => ⟨S2x704x1024, .f32⟩
  | .hbm, ⟨44, _⟩ => ⟨S_, .f32⟩
  | .hbm, ⟨45, _⟩ => ⟨S2x704x1024, .f32⟩
  | .hbm, ⟨46, _⟩ => ⟨S2x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamwOut.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwOutRefIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamwDown.lean ====
abbrev S8x352x1024 : Shape := ⟨3, ![8, 352, 1024]⟩
abbrev S2x352x1024 : Shape := ⟨3, ![2, 352, 1024]⟩
abbrev S1x352x1024 : Shape := ⟨3, ![1, 352, 1024]⟩
abbrev S352x1024 : Shape := ⟨2, ![352, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwDownRefIdeal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamwIn.lean ====
abbrev S8x432x1024 : Shape := ⟨3, ![8, 432, 1024]⟩
abbrev S419x2x1024 : Shape := ⟨3, ![419, 2, 1024]⟩
abbrev S8x432x512 : Shape := ⟨3, ![8, 432, 512]⟩
abbrev S419x2x512 : Shape := ⟨3, ![419, 2, 512]⟩
abbrev S1x419x512 : Shape := ⟨3, ![1, 419, 512]⟩
abbrev S419x512 : Shape := ⟨2, ![419, 512]⟩
abbrev S419x1x512 : Shape := ⟨3, ![419, 1, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x432x1024, .bf16⟩
  | .hbm, ⟨1, _⟩ => ⟨S8x432x1024, .bf16⟩
  | .hbm, ⟨2, _⟩ => ⟨S419x2x1024, .f32⟩
  | .hbm, ⟨3, _⟩ => ⟨S419x2x1024, .f32⟩
  | .hbm, ⟨4, _⟩ => ⟨S419x2x1024, .f32⟩
  | .hbm, ⟨5, _⟩ => ⟨S419x2x1024, .f32⟩
  | .hbm, ⟨6, _⟩ => ⟨S419x2x1024, .f32⟩
  | .hbm, ⟨7, _⟩ => ⟨S419x2x1024, .f32⟩
  | .hbm, ⟨8, _⟩ => ⟨S419x2x1024, .f32⟩
  | .local _ .vmem, ⟨0, _⟩ => ⟨S8x432x512, .bf16⟩
  | .local _ .vmem, ⟨1, _⟩ => ⟨S8x432x512, .bf16⟩
  | .local _ .vmem, ⟨2, _⟩ => ⟨S8x432x512, .bf16⟩
  | .local _ .vmem, ⟨3, _⟩ => ⟨S8x432x512, .bf16⟩
  | .local _ .vmem, ⟨4, _⟩ => ⟨S419x2x512, .f32⟩
  | .local _ .vmem, ⟨5, _⟩ => ⟨S419x2x512, .f32⟩
  | .local _ .vmem, ⟨6, _⟩ => ⟨S419x2x512, .f32⟩
  | .local _ .vmem, ⟨7, _⟩ => ⟨S419x2x512, .f32⟩
  | .local _ .vmem, ⟨8, _⟩ => ⟨S419x2x512, .f32⟩
  | .local _ .vmem, ⟨9, _⟩ => ⟨S419x2x512, .f32⟩
  | .local _ .vmem, ⟨10, _⟩ => ⟨S419x2x512, .f32⟩
  | .local _ .vmem, ⟨11, _⟩ => ⟨S419x2x512, .f32⟩
  | .local _ .vmem, ⟨12, _⟩ => ⟨S419x2x512, .f32⟩
  | .local _ .vmem, ⟨13, _⟩ => ⟨S419x2x512, .f32⟩
  | .local _ .vmem, ⟨14, _⟩ => ⟨S419x2x512, .f32⟩
  | .local _ .vmem, ⟨15, _⟩ => ⟨S419x2x512, .f32⟩
  | .local _ .vmem, ⟨16, _⟩ => ⟨S419x2x512, .f32⟩
  | .local _ .vmem, ⟨17, _⟩ => ⟨S419x2x512, .f32⟩
  | _, _ => ⟨S8x432x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x432x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x432x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S419x2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S419x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S419x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S419x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S419x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S419x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S419x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwInRefIdeal.lean ====
abbrev S8x432x1024 : Shape := ⟨3, ![8, 432, 1024]⟩
abbrev S419x2x1024 : Shape := ⟨3, ![419, 2, 1024]⟩
abbrev S8x419x1024 : Shape := ⟨3, ![8, 419, 1024]⟩
abbrev S_ : Shape := ⟨0, ![]⟩
abbrev S419x1024 : Shape := ⟨2, ![419, 1024]⟩
abbrev S419x1x1024 : Shape := ⟨3, ![419, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x432x1024, .bf16⟩
  | .hbm, ⟨1, _⟩ => ⟨S8x432x1024, .bf16⟩
  | .hbm, ⟨2, _⟩ => ⟨S419x2x1024, .f32⟩
  | .hbm, ⟨3, _⟩ => ⟨S419x2x1024, .f32⟩
  | .hbm, ⟨4, _⟩ => ⟨S419x2x1024, .f32⟩
  | .hbm, ⟨5, _⟩ => ⟨S8x419x1024, .bf16⟩
  | .hbm, ⟨6, _⟩ => ⟨S8x419x1024, .f32⟩
  | .hbm, ⟨7, _⟩ => ⟨S_, .f32⟩
  | .hbm, ⟨8, _⟩ => ⟨S419x1024, .f32⟩
  | .hbm, ⟨9, _⟩ => ⟨S8x419x1024, .bf16⟩
  | .hbm, ⟨10, _⟩ => ⟨S8x419x1024, .f32⟩
  | .hbm, ⟨11, _⟩ => ⟨S_, .f32⟩
  | .hbm, ⟨12, _⟩ => ⟨S419x1024, .f32⟩
  | .hbm, ⟨13, _⟩ => ⟨S419x1x1024, .f32⟩
  | .hbm, ⟨14, _⟩ => ⟨S419x1x1024, .f32⟩
  | .hbm, ⟨15, _⟩ => ⟨S419x2x1024, .f32⟩
  | .hbm, ⟨16, _⟩ => ⟨S_, .f32⟩
  | .hbm, ⟨17, _⟩ => ⟨S419x2x1024, .f32⟩
  | .hbm, ⟨18, _⟩ => ⟨S419x2x1024, .f32⟩
  | .hbm, ⟨19, _⟩ => ⟨S_, .f32⟩
  | .hbm, ⟨20, _⟩ => ⟨S419x2x1024, .f32⟩
  | .hbm, ⟨21, _⟩ => ⟨S419x2x1024, .f32⟩
  | .hbm, ⟨22, _⟩ => ⟨S419x2x1024, .f32⟩
  | .hbm, ⟨23, _⟩ => ⟨S_, .f32⟩
  | .hbm, ⟨24, _⟩ => ⟨S419x2x1024, .f32⟩
  | .hbm, ⟨25, _⟩ => ⟨S419x2x1024, .f32⟩
  | .hbm, ⟨26, _⟩ => ⟨S419x2x1024, .f32⟩
  | .hbm, ⟨27, _⟩ => ⟨S_, .f32⟩
  | .hbm, ⟨28, _⟩ => ⟨S419x2x1024, .f32⟩
  | .hbm, ⟨29, _⟩ => ⟨S419x2x1024, .f32⟩
  | .hbm, ⟨30, _⟩ => ⟨S419x2x1024, .f32⟩
  | .hbm, ⟨31, _⟩ => ⟨S_, .f32⟩
  | .hbm, ⟨32, _⟩ => ⟨S419x2x1024, .f32⟩
  | .hbm, ⟨33, _⟩ => ⟨S419x2x1024, .f32⟩
  | .hbm, ⟨34, _⟩ => ⟨S_, .f32⟩
  | .hbm, ⟨35, _⟩ => ⟨S419x2x1024, .f32⟩
  | .hbm, ⟨36, _⟩ => ⟨S419x2x1024, .f32⟩
  | .hbm, ⟨37, _⟩ => ⟨S419x2x1024, .f32⟩
  | .hbm, ⟨38, _⟩ => ⟨S_, .f32⟩
  | .hbm, ⟨39, _⟩ => ⟨S419x2x1024, .f32⟩
  | .hbm, ⟨40, _⟩ => ⟨S419x2x1024, .f32⟩
  | .hbm, ⟨41, _⟩ => ⟨S419x2x1024, .f32⟩
  | .hbm, ⟨42, _⟩ => ⟨S_, .f32⟩
  | .hbm, ⟨43, _⟩ => ⟨S419x2x1024, .f32⟩
  | .hbm, ⟨44, _⟩ => ⟨S419x2x1024, .f32⟩
  | .hbm, ⟨45, _⟩ => ⟨S419x2x1024, .f32⟩
  | .hbm, ⟨46, _⟩ => ⟨S_, .f32⟩
  | .hbm, ⟨47, _⟩ => ⟨S419x2x1024, .f32⟩
  | .hbm, ⟨48, _⟩ => ⟨S419x2x1024, .f32⟩
  | _, _ => ⟨S8x432x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamwShards.lean ====
abbrev S2x3x32 : Shape := ⟨3, ![2, 3, 32]⟩
abbrev S2x4x96 : Shape := ⟨3, ![2, 4, 96]⟩
abbrev S2x16x32 : Shape := ⟨3, ![2, 16, 32]⟩

abbrev nBuf : Space → Nat
  | .hbm => 21
  | .vmem => 21
  | .smem => 0
  | _ => 0

abbrev bufTy : (tb : Table) → Fin (tcTables nBuf tb) → BufTy
  | .hbm, ⟨0, _⟩ => ⟨S2x3x32, .f32⟩
  | .hbm, ⟨1, _⟩ => ⟨S2x4x96, .f32⟩
  | .hbm, ⟨2, _⟩ => ⟨S2x16x32, .f32⟩
  | .hbm, ⟨3, _⟩ => ⟨S2x3x32, .f32⟩
  | .hbm, ⟨4, _⟩ => ⟨S2x4x96, .f32⟩
  | .hbm, ⟨5, _⟩ => ⟨S2x16x32, .f32⟩
  | .hbm, ⟨6, _⟩ => ⟨S2x3x32, .f32⟩
  | .hbm, ⟨7, _⟩ => ⟨S2x4x96, .f32⟩
  | .hbm, ⟨8, _⟩ => ⟨S2x16x32, .f32⟩
  | .hbm, ⟨9, _⟩ => ⟨S2x3x32, .f32⟩
  | .hbm, ⟨10, _⟩ => ⟨S2x4x96, .f32⟩
  | .hbm, ⟨11, _⟩ => ⟨S2x16x32, .f32⟩
  | .hbm, ⟨12, _⟩ => ⟨S2x3x32, .f32⟩
  | .hbm, ⟨13, _⟩ => ⟨S2x4x96, .f32⟩
  | .hbm, ⟨14, _⟩ => ⟨S2x16x32, .f32⟩
  | .hbm, ⟨15, _⟩ => ⟨S2x3x32, .f32⟩
  | .hbm, ⟨16, _⟩ => ⟨S2x4x96, .f32⟩
  | .hbm, ⟨17, _⟩ => ⟨S2x16x32, .f32⟩
  | .hbm, ⟨18, _⟩ => ⟨S2x3x32, .f32⟩
  | .hbm, ⟨19, _⟩ => ⟨S2x4x96, .f32⟩
  | .hbm, ⟨20, _⟩ => ⟨S2x16x32, .f32⟩
  | .local _ .vmem, ⟨0, _⟩ => ⟨S2x3x32, .f32⟩
  | .local _ .vmem, ⟨1, _⟩ => ⟨S2x4x96, .f32⟩
  | .local _ .vmem, ⟨2, _⟩ => ⟨S2x16x32, .f32⟩
  | .local _ .vmem, ⟨3, _⟩ => ⟨S2x3x32, .f32⟩
  | .local _ .vmem, ⟨4, _⟩ => ⟨S2x4x96, .f32⟩
  | .local _ .vmem, ⟨5, _⟩ => ⟨S2x16x32, .f32⟩
  | .local _ .vmem, ⟨6, _⟩ => ⟨S2x3x32, .f32⟩
  | .local _ .vmem, ⟨7, _⟩ => ⟨S2x4x96, .f32⟩
  | .local _ .vmem, ⟨8, _⟩ => ⟨S2x16x32, .f32⟩
  | .local _ .vmem, ⟨9, _⟩ => ⟨S2x3x32, .f32⟩
  | .local _ .vmem, ⟨10, _⟩ => ⟨S2x4x96, .f32⟩
  | .local _ .vmem, ⟨11, _⟩ => ⟨S2x16x32, .f32⟩
  | .local _ .vmem, ⟨12, _⟩ => ⟨S2x3x32, .f32⟩
  | .local _ .vmem, ⟨13, _⟩ => ⟨S2x4x96, .f32⟩
  | .local _ .vmem, ⟨14, _⟩ => ⟨S2x16x32, .f32⟩
  | .local _ .vmem, ⟨15, _⟩ => ⟨S2x3x32, .f32⟩
  | .local _ .vmem, ⟨16, _⟩ => ⟨S2x4x96, .f32⟩
  | .local _ .vmem, ⟨17, _⟩ => ⟨S2x16x32, .f32⟩
  | .local _ .vmem, ⟨18, _⟩ => ⟨S2x3x32, .f32⟩
  | .local _ .vmem, ⟨19, _⟩ => ⟨S2x4x96, .f32⟩
  | .local _ .vmem, ⟨20, _⟩ => ⟨S2x16x32, .f32⟩
  | _, _ => ⟨S2x3x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x3x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x3x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x16x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x3x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x4x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x16x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x3x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x4x96 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x16x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x3x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x4x96 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x16x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x3x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x4x96 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x16x32 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamwShardsRefIdeal.lean ====
abbrev S2x3x32 : Shape := ⟨3, ![2, 3, 32]⟩
abbrev S2x4x96 : Shape := ⟨3, ![2, 4, 96]⟩
abbrev S2x16x32 : Shape := ⟨3, ![2, 16, 32]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x3x32, .f32⟩
  | .hbm, ⟨1, _⟩ => ⟨S2x4x96, .f32⟩
  | .hbm, ⟨2, _⟩ => ⟨S2x16x32, .f32⟩
  | .hbm, ⟨3, _⟩ => ⟨S2x3x32, .f32⟩
  | .hbm, ⟨4, _⟩ => ⟨S2x4x96, .f32⟩
  | .hbm, ⟨5, _⟩ => ⟨S2x16x32, .f32⟩
  | .hbm, ⟨6, _⟩ => ⟨S2x3x32, .f32⟩
  | .hbm, ⟨7, _⟩ => ⟨S2x4x96, .f32⟩
  | .hbm, ⟨8, _⟩ => ⟨S2x16x32, .f32⟩
  | .hbm, ⟨9, _⟩ => ⟨S2x3x32, .f32⟩
  | .hbm, ⟨10, _⟩ => ⟨S2x4x96, .f32⟩
  | .hbm, ⟨11, _⟩ => ⟨S2x16x32, .f32⟩
  | .hbm, ⟨12, _⟩ => ⟨S_, .f32⟩
  | .hbm, ⟨13, _⟩ => ⟨S2x3x32, .f32⟩
  | .hbm, ⟨14, _⟩ => ⟨S2x3x32, .f32⟩
  | .hbm, ⟨15, _⟩ => ⟨S_, .f32⟩
  | .hbm, ⟨16, _⟩ => ⟨S2x3x32, .f32⟩
  | .hbm, ⟨17, _⟩ => ⟨S2x3x32, .f32⟩
  | .hbm, ⟨18, _⟩ => ⟨S2x3x32, .f32⟩
  | .hbm, ⟨19, _⟩ => ⟨S_, .f32⟩
  | .hbm, ⟨20, _⟩ => ⟨S2x3x32, .f32⟩
  | .hbm, ⟨21, _⟩ => ⟨S2x3x32, .f32⟩
  | .hbm, ⟨22, _⟩ => ⟨S2x3x32, .f32⟩
  | .hbm, ⟨23, _⟩ => ⟨S_, .f32⟩
  | .hbm, ⟨24, _⟩ => ⟨S2x3x32, .f32⟩
  | .hbm, ⟨25, _⟩ => ⟨S2x3x32, .f32⟩
  | .hbm, ⟨26, _⟩ => ⟨S2x3x32, .f32⟩
  | .hbm, ⟨27, _⟩ => ⟨S_, .f32⟩
  | .hbm, ⟨28, _⟩ => ⟨S2x3x32, .f32⟩
  | .hbm, ⟨29, _⟩ => ⟨S2x3x32, .f32⟩
  | .hbm, ⟨30, _⟩ => ⟨S_, .f32⟩
  | .hbm, ⟨31, _⟩ => ⟨S2x3x32, .f32⟩
  | .hbm, ⟨32, _⟩ => ⟨S2x3x32, .f32⟩
  | .hbm, ⟨33, _⟩ => ⟨S2x3x32, .f32⟩
  | .hbm, ⟨34, _⟩ => ⟨S_, .f32⟩
  | .hbm, ⟨35, _⟩ => ⟨S2x3x32, .f32⟩
  | .hbm, ⟨36, _⟩ => ⟨S2x3x32, .f32⟩
  | .hbm, ⟨37, _⟩ => ⟨S2x3x32, .f32⟩
  | .hbm, ⟨38, _⟩ => ⟨S_, .f32⟩
  | .hbm, ⟨39, _⟩ => ⟨S2x3x32, .f32⟩
  | .hbm, ⟨40, _⟩ => ⟨S2x3x32, .f32⟩
  | .hbm, ⟨41, _⟩ => ⟨S2x3x32, .f32⟩
  | .hbm, ⟨42, _⟩ => ⟨S_, .f32⟩
  | .hbm, ⟨43, _⟩ => ⟨S2x3x32, .f32⟩
  | .hbm, ⟨44, _⟩ => ⟨S2x3x32, .f32⟩
  | .hbm, ⟨45, _⟩ => ⟨S_, .f32⟩
  | .hbm, ⟨46, _⟩ => ⟨S2x4x96, .f32⟩
  | .hbm, ⟨47, _⟩ => ⟨S2x4x96, .f32⟩
  | .hbm, ⟨48, _⟩ => ⟨S_, .f32⟩
  | .hbm, ⟨49, _⟩ => ⟨S2x4x96, .f32⟩
  | .hbm, ⟨50, _⟩ => ⟨S2x4x96, .f32⟩
  | .hbm, ⟨51, _⟩ => ⟨S2x4x96, .f32⟩
  | .hbm, ⟨52, _⟩ => ⟨S_, .f32⟩
  | .hbm, ⟨53, _⟩ => ⟨S2x4x96, .f32⟩
  | .hbm, ⟨54, _⟩ => ⟨S2x4x96, .f32⟩
  | .hbm, ⟨55, _⟩ => ⟨S2x4x96, .f32⟩
  | .hbm, ⟨56, _⟩ => ⟨S_, .f32⟩
  | .hbm, ⟨57, _⟩ => ⟨S2x4x96, .f32⟩
  | .hbm, ⟨58, _⟩ => ⟨S2x4x96, .f32⟩
  | .hbm, ⟨59, _⟩ => ⟨S2x4x96, .f32⟩
  | .hbm, ⟨60, _⟩ => ⟨S_, .f32⟩
  | .hbm, ⟨61, _⟩ => ⟨S2x4x96, .f32⟩
  | .hbm, ⟨62, _⟩ => ⟨S2x4x96, .f32⟩
  | .hbm, ⟨63, _⟩ => ⟨S_, .f32⟩
  | .hbm, ⟨64, _⟩ => ⟨S2x4x96, .f32⟩
  | .hbm, ⟨65, _⟩ => ⟨S2x4x96, .f32⟩
  | .hbm, ⟨66, _⟩ => ⟨S2x4x96, .f32⟩
  | .hbm, ⟨67, _⟩ => ⟨S_, .f32⟩
  | .hbm, ⟨68, _⟩ => ⟨S2x4x96, .f32⟩
  | .hbm, ⟨69, _⟩ => ⟨S2x4x96, .f32⟩
  | .hbm, ⟨70, _⟩ => ⟨S2x4x96, .f32⟩
  | .hbm, ⟨71, _⟩ => ⟨S_, .f32⟩
  | .hbm, ⟨72, _⟩ => ⟨S2x4x96, .f32⟩
  | .hbm, ⟨73, _⟩ => ⟨S2x4x96, .f32⟩
  | .hbm, ⟨74, _⟩ => ⟨S2x4x96, .f32⟩
  | .hbm, ⟨75, _⟩ => ⟨S_, .f32⟩
  | .hbm, ⟨76, _⟩ => ⟨S2x4x96, .f32⟩
  | .hbm, ⟨77, _⟩ => ⟨S2x4x96, .f32⟩
  | .hbm, ⟨78, _⟩ => ⟨S_, .f32⟩
  | .hbm, ⟨79, _⟩ => ⟨S2x16x32, .f32⟩
  | .hbm, ⟨80, _⟩ => ⟨S2x16x32, .f32⟩
  | .hbm, ⟨81, _⟩ => ⟨S_, .f32⟩
  | .hbm, ⟨82, _⟩ => ⟨S2x16x32, .f32⟩
  | .hbm, ⟨83, _⟩ => ⟨S2x16x32, .f32⟩
  | .hbm, ⟨84, _⟩ => ⟨S2x16x32, .f32⟩
  | .hbm, ⟨85, _⟩ => ⟨S_, .f32⟩
  | .hbm, ⟨86, _⟩ => ⟨S2x16x32, .f32⟩
  | .hbm, ⟨87, _⟩ => ⟨S2x16x32, .f32⟩
  | .hbm, ⟨88, _⟩ => ⟨S2x16x32, .f32⟩
  | .hbm, ⟨89, _⟩ => ⟨S_, .f32⟩
  | .hbm, ⟨90, _⟩ => ⟨S2x16x32, .f32⟩
  | .hbm, ⟨91, _⟩ => ⟨S2x16x32, .f32⟩
  | .hbm, ⟨92, _⟩ => ⟨S2x16x32, .f32⟩
  | .hbm, ⟨93, _⟩ => ⟨S_, .f32⟩
  | .hbm, ⟨94, _⟩ => ⟨S2x16x32, .f32⟩
  | .hbm, ⟨95, _⟩ => ⟨S2x16x32, .f32⟩
  | .hbm, ⟨96, _⟩ => ⟨S_, .f32⟩
  | .hbm, ⟨97, _⟩ => ⟨S2x16x32, .f32⟩
  | .hbm, ⟨98, _⟩ => ⟨S2x16x32, .f32⟩
  | .hbm, ⟨99, _⟩ => ⟨S2x16x32, .f32⟩
  | .hbm, ⟨100, _⟩ => ⟨S_, .f32⟩
  | .hbm, ⟨101, _⟩ => ⟨S2x16x32, .f32⟩
  | .hbm, ⟨102, _⟩ => ⟨S2x16x32, .f32⟩
  | .hbm, ⟨103, _⟩ => ⟨S2x16x32, .f32⟩
  | .hbm, ⟨104, _⟩ => ⟨S_, .f32⟩
  | .hbm, ⟨105, _⟩ => ⟨S2x16x32, .f32⟩
  | .hbm, ⟨106, _⟩ => ⟨S2x16x32, .f32⟩
  | .hbm, ⟨107, _⟩ => ⟨S2x16x32, .f32⟩
  | .hbm, ⟨108, _⟩ => ⟨S_, .f32⟩
  | .hbm, ⟨109, _⟩ => ⟨S2x16x32, .f32⟩
  | .hbm, ⟨110, _⟩ => ⟨S2x16x32, .f32⟩
  | _, _ => ⟨S2x3x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== QkvBwd.lean ====
abbrev S8192x3584 : Shape := ⟨2, ![8192, 3584]⟩
abbrev S8192x768 : Shape := ⟨2, ![8192, 768]⟩
abbrev S2x4x768 : Shape := ⟨3, ![2, 4, 768]⟩
abbrev S4x768 : Shape := ⟨2, ![4, 768]⟩
abbrev S1024x768 : Shape := ⟨2, ![1024, 768]⟩
abbrev S8x768 : Shape := ⟨2, ![8, 768]⟩
abbrev S1x4x768 : Shape := ⟨3, ![1, 4, 768]⟩
abbrev S1032x768 : Shape := ⟨2, ![1032, 768]⟩
abbrev S1040x768 : Shape := ⟨2, ![1040, 768]⟩
abbrev S1x768 : Shape := ⟨2, ![1, 768]⟩
abbrev S768 : Shape := ⟨1, ![768]⟩

abbrev nBuf : Space → Nat
  | .hbm => 5
  | .vmem => 14
  | .smem => 0
  | _ => 0

abbrev bufTy : (tb : Table) → Fin (tcTables nBuf tb) → BufTy
  | .hbm, ⟨0, _⟩ => ⟨S8192x3584, .f32⟩
  | .hbm, ⟨1, _⟩ => ⟨S8192x768, .f32⟩
  | .hbm, ⟨2, _⟩ => ⟨S2x4x768, .f32⟩
  | .hbm, ⟨3, _⟩ => ⟨S8192x768, .bf16⟩
  | .hbm, ⟨4, _⟩ => ⟨S4x768, .f32⟩
  | .local _ .vmem, ⟨0, _⟩ => ⟨S1024x768, .f32⟩
  | .local _ .vmem, ⟨1, _⟩ => ⟨S1024x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S1024x768, .f32⟩
  | .local _ .vmem, ⟨7, _⟩ => ⟨S1024x768, .f32⟩
  | .local _ .vmem, ⟨8, _⟩ => ⟨S8x768, .f32⟩
  | .local _ .vmem, ⟨9, _⟩ => ⟨S8x768, .f32⟩
  | .local _ .vmem, ⟨10, _⟩ => ⟨S1x4x768, .f32⟩
  | .local _ .vmem, ⟨11, _⟩ => ⟨S1024x768, .bf16⟩
  | .local _ .vmem, ⟨12, _⟩ => ⟨S1024x768, .bf16⟩
  | .local _ .vmem, ⟨13, _⟩ => ⟨S4x768, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== QkvBwdRefIdeal.lean ====
abbrev S8192x3584 : Shape := ⟨2, ![8192, 3584]⟩
abbrev S8192x768 : Shape := ⟨2, ![8192, 768]⟩
abbrev S2x4x768 : Shape := ⟨3, ![2, 4, 768]⟩
abbrev S1x4x768 : Shape := ⟨3, ![1, 4, 768]⟩
abbrev S4x768 : Shape := ⟨2, ![4, 768]⟩
abbrev S_ : Shape := ⟨0, ![]⟩
abbrev S3x768 : Shape := ⟨2, ![3, 768]⟩
abbrev S8195x768 : Shape := ⟨2, ![8195, 768]⟩
abbrev S1x768 : Shape := ⟨2, ![1, 768]⟩
abbrev S768 : Shape := ⟨1, ![768]⟩

abbrev nBuf : Space → Nat
  | .hbm => 99
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S8192x768, .f32⟩
  | .hbm, ⟨2, _⟩ => ⟨S2x4x768, .f32⟩
  | .hbm, ⟨3, _⟩ => ⟨S8192x768, .f32⟩
  | .hbm, ⟨4, _⟩ => ⟨S1x4x768, .f32⟩
  | .hbm, ⟨5, _⟩ => ⟨S4x768, .f32⟩
  | .hbm, ⟨6, _⟩ => ⟨S_, .f32⟩
  | .hbm, ⟨7, _⟩ => ⟨S3x768, .f32⟩
  | .hbm, ⟨8, _⟩ => ⟨S8195x768, .f32⟩
  | .hbm, ⟨9, _⟩ => ⟨S_, .f32⟩
  | .hbm, ⟨10, _⟩ => ⟨S3x768, .f32⟩
  | .hbm, ⟨11, _⟩ => ⟨S8192x768, .f32⟩
  | .hbm, ⟨12, _⟩ => ⟨S1x768, .f32⟩
  | .hbm, ⟨13, _⟩ => ⟨S8192x768, .f32⟩
  | .hbm, ⟨14, _⟩ => ⟨S8192x768, .f32⟩
  | .hbm, ⟨15, _⟩ => ⟨S_, .f32⟩
  | .hbm, ⟨16, _⟩ => ⟨S8192x768, .f32⟩
  | .hbm, ⟨17, _⟩ => ⟨S8192x768, .f32⟩
  | .hbm, ⟨18, _⟩ => ⟨S8192x768, .f32⟩
  | .hbm, ⟨19, _⟩ => ⟨S1x768, .f32⟩
  | .hbm, ⟨20, _⟩ => ⟨S8192x768, .f32⟩
  | .hbm, ⟨21, _⟩ => ⟨S8192x768, .f32⟩
  | .hbm, ⟨22, _⟩ => ⟨S8192x768, .f32⟩
  | .hbm, ⟨23, _⟩ => ⟨S8192x768, .f32⟩
  | .hbm, ⟨24, _⟩ => ⟨S1x768, .f32⟩
  | .hbm, ⟨25, _⟩ => ⟨S8192x768, .f32⟩
  | .hbm, ⟨26, _⟩ => ⟨S8192x768, .f32⟩
  | .hbm, ⟨27, _⟩ => ⟨S8192x768, .f32⟩
  | .hbm, ⟨28, _⟩ => ⟨S8192x768, .f32⟩
  | .hbm, ⟨29, _⟩ => ⟨S1x768, .f32⟩
  | .hbm, ⟨30, _⟩ => ⟨S8192x768, .f32⟩
  | .hbm, ⟨31, _⟩ => ⟨S8192x768, .f32⟩
  | .hbm, ⟨32, _⟩ => ⟨S8192x768, .f32⟩
  | .hbm, ⟨33, _⟩ => ⟨S8192x768, .f32⟩
  | .hbm, ⟨34, _⟩ => ⟨S8192x768, .f32⟩
  | .hbm, ⟨35, _⟩ => ⟨S_, .f32⟩
  | .hbm, ⟨36, _⟩ => ⟨S8192x768, .f32⟩
  | .hbm, ⟨37, _⟩ => ⟨S8192x768, .f32⟩
  | .hbm, ⟨38, _⟩ => ⟨S_, .f32⟩
  | .hbm, ⟨39, _⟩ => ⟨S8192x768, .f32⟩
  | .hbm, ⟨40, _⟩ => ⟨S8192x768, .f32⟩
  | .hbm, ⟨41, _⟩ => ⟨S_, .f32⟩
  | .hbm, ⟨42, _⟩ => ⟨S8192x768, .f32⟩
  | .hbm, ⟨43, _⟩ => ⟨S8192x768, .f32⟩
  | .hbm, ⟨44, _⟩ => ⟨S8192x768, .f32⟩
  | .hbm, ⟨45, _⟩ => ⟨S8192x768, .f32⟩
  | .hbm, ⟨46, _⟩ => ⟨S8192x768, .f32⟩
  | .hbm, ⟨47, _⟩ => ⟨S8192x768, .f32⟩
  | .hbm, ⟨48, _⟩ => ⟨S8192x768, .f32⟩
  | .hbm, ⟨49, _⟩ => ⟨S8192x768, .f32⟩
  | .hbm, ⟨50, _⟩ => ⟨S8192x768, .f32⟩
  | .hbm, ⟨51, _⟩ => ⟨S_, .f32⟩
  | .hbm, ⟨52, _⟩ => ⟨S768, .f32⟩
  | .hbm, ⟨53, _⟩ => ⟨S1x768, .f32⟩
  | .hbm, ⟨54, _⟩ => ⟨S8192x768, .f32⟩
  | .hbm, ⟨55, _⟩ => ⟨S8192x768, .f32⟩
  | .hbm, ⟨56, _⟩ => ⟨S_, .f32⟩
  | .hbm, ⟨57, _⟩ => ⟨S4x768, .f32⟩
  | .hbm, ⟨58, _⟩ => ⟨S_, .f32⟩
  | .hbm, ⟨59, _⟩ => ⟨S8195x768, .f32⟩
  | .hbm, ⟨60, _⟩ => ⟨S8192x768, .f32⟩
  | .hbm, ⟨61, _⟩ => ⟨S_, .f32⟩
  | .hbm, ⟨62, _⟩ => ⟨S768, .f32⟩
  | .hbm, ⟨63, _⟩ => ⟨S1x768, .f32⟩
  | .hbm, ⟨64, _⟩ => ⟨S8192x768, .f32⟩
  | .hbm, ⟨65, _⟩ => ⟨S8192x768, .f32⟩
  | .hbm, ⟨66, _⟩ => ⟨S_, .f32⟩
  | .hbm, ⟨67, _⟩ => ⟨S4x768, .f32⟩
  | .hbm, ⟨68, _⟩ => ⟨S4x768, .f32⟩
  | .hbm, ⟨69, _⟩ => ⟨S_, .f32⟩
  | .hbm, ⟨70, _⟩ => ⟨S8195x768, .f32⟩
  | .hbm, ⟨71, _⟩ => ⟨S8195x768, .f32⟩
  | .hbm, ⟨72, _⟩ => ⟨S8192x768, .f32⟩
  | .hbm, ⟨73, _⟩ => ⟨S_, .f32⟩
  | .hbm, ⟨74, _⟩ => ⟨S768, .f32⟩
  | .hbm, ⟨75, _⟩ => ⟨S1x768, .f32⟩
  | .hbm, ⟨76, _⟩ => ⟨S8192x768, .f32⟩
  | .hbm, ⟨77, _⟩ => ⟨S8192x768, .f32⟩
  | .hbm, ⟨78, _⟩ => ⟨S_, .f32⟩
  | .hbm, ⟨79, _⟩ => ⟨S4x768, .f32⟩
  | .hbm, ⟨80, _⟩ => ⟨S4x768, .f32⟩
  | .hbm, ⟨81, _⟩ => ⟨S_, .f32⟩
  | .hbm, ⟨82, _⟩ => ⟨S8195x768, .f32⟩
  | .hbm, ⟨83, _⟩ => ⟨S8195x768, .f32⟩
  | .hbm, ⟨84, _⟩ => ⟨S8192x768, .f32⟩
  | .hbm, ⟨85, _⟩ => ⟨S_, .f32⟩
  | .hbm, ⟨86, _⟩ => ⟨S768, .f32⟩
  | .hbm, ⟨87, _⟩ => ⟨S1x768, .f32⟩
  | .hbm, ⟨88, _⟩ => ⟨S8192x768, .f32⟩
  | .hbm, ⟨89, _⟩ => ⟨S8192x768, .f32⟩
  | .hbm, ⟨90, _⟩ => ⟨S_, .f32⟩
  | .hbm, ⟨91, _⟩ => ⟨S4x768, .f32⟩
  | .hbm, ⟨92, _⟩ => ⟨S4x768, .f32⟩
  | .hbm, ⟨93, _⟩ => ⟨S_, .f32⟩
  | .hbm, ⟨94, _⟩ => ⟨S8195x768, .f32⟩
  | .hbm, ⟨95, _⟩ => ⟨S8195x768, .f32⟩
  | .hbm, ⟨96, _⟩ => ⟨S3x768, .f32⟩
  | .hbm, ⟨97, _⟩ => ⟨S8192x768, .f32⟩
  | .hbm, ⟨98, _⟩ => ⟨S8192x768, .bf16⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_3 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_cst_13 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩

abbrev nD : Nat := 1
abbrev τ : Topo := Topo.v7x

variable {F : FTy → Type} [FloatOps F]
-- ==== SconvFwd.lean ====
abbrev S8192x3584 : Shape := ⟨2, ![8192, 3584]⟩
abbrev S2x3x256 : Shape := ⟨3, ![2, 3, 256]⟩
abbrev S8192x256 : Shape := ⟨2, ![8192, 256]⟩
abbrev S2048x256 : Shape := ⟨2, ![2048, 256]⟩
abbrev S8x256 : Shape := ⟨2, ![8, 256]⟩
abbrev S1x3x256 : Shape := ⟨3, ![1, 3, 256]⟩
abbrev S2056x256 : Shape := ⟨2, ![2056, 256]⟩
abbrev S3x256 : Shape := ⟨2, ![3, 256]⟩
abbrev S1x256 : Shape := ⟨2, ![1, 256]⟩

abbrev nBuf : Space → Nat
  | .hbm => 3
  | .vmem => 13
  | .smem => 0
  | _ => 0

abbrev bufTy : (tb : Table) → Fin (tcTables nBuf tb) → BufTy
  | .hbm, ⟨0, _⟩ => ⟨S8192x3584, .f32⟩
  | .hbm, ⟨1, _⟩ => ⟨S2x3x256, .f32⟩
  | .hbm, ⟨2, _⟩ => ⟨S8192x256, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S1x3x256, .f32⟩
  | .local _ .vmem, ⟨11, _⟩ => ⟨S2048x256, .bf16⟩
  | .local _ .vmem, ⟨12, _⟩ => ⟨S2048x256, .bf16⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c256_i32 : BitVec 32 := 256#32
  let v0 : BitVec 32 := Scalar.muli arg0 c256_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_4 (i : grid0.Coords) : Fin 2 → Nat :=
  let arg0 : BitVec 32 := BitVec.ofNat 32 (i 0).val
  let c256_i32 : BitVec 32 := 256#32
  let v0 : BitVec 32 := Scalar.muli arg0 c256_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SconvFwdRefIdeal.lean ====
abbrev S8192x3584 : Shape := ⟨2, ![8192, 3584]⟩
abbrev S2x3x256 : Shape := ⟨3, ![2, 3, 256]⟩
abbrev S8192x256 : Shape := ⟨2, ![8192, 256]⟩
abbrev S1x3x256 : Shape := ⟨3, ![1, 3, 256]⟩
abbrev S3x256 : Shape := ⟨2, ![3, 256]⟩
abbrev S_ : Shape := ⟨0, ![]⟩
abbrev S2x256 : Shape := ⟨2, ![2, 256]⟩
abbrev S8194x256 : Shape := ⟨2, ![8194, 256]⟩
abbrev S1x256 : Shape := ⟨2, ![1, 256]⟩

abbrev nBuf : Space → Nat
  | .hbm => 30
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S2x3x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S1x3x256, .f32⟩
  | .hbm, ⟨6, _⟩ => ⟨S3x256, .f32⟩
  | .hbm, ⟨7, _⟩ => ⟨S8192x256, .f32⟩
  | .hbm, ⟨8, _⟩ => ⟨S_, .f32⟩
  | .hbm, ⟨9, _⟩ => ⟨S2x256, .f32⟩
  | .hbm, ⟨10, _⟩ => ⟨S8194x256, .f32⟩
  | .hbm, ⟨11, _⟩ => ⟨S8192x256, .f32⟩
  | .hbm, ⟨12, _⟩ => ⟨S1x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S1x256, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x256, .bf16⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== QkvFwd.lean ====
abbrev S8192x3584 : Shape := ⟨2, ![8192, 3584]⟩
abbrev S2x4x768 : Shape := ⟨3, ![2, 4, 768]⟩
abbrev S8192x768 : Shape := ⟨2, ![8192, 768]⟩
abbrev S2048x768 : Shape := ⟨2, ![2048, 768]⟩
abbrev S8x768 : Shape := ⟨2, ![8, 768]⟩
abbrev S1x4x768 : Shape := ⟨3, ![1, 4, 768]⟩
abbrev S2056x768 : Shape := ⟨2, ![2056, 768]⟩
abbrev S4x768 : Shape := ⟨2, ![4, 768]⟩
abbrev S1x768 : Shape := ⟨2, ![1, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x3584, .f32⟩
  | .hbm, ⟨1, _⟩ => ⟨S2x4x768, .f32⟩
  | .hbm, ⟨2, _⟩ => ⟨S8192x768, .f32⟩
  | .local _ .vmem, ⟨0, _⟩ => ⟨S2048x768, .f32⟩
  | .local _ .vmem, ⟨1, _⟩ => ⟨S2048x768, .f32⟩
  | .local _ .vmem, ⟨2, _⟩ => ⟨S8x768, .f32⟩
  | .local _ .vmem, ⟨3, _⟩ => ⟨S8x768, .f32⟩
  | .local _ .vmem, ⟨4, _⟩ => ⟨S1x4x768, .f32⟩
  | .local _ .vmem, ⟨5, _⟩ => ⟨S2048x768, .f32⟩
  | .local _ .vmem, ⟨6, _⟩ => ⟨S2048x768, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c256_i32 : BitVec 32 := 256#32
  let v0 : BitVec 32 := Scalar.muli arg0 c256_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QkvFwdRefIdeal.lean ====
abbrev S8192x3584 : Shape := ⟨2, ![8192, 3584]⟩
abbrev S2x4x768 : Shape := ⟨3, ![2, 4, 768]⟩
abbrev S8192x768 : Shape := ⟨2, ![8192, 768]⟩
abbrev S1x4x768 : Shape := ⟨3, ![1, 4, 768]⟩
abbrev S4x768 : Shape := ⟨2, ![4, 768]⟩
abbrev S_ : Shape := ⟨0, ![]⟩
abbrev S3x768 : Shape := ⟨2, ![3, 768]⟩
abbrev S8195x768 : Shape := ⟨2, ![8195, 768]⟩
abbrev S1x768 : Shape := ⟨2, ![1, 768]⟩

abbrev nBuf : Space → Nat
  | .hbm => 39
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S2x4x768, .f32⟩
  | .hbm, ⟨2, _⟩ => ⟨S8192x768, .f32⟩
  | .hbm, ⟨3, _⟩ => ⟨S1x4x768, .f32⟩
  | .hbm, ⟨4, _⟩ => ⟨S4x768, .f32⟩
  | .hbm, ⟨5, _⟩ => ⟨S_, .f32⟩
  | .hbm, ⟨6, _⟩ => ⟨S3x768, .f32⟩
  | .hbm, ⟨7, _⟩ => ⟨S8195x768, .f32⟩
  | .hbm, ⟨8, _⟩ => ⟨S8192x768, .f32⟩
  | .hbm, ⟨9, _⟩ => ⟨S1x768, .f32⟩
  | .hbm, ⟨10, _⟩ => ⟨S8192x768, .f32⟩
  | .hbm, ⟨11, _⟩ => ⟨S8192x768, .f32⟩
  | .hbm, ⟨12, _⟩ => ⟨S_, .f32⟩
  | .hbm, ⟨13, _⟩ => ⟨S8192x768, .f32⟩
  | .hbm, ⟨14, _⟩ => ⟨S8192x768, .f32⟩
  | .hbm, ⟨15, _⟩ => ⟨S8192x768, .f32⟩
  | .hbm, ⟨16, _⟩ => ⟨S1x768, .f32⟩
  | .hbm, ⟨17, _⟩ => ⟨S8192x768, .f32⟩
  | .hbm, ⟨18, _⟩ => ⟨S8192x768, .f32⟩
  | .hbm, ⟨19, _⟩ => ⟨S8192x768, .f32⟩
  | .hbm, ⟨20, _⟩ => ⟨S8192x768, .f32⟩
  | .hbm, ⟨21, _⟩ => ⟨S1x768, .f32⟩
  | .hbm, ⟨22, _⟩ => ⟨S8192x768, .f32⟩
  | .hbm, ⟨23, _⟩ => ⟨S8192x768, .f32⟩
  | .hbm, ⟨24, _⟩ => ⟨S8192x768, .f32⟩
  | .hbm, ⟨25, _⟩ => ⟨S8192x768, .f32⟩
  | .hbm, ⟨26, _⟩ => ⟨S1x768, .f32⟩
  | .hbm, ⟨27, _⟩ => ⟨S8192x768, .f32⟩
  | .hbm, ⟨28, _⟩ => ⟨S8192x768, .f32⟩
  | .hbm, ⟨29, _⟩ => ⟨S8192x768, .f32⟩
  | .hbm, ⟨30, _⟩ => ⟨S8192x768, .f32⟩
  | .hbm, ⟨31, _⟩ => ⟨S8192x768, .f32⟩
  | .hbm, ⟨32, _⟩ => ⟨S_, .f32⟩
  | .hbm, ⟨33, _⟩ => ⟨S8192x768, .f32⟩
  | .hbm, ⟨34, _⟩ => ⟨S8192x768, .f32⟩
  | .hbm, ⟨35, _⟩ => ⟨S_, .f32⟩
  | .hbm, ⟨36, _⟩ => ⟨S8192x768, .f32⟩
  | .hbm, ⟨37, _⟩ => ⟨S8192x768, .f32⟩
  | .hbm, ⟨38, _⟩ => ⟨S8192x768, .f32⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== SconvBwd0.lean ====
abbrev S8192x3584 : Shape := ⟨2, ![8192, 3584]⟩
abbrev S8192x1024 : Shape := ⟨2, ![8192, 1024]⟩
abbrev S2x3x256 : Shape := ⟨3, ![2, 3, 256]⟩
abbrev S8192x768 : Shape := ⟨2, ![8192, 768]⟩
abbrev S3x256 : Shape := ⟨2, ![3, 256]⟩
abbrev S2048x256 : Shape := ⟨2, ![2048, 256]⟩
abbrev S8x256 : Shape := ⟨2, ![8, 256]⟩
abbrev S1x3x256 : Shape := ⟨3, ![1, 3, 256]⟩
abbrev S2048x768 : Shape := ⟨2, ![2048, 768]⟩
abbrev S2056x256 : Shape := ⟨2, ![2056, 256]⟩
abbrev S1x256 : Shape := ⟨2, ![1, 256]⟩
abbrev S256 : Shape := ⟨1, ![256]⟩

abbrev nBuf : Space → Nat
  | .hbm => 5
  | .vmem => 20
  | .smem => 0
  | _ => 0

abbrev bufTy : (tb : Table) → Fin (tcTables nBuf tb) → BufTy
  | .hbm, ⟨0, _⟩ => ⟨S8192x3584, .f32⟩
  | .hbm, ⟨1, _⟩ => ⟨S8192x1024, .f32⟩
  | .hbm, ⟨2, _⟩ => ⟨S2x3x256, .f32⟩
  | .hbm, ⟨3, _⟩ => ⟨S8192x768, .bf16⟩
  | .hbm, ⟨4, _⟩ => ⟨S3x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S2048x256, .f32⟩
  | .local _ .vmem, ⟨13, _⟩ => ⟨S2048x256, .f32⟩
  | .local _ .vmem, ⟨14, _⟩ => ⟨S8x256, .f32⟩
  | .local _ .vmem, ⟨15, _⟩ => ⟨S8x256, .f32⟩
  | .local _ .vmem, ⟨16, _⟩ => ⟨S1x3x256, .f32⟩
  | .local _ .vmem, ⟨17, _⟩ => ⟨S2048x768, .bf16⟩
  | .local _ .vmem, ⟨18, _⟩ => ⟨S2048x768, .bf16⟩
  | .local _ .vmem, ⟨19, _⟩ => ⟨S3x256, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c256_i32 : BitVec 32 := 256#32
  let v0 : BitVec 32 := Scalar.muli arg0 c256_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_4 (i : grid0.Coords) : Fin 2 → Nat :=
  let arg0 : BitVec 32 := BitVec.ofNat 32 (i 0).val
  let c256_i32 : BitVec 32 := 256#32
  let v0 : BitVec 32 := Scalar.muli arg0 c256_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c1023_i32 : BitVec 32 := 1023#32
  let v2 : BitVec 32 := Scalar.minsi v1 c1023_i32
  let c8_i32 : BitVec 32 := 8#32
  let c0_i32 : BitVec 32 := 0#32
  ![v2.toNat, c8_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c1023_i32 : BitVec 32 := 1023#32
  let v2 : BitVec 32 := Scalar.minsi v1 c1023_i32
  let c1_i32_0 : BitVec 32 := 1#32
  let c0_i32 : BitVec 32 := 0#32
  ![v2.toNat, c1_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SconvBwd0RefIdeal.lean ====
abbrev S8192x3584 : Shape := ⟨2, ![8192, 3584]⟩
abbrev S8192x1024 : Shape := ⟨2, ![8192, 1024]⟩
abbrev S2x3x256 : Shape := ⟨3, ![2, 3, 256]⟩
abbrev S8192x256 : Shape := ⟨2, ![8192, 256]⟩
abbrev S1x3x256 : Shape := ⟨3, ![1, 3, 256]⟩
abbrev S3x256 : Shape := ⟨2, ![3, 256]⟩
abbrev S_ : Shape := ⟨0, ![]⟩
abbrev S2x256 : Shape := ⟨2, ![2, 256]⟩
abbrev S8194x256 : Shape := ⟨2, ![8194, 256]⟩
abbrev S1x256 : Shape := ⟨2, ![1, 256]⟩
abbrev S256 : Shape := ⟨1, ![256]⟩
abbrev S8192x768 : Shape := ⟨2, ![8192, 768]⟩

abbrev nBuf : Space → Nat
  | .hbm => 75
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S8192x1024, .f32⟩
  | .hbm, ⟨2, _⟩ => ⟨S2x3x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S1x3x256, .f32⟩
  | .hbm, ⟨7, _⟩ => ⟨S3x256, .f32⟩
  | .hbm, ⟨8, _⟩ => ⟨S8192x256, .f32⟩
  | .hbm, ⟨9, _⟩ => ⟨S_, .f32⟩
  | .hbm, ⟨10, _⟩ => ⟨S2x256, .f32⟩
  | .hbm, ⟨11, _⟩ => ⟨S8194x256, .f32⟩
  | .hbm, ⟨12, _⟩ => ⟨S_, .f32⟩
  | .hbm, ⟨13, _⟩ => ⟨S2x256, .f32⟩
  | .hbm, ⟨14, _⟩ => ⟨S8192x256, .f32⟩
  | .hbm, ⟨15, _⟩ => ⟨S1x256, .f32⟩
  | .hbm, ⟨16, _⟩ => ⟨S8192x256, .f32⟩
  | .hbm, ⟨17, _⟩ => ⟨S8192x256, .f32⟩
  | .hbm, ⟨18, _⟩ => ⟨S_, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S1x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S_, .f32⟩
  | .hbm, ⟨37, _⟩ => ⟨S256, .f32⟩
  | .hbm, ⟨38, _⟩ => ⟨S1x256, .f32⟩
  | .hbm, ⟨39, _⟩ => ⟨S8192x256, .f32⟩
  | .hbm, ⟨40, _⟩ => ⟨S8192x256, .f32⟩
  | .hbm, ⟨41, _⟩ => ⟨S_, .f32⟩
  | .hbm, ⟨42, _⟩ => ⟨S3x256, .f32⟩
  | .hbm, ⟨43, _⟩ => ⟨S_, .f32⟩
  | .hbm, ⟨44, _⟩ => ⟨S8194x256, .f32⟩
  | .hbm, ⟨45, _⟩ => ⟨S8192x256, .f32⟩
  | .hbm, ⟨46, _⟩ => ⟨S_, .f32⟩
  | .hbm, ⟨47, _⟩ => ⟨S256, .f32⟩
  | .hbm, ⟨48, _⟩ => ⟨S1x256, .f32⟩
  | .hbm, ⟨49, _⟩ => ⟨S8192x256, .f32⟩
  | .hbm, ⟨50, _⟩ => ⟨S8192x256, .f32⟩
  | .hbm, ⟨51, _⟩ => ⟨S_, .f32⟩
  | .hbm, ⟨52, _⟩ => ⟨S3x256, .f32⟩
  | .hbm, ⟨53, _⟩ => ⟨S3x256, .f32⟩
  | .hbm, ⟨54, _⟩ => ⟨S_, .f32⟩
  | .hbm, ⟨55, _⟩ => ⟨S8194x256, .f32⟩
  | .hbm, ⟨56, _⟩ => ⟨S8194x256, .f32⟩
  | .hbm, ⟨57, _⟩ => ⟨S8192x256, .f32⟩
  | .hbm, ⟨58, _⟩ => ⟨S_, .f32⟩
  | .hbm, ⟨59, _⟩ => ⟨S256, .f32⟩
  | .hbm, ⟨60, _⟩ => ⟨S1x256, .f32⟩
  | .hbm, ⟨61, _⟩ => ⟨S8192x256, .f32⟩
  | .hbm, ⟨62, _⟩ => ⟨S8192x256, .f32⟩
  | .hbm, ⟨63, _⟩ => ⟨S_, .f32⟩
  | .hbm, ⟨64, _⟩ => ⟨S3x256, .f32⟩
  | .hbm, ⟨65, _⟩ => ⟨S3x256, .f32⟩
  | .hbm, ⟨66, _⟩ => ⟨S_, .f32⟩
  | .hbm, ⟨67, _⟩ => ⟨S8194x256, .f32⟩
  | .hbm, ⟨68, _⟩ => ⟨S8194x256, .f32⟩
  | .hbm, ⟨69, _⟩ => ⟨S2x256, .f32⟩
  | .hbm, ⟨70, _⟩ => ⟨S8192x256, .f32⟩
  | .hbm, ⟨71, _⟩ => ⟨S8192x256, .f32⟩
  | .hbm, ⟨72, _⟩ => ⟨S8192x256, .f32⟩
  | .hbm, ⟨73, _⟩ => ⟨S8192x768, .f32⟩
  | .hbm, ⟨74, _⟩ => ⟨S8192x768, .bf16⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== QkvBwd0.lean ====
abbrev S8192x3584 : Shape := ⟨2, ![8192, 3584]⟩
abbrev S8192x768 : Shape := ⟨2, ![8192, 768]⟩
abbrev S2x4x768 : Shape := ⟨3, ![2, 4, 768]⟩
abbrev S4x768 : Shape := ⟨2, ![4, 768]⟩
abbrev S1024x768 : Shape := ⟨2, ![1024, 768]⟩
abbrev S8x768 : Shape := ⟨2, ![8, 768]⟩
abbrev S1x4x768 : Shape := ⟨3, ![1, 4, 768]⟩
abbrev S1032x768 : Shape := ⟨2, ![1032, 768]⟩
abbrev S1040x768 : Shape := ⟨2, ![1040, 768]⟩
abbrev S1x768 : Shape := ⟨2, ![1, 768]⟩
abbrev S768 : Shape := ⟨1, ![768]⟩

abbrev nBuf : Space → Nat
  | .hbm => 5
  | .vmem => 14
  | .smem => 0
  | _ => 0

abbrev bufTy : (tb : Table) → Fin (tcTables nBuf tb) → BufTy
  | .hbm, ⟨0, _⟩ => ⟨S8192x3584, .f32⟩
  | .hbm, ⟨1, _⟩ => ⟨S8192x768, .f32⟩
  | .hbm, ⟨2, _⟩ => ⟨S2x4x768, .f32⟩
  | .hbm, ⟨3, _⟩ => ⟨S8192x768, .bf16⟩
  | .hbm, ⟨4, _⟩ => ⟨S4x768, .f32⟩
  | .local _ .vmem, ⟨0, _⟩ => ⟨S1024x768, .f32⟩
  | .local _ .vmem, ⟨1, _⟩ => ⟨S1024x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S1024x768, .f32⟩
  | .local _ .vmem, ⟨7, _⟩ => ⟨S1024x768, .f32⟩
  | .local _ .vmem, ⟨8, _⟩ => ⟨S8x768, .f32⟩
  | .local _ .vmem, ⟨9, _⟩ => ⟨S8x768, .f32⟩
  | .local _ .vmem, ⟨10, _⟩ => ⟨S1x4x768, .f32⟩
  | .local _ .vmem, ⟨11, _⟩ => ⟨S1024x768, .bf16⟩
  | .local _ .vmem, ⟨12, _⟩ => ⟨S1024x768, .bf16⟩
  | .local _ .vmem, ⟨13, _⟩ => ⟨S4x768, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== QkvBwd0RefIdeal.lean ====
abbrev S8192x3584 : Shape := ⟨2, ![8192, 3584]⟩
abbrev S8192x768 : Shape := ⟨2, ![8192, 768]⟩
abbrev S2x4x768 : Shape := ⟨3, ![2, 4, 768]⟩
abbrev S1x4x768 : Shape := ⟨3, ![1, 4, 768]⟩
abbrev S4x768 : Shape := ⟨2, ![4, 768]⟩
abbrev S_ : Shape := ⟨0, ![]⟩
abbrev S3x768 : Shape := ⟨2, ![3, 768]⟩
abbrev S8195x768 : Shape := ⟨2, ![8195, 768]⟩
abbrev S1x768 : Shape := ⟨2, ![1, 768]⟩
abbrev S768 : Shape := ⟨1, ![768]⟩

abbrev nBuf : Space → Nat
  | .hbm => 99
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S8192x768, .f32⟩
  | .hbm, ⟨2, _⟩ => ⟨S2x4x768, .f32⟩
  | .hbm, ⟨3, _⟩ => ⟨S8192x768, .f32⟩
  | .hbm, ⟨4, _⟩ => ⟨S1x4x768, .f32⟩
  | .hbm, ⟨5, _⟩ => ⟨S4x768, .f32⟩
  | .hbm, ⟨6, _⟩ => ⟨S_, .f32⟩
  | .hbm, ⟨7, _⟩ => ⟨S3x768, .f32⟩
  | .hbm, ⟨8, _⟩ => ⟨S8195x768, .f32⟩
  | .hbm, ⟨9, _⟩ => ⟨S_, .f32⟩
  | .hbm, ⟨10, _⟩ => ⟨S3x768, .f32⟩
  | .hbm, ⟨11, _⟩ => ⟨S8192x768, .f32⟩
  | .hbm, ⟨12, _⟩ => ⟨S1x768, .f32⟩
  | .hbm, ⟨13, _⟩ => ⟨S8192x768, .f32⟩
  | .hbm, ⟨14, _⟩ => ⟨S8192x768, .f32⟩
  | .hbm, ⟨15, _⟩ => ⟨S_, .f32⟩
  | .hbm, ⟨16, _⟩ => ⟨S8192x768, .f32⟩
  | .hbm, ⟨17, _⟩ => ⟨S8192x768, .f32⟩
  | .hbm, ⟨18, _⟩ => ⟨S8192x768, .f32⟩
  | .hbm, ⟨19, _⟩ => ⟨S1x768, .f32⟩
  | .hbm, ⟨20, _⟩ => ⟨S8192x768, .f32⟩
  | .hbm, ⟨21, _⟩ => ⟨S8192x768, .f32⟩
  | .hbm, ⟨22, _⟩ => ⟨S8192x768, .f32⟩
  | .hbm, ⟨23, _⟩ => ⟨S8192x768, .f32⟩
  | .hbm, ⟨24, _⟩ => ⟨S1x768, .f32⟩
  | .hbm, ⟨25, _⟩ => ⟨S8192x768, .f32⟩
  | .hbm, ⟨26, _⟩ => ⟨S8192x768, .f32⟩
  | .hbm, ⟨27, _⟩ => ⟨S8192x768, .f32⟩
  | .hbm, ⟨28, _⟩ => ⟨S8192x768, .f32⟩
  | .hbm, ⟨29, _⟩ => ⟨S1x768, .f32⟩
  | .hbm, ⟨30, _⟩ => ⟨S8192x768, .f32⟩
  | .hbm, ⟨31, _⟩ => ⟨S8192x768, .f32⟩
  | .hbm, ⟨32, _⟩ => ⟨S8192x768, .f32⟩
  | .hbm, ⟨33, _⟩ => ⟨S8192x768, .f32⟩
  | .hbm, ⟨34, _⟩ => ⟨S8192x768, .f32⟩
  | .hbm, ⟨35, _⟩ => ⟨S_, .f32⟩
  | .hbm, ⟨36, _⟩ => ⟨S8192x768, .f32⟩
  | .hbm, ⟨37, _⟩ => ⟨S8192x768, .f32⟩
  | .hbm, ⟨38, _⟩ => ⟨S_, .f32⟩
  | .hbm, ⟨39, _⟩ => ⟨S8192x768, .f32⟩
  | .hbm, ⟨40, _⟩ => ⟨S8192x768, .f32⟩
  | .hbm, ⟨41, _⟩ => ⟨S_, .f32⟩
  | .hbm, ⟨42, _⟩ => ⟨S8192x768, .f32⟩
  | .hbm, ⟨43, _⟩ => ⟨S8192x768, .f32⟩
  | .hbm, ⟨44, _⟩ => ⟨S8192x768, .f32⟩
  | .hbm, ⟨45, _⟩ => ⟨S8192x768, .f32⟩
  | .hbm, ⟨46, _⟩ => ⟨S8192x768, .f32⟩
  | .hbm, ⟨47, _⟩ => ⟨S8192x768, .f32⟩
  | .hbm, ⟨48, _⟩ => ⟨S8192x768, .f32⟩
  | .hbm, ⟨49, _⟩ => ⟨S8192x768, .f32⟩
  | .hbm, ⟨50, _⟩ => ⟨S8192x768, .f32⟩
  | .hbm, ⟨51, _⟩ => ⟨S_, .f32⟩
  | .hbm, ⟨52, _⟩ => ⟨S768, .f32⟩
  | .hbm, ⟨53, _⟩ => ⟨S1x768, .f32⟩
  | .hbm, ⟨54, _⟩ => ⟨S8192x768, .f32⟩
  | .hbm, ⟨55, _⟩ => ⟨S8192x768, .f32⟩
  | .hbm, ⟨56, _⟩ => ⟨S_, .f32⟩
  | .hbm, ⟨57, _⟩ => ⟨S4x768, .f32⟩
  | .hbm, ⟨58, _⟩ => ⟨S_, .f32⟩
  | .hbm, ⟨59, _⟩ => ⟨S8195x768, .f32⟩
  | .hbm, ⟨60, _⟩ => ⟨S8192x768, .f32⟩
  | .hbm, ⟨61, _⟩ => ⟨S_, .f32⟩
  | .hbm, ⟨62, _⟩ => ⟨S768, .f32⟩
  | .hbm, ⟨63, _⟩ => ⟨S1x768, .f32⟩
  | .hbm, ⟨64, _⟩ => ⟨S8192x768, .f32⟩
  | .hbm, ⟨65, _⟩ => ⟨S8192x768, .f32⟩
  | .hbm, ⟨66, _⟩ => ⟨S_, .f32⟩
  | .hbm, ⟨67, _⟩ => ⟨S4x768, .f32⟩
  | .hbm, ⟨68, _⟩ => ⟨S4x768, .f32⟩
  | .hbm, ⟨69, _⟩ => ⟨S_, .f32⟩
  | .hbm, ⟨70, _⟩ => ⟨S8195x768, .f32⟩
  | .hbm, ⟨71, _⟩ => ⟨S8195x768, .f32⟩
  | .hbm, ⟨72, _⟩ => ⟨S8192x768, .f32⟩
  | .hbm, ⟨73, _⟩ => ⟨S_, .f32⟩
  | .hbm, ⟨74, _⟩ => ⟨S768, .f32⟩
  | .hbm, ⟨75, _⟩ => ⟨S1x768, .f32⟩
  | .hbm, ⟨76, _⟩ => ⟨S8192x768, .f32⟩
  | .hbm, ⟨77, _⟩ => ⟨S8192x768, .f32⟩
  | .hbm, ⟨78, _⟩ => ⟨S_, .f32⟩
  | .hbm, ⟨79, _⟩ => ⟨S4x768, .f32⟩
  | .hbm, ⟨80, _⟩ => ⟨S4x768, .f32⟩
  | .hbm, ⟨81, _⟩ => ⟨S_, .f32⟩
  | .hbm, ⟨82, _⟩ => ⟨S8195x768, .f32⟩
  | .hbm, ⟨83, _⟩ => ⟨S8195x768, .f32⟩
  | .hbm, ⟨84, _⟩ => ⟨S8192x768, .f32⟩
  | .hbm, ⟨85, _⟩ => ⟨S_, .f32⟩
  | .hbm, ⟨86, _⟩ => ⟨S768, .f32⟩
  | .hbm, ⟨87, _⟩ => ⟨S1x768, .f32⟩
  | .hbm, ⟨88, _⟩ => ⟨S8192x768, .f32⟩
  | .hbm, ⟨89, _⟩ => ⟨S8192x768, .f32⟩
  | .hbm, ⟨90, _⟩ => ⟨S_, .f32⟩
  | .hbm, ⟨91, _⟩ => ⟨S4x768, .f32⟩
  | .hbm, ⟨92, _⟩ => ⟨S4x768, .f32⟩
  | .hbm, ⟨93, _⟩ => ⟨S_, .f32⟩
  | .hbm, ⟨94, _⟩ => ⟨S8195x768, .f32⟩
  | .hbm, ⟨95, _⟩ => ⟨S8195x768, .f32⟩
  | .hbm, ⟨96, _⟩ => ⟨S3x768, .f32⟩
  | .hbm, ⟨97, _⟩ => ⟨S8192x768, .f32⟩
  | .hbm, ⟨98, _⟩ => ⟨S8192x768, .bf16⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_3 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_cst_13 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩

abbrev nD : Nat := 1
abbrev τ : Topo := Topo.v7x

variable {F : FTy → Type} [FloatOps F]
-- ==== SconvFwd0.lean ====
abbrev S8192x3584 : Shape := ⟨2, ![8192, 3584]⟩
abbrev S2x3x256 : Shape := ⟨3, ![2, 3, 256]⟩
abbrev S8192x256 : Shape := ⟨2, ![8192, 256]⟩
abbrev S2048x256 : Shape := ⟨2, ![2048, 256]⟩
abbrev S8x256 : Shape := ⟨2, ![8, 256]⟩
abbrev S1x3x256 : Shape := ⟨3, ![1, 3, 256]⟩
abbrev S2056x256 : Shape := ⟨2, ![2056, 256]⟩
abbrev S3x256 : Shape := ⟨2, ![3, 256]⟩
abbrev S1x256 : Shape := ⟨2, ![1, 256]⟩

abbrev nBuf : Space → Nat
  | .hbm => 3
  | .vmem => 13
  | .smem => 0
  | _ => 0

abbrev bufTy : (tb : Table) → Fin (tcTables nBuf tb) → BufTy
  | .hbm, ⟨0, _⟩ => ⟨S8192x3584, .f32⟩
  | .hbm, ⟨1, _⟩ => ⟨S2x3x256, .f32⟩
  | .hbm, ⟨2, _⟩ => ⟨S8192x256, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S1x3x256, .f32⟩
  | .local _ .vmem, ⟨11, _⟩ => ⟨S2048x256, .bf16⟩
  | .local _ .vmem, ⟨12, _⟩ => ⟨S2048x256, .bf16⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c256_i32 : BitVec 32 := 256#32
  let v0 : BitVec 32 := Scalar.muli arg0 c256_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_4 (i : grid0.Coords) : Fin 2 → Nat :=
  let arg0 : BitVec 32 := BitVec.ofNat 32 (i 0).val
  let c256_i32 : BitVec 32 := 256#32
  let v0 : BitVec 32 := Scalar.muli arg0 c256_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SconvFwd0RefIdeal.lean ====
abbrev S8192x3584 : Shape := ⟨2, ![8192, 3584]⟩
abbrev S2x3x256 : Shape := ⟨3, ![2, 3, 256]⟩
abbrev S8192x256 : Shape := ⟨2, ![8192, 256]⟩
abbrev S1x3x256 : Shape := ⟨3, ![1, 3, 256]⟩
abbrev S3x256 : Shape := ⟨2, ![3, 256]⟩
abbrev S_ : Shape := ⟨0, ![]⟩
abbrev S2x256 : Shape := ⟨2, ![2, 256]⟩
abbrev S8194x256 : Shape := ⟨2, ![8194, 256]⟩
abbrev S1x256 : Shape := ⟨2, ![1, 256]⟩

abbrev nBuf : Space → Nat
  | .hbm => 30
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S2x3x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S1x3x256, .f32⟩
  | .hbm, ⟨6, _⟩ => ⟨S3x256, .f32⟩
  | .hbm, ⟨7, _⟩ => ⟨S8192x256, .f32⟩
  | .hbm, ⟨8, _⟩ => ⟨S_, .f32⟩
  | .hbm, ⟨9, _⟩ => ⟨S2x256, .f32⟩
  | .hbm, ⟨10, _⟩ => ⟨S8194x256, .f32⟩
  | .hbm, ⟨11, _⟩ => ⟨S8192x256, .f32⟩
  | .hbm, ⟨12, _⟩ => ⟨S1x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S1x256, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x256, .bf16⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== QkvFwd0.lean ====
abbrev S8192x3584 : Shape := ⟨2, ![8192, 3584]⟩
abbrev S2x4x768 : Shape := ⟨3, ![2, 4, 768]⟩
abbrev S8192x768 : Shape := ⟨2, ![8192, 768]⟩
abbrev S2048x768 : Shape := ⟨2, ![2048, 768]⟩
abbrev S8x768 : Shape := ⟨2, ![8, 768]⟩
abbrev S1x4x768 : Shape := ⟨3, ![1, 4, 768]⟩
abbrev S2056x768 : Shape := ⟨2, ![2056, 768]⟩
abbrev S4x768 : Shape := ⟨2, ![4, 768]⟩
abbrev S1x768 : Shape := ⟨2, ![1, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x3584, .f32⟩
  | .hbm, ⟨1, _⟩ => ⟨S2x4x768, .f32⟩
  | .hbm, ⟨2, _⟩ => ⟨S8192x768, .f32⟩
  | .local _ .vmem, ⟨0, _⟩ => ⟨S2048x768, .f32⟩
  | .local _ .vmem, ⟨1, _⟩ => ⟨S2048x768, .f32⟩
  | .local _ .vmem, ⟨2, _⟩ => ⟨S8x768, .f32⟩
  | .local _ .vmem, ⟨3, _⟩ => ⟨S8x768, .f32⟩
  | .local _ .vmem, ⟨4, _⟩ => ⟨S1x4x768, .f32⟩
  | .local _ .vmem, ⟨5, _⟩ => ⟨S2048x768, .f32⟩
  | .local _ .vmem, ⟨6, _⟩ => ⟨S2048x768, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c256_i32 : BitVec 32 := 256#32
  let v0 : BitVec 32 := Scalar.muli arg0 c256_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QkvFwd0RefIdeal.lean ====
abbrev S8192x3584 : Shape := ⟨2, ![8192, 3584]⟩
abbrev S2x4x768 : Shape := ⟨3, ![2, 4, 768]⟩
abbrev S8192x768 : Shape := ⟨2, ![8192, 768]⟩
abbrev S1x4x768 : Shape := ⟨3, ![1, 4, 768]⟩
abbrev S4x768 : Shape := ⟨2, ![4, 768]⟩
abbrev S_ : Shape := ⟨0, ![]⟩
abbrev S3x768 : Shape := ⟨2, ![3, 768]⟩
abbrev S8195x768 : Shape := ⟨2, ![8195, 768]⟩
abbrev S1x768 : Shape := ⟨2, ![1, 768]⟩

abbrev nBuf : Space → Nat
  | .hbm => 39
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S2x4x768, .f32⟩
  | .hbm, ⟨2, _⟩ => ⟨S8192x768, .f32⟩
  | .hbm, ⟨3, _⟩ => ⟨S1x4x768, .f32⟩
  | .hbm, ⟨4, _⟩ => ⟨S4x768, .f32⟩
  | .hbm, ⟨5, _⟩ => ⟨S_, .f32⟩
  | .hbm, ⟨6, _⟩ => ⟨S3x768, .f32⟩
  | .hbm, ⟨7, _⟩ => ⟨S8195x768, .f32⟩
  | .hbm, ⟨8, _⟩ => ⟨S8192x768, .f32⟩
  | .hbm, ⟨9, _⟩ => ⟨S1x768, .f32⟩
  | .hbm, ⟨10, _⟩ => ⟨S8192x768, .f32⟩
  | .hbm, ⟨11, _⟩ => ⟨S8192x768, .f32⟩
  | .hbm, ⟨12, _⟩ => ⟨S_, .f32⟩
  | .hbm, ⟨13, _⟩ => ⟨S8192x768, .f32⟩
  | .hbm, ⟨14, _⟩ => ⟨S8192x768, .f32⟩
  | .hbm, ⟨15, _⟩ => ⟨S8192x768, .f32⟩
  | .hbm, ⟨16, _⟩ => ⟨S1x768, .f32⟩
  | .hbm, ⟨17, _⟩ => ⟨S8192x768, .f32⟩
  | .hbm, ⟨18, _⟩ => ⟨S8192x768, .f32⟩
  | .hbm, ⟨19, _⟩ => ⟨S8192x768, .f32⟩
  | .hbm, ⟨20, _⟩ => ⟨S8192x768, .f32⟩
  | .hbm, ⟨21, _⟩ => ⟨S1x768, .f32⟩
  | .hbm, ⟨22, _⟩ => ⟨S8192x768, .f32⟩
  | .hbm, ⟨23, _⟩ => ⟨S8192x768, .f32⟩
  | .hbm, ⟨24, _⟩ => ⟨S8192x768, .f32⟩
  | .hbm, ⟨25, _⟩ => ⟨S8192x768, .f32⟩
  | .hbm, ⟨26, _⟩ => ⟨S1x768, .f32⟩
  | .hbm, ⟨27, _⟩ => ⟨S8192x768, .f32⟩
  | .hbm, ⟨28, _⟩ => ⟨S8192x768, .f32⟩
  | .hbm, ⟨29, _⟩ => ⟨S8192x768, .f32⟩
  | .hbm, ⟨30, _⟩ => ⟨S8192x768, .f32⟩
  | .hbm, ⟨31, _⟩ => ⟨S8192x768, .f32⟩
  | .hbm, ⟨32, _⟩ => ⟨S_, .f32⟩
  | .hbm, ⟨33, _⟩ => ⟨S8192x768, .f32⟩
  | .hbm, ⟨34, _⟩ => ⟨S8192x768, .f32⟩
  | .hbm, ⟨35, _⟩ => ⟨S_, .f32⟩
  | .hbm, ⟨36, _⟩ => ⟨S8192x768, .f32⟩
  | .hbm, ⟨37, _⟩ => ⟨S8192x768, .f32⟩
  | .hbm, ⟨38, _⟩ => ⟨S8192x768, .f32⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.ConvBlocks.lean ====
/-
  The gated short convolution's gradient, one grid point of the kernel: what each of the two outputs' staging buffers
  holds after the point, as a function of the point's input blocks.
-/
module

public import proofs.«01_k».proof.Proof.Gen.KernelIdeal.Value
public import Idealize.ShloMosaic.Lib.Pointwise
public import Idealize.ShloMosaic.Lib.Tactic

@[expose] public section

set_option maxRecDepth 16384

noncomputable section

namespace Cert.KernelIdeal.Conv

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The convolved gate behind its halo of eight rows, at point `t`. -/
def sExt (c : Dev nD) (t : Fin cfg0.N) : FVec F S2056x256 .f32 :=
  k0_pay5 (grid0.coords t) (iblk m c 3 t) (iblk m c 1 t) (iblk m c 4 t) (iblk m c 2 t)

/-- The output gradient times gate B, in front of its halo of eight rows, at point `t`. -/
def gExt (c : Dev nD) (t : Fin cfg0.N) : FVec F S2056x256 .f32 :=
  k0_pay7 (BitVec.ofNat 32 (grid0.coords t 0).val) 3#32 (iblk m c 7 t) (iblk m c 6 t) (iblk m c 5 t) (iblk m c 0 t)

/-- The block of the projection's gradient that point `t` writes. -/
def dpBlk (c : Dev nD) (t : Fin cfg0.N) : FVec F S2048x768 .bf16 :=
  k0_pay2 (k0_pay6 (grid0.coords t) (iblk m c 8 t) (iblk m c 3 t) (iblk m c 1 t) (iblk m c 4 t) (iblk m c 2 t) (iblk m c 6 t))
    (k0_pay8 (BitVec.ofNat 32 (grid0.coords t 0).val) (k0_pay4 (iblk m c 8 t)) 3#32 (iblk m c 7 t) (iblk m c 6 t) (iblk m c 5 t) (iblk m c 0 t))
    (iblk m c 2 t) (iblk m c 1 t)

/-- The weight gradient's accumulator after point `t`, when it holds `acc` before. -/
def dwStep (c : Dev nD) (t : Fin cfg0.N) (acc : FVec F S3x256 .f32) : FVec F S3x256 .f32 :=
  k0_pay1 (sExt m c t) (k0_pay9 acc)
    (k0_pay10 (BitVec.ofNat 32 (grid0.coords t 0).val) 3#32 (iblk m c 7 t) (iblk m c 6 t) (iblk m c 5 t) (iblk m c 0 t))
    (k0_pay11 (BitVec.ofNat 32 (grid0.coords t 0).val) (sExt m c t) 3#32 (iblk m c 7 t) (iblk m c 6 t) (iblk m c 5 t) (iblk m c 0 t))
    (k0_pay12 (BitVec.ofNat 32 (grid0.coords t 0).val) (sExt m c t) 3#32 (iblk m c 7 t) (iblk m c 6 t) (iblk m c 5 t) (iblk m c 0 t))

/-- The first output's staging buffer after a point where the accumulator is reset. -/
theorem outs_dp_A (c : Dev nD) (t : Fin cfg0.N) (h0 : t.val % 4 = 0) :
    (outsAt0 m c t.val t.isLt).1 = dpBlk m c t := by
  unfold dpBlk
  rw [outsAt0_A m c t h0]
  dsimp only
  unfold out0_A_9
  refine (View.read_writes_eq_canon _ _ _ fun y => ?_).trans ?_
  · exact cover0_A_9 ..
  unfold kernelRun0_A
  dsimp only
  sl_unfold_words
  rw [View.canon_unit_zero hz2]
  simp only [View.readAt_eq_ld, Memref.IsWhole.read_unread, View.ld_unit_zero (S := S2048x256) hz2,
    View.ld_unit_zero (S := S8x256) hz2, View.ld_unit_zero (S := S1x3x256) hz3]

/-- The first output's staging buffer after any other point. -/
theorem outs_dp_B (c : Dev nD) (t : Fin cfg0.N) (h0 : ¬t.val % 4 = 0) :
    (outsAt0 m c t.val t.isLt).1 = dpBlk m c t := by
  unfold dpBlk
  rw [outsAt0_B m c t h0]
  dsimp only
  unfold out0_B_9
  refine (View.read_writes_eq_canon _ _ _ fun y => ?_).trans ?_
  · exact cover0_B_9 ..
  unfold kernelRun0_B
  dsimp only
  sl_unfold_words
  rw [View.canon_unit_zero hz2]
  simp only [View.readAt_eq_ld, Memref.IsWhole.read_unread, View.ld_unit_zero (S := S2048x256) hz2,
    View.ld_unit_zero (S := S8x256) hz2, View.ld_unit_zero (S := S1x3x256) hz3]

/-- The accumulator after a point where it is reset. -/
theorem outs_dw_A (c : Dev nD) (t : Fin cfg0.N) (h0 : t.val % 4 = 0) :
    (outsAt0 m c t.val t.isLt).2 = dwStep m c t k0_pay3 := by
  unfold dwStep sExt
  rw [outsAt0_A m c t h0]
  dsimp only
  unfold out0_A_10
  refine (View.read_writes_eq_canon _ _ _ fun y => ?_).trans ?_
  · exact cover0_A_10 ..
  unfold kernelRun0_A
  dsimp only
  sl_unfold_words
  rw [View.canon_cons_unit_zero (S := S3x256) hz2, View.readCov_unit_zero (S := S3x256) _ hz2]
  simp only [View.readAt_eq_ld, Memref.IsWhole.read_unread, View.ld_unit_zero (S := S2048x256) hz2,
    View.ld_unit_zero (S := S8x256) hz2, View.ld_unit_zero (S := S1x3x256) hz3]

/-- The accumulator after any other point, from what the point before left. -/
theorem outs_dw_B (c : Dev nD) (t : Fin cfg0.N) (h0 : ¬t.val % 4 = 0) (hlt : t.val - 1 < cfg0.N) :
    (outsAt0 m c t.val t.isLt).2 = dwStep m c t (outsAt0 m c (t.val - 1) hlt).2 := by
  unfold dwStep sExt
  rw [outsAt0_B m c t h0]
  dsimp only
  unfold out0_B_10
  refine (View.read_writes_eq_canon _ _ _ fun y => ?_).trans ?_
  · exact cover0_B_10 ..
  unfold kernelRun0_B
  dsimp only
  sl_unfold_words
  rw [View.canon_unit_zero hz2]
  simp only [View.readAt_eq_ld, Memref.IsWhole.read_unread, View.ld_unit_zero (S := S2048x256) hz2,
    View.ld_unit_zero (S := S8x256) hz2, View.ld_unit_zero (S := S1x3x256) hz3, View.ld_unit_zero (S := S3x256) hz2]

end Cert.KernelIdeal.Conv

end
-- ==== Proof.ConvSpec.lean ====
/-
  The gated short convolution's gradient, written out element by element over the extended reals, and the reference
  read down to it.
-/
module

public import proofs.«01_k».proof.Proof.Gen.ReferenceIdeal.Read
public import Idealize.ShloMosaic.Lib.Pointwise

@[expose] public section

set_option maxRecDepth 16384

noncomputable section

namespace Cert.Conv

open Idealize.ShloMosaic

/-- The projection, the mixers' output gradient, the weights of both layers. -/
abbrev XP := (⟨⟨2, ![8192, 3584]⟩, .f32⟩ : BufTy).Contents (Elt Ideal)
abbrev XD := (⟨⟨2, ![8192, 1024]⟩, .f32⟩ : BufTy).Contents (Elt Ideal)
abbrev XW := (⟨⟨3, ![2, 3, 256]⟩, .f32⟩ : BufTy).Contents (Elt Ideal)

/-- The convolution's operand behind two rows of zeros: row `n` is token `n - 2`. -/
def xs (p : XP) (n : ℕ) (j : Fin 256) : EReal :=
  if h : 2 ≤ n ∧ n - 2 < 8192 then
    p (ix2 (⟨n - 2, h.2⟩ : Fin 8192) (⟨2304 + j.val, by omega⟩ : Fin 3584)) * p (ix2 (⟨n - 2, h.2⟩ : Fin 8192) (⟨2560 + j.val, by omega⟩ : Fin 3584))
  else 0

/-- The gradient of the convolution's result, continued by zeros behind the last token. -/
def dc (p : XP) (d : XD) (n : ℕ) (j : Fin 256) : EReal :=
  if h : n < 8192 then
    d (ix2 (⟨n, h⟩ : Fin 8192) (⟨256 + j.val, by omega⟩ : Fin 1024)) * p (ix2 (⟨n, h⟩ : Fin 8192) (⟨2048 + j.val, by omega⟩ : Fin 3584))
  else 0

/-- Tap `k` of the second layer's weights. -/
def tap (w : XW) (k : Fin 3) (j : Fin 256) : EReal := w (ix3 (1 : Fin 2) k j)

/-- The convolution at token `n`. -/
def conv (p : XP) (w : XW) (n : ℕ) (j : Fin 256) : EReal :=
  xs p n j * tap w 0 j + xs p (n + 1) j * tap w 1 j + xs p (n + 2) j * tap w 2 j

/-- The gradient of the convolution's operand at token `n`. -/
def ds (p : XP) (d : XD) (w : XW) (n : ℕ) (j : Fin 256) : EReal :=
  dc p d (n + 2) j * tap w 0 j + dc p d (n + 1) j * tap w 1 j + dc p d n j * tap w 2 j

/-- The gradient of the three columns' blocks: gate B, gate C, h. -/
def dp (p : XP) (d : XD) (w : XW) (n : Fin 8192) (c : Fin 768) : EReal :=
  if h : c.val < 256 then d (ix2 n (⟨256 + c.val, by omega⟩ : Fin 1024)) * conv p w n.val ⟨c.val, h⟩
  else if h2 : c.val - 256 < 256 then
    ds p d w n.val ⟨c.val - 256, h2⟩ * p (ix2 n (⟨2560 + (c.val - 256), by omega⟩ : Fin 3584))
  else ds p d w n.val ⟨c.val - 256 - 256, by omega⟩ * p (ix2 n (⟨2304 + (c.val - 256 - 256), by omega⟩ : Fin 3584))

/-- The gradient of tap `k`: a sum over the tokens. -/
def dw (p : XP) (d : XD) (k : Fin 3) (j : Fin 256) : EReal :=
  ∑ n : Fin 8192, xs p (n.val + k.val) j * dc p d n.val j

/-- Behind the last token the gradient is zero. -/
theorem dc_tail (p : XP) (d : XD) (n : ℕ) (j : Fin 256) (h : ¬n < 8192) : dc p d n j = 0 := dif_neg h

end Cert.Conv

namespace Cert.ReferenceIdeal.Conv

open Cert.ReferenceIdeal Cert.ReferenceIdeal.Read Idealize.ShloMosaic Cert.Conv

/-- The reference's padded operand. -/
theorem xp_apply (p : XP) (n : Fin 8194) (j : Fin 256) : val_main_v7 (F := Ideal) p (ix2 n j) = xs p n.val j := by
  pointwise [val_main_v7, val_main_v6, val_main_v5, val_main_v2, val_main_v1, val_main_cst, xs]
  by_cases h : n.val < 2
  · rw [dif_pos h, dif_neg (by omega)]
  · rw [dif_neg h, dif_pos (by omega)]

/-- The reference's gradient of the convolution's result. -/
theorem dc_apply (p : XP) (d : XD) (n : Fin 8192) (j : Fin 256) : val_main_v27 (F := Ideal) p d (ix2 n j) = dc p d n.val j := by
  pointwise [val_main_v27, val_main_v26, val_main_v0, dc]
  exact mul_comm _ _

/-- A tap of the reference's weights. -/
theorem tap_apply (w : XW) (k : Fin 3) (j : Fin 256) : val_main_v4 (F := Ideal) w (ix2 k j) = tap w k j := by
  pointwise [val_main_v4, val_main_v3, tap]

/-- The reference's convolution. -/
theorem conv_apply (p : XP) (w : XW) (n : Fin 8192) (j : Fin 256) : val_main_v24 (F := Ideal) p w (ix2 n j) = conv p w n.val j := by
  pointwise [val_main_v24, val_main_v23, val_main_v22, val_main_v21, val_main_v20, val_main_v19, val_main_v18, val_main_v17, val_main_v16,
    val_main_v15, val_main_v14, val_main_v13, val_main_cst_1, val_main_v12, val_main_v11, val_main_v10, val_main_v9, xp_apply, tap_apply, conv]
  simp only [Nat.add_comm 1 n.val, Nat.add_comm 2 n.val]

/-- The reference's gradient of the convolution's operand, behind two rows. -/
theorem ds_apply (p : XP) (d : XD) (w : XW) (n : Fin 8192) (j : Fin 256) :
    val_main_v55 (F := Ideal) p d w (ix2 n j) = ds p d w n.val j := by
  pointwise [val_main_v55, val_main_v53, val_main_v52, val_main_cst_10, val_main_v49, val_main_v48, val_main_v10, val_main_v44,
    val_main_v43, val_main_cst_7, val_main_v40, val_main_v39, val_main_v16, val_main_v35, val_main_cst_4, val_main_v33, val_main_v32, val_main_v21,
    dc_apply, tap_apply, ds]
  have e1 : (if h : 1 ≤ 2 + n.val ∧ 2 + n.val - 1 < 8192 then dc p d (2 + n.val - 1) j * tap w 1 j else 0) = dc p d (n.val + 1) j * tap w 1 j := by
    rw [show 2 + n.val - 1 = n.val + 1 by omega]
    by_cases h : n.val + 1 < 8192
    · rw [dif_pos ⟨by omega, h⟩]
    · rw [dif_neg (fun a => h a.2), dc_tail p d _ j h, zero_mul]
  have e2 : (if h : 2 + n.val < 8192 then dc p d (2 + n.val) j * tap w 0 j else 0) = dc p d (n.val + 2) j * tap w 0 j := by
    rw [Nat.add_comm 2 n.val]
    by_cases h : n.val + 2 < 8192
    · rw [dif_pos h]
    · rw [dif_neg h, dc_tail p d _ j h, zero_mul]
  rw [e1, e2]
  ac_rfl

/-- The reference's first result, element by element. -/
theorem dp_apply (p : XP) (d : XD) (w : XW) (n : Fin 8192) (c : Fin 768) :
    val_main_v59 (F := Ideal) p d w (ix2 n c) = dp p d w n c := by
  pointwise [val_main_v59, val_main_v58, val_main_v57, val_main_v56, val_main_v28, val_main_v26, val_main_v1, val_main_v2, conv_apply, ds_apply, dp]
  split_ifs <;> first | rfl | exact mul_comm _ _

/-- The reference's second result, element by element. -/
theorem dw_apply (p : XP) (d : XD) (k : Fin 3) (j : Fin 256) :
    val_main_v51 (F := Ideal) p d (ix2 k j) = dw p d k j := by
  pointwise [val_main_v51, val_main_v50, val_main_cst_9, val_main_v47, val_main_v46, val_main_cst_8, val_main_v45, val_main_v9,
    val_main_v42, val_main_v41, val_main_cst_6, val_main_v38, val_main_v37, val_main_cst_5, val_main_v36, val_main_v15,
    val_main_v34, val_main_cst_3, val_main_v31, val_main_v30, val_main_cst_2, val_main_v29, val_main_v20, xp_apply, dc_apply, dw]
  fin_vals k with hk
  all_goals simp [hk, Nat.add_comm]

end Cert.ReferenceIdeal.Conv

end
-- ==== Proof.ConvKernel.lean ====
/-
  The gated short convolution's gradient: the kernel's two result arrays, element by element.
-/
module

public import proofs.«01_k».proof.Proof.ConvBlocks
public import proofs.«01_k».proof.Proof.ConvSpec
public import Idealize.ShloMosaic.Lib.Pipeline.ValueKit

@[expose] public section

set_option maxRecDepth 16384

noncomputable section

namespace Cert.KernelIdeal.Conv

open Cert.KernelIdeal Cert.KernelIdeal.Gen Idealize.ShloMosaic Idealize.ShloMosaic.TcCoe Idealize.SL.Sem Cert.Conv
open Idealize.ShloMosaic.Pipeline (Dat)

variable (m : (ℓ : Loc nD τ sig) → Buf (Elt Ideal) ℓ)

/-- The arguments as the specification takes them. -/
abbrev argP (c : Dev nD) : XP := m ((c : Thread nD τ).loc main_arg0)
abbrev argD (c : Dev nD) : XD := m ((c : Thread nD τ).loc main_arg1)
abbrev argW (c : Dev nD) : XW := m ((c : Thread nD τ).loc main_arg2)

/-- Which block each window is at. -/
theorem idx : ∀ t : Fin cfg0.N, win0_0.index t = ![t.val, 8] ∧ win0_1.index t = ![t.val, 9] ∧ win0_2.index t = ![t.val, 10]
    ∧ win0_3.index t = ![t.val * 256 - 1, 9] ∧ win0_4.index t = ![t.val * 256 - 1, 10]
    ∧ win0_5.index t = ![min ((t.val + 1) * 256) 1023, 8] ∧ win0_6.index t = ![t.val, 1]
    ∧ win0_7.index t = ![min ((t.val + 1) * 256) 1023, 1] ∧ win0_8.index t = ![1, 0, 0] ∧ win0_9.index t = ![t.val, 0]
    ∧ win0_10.index t = ![0, 0] :=
  (by decide +kernel : ∀ t : Fin grid0.N, win0_0.index t = ![t.val, 8] ∧ win0_1.index t = ![t.val, 9] ∧ win0_2.index t = ![t.val, 10]
    ∧ win0_3.index t = ![t.val * 256 - 1, 9] ∧ win0_4.index t = ![t.val * 256 - 1, 10]
    ∧ win0_5.index t = ![min ((t.val + 1) * 256) 1023, 8] ∧ win0_6.index t = ![t.val, 1]
    ∧ win0_7.index t = ![min ((t.val + 1) * 256) 1023, 1] ∧ win0_8.index t = ![1, 0, 0] ∧ win0_9.index t = ![t.val, 0]
    ∧ win0_10.index t = ![0, 0])

theorem isFirst : ∀ t : Fin cfg0.N, Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1)

theorem isLast : ∀ t : Fin cfg0.N, Scalar.cmpi .eq (BitVec.ofNat 32 (grid0.coords t 0).val) 3#32 = if t.val = 3 then 1#1 else 0#1 :=
  (by decide +kernel : ∀ t : Fin grid0.N, Scalar.cmpi .eq (BitVec.ofNat 32 (grid0.coords t 0).val) 3#32 = if t.val = 3 then 1#1 else 0#1)

theorem lt4 (t : Fin cfg0.N) : t.val < 4 := lt_of_lt_of_eq t.isLt N_0

/-- A point's rows of gate B, gate C, h and the mixers' gradient, and the two halos, read off the arguments. -/
theorem blk0 (c : Dev nD) (t : Fin cfg0.N) (r : Fin 2048) (j : Fin 256) (n : Fin 8192) (k : Fin 3584)
    (hn : n.val = t.val * 2048 + r.val) (hk : k.val = 2048 + j.val) : iblk m c 0 t (ix2 r j) = argP m c (ix2 n k) := by
  blk_ext [iblk, V, idx t]
theorem blk1 (c : Dev nD) (t : Fin cfg0.N) (r : Fin 2048) (j : Fin 256) (n : Fin 8192) (k : Fin 3584)
    (hn : n.val = t.val * 2048 + r.val) (hk : k.val = 2304 + j.val) : iblk m c 1 t (ix2 r j) = argP m c (ix2 n k) := by
  blk_ext [iblk, V, idx t]
theorem blk2 (c : Dev nD) (t : Fin cfg0.N) (r : Fin 2048) (j : Fin 256) (n : Fin 8192) (k : Fin 3584)
    (hn : n.val = t.val * 2048 + r.val) (hk : k.val = 2560 + j.val) : iblk m c 2 t (ix2 r j) = argP m c (ix2 n k) := by
  blk_ext [iblk, V, idx t]
theorem blk3 (c : Dev nD) (t : Fin cfg0.N) (r : Fin 8) (j : Fin 256) (n : Fin 8192) (k : Fin 3584)
    (hn : n.val = (t.val * 256 - 1) * 8 + r.val) (hk : k.val = 2304 + j.val) : iblk m c 3 t (ix2 r j) = argP m c (ix2 n k) := by
  blk_ext [iblk, V, idx t]
theorem blk4 (c : Dev nD) (t : Fin cfg0.N) (r : Fin 8) (j : Fin 256) (n : Fin 8192) (k : Fin 3584)
    (hn : n.val = (t.val * 256 - 1) * 8 + r.val) (hk : k.val = 2560 + j.val) : iblk m c 4 t (ix2 r j) = argP m c (ix2 n k) := by
  blk_ext [iblk, V, idx t]
theorem blk5 (c : Dev nD) (t : Fin cfg0.N) (r : Fin 8) (j : Fin 256) (n : Fin 8192) (k : Fin 3584)
    (hn : n.val = (min ((t.val + 1) * 256) 1023) * 8 + r.val) (hk : k.val = 2048 + j.val) : iblk m c 5 t (ix2 r j) = argP m c (ix2 n k) := by
  blk_ext [iblk, V, idx t]
theorem blk6 (c : Dev nD) (t : Fin cfg0.N) (r : Fin 2048) (j : Fin 256) (n : Fin 8192) (k : Fin 1024)
    (hn : n.val = t.val * 2048 + r.val) (hk : k.val = 256 + j.val) : iblk m c 6 t (ix2 r j) = argD m c (ix2 n k) := by
  blk_ext [iblk, V, idx t]
theorem blk7 (c : Dev nD) (t : Fin cfg0.N) (r : Fin 8) (j : Fin 256) (n : Fin 8192) (k : Fin 1024)
    (hn : n.val = (min ((t.val + 1) * 256) 1023) * 8 + r.val) (hk : k.val = 256 + j.val) : iblk m c 7 t (ix2 r j) = argD m c (ix2 n k) := by
  blk_ext [iblk, V, idx t]

/-- The operand behind its halo is the padded operand, from the sixth row on. -/
theorem sExt_apply (c : Dev nD) (t : Fin cfg0.N) (q : Fin 2056) (j : Fin 256) (hq : 6 ≤ q.val) (hn : t.val * 2048 + q.val - 6 < 8194) :
    sExt m c t (ix2 q j) = xs (argP m c) (t.val * 2048 + q.val - 6) j := by
  have ht := lt4 t
  pointwise [sExt, k0_pay5, xs, isFirst t]
  by_cases h8 : q.val < 8
  · simp only [dif_pos h8]
    by_cases h0 : t.val = 0
    · rw [dif_neg (by omega)]
      simp [h0, Scalar.select]
    · rw [dif_pos (by omega)]
      have e {α : Type} (a b : α) : Scalar.select (if t.val = 0 then 1#1 else 0#1) a b = b := by rw [if_neg h0]; rfl
      simp only [e]
      exact congrArg₂ (· * ·) (blk3 m c t _ j _ _ (by dsimp only; omega) rfl) (blk4 m c t _ j _ _ (by dsimp only; omega) rfl)
  · simp only [dif_neg h8]
    rw [dif_pos (by omega)]
    exact congrArg₂ (· * ·) (blk1 m c t _ j _ _ (by dsimp only; omega) rfl) (blk2 m c t _ j _ _ (by dsimp only; omega) rfl)

theorem gExt_apply (c : Dev nD) (t : Fin cfg0.N) (q : Fin 2056) (j : Fin 256) (hq : q.val < 2050) :
    gExt m c t (ix2 q j) = dc (argP m c) (argD m c) (t.val * 2048 + q.val) j := by
  have ht := lt4 t
  pointwise [gExt, k0_pay7, dc, isLast t]
  by_cases h8 : q.val < 2048
  · simp only [dif_pos h8]
    rw [dif_pos (by omega)]
    exact congrArg₂ (· * ·) (blk6 m c t _ j _ _ (by dsimp only) rfl) (blk0 m c t _ j _ _ (by dsimp only) rfl)
  · simp only [dif_neg h8]
    by_cases h3 : t.val = 3
    · rw [dif_neg (by omega)]
      simp [h3, Scalar.select]
    · rw [dif_pos (by omega)]
      have e {α : Type} (a b : α) : Scalar.select (if t.val = 3 then 1#1 else 0#1) a b = b := by rw [if_neg h3]; rfl
      simp only [e]
      exact congrArg₂ (· * ·) (blk7 m c t _ j _ _ (by dsimp only; omega) rfl) (blk5 m c t _ j _ _ (by dsimp only; omega) rfl)

theorem tapBlk_apply (c : Dev nD) (t : Fin cfg0.N) (k : Fin 3) (j : Fin 256) :
    k0_pay4 (iblk m c 8 t) (ix2 k j) = tap (argW m c) k j := by
  pointwise [k0_pay4, tap]
  blk_ext [iblk, V, idx t]

/-- Gate B's gradient at a point: the output's gradient times the convolution. -/
theorem dgBlk_apply (c : Dev nD) (t : Fin cfg0.N) (r : Fin 2048) (j : Fin 256) (n : Fin 8192) (k : Fin 1024)
    (hn : n.val = t.val * 2048 + r.val) (hk : k.val = 256 + j.val) :
    k0_pay6 (grid0.coords t) (iblk m c 8 t) (iblk m c 3 t) (iblk m c 1 t) (iblk m c 4 t) (iblk m c 2 t) (iblk m c 6 t) (ix2 r j)
      = argD m c (ix2 n k) * conv (argP m c) (argW m c) n.val j := by
  have ht := lt4 t
  have hr := r.isLt
  have hs (q : Fin 2056) (e : ℕ) (hq : 6 ≤ q.val) (h : t.val * 2048 + q.val - 6 = e) :
      k0_pay5 (grid0.coords t) (iblk m c 3 t) (iblk m c 1 t) (iblk m c 4 t) (iblk m c 2 t) (ix2 q j) = xs (argP m c) e j :=
    h ▸ sExt_apply m c t q j hq (by omega)
  pointwise [k0_pay6, tapBlk_apply]
  generalize k0_pay5 (grid0.coords t) (iblk m c 3 t) (iblk m c 1 t) (iblk m c 4 t) (iblk m c 2 t) = S at hs ⊢
  unfold conv
  rw [blk6 m c t r j n k hn hk, hs _ n.val (by dsimp only; omega) (by dsimp only; omega),
    hs _ (n.val + 1) (by dsimp only; omega) (by dsimp only; omega), hs _ (n.val + 2) (by dsimp only; omega) (by dsimp only; omega)]

/-- The gradient with respect to the convolution's operand at a point. -/
theorem dsBlk_apply (c : Dev nD) (t : Fin cfg0.N) (r : Fin 2048) (j : Fin 256) (n : ℕ) (hn : n = t.val * 2048 + r.val) :
    k0_pay8 (BitVec.ofNat 32 (grid0.coords t 0).val) (k0_pay4 (iblk m c 8 t)) 3#32 (iblk m c 7 t) (iblk m c 6 t) (iblk m c 5 t)
        (iblk m c 0 t) (ix2 r j)
      = ds (argP m c) (argD m c) (argW m c) n j := by
  have ht := lt4 t
  have hr := r.isLt
  have hg (q : Fin 2056) (e : ℕ) (hq : q.val < 2050) (h : t.val * 2048 + q.val = e) :
      k0_pay7 (BitVec.ofNat 32 (grid0.coords t 0).val) 3#32 (iblk m c 7 t) (iblk m c 6 t) (iblk m c 5 t) (iblk m c 0 t) (ix2 q j)
        = dc (argP m c) (argD m c) e j :=
    h ▸ gExt_apply m c t q j hq
  pointwise [k0_pay8, tapBlk_apply]
  generalize k0_pay7 (BitVec.ofNat 32 (grid0.coords t 0).val) 3#32 (iblk m c 7 t) (iblk m c 6 t) (iblk m c 5 t) (iblk m c 0 t) = G at hg ⊢
  unfold ds
  rw [hg _ (n + 2) (by dsimp only; omega) (by dsimp only; omega), hg _ (n + 1) (by dsimp only; omega) (by dsimp only; omega),
    hg _ n (by dsimp only; omega) (by dsimp only; omega)]

/-- What a point writes of the first result. -/
theorem dpBlk_apply (c : Dev nD) (t : Fin cfg0.N) (r : Fin 2048) (k : Fin 768) (n : Fin 8192) (hn : n.val = t.val * 2048 + r.val) :
    dpBlk m c t (ix2 r k) = dp (argP m c) (argD m c) (argW m c) n k := by
  have hA (j : Fin 256) (k' : Fin 1024) (hk : k'.val = 256 + j.val) := dgBlk_apply m c t r j n k' hn hk
  have hB (j : Fin 256) := dsBlk_apply m c t r j n.val hn
  have h2 (j : Fin 256) (k' : Fin 3584) (hk : k'.val = 2560 + j.val) := blk2 m c t r j n k' hn hk
  have h1 (j : Fin 256) (k' : Fin 3584) (hk : k'.val = 2304 + j.val) := blk1 m c t r j n k' hn hk
  unfold dpBlk
  generalize k0_pay6 (grid0.coords t) (iblk m c 8 t) (iblk m c 3 t) (iblk m c 1 t) (iblk m c 4 t) (iblk m c 2 t) (iblk m c 6 t) = A at hA ⊢
  generalize k0_pay8 (BitVec.ofNat 32 (grid0.coords t 0).val) (k0_pay4 (iblk m c 8 t)) 3#32 (iblk m c 7 t) (iblk m c 6 t) (iblk m c 5 t)
    (iblk m c 0 t) = B at hB ⊢
  generalize iblk m c 2 t = H at h2 ⊢
  generalize iblk m c 1 t = C at h1 ⊢
  pointwise [k0_pay2]
  unfold dp
  split_ifs
  all_goals first
    | exact hA _ _ rfl
    | exact congrArg₂ (· * ·) (hB _) (h2 _ _ rfl)
    | exact congrArg₂ (· * ·) (hB _) (h1 _ _ rfl)
    | exact absurd rfl ‹_›

theorem dwStep_apply (c : Dev nD) (t : Fin cfg0.N) (acc : FVec Ideal S3x256 .f32) (k : Fin 3) (j : Fin 256) :
    dwStep m c t acc (ix2 k j) = acc (ix2 k j) + ∑ r : Fin 2048,
      xs (argP m c) (t.val * 2048 + r.val + k.val) j * dc (argP m c) (argD m c) (t.val * 2048 + r.val) j := by
  have ht := lt4 t
  pointwise [dwStep, k0_pay1, k0_pay9, k0_pay10, k0_pay11, k0_pay12]
  congr 1
  fin_vals k with hk
  all_goals simp only [hk, Nat.reduceSub, Nat.reduceLT, ↓reduceDIte]
  all_goals refine Finset.sum_congr rfl fun r _ => ?_
  all_goals have hr := r.isLt
  all_goals
    refine congrArg₂ (· * ·) ?_ (gExt_apply m c t _ j (by dsimp only; omega))
    rw [sExt_apply m c t _ j (by dsimp only; omega) (by dsimp only; omega)]
    congr 1
    dsimp only
    omega

/-- The first result array. -/
theorem final_dp (c : Dev nD) :
    (dats m 0 c).arrAt 9 cfg0.N = fun i : S8192x768.Idx => dp (argP m c) (argD m c) (argW m c) (i 0) (i 1) := by
  refine (dats m 0 c).arrAt_eq_of_covers 9 _ (by decide +kernel) fun t hf y => ?_
  blk_simp
  rw [after0_9]
  have e : (outsAt0 m c t.val t.isLt).1 = dpBlk m c t := by
    by_cases h0 : t.val % 4 = 0
    · exact outs_dp_A m c t h0
    · exact outs_dp_B m c t h0
  rw [e]
  obtain ⟨r, k, rfl⟩ : ∃ (r : Fin 2048) (k : Fin 768), y = ix2 r k := ⟨y 0, y 1, eq_ix2 y⟩
  have ht := lt4 t
  rw [dpBlk_apply m c t r k ⟨t.val * 2048 + r.val, by omega⟩ rfl]
  refine congrArg₂ (dp (argP m c) (argD m c) (argW m c)) (Fin.ext ?_) (Fin.ext ?_)
  · blk_simp [idx t]
  · blk_simp [idx t]

/-- The second result array. -/
theorem final_dw (c : Dev nD) :
    (dats m 0 c).arrAt 10 cfg0.N = fun i : S3x256.Idx => dw (argP m c) (argD m c) (i 0) (i 1) := by
  refine (dats m 0 c).arrAt_eq_of_after_last 10 t0_3 (by decide +kernel) _ fun y => ?_
  blk_simp
  rw [after0_10]
  obtain ⟨k, j, rfl⟩ : ∃ (k : Fin 3) (j : Fin 256), y = ix2 k j := ⟨y 0, y 1, eq_ix2 y⟩
  rw [Pipeline.eq_sum_fin_of_reset_step_apply_last (fun n h => (outsAt0 m c n h).2) 4 (fun _ => (0 : EReal))
    (fun t y => ∑ r : Fin 2048, xs (argP m c) (t.val * 2048 + r.val + (y 0).val) (y 1) * dc (argP m c) (argD m c) (t.val * 2048 + r.val) (y 1))
    (fun t h y => by
      idx_vars y
      rw [outs_dw_A m c t h]
      refine (dwStep_apply ..).trans ?_
      exact congrArg (· + _) (by pointwise [k0_pay3]))
    (fun t h y => by
      idx_vars y
      rw [outs_dw_B m c t h (Nat.lt_of_le_of_lt (Nat.sub_le _ _) t.isLt)]
      exact dwStep_apply ..)
    (le_of_eq N_0) t0_3 rfl (ix2 k j), zero_add]
  unfold dw
  exact Fin.sum_mul_add_congr fun t r hl => rfl

end Cert.KernelIdeal.Conv

end
-- ==== Proof.MlpBwdBlocks.lean ====
/-
  The backward pass through the second half of the second layer, one grid point of the kernel: what each of the four outputs'
  staging buffers holds after the point, as a function of the point's input blocks.
-/
module

public import proofs.«01_k».proof.Proof.Gen.MlpBwdIdeal.Value
public import Idealize.ShloMosaic.Lib.Pointwise
public import Idealize.ShloMosaic.Lib.Tactic

@[expose] public section

set_option maxRecDepth 16384

noncomputable section

namespace Cert.MlpBwdIdeal.Mlp

open Cert.MlpBwdIdeal Cert.MlpBwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The norm's weights of the layer, as a point reads them. -/
def nwRow (c : Dev nD) (t : Fin cfg0.N) : FVec F S1x1024 .f32 :=
  View.ld (iblk m c 3 t) (Rect.unit ![1, 0] ![1, 1024] inb_S2x1024_S1x1024_1_0)

/-- The gate's and up's gradient at point `t`. -/
def dgBlk (c : Dev nD) (t : Fin cfg0.N) : FVec F S256x5632 .bf16 := k0_pay3 (iblk m c 0 t) (iblk m c 4 t) (iblk m c 2 t)

/-- The gradient with respect to the half's input at point `t`. -/
def dxBlk (c : Dev nD) (t : Fin cfg0.N) : FVec F S256x1024 .f32 :=
  k0_pay8 (iblk m c 0 t) (dgBlk m c t) (k0_pay4 (iblk m c 5 t)) (nwRow m c t) (iblk m c 1 t)

/-- The mixers' gradient at point `t`. -/
def dmBlk (c : Dev nD) (t : Fin cfg0.N) : FVec F S256x1024 .f32 :=
  k0_pay1 (k0_pay10 (iblk m c 0 t) (dgBlk m c t) (k0_pay4 (iblk m c 5 t)) (nwRow m c t) (iblk m c 1 t)) (k0_pay11 (iblk m c 6 t))
    (constant S256x1024 .f32 0x00000000#32)

/-- The norm weights' accumulator after point `t`, when it holds `acc` before. -/
def nwStep (c : Dev nD) (t : Fin cfg0.N) (acc : FVec F S1x1024 .f32) : FVec F S1x1024 .f32 :=
  k0_pay9 (dgBlk m c t) (k0_pay4 (iblk m c 5 t)) (iblk m c 1 t) acc

/-- The three row-wise outputs' staging buffers after a point. -/
theorem outs_tiles (c : Dev nD) (t : Fin cfg0.N) :
    (outsAt0 m c t.val t.isLt).1 = dgBlk m c t ∧ (outsAt0 m c t.val t.isLt).2.1 = dxBlk m c t
      ∧ (outsAt0 m c t.val t.isLt).2.2.1 = dmBlk m c t := by
  unfold dmBlk dxBlk dgBlk nwRow
  by_cases h0 : t.val % 32 = 0
  · rw [outsAt0_A m c t h0]
    dsimp only
    unfold out0_A_7 out0_A_8 out0_A_9
    refine ⟨(View.read_writes_eq_canon _ _ _ fun y => ?_).trans ?_, (View.read_writes_eq_canon _ _ _ fun y => ?_).trans ?_,
      (View.read_writes_eq_canon _ _ _ fun y => ?_).trans ?_⟩
    · exact cover0_A_7 ..
    rotate_left
    · exact cover0_A_8 ..
    rotate_left
    · exact cover0_A_9 ..
    all_goals
      unfold kernelRun0_A
      dsimp only
      sl_unfold_words
      rw [View.canon_unit_zero hz2]
      simp only [View.readAt_eq_ld, Memref.IsWhole.read_unread, View.ld_unit_zero (S := S256x1024) hz2,
        View.ld_unit_zero (S := S256x5632) hz2, View.ld_unit_zero (S := S1x2816x1024) hz3, View.ld_unit_zero (S := S1x1024x1024) hz3,
        View.ld_unit_zero (S := S8x1x704x1024) hz4]
      try rfl
  · rw [outsAt0_B m c t h0]
    dsimp only
    unfold out0_B_7 out0_B_8 out0_B_9
    refine ⟨(View.read_writes_eq_canon _ _ _ fun y => ?_).trans ?_, (View.read_writes_eq_canon _ _ _ fun y => ?_).trans ?_,
      (View.read_writes_eq_canon _ _ _ fun y => ?_).trans ?_⟩
    · exact cover0_B_7 ..
    rotate_left
    · exact cover0_B_8 ..
    rotate_left
    · exact cover0_B_9 ..
    all_goals
      unfold kernelRun0_B
      dsimp only
      sl_unfold_words
      rw [View.canon_unit_zero hz2]
      simp only [View.readAt_eq_ld, Memref.IsWhole.read_unread, View.ld_unit_zero (S := S256x1024) hz2,
        View.ld_unit_zero (S := S256x5632) hz2, View.ld_unit_zero (S := S1x2816x1024) hz3, View.ld_unit_zero (S := S1x1024x1024) hz3,
        View.ld_unit_zero (S := S8x1x704x1024) hz4]
      try rfl

/-- The accumulator after the point that resets it. -/
theorem outs_nw_A (c : Dev nD) (t : Fin cfg0.N) (h0 : t.val % 32 = 0) :
    (outsAt0 m c t.val t.isLt).2.2.2 = nwStep m c t k0_pay2 := by
  unfold nwStep dgBlk
  rw [outsAt0_A m c t h0]
  dsimp only
  unfold out0_A_10
  refine (View.read_writes_eq_canon _ _ _ fun y => ?_).trans ?_
  · exact cover0_A_10 ..
  unfold kernelRun0_A
  dsimp only
  sl_unfold_words
  rw [View.canon_cons_unit_zero (S := S1x1024) hz2, View.readCov_unit_zero (S := S1x1024) _ hz2]
  simp only [View.readAt_eq_ld, Memref.IsWhole.read_unread, View.ld_unit_zero (S := S256x1024) hz2,
    View.ld_unit_zero (S := S256x5632) hz2, View.ld_unit_zero (S := S1x2816x1024) hz3, View.ld_unit_zero (S := S8x1x704x1024) hz4]

/-- The accumulator after any other point, from what the point before left. -/
theorem outs_nw_B (c : Dev nD) (t : Fin cfg0.N) (h0 : ¬t.val % 32 = 0) (hlt : t.val - 1 < cfg0.N) :
    (outsAt0 m c t.val t.isLt).2.2.2 = nwStep m c t (outsAt0 m c (t.val - 1) hlt).2.2.2 := by
  unfold nwStep dgBlk
  rw [outsAt0_B m c t h0]
  dsimp only
  unfold out0_B_10
  refine (View.read_writes_eq_canon _ _ _ fun y => ?_).trans ?_
  · exact cover0_B_10 ..
  unfold kernelRun0_B
  dsimp only
  sl_unfold_words
  rw [View.canon_unit_zero hz2]
  simp only [View.readAt_eq_ld, Memref.IsWhole.read_unread, View.ld_unit_zero (S := S256x1024) hz2,
    View.ld_unit_zero (S := S256x5632) hz2, View.ld_unit_zero (S := S1x2816x1024) hz3, View.ld_unit_zero (S := S8x1x704x1024) hz4,
    View.ld_unit_zero (S := S1x1024) hz2]

end Cert.MlpBwdIdeal.Mlp

end
-- ==== Proof.Scalars.lean ====
/-
  Facts about extended reals that the calls of the training step share: the constants that the programs spell as bit
  patterns, the logistic function by way of the hyperbolic tangent, the gated unit's derivative, and the gradient of the
  root-mean-square norm.  Nothing here asks an operand to be finite.
-/
module

public import Idealize.ShloMosaic.Lib.IdealHost
public import Idealize.ShloMosaic.Lib.Pointwise

@[expose] public section

noncomputable section

namespace Cert.Step

open Idealize.ShloMosaic

/-- One half, as the kernel spells it. -/
abbrev half : EReal := Ideal.ofBits .f32 0x3F000000#32
/-- The width of a row. -/
abbrev width : EReal := Ideal.ofBits .f32 0x44800000#32
/-- What the norm adds to the mean square. -/
abbrev eps : EReal := Ideal.ofBits .f32 0x358637BD#32

theorem half_eq : half = ((1 / 2 : ℝ) : EReal) := by
  simp [half, Ideal.ofBits, Ideal.ieee, -EReal.coe_mul]; norm_num
theorem width_eq : width = ((1024 : ℝ) : EReal) := by
  simp [width, Ideal.ofBits, Ideal.ieee, -EReal.coe_mul]; norm_num
theorem negHalf_eq : Ideal.ofBits .f32 0xBF000000#32 = ((-(1 / 2) : ℝ) : EReal) := by
  simp [Ideal.ofBits, Ideal.ieee, -EReal.coe_mul, -EReal.coe_neg]; norm_num
theorem eps_pos : ∃ e : ℝ, 0 < e ∧ eps = (e : EReal) := by
  refine ⟨8796093 / 8796093022208, by norm_num, ?_⟩
  simp [eps, Ideal.ofBits, Ideal.ieee, -EReal.coe_mul]; norm_num

/-- Division by the row's width is the product with its reciprocal. -/
theorem div_width (x : EReal) : Ideal.div x width = x * ((1 / 1024 : ℝ) : EReal) := by
  rw [width_eq, Ideal.div_coe (by norm_num)]

/-- The logistic function as the kernel computes it. -/
def sig (x : EReal) : EReal := half * Ideal.tanh (half * x) + half

theorem sig_eq (x : EReal) : sig x = Ideal.logistic x := by
  unfold sig
  rw [half_eq]
  induction x with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top]
    norm_cast
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h : Real.exp (-r) = Real.exp (-(1 / 2 * r)) * Real.exp (-(1 / 2 * r)) := by rw [← Real.exp_add]; ring_nf
    have h' : Real.exp (1 / 2 * r) * Real.exp (-(1 / 2 * r)) = 1 := by rw [← Real.exp_add]; simp
    have p := Real.exp_pos (1 / 2 * r)
    have q := Real.exp_pos (-(1 / 2 * r))
    rw [h]
    generalize Real.exp (1 / 2 * r) = a at *
    generalize Real.exp (-(1 / 2 * r)) = b at *
    field_simp
    nlinarith

/-- The logistic function's value is a real between zero and one. -/
theorem sig_real (x : EReal) : ∃ s : ℝ, 0 ≤ s ∧ s ≤ 1 ∧ sig x = (s : EReal) := by
  rw [sig_eq]
  induction x with
  | bot => exact ⟨0, le_refl _, zero_le_one, by simp⟩
  | top => exact ⟨1, zero_le_one, le_refl _, by simp⟩
  | coe r =>
    refine ⟨(1 + Real.exp (-r))⁻¹, by positivity, ?_, by simp⟩
    exact inv_le_one_of_one_le₀ (by have := Real.exp_pos (-r); linarith)

/-- The reciprocal root of the mean square plus the small constant, of a row whose squares sum to `s`. -/
def rinv (s : EReal) : EReal := Ideal.rsqrt (Ideal.div s width + eps)

theorem sum_sq_nonneg {n : ℕ} (x : Fin n → EReal) : 0 ≤ ∑ k, x k * x k :=
  Finset.sum_nonneg fun k _ => by
    rcases le_total 0 (x k) with h | h
    · exact mul_nonneg h h
    · rw [← neg_mul_neg]
      exact mul_nonneg (EReal.neg_nonneg.mpr h) (EReal.neg_nonneg.mpr h)

/-- The reciprocal root is a nonnegative real, and over the mean square it is its own cube. -/
theorem rinv_real {s : EReal} (h : 0 ≤ s) :
    ∃ r : ℝ, 0 ≤ r ∧ rinv s = (r : EReal) ∧ Ideal.div (rinv s) (Ideal.div s width + eps) = ((r * r * r : ℝ) : EReal) := by
  obtain ⟨e, he, hv⟩ := eps_pos
  unfold rinv
  rw [div_width, hv]
  induction s with
  | bot => exact absurd h (by simp)
  | top =>
    rw [EReal.top_mul_coe_of_pos (by norm_num), EReal.top_add_coe, Ideal.rsqrt_top]
    exact ⟨0, le_refl _, rfl, by simp [Ideal.div]⟩
  | coe s =>
    have hs : 0 ≤ s := by exact_mod_cast h
    rw [← EReal.coe_mul, ← EReal.coe_add, Ideal.rsqrt_coe]
    have hp : 0 < s * (1 / 1024) + e := by positivity
    rw [if_neg (not_lt.mpr hp.le), if_neg hp.ne', Ideal.div_coe hp.ne', ← EReal.coe_mul]
    refine ⟨_, by positivity, rfl, ?_⟩
    congr 1
    have hq := Real.mul_self_sqrt hp.le
    have hq' := Real.sqrt_pos.mpr hp
    generalize Real.sqrt (s * (1 / 1024) + e) = q at *
    rw [← hq]
    field_simp

/-- A nonnegative real scales a sum term by term. -/
theorem sum_mul_coe {n : ℕ} (f : Fin n → EReal) {r : ℝ} (h : 0 ≤ r) : (∑ k, f k) * (r : EReal) = ∑ k, f k * (r : EReal) := by
  classical
  induction (Finset.univ : Finset (Fin n)) using Finset.induction_on with
  | empty => simp
  | insert a s ha ih =>
    rw [Finset.sum_insert ha, Finset.sum_insert ha, ← ih]
    exact EReal.right_distrib_of_nonneg_of_ne_top (by exact_mod_cast h) (EReal.coe_ne_top _) _ _

theorem mul_coe_sub (a b : EReal) {r : ℝ} (h : 0 ≤ r) : (r : EReal) * (a - b) = (r : EReal) * a - (r : EReal) * b := by
  rw [sub_eq_add_neg, sub_eq_add_neg, ← mul_neg]
  exact EReal.left_distrib_of_nonneg_of_ne_top (by exact_mod_cast h) (EReal.coe_ne_top _) _ _

theorem add_self_eq (a : EReal) : a + a = ((2 : ℝ) : EReal) * a := by
  induction a with
  | bot => rw [EReal.coe_mul_bot_of_pos (by norm_num)]; rfl
  | top => rw [EReal.coe_mul_top_of_pos (by norm_num)]; rfl
  | coe r => rw [← EReal.coe_add, ← EReal.coe_mul, two_mul]

/-- The norm's gradient with respect to its input: the form that scales the row once at the end is the sum of the
    derivative's three terms. -/
theorem norm_bwd {n : ℕ} (x g : Fin n → EReal) (s : EReal) (hs : 0 ≤ s) (k : Fin n) :
    g k * rinv s
        + x k * Ideal.div ((∑ j, x j * g j) * (Ideal.ofBits .f32 0xBF000000#32 * Ideal.div (rinv s) (Ideal.div s width + eps))) width
        + x k * Ideal.div ((∑ j, x j * g j) * (Ideal.ofBits .f32 0xBF000000#32 * Ideal.div (rinv s) (Ideal.div s width + eps))) width
      = rinv s * (g k - x k * rinv s * Ideal.div (∑ j, g j * (x j * rinv s)) width) := by
  obtain ⟨r, hr, e1, e2⟩ := rinv_real hs
  rw [e2, e1, div_width, div_width, negHalf_eq, mul_coe_sub _ _ hr, add_assoc, add_self_eq, sub_eq_add_neg, mul_comm (g k)]
  congr 1
  have hsum : (∑ j, g j * (x j * (r : EReal))) = (∑ j, x j * g j) * (r : EReal) := by
    rw [sum_mul_coe _ hr]
    exact Finset.sum_congr rfl fun j _ => by rw [← mul_assoc, mul_comm (g j)]
  rw [hsum, ← mul_neg]
  generalize (∑ j, x j * g j) = S
  have e : ((2 : ℝ) : EReal) * (x k * (S * (((-(1 / 2) : ℝ) : EReal) * ((r * r * r : ℝ) : EReal)) * ((1 / 1024 : ℝ) : EReal)))
      = (x k * S) * ((2 * -(1 / 2) * (r * r * r) * (1 / 1024) : ℝ) : EReal) := by
    simp only [EReal.coe_mul, mul_assoc, mul_left_comm, mul_comm]
  have e' : x k * (r : EReal) * (S * (r : EReal) * ((1 / 1024 : ℝ) : EReal)) * (r : EReal)
      = (x k * S) * ((r * r * r * (1 / 1024) : ℝ) : EReal) := by
    simp only [EReal.coe_mul, mul_assoc, mul_left_comm, mul_comm]
  have e'' : (r : EReal) * -(x k * (r : EReal) * (S * (r : EReal) * ((1 / 1024 : ℝ) : EReal)))
      = -(x k * (r : EReal) * (S * (r : EReal) * ((1 / 1024 : ℝ) : EReal)) * (r : EReal)) := by
    rw [mul_neg, mul_comm]
  rw [e, e'', e', ← mul_neg, ← EReal.coe_neg]
  congr 2
  ring

/-- The gated unit's derivative at a real factor: the derivative's sum of two terms is the kernel's product. -/
theorem silu_bwd (d : ℝ) (x : EReal) :
    (d : EReal) * sig x + x * (d : EReal) * (sig x * (1 - sig x)) = (d : EReal) * (sig x * (1 + x * (1 - sig x))) := by
  rw [sig_eq]
  induction x with
  | bot => simp
  | top =>
    rw [Ideal.logistic_top, show (1 : EReal) - 1 = 0 by rw [← EReal.coe_one, ← EReal.coe_sub, sub_self, EReal.coe_zero]]
    simp
  | coe x =>
    rw [Ideal.logistic_coe]
    generalize (1 + Real.exp (-x))⁻¹ = s
    norm_cast
    ring

end Cert.Step

end
-- ==== Proof.Rows.lean ====
/-
  The step's row-wise functions as the specifications spell them: a token's row of the residual stream, its norm, the
  gated unit, and their gradients.
-/
module

public import proofs.«01_k».proof.Proof.Scalars

@[expose] public section

noncomputable section

namespace Cert.Step

open Idealize.ShloMosaic

/-- An extended real that is a real. -/
def IsReal (a : EReal) : Prop := ∃ r : ℝ, a = (r : EReal)

theorem IsReal.mul {a b : EReal} : IsReal a → IsReal b → IsReal (a * b) :=
  fun ⟨r, h⟩ ⟨s, k⟩ => ⟨r * s, by rw [h, k, EReal.coe_mul]⟩

theorem IsReal.sum {n : ℕ} {f : Fin n → EReal} (h : ∀ k, IsReal (f k)) : IsReal (∑ k, f k) := by
  choose g hg using h
  exact ⟨∑ k, g k, by rw [Finset.sum_congr rfl fun k _ => hg k]; exact (map_sum (⟨⟨fun r : ℝ => (r : EReal), rfl⟩, EReal.coe_add⟩ : ℝ →+ EReal) g Finset.univ).symm⟩

/-- The reciprocal root of a row's mean square. -/
def rowInv (x : Fin 1024 → EReal) : EReal := rinv (∑ k, x k * x k)

theorem rowInv_real (x : Fin 1024 → EReal) : IsReal (rowInv x) :=
  let ⟨r, _, h, _⟩ := rinv_real (sum_sq_nonneg x)
  ⟨r, h⟩

/-- A row under its norm, scaled by the norm's weights. -/
def normed (x w : Fin 1024 → EReal) (k : Fin 1024) : EReal := x k * rowInv x * w k

/-- The gradient of a row's norm with respect to the row, when `g` is the gradient at the scaled-back row. -/
def normBwd (x g : Fin 1024 → EReal) (k : Fin 1024) : EReal :=
  rowInv x * (g k - x k * rowInv x * Ideal.div (∑ j, g j * (x j * rowInv x)) width)

/-- The gated unit of a row of gates followed by ups. -/
def gatedRow (g : Fin 5632 → EReal) (j : Fin 2816) : EReal := g ⟨j.val, by omega⟩ * sig (g ⟨j.val, by omega⟩) * g ⟨2816 + j.val, by omega⟩

/-- The gated unit's gradient, the gates' first and the ups' behind them, when `d` is the gradient at its output. -/
def gatedBwd (d : Fin 2816 → EReal) (g : Fin 5632 → EReal) (j : Fin 5632) : EReal :=
  if h : j.val < 2816 then
    d ⟨j.val, h⟩ * g ⟨2816 + j.val, by omega⟩ * (sig (g j) * (1 + g j * (1 - sig (g j))))
  else
    d ⟨j.val - 2816, by omega⟩ * (g ⟨j.val - 2816, by omega⟩ * sig (g ⟨j.val - 2816, by omega⟩))

/-- The norm's gradient as the derivative's three terms. -/
theorem normBwd_eq (x g : Fin 1024 → EReal) (k : Fin 1024) :
    g k * rowInv x
        + x k * Ideal.div ((∑ j, x j * g j) * (Ideal.ofBits .f32 0xBF000000#32
          * Ideal.div (rowInv x) (Ideal.div (∑ j, x j * x j) width + eps))) width
        + x k * Ideal.div ((∑ j, x j * g j) * (Ideal.ofBits .f32 0xBF000000#32
          * Ideal.div (rowInv x) (Ideal.div (∑ j, x j * x j) width + eps))) width
      = normBwd x g k :=
  norm_bwd x g _ (sum_sq_nonneg x) k

end Cert.Step

end
-- ==== Proof.MlpRows.lean ====
/-
  The backward pass through the second half of a layer, over the extended reals: what the four results are, element by
  element, in either layer.
-/
module

public import proofs.«01_k».proof.Proof.Rows
public import Idealize.ShloMosaic.Lib.Pipeline.ValueKit

@[expose] public section

noncomputable section

namespace Cert.Mlp

open Idealize.ShloMosaic Cert.Step

abbrev XA := (⟨⟨2, ![8192, 1024]⟩, .f32⟩ : BufTy).Contents (Elt Ideal)
abbrev XN := (⟨⟨2, ![2, 1024]⟩, .f32⟩ : BufTy).Contents (Elt Ideal)
abbrev XD := (⟨⟨3, ![2, 2816, 1024]⟩, .bf16⟩ : BufTy).Contents (Elt Ideal)
abbrev XG := (⟨⟨4, ![8, 2, 704, 1024]⟩, .bf16⟩ : BufTy).Contents (Elt Ideal)
abbrev XO := (⟨⟨3, ![2, 1024, 1024]⟩, .bf16⟩ : BufTy).Contents (Elt Ideal)

/-- An up column lies in the second half of the columns. -/
theorem up_lt (j : Fin 2816) : 2816 + j.val < 5632 := by omega

variable (y x : XA) (nw : XN) (wd : XD) (wg : XG) (wo : XO) (l : Fin 2)

/-- The gate-and-up weight of output `j` and input `k`. -/
def wgu (j : Fin 5632) (k : Fin 1024) : EReal := wg (ix4 ⟨j.val / 704, by omega⟩ l ⟨j.val % 704, by omega⟩ k)

/-- A token's row of gates and ups. -/
def guv (n : Fin 8192) (j : Fin 5632) : EReal :=
  ∑ k, normed (fun k => x (ix2 n k)) (fun k => nw (ix2 l k)) k * wgu wg l j k

/-- The gradient at the gated unit's output. -/
def dact (n : Fin 8192) (j : Fin 2816) : EReal := ∑ k, y (ix2 n k) * wd (ix3 l j k)

/-- The gradient at the gates and ups. -/
def dgu (n : Fin 8192) (j : Fin 5632) : EReal := gatedBwd (dact y wd l n) (guv x nw wg l n) j

/-- The gradient at the normed row. -/
def dh (n : Fin 8192) (k : Fin 1024) : EReal := ∑ j, dgu y x nw wd wg l n j * wgu wg l j k

/-- The gradient at the half's input. -/
def dx (n : Fin 8192) (k : Fin 1024) : EReal :=
  y (ix2 n k) + normBwd (fun k => x (ix2 n k)) (fun k => dh y x nw wd wg l n k * nw (ix2 l k)) k

/-- The gradient at the mixers' outputs. -/
def dmix (n : Fin 8192) (k : Fin 1024) : EReal := ∑ j, dx y x nw wd wg l n j * wo (ix3 l k j)

/-- The norm weights' gradient. -/
def dnw (k : Fin 1024) : EReal := ∑ n, dh y x nw wd wg l n k * (x (ix2 n k) * rowInv fun k => x (ix2 n k))

/-- The products that the gated unit's gradient distributes over are reals when the arrays hold reals. -/
theorem dact_real (hy : ∀ i, IsReal (y i)) (hx : ∀ i, IsReal (x i)) (hn : ∀ i, IsReal (nw i)) (hwd : ∀ i, IsReal (wd i))
    (hwg : ∀ i, IsReal (wg i)) (n : Fin 8192) (j : Fin 2816) : IsReal (dact y wd l n j * guv x nw wg l n ⟨2816 + j.val, up_lt j⟩) :=
  (IsReal.sum fun _ => (hy _).mul (hwd _)).mul (IsReal.sum fun _ => (((hx _).mul (rowInv_real _)).mul (hn _)).mul (hwg _))

end Cert.Mlp

end
-- ==== Proof.MlpBwdKernel.lean ====
/-
  The backward pass through the second half of the second layer: the kernel's four result arrays, element by element.
-/
module

public import proofs.«01_k».proof.Proof.MlpBwdBlocks
public import proofs.«01_k».proof.Proof.MlpRows
public import Idealize.ShloMosaic.Lib.Pipeline.ValueKit
public import Idealize.ShloMosaic.Lib.StableHlo.RunRead

@[expose] public section

set_option maxRecDepth 16384

noncomputable section

namespace Cert.MlpBwdIdeal.Mlp

open Cert.MlpBwdIdeal Cert.MlpBwdIdeal.Gen Idealize.ShloMosaic Idealize.ShloMosaic.TcCoe Idealize.SL.Sem Cert.Step Cert.Mlp
open Idealize.ShloMosaic.Pipeline (Dat)

variable (m : (ℓ : Loc nD τ sig) → Buf (Elt Ideal) ℓ)

/-- The arguments as the specification takes them. -/
abbrev argY (c : Dev nD) : XA := m ((c : Thread nD τ).loc main_arg0)
abbrev argX (c : Dev nD) : XA := m ((c : Thread nD τ).loc main_arg1)
abbrev argN (c : Dev nD) : XN := m ((c : Thread nD τ).loc main_arg2)
abbrev argD (c : Dev nD) : XD := m ((c : Thread nD τ).loc main_arg3)
abbrev argG (c : Dev nD) : XG := m ((c : Thread nD τ).loc main_arg4)
abbrev argO (c : Dev nD) : XO := m ((c : Thread nD τ).loc main_arg5)

/-- The gate and up that the host hands the kernel. -/
theorem gu_apply (c : Dev nD) (n : Fin 8192) (j : Fin 5632) :
    (V m c main_v21 : (⟨S8192x5632, .bf16⟩ : BufTy).Contents (Elt Ideal)) (ix2 n j) = guv (argX m c) (argN m c) (argG m c) 1 n j := by
  unfold V
  after_reads_simp
  pointwise [guv, normed, rowInv, rinv, wgu]

/-- The last point. -/
abbrev tLast : Fin cfg0.N := ⟨31, by decide⟩

/-- Which block each window is at. -/
theorem idx : ∀ t : Fin cfg0.N, win0_0.index t = ![t.val, 0] ∧ win0_1.index t = ![t.val, 0] ∧ win0_2.index t = ![t.val, 0]
    ∧ win0_3.index t = ![0, 0] ∧ win0_4.index t = ![1, 0, 0] ∧ win0_5.index t = ![0, 1, 0, 0] ∧ win0_6.index t = ![1, 0, 0]
    ∧ win0_7.index t = ![t.val, 0] ∧ win0_8.index t = ![t.val, 0] ∧ win0_9.index t = ![t.val, 0] ∧ win0_10.index t = ![0, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![1, 0, 0] ∧ win0_5.index t = ![0, 1, 0, 0] ∧ win0_6.index t = ![1, 0, 0]
    ∧ win0_7.index t = ![t.val, 0] ∧ win0_8.index t = ![t.val, 0] ∧ win0_9.index t = ![t.val, 0] ∧ win0_10.index t = ![0, 0])

theorem lt32 (t : Fin cfg0.N) : t.val < 32 := lt_of_lt_of_eq t.isLt N_0

/-- A point's rows and weights, read off the arguments. -/
theorem blkY (c : Dev nD) (t : Fin cfg0.N) (r : Fin 256) (k : Fin 1024) (n : Fin 8192) (hn : n.val = t.val * 256 + r.val) :
    iblk m c 0 t (ix2 r k) = argY m c (ix2 n k) := by
  blk_ext [iblk, V_main_arg0, idx t]
theorem blkX (c : Dev nD) (t : Fin cfg0.N) (r : Fin 256) (k : Fin 1024) (n : Fin 8192) (hn : n.val = t.val * 256 + r.val) :
    iblk m c 1 t (ix2 r k) = argX m c (ix2 n k) := by
  blk_ext [iblk, V_main_arg1, idx t]
theorem blkG (c : Dev nD) (t : Fin cfg0.N) (r : Fin 256) (j : Fin 5632) (n : Fin 8192) (hn : n.val = t.val * 256 + r.val) :
    iblk m c 2 t (ix2 r j) = guv (argX m c) (argN m c) (argG m c) 1 n j := by
  rw [← gu_apply]
  blk_ext [iblk, idx t]
theorem blkN (c : Dev nD) (t : Fin cfg0.N) (k : Fin 1024) : nwRow m c t (ix2 0 k) = argN m c (ix2 1 k) := by
  have e : nwRow m c t (ix2 0 k) = iblk m c 3 t (ix2 1 k) := by
    unfold nwRow
    generalize iblk m c 3 t = b
    pointwise []
  rw [e]
  blk_ext [iblk, V_main_arg2, idx t]
theorem blkD (c : Dev nD) (t : Fin cfg0.N) (j : Fin 2816) (k : Fin 1024) : iblk m c 4 t (ix3 0 j k) = argD m c (ix3 1 j k) := by
  blk_ext [iblk, V_main_arg3, idx t]
theorem blkW (c : Dev nD) (t : Fin cfg0.N) (a : Fin 8) (b : Fin 704) (k : Fin 1024) :
    iblk m c 5 t (ix4 a 0 b k) = argG m c (ix4 a 1 b k) := by
  blk_ext [iblk, V_main_arg4, idx t]
theorem blkO (c : Dev nD) (t : Fin cfg0.N) (j k : Fin 1024) : iblk m c 6 t (ix3 0 j k) = argO m c (ix3 1 j k) := by
  blk_ext [iblk, V_main_arg5, idx t]

/-- What a point writes of the gates' and ups' gradient. -/
theorem dgBlk_apply (c : Dev nD) (t : Fin cfg0.N) (r : Fin 256) (j : Fin 5632) (n : Fin 8192) (hn : n.val = t.val * 256 + r.val) :
    dgBlk m c t (ix2 r j) = dgu (argY m c) (argX m c) (argN m c) (argD m c) (argG m c) 1 n j := by
  have hY (k : Fin 1024) := blkY m c t r k n hn
  have hG (j : Fin 5632) := blkG m c t r j n hn
  have hD := blkD m c t
  unfold dgBlk
  generalize iblk m c 0 t = Y at hY ⊢
  generalize iblk m c 2 t = G at hG ⊢
  generalize iblk m c 4 t = D at hD ⊢
  pointwise [k0_pay3, hY, hG, hD, dgu, gatedBwd, dact, Cert.Step.sig]

/-- The gradient at a point's normed rows. -/
theorem dhBlk_apply (c : Dev nD) (t : Fin cfg0.N) (r : Fin 256) (k : Fin 1024) (n : Fin 8192) (hn : n.val = t.val * 256 + r.val) :
    k0_pay5 (dgBlk m c t) (k0_pay4 (iblk m c 5 t)) (ix2 r k) = dh (argY m c) (argX m c) (argN m c) (argD m c) (argG m c) 1 n k := by
  have hg (j : Fin 5632) := dgBlk_apply m c t r j n hn
  have hW := blkW m c t
  generalize dgBlk m c t = B at hg ⊢
  generalize iblk m c 5 t = W at hW ⊢
  pointwise [k0_pay5, k0_pay4, hg, hW, dh, wgu]

/-- What a point writes of the gradient at the half's input. -/
theorem dxBlk_apply (c : Dev nD) (t : Fin cfg0.N) (r : Fin 256) (k : Fin 1024) (n : Fin 8192) (hn : n.val = t.val * 256 + r.val) :
    dxBlk m c t (ix2 r k) = dx (argY m c) (argX m c) (argN m c) (argD m c) (argG m c) 1 n k := by
  have hY (k : Fin 1024) := blkY m c t r k n hn
  have hX (k : Fin 1024) := blkX m c t r k n hn
  have hN := blkN m c t
  have hh (k : Fin 1024) := dhBlk_apply m c t r k n hn
  unfold dxBlk
  generalize iblk m c 0 t = Y at hY ⊢
  generalize iblk m c 1 t = X at hX ⊢
  generalize nwRow m c t = N at hN ⊢
  generalize dgBlk m c t = B at hh ⊢
  generalize k0_pay4 (iblk m c 5 t) = W at hh ⊢
  pointwise [k0_pay8, k0_pay7, k0_pay6, hY, hX, hN, hh, dx, normBwd, rowInv, rinv]

/-- What a point writes of the mixers' gradient. -/
theorem dmBlk_apply (c : Dev nD) (t : Fin cfg0.N) (r : Fin 256) (k : Fin 1024) (n : Fin 8192) (hn : n.val = t.val * 256 + r.val) :
    dmBlk m c t (ix2 r k) = dmix (argY m c) (argX m c) (argN m c) (argD m c) (argG m c) (argO m c) 1 n k := by
  have hx (k : Fin 1024) := dxBlk_apply m c t r k n hn
  have hO := blkO m c t
  unfold dmBlk
  unfold dxBlk at hx
  generalize iblk m c 6 t = O at hO ⊢
  pointwise [k0_pay1, k0_pay10, k0_pay11]
  generalize k0_pay8 (iblk m c 0 t) (dgBlk m c t) (k0_pay4 (iblk m c 5 t)) (nwRow m c t) (iblk m c 1 t) = B at hx ⊢
  simp only [hx, hO, dmix]

/-- What a point adds to the norm weights' gradient. -/
theorem nwStep_apply (c : Dev nD) (t : Fin cfg0.N) (acc : FVec Ideal S1x1024 .f32) (k : Fin 1024) :
    nwStep m c t acc (ix2 0 k) = acc (ix2 0 k) + ∑ r : Fin 256,
      dh (argY m c) (argX m c) (argN m c) (argD m c) (argG m c) 1 ⟨t.val * 256 + r.val, by have := lt32 t; omega⟩ k
        * (argX m c (ix2 ⟨t.val * 256 + r.val, by have := lt32 t; omega⟩ k)
          * rowInv fun k => argX m c (ix2 ⟨t.val * 256 + r.val, by have := lt32 t; omega⟩ k)) := by
  have hX (r : Fin 256) (k : Fin 1024) := blkX m c t r k ⟨t.val * 256 + r.val, by have := lt32 t; omega⟩ rfl
  have hh (r : Fin 256) (k : Fin 1024) := dhBlk_apply m c t r k ⟨t.val * 256 + r.val, by have := lt32 t; omega⟩ rfl
  unfold nwStep
  generalize iblk m c 1 t = X at hX ⊢
  generalize dgBlk m c t = B at hh ⊢
  generalize k0_pay4 (iblk m c 5 t) = W at hh ⊢
  pointwise [k0_pay9, k0_pay7, k0_pay6, hX, hh, rowInv, rinv]

/-- The four result arrays. -/
theorem final_dgu (c : Dev nD) : (dats m 0 c).arrAt 7 cfg0.N
    = fun i : S8192x5632.Idx => dgu (argY m c) (argX m c) (argN m c) (argD m c) (argG m c) 1 (i 0) (i 1) := by
  refine (dats m 0 c).arrAt_eq_of_covers 7 _ (by decide +kernel) fun t hf y => ?_
  blk_simp
  rw [after0_7, (outs_tiles m c t).1]
  obtain ⟨r, k, rfl⟩ : ∃ (r : Fin 256) (k : Fin 5632), y = ix2 r k := ⟨y 0, y 1, eq_ix2 y⟩
  have ht := lt32 t
  rw [dgBlk_apply m c t r k ⟨t.val * 256 + r.val, by omega⟩ rfl]
  refine congrArg₂ (dgu _ _ _ _ _ _) (Fin.ext ?_) (Fin.ext ?_) <;> blk_simp [idx t]

theorem final_dx (c : Dev nD) : (dats m 0 c).arrAt 8 cfg0.N
    = fun i : S8192x1024.Idx => dx (argY m c) (argX m c) (argN m c) (argD m c) (argG m c) 1 (i 0) (i 1) := by
  refine (dats m 0 c).arrAt_eq_of_covers 8 _ (by decide +kernel) fun t hf y => ?_
  blk_simp
  rw [after0_8, (outs_tiles m c t).2.1]
  obtain ⟨r, k, rfl⟩ : ∃ (r : Fin 256) (k : Fin 1024), y = ix2 r k := ⟨y 0, y 1, eq_ix2 y⟩
  have ht := lt32 t
  rw [dxBlk_apply m c t r k ⟨t.val * 256 + r.val, by omega⟩ rfl]
  refine congrArg₂ (dx _ _ _ _ _ _) (Fin.ext ?_) (Fin.ext ?_) <;> blk_simp [idx t]

theorem final_dmix (c : Dev nD) : (dats m 0 c).arrAt 9 cfg0.N
    = fun i : S8192x1024.Idx => dmix (argY m c) (argX m c) (argN m c) (argD m c) (argG m c) (argO m c) 1 (i 0) (i 1) := by
  refine (dats m 0 c).arrAt_eq_of_covers 9 _ (by decide +kernel) fun t hf y => ?_
  blk_simp
  rw [after0_9, (outs_tiles m c t).2.2]
  obtain ⟨r, k, rfl⟩ : ∃ (r : Fin 256) (k : Fin 1024), y = ix2 r k := ⟨y 0, y 1, eq_ix2 y⟩
  have ht := lt32 t
  rw [dmBlk_apply m c t r k ⟨t.val * 256 + r.val, by omega⟩ rfl]
  refine congrArg₂ (dmix _ _ _ _ _ _ _) (Fin.ext ?_) (Fin.ext ?_) <;> blk_simp [idx t]

theorem final_dnw (c : Dev nD) : (dats m 0 c).arrAt 10 cfg0.N
    = fun i : S1x1024.Idx => dnw (argY m c) (argX m c) (argN m c) (argD m c) (argG m c) 1 (i 1) := by
  refine (dats m 0 c).arrAt_eq_of_after_last 10 tLast (by decide +kernel) _ fun y => ?_
  blk_simp
  rw [after0_10]
  obtain ⟨k, rfl⟩ : ∃ (k : Fin 1024), y = ix2 0 k := ⟨y 1, (eq_ix2 y).trans (congrArg (ix2 · (y 1)) (Subsingleton.elim _ _))⟩
  rw [Pipeline.eq_sum_fin_of_reset_step_apply_last (fun n h => (outsAt0 m c n h).2.2.2) 32 (fun _ => (0 : EReal))
    (fun t y => ∑ r : Fin 256,
      dh (argY m c) (argX m c) (argN m c) (argD m c) (argG m c) 1 ⟨t.val * 256 + r.val, by have := lt32 t; omega⟩ (y 1)
        * (argX m c (ix2 ⟨t.val * 256 + r.val, by have := lt32 t; omega⟩ (y 1))
          * rowInv fun k => argX m c (ix2 ⟨t.val * 256 + r.val, by have := lt32 t; omega⟩ k)))
    (fun t h y => by
      obtain ⟨k, rfl⟩ : ∃ (k : Fin 1024), y = ix2 0 k := ⟨y 1, (eq_ix2 y).trans (congrArg (ix2 · (y 1)) (Subsingleton.elim _ _))⟩
      rw [outs_nw_A m c t h]
      refine (nwStep_apply ..).trans ?_
      exact congrArg (· + _) (by pointwise [k0_pay2]))
    (fun t h y => by
      obtain ⟨k, rfl⟩ : ∃ (k : Fin 1024), y = ix2 0 k := ⟨y 1, (eq_ix2 y).trans (congrArg (ix2 · (y 1)) (Subsingleton.elim _ _))⟩
      rw [outs_nw_B m c t h (Nat.lt_of_le_of_lt (Nat.sub_le _ _) t.isLt)]
      exact nwStep_apply ..)
    (le_of_eq N_0) tLast rfl (ix2 0 k), zero_add]
  unfold dnw
  exact Fin.sum_mul_add_congr fun t r hl => rfl

end Cert.MlpBwdIdeal.Mlp

end
-- ==== Proof.MlpBwdSpec.lean ====
/-
  The backward pass through the second half of a layer: the reference of the second layer computes the four
  results.
-/
module

public import proofs.«01_k».proof.Proof.Gen.MlpBwdRefIdeal.Read
public import proofs.«01_k».proof.Proof.MlpRows
public import Idealize.ShloMosaic.Lib.Pointwise
public import Idealize.ShloMosaic.Lib.Tactic

@[expose] public section

set_option maxRecDepth 16384

noncomputable section

namespace Cert.MlpBwdRefIdeal.Mlp

open Cert.MlpBwdRefIdeal Cert.MlpBwdRefIdeal.Read Idealize.ShloMosaic Idealize.ShloMosaic.TcCoe Idealize.SL.Sem Cert.Step Cert.Mlp

variable (y x : XA) (nw : XN) (wd : XD) (wg : XG) (wo : XO)

theorem inv_apply (n : Fin 8192) (j : Fin 1) : val_main_v9 (F := Ideal) x (ix2 n j) = rowInv fun k => x (ix2 n k) := by
  pointwise [val_main_v9, val_main_v8, val_main_v7, val_main_v6, val_main_v5, val_main_v4, val_main_v3, val_main_v2, val_main_cst,
    val_main_cst_0, val_main_cst_1, rowInv, rinv]

theorem gu_apply (n : Fin 8192) (j : Fin 5632) : val_main_v23 (F := Ideal) x nw wg (ix2 n j) = guv x nw wg 1 n j := by
  pointwise [val_main_v23, val_main_v22, val_main_v21, val_main_v20, val_main_v19, val_main_v18, val_main_v17, val_main_v16,
    val_main_v15, val_main_v14, val_main_v13, val_main_v1, val_main_v0, inv_apply, guv, normed, wgu]

variable (hd : ∀ (n : Fin 8192) (j : Fin 2816), IsReal (dact y wd 1 n j * guv x nw wg 1 n ⟨2816 + j.val, up_lt j⟩))

include hd in
theorem dgu_apply (n : Fin 8192) (j : Fin 5632) : val_main_v36 (F := Ideal) y x nw wd wg (ix2 n j) = dgu y x nw wd wg 1 n j := by
  have h23 := gu_apply x nw wg
  pointwise [val_main_v36, val_main_v35, val_main_v34, val_main_v33, val_main_v32, val_main_v30, val_main_v29, val_main_v28,
    val_main_call1_v0, val_main_call1_v1, val_main_call1_v2, val_main_v26_0, val_main_v26_1, val_main_v26_2, val_main_call0_v7,
    val_main_call0_v6, val_main_call0_v4, val_main_call0_v3, val_main_call0_v2, val_main_call0_v1, val_main_call0_v0,
    val_main_call0_cst, val_main_call0_cst_0, val_main_call0_cst_1, val_main_v25, val_main_v24, h23, ↓reduceDIte]
  unfold dgu gatedBwd
  split_ifs with h
  · obtain ⟨d, e⟩ := hd n ⟨j.val, h⟩
    have k := silu_bwd d (guv x nw wg 1 n j)
    rw [← e] at k
    rw [← k, sig_eq]
    rfl
  · rw [sig_eq, mul_comm]
    rfl
  · exact absurd rfl (by assumption)

include hd in
theorem dgu_apply' (n : Fin 8192) (j : Fin 5632) : val_main_v65 (F := Ideal) y x nw wd wg (ix2 n j) = dgu y x nw wd wg 1 n j := by
  pointwise [val_main_v65, dgu_apply y x nw wd wg hd]

include hd in
theorem dh_apply (n : Fin 8192) (k : Fin 1024) : val_main_v37 (F := Ideal) y x nw wd wg (ix2 n k) = dh y x nw wd wg 1 n k := by
  have h := dgu_apply y x nw wd wg hd
  pointwise [val_main_v37, val_main_v22, val_main_v21, val_main_v20, val_main_v19, val_main_v18, h, dh, wgu]

include hd in
theorem dx_apply (n : Fin 8192) (k : Fin 1024) : val_main_v58 (F := Ideal) y x nw wd wg (ix2 n k) = dx y x nw wd wg 1 n k := by
  have h := dh_apply y x nw wd wg hd
  have hi := inv_apply x
  pointwise [val_main_v58, val_main_v57, val_main_v56, val_main_v55, val_main_v54, val_main_v53, val_main_v52, val_main_v51,
    val_main_v50, val_main_v49, val_main_v48, val_main_v47, val_main_v46, val_main_v45, val_main_v44, val_main_v42, val_main_v41,
    val_main_v15, val_main_v1, val_main_v0, val_main_v12, val_main_v11, val_main_v10, val_main_v8, val_main_v7, val_main_v6, val_main_v5,
    val_main_v4, val_main_v3, val_main_v2, val_main_cst, val_main_cst_0, val_main_cst_1, val_main_cst_2, val_main_cst_3, val_main_cst_4,
    val_main_cst_5, val_main_cst_6, val_main_cst_7, hi, h]
  simp only [Finset.univ_unique, Finset.sum_singleton]
  rw [mul_comm _ (x (ix2 n k))]
  exact congrArg (y (ix2 n k) + ·) (normBwd_eq (fun k => x (ix2 n k)) (fun k => dh y x nw wd wg 1 n k * nw (ix2 1 k)) k)

include hd in
theorem dmix_apply (n : Fin 8192) (k : Fin 1024) : val_main_v64 (F := Ideal) y x nw wd wg wo (ix2 n k) = dmix y x nw wd wg wo 1 n k := by
  have h := dx_apply y x nw wd wg hd
  pointwise [val_main_v64, val_main_v62, val_main_v61, val_main_v60, h, dmix]

include hd in
theorem dnw_apply (k : Fin 1024) : val_main_v66 (F := Ideal) y x nw wd wg (ix2 0 k) = dnw y x nw wd wg 1 k := by
  have h := dh_apply y x nw wd wg hd
  have hi := inv_apply x
  pointwise [val_main_v66, val_main_v43, val_main_v40, val_main_v39, val_main_v38, val_main_v14, val_main_v13, val_main_cst_3,
    val_main_cst_4, hi, h, dnw, mul_comm]
  simp only [Finset.univ_unique, Finset.sum_singleton]

end Cert.MlpBwdRefIdeal.Mlp

end
-- ==== Proof.MlpBwd0Blocks.lean ====
/-
  The backward pass through the second half of the first layer, one grid point of the kernel: what each of the four outputs'
  staging buffers holds after the point, as a function of the point's input blocks.
-/
module

public import proofs.«01_k».proof.Proof.Gen.MlpBwd0Ideal.Value
public import Idealize.ShloMosaic.Lib.Pointwise
public import Idealize.ShloMosaic.Lib.Tactic

@[expose] public section

set_option maxRecDepth 16384

noncomputable section

namespace Cert.MlpBwd0Ideal.Mlp

open Cert.MlpBwd0Ideal Cert.MlpBwd0Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The norm's weights of the layer, as a point reads them. -/
def nwRow (c : Dev nD) (t : Fin cfg0.N) : FVec F S1x1024 .f32 :=
  View.ld (iblk m c 3 t) (Rect.unit ![0, 0] ![1, 1024] inb_S2x1024_S1x1024_0_0)

/-- The gate's and up's gradient at point `t`. -/
def dgBlk (c : Dev nD) (t : Fin cfg0.N) : FVec F S256x5632 .bf16 := k0_pay3 (iblk m c 0 t) (iblk m c 4 t) (iblk m c 2 t)

/-- The gradient with respect to the half's input at point `t`. -/
def dxBlk (c : Dev nD) (t : Fin cfg0.N) : FVec F S256x1024 .f32 :=
  k0_pay8 (iblk m c 0 t) (dgBlk m c t) (k0_pay4 (iblk m c 5 t)) (nwRow m c t) (iblk m c 1 t)

/-- The mixers' gradient at point `t`. -/
def dmBlk (c : Dev nD) (t : Fin cfg0.N) : FVec F S256x1024 .f32 :=
  k0_pay1 (k0_pay10 (iblk m c 0 t) (dgBlk m c t) (k0_pay4 (iblk m c 5 t)) (nwRow m c t) (iblk m c 1 t)) (k0_pay11 (iblk m c 6 t))
    (constant S256x1024 .f32 0x00000000#32)

/-- The norm weights' accumulator after point `t`, when it holds `acc` before. -/
def nwStep (c : Dev nD) (t : Fin cfg0.N) (acc : FVec F S1x1024 .f32) : FVec F S1x1024 .f32 :=
  k0_pay9 (dgBlk m c t) (k0_pay4 (iblk m c 5 t)) (iblk m c 1 t) acc

/-- The three row-wise outputs' staging buffers after a point. -/
theorem outs_tiles (c : Dev nD) (t : Fin cfg0.N) :
    (outsAt0 m c t.val t.isLt).1 = dgBlk m c t ∧ (outsAt0 m c t.val t.isLt).2.1 = dxBlk m c t
      ∧ (outsAt0 m c t.val t.isLt).2.2.1 = dmBlk m c t := by
  unfold dmBlk dxBlk dgBlk nwRow
  by_cases h0 : t.val % 32 = 0
  · rw [outsAt0_A m c t h0]
    dsimp only
    unfold out0_A_7 out0_A_8 out0_A_9
    refine ⟨(View.read_writes_eq_canon _ _ _ fun y => ?_).trans ?_, (View.read_writes_eq_canon _ _ _ fun y => ?_).trans ?_,
      (View.read_writes_eq_canon _ _ _ fun y => ?_).trans ?_⟩
    · exact cover0_A_7 ..
    rotate_left
    · exact cover0_A_8 ..
    rotate_left
    · exact cover0_A_9 ..
    all_goals
      unfold kernelRun0_A
      dsimp only
      sl_unfold_words
      rw [View.canon_unit_zero hz2]
      simp only [View.readAt_eq_ld, Memref.IsWhole.read_unread, View.ld_unit_zero (S := S256x1024) hz2,
        View.ld_unit_zero (S := S256x5632) hz2, View.ld_unit_zero (S := S1x2816x1024) hz3, View.ld_unit_zero (S := S1x1024x1024) hz3,
        View.ld_unit_zero (S := S8x1x704x1024) hz4]
      try rfl
  · rw [outsAt0_B m c t h0]
    dsimp only
    unfold out0_B_7 out0_B_8 out0_B_9
    refine ⟨(View.read_writes_eq_canon _ _ _ fun y => ?_).trans ?_, (View.read_writes_eq_canon _ _ _ fun y => ?_).trans ?_,
      (View.read_writes_eq_canon _ _ _ fun y => ?_).trans ?_⟩
    · exact cover0_B_7 ..
    rotate_left
    · exact cover0_B_8 ..
    rotate_left
    · exact cover0_B_9 ..
    all_goals
      unfold kernelRun0_B
      dsimp only
      sl_unfold_words
      rw [View.canon_unit_zero hz2]
      simp only [View.readAt_eq_ld, Memref.IsWhole.read_unread, View.ld_unit_zero (S := S256x1024) hz2,
        View.ld_unit_zero (S := S256x5632) hz2, View.ld_unit_zero (S := S1x2816x1024) hz3, View.ld_unit_zero (S := S1x1024x1024) hz3,
        View.ld_unit_zero (S := S8x1x704x1024) hz4]
      try rfl

/-- The accumulator after the point that resets it. -/
theorem outs_nw_A (c : Dev nD) (t : Fin cfg0.N) (h0 : t.val % 32 = 0) :
    (outsAt0 m c t.val t.isLt).2.2.2 = nwStep m c t k0_pay2 := by
  unfold nwStep dgBlk
  rw [outsAt0_A m c t h0]
  dsimp only
  unfold out0_A_10
  refine (View.read_writes_eq_canon _ _ _ fun y => ?_).trans ?_
  · exact cover0_A_10 ..
  unfold kernelRun0_A
  dsimp only
  sl_unfold_words
  rw [View.canon_cons_unit_zero (S := S1x1024) hz2, View.readCov_unit_zero (S := S1x1024) _ hz2]
  simp only [View.readAt_eq_ld, Memref.IsWhole.read_unread, View.ld_unit_zero (S := S256x1024) hz2,
    View.ld_unit_zero (S := S256x5632) hz2, View.ld_unit_zero (S := S1x2816x1024) hz3, View.ld_unit_zero (S := S8x1x704x1024) hz4]

/-- The accumulator after any other point, from what the point before left. -/
theorem outs_nw_B (c : Dev nD) (t : Fin cfg0.N) (h0 : ¬t.val % 32 = 0) (hlt : t.val - 1 < cfg0.N) :
    (outsAt0 m c t.val t.isLt).2.2.2 = nwStep m c t (outsAt0 m c (t.val - 1) hlt).2.2.2 := by
  unfold nwStep dgBlk
  rw [outsAt0_B m c t h0]
  dsimp only
  unfold out0_B_10
  refine (View.read_writes_eq_canon _ _ _ fun y => ?_).trans ?_
  · exact cover0_B_10 ..
  unfold kernelRun0_B
  dsimp only
  sl_unfold_words
  rw [View.canon_unit_zero hz2]
  simp only [View.readAt_eq_ld, Memref.IsWhole.read_unread, View.ld_unit_zero (S := S256x1024) hz2,
    View.ld_unit_zero (S := S256x5632) hz2, View.ld_unit_zero (S := S1x2816x1024) hz3, View.ld_unit_zero (S := S8x1x704x1024) hz4,
    View.ld_unit_zero (S := S1x1024) hz2]

end Cert.MlpBwd0Ideal.Mlp

end
-- ==== Proof.MlpBwd0Kernel.lean ====
/-
  The backward pass through the second half of the first layer: the kernel's four result arrays, element by element.
-/
module

public import proofs.«01_k».proof.Proof.MlpBwd0Blocks
public import proofs.«01_k».proof.Proof.MlpRows
public import Idealize.ShloMosaic.Lib.Pipeline.ValueKit
public import Idealize.ShloMosaic.Lib.StableHlo.RunRead

@[expose] public section

set_option maxRecDepth 16384

noncomputable section

namespace Cert.MlpBwd0Ideal.Mlp

open Cert.MlpBwd0Ideal Cert.MlpBwd0Ideal.Gen Idealize.ShloMosaic Idealize.ShloMosaic.TcCoe Idealize.SL.Sem Cert.Step Cert.Mlp
open Idealize.ShloMosaic.Pipeline (Dat)

variable (m : (ℓ : Loc nD τ sig) → Buf (Elt Ideal) ℓ)

/-- The arguments as the specification takes them. -/
abbrev argY (c : Dev nD) : XA := m ((c : Thread nD τ).loc main_arg0)
abbrev argX (c : Dev nD) : XA := m ((c : Thread nD τ).loc main_arg1)
abbrev argN (c : Dev nD) : XN := m ((c : Thread nD τ).loc main_arg2)
abbrev argD (c : Dev nD) : XD := m ((c : Thread nD τ).loc main_arg3)
abbrev argG (c : Dev nD) : XG := m ((c : Thread nD τ).loc main_arg4)
abbrev argO (c : Dev nD) : XO := m ((c : Thread nD τ).loc main_arg5)

/-- The gate and up that the host hands the kernel. -/
theorem gu_apply (c : Dev nD) (n : Fin 8192) (j : Fin 5632) :
    (V m c main_v21 : (⟨S8192x5632, .bf16⟩ : BufTy).Contents (Elt Ideal)) (ix2 n j) = guv (argX m c) (argN m c) (argG m c) 0 n j := by
  unfold V
  after_reads_simp
  pointwise [guv, normed, rowInv, rinv, wgu]

/-- The last point. -/
abbrev tLast : Fin cfg0.N := ⟨31, by decide⟩

/-- Which block each window is at. -/
theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![0, 0, 0, 0] ∧ win0_6.index t = ![0, 0, 0]
    ∧ win0_7.index t = ![t.val, 0] ∧ win0_8.index t = ![t.val, 0] ∧ win0_9.index t = ![t.val, 0] ∧ win0_10.index t = ![0, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![0, 0, 0] ∧ win0_5.index t = ![0, 0, 0, 0] ∧ win0_6.index t = ![0, 0, 0]
    ∧ win0_7.index t = ![t.val, 0] ∧ win0_8.index t = ![t.val, 0] ∧ win0_9.index t = ![t.val, 0] ∧ win0_10.index t = ![0, 0])

theorem lt32 (t : Fin cfg0.N) : t.val < 32 := lt_of_lt_of_eq t.isLt N_0

/-- A point's rows and weights, read off the arguments. -/
theorem blkY (c : Dev nD) (t : Fin cfg0.N) (r : Fin 256) (k : Fin 1024) (n : Fin 8192) (hn : n.val = t.val * 256 + r.val) :
    iblk m c 0 t (ix2 r k) = argY m c (ix2 n k) := by
  blk_ext [iblk, V_main_arg0, idx t]
theorem blkX (c : Dev nD) (t : Fin cfg0.N) (r : Fin 256) (k : Fin 1024) (n : Fin 8192) (hn : n.val = t.val * 256 + r.val) :
    iblk m c 1 t (ix2 r k) = argX m c (ix2 n k) := by
  blk_ext [iblk, V_main_arg1, idx t]
theorem blkG (c : Dev nD) (t : Fin cfg0.N) (r : Fin 256) (j : Fin 5632) (n : Fin 8192) (hn : n.val = t.val * 256 + r.val) :
    iblk m c 2 t (ix2 r j) = guv (argX m c) (argN m c) (argG m c) 0 n j := by
  rw [← gu_apply]
  blk_ext [iblk, idx t]
theorem blkN (c : Dev nD) (t : Fin cfg0.N) (k : Fin 1024) : nwRow m c t (ix2 0 k) = argN m c (ix2 0 k) := by
  have e : nwRow m c t (ix2 0 k) = iblk m c 3 t (ix2 0 k) := by
    unfold nwRow
    generalize iblk m c 3 t = b
    pointwise []
  rw [e]
  blk_ext [iblk, V_main_arg2, idx t]
theorem blkD (c : Dev nD) (t : Fin cfg0.N) (j : Fin 2816) (k : Fin 1024) : iblk m c 4 t (ix3 0 j k) = argD m c (ix3 0 j k) := by
  blk_ext [iblk, V_main_arg3, idx t]
theorem blkW (c : Dev nD) (t : Fin cfg0.N) (a : Fin 8) (b : Fin 704) (k : Fin 1024) :
    iblk m c 5 t (ix4 a 0 b k) = argG m c (ix4 a 0 b k) := by
  blk_ext [iblk, V_main_arg4, idx t]
theorem blkO (c : Dev nD) (t : Fin cfg0.N) (j k : Fin 1024) : iblk m c 6 t (ix3 0 j k) = argO m c (ix3 0 j k) := by
  blk_ext [iblk, V_main_arg5, idx t]

/-- What a point writes of the gates' and ups' gradient. -/
theorem dgBlk_apply (c : Dev nD) (t : Fin cfg0.N) (r : Fin 256) (j : Fin 5632) (n : Fin 8192) (hn : n.val = t.val * 256 + r.val) :
    dgBlk m c t (ix2 r j) = dgu (argY m c) (argX m c) (argN m c) (argD m c) (argG m c) 0 n j := by
  have hY (k : Fin 1024) := blkY m c t r k n hn
  have hG (j : Fin 5632) := blkG m c t r j n hn
  have hD := blkD m c t
  unfold dgBlk
  generalize iblk m c 0 t = Y at hY ⊢
  generalize iblk m c 2 t = G at hG ⊢
  generalize iblk m c 4 t = D at hD ⊢
  pointwise [k0_pay3, hY, hG, hD, dgu, gatedBwd, dact, Cert.Step.sig]

/-- The gradient at a point's normed rows. -/
theorem dhBlk_apply (c : Dev nD) (t : Fin cfg0.N) (r : Fin 256) (k : Fin 1024) (n : Fin 8192) (hn : n.val = t.val * 256 + r.val) :
    k0_pay5 (dgBlk m c t) (k0_pay4 (iblk m c 5 t)) (ix2 r k) = dh (argY m c) (argX m c) (argN m c) (argD m c) (argG m c) 0 n k := by
  have hg (j : Fin 5632) := dgBlk_apply m c t r j n hn
  have hW := blkW m c t
  generalize dgBlk m c t = B at hg ⊢
  generalize iblk m c 5 t = W at hW ⊢
  pointwise [k0_pay5, k0_pay4, hg, hW, dh, wgu]

/-- What a point writes of the gradient at the half's input. -/
theorem dxBlk_apply (c : Dev nD) (t : Fin cfg0.N) (r : Fin 256) (k : Fin 1024) (n : Fin 8192) (hn : n.val = t.val * 256 + r.val) :
    dxBlk m c t (ix2 r k) = dx (argY m c) (argX m c) (argN m c) (argD m c) (argG m c) 0 n k := by
  have hY (k : Fin 1024) := blkY m c t r k n hn
  have hX (k : Fin 1024) := blkX m c t r k n hn
  have hN := blkN m c t
  have hh (k : Fin 1024) := dhBlk_apply m c t r k n hn
  unfold dxBlk
  generalize iblk m c 0 t = Y at hY ⊢
  generalize iblk m c 1 t = X at hX ⊢
  generalize nwRow m c t = N at hN ⊢
  generalize dgBlk m c t = B at hh ⊢
  generalize k0_pay4 (iblk m c 5 t) = W at hh ⊢
  pointwise [k0_pay8, k0_pay7, k0_pay6, hY, hX, hN, hh, dx, normBwd, rowInv, rinv]

/-- What a point writes of the mixers' gradient. -/
theorem dmBlk_apply (c : Dev nD) (t : Fin cfg0.N) (r : Fin 256) (k : Fin 1024) (n : Fin 8192) (hn : n.val = t.val * 256 + r.val) :
    dmBlk m c t (ix2 r k) = dmix (argY m c) (argX m c) (argN m c) (argD m c) (argG m c) (argO m c) 0 n k := by
  have hx (k : Fin 1024) := dxBlk_apply m c t r k n hn
  have hO := blkO m c t
  unfold dmBlk
  unfold dxBlk at hx
  generalize iblk m c 6 t = O at hO ⊢
  pointwise [k0_pay1, k0_pay10, k0_pay11]
  generalize k0_pay8 (iblk m c 0 t) (dgBlk m c t) (k0_pay4 (iblk m c 5 t)) (nwRow m c t) (iblk m c 1 t) = B at hx ⊢
  simp only [hx, hO, dmix]

/-- What a point adds to the norm weights' gradient. -/
theorem nwStep_apply (c : Dev nD) (t : Fin cfg0.N) (acc : FVec Ideal S1x1024 .f32) (k : Fin 1024) :
    nwStep m c t acc (ix2 0 k) = acc (ix2 0 k) + ∑ r : Fin 256,
      dh (argY m c) (argX m c) (argN m c) (argD m c) (argG m c) 0 ⟨t.val * 256 + r.val, by have := lt32 t; omega⟩ k
        * (argX m c (ix2 ⟨t.val * 256 + r.val, by have := lt32 t; omega⟩ k)
          * rowInv fun k => argX m c (ix2 ⟨t.val * 256 + r.val, by have := lt32 t; omega⟩ k)) := by
  have hX (r : Fin 256) (k : Fin 1024) := blkX m c t r k ⟨t.val * 256 + r.val, by have := lt32 t; omega⟩ rfl
  have hh (r : Fin 256) (k : Fin 1024) := dhBlk_apply m c t r k ⟨t.val * 256 + r.val, by have := lt32 t; omega⟩ rfl
  unfold nwStep
  generalize iblk m c 1 t = X at hX ⊢
  generalize dgBlk m c t = B at hh ⊢
  generalize k0_pay4 (iblk m c 5 t) = W at hh ⊢
  pointwise [k0_pay9, k0_pay7, k0_pay6, hX, hh, rowInv, rinv]

/-- The four result arrays. -/
theorem final_dgu (c : Dev nD) : (dats m 0 c).arrAt 7 cfg0.N
    = fun i : S8192x5632.Idx => dgu (argY m c) (argX m c) (argN m c) (argD m c) (argG m c) 0 (i 0) (i 1) := by
  refine (dats m 0 c).arrAt_eq_of_covers 7 _ (by decide +kernel) fun t hf y => ?_
  blk_simp
  rw [after0_7, (outs_tiles m c t).1]
  obtain ⟨r, k, rfl⟩ : ∃ (r : Fin 256) (k : Fin 5632), y = ix2 r k := ⟨y 0, y 1, eq_ix2 y⟩
  have ht := lt32 t
  rw [dgBlk_apply m c t r k ⟨t.val * 256 + r.val, by omega⟩ rfl]
  refine congrArg₂ (dgu _ _ _ _ _ _) (Fin.ext ?_) (Fin.ext ?_) <;> blk_simp [idx t]

theorem final_dx (c : Dev nD) : (dats m 0 c).arrAt 8 cfg0.N
    = fun i : S8192x1024.Idx => dx (argY m c) (argX m c) (argN m c) (argD m c) (argG m c) 0 (i 0) (i 1) := by
  refine (dats m 0 c).arrAt_eq_of_covers 8 _ (by decide +kernel) fun t hf y => ?_
  blk_simp
  rw [after0_8, (outs_tiles m c t).2.1]
  obtain ⟨r, k, rfl⟩ : ∃ (r : Fin 256) (k : Fin 1024), y = ix2 r k := ⟨y 0, y 1, eq_ix2 y⟩
  have ht := lt32 t
  rw [dxBlk_apply m c t r k ⟨t.val * 256 + r.val, by omega⟩ rfl]
  refine congrArg₂ (dx _ _ _ _ _ _) (Fin.ext ?_) (Fin.ext ?_) <;> blk_simp [idx t]

theorem final_dmix (c : Dev nD) : (dats m 0 c).arrAt 9 cfg0.N
    = fun i : S8192x1024.Idx => dmix (argY m c) (argX m c) (argN m c) (argD m c) (argG m c) (argO m c) 0 (i 0) (i 1) := by
  refine (dats m 0 c).arrAt_eq_of_covers 9 _ (by decide +kernel) fun t hf y => ?_
  blk_simp
  rw [after0_9, (outs_tiles m c t).2.2]
  obtain ⟨r, k, rfl⟩ : ∃ (r : Fin 256) (k : Fin 1024), y = ix2 r k := ⟨y 0, y 1, eq_ix2 y⟩
  have ht := lt32 t
  rw [dmBlk_apply m c t r k ⟨t.val * 256 + r.val, by omega⟩ rfl]
  refine congrArg₂ (dmix _ _ _ _ _ _ _) (Fin.ext ?_) (Fin.ext ?_) <;> blk_simp [idx t]

theorem final_dnw (c : Dev nD) : (dats m 0 c).arrAt 10 cfg0.N
    = fun i : S1x1024.Idx => dnw (argY m c) (argX m c) (argN m c) (argD m c) (argG m c) 0 (i 1) := by
  refine (dats m 0 c).arrAt_eq_of_after_last 10 tLast (by decide +kernel) _ fun y => ?_
  blk_simp
  rw [after0_10]
  obtain ⟨k, rfl⟩ : ∃ (k : Fin 1024), y = ix2 0 k := ⟨y 1, (eq_ix2 y).trans (congrArg (ix2 · (y 1)) (Subsingleton.elim _ _))⟩
  rw [Pipeline.eq_sum_fin_of_reset_step_apply_last (fun n h => (outsAt0 m c n h).2.2.2) 32 (fun _ => (0 : EReal))
    (fun t y => ∑ r : Fin 256,
      dh (argY m c) (argX m c) (argN m c) (argD m c) (argG m c) 0 ⟨t.val * 256 + r.val, by have := lt32 t; omega⟩ (y 1)
        * (argX m c (ix2 ⟨t.val * 256 + r.val, by have := lt32 t; omega⟩ (y 1))
          * rowInv fun k => argX m c (ix2 ⟨t.val * 256 + r.val, by have := lt32 t; omega⟩ k)))
    (fun t h y => by
      obtain ⟨k, rfl⟩ : ∃ (k : Fin 1024), y = ix2 0 k := ⟨y 1, (eq_ix2 y).trans (congrArg (ix2 · (y 1)) (Subsingleton.elim _ _))⟩
      rw [outs_nw_A m c t h]
      refine (nwStep_apply ..).trans ?_
      exact congrArg (· + _) (by pointwise [k0_pay2]))
    (fun t h y => by
      obtain ⟨k, rfl⟩ : ∃ (k : Fin 1024), y = ix2 0 k := ⟨y 1, (eq_ix2 y).trans (congrArg (ix2 · (y 1)) (Subsingleton.elim _ _))⟩
      rw [outs_nw_B m c t h (Nat.lt_of_le_of_lt (Nat.sub_le _ _) t.isLt)]
      exact nwStep_apply ..)
    (le_of_eq N_0) tLast rfl (ix2 0 k), zero_add]
  unfold dnw
  exact Fin.sum_mul_add_congr fun t r hl => rfl

end Cert.MlpBwd0Ideal.Mlp

end
-- ==== Proof.MlpBwd0Spec.lean ====
/-
  The backward pass through the second half of a layer: the reference of the first layer computes the four
  results.
-/
module

public import proofs.«01_k».proof.Proof.Gen.MlpBwd0RefIdeal.Read
public import proofs.«01_k».proof.Proof.MlpRows
public import Idealize.ShloMosaic.Lib.Pointwise
public import Idealize.ShloMosaic.Lib.Tactic

@[expose] public section

set_option maxRecDepth 16384

noncomputable section

namespace Cert.MlpBwd0RefIdeal.Mlp

open Cert.MlpBwd0RefIdeal Cert.MlpBwd0RefIdeal.Read Idealize.ShloMosaic Idealize.ShloMosaic.TcCoe Idealize.SL.Sem Cert.Step Cert.Mlp

variable (y x : XA) (nw : XN) (wd : XD) (wg : XG) (wo : XO)

theorem inv_apply (n : Fin 8192) (j : Fin 1) : val_main_v9 (F := Ideal) x (ix2 n j) = rowInv fun k => x (ix2 n k) := by
  pointwise [val_main_v9, val_main_v8, val_main_v7, val_main_v6, val_main_v5, val_main_v4, val_main_v3, val_main_v2, val_main_cst,
    val_main_cst_0, val_main_cst_1, rowInv, rinv]

theorem gu_apply (n : Fin 8192) (j : Fin 5632) : val_main_v23 (F := Ideal) x nw wg (ix2 n j) = guv x nw wg 0 n j := by
  pointwise [val_main_v23, val_main_v22, val_main_v21, val_main_v20, val_main_v19, val_main_v18, val_main_v17, val_main_v16,
    val_main_v15, val_main_v14, val_main_v13, val_main_v1, val_main_v0, inv_apply, guv, normed, wgu]

variable (hd : ∀ (n : Fin 8192) (j : Fin 2816), IsReal (dact y wd 0 n j * guv x nw wg 0 n ⟨2816 + j.val, up_lt j⟩))

include hd in
theorem dgu_apply (n : Fin 8192) (j : Fin 5632) : val_main_v36 (F := Ideal) y x nw wd wg (ix2 n j) = dgu y x nw wd wg 0 n j := by
  have h23 := gu_apply x nw wg
  pointwise [val_main_v36, val_main_v35, val_main_v34, val_main_v33, val_main_v32, val_main_v30, val_main_v29, val_main_v28,
    val_main_call1_v0, val_main_call1_v1, val_main_call1_v2, val_main_v26_0, val_main_v26_1, val_main_v26_2, val_main_call0_v7,
    val_main_call0_v6, val_main_call0_v4, val_main_call0_v3, val_main_call0_v2, val_main_call0_v1, val_main_call0_v0,
    val_main_call0_cst, val_main_call0_cst_0, val_main_call0_cst_1, val_main_v25, val_main_v24, h23, ↓reduceDIte]
  unfold dgu gatedBwd
  split_ifs with h
  · obtain ⟨d, e⟩ := hd n ⟨j.val, h⟩
    have k := silu_bwd d (guv x nw wg 0 n j)
    rw [← e] at k
    rw [← k, sig_eq]
    rfl
  · rw [sig_eq, mul_comm]
    rfl
  · exact absurd rfl (by assumption)

include hd in
theorem dgu_apply' (n : Fin 8192) (j : Fin 5632) : val_main_v65 (F := Ideal) y x nw wd wg (ix2 n j) = dgu y x nw wd wg 0 n j := by
  pointwise [val_main_v65, dgu_apply y x nw wd wg hd]

include hd in
theorem dh_apply (n : Fin 8192) (k : Fin 1024) : val_main_v37 (F := Ideal) y x nw wd wg (ix2 n k) = dh y x nw wd wg 0 n k := by
  have h := dgu_apply y x nw wd wg hd
  pointwise [val_main_v37, val_main_v22, val_main_v21, val_main_v20, val_main_v19, val_main_v18, h, dh, wgu]

include hd in
theorem dx_apply (n : Fin 8192) (k : Fin 1024) : val_main_v58 (F := Ideal) y x nw wd wg (ix2 n k) = dx y x nw wd wg 0 n k := by
  have h := dh_apply y x nw wd wg hd
  have hi := inv_apply x
  pointwise [val_main_v58, val_main_v57, val_main_v56, val_main_v55, val_main_v54, val_main_v53, val_main_v52, val_main_v51,
    val_main_v50, val_main_v49, val_main_v48, val_main_v47, val_main_v46, val_main_v45, val_main_v44, val_main_v42, val_main_v41,
    val_main_v15, val_main_v1, val_main_v0, val_main_v12, val_main_v11, val_main_v10, val_main_v8, val_main_v7, val_main_v6, val_main_v5,
    val_main_v4, val_main_v3, val_main_v2, val_main_cst, val_main_cst_0, val_main_cst_1, val_main_cst_2, val_main_cst_3, val_main_cst_4,
    val_main_cst_5, val_main_cst_6, val_main_cst_7, hi, h]
  simp only [Finset.univ_unique, Finset.sum_singleton]
  rw [mul_comm _ (x (ix2 n k))]
  exact congrArg (y (ix2 n k) + ·) (normBwd_eq (fun k => x (ix2 n k)) (fun k => dh y x nw wd wg 0 n k * nw (ix2 0 k)) k)

include hd in
theorem dmix_apply (n : Fin 8192) (k : Fin 1024) : val_main_v64 (F := Ideal) y x nw wd wg wo (ix2 n k) = dmix y x nw wd wg wo 0 n k := by
  have h := dx_apply y x nw wd wg hd
  pointwise [val_main_v64, val_main_v62, val_main_v61, val_main_v60, h, dmix]

include hd in
theorem dnw_apply (k : Fin 1024) : val_main_v66 (F := Ideal) y x nw wd wg (ix2 0 k) = dnw y x nw wd wg 0 k := by
  have h := dh_apply y x nw wd wg hd
  have hi := inv_apply x
  pointwise [val_main_v66, val_main_v43, val_main_v40, val_main_v39, val_main_v38, val_main_v14, val_main_v13, val_main_cst_3,
    val_main_cst_4, hi, h, dnw, mul_comm]
  simp only [Finset.univ_unique, Finset.sum_singleton]

end Cert.MlpBwd0RefIdeal.Mlp

end
-- ==== Proof.Half.lean ====
/-
  The second half of a layer, forward, element by element: the output projection added to the residual stream, the norm,
  the gates and ups, the gated unit, and the down projection added to the stream again.
-/
module

public import proofs.«01_k».proof.OutMlpRefIdeal
public import proofs.«01_k».proof.Proof.Rows
public import Idealize.ShloMosaic.Lib.Pipeline.ValueKit

@[expose] public section

noncomputable section

namespace Cert.Half

open Cert.OutMlpRefIdeal Idealize.ShloMosaic Cert.Step

abbrev XA := (⟨S8192x1024, .f32⟩ : BufTy).Contents (Elt Ideal)
abbrev XM := (⟨S8192x256, .bf16⟩ : BufTy).Contents (Elt Ideal)
abbrev XN := (⟨S2x1024, .f32⟩ : BufTy).Contents (Elt Ideal)
abbrev XD := (⟨S2x2816x1024, .bf16⟩ : BufTy).Contents (Elt Ideal)
abbrev XG := (⟨S8x2x704x1024, .bf16⟩ : BufTy).Contents (Elt Ideal)
abbrev XO := (⟨S2x1024x1024, .bf16⟩ : BufTy).Contents (Elt Ideal)

variable (x : XA) (a b c d : XM) (wo : XO) (nw : XN) (wg : XG) (wd : XD) (l : Fin 2)

/-- A row of the four mixers' outputs side by side. -/
def side (a b c d : Fin 256 → EReal) (k : Fin 1024) : EReal :=
  if h : k.val < 256 then a ⟨k.val, h⟩
  else if h : k.val - 256 < 256 then b ⟨k.val - 256, h⟩
  else if h : k.val - 256 - 256 < 256 then c ⟨k.val - 256 - 256, h⟩
  else d ⟨k.val - 256 - 256 - 256, by omega⟩

/-- The mixers' outputs. -/
def mix (n : Fin 8192) (k : Fin 1024) : EReal := side (fun k => a (ix2 n k)) (fun k => b (ix2 n k)) (fun k => c (ix2 n k)) (fun k => d (ix2 n k)) k

/-- The stream behind the output projection. -/
def x1 (n : Fin 8192) (k : Fin 1024) : EReal := x (ix2 n k) + ∑ j, mix a b c d n j * wo (ix3 l j k)

/-- The stream under the norm. -/
def h2 (n : Fin 8192) (k : Fin 1024) : EReal := normed (x1 x a b c d wo l n) (fun k => nw (ix2 l k)) k

/-- The gates and ups. -/
def gu (n : Fin 8192) (j : Fin 5632) : EReal :=
  ∑ k, h2 x a b c d wo nw l n k * wg (ix4 ⟨j.val / 704, by omega⟩ l ⟨j.val % 704, by omega⟩ k)

/-- The gated unit. -/
def act (n : Fin 8192) (j : Fin 2816) : EReal := gatedRow (gu x a b c d wo nw wg l n) j

/-- The stream behind the layer. -/
def x2 (n : Fin 8192) (k : Fin 1024) : EReal := x1 x a b c d wo l n k + ∑ j, act x a b c d wo nw wg l n j * wd (ix3 l j k)

/-! ## The final norm, the loss and its gradient, over the stream `X` behind the last layer -/

variable (X : Fin 8192 → Fin 1024 → EReal) (w : (⟨S1x1024, .f32⟩ : BufTy).Contents (Elt Ideal)) (tg : XA)

/-- The final norm less the target. -/
def err (n : Fin 8192) (k : Fin 1024) : EReal := normed (X n) (fun k => w (ix2 0 k)) k - tg (ix2 n k)

/-- The loss: half the sum over the tokens of the mean square of the error. -/
def loss : EReal := half * ∑ n, Ideal.div (∑ k, err X w tg n k * err X w tg n k) width

/-- The gradient at the final norm. -/
def dy (n : Fin 8192) (k : Fin 1024) : EReal := err X w tg n k * Ideal.ofBits .f32 0x3A800000#32

/-- The gradient at the stream. -/
def dx (n : Fin 8192) (k : Fin 1024) : EReal := normBwd (X n) (fun k => dy X w tg n k * w (ix2 0 k)) k

/-- The gradient at the final norm's weights. -/
def dw (k : Fin 1024) : EReal := ∑ n, dy X w tg n k * (X n k * rowInv (X n))

theorem invWidth_eq : Ideal.ofBits .f32 0x3A800000#32 = ((1 / 1024 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

/-- The derivative of half a mean square: twice the half cancels. -/
theorem dy_scale (e : EReal) : Ideal.div half width * (Ideal.ofBits .f32 0x40000000#32 * e)
    = e * Ideal.ofBits .f32 0x3A800000#32 := by
  rw [div_width, invWidth_eq, two_eq, half_eq, ← mul_assoc, ← EReal.coe_mul, ← EReal.coe_mul, mul_comm]
  congr 2
  norm_num

/-- The loss accumulated block of tokens by block of tokens. -/
theorem loss_blocks (s : Fin 8192 → EReal) :
    ∑ t : Fin 32, half * (∑ r : Fin 256, s ⟨t.val * 256 + r.val, by omega⟩) * Ideal.ofBits .f32 0x3A800000#32
      = half * ∑ n, Ideal.div (s n) width := by
  have h : ∀ t : Fin 32, half * (∑ r : Fin 256, s ⟨t.val * 256 + r.val, by omega⟩) * Ideal.ofBits .f32 0x3A800000#32
      = (∑ r : Fin 256, s ⟨t.val * 256 + r.val, by omega⟩) * ((1 / 2 * (1 / 1024) : ℝ) : EReal) := fun t => by
    rw [invWidth_eq, half_eq, mul_comm ((1 / 2 : ℝ) : EReal), mul_assoc, ← EReal.coe_mul]
  rw [Finset.sum_congr rfl fun t _ => h t, ← sum_mul_coe _ (by norm_num), Finset.sum_congr rfl fun n _ => div_width (s n),
    ← sum_mul_coe _ (by norm_num), half_eq, mul_comm ((1 / 2 : ℝ) : EReal), mul_assoc, ← EReal.coe_mul, mul_comm (1 / 2 : ℝ)]
  exact congrArg (· * _) (Fin.sum_mul_add_congr fun t r hl => rfl)

end Cert.Half

end
-- ==== Proof.OutMlpKernel.lean ====
/-
  The second half of the first layer, forward: the kernel's six result arrays, element by element.
-/
module

public import proofs.«01_k».proof.Proof.Gen.OutMlpIdeal.Value
public import proofs.«01_k».proof.Proof.Half
public import Idealize.ShloMosaic.Lib.Pointwise
public import Idealize.ShloMosaic.Lib.Tactic
public import Idealize.ShloMosaic.Lib.Pipeline.ValueKit

@[expose] public section

set_option maxRecDepth 16384

noncomputable section

namespace Cert.OutMlpIdeal.Half

open Cert.OutMlpIdeal Cert.OutMlpIdeal.Gen Idealize.ShloMosaic Idealize.ShloMosaic.TcCoe Idealize.SL.Sem Cert.Step Cert.Half
open Idealize.ShloMosaic.Pipeline (Dat)

variable (m : (ℓ : Loc nD τ sig) → Buf (Elt Ideal) ℓ)

/-- The arguments as the specification takes them. -/
abbrev argX (c : Dev nD) : XA := m ((c : Thread nD τ).loc main_arg0)
abbrev argA (c : Dev nD) : XM := m ((c : Thread nD τ).loc main_arg1)
abbrev argB (c : Dev nD) : XM := m ((c : Thread nD τ).loc main_arg2)
abbrev argC (c : Dev nD) : XM := m ((c : Thread nD τ).loc main_arg3)
abbrev argD (c : Dev nD) : XM := m ((c : Thread nD τ).loc main_arg4)
abbrev argO (c : Dev nD) : XO := m ((c : Thread nD τ).loc main_arg5)
abbrev argN (c : Dev nD) : XN := m ((c : Thread nD τ).loc main_arg6)
abbrev argG (c : Dev nD) : XG := m ((c : Thread nD τ).loc main_arg7)
abbrev argW (c : Dev nD) : XD := m ((c : Thread nD τ).loc main_arg8)

/-- Which block each window is at. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![0, 0]
    ∧ win0_7.index t = ![0, 0, 0, 0] ∧ win0_8.index t = ![0, 0, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![0, 0]
    ∧ win0_7.index t = ![0, 0, 0, 0] ∧ win0_8.index t = ![0, 0, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0])

/-- The token of a row of a point's block. -/
abbrev token (t : Fin cfg0.N) (r : Fin 256) : Fin 8192 := ⟨t.val * 256 + r.val, by have := lt_of_lt_of_eq t.isLt N_0; omega⟩

/-- A point's rows and weights, read off the arguments. -/
theorem blkX (c : Dev nD) (t : Fin cfg0.N) (r : Fin 256) (k : Fin 1024) : iblk m c 0 t (ix2 r k) = argX m c (ix2 (token t r) k) := by
  blk_ext [iblk, V_main_arg0, idx t]
theorem blkA (c : Dev nD) (t : Fin cfg0.N) (r : Fin 256) (k : Fin 256) : iblk m c 1 t (ix2 r k) = argA m c (ix2 (token t r) k) := by
  blk_ext [iblk, V_main_arg1, idx t]
theorem blkB (c : Dev nD) (t : Fin cfg0.N) (r : Fin 256) (k : Fin 256) : iblk m c 2 t (ix2 r k) = argB m c (ix2 (token t r) k) := by
  blk_ext [iblk, V_main_arg2, idx t]
theorem blkC (c : Dev nD) (t : Fin cfg0.N) (r : Fin 256) (k : Fin 256) : iblk m c 3 t (ix2 r k) = argC m c (ix2 (token t r) k) := by
  blk_ext [iblk, V_main_arg3, idx t]
theorem blkD (c : Dev nD) (t : Fin cfg0.N) (r : Fin 256) (k : Fin 256) : iblk m c 4 t (ix2 r k) = argD m c (ix2 (token t r) k) := by
  blk_ext [iblk, V_main_arg4, idx t]
theorem blkO (c : Dev nD) (t : Fin cfg0.N) (j k : Fin 1024) : iblk m c 5 t (ix3 0 j k) = argO m c (ix3 0 j k) := by
  blk_ext [iblk, V_main_arg5, idx t]
theorem blkN (c : Dev nD) (t : Fin cfg0.N) (k : Fin 1024) : View.ld (iblk m c 6 t) r0_3 (ix2 0 k) = argN m c (ix2 0 k) := by
  have e : View.ld (iblk m c 6 t) r0_3 (ix2 0 k) = iblk m c 6 t (ix2 0 k) := by
    generalize iblk m c 6 t = b
    pointwise []
  rw [e]
  blk_ext [iblk, V_main_arg6, idx t]
theorem blkG (c : Dev nD) (t : Fin cfg0.N) (a : Fin 8) (b : Fin 704) (k : Fin 1024) :
    iblk m c 7 t (ix4 a 0 b k) = argG m c (ix4 a 0 b k) := by
  blk_ext [iblk, V_main_arg7, idx t]
theorem blkW (c : Dev nD) (t : Fin cfg0.N) (j : Fin 2816) (k : Fin 1024) : iblk m c 8 t (ix3 0 j k) = argW m c (ix3 0 j k) := by
  blk_ext [iblk, V_main_arg8, idx t]

/-- What a point computes, each value from the ones before it. -/
def mixBlk (c : Dev nD) (t : Fin cfg0.N) : FVec Ideal S256x1024 .bf16 := k0_pay5 (iblk m c 1 t) (iblk m c 2 t) (iblk m c 3 t) (iblk m c 4 t)
def x1Blk (c : Dev nD) (t : Fin cfg0.N) : FVec Ideal S256x1024 .f32 :=
  k0_pay6 (iblk m c 1 t) (iblk m c 2 t) (iblk m c 3 t) (iblk m c 4 t) (iblk m c 0 t) (iblk m c 5 t)
def h2Blk (c : Dev nD) (t : Fin cfg0.N) : FVec Ideal S256x1024 .bf16 :=
  k0_pay7 (iblk m c 1 t) (iblk m c 2 t) (iblk m c 3 t) (iblk m c 4 t) (iblk m c 0 t) (iblk m c 5 t) (View.ld (iblk m c 6 t) r0_3)

theorem mixBlk_apply (c : Dev nD) (t : Fin cfg0.N) (r : Fin 256) (k : Fin 1024) :
    mixBlk m c t (ix2 r k) = mix (argA m c) (argB m c) (argC m c) (argD m c) (token t r) k := by
  have hA := blkA m c t r
  have hB := blkB m c t r
  have hC := blkC m c t r
  have hD := blkD m c t r
  unfold mixBlk
  generalize iblk m c 1 t = A at hA ⊢
  generalize iblk m c 2 t = B at hB ⊢
  generalize iblk m c 3 t = C at hC ⊢
  generalize iblk m c 4 t = D at hD ⊢
  pointwise [k0_pay5, hA, hB, hC, hD, mix, side]

theorem x1Blk_apply (c : Dev nD) (t : Fin cfg0.N) (r : Fin 256) (k : Fin 1024) :
    x1Blk m c t (ix2 r k) = x1 (argX m c) (argA m c) (argB m c) (argC m c) (argD m c) (argO m c) 0 (token t r) k := by
  have hm := mixBlk_apply m c t r
  have hX := blkX m c t r
  have hO := blkO m c t
  unfold x1Blk k0_pay6
  unfold mixBlk at hm
  generalize k0_pay5 (iblk m c 1 t) (iblk m c 2 t) (iblk m c 3 t) (iblk m c 4 t) = M at hm ⊢
  generalize iblk m c 0 t = X at hX ⊢
  generalize iblk m c 5 t = O at hO ⊢
  pointwise [hm, hX, hO, x1]

theorem h2Blk_apply (c : Dev nD) (t : Fin cfg0.N) (r : Fin 256) (k : Fin 1024) :
    h2Blk m c t (ix2 r k) = h2 (argX m c) (argA m c) (argB m c) (argC m c) (argD m c) (argO m c) (argN m c) 0 (token t r) k := by
  have hx := x1Blk_apply m c t r
  have hN := blkN m c t
  unfold h2Blk k0_pay7
  unfold x1Blk at hx
  generalize k0_pay6 (iblk m c 1 t) (iblk m c 2 t) (iblk m c 3 t) (iblk m c 4 t) (iblk m c 0 t) (iblk m c 5 t) = X at hx ⊢
  generalize View.ld (iblk m c 6 t) r0_3 = N at hN ⊢
  pointwise [hx, hN, h2, normed, rowInv, rinv]

theorem guBlk_apply (c : Dev nD) (t : Fin cfg0.N) (r : Fin 256) (j : Fin 5632) : k0_pay1 (h2Blk m c t) (iblk m c 7 t) (ix2 r j)
    = gu (argX m c) (argA m c) (argB m c) (argC m c) (argD m c) (argO m c) (argN m c) (argG m c) 0 (token t r) j := by
  have hh := h2Blk_apply m c t r
  have hG := blkG m c t
  generalize h2Blk m c t = H at hh ⊢
  generalize iblk m c 7 t = G at hG ⊢
  pointwise [k0_pay1, hh, hG, gu]

theorem actBlk_apply (c : Dev nD) (t : Fin cfg0.N) (r : Fin 256) (j : Fin 2816) : k0_pay3 (h2Blk m c t) (iblk m c 7 t) (ix2 r j)
    = act (argX m c) (argA m c) (argB m c) (argC m c) (argD m c) (argO m c) (argN m c) (argG m c) 0 (token t r) j := by
  have hg := guBlk_apply m c t r
  unfold k0_pay3
  generalize k0_pay1 (h2Blk m c t) (iblk m c 7 t) = G at hg ⊢
  pointwise [hg, act, gatedRow, Cert.Step.sig]

theorem x2Blk_apply (c : Dev nD) (t : Fin cfg0.N) (r : Fin 256) (k : Fin 1024) :
    k0_pay4 (x1Blk m c t) (h2Blk m c t) (iblk m c 7 t) (iblk m c 8 t) (ix2 r k)
    = x2 (argX m c) (argA m c) (argB m c) (argC m c) (argD m c) (argO m c) (argN m c) (argG m c) (argW m c) 0 (token t r) k := by
  have ha := actBlk_apply m c t r
  have hx := x1Blk_apply m c t r
  have hW := blkW m c t
  unfold k0_pay4
  generalize k0_pay3 (h2Blk m c t) (iblk m c 7 t) = A at ha ⊢
  generalize x1Blk m c t = X at hx ⊢
  generalize iblk m c 8 t = W at hW ⊢
  pointwise [ha, hx, hW, x2]

/-- The six result arrays. -/
theorem final_mix (c : Dev nD) : (dats m 0 c).arrAt 9 cfg0.N
    = fun i : S8192x1024.Idx => mix (argA m c) (argB m c) (argC m c) (argD m c) (i 0) (i 1) := by
  refine (dats m 0 c).arrAt_eq_of_covers 9 _ (by decide +kernel) fun t hf y => ?_
  blk_simp
  rw [after0_9]
  frame_out
  idx_vars y
  refine (mixBlk_apply m c t _ _).trans (congrArg₂ (mix _ _ _ _) (Fin.ext ?_) (Fin.ext ?_)) <;> blk_simp [idx t]

theorem final_x1 (c : Dev nD) : (dats m 0 c).arrAt 10 cfg0.N
    = fun i : S8192x1024.Idx => x1 (argX m c) (argA m c) (argB m c) (argC m c) (argD m c) (argO m c) 0 (i 0) (i 1) := by
  refine (dats m 0 c).arrAt_eq_of_covers 10 _ (by decide +kernel) fun t hf y => ?_
  blk_simp
  rw [after0_10]
  frame_out
  idx_vars y
  refine (x1Blk_apply m c t _ _).trans (congrArg₂ (x1 _ _ _ _ _ _ _) (Fin.ext ?_) (Fin.ext ?_)) <;> blk_simp [idx t]

theorem final_h2 (c : Dev nD) : (dats m 0 c).arrAt 11 cfg0.N
    = fun i : S8192x1024.Idx => h2 (argX m c) (argA m c) (argB m c) (argC m c) (argD m c) (argO m c) (argN m c) 0 (i 0) (i 1) := by
  refine (dats m 0 c).arrAt_eq_of_covers 11 _ (by decide +kernel) fun t hf y => ?_
  blk_simp
  rw [after0_11]
  frame_out
  idx_vars y
  refine (h2Blk_apply m c t _ _).trans (congrArg₂ (h2 _ _ _ _ _ _ _ _) (Fin.ext ?_) (Fin.ext ?_)) <;> blk_simp [idx t]

theorem final_gu (c : Dev nD) : (dats m 0 c).arrAt 12 cfg0.N
    = fun i : S8192x5632.Idx => gu (argX m c) (argA m c) (argB m c) (argC m c) (argD m c) (argO m c) (argN m c) (argG m c) 0 (i 0) (i 1) := by
  refine (dats m 0 c).arrAt_eq_of_covers 12 _ (by decide +kernel) fun t hf y => ?_
  blk_simp
  rw [after0_12]
  unfold_out out0_12
  frame_out
  idx_vars y
  refine (guBlk_apply m c t _ _).trans (congrArg₂ (gu _ _ _ _ _ _ _ _ _) (Fin.ext ?_) (Fin.ext ?_)) <;> blk_simp [idx t]

theorem final_act (c : Dev nD) : (dats m 0 c).arrAt 13 cfg0.N
    = fun i : S8192x2816.Idx => act (argX m c) (argA m c) (argB m c) (argC m c) (argD m c) (argO m c) (argN m c) (argG m c) 0 (i 0) (i 1) := by
  refine (dats m 0 c).arrAt_eq_of_covers 13 _ (by decide +kernel) fun t hf y => ?_
  blk_simp
  rw [after0_13]
  unfold_out out0_13
  frame_out
  idx_vars y
  refine (actBlk_apply m c t _ _).trans (congrArg₂ (act _ _ _ _ _ _ _ _ _) (Fin.ext ?_) (Fin.ext ?_)) <;> blk_simp [idx t]

theorem final_x2 (c : Dev nD) : (dats m 0 c).arrAt 14 cfg0.N
    = fun i : S8192x1024.Idx =>
      x2 (argX m c) (argA m c) (argB m c) (argC m c) (argD m c) (argO m c) (argN m c) (argG m c) (argW m c) 0 (i 0) (i 1) := by
  refine (dats m 0 c).arrAt_eq_of_covers 14 _ (by decide +kernel) fun t hf y => ?_
  blk_simp
  rw [after0_14]
  unfold_out out0_14
  frame_out
  idx_vars y
  refine (x2Blk_apply m c t _ _).trans (congrArg₂ (x2 _ _ _ _ _ _ _ _ _ _) (Fin.ext ?_) (Fin.ext ?_)) <;> blk_simp [idx t]

end Cert.OutMlpIdeal.Half

end
-- ==== Proof.OutMlpSpec.lean ====
/-
  The second half of the first layer, forward: the reference computes the specification.
-/
module

public import proofs.«01_k».proof.Proof.Gen.OutMlpRefIdeal.Read
public import proofs.«01_k».proof.Proof.Half
public import Idealize.ShloMosaic.Lib.Pointwise
public import Idealize.ShloMosaic.Lib.Tactic

@[expose] public section

set_option maxRecDepth 16384

noncomputable section

namespace Cert.OutMlpSpec

open Cert.OutMlpRefIdeal Cert.OutMlpRefIdeal.Read Idealize.ShloMosaic Idealize.ShloMosaic.TcCoe Idealize.SL.Sem Cert.Step Cert.Half

variable (x : XA) (a b c d : XM) (wo : XO) (nw : XN) (wg : XG) (wd : XD)

theorem mix_apply (n : Fin 8192) (k : Fin 1024) : val_main_v37 (F := Ideal) a b c d (ix2 n k) = mix a b c d n k := by
  pointwise [val_main_v37, val_main_v1, val_main_v0, mix, side]

theorem x1_apply (n : Fin 8192) (k : Fin 1024) : val_main_v6 (F := Ideal) x a b c d wo (ix2 n k) = x1 x a b c d wo 0 n k := by
  pointwise [val_main_v6, val_main_v5, val_main_v4, val_main_v3, val_main_v2, val_main_v1, val_main_v0, x1, mix, side]

theorem h2_apply' (n : Fin 8192) (k : Fin 1024) : val_main_v21 (F := Ideal) x a b c d wo nw (ix2 n k) = h2 x a b c d wo nw 0 n k := by
  have h := x1_apply x a b c d wo
  pointwise [val_main_v21, val_main_v20, val_main_v19, val_main_v18, val_main_v17, val_main_v16, val_main_v15, val_main_v14, val_main_v13,
    val_main_v12, val_main_v11, val_main_v10, val_main_v9, val_main_v8, val_main_v7, val_main_cst, val_main_cst_0, val_main_cst_1, h, h2,
    normed, rowInv, rinv]

theorem h2_apply (n : Fin 8192) (k : Fin 1024) : val_main_v38 (F := Ideal) x a b c d wo nw (ix2 n k) = h2 x a b c d wo nw 0 n k := by
  have h := h2_apply' x a b c d wo nw
  pointwise [val_main_v38, h]

theorem gu_apply' (n : Fin 8192) (j : Fin 5632) : val_main_v27 (F := Ideal) x a b c d wo nw wg (ix2 n j) = gu x a b c d wo nw wg 0 n j := by
  have h := h2_apply' x a b c d wo nw
  pointwise [val_main_v27, val_main_v26, val_main_v25, val_main_v24, val_main_v23, val_main_v22, h, gu]

theorem gu_apply (n : Fin 8192) (j : Fin 5632) : val_main_v39 (F := Ideal) x a b c d wo nw wg (ix2 n j) = gu x a b c d wo nw wg 0 n j := by
  have h := gu_apply' x a b c d wo nw wg
  pointwise [val_main_v39, h]

theorem act_apply' (n : Fin 8192) (j : Fin 2816) : val_main_v31 (F := Ideal) x a b c d wo nw wg (ix2 n j) = act x a b c d wo nw wg 0 n j := by
  have h := gu_apply' x a b c d wo nw wg
  pointwise [val_main_v31, val_main_v30, val_main_call0_v5, val_main_call0_v4, val_main_call0_v3, val_main_call0_v2, val_main_call0_v1,
    val_main_call0_v0, val_main_call0_cst, val_main_call0_cst_0, val_main_v29, val_main_v28, h]
  unfold act gatedRow
  rw [sig_eq]
  rfl

theorem act_apply (n : Fin 8192) (j : Fin 2816) : val_main_v40 (F := Ideal) x a b c d wo nw wg (ix2 n j) = act x a b c d wo nw wg 0 n j := by
  have h := act_apply' x a b c d wo nw wg
  pointwise [val_main_v40, h]

theorem x2_apply (n : Fin 8192) (k : Fin 1024) : val_main_v36 (F := Ideal) x a b c d wo nw wg wd (ix2 n k) = x2 x a b c d wo nw wg wd 0 n k := by
  have h := x1_apply x a b c d wo
  have h' := act_apply' x a b c d wo nw wg
  pointwise [val_main_v36, val_main_v35, val_main_v34, val_main_v33, val_main_v32, h, h', x2]

end Cert.OutMlpSpec

end
-- ==== Proof.HeadBlocks.lean ====
/-
  The second half of the second layer with the loss, one grid point of the kernel: what each of the eight outputs'
  staging buffers holds after the point, as a function of the point's input blocks.
-/
module

public import proofs.«01_k».proof.Proof.Gen.HeadIdeal.Value
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.HeadIdeal.Half

open Cert.HeadIdeal Cert.HeadIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The norm's weights of the layer, as a point reads them. -/
def nwRow (c : Dev nD) (t : Fin cfg0.N) : FVec F S1x1024 .f32 :=
  View.ld (iblk m c 6 t) (Rect.unit ![1, 0] ![1, 1024] inb_S2x1024_S1x1024_1_0)

/-- What a point computes of the layer, each value from the ones before it. -/
def mixBlk (c : Dev nD) (t : Fin cfg0.N) : FVec F S256x1024 .bf16 := k0_pay1 (iblk m c 1 t) (iblk m c 2 t) (iblk m c 3 t) (iblk m c 4 t)
def x1Blk (c : Dev nD) (t : Fin cfg0.N) : FVec F S256x1024 .f32 :=
  k0_pay2 (iblk m c 1 t) (iblk m c 2 t) (iblk m c 3 t) (iblk m c 4 t) (iblk m c 0 t) (iblk m c 5 t)
def h2Blk (c : Dev nD) (t : Fin cfg0.N) : FVec F S256x1024 .bf16 :=
  k0_pay3 (iblk m c 1 t) (iblk m c 2 t) (iblk m c 3 t) (iblk m c 4 t) (iblk m c 0 t) (iblk m c 5 t) (nwRow m c t)
def guBlk (c : Dev nD) (t : Fin cfg0.N) : FVec F S256x5632 .bf16 := k0_pay5 (h2Blk m c t) (iblk m c 7 t)
def actBlk (c : Dev nD) (t : Fin cfg0.N) : FVec F S256x2816 .bf16 := k0_pay6 (h2Blk m c t) (iblk m c 7 t)

/-- The final norm: the reciprocals of the rows' widths, the rows scaled by them, and the weights. -/
def rBlk (c : Dev nD) (t : Fin cfg0.N) : FVec F S256x1 .f32 := k0_pay10 (x1Blk m c t) (h2Blk m c t) (iblk m c 7 t) (iblk m c 8 t)
def xhBlk (c : Dev nD) (t : Fin cfg0.N) : FVec F S256x1024 .f32 := k0_pay11 (x1Blk m c t) (h2Blk m c t) (iblk m c 7 t) (iblk m c 8 t)
def wBlk (c : Dev nD) (t : Fin cfg0.N) : FVec F S256x1024 .f32 := k0_pay12 (iblk m c 9 t)

/-- The gradient at the stream, and the two accumulators after a point that finds them at `acc`. -/
def dxBlk (c : Dev nD) (t : Fin cfg0.N) : FVec F S256x1024 .f32 :=
  k0_pay16 (iblk m c 9 t) (rBlk m c t) (xhBlk m c t) (wBlk m c t) (iblk m c 10 t)
def lossStep (c : Dev nD) (t : Fin cfg0.N) (acc : FVec F S8x128 .f32) : FVec F S8x128 .f32 :=
  k0_pay14 (xhBlk m c t) (wBlk m c t) (iblk m c 10 t) acc
def dwStep (c : Dev nD) (t : Fin cfg0.N) (acc : FVec F S1x1024 .f32) : FVec F S1x1024 .f32 :=
  k0_pay17 (xhBlk m c t) (wBlk m c t) (iblk m c 10 t) acc

/-- The six row-wise outputs' staging buffers after a point. -/
theorem outs_mix (c : Dev nD) (t : Fin cfg0.N) : (outsAt0 m c t.val t.isLt).1 = mixBlk m c t := by
  by_cases h0 : t.val % 32 = 0
  · rw [outsAt0_A m c t h0]; frame_out; rfl
  · rw [outsAt0_B m c t h0]; frame_out; rfl
theorem outs_x1 (c : Dev nD) (t : Fin cfg0.N) : (outsAt0 m c t.val t.isLt).2.1 = x1Blk m c t := by
  by_cases h0 : t.val % 32 = 0
  · rw [outsAt0_A m c t h0]; frame_out; rfl
  · rw [outsAt0_B m c t h0]; frame_out; rfl
theorem outs_h2 (c : Dev nD) (t : Fin cfg0.N) : (outsAt0 m c t.val t.isLt).2.2.1 = h2Blk m c t := by
  by_cases h0 : t.val % 32 = 0
  · rw [outsAt0_A m c t h0]; frame_out; rfl
  · rw [outsAt0_B m c t h0]; frame_out; rfl
theorem outs_gu (c : Dev nD) (t : Fin cfg0.N) : (outsAt0 m c t.val t.isLt).2.2.2.1 = guBlk m c t := by
  by_cases h0 : t.val % 32 = 0
  · rw [outsAt0_A m c t h0]; frame_out; rfl
  · rw [outsAt0_B m c t h0]; frame_out; rfl
theorem outs_act (c : Dev nD) (t : Fin cfg0.N) : (outsAt0 m c t.val t.isLt).2.2.2.2.1 = actBlk m c t := by
  by_cases h0 : t.val % 32 = 0
  · rw [outsAt0_A m c t h0]; frame_out; rfl
  · rw [outsAt0_B m c t h0]; frame_out; rfl
theorem outs_dx (c : Dev nD) (t : Fin cfg0.N) : (outsAt0 m c t.val t.isLt).2.2.2.2.2.1 = dxBlk m c t := by
  by_cases h0 : t.val % 32 = 0
  · rw [outsAt0_A m c t h0]; frame_out; rfl
  · rw [outsAt0_B m c t h0]; frame_out; rfl

/-- The two accumulators, after the point that resets them and after any other. -/
theorem outs_loss_A (c : Dev nD) (t : Fin cfg0.N) (h0 : t.val % 32 = 0) :
    (outsAt0 m c t.val t.isLt).2.2.2.2.2.2.1 = lossStep m c t k0_pay8 := by
  rw [outsAt0_A m c t h0]; frame_out; rfl
theorem outs_loss_B (c : Dev nD) (t : Fin cfg0.N) (h0 : ¬t.val % 32 = 0) (hlt : t.val - 1 < cfg0.N) :
    (outsAt0 m c t.val t.isLt).2.2.2.2.2.2.1 = lossStep m c t (outsAt0 m c (t.val - 1) hlt).2.2.2.2.2.2.1 := by
  rw [outsAt0_B m c t h0]; frame_out; rfl
theorem outs_dw_A (c : Dev nD) (t : Fin cfg0.N) (h0 : t.val % 32 = 0) :
    (outsAt0 m c t.val t.isLt).2.2.2.2.2.2.2 = dwStep m c t k0_pay9 := by
  rw [outsAt0_A m c t h0]; frame_out; rfl
theorem outs_dw_B (c : Dev nD) (t : Fin cfg0.N) (h0 : ¬t.val % 32 = 0) (hlt : t.val - 1 < cfg0.N) :
    (outsAt0 m c t.val t.isLt).2.2.2.2.2.2.2 = dwStep m c t (outsAt0 m c (t.val - 1) hlt).2.2.2.2.2.2.2 := by
  rw [outsAt0_B m c t h0]; frame_out; rfl

end Cert.HeadIdeal.Half

end
-- ==== Proof.HeadKernel.lean ====
/-
  The second half of the second layer, forward, with the loss: the kernel's eight result arrays, element by element.
-/
module

public import proofs.«01_k».proof.Proof.HeadBlocks
public import proofs.«01_k».proof.Proof.Half
public import Idealize.ShloMosaic.Lib.Pointwise
public import Idealize.ShloMosaic.Lib.Tactic
public import Idealize.ShloMosaic.Lib.Pipeline.ValueKit

@[expose] public section

set_option maxRecDepth 16384

noncomputable section

namespace Cert.HeadIdeal.Half

open Cert.HeadIdeal Cert.HeadIdeal.Gen Idealize.ShloMosaic Idealize.ShloMosaic.TcCoe Idealize.SL.Sem Cert.Step Cert.Half
open Idealize.ShloMosaic.Pipeline (Dat)

variable (m : (ℓ : Loc nD τ sig) → Buf (Elt Ideal) ℓ)

/-- The arguments as the specification takes them. -/
abbrev argX (c : Dev nD) : XA := m ((c : Thread nD τ).loc main_arg0)
abbrev argA (c : Dev nD) : XM := m ((c : Thread nD τ).loc main_arg1)
abbrev argB (c : Dev nD) : XM := m ((c : Thread nD τ).loc main_arg2)
abbrev argC (c : Dev nD) : XM := m ((c : Thread nD τ).loc main_arg3)
abbrev argD (c : Dev nD) : XM := m ((c : Thread nD τ).loc main_arg4)
abbrev argO (c : Dev nD) : XO := m ((c : Thread nD τ).loc main_arg5)
abbrev argN (c : Dev nD) : XN := m ((c : Thread nD τ).loc main_arg6)
abbrev argG (c : Dev nD) : XG := m ((c : Thread nD τ).loc main_arg7)
abbrev argW (c : Dev nD) : XD := m ((c : Thread nD τ).loc main_arg8)
abbrev argF (c : Dev nD) : (⟨S1x1024, .f32⟩ : BufTy).Contents (Elt Ideal) := m ((c : Thread nD τ).loc main_arg9)
abbrev argT (c : Dev nD) : XA := m ((c : Thread nD τ).loc main_arg10)

/-- Which block each window is at. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![1, 0, 0]
    ∧ win0_6.index t = ![0, 0] ∧ win0_7.index t = ![0, 1, 0, 0] ∧ win0_8.index t = ![1, 0, 0]
    ∧ win0_9.index t = ![0, 0] ∧ win0_10.index t = ![t.val, 0] ∧ win0_11.index t = ![t.val, 0]
    ∧ win0_12.index t = ![t.val, 0] ∧ win0_13.index t = ![t.val, 0] ∧ win0_14.index t = ![t.val, 0]
    ∧ win0_15.index t = ![t.val, 0] ∧ win0_16.index t = ![t.val, 0] ∧ win0_17.index t = ![0, 0]
    ∧ win0_18.index t = ![0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![1, 0, 0]
    ∧ win0_6.index t = ![0, 0] ∧ win0_7.index t = ![0, 1, 0, 0] ∧ win0_8.index t = ![1, 0, 0]
    ∧ win0_9.index t = ![0, 0] ∧ win0_10.index t = ![t.val, 0] ∧ win0_11.index t = ![t.val, 0]
    ∧ win0_12.index t = ![t.val, 0] ∧ win0_13.index t = ![t.val, 0] ∧ win0_14.index t = ![t.val, 0]
    ∧ win0_15.index t = ![t.val, 0] ∧ win0_16.index t = ![t.val, 0] ∧ win0_17.index t = ![0, 0]
    ∧ win0_18.index t = ![0, 0])

/-- The token of a row of a point's block. -/
abbrev token (t : Fin cfg0.N) (r : Fin 256) : Fin 8192 := ⟨t.val * 256 + r.val, by have := lt_of_lt_of_eq t.isLt N_0; omega⟩

/-- A point's rows and weights, read off the arguments. -/
theorem blkX (c : Dev nD) (t : Fin cfg0.N) (r : Fin 256) (k : Fin 1024) : iblk m c 0 t (ix2 r k) = argX m c (ix2 (token t r) k) := by
  blk_ext [iblk, V_main_arg0, idx t]
theorem blkA (c : Dev nD) (t : Fin cfg0.N) (r : Fin 256) (k : Fin 256) : iblk m c 1 t (ix2 r k) = argA m c (ix2 (token t r) k) := by
  blk_ext [iblk, V_main_arg1, idx t]
theorem blkB (c : Dev nD) (t : Fin cfg0.N) (r : Fin 256) (k : Fin 256) : iblk m c 2 t (ix2 r k) = argB m c (ix2 (token t r) k) := by
  blk_ext [iblk, V_main_arg2, idx t]
theorem blkC (c : Dev nD) (t : Fin cfg0.N) (r : Fin 256) (k : Fin 256) : iblk m c 3 t (ix2 r k) = argC m c (ix2 (token t r) k) := by
  blk_ext [iblk, V_main_arg3, idx t]
theorem blkD (c : Dev nD) (t : Fin cfg0.N) (r : Fin 256) (k : Fin 256) : iblk m c 4 t (ix2 r k) = argD m c (ix2 (token t r) k) := by
  blk_ext [iblk, V_main_arg4, idx t]
theorem blkO (c : Dev nD) (t : Fin cfg0.N) (j k : Fin 1024) : iblk m c 5 t (ix3 0 j k) = argO m c (ix3 1 j k) := by
  blk_ext [iblk, V_main_arg5, idx t]
theorem blkN (c : Dev nD) (t : Fin cfg0.N) (k : Fin 1024) : nwRow m c t (ix2 0 k) = argN m c (ix2 1 k) := by
  have e : nwRow m c t (ix2 0 k) = iblk m c 6 t (ix2 1 k) := by
    unfold nwRow
    generalize iblk m c 6 t = b
    pointwise []
  rw [e]
  blk_ext [iblk, V_main_arg6, idx t]
theorem blkG (c : Dev nD) (t : Fin cfg0.N) (a : Fin 8) (b : Fin 704) (k : Fin 1024) :
    iblk m c 7 t (ix4 a 0 b k) = argG m c (ix4 a 1 b k) := by
  blk_ext [iblk, V_main_arg7, idx t]
theorem blkW (c : Dev nD) (t : Fin cfg0.N) (j : Fin 2816) (k : Fin 1024) : iblk m c 8 t (ix3 0 j k) = argW m c (ix3 1 j k) := by
  blk_ext [iblk, V_main_arg8, idx t]
theorem blkF (c : Dev nD) (t : Fin cfg0.N) (k : Fin 1024) : iblk m c 9 t (ix2 0 k) = argF m c (ix2 0 k) := by
  blk_ext [iblk, V_main_arg9, idx t]
theorem blkT (c : Dev nD) (t : Fin cfg0.N) (r : Fin 256) (k : Fin 1024) : iblk m c 10 t (ix2 r k) = argT m c (ix2 (token t r) k) := by
  blk_ext [iblk, V_main_arg10, idx t]

theorem mixBlk_apply (c : Dev nD) (t : Fin cfg0.N) (r : Fin 256) (k : Fin 1024) :
    mixBlk m c t (ix2 r k) = mix (argA m c) (argB m c) (argC m c) (argD m c) (token t r) k := by
  have hA := blkA m c t r
  have hB := blkB m c t r
  have hC := blkC m c t r
  have hD := blkD m c t r
  unfold mixBlk
  generalize iblk m c 1 t = A at hA ⊢
  generalize iblk m c 2 t = B at hB ⊢
  generalize iblk m c 3 t = C at hC ⊢
  generalize iblk m c 4 t = D at hD ⊢
  pointwise [k0_pay1, hA, hB, hC, hD, mix, side]

theorem x1Blk_apply (c : Dev nD) (t : Fin cfg0.N) (r : Fin 256) (k : Fin 1024) :
    x1Blk m c t (ix2 r k) = x1 (argX m c) (argA m c) (argB m c) (argC m c) (argD m c) (argO m c) 1 (token t r) k := by
  have hm := mixBlk_apply m c t r
  have hX := blkX m c t r
  have hO := blkO m c t
  unfold x1Blk k0_pay2
  unfold mixBlk at hm
  generalize k0_pay1 (iblk m c 1 t) (iblk m c 2 t) (iblk m c 3 t) (iblk m c 4 t) = M at hm ⊢
  generalize iblk m c 0 t = X at hX ⊢
  generalize iblk m c 5 t = O at hO ⊢
  pointwise [hm, hX, hO, x1]

theorem h2Blk_apply (c : Dev nD) (t : Fin cfg0.N) (r : Fin 256) (k : Fin 1024) :
    h2Blk m c t (ix2 r k) = h2 (argX m c) (argA m c) (argB m c) (argC m c) (argD m c) (argO m c) (argN m c) 1 (token t r) k := by
  have hx := x1Blk_apply m c t r
  have hN := blkN m c t
  unfold h2Blk k0_pay3
  unfold x1Blk at hx
  generalize k0_pay2 (iblk m c 1 t) (iblk m c 2 t) (iblk m c 3 t) (iblk m c 4 t) (iblk m c 0 t) (iblk m c 5 t) = X at hx ⊢
  generalize nwRow m c t = N at hN ⊢
  pointwise [hx, hN, h2, normed, rowInv, rinv]

theorem guBlk_apply (c : Dev nD) (t : Fin cfg0.N) (r : Fin 256) (j : Fin 5632) : guBlk m c t (ix2 r j)
    = gu (argX m c) (argA m c) (argB m c) (argC m c) (argD m c) (argO m c) (argN m c) (argG m c) 1 (token t r) j := by
  have hh := h2Blk_apply m c t r
  have hG := blkG m c t
  unfold guBlk
  generalize h2Blk m c t = H at hh ⊢
  generalize iblk m c 7 t = G at hG ⊢
  pointwise [k0_pay5, k0_pay4, hh, hG, gu]

theorem actBlk_apply (c : Dev nD) (t : Fin cfg0.N) (r : Fin 256) (j : Fin 2816) : actBlk m c t (ix2 r j)
    = act (argX m c) (argA m c) (argB m c) (argC m c) (argD m c) (argO m c) (argN m c) (argG m c) 1 (token t r) j := by
  have hg := guBlk_apply m c t r
  unfold actBlk k0_pay6
  unfold guBlk k0_pay5 at hg
  generalize k0_pay4 (h2Blk m c t) (iblk m c 7 t) = G at hg ⊢
  pointwise [truncf] at hg
  pointwise [hg, act, gatedRow, Cert.Step.sig]

/-- The stream behind the layer. -/
abbrev stream (c : Dev nD) : Fin 8192 → Fin 1024 → EReal :=
  x2 (argX m c) (argA m c) (argB m c) (argC m c) (argD m c) (argO m c) (argN m c) (argG m c) (argW m c) 1

theorem x2Blk_apply (c : Dev nD) (t : Fin cfg0.N) (r : Fin 256) (k : Fin 1024) :
    k0_pay7 (x1Blk m c t) (h2Blk m c t) (iblk m c 7 t) (iblk m c 8 t) (ix2 r k) = stream m c (token t r) k := by
  have ha := actBlk_apply m c t r
  have hx := x1Blk_apply m c t r
  have hW := blkW m c t
  unfold k0_pay7
  unfold actBlk at ha
  generalize k0_pay6 (h2Blk m c t) (iblk m c 7 t) = A at ha ⊢
  generalize x1Blk m c t = X at hx ⊢
  generalize iblk m c 8 t = W at hW ⊢
  pointwise [ha, hx, hW, x2]

theorem rBlk_apply (c : Dev nD) (t : Fin cfg0.N) (r : Fin 256) (j : Fin 1) : rBlk m c t (ix2 r j) = rowInv (stream m c (token t r)) := by
  have hx := x2Blk_apply m c t r
  unfold rBlk k0_pay10
  generalize k0_pay7 (x1Blk m c t) (h2Blk m c t) (iblk m c 7 t) (iblk m c 8 t) = X at hx ⊢
  pointwise [hx, rowInv, rinv]

theorem xhBlk_apply (c : Dev nD) (t : Fin cfg0.N) (r : Fin 256) (k : Fin 1024) :
    xhBlk m c t (ix2 r k) = stream m c (token t r) k * rowInv (stream m c (token t r)) := by
  have hx := x2Blk_apply m c t r
  have hr := rBlk_apply m c t r
  unfold xhBlk k0_pay11
  unfold rBlk at hr
  generalize k0_pay7 (x1Blk m c t) (h2Blk m c t) (iblk m c 7 t) (iblk m c 8 t) = X at hx ⊢
  generalize k0_pay10 (x1Blk m c t) (h2Blk m c t) (iblk m c 7 t) (iblk m c 8 t) = R at hr ⊢
  pointwise [hx, hr]

theorem wBlk_apply (c : Dev nD) (t : Fin cfg0.N) (r : Fin 256) (k : Fin 1024) : wBlk m c t (ix2 r k) = argF m c (ix2 0 k) := by
  have hF := blkF m c t
  unfold wBlk
  generalize iblk m c 9 t = W at hF ⊢
  pointwise [k0_pay12, hF]

theorem errBlk_apply (c : Dev nD) (t : Fin cfg0.N) (r : Fin 256) (k : Fin 1024) :
    k0_pay13 (xhBlk m c t) (wBlk m c t) (iblk m c 10 t) (ix2 r k) = err (stream m c) (argF m c) (argT m c) (token t r) k := by
  have hx := xhBlk_apply m c t r
  have hw := wBlk_apply m c t r
  have hT := blkT m c t r
  generalize xhBlk m c t = X at hx ⊢
  generalize wBlk m c t = W at hw ⊢
  generalize iblk m c 10 t = T at hT ⊢
  pointwise [k0_pay13, hx, hw, hT, err, normed]

theorem dyBlk_apply (c : Dev nD) (t : Fin cfg0.N) (r : Fin 256) (k : Fin 1024) :
    k0_pay15 (xhBlk m c t) (wBlk m c t) (iblk m c 10 t) (ix2 r k) = dy (stream m c) (argF m c) (argT m c) (token t r) k := by
  have he := errBlk_apply m c t r
  unfold k0_pay15
  generalize k0_pay13 (xhBlk m c t) (wBlk m c t) (iblk m c 10 t) = E at he ⊢
  pointwise [he, dy]

theorem dxBlk_apply (c : Dev nD) (t : Fin cfg0.N) (r : Fin 256) (k : Fin 1024) :
    dxBlk m c t (ix2 r k) = dx (stream m c) (argF m c) (argT m c) (token t r) k := by
  have hd := dyBlk_apply m c t r
  have hF := blkF m c t
  have hr := rBlk_apply m c t r
  have hx := xhBlk_apply m c t r
  unfold dxBlk k0_pay16
  generalize k0_pay15 (xhBlk m c t) (wBlk m c t) (iblk m c 10 t) = D at hd ⊢
  generalize iblk m c 9 t = W at hF ⊢
  generalize rBlk m c t = R at hr ⊢
  generalize xhBlk m c t = X at hx ⊢
  pointwise [hd, hF, hr, hx, dx, normBwd]

/-- What a point adds to the loss and to the final norm weights' gradient. -/
theorem lossStep_apply (c : Dev nD) (t : Fin cfg0.N) (acc : FVec Ideal S8x128 .f32) (i : Fin 8) (j : Fin 128) :
    lossStep m c t acc (ix2 i j) = acc (ix2 i j) + half * (∑ r : Fin 256, ∑ k : Fin 1024,
      err (stream m c) (argF m c) (argT m c) (token t r) k * err (stream m c) (argF m c) (argT m c) (token t r) k)
        * Ideal.ofBits .f32 0x3A800000#32 := by
  have he := errBlk_apply m c t
  unfold lossStep k0_pay14
  generalize k0_pay13 (xhBlk m c t) (wBlk m c t) (iblk m c 10 t) = E at he ⊢
  pointwise [he]

theorem dwStep_apply (c : Dev nD) (t : Fin cfg0.N) (acc : FVec Ideal S1x1024 .f32) (k : Fin 1024) :
    dwStep m c t acc (ix2 0 k) = acc (ix2 0 k) + ∑ r : Fin 256, dy (stream m c) (argF m c) (argT m c) (token t r) k
      * (stream m c (token t r) k * rowInv (stream m c (token t r))) := by
  have hd := dyBlk_apply m c t
  have hx := xhBlk_apply m c t
  unfold dwStep k0_pay17
  generalize k0_pay15 (xhBlk m c t) (wBlk m c t) (iblk m c 10 t) = D at hd ⊢
  generalize xhBlk m c t = X at hx ⊢
  pointwise [hd, hx]

/-- The eight result arrays. -/
theorem final_mix (c : Dev nD) : (dats m 0 c).arrAt 11 cfg0.N
    = fun i : S8192x1024.Idx => mix (argA m c) (argB m c) (argC m c) (argD m c) (i 0) (i 1) := by
  refine (dats m 0 c).arrAt_eq_of_covers 11 _ (by decide +kernel) fun t hf y => ?_
  blk_simp
  rw [after0_11, outs_mix]
  idx_vars y
  refine (mixBlk_apply m c t _ _).trans (congrArg₂ (mix _ _ _ _) (Fin.ext ?_) (Fin.ext ?_)) <;> blk_simp [idx t]

theorem final_x1 (c : Dev nD) : (dats m 0 c).arrAt 12 cfg0.N
    = fun i : S8192x1024.Idx => x1 (argX m c) (argA m c) (argB m c) (argC m c) (argD m c) (argO m c) 1 (i 0) (i 1) := by
  refine (dats m 0 c).arrAt_eq_of_covers 12 _ (by decide +kernel) fun t hf y => ?_
  blk_simp
  rw [after0_12, outs_x1]
  idx_vars y
  refine (x1Blk_apply m c t _ _).trans (congrArg₂ (x1 _ _ _ _ _ _ _) (Fin.ext ?_) (Fin.ext ?_)) <;> blk_simp [idx t]

theorem final_h2 (c : Dev nD) : (dats m 0 c).arrAt 13 cfg0.N
    = fun i : S8192x1024.Idx => h2 (argX m c) (argA m c) (argB m c) (argC m c) (argD m c) (argO m c) (argN m c) 1 (i 0) (i 1) := by
  refine (dats m 0 c).arrAt_eq_of_covers 13 _ (by decide +kernel) fun t hf y => ?_
  blk_simp
  rw [after0_13, outs_h2]
  idx_vars y
  refine (h2Blk_apply m c t _ _).trans (congrArg₂ (h2 _ _ _ _ _ _ _ _) (Fin.ext ?_) (Fin.ext ?_)) <;> blk_simp [idx t]

theorem final_gu (c : Dev nD) : (dats m 0 c).arrAt 14 cfg0.N
    = fun i : S8192x5632.Idx => gu (argX m c) (argA m c) (argB m c) (argC m c) (argD m c) (argO m c) (argN m c) (argG m c) 1 (i 0) (i 1) := by
  refine (dats m 0 c).arrAt_eq_of_covers 14 _ (by decide +kernel) fun t hf y => ?_
  blk_simp
  rw [after0_14, outs_gu]
  idx_vars y
  refine (guBlk_apply m c t _ _).trans (congrArg₂ (gu _ _ _ _ _ _ _ _ _) (Fin.ext ?_) (Fin.ext ?_)) <;> blk_simp [idx t]

theorem final_act (c : Dev nD) : (dats m 0 c).arrAt 15 cfg0.N
    = fun i : S8192x2816.Idx => act (argX m c) (argA m c) (argB m c) (argC m c) (argD m c) (argO m c) (argN m c) (argG m c) 1 (i 0) (i 1) := by
  refine (dats m 0 c).arrAt_eq_of_covers 15 _ (by decide +kernel) fun t hf y => ?_
  blk_simp
  rw [after0_15, outs_act]
  idx_vars y
  refine (actBlk_apply m c t _ _).trans (congrArg₂ (act _ _ _ _ _ _ _ _ _) (Fin.ext ?_) (Fin.ext ?_)) <;> blk_simp [idx t]

theorem final_dx (c : Dev nD) : (dats m 0 c).arrAt 16 cfg0.N
    = fun i : S8192x1024.Idx => dx (stream m c) (argF m c) (argT m c) (i 0) (i 1) := by
  refine (dats m 0 c).arrAt_eq_of_covers 16 _ (by decide +kernel) fun t hf y => ?_
  blk_simp
  rw [after0_16, outs_dx]
  idx_vars y
  refine (dxBlk_apply m c t _ _).trans (congrArg₂ (dx _ _ _) (Fin.ext ?_) (Fin.ext ?_)) <;> blk_simp [idx t]

/-- The grid's last point. -/
abbrev tLast : Fin cfg0.N := ⟨31, by decide⟩

theorem final_loss (c : Dev nD) : (dats m 0 c).arrAt 17 cfg0.N
    = fun i : S8x128.Idx => loss (stream m c) (argF m c) (argT m c) := by
  refine (dats m 0 c).arrAt_eq_of_after_last 17 tLast (by decide +kernel) _ fun y => ?_
  blk_simp
  rw [after0_17]
  rw [Pipeline.eq_sum_fin_of_reset_step_apply_last (fun n h => (outsAt0 m c n h).2.2.2.2.2.2.1) 32 (fun _ => (0 : EReal))
    (fun t _ => half * (∑ r : Fin 256, ∑ k : Fin 1024, err (stream m c) (argF m c) (argT m c) (token t r) k
      * err (stream m c) (argF m c) (argT m c) (token t r) k) * Ideal.ofBits .f32 0x3A800000#32)
    (fun t h y => by
      idx_vars y
      rw [outs_loss_A m c t h]
      refine (lossStep_apply ..).trans ?_
      exact congrArg (· + _) (by pointwise [k0_pay8]))
    (fun t h y => by
      idx_vars y
      rw [outs_loss_B m c t h (Nat.lt_of_le_of_lt (Nat.sub_le _ _) t.isLt)]
      exact lossStep_apply ..)
    (le_of_eq N_0) tLast rfl y, zero_add]
  exact loss_blocks fun n => ∑ k, err (stream m c) (argF m c) (argT m c) n k * err (stream m c) (argF m c) (argT m c) n k

theorem final_dw (c : Dev nD) : (dats m 0 c).arrAt 18 cfg0.N
    = fun i : S1x1024.Idx => dw (stream m c) (argF m c) (argT m c) (i 1) := by
  refine (dats m 0 c).arrAt_eq_of_after_last 18 tLast (by decide +kernel) _ fun y => ?_
  blk_simp
  rw [after0_18]
  obtain ⟨k, rfl⟩ : ∃ (k : Fin 1024), y = ix2 0 k := ⟨y 1, (eq_ix2 y).trans (congrArg (ix2 · (y 1)) (Subsingleton.elim _ _))⟩
  rw [Pipeline.eq_sum_fin_of_reset_step_apply_last (fun n h => (outsAt0 m c n h).2.2.2.2.2.2.2) 32 (fun _ => (0 : EReal))
    (fun t y => ∑ r : Fin 256, dy (stream m c) (argF m c) (argT m c) (token t r) (y 1)
      * (stream m c (token t r) (y 1) * rowInv (stream m c (token t r))))
    (fun t h y => by
      obtain ⟨k, rfl⟩ : ∃ (k : Fin 1024), y = ix2 0 k := ⟨y 1, (eq_ix2 y).trans (congrArg (ix2 · (y 1)) (Subsingleton.elim _ _))⟩
      rw [outs_dw_A m c t h]
      refine (dwStep_apply ..).trans ?_
      exact congrArg (· + _) (by pointwise [k0_pay9]))
    (fun t h y => by
      obtain ⟨k, rfl⟩ : ∃ (k : Fin 1024), y = ix2 0 k := ⟨y 1, (eq_ix2 y).trans (congrArg (ix2 · (y 1)) (Subsingleton.elim _ _))⟩
      rw [outs_dw_B m c t h (Nat.lt_of_le_of_lt (Nat.sub_le _ _) t.isLt)]
      exact dwStep_apply ..)
    (le_of_eq N_0) tLast rfl (ix2 0 k), zero_add]
  unfold dw
  exact Fin.sum_mul_add_congr fun t r hl => rfl

end Cert.HeadIdeal.Half

end
-- ==== Proof.HeadSpec.lean ====
/-
  The second half of the second layer, forward, with the loss: the reference computes the specification.
-/
module

public import proofs.«01_k».proof.Proof.Gen.HeadRefIdeal.Read
public import proofs.«01_k».proof.Proof.Half
public import Idealize.ShloMosaic.Lib.Pointwise
public import Idealize.ShloMosaic.Lib.Tactic

@[expose] public section

set_option maxRecDepth 16384

noncomputable section

namespace Cert.HeadSpec

open Cert.HeadRefIdeal Cert.HeadRefIdeal.Read Idealize.ShloMosaic Idealize.ShloMosaic.TcCoe Idealize.SL.Sem Cert.Step Cert.Half

variable (x : XA) (a b c d : XM) (wo : XO) (nw : XN) (wg : XG) (wd : XD)

theorem mix_apply (n : Fin 8192) (k : Fin 1024) : val_main_v37 (F := Ideal) a b c d (ix2 n k) = mix a b c d n k := by
  pointwise [val_main_v37, val_main_v1, val_main_v0, mix, side]

theorem x1_apply (n : Fin 8192) (k : Fin 1024) : val_main_v6 (F := Ideal) x a b c d wo (ix2 n k) = x1 x a b c d wo 1 n k := by
  pointwise [val_main_v6, val_main_v5, val_main_v4, val_main_v3, val_main_v2, val_main_v1, val_main_v0, x1, mix, side]

theorem h2_apply' (n : Fin 8192) (k : Fin 1024) : val_main_v21 (F := Ideal) x a b c d wo nw (ix2 n k) = h2 x a b c d wo nw 1 n k := by
  have h := x1_apply x a b c d wo
  pointwise [val_main_v21, val_main_v20, val_main_v19, val_main_v18, val_main_v17, val_main_v16, val_main_v15, val_main_v14, val_main_v13,
    val_main_v12, val_main_v11, val_main_v10, val_main_v9, val_main_v8, val_main_v7, val_main_cst, val_main_cst_0, val_main_cst_1, h, h2,
    normed, rowInv, rinv]

theorem h2_apply (n : Fin 8192) (k : Fin 1024) : val_main_v38 (F := Ideal) x a b c d wo nw (ix2 n k) = h2 x a b c d wo nw 1 n k := by
  have h := h2_apply' x a b c d wo nw
  pointwise [val_main_v38, h]

theorem gu_apply' (n : Fin 8192) (j : Fin 5632) : val_main_v27 (F := Ideal) x a b c d wo nw wg (ix2 n j) = gu x a b c d wo nw wg 1 n j := by
  have h := h2_apply' x a b c d wo nw
  pointwise [val_main_v27, val_main_v26, val_main_v25, val_main_v24, val_main_v23, val_main_v22, h, gu]

theorem gu_apply (n : Fin 8192) (j : Fin 5632) : val_main_v39 (F := Ideal) x a b c d wo nw wg (ix2 n j) = gu x a b c d wo nw wg 1 n j := by
  have h := gu_apply' x a b c d wo nw wg
  pointwise [val_main_v39, h]

theorem act_apply' (n : Fin 8192) (j : Fin 2816) : val_main_v31 (F := Ideal) x a b c d wo nw wg (ix2 n j) = act x a b c d wo nw wg 1 n j := by
  have h := gu_apply' x a b c d wo nw wg
  pointwise [val_main_v31, val_main_v30, val_main_call0_v5, val_main_call0_v4, val_main_call0_v3, val_main_call0_v2, val_main_call0_v1,
    val_main_call0_v0, val_main_call0_cst, val_main_call0_cst_0, val_main_v29, val_main_v28, h]
  unfold act gatedRow
  rw [sig_eq]
  rfl

theorem act_apply (n : Fin 8192) (j : Fin 2816) : val_main_v40 (F := Ideal) x a b c d wo nw wg (ix2 n j) = act x a b c d wo nw wg 1 n j := by
  have h := act_apply' x a b c d wo nw wg
  pointwise [val_main_v40, h]

theorem x2_apply (n : Fin 8192) (k : Fin 1024) : val_main_v36 (F := Ideal) x a b c d wo nw wg wd (ix2 n k) = x2 x a b c d wo nw wg wd 1 n k := by
  have h := x1_apply x a b c d wo
  have h' := act_apply' x a b c d wo nw wg
  pointwise [val_main_v36, val_main_v35, val_main_v34, val_main_v33, val_main_v32, h, h', x2]

variable (w : (⟨S1x1024, .f32⟩ : BufTy).Contents (Elt Ideal)) (tg : XA)

/-- The stream behind the layer, as the loss takes it. -/
abbrev stream : Fin 8192 → Fin 1024 → EReal := x2 x a b c d wo nw wg wd 1

theorem inv_apply (n : Fin 8192) (j : Fin 1) :
    val_main_v49 (F := Ideal) x a b c d wo nw wg wd (ix2 n j) = rowInv (stream x a b c d wo nw wg wd n) := by
  have h := x2_apply x a b c d wo nw wg wd
  pointwise [val_main_v49, val_main_v48, val_main_v47, val_main_v46, val_main_v45, val_main_v44, val_main_v43, val_main_v42, val_main_cst_2,
    val_main_cst_3, val_main_cst_4, h, rowInv, rinv]

theorem err_apply (n : Fin 8192) (k : Fin 1024) : val_main_v58 (F := Ideal) x a b c d wo nw wg wd w tg (ix2 n k)
    = err (stream x a b c d wo nw wg wd) w tg n k := by
  have h := x2_apply x a b c d wo nw wg wd
  have hi := inv_apply x a b c d wo nw wg wd
  pointwise [val_main_v58, val_main_v57, val_main_v56, val_main_v55, val_main_v54, val_main_v53, val_main_v41, h, hi, err, normed]

theorem dy_apply (n : Fin 8192) (k : Fin 1024) : val_main_v72 (F := Ideal) x a b c d wo nw wg wd w tg (ix2 n k)
    = dy (stream x a b c d wo nw wg wd) w tg n k := by
  have h := err_apply x a b c d wo nw wg wd w tg
  pointwise [val_main_v72, val_main_v71, val_main_v70, val_main_v69, val_main_v68, val_main_v67, val_main_v61, val_main_v60, val_main_cst_6,
    val_main_cst_11, val_main_cst_12, val_main_cst_13, h]
  exact dy_scale _

theorem dx_apply (n : Fin 8192) (k : Fin 1024) : val_main_v92 (F := Ideal) x a b c d wo nw wg wd w tg (ix2 n k)
    = dx (stream x a b c d wo nw wg wd) w tg n k := by
  have h := x2_apply x a b c d wo nw wg wd
  have hi := inv_apply x a b c d wo nw wg wd
  have hy := dy_apply x a b c d wo nw wg wd w tg
  pointwise [val_main_v92, val_main_v91, val_main_v90, val_main_v89, val_main_v88, val_main_v87, val_main_v86, val_main_v85, val_main_v84,
    val_main_v83, val_main_v82, val_main_v81, val_main_v80, val_main_v79, val_main_v77, val_main_v76, val_main_v55, val_main_v41, val_main_v52,
    val_main_v51, val_main_v50, val_main_v48, val_main_v47, val_main_v46, val_main_v45, val_main_v44, val_main_v43, val_main_v42,
    val_main_cst_2, val_main_cst_3, val_main_cst_4, val_main_cst_5, val_main_cst_16, val_main_cst_17, val_main_cst_18, h, hi, hy]
  simp only [Finset.univ_unique, Finset.sum_singleton]
  rw [mul_comm _ (stream x a b c d wo nw wg wd n k)]
  exact normBwd_eq (stream x a b c d wo nw wg wd n) (fun k => dy (stream x a b c d wo nw wg wd) w tg n k * w (ix2 0 k)) k

theorem loss_apply (i : Fin 8) (j : Fin 128) : val_main_v93 (F := Ideal) x a b c d wo nw wg wd w tg (ix2 i j)
    = loss (stream x a b c d wo nw wg wd) w tg := by
  have h := err_apply x a b c d wo nw wg wd w tg
  pointwise [val_main_v93, val_main_v66, val_main_v65, val_main_v64, val_main_v63, val_main_v62, val_main_v59, val_main_cst_7, val_main_cst_8,
    val_main_cst_9, val_main_cst_10, h, loss]

theorem dw_apply (k : Fin 1024) : val_main_v94 (F := Ideal) x a b c d wo nw wg wd w tg (ix2 0 k)
    = dw (stream x a b c d wo nw wg wd) w tg k := by
  have h := x2_apply x a b c d wo nw wg wd
  have hi := inv_apply x a b c d wo nw wg wd
  have hy := dy_apply x a b c d wo nw wg wd w tg
  pointwise [val_main_v94, val_main_v78, val_main_v75, val_main_v74, val_main_v73, val_main_v54, val_main_v53, val_main_cst_14,
    val_main_cst_15, h, hi, hy, dw, mul_comm]
  simp only [Finset.univ_unique, Finset.sum_singleton]

end Cert.HeadSpec

end
-- ==== Proof.Proj.lean ====
/-
  The input projection of a layer, forward and backward, over the extended reals: the norm in front of it, the product
  with the eight projections' weights side by side, and the gradients the backward pass leaves.
-/
module

public import proofs.«01_k».proof.Proof.Rows
public import Idealize.ShloMosaic.Lib.Pipeline.ValueKit

@[expose] public section

noncomputable section

namespace Cert.Proj

open Idealize.ShloMosaic Cert.Step

abbrev Arr (a b : Nat) (e : EltTy) := (⟨⟨2, ![a, b]⟩, e⟩ : BufTy).Contents (Elt Ideal)

variable (d0 d1 : Arr 8192 768 .bf16) (d2 : Arr 8192 512 .bf16) (d3 : Arr 8192 768 .bf16) (d4 d5 : Arr 8192 256 .bf16)
  (d6 d7 : Arr 8192 128 .bf16) (x dx1 : Arr 8192 1024 .f32) (nw : Arr 2 1024 .f32) (wp : Arr 1024 3584 .bf16) (l : Fin 2)

/-- The stream under the norm. -/
def h (n : Fin 8192) (k : Fin 1024) : EReal := normed (fun k => x (ix2 n k)) (fun k => nw (ix2 l k)) k

/-- The projections. -/
def p (n : Fin 8192) (j : Fin 3584) : EReal := ∑ k, h x nw l n k * wp (ix2 k j)

/-- A row of the eight projections' gradients side by side. -/
def side (d0 d1 : Fin 768 → EReal) (d2 : Fin 512 → EReal) (d3 : Fin 768 → EReal) (d4 d5 : Fin 256 → EReal) (d6 d7 : Fin 128 → EReal)
    (j : Fin 3584) : EReal :=
  if h : j.val < 768 then d0 ⟨j.val, h⟩
  else if h : j.val - 768 < 768 then d1 ⟨j.val - 768, h⟩
  else if h : j.val - 768 - 768 < 512 then d2 ⟨j.val - 768 - 768, h⟩
  else if h : j.val - 768 - 768 - 512 < 768 then d3 ⟨j.val - 768 - 768 - 512, h⟩
  else if h : j.val - 768 - 768 - 512 - 768 < 256 then d4 ⟨j.val - 768 - 768 - 512 - 768, h⟩
  else if h : j.val - 768 - 768 - 512 - 768 - 256 < 256 then d5 ⟨j.val - 768 - 768 - 512 - 768 - 256, h⟩
  else if h : j.val - 768 - 768 - 512 - 768 - 256 - 256 < 128 then d6 ⟨j.val - 768 - 768 - 512 - 768 - 256 - 256, h⟩
  else d7 ⟨j.val - 768 - 768 - 512 - 768 - 256 - 256 - 128, by omega⟩

/-- The projections' gradients. -/
def dp (n : Fin 8192) (j : Fin 3584) : EReal :=
  side (fun k => d0 (ix2 n k)) (fun k => d1 (ix2 n k)) (fun k => d2 (ix2 n k)) (fun k => d3 (ix2 n k)) (fun k => d4 (ix2 n k))
    (fun k => d5 (ix2 n k)) (fun k => d6 (ix2 n k)) (fun k => d7 (ix2 n k)) j

/-- The gradient at the stream under the norm. -/
def dh (n : Fin 8192) (k : Fin 1024) : EReal := ∑ j, dp d0 d1 d2 d3 d4 d5 d6 d7 n j * wp (ix2 k j)

/-- The gradient at the stream, added to the one that came past the layer. -/
def dx (n : Fin 8192) (k : Fin 1024) : EReal :=
  dx1 (ix2 n k) + normBwd (fun k => x (ix2 n k)) (fun k => dh d0 d1 d2 d3 d4 d5 d6 d7 wp n k * nw (ix2 l k)) k

/-- The gradient at the norm's weights. -/
def dnw (k : Fin 1024) : EReal := ∑ n, dh d0 d1 d2 d3 d4 d5 d6 d7 wp n k * (x (ix2 n k) * rowInv fun k => x (ix2 n k))

end Cert.Proj

end
-- ==== Proof.InProjKernel.lean ====
/-
  The second layer's input projection, forward: the reference's and the kernel's two results, element by element.
-/
module

public import proofs.«01_k».proof.Proof.Gen.InProjRefIdeal.Read
public import proofs.«01_k».proof.Proof.Gen.InProjIdeal.Value
public import proofs.«01_k».proof.Proof.Proj
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.InProjRefIdeal.Proj

open Cert.InProjRefIdeal Cert.InProjRefIdeal.Read Idealize.ShloMosaic Cert.Step Cert.Proj

variable (x : Arr 8192 1024 .f32) (nw : Arr 2 1024 .f32) (wp : Arr 1024 3584 .bf16)

/-- The reference's two results. -/
theorem h_apply (n : Fin 8192) (k : Fin 1024) : val_main_v14 (F := Ideal) x nw (ix2 n k) = h x nw 1 n k := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    h, normed, rowInv, rinv]
theorem h_apply' (n : Fin 8192) (k : Fin 1024) : val_main_v15 (F := Ideal) x nw (ix2 n k) = h x nw 1 n k := by
  pointwise [val_main_v15, h_apply x nw]
theorem p_apply (n : Fin 8192) (j : Fin 3584) : val_main_v17 (F := Ideal) x nw wp (ix2 n j) = p x nw wp 1 n j := by
  pointwise [val_main_v17, val_main_v16, h_apply x nw, p]

end Cert.InProjRefIdeal.Proj

namespace Cert.InProjIdeal.Proj

open Cert.InProjIdeal Cert.InProjIdeal.Gen Idealize.ShloMosaic Idealize.ShloMosaic.TcCoe Idealize.SL.Sem Cert.Step Cert.Proj
open Idealize.ShloMosaic.Pipeline (Dat)

variable (m : (ℓ : Loc nD τ sig) → Buf (Elt Ideal) ℓ)

/-- The arguments as the specification takes them. -/
abbrev argX (c : Dev nD) : Arr 8192 1024 .f32 := m ((c : Thread nD τ).loc main_arg0)
abbrev argN (c : Dev nD) : Arr 2 1024 .f32 := m ((c : Thread nD τ).loc main_arg1)
abbrev argW (c : Dev nD) : Arr 1024 3584 .bf16 := m ((c : Thread nD τ).loc main_arg2)

/-- Which block each window is at. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0])

/-- The token of a row of a point's block. -/
abbrev token (t : Fin cfg0.N) (r : Fin 1024) : Fin 8192 := ⟨t.val * 1024 + r.val, by have := lt_of_lt_of_eq t.isLt N_0; omega⟩

/-- A point's rows and weights, read off the arguments. -/
theorem blkX (c : Dev nD) (t : Fin cfg0.N) (r k : Fin 1024) : iblk m c 0 t (ix2 r k) = argX m c (ix2 (token t r) k) := by
  blk_ext [iblk, V_main_arg0, idx t]
def nwRow (c : Dev nD) (t : Fin cfg0.N) : FVec Ideal S1x1024 .f32 :=
  View.ld (iblk m c 1 t) (Rect.unit ![1, 0] ![1, 1024] inb_S2x1024_S1x1024_1_0)
theorem blkN (c : Dev nD) (t : Fin cfg0.N) (k : Fin 1024) : nwRow m c t (ix2 0 k) = argN m c (ix2 1 k) := by
  have e : nwRow m c t (ix2 0 k) = iblk m c 1 t (ix2 1 k) := by
    unfold nwRow
    generalize iblk m c 1 t = b
    pointwise []
  rw [e]
  blk_ext [iblk, V_main_arg1, idx t]
theorem blkW (c : Dev nD) (t : Fin cfg0.N) (k : Fin 1024) (j : Fin 3584) : iblk m c 2 t (ix2 k j) = argW m c (ix2 k j) := by
  blk_ext [iblk, V_main_arg2, idx t]

/-- What a point computes. -/
theorem hBlk_apply (c : Dev nD) (t : Fin cfg0.N) (r k : Fin 1024) :
    k0_pay1 (iblk m c 0 t) (nwRow m c t) (ix2 r k) = h (argX m c) (argN m c) 1 (token t r) k := by
  have hX := blkX m c t
  have hN := blkN m c t
  generalize iblk m c 0 t = X at hX ⊢
  generalize nwRow m c t = N at hN ⊢
  pointwise [k0_pay1, hX, hN, h, normed, rowInv, rinv]
theorem pBlk_apply (c : Dev nD) (t : Fin cfg0.N) (r : Fin 1024) (j : Fin 3584) :
    k0_pay2 (iblk m c 0 t) (nwRow m c t) (iblk m c 2 t) (ix2 r j) = p (argX m c) (argN m c) (argW m c) 1 (token t r) j := by
  have hh := hBlk_apply m c t
  have hW := blkW m c t
  unfold k0_pay2
  generalize k0_pay1 (iblk m c 0 t) (nwRow m c t) = H at hh ⊢
  generalize iblk m c 2 t = W at hW ⊢
  pointwise [hh, hW, p]

/-- The two result arrays. -/
theorem final_h (c : Dev nD) : (dats m 0 c).arrAt 3 cfg0.N
    = fun i : S8192x1024.Idx => h (argX m c) (argN m c) 1 (i 0) (i 1) := by
  refine (dats m 0 c).arrAt_eq_of_covers 3 _ (by decide +kernel) fun t hf y => ?_
  blk_simp
  rw [after0_3]
  frame_out
  idx_vars y
  refine (hBlk_apply m c t _ _).trans (congrArg₂ (h _ _ _) (Fin.ext ?_) (Fin.ext ?_)) <;> blk_simp [idx t]
theorem final_p (c : Dev nD) : (dats m 0 c).arrAt 4 cfg0.N
    = fun i : S8192x3584.Idx => p (argX m c) (argN m c) (argW m c) 1 (i 0) (i 1) := by
  refine (dats m 0 c).arrAt_eq_of_covers 4 _ (by decide +kernel) fun t hf y => ?_
  blk_simp
  rw [after0_4]
  frame_out
  idx_vars y
  refine (pBlk_apply m c t _ _).trans (congrArg₂ (p _ _ _ _) (Fin.ext ?_) (Fin.ext ?_)) <;> blk_simp [idx t]

end Cert.InProjIdeal.Proj

end
-- ==== Proof.InProjBwd0Kernel.lean ====
/-
  The first layer's input projection, backward: the reference's and the kernel's three results, element by element.
-/
module

public import proofs.«01_k».proof.Proof.Gen.InProjBwd0RefIdeal.Read
public import proofs.«01_k».proof.Proof.Gen.InProjBwd0Ideal.Value
public import proofs.«01_k».proof.Proof.Proj
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.InProjBwd0RefIdeal.Proj

open Cert.InProjBwd0RefIdeal Cert.InProjBwd0RefIdeal.Read Idealize.ShloMosaic Cert.Step Cert.Proj

variable (d0 d1 : Arr 8192 768 .bf16) (d2 : Arr 8192 512 .bf16) (d3 : Arr 8192 768 .bf16) (d4 d5 : Arr 8192 256 .bf16)
  (d6 d7 : Arr 8192 128 .bf16) (x dx1 : Arr 8192 1024 .f32) (nw : Arr 2 1024 .f32) (wp : Arr 1024 3584 .bf16)

theorem dp_apply (n : Fin 8192) (j : Fin 3584) : val_main_v0 (F := Ideal) d0 d1 d2 d3 d4 d5 d6 d7 (ix2 n j) = dp d0 d1 d2 d3 d4 d5 d6 d7 n j := by
  pointwise [val_main_v0, dp, side]
theorem dh_apply (n : Fin 8192) (k : Fin 1024) : val_main_v22 (F := Ideal) d0 d1 d2 d3 d4 d5 d6 d7 wp (ix2 n k) = dh d0 d1 d2 d3 d4 d5 d6 d7 wp n k := by
  have hd := dp_apply d0 d1 d2 d3 d4 d5 d6 d7
  pointwise [val_main_v22, val_main_v21, val_main_v19, hd, dh]
theorem inv_apply (n : Fin 8192) (j : Fin 1) : val_main_v10 (F := Ideal) x (ix2 n j) = rowInv fun k => x (ix2 n k) := by
  pointwise [val_main_v10, val_main_v9, val_main_v8, val_main_v7, val_main_v6, val_main_v5, val_main_v4, val_main_v3, val_main_cst,
    val_main_cst_0, val_main_cst_1, rowInv, rinv]
theorem dx_apply (n : Fin 8192) (k : Fin 1024) : val_main_v43 (F := Ideal) d0 d1 d2 d3 d4 d5 d6 d7 x dx1 nw wp (ix2 n k)
    = dx d0 d1 d2 d3 d4 d5 d6 d7 x dx1 nw wp 0 n k := by
  have hd := dh_apply d0 d1 d2 d3 d4 d5 d6 d7 wp
  have hi := inv_apply x
  pointwise [val_main_v43, val_main_v42, val_main_v41, val_main_v40, val_main_v39, val_main_v38, val_main_v37, val_main_v36, val_main_v35,
    val_main_v34, val_main_v33, val_main_v32, val_main_v31, val_main_v30, val_main_v29, val_main_v27, val_main_v26, val_main_v16,
    val_main_v13, val_main_v12, val_main_v11, val_main_v9, val_main_v8, val_main_v7, val_main_v6, val_main_v5, val_main_v4, val_main_v3,
    val_main_v2, val_main_v1, val_main_cst, val_main_cst_0, val_main_cst_1, val_main_cst_2, val_main_cst_5, val_main_cst_6,
    val_main_cst_7, hd, hi]
  simp only [Finset.univ_unique, Finset.sum_singleton]
  rw [mul_comm _ (x (ix2 n k))]
  exact congrArg (dx1 (ix2 n k) + ·) (normBwd_eq (fun k => x (ix2 n k)) (fun k => dh d0 d1 d2 d3 d4 d5 d6 d7 wp n k * nw (ix2 0 k)) k)
theorem dnw_apply (k : Fin 1024) : val_main_v44 (F := Ideal) d0 d1 d2 d3 d4 d5 d6 d7 x wp (ix2 0 k) = dnw d0 d1 d2 d3 d4 d5 d6 d7 x wp k := by
  have hd := dh_apply d0 d1 d2 d3 d4 d5 d6 d7 wp
  have hi := inv_apply x
  pointwise [val_main_v44, val_main_v28, val_main_v25, val_main_v24, val_main_v23, val_main_v15, val_main_v14, val_main_cst_3,
    val_main_cst_4, hd, hi, dnw, mul_comm]
  simp only [Finset.univ_unique, Finset.sum_singleton]

end Cert.InProjBwd0RefIdeal.Proj

namespace Cert.InProjBwd0Ideal.Proj

open Cert.InProjBwd0Ideal Cert.InProjBwd0Ideal.Gen Idealize.ShloMosaic Idealize.ShloMosaic.TcCoe Idealize.SL.Sem Cert.Step Cert.Proj
open Idealize.ShloMosaic.Pipeline (Dat)

variable (m : (ℓ : Loc nD τ sig) → Buf (Elt Ideal) ℓ)

/-- The arguments as the specification takes them. -/
abbrev argD0 (c : Dev nD) : Arr 8192 768 .bf16 := m ((c : Thread nD τ).loc main_arg0)
abbrev argD1 (c : Dev nD) : Arr 8192 768 .bf16 := m ((c : Thread nD τ).loc main_arg1)
abbrev argD2 (c : Dev nD) : Arr 8192 512 .bf16 := m ((c : Thread nD τ).loc main_arg2)
abbrev argD3 (c : Dev nD) : Arr 8192 768 .bf16 := m ((c : Thread nD τ).loc main_arg3)
abbrev argD4 (c : Dev nD) : Arr 8192 256 .bf16 := m ((c : Thread nD τ).loc main_arg4)
abbrev argD5 (c : Dev nD) : Arr 8192 256 .bf16 := m ((c : Thread nD τ).loc main_arg5)
abbrev argD6 (c : Dev nD) : Arr 8192 128 .bf16 := m ((c : Thread nD τ).loc main_arg6)
abbrev argD7 (c : Dev nD) : Arr 8192 128 .bf16 := m ((c : Thread nD τ).loc main_arg7)
abbrev argX (c : Dev nD) : Arr 8192 1024 .f32 := m ((c : Thread nD τ).loc main_arg8)
abbrev argY (c : Dev nD) : Arr 8192 1024 .f32 := m ((c : Thread nD τ).loc main_arg9)
abbrev argN (c : Dev nD) : Arr 2 1024 .f32 := m ((c : Thread nD τ).loc main_arg10)
abbrev argW (c : Dev nD) : Arr 1024 3584 .bf16 := m ((c : Thread nD τ).loc main_arg11)

/-- Which block each window is at. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![0, 0] ∧ win0_11.index t = ![0, 0]
    ∧ win0_12.index t = ![t.val, 0] ∧ win0_13.index t = ![t.val, 0] ∧ win0_14.index t = ![0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![0, 0] ∧ win0_11.index t = ![0, 0]
    ∧ win0_12.index t = ![t.val, 0] ∧ win0_13.index t = ![t.val, 0] ∧ win0_14.index t = ![0, 0])

/-- The token of a row of a point's block. -/
abbrev token (t : Fin cfg0.N) (r : Fin 512) : Fin 8192 := ⟨t.val * 512 + r.val, by have := lt_of_lt_of_eq t.isLt N_0; omega⟩

/-- A point's rows and weights, read off the arguments. -/
theorem blk0 (c : Dev nD) (t : Fin cfg0.N) (r : Fin 512) (k : Fin 768) : iblk m c 0 t (ix2 r k) = argD0 m c (ix2 (token t r) k) := by
  blk_ext [iblk, V_main_arg0, idx t]
theorem blk1 (c : Dev nD) (t : Fin cfg0.N) (r : Fin 512) (k : Fin 768) : iblk m c 1 t (ix2 r k) = argD1 m c (ix2 (token t r) k) := by
  blk_ext [iblk, V_main_arg1, idx t]
theorem blk2 (c : Dev nD) (t : Fin cfg0.N) (r : Fin 512) (k : Fin 512) : iblk m c 2 t (ix2 r k) = argD2 m c (ix2 (token t r) k) := by
  blk_ext [iblk, V_main_arg2, idx t]
theorem blk3 (c : Dev nD) (t : Fin cfg0.N) (r : Fin 512) (k : Fin 768) : iblk m c 3 t (ix2 r k) = argD3 m c (ix2 (token t r) k) := by
  blk_ext [iblk, V_main_arg3, idx t]
theorem blk4 (c : Dev nD) (t : Fin cfg0.N) (r : Fin 512) (k : Fin 256) : iblk m c 4 t (ix2 r k) = argD4 m c (ix2 (token t r) k) := by
  blk_ext [iblk, V_main_arg4, idx t]
theorem blk5 (c : Dev nD) (t : Fin cfg0.N) (r : Fin 512) (k : Fin 256) : iblk m c 5 t (ix2 r k) = argD5 m c (ix2 (token t r) k) := by
  blk_ext [iblk, V_main_arg5, idx t]
theorem blk6 (c : Dev nD) (t : Fin cfg0.N) (r : Fin 512) (k : Fin 128) : iblk m c 6 t (ix2 r k) = argD6 m c (ix2 (token t r) k) := by
  blk_ext [iblk, V_main_arg6, idx t]
theorem blk7 (c : Dev nD) (t : Fin cfg0.N) (r : Fin 512) (k : Fin 128) : iblk m c 7 t (ix2 r k) = argD7 m c (ix2 (token t r) k) := by
  blk_ext [iblk, V_main_arg7, idx t]
theorem blkX (c : Dev nD) (t : Fin cfg0.N) (r : Fin 512) (k : Fin 1024) : iblk m c 8 t (ix2 r k) = argX m c (ix2 (token t r) k) := by
  blk_ext [iblk, V_main_arg8, idx t]
theorem blkY (c : Dev nD) (t : Fin cfg0.N) (r : Fin 512) (k : Fin 1024) : iblk m c 9 t (ix2 r k) = argY m c (ix2 (token t r) k) := by
  blk_ext [iblk, V_main_arg9, idx t]
def nwRow (c : Dev nD) (t : Fin cfg0.N) : FVec Ideal S1x1024 .f32 :=
  View.ld (iblk m c 10 t) (Rect.unit ![0, 0] ![1, 1024] inb_S2x1024_S1x1024_0_0)
theorem blkN (c : Dev nD) (t : Fin cfg0.N) (k : Fin 1024) : nwRow m c t (ix2 0 k) = argN m c (ix2 0 k) := by
  have e : nwRow m c t (ix2 0 k) = iblk m c 10 t (ix2 0 k) := by
    unfold nwRow
    generalize iblk m c 10 t = b
    pointwise []
  rw [e]
  blk_ext [iblk, V_main_arg10, idx t]
theorem blkW (c : Dev nD) (t : Fin cfg0.N) (k : Fin 1024) (j : Fin 3584) : iblk m c 11 t (ix2 k j) = argW m c (ix2 k j) := by
  blk_ext [iblk, V_main_arg11, idx t]

/-- What a point computes, each value from the ones before it. -/
def dpBlk (c : Dev nD) (t : Fin cfg0.N) : FVec Ideal S512x3584 .bf16 :=
  k0_pay4 (iblk m c 0 t) (iblk m c 1 t) (iblk m c 2 t) (iblk m c 3 t) (iblk m c 4 t) (iblk m c 5 t) (iblk m c 6 t) (iblk m c 7 t)
def dhBlk (c : Dev nD) (t : Fin cfg0.N) : FVec Ideal S512x1024 .f32 :=
  k0_pay5 (iblk m c 0 t) (iblk m c 1 t) (iblk m c 2 t) (iblk m c 3 t) (iblk m c 4 t) (iblk m c 5 t) (iblk m c 6 t) (iblk m c 7 t) (iblk m c 11 t)
def dxBlk (c : Dev nD) (t : Fin cfg0.N) : FVec Ideal S512x1024 .f32 :=
  k0_pay1 (dhBlk m c t) (nwRow m c t) (k0_pay6 (iblk m c 8 t)) (k0_pay7 (iblk m c 8 t)) (iblk m c 9 t)
def dnwStep (c : Dev nD) (t : Fin cfg0.N) (acc : FVec Ideal S1x1024 .f32) : FVec Ideal S1x1024 .f32 :=
  k0_pay2 (dhBlk m c t) (k0_pay7 (iblk m c 8 t)) acc

/-- The outputs' staging buffers after a point. -/
theorem outs_dp (c : Dev nD) (t : Fin cfg0.N) : (outsAt0 m c t.val t.isLt).1 = dpBlk m c t := by
  by_cases h0 : t.val % 16 = 0
  · rw [outsAt0_A m c t h0]; frame_out; rfl
  · rw [outsAt0_B m c t h0]; frame_out; rfl
theorem outs_dx (c : Dev nD) (t : Fin cfg0.N) : (outsAt0 m c t.val t.isLt).2.1 = dxBlk m c t := by
  by_cases h0 : t.val % 16 = 0
  · rw [outsAt0_A m c t h0]; frame_out; rfl
  · rw [outsAt0_B m c t h0]; frame_out; rfl
theorem outs_dnw_A (c : Dev nD) (t : Fin cfg0.N) (h0 : t.val % 16 = 0) : (outsAt0 m c t.val t.isLt).2.2 = dnwStep m c t k0_pay3 := by
  rw [outsAt0_A m c t h0]; frame_out; rfl
theorem outs_dnw_B (c : Dev nD) (t : Fin cfg0.N) (h0 : ¬t.val % 16 = 0) (hlt : t.val - 1 < cfg0.N) :
    (outsAt0 m c t.val t.isLt).2.2 = dnwStep m c t (outsAt0 m c (t.val - 1) hlt).2.2 := by
  rw [outsAt0_B m c t h0]; frame_out; rfl

/-- Their elements. -/
theorem dpBlk_apply (c : Dev nD) (t : Fin cfg0.N) (r : Fin 512) (j : Fin 3584) :
    dpBlk m c t (ix2 r j) = dp (argD0 m c) (argD1 m c) (argD2 m c) (argD3 m c) (argD4 m c) (argD5 m c) (argD6 m c) (argD7 m c) (token t r) j := by
  have h0 := blk0 m c t r
  have h1 := blk1 m c t r
  have h2 := blk2 m c t r
  have h3 := blk3 m c t r
  have h4 := blk4 m c t r
  have h5 := blk5 m c t r
  have h6 := blk6 m c t r
  have h7 := blk7 m c t r
  unfold dpBlk
  generalize iblk m c 0 t = D0 at h0 ⊢
  generalize iblk m c 1 t = D1 at h1 ⊢
  generalize iblk m c 2 t = D2 at h2 ⊢
  generalize iblk m c 3 t = D3 at h3 ⊢
  generalize iblk m c 4 t = D4 at h4 ⊢
  generalize iblk m c 5 t = D5 at h5 ⊢
  generalize iblk m c 6 t = D6 at h6 ⊢
  generalize iblk m c 7 t = D7 at h7 ⊢
  pointwise [k0_pay4, h0, h1, h2, h3, h4, h5, h6, h7, dp, side]
theorem dhBlk_apply (c : Dev nD) (t : Fin cfg0.N) (r : Fin 512) (k : Fin 1024) :
    dhBlk m c t (ix2 r k) = dh (argD0 m c) (argD1 m c) (argD2 m c) (argD3 m c) (argD4 m c) (argD5 m c) (argD6 m c) (argD7 m c) (argW m c) (token t r) k := by
  have hd := dpBlk_apply m c t r
  have hW := blkW m c t
  unfold dhBlk k0_pay5
  unfold dpBlk at hd
  generalize k0_pay4 (iblk m c 0 t) (iblk m c 1 t) (iblk m c 2 t) (iblk m c 3 t) (iblk m c 4 t) (iblk m c 5 t) (iblk m c 6 t) (iblk m c 7 t) = D at hd ⊢
  generalize iblk m c 11 t = W at hW ⊢
  pointwise [hd, hW, dh]
theorem dxBlk_apply (c : Dev nD) (t : Fin cfg0.N) (r : Fin 512) (k : Fin 1024) :
    dxBlk m c t (ix2 r k) = dx (argD0 m c) (argD1 m c) (argD2 m c) (argD3 m c) (argD4 m c) (argD5 m c) (argD6 m c) (argD7 m c) (argX m c) (argY m c) (argN m c) (argW m c) 0 (token t r) k := by
  have hd := dhBlk_apply m c t r
  have hX := blkX m c t r
  have hY := blkY m c t r
  have hN := blkN m c t
  unfold dxBlk
  generalize dhBlk m c t = D at hd ⊢
  generalize iblk m c 8 t = X at hX ⊢
  generalize iblk m c 9 t = Y at hY ⊢
  generalize nwRow m c t = N at hN ⊢
  pointwise [k0_pay1, k0_pay7, k0_pay6, hd, hX, hY, hN, dx, normBwd, rowInv, rinv]
theorem dnwStep_apply (c : Dev nD) (t : Fin cfg0.N) (acc : FVec Ideal S1x1024 .f32) (k : Fin 1024) :
    dnwStep m c t acc (ix2 0 k) = acc (ix2 0 k) + ∑ r : Fin 512,
      dh (argD0 m c) (argD1 m c) (argD2 m c) (argD3 m c) (argD4 m c) (argD5 m c) (argD6 m c) (argD7 m c) (argW m c) (token t r) k
        * (argX m c (ix2 (token t r) k) * rowInv fun k => argX m c (ix2 (token t r) k)) := by
  have hd := dhBlk_apply m c t
  have hX := blkX m c t
  unfold dnwStep
  generalize dhBlk m c t = D at hd ⊢
  generalize iblk m c 8 t = X at hX ⊢
  pointwise [k0_pay2, k0_pay7, k0_pay6, hd, hX, rowInv, rinv]

/-- The three result arrays. -/
theorem final_dp (c : Dev nD) : (dats m 0 c).arrAt 12 cfg0.N
    = fun i : S8192x3584.Idx => dp (argD0 m c) (argD1 m c) (argD2 m c) (argD3 m c) (argD4 m c) (argD5 m c) (argD6 m c) (argD7 m c) (i 0) (i 1) := by
  refine (dats m 0 c).arrAt_eq_of_covers 12 _ (by decide +kernel) fun t hf y => ?_
  blk_simp
  rw [after0_12, outs_dp]
  idx_vars y
  refine (dpBlk_apply m c t _ _).trans (congrArg₂ (dp _ _ _ _ _ _ _ _) (Fin.ext ?_) (Fin.ext ?_)) <;> blk_simp [idx t]
theorem final_dx (c : Dev nD) : (dats m 0 c).arrAt 13 cfg0.N = fun i : S8192x1024.Idx =>
    dx (argD0 m c) (argD1 m c) (argD2 m c) (argD3 m c) (argD4 m c) (argD5 m c) (argD6 m c) (argD7 m c) (argX m c) (argY m c) (argN m c) (argW m c) 0 (i 0) (i 1) := by
  refine (dats m 0 c).arrAt_eq_of_covers 13 _ (by decide +kernel) fun t hf y => ?_
  blk_simp
  rw [after0_13, outs_dx]
  idx_vars y
  refine (dxBlk_apply m c t _ _).trans (congrArg₂ (dx _ _ _ _ _ _ _ _ _ _ _ _ _) (Fin.ext ?_) (Fin.ext ?_)) <;> blk_simp [idx t]

/-- The grid's last point. -/
abbrev tLast : Fin cfg0.N := ⟨15, by decide⟩

theorem final_dnw (c : Dev nD) : (dats m 0 c).arrAt 14 cfg0.N = fun i : S1x1024.Idx =>
    dnw (argD0 m c) (argD1 m c) (argD2 m c) (argD3 m c) (argD4 m c) (argD5 m c) (argD6 m c) (argD7 m c) (argX m c) (argW m c) (i 1) := by
  refine (dats m 0 c).arrAt_eq_of_after_last 14 tLast (by decide +kernel) _ fun y => ?_
  blk_simp
  rw [after0_14]
  obtain ⟨k, rfl⟩ : ∃ (k : Fin 1024), y = ix2 0 k := ⟨y 1, (eq_ix2 y).trans (congrArg (ix2 · (y 1)) (Subsingleton.elim _ _))⟩
  rw [Pipeline.eq_sum_fin_of_reset_step_apply_last (fun n h => (outsAt0 m c n h).2.2) 16 (fun _ => (0 : EReal))
    (fun t y => ∑ r : Fin 512, dh (argD0 m c) (argD1 m c) (argD2 m c) (argD3 m c) (argD4 m c) (argD5 m c) (argD6 m c) (argD7 m c) (argW m c)
        (token t r) (y 1) * (argX m c (ix2 (token t r) (y 1)) * rowInv fun k => argX m c (ix2 (token t r) k)))
    (fun t h y => by
      obtain ⟨k, rfl⟩ : ∃ (k : Fin 1024), y = ix2 0 k := ⟨y 1, (eq_ix2 y).trans (congrArg (ix2 · (y 1)) (Subsingleton.elim _ _))⟩
      rw [outs_dnw_A m c t h]
      refine (dnwStep_apply ..).trans ?_
      exact congrArg (· + _) (by pointwise [k0_pay3]))
    (fun t h y => by
      obtain ⟨k, rfl⟩ : ∃ (k : Fin 1024), y = ix2 0 k := ⟨y 1, (eq_ix2 y).trans (congrArg (ix2 · (y 1)) (Subsingleton.elim _ _))⟩
      rw [outs_dnw_B m c t h (Nat.lt_of_le_of_lt (Nat.sub_le _ _) t.isLt)]
      exact dnwStep_apply ..)
    (le_of_eq N_0) tLast rfl (ix2 0 k), zero_add]
  unfold dnw
  exact Fin.sum_mul_add_congr fun t r hl => rfl

end Cert.InProjBwd0Ideal.Proj

end
-- ==== Proof.InProjBwdKernel.lean ====
/-
  The second layer's input projection, backward: the reference's and the kernel's three results, element by element.
-/
module

public import proofs.«01_k».proof.Proof.Gen.InProjBwdRefIdeal.Read
public import proofs.«01_k».proof.Proof.Gen.InProjBwdIdeal.Value
public import proofs.«01_k».proof.Proof.Proj
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.InProjBwdRefIdeal.Proj

open Cert.InProjBwdRefIdeal Cert.InProjBwdRefIdeal.Read Idealize.ShloMosaic Cert.Step Cert.Proj

variable (d0 d1 : Arr 8192 768 .bf16) (d2 : Arr 8192 512 .bf16) (d3 : Arr 8192 768 .bf16) (d4 d5 : Arr 8192 256 .bf16)
  (d6 d7 : Arr 8192 128 .bf16) (x dx1 : Arr 8192 1024 .f32) (nw : Arr 2 1024 .f32) (wp : Arr 1024 3584 .bf16)

theorem dp_apply (n : Fin 8192) (j : Fin 3584) : val_main_v0 (F := Ideal) d0 d1 d2 d3 d4 d5 d6 d7 (ix2 n j) = dp d0 d1 d2 d3 d4 d5 d6 d7 n j := by
  pointwise [val_main_v0, dp, side]
theorem dh_apply (n : Fin 8192) (k : Fin 1024) : val_main_v22 (F := Ideal) d0 d1 d2 d3 d4 d5 d6 d7 wp (ix2 n k) = dh d0 d1 d2 d3 d4 d5 d6 d7 wp n k := by
  have hd := dp_apply d0 d1 d2 d3 d4 d5 d6 d7
  pointwise [val_main_v22, val_main_v21, val_main_v19, hd, dh]
theorem inv_apply (n : Fin 8192) (j : Fin 1) : val_main_v10 (F := Ideal) x (ix2 n j) = rowInv fun k => x (ix2 n k) := by
  pointwise [val_main_v10, val_main_v9, val_main_v8, val_main_v7, val_main_v6, val_main_v5, val_main_v4, val_main_v3, val_main_cst,
    val_main_cst_0, val_main_cst_1, rowInv, rinv]
theorem dx_apply (n : Fin 8192) (k : Fin 1024) : val_main_v43 (F := Ideal) d0 d1 d2 d3 d4 d5 d6 d7 x dx1 nw wp (ix2 n k)
    = dx d0 d1 d2 d3 d4 d5 d6 d7 x dx1 nw wp 1 n k := by
  have hd := dh_apply d0 d1 d2 d3 d4 d5 d6 d7 wp
  have hi := inv_apply x
  pointwise [val_main_v43, val_main_v42, val_main_v41, val_main_v40, val_main_v39, val_main_v38, val_main_v37, val_main_v36, val_main_v35,
    val_main_v34, val_main_v33, val_main_v32, val_main_v31, val_main_v30, val_main_v29, val_main_v27, val_main_v26, val_main_v16,
    val_main_v13, val_main_v12, val_main_v11, val_main_v9, val_main_v8, val_main_v7, val_main_v6, val_main_v5, val_main_v4, val_main_v3,
    val_main_v2, val_main_v1, val_main_cst, val_main_cst_0, val_main_cst_1, val_main_cst_2, val_main_cst_5, val_main_cst_6,
    val_main_cst_7, hd, hi]
  simp only [Finset.univ_unique, Finset.sum_singleton]
  rw [mul_comm _ (x (ix2 n k))]
  exact congrArg (dx1 (ix2 n k) + ·) (normBwd_eq (fun k => x (ix2 n k)) (fun k => dh d0 d1 d2 d3 d4 d5 d6 d7 wp n k * nw (ix2 1 k)) k)
theorem dnw_apply (k : Fin 1024) : val_main_v44 (F := Ideal) d0 d1 d2 d3 d4 d5 d6 d7 x wp (ix2 0 k) = dnw d0 d1 d2 d3 d4 d5 d6 d7 x wp k := by
  have hd := dh_apply d0 d1 d2 d3 d4 d5 d6 d7 wp
  have hi := inv_apply x
  pointwise [val_main_v44, val_main_v28, val_main_v25, val_main_v24, val_main_v23, val_main_v15, val_main_v14, val_main_cst_3,
    val_main_cst_4, hd, hi, dnw, mul_comm]
  simp only [Finset.univ_unique, Finset.sum_singleton]

end Cert.InProjBwdRefIdeal.Proj

namespace Cert.InProjBwdIdeal.Proj

open Cert.InProjBwdIdeal Cert.InProjBwdIdeal.Gen Idealize.ShloMosaic Idealize.ShloMosaic.TcCoe Idealize.SL.Sem Cert.Step Cert.Proj
open Idealize.ShloMosaic.Pipeline (Dat)

variable (m : (ℓ : Loc nD τ sig) → Buf (Elt Ideal) ℓ)

/-- The arguments as the specification takes them. -/
abbrev argD0 (c : Dev nD) : Arr 8192 768 .bf16 := m ((c : Thread nD τ).loc main_arg0)
abbrev argD1 (c : Dev nD) : Arr 8192 768 .bf16 := m ((c : Thread nD τ).loc main_arg1)
abbrev argD2 (c : Dev nD) : Arr 8192 512 .bf16 := m ((c : Thread nD τ).loc main_arg2)
abbrev argD3 (c : Dev nD) : Arr 8192 768 .bf16 := m ((c : Thread nD τ).loc main_arg3)
abbrev argD4 (c : Dev nD) : Arr 8192 256 .bf16 := m ((c : Thread nD τ).loc main_arg4)
abbrev argD5 (c : Dev nD) : Arr 8192 256 .bf16 := m ((c : Thread nD τ).loc main_arg5)
abbrev argD6 (c : Dev nD) : Arr 8192 128 .bf16 := m ((c : Thread nD τ).loc main_arg6)
abbrev argD7 (c : Dev nD) : Arr 8192 128 .bf16 := m ((c : Thread nD τ).loc main_arg7)
abbrev argX (c : Dev nD) : Arr 8192 1024 .f32 := m ((c : Thread nD τ).loc main_arg8)
abbrev argY (c : Dev nD) : Arr 8192 1024 .f32 := m ((c : Thread nD τ).loc main_arg9)
abbrev argN (c : Dev nD) : Arr 2 1024 .f32 := m ((c : Thread nD τ).loc main_arg10)
abbrev argW (c : Dev nD) : Arr 1024 3584 .bf16 := m ((c : Thread nD τ).loc main_arg11)

/-- Which block each window is at. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![0, 0] ∧ win0_11.index t = ![0, 0]
    ∧ win0_12.index t = ![t.val, 0] ∧ win0_13.index t = ![t.val, 0] ∧ win0_14.index t = ![0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![0, 0] ∧ win0_11.index t = ![0, 0]
    ∧ win0_12.index t = ![t.val, 0] ∧ win0_13.index t = ![t.val, 0] ∧ win0_14.index t = ![0, 0])

/-- The token of a row of a point's block. -/
abbrev token (t : Fin cfg0.N) (r : Fin 512) : Fin 8192 := ⟨t.val * 512 + r.val, by have := lt_of_lt_of_eq t.isLt N_0; omega⟩

/-- A point's rows and weights, read off the arguments. -/
theorem blk0 (c : Dev nD) (t : Fin cfg0.N) (r : Fin 512) (k : Fin 768) : iblk m c 0 t (ix2 r k) = argD0 m c (ix2 (token t r) k) := by
  blk_ext [iblk, V_main_arg0, idx t]
theorem blk1 (c : Dev nD) (t : Fin cfg0.N) (r : Fin 512) (k : Fin 768) : iblk m c 1 t (ix2 r k) = argD1 m c (ix2 (token t r) k) := by
  blk_ext [iblk, V_main_arg1, idx t]
theorem blk2 (c : Dev nD) (t : Fin cfg0.N) (r : Fin 512) (k : Fin 512) : iblk m c 2 t (ix2 r k) = argD2 m c (ix2 (token t r) k) := by
  blk_ext [iblk, V_main_arg2, idx t]
theorem blk3 (c : Dev nD) (t : Fin cfg0.N) (r : Fin 512) (k : Fin 768) : iblk m c 3 t (ix2 r k) = argD3 m c (ix2 (token t r) k) := by
  blk_ext [iblk, V_main_arg3, idx t]
theorem blk4 (c : Dev nD) (t : Fin cfg0.N) (r : Fin 512) (k : Fin 256) : iblk m c 4 t (ix2 r k) = argD4 m c (ix2 (token t r) k) := by
  blk_ext [iblk, V_main_arg4, idx t]
theorem blk5 (c : Dev nD) (t : Fin cfg0.N) (r : Fin 512) (k : Fin 256) : iblk m c 5 t (ix2 r k) = argD5 m c (ix2 (token t r) k) := by
  blk_ext [iblk, V_main_arg5, idx t]
theorem blk6 (c : Dev nD) (t : Fin cfg0.N) (r : Fin 512) (k : Fin 128) : iblk m c 6 t (ix2 r k) = argD6 m c (ix2 (token t r) k) := by
  blk_ext [iblk, V_main_arg6, idx t]
theorem blk7 (c : Dev nD) (t : Fin cfg0.N) (r : Fin 512) (k : Fin 128) : iblk m c 7 t (ix2 r k) = argD7 m c (ix2 (token t r) k) := by
  blk_ext [iblk, V_main_arg7, idx t]
theorem blkX (c : Dev nD) (t : Fin cfg0.N) (r : Fin 512) (k : Fin 1024) : iblk m c 8 t (ix2 r k) = argX m c (ix2 (token t r) k) := by
  blk_ext [iblk, V_main_arg8, idx t]
theorem blkY (c : Dev nD) (t : Fin cfg0.N) (r : Fin 512) (k : Fin 1024) : iblk m c 9 t (ix2 r k) = argY m c (ix2 (token t r) k) := by
  blk_ext [iblk, V_main_arg9, idx t]
def nwRow (c : Dev nD) (t : Fin cfg0.N) : FVec Ideal S1x1024 .f32 :=
  View.ld (iblk m c 10 t) (Rect.unit ![1, 0] ![1, 1024] inb_S2x1024_S1x1024_1_0)
theorem blkN (c : Dev nD) (t : Fin cfg0.N) (k : Fin 1024) : nwRow m c t (ix2 0 k) = argN m c (ix2 1 k) := by
  have e : nwRow m c t (ix2 0 k) = iblk m c 10 t (ix2 1 k) := by
    unfold nwRow
    generalize iblk m c 10 t = b
    pointwise []
  rw [e]
  blk_ext [iblk, V_main_arg10, idx t]
theorem blkW (c : Dev nD) (t : Fin cfg0.N) (k : Fin 1024) (j : Fin 3584) : iblk m c 11 t (ix2 k j) = argW m c (ix2 k j) := by
  blk_ext [iblk, V_main_arg11, idx t]

/-- What a point computes, each value from the ones before it. -/
def dpBlk (c : Dev nD) (t : Fin cfg0.N) : FVec Ideal S512x3584 .bf16 :=
  k0_pay4 (iblk m c 0 t) (iblk m c 1 t) (iblk m c 2 t) (iblk m c 3 t) (iblk m c 4 t) (iblk m c 5 t) (iblk m c 6 t) (iblk m c 7 t)
def dhBlk (c : Dev nD) (t : Fin cfg0.N) : FVec Ideal S512x1024 .f32 :=
  k0_pay5 (iblk m c 0 t) (iblk m c 1 t) (iblk m c 2 t) (iblk m c 3 t) (iblk m c 4 t) (iblk m c 5 t) (iblk m c 6 t) (iblk m c 7 t) (iblk m c 11 t)
def dxBlk (c : Dev nD) (t : Fin cfg0.N) : FVec Ideal S512x1024 .f32 :=
  k0_pay1 (dhBlk m c t) (nwRow m c t) (k0_pay6 (iblk m c 8 t)) (k0_pay7 (iblk m c 8 t)) (iblk m c 9 t)
def dnwStep (c : Dev nD) (t : Fin cfg0.N) (acc : FVec Ideal S1x1024 .f32) : FVec Ideal S1x1024 .f32 :=
  k0_pay2 (dhBlk m c t) (k0_pay7 (iblk m c 8 t)) acc

/-- The outputs' staging buffers after a point. -/
theorem outs_dp (c : Dev nD) (t : Fin cfg0.N) : (outsAt0 m c t.val t.isLt).1 = dpBlk m c t := by
  by_cases h0 : t.val % 16 = 0
  · rw [outsAt0_A m c t h0]; frame_out; rfl
  · rw [outsAt0_B m c t h0]; frame_out; rfl
theorem outs_dx (c : Dev nD) (t : Fin cfg0.N) : (outsAt0 m c t.val t.isLt).2.1 = dxBlk m c t := by
  by_cases h0 : t.val % 16 = 0
  · rw [outsAt0_A m c t h0]; frame_out; rfl
  · rw [outsAt0_B m c t h0]; frame_out; rfl
theorem outs_dnw_A (c : Dev nD) (t : Fin cfg0.N) (h0 : t.val % 16 = 0) : (outsAt0 m c t.val t.isLt).2.2 = dnwStep m c t k0_pay3 := by
  rw [outsAt0_A m c t h0]; frame_out; rfl
theorem outs_dnw_B (c : Dev nD) (t : Fin cfg0.N) (h0 : ¬t.val % 16 = 0) (hlt : t.val - 1 < cfg0.N) :
    (outsAt0 m c t.val t.isLt).2.2 = dnwStep m c t (outsAt0 m c (t.val - 1) hlt).2.2 := by
  rw [outsAt0_B m c t h0]; frame_out; rfl

/-- Their elements. -/
theorem dpBlk_apply (c : Dev nD) (t : Fin cfg0.N) (r : Fin 512) (j : Fin 3584) :
    dpBlk m c t (ix2 r j) = dp (argD0 m c) (argD1 m c) (argD2 m c) (argD3 m c) (argD4 m c) (argD5 m c) (argD6 m c) (argD7 m c) (token t r) j := by
  have h0 := blk0 m c t r
  have h1 := blk1 m c t r
  have h2 := blk2 m c t r
  have h3 := blk3 m c t r
  have h4 := blk4 m c t r
  have h5 := blk5 m c t r
  have h6 := blk6 m c t r
  have h7 := blk7 m c t r
  unfold dpBlk
  generalize iblk m c 0 t = D0 at h0 ⊢
  generalize iblk m c 1 t = D1 at h1 ⊢
  generalize iblk m c 2 t = D2 at h2 ⊢
  generalize iblk m c 3 t = D3 at h3 ⊢
  generalize iblk m c 4 t = D4 at h4 ⊢
  generalize iblk m c 5 t = D5 at h5 ⊢
  generalize iblk m c 6 t = D6 at h6 ⊢
  generalize iblk m c 7 t = D7 at h7 ⊢
  pointwise [k0_pay4, h0, h1, h2, h3, h4, h5, h6, h7, dp, side]
theorem dhBlk_apply (c : Dev nD) (t : Fin cfg0.N) (r : Fin 512) (k : Fin 1024) :
    dhBlk m c t (ix2 r k) = dh (argD0 m c) (argD1 m c) (argD2 m c) (argD3 m c) (argD4 m c) (argD5 m c) (argD6 m c) (argD7 m c) (argW m c) (token t r) k := by
  have hd := dpBlk_apply m c t r
  have hW := blkW m c t
  unfold dhBlk k0_pay5
  unfold dpBlk at hd
  generalize k0_pay4 (iblk m c 0 t) (iblk m c 1 t) (iblk m c 2 t) (iblk m c 3 t) (iblk m c 4 t) (iblk m c 5 t) (iblk m c 6 t) (iblk m c 7 t) = D at hd ⊢
  generalize iblk m c 11 t = W at hW ⊢
  pointwise [hd, hW, dh]
theorem dxBlk_apply (c : Dev nD) (t : Fin cfg0.N) (r : Fin 512) (k : Fin 1024) :
    dxBlk m c t (ix2 r k) = dx (argD0 m c) (argD1 m c) (argD2 m c) (argD3 m c) (argD4 m c) (argD5 m c) (argD6 m c) (argD7 m c) (argX m c) (argY m c) (argN m c) (argW m c) 1 (token t r) k := by
  have hd := dhBlk_apply m c t r
  have hX := blkX m c t r
  have hY := blkY m c t r
  have hN := blkN m c t
  unfold dxBlk
  generalize dhBlk m c t = D at hd ⊢
  generalize iblk m c 8 t = X at hX ⊢
  generalize iblk m c 9 t = Y at hY ⊢
  generalize nwRow m c t = N at hN ⊢
  pointwise [k0_pay1, k0_pay7, k0_pay6, hd, hX, hY, hN, dx, normBwd, rowInv, rinv]
theorem dnwStep_apply (c : Dev nD) (t : Fin cfg0.N) (acc : FVec Ideal S1x1024 .f32) (k : Fin 1024) :
    dnwStep m c t acc (ix2 0 k) = acc (ix2 0 k) + ∑ r : Fin 512,
      dh (argD0 m c) (argD1 m c) (argD2 m c) (argD3 m c) (argD4 m c) (argD5 m c) (argD6 m c) (argD7 m c) (argW m c) (token t r) k
        * (argX m c (ix2 (token t r) k) * rowInv fun k => argX m c (ix2 (token t r) k)) := by
  have hd := dhBlk_apply m c t
  have hX := blkX m c t
  unfold dnwStep
  generalize dhBlk m c t = D at hd ⊢
  generalize iblk m c 8 t = X at hX ⊢
  pointwise [k0_pay2, k0_pay7, k0_pay6, hd, hX, rowInv, rinv]

/-- The three result arrays. -/
theorem final_dp (c : Dev nD) : (dats m 0 c).arrAt 12 cfg0.N
    = fun i : S8192x3584.Idx => dp (argD0 m c) (argD1 m c) (argD2 m c) (argD3 m c) (argD4 m c) (argD5 m c) (argD6 m c) (argD7 m c) (i 0) (i 1) := by
  refine (dats m 0 c).arrAt_eq_of_covers 12 _ (by decide +kernel) fun t hf y => ?_
  blk_simp
  rw [after0_12, outs_dp]
  idx_vars y
  refine (dpBlk_apply m c t _ _).trans (congrArg₂ (dp _ _ _ _ _ _ _ _) (Fin.ext ?_) (Fin.ext ?_)) <;> blk_simp [idx t]
theorem final_dx (c : Dev nD) : (dats m 0 c).arrAt 13 cfg0.N = fun i : S8192x1024.Idx =>
    dx (argD0 m c) (argD1 m c) (argD2 m c) (argD3 m c) (argD4 m c) (argD5 m c) (argD6 m c) (argD7 m c) (argX m c) (argY m c) (argN m c) (argW m c) 1 (i 0) (i 1) := by
  refine (dats m 0 c).arrAt_eq_of_covers 13 _ (by decide +kernel) fun t hf y => ?_
  blk_simp
  rw [after0_13, outs_dx]
  idx_vars y
  refine (dxBlk_apply m c t _ _).trans (congrArg₂ (dx _ _ _ _ _ _ _ _ _ _ _ _ _) (Fin.ext ?_) (Fin.ext ?_)) <;> blk_simp [idx t]

/-- The grid's last point. -/
abbrev tLast : Fin cfg0.N := ⟨15, by decide⟩

theorem final_dnw (c : Dev nD) : (dats m 0 c).arrAt 14 cfg0.N = fun i : S1x1024.Idx =>
    dnw (argD0 m c) (argD1 m c) (argD2 m c) (argD3 m c) (argD4 m c) (argD5 m c) (argD6 m c) (argD7 m c) (argX m c) (argW m c) (i 1) := by
  refine (dats m 0 c).arrAt_eq_of_after_last 14 tLast (by decide +kernel) _ fun y => ?_
  blk_simp
  rw [after0_14]
  obtain ⟨k, rfl⟩ : ∃ (k : Fin 1024), y = ix2 0 k := ⟨y 1, (eq_ix2 y).trans (congrArg (ix2 · (y 1)) (Subsingleton.elim _ _))⟩
  rw [Pipeline.eq_sum_fin_of_reset_step_apply_last (fun n h => (outsAt0 m c n h).2.2) 16 (fun _ => (0 : EReal))
    (fun t y => ∑ r : Fin 512, dh (argD0 m c) (argD1 m c) (argD2 m c) (argD3 m c) (argD4 m c) (argD5 m c) (argD6 m c) (argD7 m c) (argW m c)
        (token t r) (y 1) * (argX m c (ix2 (token t r) (y 1)) * rowInv fun k => argX m c (ix2 (token t r) k)))
    (fun t h y => by
      obtain ⟨k, rfl⟩ : ∃ (k : Fin 1024), y = ix2 0 k := ⟨y 1, (eq_ix2 y).trans (congrArg (ix2 · (y 1)) (Subsingleton.elim _ _))⟩
      rw [outs_dnw_A m c t h]
      refine (dnwStep_apply ..).trans ?_
      exact congrArg (· + _) (by pointwise [k0_pay3]))
    (fun t h y => by
      obtain ⟨k, rfl⟩ : ∃ (k : Fin 1024), y = ix2 0 k := ⟨y 1, (eq_ix2 y).trans (congrArg (ix2 · (y 1)) (Subsingleton.elim _ _))⟩
      rw [outs_dnw_B m c t h (Nat.lt_of_le_of_lt (Nat.sub_le _ _) t.isLt)]
      exact dnwStep_apply ..)
    (le_of_eq N_0) tLast rfl (ix2 0 k), zero_add]
  unfold dnw
  exact Fin.sum_mul_add_congr fun t r hl => rfl

end Cert.InProjBwdIdeal.Proj

end
-- ==== Proof.WgradGuKernel.lean ====
/-
  The gradient of the gate-and-up weights: the kernel's blocks summed over the tokens, and the whole product.
-/
module

public import proofs.«01_k».proof.Proof.Gen.WgradGuIdeal.Value
public import proofs.«01_k».proof.Proof.Gen.WgradGuRefIdeal.Read
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.WgradGuIdeal.Wgrad

open Cert.WgradGuIdeal Cert.WgradGuIdeal.Gen Idealize.ShloMosaic Idealize.ShloMosaic.TcCoe Idealize.SL.Sem
open Idealize.ShloMosaic.Pipeline (Dat)

/-- The gradient of a weight: the product over the tokens of what it multiplied and of the gradient at its product. -/
def spec (x : (⟨S8192x5632, .bf16⟩ : BufTy).Contents (Elt Ideal)) (y : (⟨S8192x1024, .bf16⟩ : BufTy).Contents (Elt Ideal))
    (j : Fin 5632) (k : Fin 1024) : EReal :=
  ∑ n : Fin 8192, x (ix2 n j) * y (ix2 n k)

/-- The reference's product. -/
theorem ref_apply (x : (⟨S8192x5632, .bf16⟩ : BufTy).Contents (Elt Ideal)) (y : (⟨S8192x1024, .bf16⟩ : BufTy).Contents (Elt Ideal))
    (j : Fin 5632) (k : Fin 1024) :
    Cert.WgradGuRefIdeal.Read.val_main_v7 (F := Ideal) x y (ix2 j k) = spec x y j k := by
  pointwise [Cert.WgradGuRefIdeal.Read.val_main_v7, Cert.WgradGuRefIdeal.Read.val_main_v6, Cert.WgradGuRefIdeal.Read.val_main_v5,
    Cert.WgradGuRefIdeal.Read.val_main_v4, Cert.WgradGuRefIdeal.Read.val_main_v3, Cert.WgradGuRefIdeal.Read.val_main_v1, spec]

section

variable {F : FTy → Type} [FloatOps F]
variable (m : (ℓ : Loc nD τ sig) → Buf (Elt F) ℓ)

/-- The accumulator after point `t`, when it holds `acc` before. -/
def step (c : Dev nD) (t : Fin cfg0.N) (acc : FVec F S1408x1024 .f32) : FVec F S1408x1024 .f32 := k0_pay2 (iblk m c 0 t) (iblk m c 1 t) acc

theorem acc_A (c : Dev nD) (t : Fin cfg0.N) (h0 : t.val % 4 = 0) : (outsAt0 m c t.val t.isLt).2 = step m c t k0_pay1 := by
  unfold step
  rw [outsAt0_A m c t h0 (by omega)]
  frame_out

theorem acc_B (c : Dev nD) (t : Fin cfg0.N) (h0 : ¬t.val % 4 = 0) (hlt : t.val - 1 < cfg0.N) :
    (outsAt0 m c t.val t.isLt).2 = step m c t (outsAt0 m c (t.val - 1) hlt).2 := by
  unfold step
  by_cases h1 : t.val % 4 = 3
  · rw [outsAt0_C m c t h0 h1]
    frame_out
    simp only [read_unread_whole]
  · rw [outsAt0_B m c t h0 h1]
    frame_out
    simp only [read_unread_whole]

theorem out_C (c : Dev nD) (t : Fin cfg0.N) (h1 : t.val % 4 = 3) :
    (outsAt0 m c t.val t.isLt).1 = k0_pay3 (outsAt0 m c t.val t.isLt).2 := by
  rw [outsAt0_C m c t (by omega) h1]
  frame_out

end

variable (m : (ℓ : Loc nD τ sig) → Buf (Elt Ideal) ℓ)

/-- Which block each window is at: the weight's rows run slowest, the tokens fastest. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, win0_0.index t = ![t.val % 4, t.val / 4] ∧ win0_1.index t = ![t.val % 4, 0]
    ∧ win0_2.index t = ![t.val / 4, 0])

theorem lt16 (t : Fin cfg0.N) : t.val < 16 := lt_of_lt_of_eq t.isLt N_0

/-- The arguments as the specification takes them. -/
abbrev argX (c : Dev nD) : (⟨S8192x5632, .bf16⟩ : BufTy).Contents (Elt Ideal) := m ((c : Thread nD τ).loc main_arg0)
abbrev argY (c : Dev nD) : (⟨S8192x1024, .bf16⟩ : BufTy).Contents (Elt Ideal) := m ((c : Thread nD τ).loc main_arg1)

theorem blkX (c : Dev nD) (t : Fin cfg0.N) (r : Fin 2048) (a : Fin 1408) (n : Fin 8192) (j : Fin 5632)
    (hn : n.val = t.val % 4 * 2048 + r.val) (hj : j.val = t.val / 4 * 1408 + a.val) : iblk m c 0 t (ix2 r a) = argX m c (ix2 n j) := by
  blk_ext [iblk, V_main_arg0, idx t]
theorem blkY (c : Dev nD) (t : Fin cfg0.N) (r : Fin 2048) (k : Fin 1024) (n : Fin 8192) (hn : n.val = t.val % 4 * 2048 + r.val) :
    iblk m c 1 t (ix2 r k) = argY m c (ix2 n k) := by
  blk_ext [iblk, V_main_arg1, idx t]

/-- The token and the weight's row that a place in a point's blocks stands for. -/
abbrev token (t : Fin cfg0.N) (r : Fin 2048) : Fin 8192 := ⟨t.val % 4 * 2048 + r.val, by omega⟩
abbrev wrow (t : Fin cfg0.N) (a : Fin 1408) : Fin 5632 := ⟨t.val / 4 * 1408 + a.val, by have := lt16 t; omega⟩

/-- What a point adds to the accumulator. -/
def part (c : Dev nD) (t : Fin cfg0.N) (y : S1408x1024.Idx) : EReal :=
  ∑ r : Fin 2048, argX m c (ix2 (token t r) (wrow t (y 0))) * argY m c (ix2 (token t r) (y 1))

theorem step_apply (c : Dev nD) (t : Fin cfg0.N) (acc : FVec Ideal S1408x1024 .f32) (y : S1408x1024.Idx) :
    step m c t acc y = acc y + part m c t y := by
  have hX (r : Fin 2048) (a : Fin 1408) := blkX m c t r a (token t r) (wrow t a) rfl rfl
  have hY (r : Fin 2048) (k : Fin 1024) := blkY m c t r k (token t r) rfl
  idx_vars y
  unfold step
  generalize iblk m c 0 t = X at hX ⊢
  generalize iblk m c 1 t = Y at hY ⊢
  pointwise [k0_pay2, part, hX, hY]

/-- The result array. -/
theorem final (c : Dev nD) : (dats m 0 c).arrAt 2 cfg0.N = fun i : S5632x1024.Idx => spec (argX m c) (argY m c) (i 0) (i 1) := by
  refine (dats m 0 c).arrAt_eq_of_covers 2 _ (by decide +kernel) fun t hf y => ?_
  have h3 : t.val % 4 = 3 := (flush0_2 t).mp hf
  blk_simp
  rw [after0_2, out_C m c t h3]
  refine (Pipeline.eq_sum_fin_of_reset_step_apply_of_flush (fun n h => (outsAt0 m c n h).2) 4 (fun _ => (0 : EReal)) (part m c)
    (fun t h y => by
      rw [acc_A m c t h, step_apply]
      exact congrArg (· + _) (by idx_vars y; pointwise [k0_pay1]))
    (fun t h y => by rw [acc_B m c t h (Nat.lt_of_le_of_lt (Nat.sub_le _ _) t.isLt), step_apply]) t h3 y).trans ?_
  rw [zero_add]
  unfold part spec
  refine Fin.sum_mul_add_congr fun s r hl => ?_
  have hs : (4 * (t.val / 4) + s.val) % 4 = s.val := by omega
  have hd : (4 * (t.val / 4) + s.val) / 4 = t.val / 4 := by omega
  refine congrArg₂ (· * ·) (congrArg _ ?_) (congrArg _ ?_)
  · refine congrArg₂ ix2 (Fin.ext ?_) (Fin.ext ?_) <;> (try simp only [hs, hd]) <;> (try blk_simp [idx t])
  · refine congrArg₂ ix2 (Fin.ext ?_) (Fin.ext ?_) <;> (try simp only [hs, hd]) <;> (try blk_simp [idx t])

end Cert.WgradGuIdeal.Wgrad

end
-- ==== Proof.WgradDownKernel.lean ====
/-
  The gradient of the down projection: the kernel's blocks summed over the tokens, and the whole product.
-/
module

public import proofs.«01_k».proof.Proof.Gen.WgradDownIdeal.Value
public import proofs.«01_k».proof.Proof.Gen.WgradDownRefIdeal.Read
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.WgradDownIdeal.Wgrad

open Cert.WgradDownIdeal Cert.WgradDownIdeal.Gen Idealize.ShloMosaic Idealize.ShloMosaic.TcCoe Idealize.SL.Sem
open Idealize.ShloMosaic.Pipeline (Dat)

/-- The gradient of a weight: the product over the tokens of what it multiplied and of the gradient at its product. -/
def spec (x : (⟨S8192x2816, .bf16⟩ : BufTy).Contents (Elt Ideal)) (y : (⟨S8192x1024, .f32⟩ : BufTy).Contents (Elt Ideal))
    (j : Fin 2816) (k : Fin 1024) : EReal :=
  ∑ n : Fin 8192, x (ix2 n j) * y (ix2 n k)

/-- The reference's product. -/
theorem ref_apply (x : (⟨S8192x2816, .bf16⟩ : BufTy).Contents (Elt Ideal)) (y : (⟨S8192x1024, .f32⟩ : BufTy).Contents (Elt Ideal))
    (j : Fin 2816) (k : Fin 1024) :
    Cert.WgradDownRefIdeal.Read.val_main_v5 (F := Ideal) x y (ix2 j k) = spec x y j k := by
  pointwise [Cert.WgradDownRefIdeal.Read.val_main_v5, Cert.WgradDownRefIdeal.Read.val_main_v4, Cert.WgradDownRefIdeal.Read.val_main_v3, Cert.WgradDownRefIdeal.Read.val_main_v1, spec, mul_comm]

section

variable {F : FTy → Type} [FloatOps F]
variable (m : (ℓ : Loc nD τ sig) → Buf (Elt F) ℓ)

/-- The accumulator after point `t`, when it holds `acc` before. -/
def step (c : Dev nD) (t : Fin cfg0.N) (acc : FVec F S1408x1024 .f32) : FVec F S1408x1024 .f32 := k0_pay2 (iblk m c 0 t) (iblk m c 1 t) acc

theorem acc_A (c : Dev nD) (t : Fin cfg0.N) (h0 : t.val % 4 = 0) : (outsAt0 m c t.val t.isLt).2 = step m c t k0_pay1 := by
  unfold step
  rw [outsAt0_A m c t h0 (by omega)]
  frame_out

theorem acc_B (c : Dev nD) (t : Fin cfg0.N) (h0 : ¬t.val % 4 = 0) (hlt : t.val - 1 < cfg0.N) :
    (outsAt0 m c t.val t.isLt).2 = step m c t (outsAt0 m c (t.val - 1) hlt).2 := by
  unfold step
  by_cases h1 : t.val % 4 = 3
  · rw [outsAt0_C m c t h0 h1]
    frame_out
    simp only [read_unread_whole]
  · rw [outsAt0_B m c t h0 h1]
    frame_out
    simp only [read_unread_whole]

theorem out_C (c : Dev nD) (t : Fin cfg0.N) (h1 : t.val % 4 = 3) :
    (outsAt0 m c t.val t.isLt).1 = k0_pay3 (outsAt0 m c t.val t.isLt).2 := by
  rw [outsAt0_C m c t (by omega) h1]
  frame_out

end

variable (m : (ℓ : Loc nD τ sig) → Buf (Elt Ideal) ℓ)

/-- Which block each window is at: the weight's rows run slowest, the tokens fastest. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, win0_0.index t = ![t.val % 4, t.val / 4] ∧ win0_1.index t = ![t.val % 4, 0]
    ∧ win0_2.index t = ![t.val / 4, 0])

theorem lt8 (t : Fin cfg0.N) : t.val < 8 := lt_of_lt_of_eq t.isLt N_0

/-- The arguments as the specification takes them. -/
abbrev argX (c : Dev nD) : (⟨S8192x2816, .bf16⟩ : BufTy).Contents (Elt Ideal) := m ((c : Thread nD τ).loc main_arg0)
abbrev argY (c : Dev nD) : (⟨S8192x1024, .f32⟩ : BufTy).Contents (Elt Ideal) := m ((c : Thread nD τ).loc main_arg1)

theorem blkX (c : Dev nD) (t : Fin cfg0.N) (r : Fin 2048) (a : Fin 1408) (n : Fin 8192) (j : Fin 2816)
    (hn : n.val = t.val % 4 * 2048 + r.val) (hj : j.val = t.val / 4 * 1408 + a.val) : iblk m c 0 t (ix2 r a) = argX m c (ix2 n j) := by
  blk_ext [iblk, V_main_arg0, idx t]
theorem blkY (c : Dev nD) (t : Fin cfg0.N) (r : Fin 2048) (k : Fin 1024) (n : Fin 8192) (hn : n.val = t.val % 4 * 2048 + r.val) :
    iblk m c 1 t (ix2 r k) = argY m c (ix2 n k) := by
  blk_ext [iblk, V_main_arg1, idx t]

/-- The token and the weight's row that a place in a point's blocks stands for. -/
abbrev token (t : Fin cfg0.N) (r : Fin 2048) : Fin 8192 := ⟨t.val % 4 * 2048 + r.val, by omega⟩
abbrev wrow (t : Fin cfg0.N) (a : Fin 1408) : Fin 2816 := ⟨t.val / 4 * 1408 + a.val, by have := lt8 t; omega⟩

/-- What a point adds to the accumulator. -/
def part (c : Dev nD) (t : Fin cfg0.N) (y : S1408x1024.Idx) : EReal :=
  ∑ r : Fin 2048, argX m c (ix2 (token t r) (wrow t (y 0))) * argY m c (ix2 (token t r) (y 1))

theorem step_apply (c : Dev nD) (t : Fin cfg0.N) (acc : FVec Ideal S1408x1024 .f32) (y : S1408x1024.Idx) :
    step m c t acc y = acc y + part m c t y := by
  have hX (r : Fin 2048) (a : Fin 1408) := blkX m c t r a (token t r) (wrow t a) rfl rfl
  have hY (r : Fin 2048) (k : Fin 1024) := blkY m c t r k (token t r) rfl
  idx_vars y
  unfold step
  generalize iblk m c 0 t = X at hX ⊢
  generalize iblk m c 1 t = Y at hY ⊢
  pointwise [k0_pay2, part, hX, hY]

/-- The result array. -/
theorem final (c : Dev nD) : (dats m 0 c).arrAt 2 cfg0.N = fun i : S2816x1024.Idx => spec (argX m c) (argY m c) (i 0) (i 1) := by
  refine (dats m 0 c).arrAt_eq_of_covers 2 _ (by decide +kernel) fun t hf y => ?_
  have h3 : t.val % 4 = 3 := (flush0_2 t).mp hf
  blk_simp
  rw [after0_2, out_C m c t h3]
  refine (Pipeline.eq_sum_fin_of_reset_step_apply_of_flush (fun n h => (outsAt0 m c n h).2) 4 (fun _ => (0 : EReal)) (part m c)
    (fun t h y => by
      rw [acc_A m c t h, step_apply]
      exact congrArg (· + _) (by idx_vars y; pointwise [k0_pay1]))
    (fun t h y => by rw [acc_B m c t h (Nat.lt_of_le_of_lt (Nat.sub_le _ _) t.isLt), step_apply]) t h3 y).trans ?_
  rw [zero_add]
  unfold part spec
  refine Fin.sum_mul_add_congr fun s r hl => ?_
  have hs : (4 * (t.val / 4) + s.val) % 4 = s.val := by omega
  have hd : (4 * (t.val / 4) + s.val) / 4 = t.val / 4 := by omega
  refine congrArg₂ (· * ·) (congrArg _ ?_) (congrArg _ ?_)
  · refine congrArg₂ ix2 (Fin.ext ?_) (Fin.ext ?_) <;> (try simp only [hs, hd]) <;> (try blk_simp [idx t])
  · refine congrArg₂ ix2 (Fin.ext ?_) (Fin.ext ?_) <;> (try simp only [hs, hd]) <;> (try blk_simp [idx t])

end Cert.WgradDownIdeal.Wgrad

end
-- ==== Proof.WgradOutKernel.lean ====
/-
  The gradient of the output projection: the kernel's blocks summed over the tokens, and the whole product.
-/
module

public import proofs.«01_k».proof.Proof.Gen.WgradOutIdeal.Value
public import proofs.«01_k».proof.Proof.Gen.WgradOutRefIdeal.Read
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.WgradOutIdeal.Wgrad

open Cert.WgradOutIdeal Cert.WgradOutIdeal.Gen Idealize.ShloMosaic Idealize.ShloMosaic.TcCoe Idealize.SL.Sem
open Idealize.ShloMosaic.Pipeline (Dat)

/-- The gradient of a weight: the product over the tokens of what it multiplied and of the gradient at its product. -/
def spec (x : (⟨S8192x1024, .bf16⟩ : BufTy).Contents (Elt Ideal)) (y : (⟨S8192x1024, .f32⟩ : BufTy).Contents (Elt Ideal))
    (j : Fin 1024) (k : Fin 1024) : EReal :=
  ∑ n : Fin 8192, x (ix2 n j) * y (ix2 n k)

/-- The reference's product. -/
theorem ref_apply (x : (⟨S8192x1024, .bf16⟩ : BufTy).Contents (Elt Ideal)) (y : (⟨S8192x1024, .f32⟩ : BufTy).Contents (Elt Ideal))
    (j : Fin 1024) (k : Fin 1024) :
    Cert.WgradOutRefIdeal.Read.val_main_v5 (F := Ideal) x y (ix2 j k) = spec x y j k := by
  pointwise [Cert.WgradOutRefIdeal.Read.val_main_v5, Cert.WgradOutRefIdeal.Read.val_main_v4, Cert.WgradOutRefIdeal.Read.val_main_v3, Cert.WgradOutRefIdeal.Read.val_main_v1, spec, mul_comm]

section

variable {F : FTy → Type} [FloatOps F]
variable (m : (ℓ : Loc nD τ sig) → Buf (Elt F) ℓ)

/-- The accumulator after point `t`, when it holds `acc` before. -/
def step (c : Dev nD) (t : Fin cfg0.N) (acc : FVec F S1024x1024 .f32) : FVec F S1024x1024 .f32 := k0_pay2 (iblk m c 0 t) (iblk m c 1 t) acc

theorem acc_A (c : Dev nD) (t : Fin cfg0.N) (h0 : t.val % 4 = 0) : (outsAt0 m c t.val t.isLt).2 = step m c t k0_pay1 := by
  unfold step
  rw [outsAt0_A m c t h0 (by omega)]
  frame_out

theorem acc_B (c : Dev nD) (t : Fin cfg0.N) (h0 : ¬t.val % 4 = 0) (hlt : t.val - 1 < cfg0.N) :
    (outsAt0 m c t.val t.isLt).2 = step m c t (outsAt0 m c (t.val - 1) hlt).2 := by
  unfold step
  by_cases h1 : t.val % 4 = 3
  · rw [outsAt0_C m c t h0 h1]
    frame_out
    simp only [read_unread_whole]
  · rw [outsAt0_B m c t h0 h1]
    frame_out
    simp only [read_unread_whole]

theorem out_C (c : Dev nD) (t : Fin cfg0.N) (h1 : t.val % 4 = 3) :
    (outsAt0 m c t.val t.isLt).1 = k0_pay3 (outsAt0 m c t.val t.isLt).2 := by
  rw [outsAt0_C m c t (by omega) h1]
  frame_out

end

variable (m : (ℓ : Loc nD τ sig) → Buf (Elt Ideal) ℓ)

/-- Which block each window is at: the weight's rows run slowest, the tokens fastest. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, win0_0.index t = ![t.val % 4, t.val / 4] ∧ win0_1.index t = ![t.val % 4, 0]
    ∧ win0_2.index t = ![t.val / 4, 0])

theorem lt4 (t : Fin cfg0.N) : t.val < 4 := lt_of_lt_of_eq t.isLt N_0

/-- The arguments as the specification takes them. -/
abbrev argX (c : Dev nD) : (⟨S8192x1024, .bf16⟩ : BufTy).Contents (Elt Ideal) := m ((c : Thread nD τ).loc main_arg0)
abbrev argY (c : Dev nD) : (⟨S8192x1024, .f32⟩ : BufTy).Contents (Elt Ideal) := m ((c : Thread nD τ).loc main_arg1)

theorem blkX (c : Dev nD) (t : Fin cfg0.N) (r : Fin 2048) (a : Fin 1024) (n : Fin 8192) (j : Fin 1024)
    (hn : n.val = t.val % 4 * 2048 + r.val) (hj : j.val = t.val / 4 * 1024 + a.val) : iblk m c 0 t (ix2 r a) = argX m c (ix2 n j) := by
  blk_ext [iblk, V_main_arg0, idx t]
theorem blkY (c : Dev nD) (t : Fin cfg0.N) (r : Fin 2048) (k : Fin 1024) (n : Fin 8192) (hn : n.val = t.val % 4 * 2048 + r.val) :
    iblk m c 1 t (ix2 r k) = argY m c (ix2 n k) := by
  blk_ext [iblk, V_main_arg1, idx t]

/-- The token and the weight's row that a place in a point's blocks stands for. -/
abbrev token (t : Fin cfg0.N) (r : Fin 2048) : Fin 8192 := ⟨t.val % 4 * 2048 + r.val, by omega⟩
abbrev wrow (t : Fin cfg0.N) (a : Fin 1024) : Fin 1024 := ⟨t.val / 4 * 1024 + a.val, by have := lt4 t; omega⟩

/-- What a point adds to the accumulator. -/
def part (c : Dev nD) (t : Fin cfg0.N) (y : S1024x1024.Idx) : EReal :=
  ∑ r : Fin 2048, argX m c (ix2 (token t r) (wrow t (y 0))) * argY m c (ix2 (token t r) (y 1))

theorem step_apply (c : Dev nD) (t : Fin cfg0.N) (acc : FVec Ideal S1024x1024 .f32) (y : S1024x1024.Idx) :
    step m c t acc y = acc y + part m c t y := by
  have hX (r : Fin 2048) (a : Fin 1024) := blkX m c t r a (token t r) (wrow t a) rfl rfl
  have hY (r : Fin 2048) (k : Fin 1024) := blkY m c t r k (token t r) rfl
  idx_vars y
  unfold step
  generalize iblk m c 0 t = X at hX ⊢
  generalize iblk m c 1 t = Y at hY ⊢
  pointwise [k0_pay2, part, hX, hY]

/-- The result array. -/
theorem final (c : Dev nD) : (dats m 0 c).arrAt 2 cfg0.N = fun i : S1024x1024.Idx => spec (argX m c) (argY m c) (i 0) (i 1) := by
  refine (dats m 0 c).arrAt_eq_of_covers 2 _ (by decide +kernel) fun t hf y => ?_
  have h3 : t.val % 4 = 3 := (flush0_2 t).mp hf
  blk_simp
  rw [after0_2, out_C m c t h3]
  refine (Pipeline.eq_sum_fin_of_reset_step_apply_of_flush (fun n h => (outsAt0 m c n h).2) 4 (fun _ => (0 : EReal)) (part m c)
    (fun t h y => by
      rw [acc_A m c t h, step_apply]
      exact congrArg (· + _) (by idx_vars y; pointwise [k0_pay1]))
    (fun t h y => by rw [acc_B m c t h (Nat.lt_of_le_of_lt (Nat.sub_le _ _) t.isLt), step_apply]) t h3 y).trans ?_
  rw [zero_add]
  unfold part spec
  refine Fin.sum_mul_add_congr fun s r hl => ?_
  have hs : (4 * (t.val / 4) + s.val) % 4 = s.val := by omega
  have hd : (4 * (t.val / 4) + s.val) / 4 = t.val / 4 := by omega
  refine congrArg₂ (· * ·) (congrArg _ ?_) (congrArg _ ?_)
  · refine congrArg₂ ix2 (Fin.ext ?_) (Fin.ext ?_) <;> (try simp only [hs, hd]) <;> (try blk_simp [idx t])
  · refine congrArg₂ ix2 (Fin.ext ?_) (Fin.ext ?_) <;> (try simp only [hs, hd]) <;> (try blk_simp [idx t])

end Cert.WgradOutIdeal.Wgrad

end
-- ==== Proof.WgradInKernel.lean ====
/-
  The gradient of the input projection: the kernel's blocks summed over the tokens, and the whole product.
-/
module

public import proofs.«01_k».proof.Proof.Gen.WgradInIdeal.Value
public import proofs.«01_k».proof.Proof.Gen.WgradInRefIdeal.Read
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.WgradInIdeal.Wgrad

open Cert.WgradInIdeal Cert.WgradInIdeal.Gen Idealize.ShloMosaic Idealize.ShloMosaic.TcCoe Idealize.SL.Sem
open Idealize.ShloMosaic.Pipeline (Dat)

/-- The gradient of a weight: the product over the tokens of what it multiplied and of the gradient at its product. -/
def spec (x : (⟨S8192x3584, .bf16⟩ : BufTy).Contents (Elt Ideal)) (y : (⟨S8192x1024, .bf16⟩ : BufTy).Contents (Elt Ideal))
    (j : Fin 3584) (k : Fin 1024) : EReal :=
  ∑ n : Fin 8192, x (ix2 n j) * y (ix2 n k)

/-- The reference's product. -/
theorem ref_apply (x : (⟨S8192x3584, .bf16⟩ : BufTy).Contents (Elt Ideal)) (y : (⟨S8192x1024, .bf16⟩ : BufTy).Contents (Elt Ideal))
    (j : Fin 3584) (k : Fin 1024) :
    Cert.WgradInRefIdeal.Read.val_main_v6 (F := Ideal) x y (ix2 j k) = spec x y j k := by
  pointwise [Cert.WgradInRefIdeal.Read.val_main_v6, Cert.WgradInRefIdeal.Read.val_main_v5, Cert.WgradInRefIdeal.Read.val_main_v4, Cert.WgradInRefIdeal.Read.val_main_v3, Cert.WgradInRefIdeal.Read.val_main_v1, spec, mul_comm]

section

variable {F : FTy → Type} [FloatOps F]
variable (m : (ℓ : Loc nD τ sig) → Buf (Elt F) ℓ)

/-- The accumulator after point `t`, when it holds `acc` before. -/
def step (c : Dev nD) (t : Fin cfg0.N) (acc : FVec F S1792x1024 .f32) : FVec F S1792x1024 .f32 := k0_pay2 (iblk m c 0 t) (iblk m c 1 t) acc

theorem acc_A (c : Dev nD) (t : Fin cfg0.N) (h0 : t.val % 4 = 0) : (outsAt0 m c t.val t.isLt).2 = step m c t k0_pay1 := by
  unfold step
  rw [outsAt0_A m c t h0 (by omega)]
  frame_out

theorem acc_B (c : Dev nD) (t : Fin cfg0.N) (h0 : ¬t.val % 4 = 0) (hlt : t.val - 1 < cfg0.N) :
    (outsAt0 m c t.val t.isLt).2 = step m c t (outsAt0 m c (t.val - 1) hlt).2 := by
  unfold step
  by_cases h1 : t.val % 4 = 3
  · rw [outsAt0_C m c t h0 h1]
    frame_out
    simp only [read_unread_whole]
  · rw [outsAt0_B m c t h0 h1]
    frame_out
    simp only [read_unread_whole]

theorem out_C (c : Dev nD) (t : Fin cfg0.N) (h1 : t.val % 4 = 3) :
    (outsAt0 m c t.val t.isLt).1 = (outsAt0 m c t.val t.isLt).2 := by
  rw [outsAt0_C m c t (by omega) h1]
  frame_out

end

variable (m : (ℓ : Loc nD τ sig) → Buf (Elt Ideal) ℓ)

/-- Which block each window is at: the weight's rows run slowest, the tokens fastest. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, win0_0.index t = ![t.val % 4, t.val / 4] ∧ win0_1.index t = ![t.val % 4, 0]
    ∧ win0_2.index t = ![t.val / 4, 0])

theorem lt8 (t : Fin cfg0.N) : t.val < 8 := lt_of_lt_of_eq t.isLt N_0

/-- The arguments as the specification takes them. -/
abbrev argX (c : Dev nD) : (⟨S8192x3584, .bf16⟩ : BufTy).Contents (Elt Ideal) := m ((c : Thread nD τ).loc main_arg0)
abbrev argY (c : Dev nD) : (⟨S8192x1024, .bf16⟩ : BufTy).Contents (Elt Ideal) := m ((c : Thread nD τ).loc main_arg1)

theorem blkX (c : Dev nD) (t : Fin cfg0.N) (r : Fin 2048) (a : Fin 1792) (n : Fin 8192) (j : Fin 3584)
    (hn : n.val = t.val % 4 * 2048 + r.val) (hj : j.val = t.val / 4 * 1792 + a.val) : iblk m c 0 t (ix2 r a) = argX m c (ix2 n j) := by
  blk_ext [iblk, V_main_arg0, idx t]
theorem blkY (c : Dev nD) (t : Fin cfg0.N) (r : Fin 2048) (k : Fin 1024) (n : Fin 8192) (hn : n.val = t.val % 4 * 2048 + r.val) :
    iblk m c 1 t (ix2 r k) = argY m c (ix2 n k) := by
  blk_ext [iblk, V_main_arg1, idx t]

/-- The token and the weight's row that a place in a point's blocks stands for. -/
abbrev token (t : Fin cfg0.N) (r : Fin 2048) : Fin 8192 := ⟨t.val % 4 * 2048 + r.val, by omega⟩
abbrev wrow (t : Fin cfg0.N) (a : Fin 1792) : Fin 3584 := ⟨t.val / 4 * 1792 + a.val, by have := lt8 t; omega⟩

/-- What a point adds to the accumulator. -/
def part (c : Dev nD) (t : Fin cfg0.N) (y : S1792x1024.Idx) : EReal :=
  ∑ r : Fin 2048, argX m c (ix2 (token t r) (wrow t (y 0))) * argY m c (ix2 (token t r) (y 1))

theorem step_apply (c : Dev nD) (t : Fin cfg0.N) (acc : FVec Ideal S1792x1024 .f32) (y : S1792x1024.Idx) :
    step m c t acc y = acc y + part m c t y := by
  have hX (r : Fin 2048) (a : Fin 1792) := blkX m c t r a (token t r) (wrow t a) rfl rfl
  have hY (r : Fin 2048) (k : Fin 1024) := blkY m c t r k (token t r) rfl
  idx_vars y
  unfold step
  generalize iblk m c 0 t = X at hX ⊢
  generalize iblk m c 1 t = Y at hY ⊢
  pointwise [k0_pay2, part, hX, hY]

/-- The result array. -/
theorem final (c : Dev nD) : (dats m 0 c).arrAt 2 cfg0.N = fun i : S3584x1024.Idx => spec (argX m c) (argY m c) (i 0) (i 1) := by
  refine (dats m 0 c).arrAt_eq_of_covers 2 _ (by decide +kernel) fun t hf y => ?_
  have h3 : t.val % 4 = 3 := (flush0_2 t).mp hf
  blk_simp
  rw [after0_2, out_C m c t h3]
  refine (Pipeline.eq_sum_fin_of_reset_step_apply_of_flush (fun n h => (outsAt0 m c n h).2) 4 (fun _ => (0 : EReal)) (part m c)
    (fun t h y => by
      rw [acc_A m c t h, step_apply]
      exact congrArg (· + _) (by idx_vars y; pointwise [k0_pay1]))
    (fun t h y => by rw [acc_B m c t h (Nat.lt_of_le_of_lt (Nat.sub_le _ _) t.isLt), step_apply]) t h3 y).trans ?_
  rw [zero_add]
  unfold part spec
  refine Fin.sum_mul_add_congr fun s r hl => ?_
  have hs : (4 * (t.val / 4) + s.val) % 4 = s.val := by omega
  have hd : (4 * (t.val / 4) + s.val) / 4 = t.val / 4 := by omega
  refine congrArg₂ (· * ·) (congrArg _ ?_) (congrArg _ ?_)
  · refine congrArg₂ ix2 (Fin.ext ?_) (Fin.ext ?_) <;> (try simp only [hs, hd]) <;> (try blk_simp [idx t])
  · refine congrArg₂ ix2 (Fin.ext ?_) (Fin.ext ?_) <;> (try simp only [hs, hd]) <;> (try blk_simp [idx t])

end Cert.WgradInIdeal.Wgrad

end
-- ==== Proof.Adamw.lean ====
/-
  The optimizer's update of one weight, as functions of extended reals.
-/
module

public import Idealize.ShloMosaic.PureOps
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.Adamw

open Idealize.ShloMosaic

/-- The first moment after the update. -/
def mom (g m : EReal) : EReal := Ideal.ofBits .f32 0x3F666666#32 * m + Ideal.ofBits .f32 0x3DCCCCCD#32 * g

/-- The second moment after the update. -/
def var (g v : EReal) : EReal := Ideal.ofBits .f32 0x3F7FBE77#32 * v + Ideal.ofBits .f32 0x3A83126F#32 * (g * g)

/-- The change of the weight. -/
def delta (w g m v : EReal) : EReal :=
  Ideal.ofBits .f32 0xBA83126F#32 * (Ideal.div (Ideal.div (mom g m) (Ideal.ofBits .f32 0x3F26BD02#32))
    (Ideal.sqrt (Ideal.div (var g v) (Ideal.ofBits .f32 0x3C231ACC#32)) + Ideal.ofBits .f32 0x322BCC77#32)
    + Ideal.ofBits .f32 0x3C23D70A#32 * w)

/-- A function of a layer, a row and a column at places with the same numbers. -/
theorem same {p q s : Nat} (f : Fin p → Fin q → Fin s → EReal) {a a' : Fin p} {b b' : Fin q} {k k' : Fin s}
    (ha : a.val = a'.val) (hb : b.val = b'.val) (hk : k.val = k'.val) : f a b k = f a' b' k' := by
  rw [Fin.ext ha, Fin.ext hb, Fin.ext hk]

end Cert.Adamw

end
-- ==== Proof.AdamwGuKernel.lean ====
/-
  The optimizer's step for the gate and up projections: a point's blocks, and the four results.
-/
module

public import proofs.«01_k».proof.Proof.Gen.AdamwGuIdeal.Value
public import proofs.«01_k».proof.Proof.Gen.AdamwGuRefIdeal.Read
public import proofs.«01_k».proof.Proof.Adamw
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.AdamwGuIdeal.Step

open Cert.AdamwGuIdeal Cert.AdamwGuIdeal.Gen Idealize.ShloMosaic Idealize.ShloMosaic.TcCoe Idealize.SL.Sem
open Idealize.ShloMosaic.Pipeline (Dat)

/-- The gradient of a layer's weight: the eight devices' parts summed. -/
def grad (p0 p1 : (⟨S8x704x1024, .bf16⟩ : BufTy).Contents (Elt Ideal)) (l : Fin 2) (r : Fin 704) (k : Fin 1024) : EReal :=
  if l.val = 0 then ∑ d : Fin 8, p0 (ix3 d r k) else ∑ d : Fin 8, p1 (ix3 d r k)

/-- The change of the weight and its two moments at a layer, a row and a column. -/
def sDelta (p0 p1 : (⟨S8x704x1024, .bf16⟩ : BufTy).Contents (Elt Ideal)) (w mo va : (⟨S2x704x1024, .f32⟩ : BufTy).Contents (Elt Ideal)) (l : Fin 2) (r : Fin 704) (k : Fin 1024) : EReal :=
  Adamw.delta (w (ix3 l r k)) (grad p0 p1 l r k) (mo (ix3 l r k)) (va (ix3 l r k))
def sMom (p0 p1 : (⟨S8x704x1024, .bf16⟩ : BufTy).Contents (Elt Ideal)) (mo : (⟨S2x704x1024, .f32⟩ : BufTy).Contents (Elt Ideal)) (l : Fin 2) (r : Fin 704) (k : Fin 1024) : EReal :=
  Adamw.mom (grad p0 p1 l r k) (mo (ix3 l r k))
def sVar (p0 p1 : (⟨S8x704x1024, .bf16⟩ : BufTy).Contents (Elt Ideal)) (va : (⟨S2x704x1024, .f32⟩ : BufTy).Contents (Elt Ideal)) (l : Fin 2) (r : Fin 704) (k : Fin 1024) : EReal :=
  Adamw.var (grad p0 p1 l r k) (va (ix3 l r k))

section Reference

open Cert.AdamwGuRefIdeal.Read

variable (p0 p1 : (⟨S8x704x1024, .bf16⟩ : BufTy).Contents (Elt Ideal)) (w mo va : (⟨S2x704x1024, .f32⟩ : BufTy).Contents (Elt Ideal))

/-- The reference's gradient. -/
theorem ref_grad (l : Fin 2) (r : Fin 704) (k : Fin 1024) : val_main_v6 (F := Ideal) p0 p1 (ix3 l r k) = grad p0 p1 l r k := by
  unfold grad
  by_cases h : l.val = 0
  · have h1 : l.val < 1 := by omega
    pointwise [val_main_v6, val_main_v5, val_main_v4, val_main_v3, val_main_v2, val_main_v1, val_main_v0, val_main_cst, val_main_cst_0, h, h1]
  · have h1 : ¬l.val < 1 := by omega
    pointwise [val_main_v6, val_main_v5, val_main_v4, val_main_v3, val_main_v2, val_main_v1, val_main_v0, val_main_cst, val_main_cst_0, h, h1]

/-- The reference's change of the weight. -/
theorem ref_delta (l : Fin 2) (r : Fin 704) (k : Fin 1024) : val_main_v30 (F := Ideal) p0 p1 w mo va (ix3 l r k)
    = sDelta p0 p1 w mo va l r k := by
  unfold sDelta; rw [← ref_grad]; rfl

/-- The reference's moments. -/
theorem ref_mom (l : Fin 2) (r : Fin 704) (k : Fin 1024) :
    val_main_v11 (F := Ideal) p0 p1 mo (ix3 l r k) = sMom p0 p1 mo l r k := by
  unfold sMom; rw [← ref_grad]; rfl
theorem ref_var (l : Fin 2) (r : Fin 704) (k : Fin 1024) :
    val_main_v17 (F := Ideal) p0 p1 va (ix3 l r k) = sVar p0 p1 va l r k := by
  unfold sVar; rw [← ref_grad]; rfl

end Reference

variable (m : (ℓ : Loc nD τ sig) → Buf (Elt Ideal) ℓ)

/-- Which block each window is at: the layer runs slowest. -/
theorem idx : ∀ t : Fin cfg0.N, win0_0.index t = ![0, t.val % 2, 0] ∧ win0_1.index t = ![0, t.val % 2, 0] ∧ win0_2.index t = ![t.val / 2, t.val % 2, 0]
    ∧ win0_3.index t = ![t.val / 2, t.val % 2, 0] ∧ win0_4.index t = ![t.val / 2, t.val % 2, 0] ∧ win0_5.index t = ![t.val / 2, t.val % 2, 0]
    ∧ win0_6.index t = ![t.val / 2, t.val % 2, 0] ∧ win0_7.index t = ![t.val / 2, t.val % 2, 0] ∧ win0_8.index t = ![t.val / 2, t.val % 2, 0] :=
  (by decide +kernel : ∀ t : Fin grid0.N, win0_0.index t = ![0, t.val % 2, 0] ∧ win0_1.index t = ![0, t.val % 2, 0] ∧ win0_2.index t = ![t.val / 2, t.val % 2, 0]
    ∧ win0_3.index t = ![t.val / 2, t.val % 2, 0] ∧ win0_4.index t = ![t.val / 2, t.val % 2, 0] ∧ win0_5.index t = ![t.val / 2, t.val % 2, 0]
    ∧ win0_6.index t = ![t.val / 2, t.val % 2, 0] ∧ win0_7.index t = ![t.val / 2, t.val % 2, 0] ∧ win0_8.index t = ![t.val / 2, t.val % 2, 0])

theorem ltN (t : Fin cfg0.N) : t.val < 4 := lt_of_lt_of_eq t.isLt N_0
theorem layer_lt (t : Fin cfg0.N) : t.val / 2 < 2 := by have := ltN t; omega
theorem row_lt (t : Fin cfg0.N) (r : Fin 352) : t.val % 2 * 352 + r.val < 704 := by omega

/-- The layer and the weight's row that a place in a point's blocks stands for. -/
abbrev layer (t : Fin cfg0.N) : Fin 2 := ⟨t.val / 2, layer_lt t⟩
abbrev row (t : Fin cfg0.N) (r : Fin 352) : Fin 704 := ⟨t.val % 2 * 352 + r.val, row_lt t r⟩

/-- Which devices' parts a point takes. -/
theorem sel : ∀ t : Fin cfg0.N, Scalar.cmpi .eq (BitVec.ofNat 32 (grid0.coords t 0).val) 0#32 = if t.val / 2 = 0 then 1#1 else 0#1 :=
  (by decide +kernel : ∀ t : Fin grid0.N, Scalar.cmpi .eq (BitVec.ofNat 32 (grid0.coords t 0).val) 0#32 = if t.val / 2 = 0 then 1#1 else 0#1)

/-- The arguments as the specification takes them. -/
abbrev argP (c : Dev nD) : (⟨S8x704x1024, .bf16⟩ : BufTy).Contents (Elt Ideal) := m ((c : Thread nD τ).loc main_arg0)
abbrev argQ (c : Dev nD) : (⟨S8x704x1024, .bf16⟩ : BufTy).Contents (Elt Ideal) := m ((c : Thread nD τ).loc main_arg1)
abbrev argW (c : Dev nD) : (⟨S2x704x1024, .f32⟩ : BufTy).Contents (Elt Ideal) := m ((c : Thread nD τ).loc main_arg2)
abbrev argM (c : Dev nD) : (⟨S2x704x1024, .f32⟩ : BufTy).Contents (Elt Ideal) := m ((c : Thread nD τ).loc main_arg3)
abbrev argV (c : Dev nD) : (⟨S2x704x1024, .f32⟩ : BufTy).Contents (Elt Ideal) := m ((c : Thread nD τ).loc main_arg4)

theorem blkP (c : Dev nD) (t : Fin cfg0.N) (d : Fin 8) (r : Fin 352) (k : Fin 1024) :
    iblk m c 0 t (ix3 d r k) = argP m c (ix3 d (row t r) k) := by
  blk_ext [iblk, V_main_arg0, idx t]
theorem blkQ (c : Dev nD) (t : Fin cfg0.N) (d : Fin 8) (r : Fin 352) (k : Fin 1024) :
    iblk m c 1 t (ix3 d r k) = argQ m c (ix3 d (row t r) k) := by
  blk_ext [iblk, V_main_arg1, idx t]
theorem blkW (c : Dev nD) (t : Fin cfg0.N) (a : Fin 1) (r : Fin 352) (k : Fin 1024) :
    iblk m c 2 t (ix3 a r k) = argW m c (ix3 (layer t) (row t r) k) := by
  blk_ext [iblk, V_main_arg2, idx t]
theorem blkM (c : Dev nD) (t : Fin cfg0.N) (a : Fin 1) (r : Fin 352) (k : Fin 1024) :
    iblk m c 3 t (ix3 a r k) = argM m c (ix3 (layer t) (row t r) k) := by
  blk_ext [iblk, V_main_arg3, idx t]
theorem blkV (c : Dev nD) (t : Fin cfg0.N) (a : Fin 1) (r : Fin 352) (k : Fin 1024) :
    iblk m c 4 t (ix3 a r k) = argV m c (ix3 (layer t) (row t r) k) := by
  blk_ext [iblk, V_main_arg4, idx t]

/-- The gradient a point sums. -/
theorem grad_apply (c : Dev nD) (t : Fin cfg0.N) (r : Fin 352) (k : Fin 1024) :
    k0_pay9 (grid0.coords t) (iblk m c 0 t) (iblk m c 1 t) (iblk m c 2 t) (iblk m c 3 t) (iblk m c 4 t) (ix2 r k)
      = grad (argP m c) (argQ m c) (layer t) (row t r) k := by
  have hP (d : Fin 8) (r : Fin 352) (k : Fin 1024) := blkP m c t d r k
  have hQ (d : Fin 8) (r : Fin 352) (k : Fin 1024) := blkQ m c t d r k
  unfold k0_pay9 grad
  rw [sel t]
  generalize iblk m c 0 t = X0 at hP ⊢
  generalize iblk m c 1 t = X1 at hQ ⊢
  by_cases h : t.val / 2 = 0
  · rw [if_pos h, if_pos h]
    pointwise [k0_pay4, k0_pay3, hP, Fin.sum_univ_eight]
  · rw [if_neg h, if_neg h]
    pointwise [k0_pay4, k0_pay3, hQ, Fin.sum_univ_eight]

/-- The four results of a point. -/
theorem pay_grad (g : FVec Ideal S352x1024 .f32) (a : Fin 1) (r : Fin 352) (k : Fin 1024) : k0_pay5 g (ix3 a r k) = g (ix2 r k) := by
  pointwise [k0_pay5]
theorem pay_mom (g : FVec Ideal S352x1024 .f32) (mo : Vec Ideal S1x352x1024 .f32) (a : Fin 1) (r : Fin 352) (k : Fin 1024) :
    k0_pay1 (k0_pay6 g mo) (ix3 a r k) = Adamw.mom (g (ix2 r k)) (mo (ix3 0 r k)) := by
  pointwise [k0_pay1, k0_pay6, Adamw.mom]
theorem pay_var (g : FVec Ideal S352x1024 .f32) (va : Vec Ideal S1x352x1024 .f32) (a : Fin 1) (r : Fin 352) (k : Fin 1024) :
    k0_pay2 (k0_pay7 g va) (ix3 a r k) = Adamw.var (g (ix2 r k)) (va (ix3 0 r k)) := by
  pointwise [k0_pay2, k0_pay7, Adamw.var]
theorem pay_delta (g : FVec Ideal S352x1024 .f32) (w mo va : Vec Ideal S1x352x1024 .f32) (a : Fin 1) (r : Fin 352) (k : Fin 1024) :
    k0_pay8 g w mo va (ix3 a r k) = Adamw.delta (w (ix3 0 r k)) (g (ix2 r k)) (mo (ix3 0 r k)) (va (ix3 0 r k)) := by
  pointwise [k0_pay8, k0_pay6, k0_pay7, Adamw.delta, Adamw.mom, Adamw.var]

/-- The gradient's array. -/
theorem out_grad (c : Dev nD) (t : Fin cfg0.N) : out0_5 (grid0.coords t) (iblk m c 0 t) (iblk m c 1 t) (iblk m c 2 t) (iblk m c 3 t) (iblk m c 4 t)
    = k0_pay5 (k0_pay9 (grid0.coords t) (iblk m c 0 t) (iblk m c 1 t) (iblk m c 2 t) (iblk m c 3 t) (iblk m c 4 t)) := by
  unfold out0_5
  frame_out
theorem point_grad (c : Dev nD) (t : Fin cfg0.N) (a : Fin 1) (r : Fin 352) (k : Fin 1024) :
    k0_pay5 (k0_pay9 (grid0.coords t) (iblk m c 0 t) (iblk m c 1 t) (iblk m c 2 t) (iblk m c 3 t) (iblk m c 4 t)) (ix3 a r k) = grad (argP m c) (argQ m c) (layer t) (row t r) k := by
  rw [pay_grad, grad_apply]
theorem final_grad (c : Dev nD) : (dats m 0 c).arrAt 5 cfg0.N = fun i : S2x704x1024.Idx =>
    grad (argP m c) (argQ m c) (i 0) (i 1) (i 2) := by
  refine (dats m 0 c).arrAt_eq_of_covers 5 _ (by decide +kernel) fun t hf y => ?_
  blk_simp
  rw [after0_5, out_grad]
  idx_vars y
  refine (point_grad m c t _ _ _).trans (Adamw.same _ ?_ ?_ ?_) <;> blk_simp [idx t]

/-- The array of the changes. -/
theorem out_delta (c : Dev nD) (t : Fin cfg0.N) : out0_6 (grid0.coords t) (iblk m c 0 t) (iblk m c 1 t) (iblk m c 2 t) (iblk m c 3 t) (iblk m c 4 t)
    = k0_pay8 (k0_pay9 (grid0.coords t) (iblk m c 0 t) (iblk m c 1 t) (iblk m c 2 t) (iblk m c 3 t) (iblk m c 4 t)) (iblk m c 2 t) (iblk m c 3 t) (iblk m c 4 t) := by
  unfold out0_6
  frame_out
theorem point_delta (c : Dev nD) (t : Fin cfg0.N) (a : Fin 1) (r : Fin 352) (k : Fin 1024) :
    k0_pay8 (k0_pay9 (grid0.coords t) (iblk m c 0 t) (iblk m c 1 t) (iblk m c 2 t) (iblk m c 3 t) (iblk m c 4 t)) (iblk m c 2 t) (iblk m c 3 t) (iblk m c 4 t) (ix3 a r k) = sDelta (argP m c) (argQ m c) (argW m c) (argM m c) (argV m c) (layer t) (row t r) k := by
  unfold sDelta
  rw [pay_delta, grad_apply, blkW, blkM, blkV]
theorem final_delta (c : Dev nD) : (dats m 0 c).arrAt 6 cfg0.N = fun i : S2x704x1024.Idx =>
    sDelta (argP m c) (argQ m c) (argW m c) (argM m c) (argV m c) (i 0) (i 1) (i 2) := by
  refine (dats m 0 c).arrAt_eq_of_covers 6 _ (by decide +kernel) fun t hf y => ?_
  blk_simp
  rw [after0_6, out_delta]
  idx_vars y
  refine (point_delta m c t _ _ _).trans (Adamw.same _ ?_ ?_ ?_) <;> blk_simp [idx t]

/-- The array of the first moments. -/
theorem out_mom (c : Dev nD) (t : Fin cfg0.N) : out0_7 (grid0.coords t) (iblk m c 0 t) (iblk m c 1 t) (iblk m c 2 t) (iblk m c 3 t) (iblk m c 4 t)
    = k0_pay1 (k0_pay6 (k0_pay9 (grid0.coords t) (iblk m c 0 t) (iblk m c 1 t) (iblk m c 2 t) (iblk m c 3 t) (iblk m c 4 t)) (iblk m c 3 t)) := by
  unfold out0_7
  frame_out
theorem point_mom (c : Dev nD) (t : Fin cfg0.N) (a : Fin 1) (r : Fin 352) (k : Fin 1024) :
    k0_pay1 (k0_pay6 (k0_pay9 (grid0.coords t) (iblk m c 0 t) (iblk m c 1 t) (iblk m c 2 t) (iblk m c 3 t) (iblk m c 4 t)) (iblk m c 3 t)) (ix3 a r k) = sMom (argP m c) (argQ m c) (argM m c) (layer t) (row t r) k := by
  unfold sMom
  rw [pay_mom, grad_apply, blkM]
theorem final_mom (c : Dev nD) : (dats m 0 c).arrAt 7 cfg0.N = fun i : S2x704x1024.Idx =>
    sMom (argP m c) (argQ m c) (argM m c) (i 0) (i 1) (i 2) := by
  refine (dats m 0 c).arrAt_eq_of_covers 7 _ (by decide +kernel) fun t hf y => ?_
  blk_simp
  rw [after0_7, out_mom]
  idx_vars y
  refine (point_mom m c t _ _ _).trans (Adamw.same _ ?_ ?_ ?_) <;> blk_simp [idx t]

/-- The array of the second moments. -/
theorem out_var (c : Dev nD) (t : Fin cfg0.N) : out0_8 (grid0.coords t) (iblk m c 0 t) (iblk m c 1 t) (iblk m c 2 t) (iblk m c 3 t) (iblk m c 4 t)
    = k0_pay2 (k0_pay7 (k0_pay9 (grid0.coords t) (iblk m c 0 t) (iblk m c 1 t) (iblk m c 2 t) (iblk m c 3 t) (iblk m c 4 t)) (iblk m c 4 t)) := by
  unfold out0_8
  frame_out
theorem point_var (c : Dev nD) (t : Fin cfg0.N) (a : Fin 1) (r : Fin 352) (k : Fin 1024) :
    k0_pay2 (k0_pay7 (k0_pay9 (grid0.coords t) (iblk m c 0 t) (iblk m c 1 t) (iblk m c 2 t) (iblk m c 3 t) (iblk m c 4 t)) (iblk m c 4 t)) (ix3 a r k) = sVar (argP m c) (argQ m c) (argV m c) (layer t) (row t r) k := by
  unfold sVar
  rw [pay_var, grad_apply, blkV]
theorem final_var (c : Dev nD) : (dats m 0 c).arrAt 8 cfg0.N = fun i : S2x704x1024.Idx =>
    sVar (argP m c) (argQ m c) (argV m c) (i 0) (i 1) (i 2) := by
  refine (dats m 0 c).arrAt_eq_of_covers 8 _ (by decide +kernel) fun t hf y => ?_
  blk_simp
  rw [after0_8, out_var]
  idx_vars y
  refine (point_var m c t _ _ _).trans (Adamw.same _ ?_ ?_ ?_) <;> blk_simp [idx t]

end Cert.AdamwGuIdeal.Step

end
-- ==== Proof.AdamwOutKernel.lean ====
/-
  The optimizer's step for the output projection: a point's blocks, and the four results.
-/
module

public import proofs.«01_k».proof.Proof.Gen.AdamwOutIdeal.Value
public import proofs.«01_k».proof.Proof.Gen.AdamwOutRefIdeal.Read
public import proofs.«01_k».proof.Proof.Adamw
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.AdamwOutIdeal.Step

open Cert.AdamwOutIdeal Cert.AdamwOutIdeal.Gen Idealize.ShloMosaic Idealize.ShloMosaic.TcCoe Idealize.SL.Sem
open Idealize.ShloMosaic.Pipeline (Dat)

/-- The gradient of a layer's weight: the eight devices' parts summed. -/
def grad (p0 p1 : (⟨S8x128x1024, .bf16⟩ : BufTy).Contents (Elt Ideal)) (l : Fin 2) (r : Fin 128) (k : Fin 1024) : EReal :=
  if l.val = 0 then ∑ d : Fin 8, p0 (ix3 d r k) else ∑ d : Fin 8, p1 (ix3 d r k)

/-- The change of the weight and its two moments at a layer, a row and a column. -/
def sDelta (p0 p1 : (⟨S8x128x1024, .bf16⟩ : BufTy).Contents (Elt Ideal)) (w mo va : (⟨S2x128x1024, .f32⟩ : BufTy).Contents (Elt Ideal)) (l : Fin 2) (r : Fin 128) (k : Fin 1024) : EReal :=
  Adamw.delta (w (ix3 l r k)) (grad p0 p1 l r k) (mo (ix3 l r k)) (va (ix3 l r k))
def sMom (p0 p1 : (⟨S8x128x1024, .bf16⟩ : BufTy).Contents (Elt Ideal)) (mo : (⟨S2x128x1024, .f32⟩ : BufTy).Contents (Elt Ideal)) (l : Fin 2) (r : Fin 128) (k : Fin 1024) : EReal :=
  Adamw.mom (grad p0 p1 l r k) (mo (ix3 l r k))
def sVar (p0 p1 : (⟨S8x128x1024, .bf16⟩ : BufTy).Contents (Elt Ideal)) (va : (⟨S2x128x1024, .f32⟩ : BufTy).Contents (Elt Ideal)) (l : Fin 2) (r : Fin 128) (k : Fin 1024) : EReal :=
  Adamw.var (grad p0 p1 l r k) (va (ix3 l r k))

section Reference

open Cert.AdamwOutRefIdeal.Read

variable (p0 p1 : (⟨S8x128x1024, .bf16⟩ : BufTy).Contents (Elt Ideal)) (w mo va : (⟨S2x128x1024, .f32⟩ : BufTy).Contents (Elt Ideal))

/-- The reference's gradient. -/
theorem ref_grad (l : Fin 2) (r : Fin 128) (k : Fin 1024) : val_main_v6 (F := Ideal) p0 p1 (ix3 l r k) = grad p0 p1 l r k := by
  unfold grad
  by_cases h : l.val = 0
  · have h1 : l.val < 1 := by omega
    pointwise [val_main_v6, val_main_v5, val_main_v4, val_main_v3, val_main_v2, val_main_v1, val_main_v0, val_main_cst, val_main_cst_0, h, h1]
  · have h1 : ¬l.val < 1 := by omega
    pointwise [val_main_v6, val_main_v5, val_main_v4, val_main_v3, val_main_v2, val_main_v1, val_main_v0, val_main_cst, val_main_cst_0, h, h1]

/-- The reference's change of the weight. -/
theorem ref_delta (l : Fin 2) (r : Fin 128) (k : Fin 1024) : val_main_v30 (F := Ideal) p0 p1 w mo va (ix3 l r k)
    = sDelta p0 p1 w mo va l r k := by
  unfold sDelta; rw [← ref_grad]; rfl

/-- The reference's moments. -/
theorem ref_mom (l : Fin 2) (r : Fin 128) (k : Fin 1024) :
    val_main_v11 (F := Ideal) p0 p1 mo (ix3 l r k) = sMom p0 p1 mo l r k := by
  unfold sMom; rw [← ref_grad]; rfl
theorem ref_var (l : Fin 2) (r : Fin 128) (k : Fin 1024) :
    val_main_v17 (F := Ideal) p0 p1 va (ix3 l r k) = sVar p0 p1 va l r k := by
  unfold sVar; rw [← ref_grad]; rfl

end Reference

variable (m : (ℓ : Loc nD τ sig) → Buf (Elt Ideal) ℓ)

/-- Which block each window is at: the layer runs slowest. -/
theorem idx : ∀ t : Fin cfg0.N, win0_0.index t = ![0, 0, 0] ∧ win0_1.index t = ![0, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![t.val, 0, 0] :=
  (by decide +kernel : ∀ t : Fin grid0.N, win0_0.index t = ![0, 0, 0] ∧ win0_1.index t = ![0, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![t.val, 0, 0])

theorem ltN (t : Fin cfg0.N) : t.val < 2 := lt_of_lt_of_eq t.isLt N_0
theorem layer_lt (t : Fin cfg0.N) : t.val < 2 := by have := ltN t; omega
theorem row_lt (t : Fin cfg0.N) (r : Fin 128) : r.val < 128 := by omega

/-- The layer and the weight's row that a place in a point's blocks stands for. -/
abbrev layer (t : Fin cfg0.N) : Fin 2 := ⟨t.val, layer_lt t⟩
abbrev row (t : Fin cfg0.N) (r : Fin 128) : Fin 128 := ⟨r.val, row_lt t r⟩

/-- Which devices' parts a point takes. -/
theorem sel : ∀ t : Fin cfg0.N, Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1)

/-- The arguments as the specification takes them. -/
abbrev argP (c : Dev nD) : (⟨S8x128x1024, .bf16⟩ : BufTy).Contents (Elt Ideal) := m ((c : Thread nD τ).loc main_arg0)
abbrev argQ (c : Dev nD) : (⟨S8x128x1024, .bf16⟩ : BufTy).Contents (Elt Ideal) := m ((c : Thread nD τ).loc main_arg1)
abbrev argW (c : Dev nD) : (⟨S2x128x1024, .f32⟩ : BufTy).Contents (Elt Ideal) := m ((c : Thread nD τ).loc main_arg2)
abbrev argM (c : Dev nD) : (⟨S2x128x1024, .f32⟩ : BufTy).Contents (Elt Ideal) := m ((c : Thread nD τ).loc main_arg3)
abbrev argV (c : Dev nD) : (⟨S2x128x1024, .f32⟩ : BufTy).Contents (Elt Ideal) := m ((c : Thread nD τ).loc main_arg4)

theorem blkP (c : Dev nD) (t : Fin cfg0.N) (d : Fin 8) (r : Fin 128) (k : Fin 1024) :
    iblk m c 0 t (ix3 d r k) = argP m c (ix3 d (row t r) k) := by
  blk_ext [iblk, V_main_arg0, idx t]
theorem blkQ (c : Dev nD) (t : Fin cfg0.N) (d : Fin 8) (r : Fin 128) (k : Fin 1024) :
    iblk m c 1 t (ix3 d r k) = argQ m c (ix3 d (row t r) k) := by
  blk_ext [iblk, V_main_arg1, idx t]
theorem blkW (c : Dev nD) (t : Fin cfg0.N) (a : Fin 1) (r : Fin 128) (k : Fin 1024) :
    iblk m c 2 t (ix3 a r k) = argW m c (ix3 (layer t) (row t r) k) := by
  blk_ext [iblk, V_main_arg2, idx t]
theorem blkM (c : Dev nD) (t : Fin cfg0.N) (a : Fin 1) (r : Fin 128) (k : Fin 1024) :
    iblk m c 3 t (ix3 a r k) = argM m c (ix3 (layer t) (row t r) k) := by
  blk_ext [iblk, V_main_arg3, idx t]
theorem blkV (c : Dev nD) (t : Fin cfg0.N) (a : Fin 1) (r : Fin 128) (k : Fin 1024) :
    iblk m c 4 t (ix3 a r k) = argV m c (ix3 (layer t) (row t r) k) := by
  blk_ext [iblk, V_main_arg4, idx t]

/-- The gradient a point sums. -/
theorem grad_apply (c : Dev nD) (t : Fin cfg0.N) (r : Fin 128) (k : Fin 1024) :
    k0_pay9 (grid0.coords t) (iblk m c 0 t) (iblk m c 1 t) (iblk m c 2 t) (iblk m c 3 t) (iblk m c 4 t) (ix2 r k)
      = grad (argP m c) (argQ m c) (layer t) (row t r) k := by
  have hP (d : Fin 8) (r : Fin 128) (k : Fin 1024) := blkP m c t d r k
  have hQ (d : Fin 8) (r : Fin 128) (k : Fin 1024) := blkQ m c t d r k
  unfold k0_pay9 grad
  rw [sel t]
  generalize iblk m c 0 t = X0 at hP ⊢
  generalize iblk m c 1 t = X1 at hQ ⊢
  by_cases h : t.val = 0
  · rw [if_pos h, if_pos h]
    pointwise [k0_pay4, k0_pay3, hP, Fin.sum_univ_eight]
  · rw [if_neg h, if_neg h]
    pointwise [k0_pay4, k0_pay3, hQ, Fin.sum_univ_eight]

/-- The four results of a point. -/
theorem pay_grad (g : FVec Ideal S128x1024 .f32) (a : Fin 1) (r : Fin 128) (k : Fin 1024) : k0_pay5 g (ix3 a r k) = g (ix2 r k) := by
  pointwise [k0_pay5]
theorem pay_mom (g : FVec Ideal S128x1024 .f32) (mo : Vec Ideal S1x128x1024 .f32) (a : Fin 1) (r : Fin 128) (k : Fin 1024) :
    k0_pay1 (k0_pay6 g mo) (ix3 a r k) = Adamw.mom (g (ix2 r k)) (mo (ix3 0 r k)) := by
  pointwise [k0_pay1, k0_pay6, Adamw.mom]
theorem pay_var (g : FVec Ideal S128x1024 .f32) (va : Vec Ideal S1x128x1024 .f32) (a : Fin 1) (r : Fin 128) (k : Fin 1024) :
    k0_pay2 (k0_pay7 g va) (ix3 a r k) = Adamw.var (g (ix2 r k)) (va (ix3 0 r k)) := by
  pointwise [k0_pay2, k0_pay7, Adamw.var]
theorem pay_delta (g : FVec Ideal S128x1024 .f32) (w mo va : Vec Ideal S1x128x1024 .f32) (a : Fin 1) (r : Fin 128) (k : Fin 1024) :
    k0_pay8 g w mo va (ix3 a r k) = Adamw.delta (w (ix3 0 r k)) (g (ix2 r k)) (mo (ix3 0 r k)) (va (ix3 0 r k)) := by
  pointwise [k0_pay8, k0_pay6, k0_pay7, Adamw.delta, Adamw.mom, Adamw.var]

/-- The gradient's array. -/
theorem out_grad (c : Dev nD) (t : Fin cfg0.N) : out0_5 (grid0.coords t) (iblk m c 0 t) (iblk m c 1 t) (iblk m c 2 t) (iblk m c 3 t) (iblk m c 4 t)
    = k0_pay5 (k0_pay9 (grid0.coords t) (iblk m c 0 t) (iblk m c 1 t) (iblk m c 2 t) (iblk m c 3 t) (iblk m c 4 t)) := by
  unfold out0_5
  frame_out
theorem point_grad (c : Dev nD) (t : Fin cfg0.N) (a : Fin 1) (r : Fin 128) (k : Fin 1024) :
    k0_pay5 (k0_pay9 (grid0.coords t) (iblk m c 0 t) (iblk m c 1 t) (iblk m c 2 t) (iblk m c 3 t) (iblk m c 4 t)) (ix3 a r k) = grad (argP m c) (argQ m c) (layer t) (row t r) k := by
  rw [pay_grad, grad_apply]
theorem final_grad (c : Dev nD) : (dats m 0 c).arrAt 5 cfg0.N = fun i : S2x128x1024.Idx =>
    grad (argP m c) (argQ m c) (i 0) (i 1) (i 2) := by
  refine (dats m 0 c).arrAt_eq_of_covers 5 _ (by decide +kernel) fun t hf y => ?_
  blk_simp
  rw [after0_5, out_grad]
  idx_vars y
  refine (point_grad m c t _ _ _).trans (Adamw.same _ ?_ ?_ ?_) <;> blk_simp [idx t]

/-- The array of the changes. -/
theorem out_delta (c : Dev nD) (t : Fin cfg0.N) : out0_6 (grid0.coords t) (iblk m c 0 t) (iblk m c 1 t) (iblk m c 2 t) (iblk m c 3 t) (iblk m c 4 t)
    = k0_pay8 (k0_pay9 (grid0.coords t) (iblk m c 0 t) (iblk m c 1 t) (iblk m c 2 t) (iblk m c 3 t) (iblk m c 4 t)) (iblk m c 2 t) (iblk m c 3 t) (iblk m c 4 t) := by
  unfold out0_6
  frame_out
theorem point_delta (c : Dev nD) (t : Fin cfg0.N) (a : Fin 1) (r : Fin 128) (k : Fin 1024) :
    k0_pay8 (k0_pay9 (grid0.coords t) (iblk m c 0 t) (iblk m c 1 t) (iblk m c 2 t) (iblk m c 3 t) (iblk m c 4 t)) (iblk m c 2 t) (iblk m c 3 t) (iblk m c 4 t) (ix3 a r k) = sDelta (argP m c) (argQ m c) (argW m c) (argM m c) (argV m c) (layer t) (row t r) k := by
  unfold sDelta
  rw [pay_delta, grad_apply, blkW, blkM, blkV]
theorem final_delta (c : Dev nD) : (dats m 0 c).arrAt 6 cfg0.N = fun i : S2x128x1024.Idx =>
    sDelta (argP m c) (argQ m c) (argW m c) (argM m c) (argV m c) (i 0) (i 1) (i 2) := by
  refine (dats m 0 c).arrAt_eq_of_covers 6 _ (by decide +kernel) fun t hf y => ?_
  blk_simp
  rw [after0_6, out_delta]
  idx_vars y
  refine (point_delta m c t _ _ _).trans (Adamw.same _ ?_ ?_ ?_) <;> blk_simp [idx t]

/-- The array of the first moments. -/
theorem out_mom (c : Dev nD) (t : Fin cfg0.N) : out0_7 (grid0.coords t) (iblk m c 0 t) (iblk m c 1 t) (iblk m c 2 t) (iblk m c 3 t) (iblk m c 4 t)
    = k0_pay1 (k0_pay6 (k0_pay9 (grid0.coords t) (iblk m c 0 t) (iblk m c 1 t) (iblk m c 2 t) (iblk m c 3 t) (iblk m c 4 t)) (iblk m c 3 t)) := by
  unfold out0_7
  frame_out
theorem point_mom (c : Dev nD) (t : Fin cfg0.N) (a : Fin 1) (r : Fin 128) (k : Fin 1024) :
    k0_pay1 (k0_pay6 (k0_pay9 (grid0.coords t) (iblk m c 0 t) (iblk m c 1 t) (iblk m c 2 t) (iblk m c 3 t) (iblk m c 4 t)) (iblk m c 3 t)) (ix3 a r k) = sMom (argP m c) (argQ m c) (argM m c) (layer t) (row t r) k := by
  unfold sMom
  rw [pay_mom, grad_apply, blkM]
theorem final_mom (c : Dev nD) : (dats m 0 c).arrAt 7 cfg0.N = fun i : S2x128x1024.Idx =>
    sMom (argP m c) (argQ m c) (argM m c) (i 0) (i 1) (i 2) := by
  refine (dats m 0 c).arrAt_eq_of_covers 7 _ (by decide +kernel) fun t hf y => ?_
  blk_simp
  rw [after0_7, out_mom]
  idx_vars y
  refine (point_mom m c t _ _ _).trans (Adamw.same _ ?_ ?_ ?_) <;> blk_simp [idx t]

/-- The array of the second moments. -/
theorem out_var (c : Dev nD) (t : Fin cfg0.N) : out0_8 (grid0.coords t) (iblk m c 0 t) (iblk m c 1 t) (iblk m c 2 t) (iblk m c 3 t) (iblk m c 4 t)
    = k0_pay2 (k0_pay7 (k0_pay9 (grid0.coords t) (iblk m c 0 t) (iblk m c 1 t) (iblk m c 2 t) (iblk m c 3 t) (iblk m c 4 t)) (iblk m c 4 t)) := by
  unfold out0_8
  frame_out
theorem point_var (c : Dev nD) (t : Fin cfg0.N) (a : Fin 1) (r : Fin 128) (k : Fin 1024) :
    k0_pay2 (k0_pay7 (k0_pay9 (grid0.coords t) (iblk m c 0 t) (iblk m c 1 t) (iblk m c 2 t) (iblk m c 3 t) (iblk m c 4 t)) (iblk m c 4 t)) (ix3 a r k) = sVar (argP m c) (argQ m c) (argV m c) (layer t) (row t r) k := by
  unfold sVar
  rw [pay_var, grad_apply, blkV]
theorem final_var (c : Dev nD) : (dats m 0 c).arrAt 8 cfg0.N = fun i : S2x128x1024.Idx =>
    sVar (argP m c) (argQ m c) (argV m c) (i 0) (i 1) (i 2) := by
  refine (dats m 0 c).arrAt_eq_of_covers 8 _ (by decide +kernel) fun t hf y => ?_
  blk_simp
  rw [after0_8, out_var]
  idx_vars y
  refine (point_var m c t _ _ _).trans (Adamw.same _ ?_ ?_ ?_) <;> blk_simp [idx t]

end Cert.AdamwOutIdeal.Step

end
-- ==== Proof.AdamwDownKernel.lean ====
/-
  The optimizer's step for the down projection: a point's blocks, and the four results.
-/
module

public import proofs.«01_k».proof.Proof.Gen.AdamwDownIdeal.Value
public import proofs.«01_k».proof.Proof.Gen.AdamwDownRefIdeal.Read
public import proofs.«01_k».proof.Proof.Adamw
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.AdamwDownIdeal.Step

open Cert.AdamwDownIdeal Cert.AdamwDownIdeal.Gen Idealize.ShloMosaic Idealize.ShloMosaic.TcCoe Idealize.SL.Sem
open Idealize.ShloMosaic.Pipeline (Dat)

/-- The gradient of a layer's weight: the eight devices' parts summed. -/
def grad (p0 p1 : (⟨S8x352x1024, .bf16⟩ : BufTy).Contents (Elt Ideal)) (l : Fin 2) (r : Fin 352) (k : Fin 1024) : EReal :=
  if l.val = 0 then ∑ d : Fin 8, p0 (ix3 d r k) else ∑ d : Fin 8, p1 (ix3 d r k)

/-- The change of the weight and its two moments at a layer, a row and a column. -/
def sDelta (p0 p1 : (⟨S8x352x1024, .bf16⟩ : BufTy).Contents (Elt Ideal)) (w mo va : (⟨S2x352x1024, .f32⟩ : BufTy).Contents (Elt Ideal)) (l : Fin 2) (r : Fin 352) (k : Fin 1024) : EReal :=
  Adamw.delta (w (ix3 l r k)) (grad p0 p1 l r k) (mo (ix3 l r k)) (va (ix3 l r k))
def sMom (p0 p1 : (⟨S8x352x1024, .bf16⟩ : BufTy).Contents (Elt Ideal)) (mo : (⟨S2x352x1024, .f32⟩ : BufTy).Contents (Elt Ideal)) (l : Fin 2) (r : Fin 352) (k : Fin 1024) : EReal :=
  Adamw.mom (grad p0 p1 l r k) (mo (ix3 l r k))
def sVar (p0 p1 : (⟨S8x352x1024, .bf16⟩ : BufTy).Contents (Elt Ideal)) (va : (⟨S2x352x1024, .f32⟩ : BufTy).Contents (Elt Ideal)) (l : Fin 2) (r : Fin 352) (k : Fin 1024) : EReal :=
  Adamw.var (grad p0 p1 l r k) (va (ix3 l r k))

section Reference

open Cert.AdamwDownRefIdeal.Read

variable (p0 p1 : (⟨S8x352x1024, .bf16⟩ : BufTy).Contents (Elt Ideal)) (w mo va : (⟨S2x352x1024, .f32⟩ : BufTy).Contents (Elt Ideal))

/-- The reference's gradient. -/
theorem ref_grad (l : Fin 2) (r : Fin 352) (k : Fin 1024) : val_main_v6 (F := Ideal) p0 p1 (ix3 l r k) = grad p0 p1 l r k := by
  unfold grad
  by_cases h : l.val = 0
  · have h1 : l.val < 1 := by omega
    pointwise [val_main_v6, val_main_v5, val_main_v4, val_main_v3, val_main_v2, val_main_v1, val_main_v0, val_main_cst, val_main_cst_0, h, h1]
  · have h1 : ¬l.val < 1 := by omega
    pointwise [val_main_v6, val_main_v5, val_main_v4, val_main_v3, val_main_v2, val_main_v1, val_main_v0, val_main_cst, val_main_cst_0, h, h1]

/-- The reference's change of the weight. -/
theorem ref_delta (l : Fin 2) (r : Fin 352) (k : Fin 1024) : val_main_v30 (F := Ideal) p0 p1 w mo va (ix3 l r k)
    = sDelta p0 p1 w mo va l r k := by
  unfold sDelta; rw [← ref_grad]; rfl

/-- The reference's moments. -/
theorem ref_mom (l : Fin 2) (r : Fin 352) (k : Fin 1024) :
    val_main_v11 (F := Ideal) p0 p1 mo (ix3 l r k) = sMom p0 p1 mo l r k := by
  unfold sMom; rw [← ref_grad]; rfl
theorem ref_var (l : Fin 2) (r : Fin 352) (k : Fin 1024) :
    val_main_v17 (F := Ideal) p0 p1 va (ix3 l r k) = sVar p0 p1 va l r k := by
  unfold sVar; rw [← ref_grad]; rfl

end Reference

variable (m : (ℓ : Loc nD τ sig) → Buf (Elt Ideal) ℓ)

/-- Which block each window is at: the layer runs slowest. -/
theorem idx : ∀ t : Fin cfg0.N, win0_0.index t = ![0, 0, 0] ∧ win0_1.index t = ![0, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![t.val, 0, 0] :=
  (by decide +kernel : ∀ t : Fin grid0.N, win0_0.index t = ![0, 0, 0] ∧ win0_1.index t = ![0, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![t.val, 0, 0])

theorem ltN (t : Fin cfg0.N) : t.val < 2 := lt_of_lt_of_eq t.isLt N_0
theorem layer_lt (t : Fin cfg0.N) : t.val < 2 := by have := ltN t; omega
theorem row_lt (t : Fin cfg0.N) (r : Fin 352) : r.val < 352 := by omega

/-- The layer and the weight's row that a place in a point's blocks stands for. -/
abbrev layer (t : Fin cfg0.N) : Fin 2 := ⟨t.val, layer_lt t⟩
abbrev row (t : Fin cfg0.N) (r : Fin 352) : Fin 352 := ⟨r.val, row_lt t r⟩

/-- Which devices' parts a point takes. -/
theorem sel : ∀ t : Fin cfg0.N, Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1)

/-- The arguments as the specification takes them. -/
abbrev argP (c : Dev nD) : (⟨S8x352x1024, .bf16⟩ : BufTy).Contents (Elt Ideal) := m ((c : Thread nD τ).loc main_arg0)
abbrev argQ (c : Dev nD) : (⟨S8x352x1024, .bf16⟩ : BufTy).Contents (Elt Ideal) := m ((c : Thread nD τ).loc main_arg1)
abbrev argW (c : Dev nD) : (⟨S2x352x1024, .f32⟩ : BufTy).Contents (Elt Ideal) := m ((c : Thread nD τ).loc main_arg2)
abbrev argM (c : Dev nD) : (⟨S2x352x1024, .f32⟩ : BufTy).Contents (Elt Ideal) := m ((c : Thread nD τ).loc main_arg3)
abbrev argV (c : Dev nD) : (⟨S2x352x1024, .f32⟩ : BufTy).Contents (Elt Ideal) := m ((c : Thread nD τ).loc main_arg4)

theorem blkP (c : Dev nD) (t : Fin cfg0.N) (d : Fin 8) (r : Fin 352) (k : Fin 1024) :
    iblk m c 0 t (ix3 d r k) = argP m c (ix3 d (row t r) k) := by
  blk_ext [iblk, V_main_arg0, idx t]
theorem blkQ (c : Dev nD) (t : Fin cfg0.N) (d : Fin 8) (r : Fin 352) (k : Fin 1024) :
    iblk m c 1 t (ix3 d r k) = argQ m c (ix3 d (row t r) k) := by
  blk_ext [iblk, V_main_arg1, idx t]
theorem blkW (c : Dev nD) (t : Fin cfg0.N) (a : Fin 1) (r : Fin 352) (k : Fin 1024) :
    iblk m c 2 t (ix3 a r k) = argW m c (ix3 (layer t) (row t r) k) := by
  blk_ext [iblk, V_main_arg2, idx t]
theorem blkM (c : Dev nD) (t : Fin cfg0.N) (a : Fin 1) (r : Fin 352) (k : Fin 1024) :
    iblk m c 3 t (ix3 a r k) = argM m c (ix3 (layer t) (row t r) k) := by
  blk_ext [iblk, V_main_arg3, idx t]
theorem blkV (c : Dev nD) (t : Fin cfg0.N) (a : Fin 1) (r : Fin 352) (k : Fin 1024) :
    iblk m c 4 t (ix3 a r k) = argV m c (ix3 (layer t) (row t r) k) := by
  blk_ext [iblk, V_main_arg4, idx t]

/-- The gradient a point sums. -/
theorem grad_apply (c : Dev nD) (t : Fin cfg0.N) (r : Fin 352) (k : Fin 1024) :
    k0_pay9 (grid0.coords t) (iblk m c 0 t) (iblk m c 1 t) (iblk m c 2 t) (iblk m c 3 t) (iblk m c 4 t) (ix2 r k)
      = grad (argP m c) (argQ m c) (layer t) (row t r) k := by
  have hP (d : Fin 8) (r : Fin 352) (k : Fin 1024) := blkP m c t d r k
  have hQ (d : Fin 8) (r : Fin 352) (k : Fin 1024) := blkQ m c t d r k
  unfold k0_pay9 grad
  rw [sel t]
  generalize iblk m c 0 t = X0 at hP ⊢
  generalize iblk m c 1 t = X1 at hQ ⊢
  by_cases h : t.val = 0
  · rw [if_pos h, if_pos h]
    pointwise [k0_pay4, k0_pay3, hP, Fin.sum_univ_eight]
  · rw [if_neg h, if_neg h]
    pointwise [k0_pay4, k0_pay3, hQ, Fin.sum_univ_eight]

/-- The four results of a point. -/
theorem pay_grad (g : FVec Ideal S352x1024 .f32) (a : Fin 1) (r : Fin 352) (k : Fin 1024) : k0_pay5 g (ix3 a r k) = g (ix2 r k) := by
  pointwise [k0_pay5]
theorem pay_mom (g : FVec Ideal S352x1024 .f32) (mo : Vec Ideal S1x352x1024 .f32) (a : Fin 1) (r : Fin 352) (k : Fin 1024) :
    k0_pay1 (k0_pay6 g mo) (ix3 a r k) = Adamw.mom (g (ix2 r k)) (mo (ix3 0 r k)) := by
  pointwise [k0_pay1, k0_pay6, Adamw.mom]
theorem pay_var (g : FVec Ideal S352x1024 .f32) (va : Vec Ideal S1x352x1024 .f32) (a : Fin 1) (r : Fin 352) (k : Fin 1024) :
    k0_pay2 (k0_pay7 g va) (ix3 a r k) = Adamw.var (g (ix2 r k)) (va (ix3 0 r k)) := by
  pointwise [k0_pay2, k0_pay7, Adamw.var]
theorem pay_delta (g : FVec Ideal S352x1024 .f32) (w mo va : Vec Ideal S1x352x1024 .f32) (a : Fin 1) (r : Fin 352) (k : Fin 1024) :
    k0_pay8 g w mo va (ix3 a r k) = Adamw.delta (w (ix3 0 r k)) (g (ix2 r k)) (mo (ix3 0 r k)) (va (ix3 0 r k)) := by
  pointwise [k0_pay8, k0_pay6, k0_pay7, Adamw.delta, Adamw.mom, Adamw.var]

/-- The gradient's array. -/
theorem out_grad (c : Dev nD) (t : Fin cfg0.N) : out0_5 (grid0.coords t) (iblk m c 0 t) (iblk m c 1 t) (iblk m c 2 t) (iblk m c 3 t) (iblk m c 4 t)
    = k0_pay5 (k0_pay9 (grid0.coords t) (iblk m c 0 t) (iblk m c 1 t) (iblk m c 2 t) (iblk m c 3 t) (iblk m c 4 t)) := by
  unfold out0_5
  frame_out
theorem point_grad (c : Dev nD) (t : Fin cfg0.N) (a : Fin 1) (r : Fin 352) (k : Fin 1024) :
    k0_pay5 (k0_pay9 (grid0.coords t) (iblk m c 0 t) (iblk m c 1 t) (iblk m c 2 t) (iblk m c 3 t) (iblk m c 4 t)) (ix3 a r k) = grad (argP m c) (argQ m c) (layer t) (row t r) k := by
  rw [pay_grad, grad_apply]
theorem final_grad (c : Dev nD) : (dats m 0 c).arrAt 5 cfg0.N = fun i : S2x352x1024.Idx =>
    grad (argP m c) (argQ m c) (i 0) (i 1) (i 2) := by
  refine (dats m 0 c).arrAt_eq_of_covers 5 _ (by decide +kernel) fun t hf y => ?_
  blk_simp
  rw [after0_5, out_grad]
  idx_vars y
  refine (point_grad m c t _ _ _).trans (Adamw.same _ ?_ ?_ ?_) <;> blk_simp [idx t]

/-- The array of the changes. -/
theorem out_delta (c : Dev nD) (t : Fin cfg0.N) : out0_6 (grid0.coords t) (iblk m c 0 t) (iblk m c 1 t) (iblk m c 2 t) (iblk m c 3 t) (iblk m c 4 t)
    = k0_pay8 (k0_pay9 (grid0.coords t) (iblk m c 0 t) (iblk m c 1 t) (iblk m c 2 t) (iblk m c 3 t) (iblk m c 4 t)) (iblk m c 2 t) (iblk m c 3 t) (iblk m c 4 t) := by
  unfold out0_6
  frame_out
theorem point_delta (c : Dev nD) (t : Fin cfg0.N) (a : Fin 1) (r : Fin 352) (k : Fin 1024) :
    k0_pay8 (k0_pay9 (grid0.coords t) (iblk m c 0 t) (iblk m c 1 t) (iblk m c 2 t) (iblk m c 3 t) (iblk m c 4 t)) (iblk m c 2 t) (iblk m c 3 t) (iblk m c 4 t) (ix3 a r k) = sDelta (argP m c) (argQ m c) (argW m c) (argM m c) (argV m c) (layer t) (row t r) k := by
  unfold sDelta
  rw [pay_delta, grad_apply, blkW, blkM, blkV]
theorem final_delta (c : Dev nD) : (dats m 0 c).arrAt 6 cfg0.N = fun i : S2x352x1024.Idx =>
    sDelta (argP m c) (argQ m c) (argW m c) (argM m c) (argV m c) (i 0) (i 1) (i 2) := by
  refine (dats m 0 c).arrAt_eq_of_covers 6 _ (by decide +kernel) fun t hf y => ?_
  blk_simp
  rw [after0_6, out_delta]
  idx_vars y
  refine (point_delta m c t _ _ _).trans (Adamw.same _ ?_ ?_ ?_) <;> blk_simp [idx t]

/-- The array of the first moments. -/
theorem out_mom (c : Dev nD) (t : Fin cfg0.N) : out0_7 (grid0.coords t) (iblk m c 0 t) (iblk m c 1 t) (iblk m c 2 t) (iblk m c 3 t) (iblk m c 4 t)
    = k0_pay1 (k0_pay6 (k0_pay9 (grid0.coords t) (iblk m c 0 t) (iblk m c 1 t) (iblk m c 2 t) (iblk m c 3 t) (iblk m c 4 t)) (iblk m c 3 t)) := by
  unfold out0_7
  frame_out
theorem point_mom (c : Dev nD) (t : Fin cfg0.N) (a : Fin 1) (r : Fin 352) (k : Fin 1024) :
    k0_pay1 (k0_pay6 (k0_pay9 (grid0.coords t) (iblk m c 0 t) (iblk m c 1 t) (iblk m c 2 t) (iblk m c 3 t) (iblk m c 4 t)) (iblk m c 3 t)) (ix3 a r k) = sMom (argP m c) (argQ m c) (argM m c) (layer t) (row t r) k := by
  unfold sMom
  rw [pay_mom, grad_apply, blkM]
theorem final_mom (c : Dev nD) : (dats m 0 c).arrAt 7 cfg0.N = fun i : S2x352x1024.Idx =>
    sMom (argP m c) (argQ m c) (argM m c) (i 0) (i 1) (i 2) := by
  refine (dats m 0 c).arrAt_eq_of_covers 7 _ (by decide +kernel) fun t hf y => ?_
  blk_simp
  rw [after0_7, out_mom]
  idx_vars y
  refine (point_mom m c t _ _ _).trans (Adamw.same _ ?_ ?_ ?_) <;> blk_simp [idx t]

/-- The array of the second moments. -/
theorem out_var (c : Dev nD) (t : Fin cfg0.N) : out0_8 (grid0.coords t) (iblk m c 0 t) (iblk m c 1 t) (iblk m c 2 t) (iblk m c 3 t) (iblk m c 4 t)
    = k0_pay2 (k0_pay7 (k0_pay9 (grid0.coords t) (iblk m c 0 t) (iblk m c 1 t) (iblk m c 2 t) (iblk m c 3 t) (iblk m c 4 t)) (iblk m c 4 t)) := by
  unfold out0_8
  frame_out
theorem point_var (c : Dev nD) (t : Fin cfg0.N) (a : Fin 1) (r : Fin 352) (k : Fin 1024) :
    k0_pay2 (k0_pay7 (k0_pay9 (grid0.coords t) (iblk m c 0 t) (iblk m c 1 t) (iblk m c 2 t) (iblk m c 3 t) (iblk m c 4 t)) (iblk m c 4 t)) (ix3 a r k) = sVar (argP m c) (argQ m c) (argV m c) (layer t) (row t r) k := by
  unfold sVar
  rw [pay_var, grad_apply, blkV]
theorem final_var (c : Dev nD) : (dats m 0 c).arrAt 8 cfg0.N = fun i : S2x352x1024.Idx =>
    sVar (argP m c) (argQ m c) (argV m c) (i 0) (i 1) (i 2) := by
  refine (dats m 0 c).arrAt_eq_of_covers 8 _ (by decide +kernel) fun t hf y => ?_
  blk_simp
  rw [after0_8, out_var]
  idx_vars y
  refine (point_var m c t _ _ _).trans (Adamw.same _ ?_ ?_ ?_) <;> blk_simp [idx t]

end Cert.AdamwDownIdeal.Step

end
-- ==== Proof.AdamwInKernel.lean ====
/-
  The optimizer's step for the input projection: a point's blocks, whose second axis is the layer, and the four results.
-/
module

public import proofs.«01_k».proof.Proof.Gen.AdamwInIdeal.Value
public import proofs.«01_k».proof.Proof.Gen.AdamwInRefIdeal.Read
public import proofs.«01_k».proof.Proof.Adamw
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.AdamwInIdeal.Step

open Cert.AdamwInIdeal Cert.AdamwInIdeal.Gen Idealize.ShloMosaic Idealize.ShloMosaic.TcCoe Idealize.SL.Sem
open Idealize.ShloMosaic.Pipeline (Dat)

/-- The row of a part that holds a row of the weight; a part's last thirteen rows are not its own. -/
abbrev own (r : Fin 419) : Fin 432 := ⟨r.val, Nat.lt_trans r.isLt (by decide)⟩

/-- The gradient of a layer's weight: the eight devices' parts summed. -/
def grad (p0 p1 : (⟨S8x432x1024, .bf16⟩ : BufTy).Contents (Elt Ideal)) (r : Fin 419) (l : Fin 2) (k : Fin 1024) : EReal :=
  if l.val = 0 then ∑ d : Fin 8, p0 (ix3 d (own r) k) else ∑ d : Fin 8, p1 (ix3 d (own r) k)

/-- The change of the weight and its two moments at a row, a layer and a column. -/
def sDelta (p0 p1 : (⟨S8x432x1024, .bf16⟩ : BufTy).Contents (Elt Ideal)) (w mo va : (⟨S419x2x1024, .f32⟩ : BufTy).Contents (Elt Ideal)) (r : Fin 419) (l : Fin 2) (k : Fin 1024) : EReal :=
  Adamw.delta (w (ix3 r l k)) (grad p0 p1 r l k) (mo (ix3 r l k)) (va (ix3 r l k))
def sMom (p0 p1 : (⟨S8x432x1024, .bf16⟩ : BufTy).Contents (Elt Ideal)) (mo : (⟨S419x2x1024, .f32⟩ : BufTy).Contents (Elt Ideal)) (r : Fin 419) (l : Fin 2) (k : Fin 1024) : EReal :=
  Adamw.mom (grad p0 p1 r l k) (mo (ix3 r l k))
def sVar (p0 p1 : (⟨S8x432x1024, .bf16⟩ : BufTy).Contents (Elt Ideal)) (va : (⟨S419x2x1024, .f32⟩ : BufTy).Contents (Elt Ideal)) (r : Fin 419) (l : Fin 2) (k : Fin 1024) : EReal :=
  Adamw.var (grad p0 p1 r l k) (va (ix3 r l k))

section Reference

open Cert.AdamwInRefIdeal.Read

variable (p0 p1 : (⟨S8x432x1024, .bf16⟩ : BufTy).Contents (Elt Ideal)) (w mo va : (⟨S419x2x1024, .f32⟩ : BufTy).Contents (Elt Ideal))

/-- The reference's gradient. -/
theorem ref_grad (r : Fin 419) (l : Fin 2) (k : Fin 1024) : val_main_v8 (F := Ideal) p0 p1 (ix3 r l k) = grad p0 p1 r l k := by
  unfold grad
  by_cases h : l.val = 0
  · have h1 : l.val < 1 := by omega
    pointwise [val_main_v8, val_main_v7, val_main_v6, val_main_v5, val_main_v4, val_main_v3, val_main_v2, val_main_v1, val_main_v0,
      val_main_cst, val_main_cst_0, h, h1]
  · have h1 : ¬l.val < 1 := by omega
    pointwise [val_main_v8, val_main_v7, val_main_v6, val_main_v5, val_main_v4, val_main_v3, val_main_v2, val_main_v1, val_main_v0,
      val_main_cst, val_main_cst_0, h, h1]

/-- The reference's change of the weight. -/
theorem ref_delta (r : Fin 419) (l : Fin 2) (k : Fin 1024) :
    val_main_v32 (F := Ideal) p0 p1 w mo va (ix3 r l k) = sDelta p0 p1 w mo va r l k := by
  unfold sDelta; rw [← ref_grad]; rfl

/-- The reference's moments. -/
theorem ref_mom (r : Fin 419) (l : Fin 2) (k : Fin 1024) : val_main_v13 (F := Ideal) p0 p1 mo (ix3 r l k) = sMom p0 p1 mo r l k := by
  unfold sMom; rw [← ref_grad]; rfl
theorem ref_var (r : Fin 419) (l : Fin 2) (k : Fin 1024) : val_main_v19 (F := Ideal) p0 p1 va (ix3 r l k) = sVar p0 p1 va r l k := by
  unfold sVar; rw [← ref_grad]; rfl

end Reference

variable (m : (ℓ : Loc nD τ sig) → Buf (Elt Ideal) ℓ)

/-- Which block each window is at: the columns are in two halves. -/
theorem idx : ∀ t : Fin cfg0.N, win0_0.index t = ![0, 0, t.val] ∧ win0_1.index t = ![0, 0, t.val] ∧ win0_2.index t = ![0, 0, t.val] ∧ win0_3.index t = ![0, 0, t.val]
    ∧ win0_4.index t = ![0, 0, t.val] ∧ win0_5.index t = ![0, 0, t.val] ∧ win0_6.index t = ![0, 0, t.val] ∧ win0_7.index t = ![0, 0, t.val] ∧ win0_8.index t = ![0, 0, t.val] :=
  (by decide +kernel : ∀ t : Fin grid0.N, win0_0.index t = ![0, 0, t.val] ∧ win0_1.index t = ![0, 0, t.val] ∧ win0_2.index t = ![0, 0, t.val] ∧ win0_3.index t = ![0, 0, t.val]
    ∧ win0_4.index t = ![0, 0, t.val] ∧ win0_5.index t = ![0, 0, t.val] ∧ win0_6.index t = ![0, 0, t.val] ∧ win0_7.index t = ![0, 0, t.val] ∧ win0_8.index t = ![0, 0, t.val])

theorem ltN (t : Fin cfg0.N) : t.val < 2 := lt_of_lt_of_eq t.isLt N_0
theorem col_lt (t : Fin cfg0.N) (k : Fin 512) : t.val * 512 + k.val < 1024 := by have := ltN t; omega

/-- The column that a place in a point's blocks stands for. -/
abbrev col (t : Fin cfg0.N) (k : Fin 512) : Fin 1024 := ⟨t.val * 512 + k.val, col_lt t k⟩

/-- The arguments as the specification takes them. -/
abbrev argP (c : Dev nD) : (⟨S8x432x1024, .bf16⟩ : BufTy).Contents (Elt Ideal) := m ((c : Thread nD τ).loc main_arg0)
abbrev argQ (c : Dev nD) : (⟨S8x432x1024, .bf16⟩ : BufTy).Contents (Elt Ideal) := m ((c : Thread nD τ).loc main_arg1)
abbrev argW (c : Dev nD) : (⟨S419x2x1024, .f32⟩ : BufTy).Contents (Elt Ideal) := m ((c : Thread nD τ).loc main_arg2)
abbrev argM (c : Dev nD) : (⟨S419x2x1024, .f32⟩ : BufTy).Contents (Elt Ideal) := m ((c : Thread nD τ).loc main_arg3)
abbrev argV (c : Dev nD) : (⟨S419x2x1024, .f32⟩ : BufTy).Contents (Elt Ideal) := m ((c : Thread nD τ).loc main_arg4)

theorem blkP (c : Dev nD) (t : Fin cfg0.N) (d : Fin 8) (r : Fin 432) (k : Fin 512) :
    iblk m c 0 t (ix3 d r k) = argP m c (ix3 d r (col t k)) := by
  blk_ext [iblk, V_main_arg0, idx t]
theorem blkQ (c : Dev nD) (t : Fin cfg0.N) (d : Fin 8) (r : Fin 432) (k : Fin 512) :
    iblk m c 1 t (ix3 d r k) = argQ m c (ix3 d r (col t k)) := by
  blk_ext [iblk, V_main_arg1, idx t]
theorem blkW (c : Dev nD) (t : Fin cfg0.N) (r : Fin 419) (l : Fin 2) (k : Fin 512) :
    iblk m c 2 t (ix3 r l k) = argW m c (ix3 r l (col t k)) := by
  blk_ext [iblk, V_main_arg2, idx t]
theorem blkM (c : Dev nD) (t : Fin cfg0.N) (r : Fin 419) (l : Fin 2) (k : Fin 512) :
    iblk m c 3 t (ix3 r l k) = argM m c (ix3 r l (col t k)) := by
  blk_ext [iblk, V_main_arg3, idx t]
theorem blkV (c : Dev nD) (t : Fin cfg0.N) (r : Fin 419) (l : Fin 2) (k : Fin 512) :
    iblk m c 4 t (ix3 r l k) = argV m c (ix3 r l (col t k)) := by
  blk_ext [iblk, V_main_arg4, idx t]

/-- The gradients a point sums, the first layer's and the second's. -/
theorem grad0_apply (c : Dev nD) (t : Fin cfg0.N) (r : Fin 419) (k : Fin 512) :
    k0_pay17 (iblk m c 0 t) (iblk m c 1 t) (iblk m c 2 t) (iblk m c 3 t) (iblk m c 4 t) (ix2 r k) = grad (argP m c) (argQ m c) r 0 (col t k) := by
  have hP (d : Fin 8) (r : Fin 432) (k : Fin 512) := blkP m c t d r k
  unfold k0_pay17 grad
  generalize iblk m c 0 t = X0 at hP ⊢
  pointwise [k0_pay4, hP, Fin.sum_univ_eight]
theorem grad1_apply (c : Dev nD) (t : Fin cfg0.N) (r : Fin 419) (k : Fin 512) :
    k0_pay12 (k0_pay18 (iblk m c 0 t) (iblk m c 1 t) (iblk m c 2 t) (iblk m c 3 t) (iblk m c 4 t)) (View.ld (iblk m c 1 t) r0_7) (ix2 r k)
      = grad (argP m c) (argQ m c) r 1 (col t k) := by
  have hQ (d : Fin 8) (r : Fin 432) (k : Fin 512) := blkQ m c t d r k
  unfold k0_pay18 grad
  generalize iblk m c 1 t = X1 at hQ ⊢
  pointwise [k0_pay12, k0_pay11, hQ, Fin.sum_univ_eight]

/-- A block of two layers stored one after the other. -/
theorem canon_layers (w1 w0 : Vec Ideal S419x1x512 .f32) (f : Fin 419 → Fin 2 → Fin 512 → EReal) (h0 : ∀ r k, w0 (ix3 r 0 k) = f r 0 k)
    (h1 : ∀ r k, w1 (ix3 r 0 k) = f r 1 k) (r : Fin 419) (l : Fin 2) (k : Fin 512) :
    View.canon (Val := Elt Ideal) (e := .f32) [⟨r0_9, w1⟩, ⟨r0_8, w0⟩] (ix3 r l k) = f r l k := by
  match l with
  | 0 =>
    rw [View.canon_cons_of_not_mem]
    · refine (congrArg _ ?_).trans ((View.canon_cons_emb r0_8 w0 [] (ix3 r 0 k)).trans (h0 r k))
      funext a
      exact Fin.ext (by match a with | 0 => simp [Rect.emb_apply] | 1 => simp [Rect.emb_apply] | 2 => simp [Rect.emb_apply])
    · intro h
      have h9 : ix3 r 0 k ∈ r0_9.set := h
      exact absurd (show 1 ≤ 0 from ((Rect.mem_set_unit.mp h9) 1).1) (by decide)
  | 1 =>
    refine (congrArg _ ?_).trans ((View.canon_cons_emb r0_9 w1 _ (ix3 r 0 k)).trans (h1 r k))
    funext a
    exact Fin.ext (by match a with | 0 => simp [Rect.emb_apply] | 1 => simp [Rect.emb_apply] | 2 => simp [Rect.emb_apply])

/-- A layer's row of a block. -/
theorem ld0 (X : Vec Ideal S419x2x512 .f32) (r : Fin 419) (k : Fin 512) : View.ld X r0_8 (ix3 r 0 k) = X (ix3 r 0 k) := by
  pointwise []
theorem ld1 (X : Vec Ideal S419x2x512 .f32) (r : Fin 419) (k : Fin 512) : View.ld X r0_9 (ix3 r 0 k) = X (ix3 r 1 k) := by
  pointwise []

/-- The results of a point, a layer at a time. -/
theorem pay_grad0 (g : FVec Ideal S419x512 .f32) (r : Fin 419) (k : Fin 512) : k0_pay5 g (ix3 r 0 k) = g (ix2 r k) := by
  pointwise [k0_pay5]
theorem pay_grad1 (h : FVec Ideal S419x512 .f32) (p : Vec Ideal S1x419x512 .bf16) (r : Fin 419) (k : Fin 512) (e : EReal)
    (he : k0_pay12 h p (ix2 r k) = e) :
    k0_pay13 h p (ix3 r 0 k) = e := by
  rw [← he]
  pointwise [k0_pay13]
theorem pay_mom0 (g : FVec Ideal S419x512 .f32) (mo : Vec Ideal S419x1x512 .f32) (r : Fin 419) (k : Fin 512) :
    k0_pay9 (k0_pay6 g mo) (ix3 r 0 k) = Adamw.mom (g (ix2 r k)) (mo (ix3 r 0 k)) := by
  pointwise [k0_pay9, k0_pay6, Adamw.mom]
theorem pay_mom1 (h : FVec Ideal S419x512 .f32) (p : Vec Ideal S1x419x512 .bf16) (mo : Vec Ideal S419x1x512 .f32) (r : Fin 419) (k : Fin 512) (e : EReal)
    (he : k0_pay12 h p (ix2 r k) = e) :
    k0_pay2 (k0_pay14 h p mo) (ix3 r 0 k) = Adamw.mom e (mo (ix3 r 0 k)) := by
  rw [← he]
  unfold k0_pay14
  generalize k0_pay12 h p = g
  pointwise [k0_pay2, Adamw.mom]
theorem pay_var0 (g : FVec Ideal S419x512 .f32) (va : Vec Ideal S419x1x512 .f32) (r : Fin 419) (k : Fin 512) :
    k0_pay10 (k0_pay7 g va) (ix3 r 0 k) = Adamw.var (g (ix2 r k)) (va (ix3 r 0 k)) := by
  pointwise [k0_pay10, k0_pay7, Adamw.var]
theorem pay_var1 (h : FVec Ideal S419x512 .f32) (p : Vec Ideal S1x419x512 .bf16) (va : Vec Ideal S419x1x512 .f32) (r : Fin 419) (k : Fin 512) (e : EReal)
    (he : k0_pay12 h p (ix2 r k) = e) :
    k0_pay3 (k0_pay15 h p va) (ix3 r 0 k) = Adamw.var e (va (ix3 r 0 k)) := by
  rw [← he]
  unfold k0_pay15
  generalize k0_pay12 h p = g
  pointwise [k0_pay3, Adamw.var]
theorem pay_delta0 (g : FVec Ideal S419x512 .f32) (w mo va : Vec Ideal S419x1x512 .f32) (r : Fin 419) (k : Fin 512) :
    k0_pay8 g w mo va (ix3 r 0 k) = Adamw.delta (w (ix3 r 0 k)) (g (ix2 r k)) (mo (ix3 r 0 k)) (va (ix3 r 0 k)) := by
  pointwise [k0_pay8, k0_pay6, k0_pay7, Adamw.delta, Adamw.mom, Adamw.var]
theorem pay_delta1 (h : FVec Ideal S419x512 .f32) (p : Vec Ideal S1x419x512 .bf16) (w mo va : Vec Ideal S419x1x512 .f32) (r : Fin 419) (k : Fin 512) (e : EReal)
    (he : k0_pay12 h p (ix2 r k) = e) :
    k0_pay1 (k0_pay16 h p w mo va) (Scalar.ofBits .f32 0xBA83126F#32) (ix3 r 0 k)
      = Adamw.delta (w (ix3 r 0 k)) e (mo (ix3 r 0 k)) (va (ix3 r 0 k)) := by
  rw [← he]
  unfold k0_pay16 k0_pay14 k0_pay15
  generalize k0_pay12 h p = g
  pointwise [k0_pay1, Adamw.delta, Adamw.mom, Adamw.var]

/-- The gradient's array. -/
theorem point_grad (c : Dev nD) (t : Fin cfg0.N) (r : Fin 419) (l : Fin 2) (k : Fin 512) :
    out0_5 (iblk m c 0 t) (iblk m c 1 t) (iblk m c 2 t) (iblk m c 3 t) (iblk m c 4 t) (ix3 r l k) = grad (argP m c) (argQ m c) r l (col t k) := by
  unfold out0_5
  refine canon_layers _ _ (fun r l k => grad (argP m c) (argQ m c) r l (col t k)) (fun r k => ?_) (fun r k => ?_) r l k
  · refine (pay_grad0 ..).trans ?_
    rw [grad0_apply]
  · refine ((pay_grad1 _ _ r k _ (grad1_apply m c t r k)))
theorem final_grad (c : Dev nD) : (dats m 0 c).arrAt 5 cfg0.N = fun i : S419x2x1024.Idx =>
    grad (argP m c) (argQ m c) (i 0) (i 1) (i 2) := by
  refine (dats m 0 c).arrAt_eq_of_covers 5 _ (by decide +kernel) fun t hf y => ?_
  blk_simp
  rw [after0_5]
  idx_vars y
  refine (point_grad m c t _ _ _).trans (Adamw.same _ ?_ ?_ ?_) <;> blk_simp [idx t]

/-- The array of the changes. -/
theorem point_delta (c : Dev nD) (t : Fin cfg0.N) (r : Fin 419) (l : Fin 2) (k : Fin 512) :
    out0_6 (iblk m c 0 t) (iblk m c 1 t) (iblk m c 2 t) (iblk m c 3 t) (iblk m c 4 t) (ix3 r l k) = sDelta (argP m c) (argQ m c) (argW m c) (argM m c) (argV m c) r l (col t k) := by
  unfold out0_6
  refine canon_layers _ _ (fun r l k => sDelta (argP m c) (argQ m c) (argW m c) (argM m c) (argV m c) r l (col t k)) (fun r k => ?_) (fun r k => ?_) r l k
  · refine (pay_delta0 ..).trans ?_
    unfold sDelta; rw [grad0_apply, ld0, ld0, ld0, blkW, blkM, blkV]
  · refine ((pay_delta1 _ _ _ _ _ r k _ (grad1_apply m c t r k))).trans ?_
    unfold sDelta; rw [ld1, ld1, ld1, blkW, blkM, blkV]
theorem final_delta (c : Dev nD) : (dats m 0 c).arrAt 6 cfg0.N = fun i : S419x2x1024.Idx =>
    sDelta (argP m c) (argQ m c) (argW m c) (argM m c) (argV m c) (i 0) (i 1) (i 2) := by
  refine (dats m 0 c).arrAt_eq_of_covers 6 _ (by decide +kernel) fun t hf y => ?_
  blk_simp
  rw [after0_6]
  idx_vars y
  refine (point_delta m c t _ _ _).trans (Adamw.same _ ?_ ?_ ?_) <;> blk_simp [idx t]

/-- The array of the first moments. -/
theorem point_mom (c : Dev nD) (t : Fin cfg0.N) (r : Fin 419) (l : Fin 2) (k : Fin 512) :
    out0_7 (iblk m c 0 t) (iblk m c 1 t) (iblk m c 2 t) (iblk m c 3 t) (iblk m c 4 t) (ix3 r l k) = sMom (argP m c) (argQ m c) (argM m c) r l (col t k) := by
  unfold out0_7
  refine canon_layers _ _ (fun r l k => sMom (argP m c) (argQ m c) (argM m c) r l (col t k)) (fun r k => ?_) (fun r k => ?_) r l k
  · refine (pay_mom0 ..).trans ?_
    unfold sMom; rw [grad0_apply, ld0, blkM]
  · refine ((pay_mom1 _ _ _ r k _ (grad1_apply m c t r k))).trans ?_
    unfold sMom; rw [ld1, blkM]
theorem final_mom (c : Dev nD) : (dats m 0 c).arrAt 7 cfg0.N = fun i : S419x2x1024.Idx =>
    sMom (argP m c) (argQ m c) (argM m c) (i 0) (i 1) (i 2) := by
  refine (dats m 0 c).arrAt_eq_of_covers 7 _ (by decide +kernel) fun t hf y => ?_
  blk_simp
  rw [after0_7]
  idx_vars y
  refine (point_mom m c t _ _ _).trans (Adamw.same _ ?_ ?_ ?_) <;> blk_simp [idx t]

/-- The array of the second moments. -/
theorem point_var (c : Dev nD) (t : Fin cfg0.N) (r : Fin 419) (l : Fin 2) (k : Fin 512) :
    out0_8 (iblk m c 0 t) (iblk m c 1 t) (iblk m c 2 t) (iblk m c 3 t) (iblk m c 4 t) (ix3 r l k) = sVar (argP m c) (argQ m c) (argV m c) r l (col t k) := by
  unfold out0_8
  refine canon_layers _ _ (fun r l k => sVar (argP m c) (argQ m c) (argV m c) r l (col t k)) (fun r k => ?_) (fun r k => ?_) r l k
  · refine (pay_var0 ..).trans ?_
    unfold sVar; rw [grad0_apply, ld0, blkV]
  · refine ((pay_var1 _ _ _ r k _ (grad1_apply m c t r k))).trans ?_
    unfold sVar; rw [ld1, blkV]
theorem final_var (c : Dev nD) : (dats m 0 c).arrAt 8 cfg0.N = fun i : S419x2x1024.Idx =>
    sVar (argP m c) (argQ m c) (argV m c) (i 0) (i 1) (i 2) := by
  refine (dats m 0 c).arrAt_eq_of_covers 8 _ (by decide +kernel) fun t hf y => ?_
  blk_simp
  rw [after0_8]
  idx_vars y
  refine (point_var m c t _ _ _).trans (Adamw.same _ ?_ ?_ ?_) <;> blk_simp [idx t]

end Cert.AdamwInIdeal.Step

end
-- ==== Proof.QkvBwdBlocks.lean ====
/-
  The gradient of the convolved queries, keys and values, one grid point of the kernel: what each of the two outputs'
  staging buffers holds after the point, as a function of the point's input blocks.
-/
module

public import proofs.«01_k».proof.Proof.Gen.QkvBwdIdeal.Value
public import Idealize.ShloMosaic.Lib.Pointwise
public import Idealize.ShloMosaic.Lib.Tactic

@[expose] public section

set_option maxRecDepth 16384

noncomputable section

namespace Cert.QkvBwdIdeal.Qkv

open Cert.QkvBwdIdeal Cert.QkvBwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The operand between its two halos of eight rows, at point `t`. -/
def xAll (c : Dev nD) (t : Fin cfg0.N) : FVec F S1040x768 .f32 :=
  k0_pay4 (grid0.coords t) (X0_1 m c t) (X0_0 m c t) (X0_2 m c t)

/-- The convolution at the point's rows and the eight behind them. -/
def cExt (c : Dev nD) (t : Fin cfg0.N) : FVec F S1032x768 .f32 :=
  k0_pay5 (grid0.coords t) (iblk m c 5 t) (X0_1 m c t) (X0_0 m c t) (X0_2 m c t)

/-- The convolution's gradient at the point's rows and the eight behind them. -/
def gExt (c : Dev nD) (t : Fin cfg0.N) : FVec F S1032x768 .f32 :=
  k0_pay7 (BitVec.ofNat 32 (grid0.coords t 0).val) (cExt m c t) k0_pay6 (iblk m c 4 t) (iblk m c 3 t)

/-- The block of the operand's gradient that point `t` writes. -/
def dsBlk (c : Dev nD) (t : Fin cfg0.N) : FVec F S1024x768 .bf16 :=
  k0_pay8 (BitVec.ofNat 32 (grid0.coords t 0).val) (k0_pay3 (iblk m c 5 t)) (cExt m c t) k0_pay6 (iblk m c 4 t) (iblk m c 3 t)

/-- The tap gradient's accumulator after point `t`, when it holds `acc` before. -/
def dwStep (c : Dev nD) (t : Fin cfg0.N) (acc : FVec F S4x768 .f32) : FVec F S4x768 .f32 :=
  k0_pay1 (xAll m c t) (gExt m c t) acc

/-- The first output's staging buffer after a point where the accumulator is reset. -/
theorem outs_ds_A (c : Dev nD) (t : Fin cfg0.N) (h0 : t.val % 8 = 0) :
    (outsAt0 m c t.val t.isLt).1 = dsBlk m c t := by
  unfold dsBlk cExt
  rw [outsAt0_A m c t h0]
  dsimp only
  unfold out0_A_6
  refine (View.read_writes_eq_canon _ _ _ fun y => ?_).trans ?_
  · exact cover0_A_6 ..
  unfold kernelRun0_A
  dsimp only
  sl_unfold_words
  rw [View.canon_unit_zero hz2]
  simp only [View.readAt_eq_ld, Memref.IsWhole.read_unread, View.ld_unit_zero (S := S1024x768) hz2,
    View.ld_unit_zero (S := S8x768) hz2, View.ld_unit_zero (S := S1x4x768) hz3]

/-- The first output's staging buffer after any other point. -/
theorem outs_ds_B (c : Dev nD) (t : Fin cfg0.N) (h0 : ¬t.val % 8 = 0) :
    (outsAt0 m c t.val t.isLt).1 = dsBlk m c t := by
  unfold dsBlk cExt
  rw [outsAt0_B m c t h0]
  dsimp only
  unfold out0_B_6
  refine (View.read_writes_eq_canon _ _ _ fun y => ?_).trans ?_
  · exact cover0_B_6 ..
  unfold kernelRun0_B
  dsimp only
  sl_unfold_words
  rw [View.canon_unit_zero hz2]
  simp only [View.readAt_eq_ld, Memref.IsWhole.read_unread, View.ld_unit_zero (S := S1024x768) hz2,
    View.ld_unit_zero (S := S8x768) hz2, View.ld_unit_zero (S := S1x4x768) hz3]

/-- The accumulator after a point where it is reset. -/
theorem outs_dw_A (c : Dev nD) (t : Fin cfg0.N) (h0 : t.val % 8 = 0) :
    (outsAt0 m c t.val t.isLt).2 = dwStep m c t k0_pay2 := by
  unfold dwStep xAll gExt cExt
  rw [outsAt0_A m c t h0]
  dsimp only
  unfold out0_A_7
  refine (View.read_writes_eq_canon _ _ _ fun y => ?_).trans ?_
  · exact cover0_A_7 ..
  unfold kernelRun0_A
  dsimp only
  sl_unfold_words
  rw [View.canon_cons_unit_zero (S := S4x768) hz2, View.readCov_unit_zero (S := S4x768) _ hz2]
  simp only [View.readAt_eq_ld, Memref.IsWhole.read_unread, View.ld_unit_zero (S := S1024x768) hz2,
    View.ld_unit_zero (S := S8x768) hz2, View.ld_unit_zero (S := S1x4x768) hz3]

/-- The accumulator after any other point, from what the point before left. -/
theorem outs_dw_B (c : Dev nD) (t : Fin cfg0.N) (h0 : ¬t.val % 8 = 0) (hlt : t.val - 1 < cfg0.N) :
    (outsAt0 m c t.val t.isLt).2 = dwStep m c t (outsAt0 m c (t.val - 1) hlt).2 := by
  unfold dwStep xAll gExt cExt
  rw [outsAt0_B m c t h0]
  dsimp only
  unfold out0_B_7
  refine (View.read_writes_eq_canon _ _ _ fun y => ?_).trans ?_
  · exact cover0_B_7 ..
  unfold kernelRun0_B
  dsimp only
  sl_unfold_words
  rw [View.canon_unit_zero hz2]
  simp only [View.readAt_eq_ld, Memref.IsWhole.read_unread, View.ld_unit_zero (S := S1024x768) hz2,
    View.ld_unit_zero (S := S8x768) hz2, View.ld_unit_zero (S := S1x4x768) hz3, View.ld_unit_zero (S := S4x768) hz2]

end Cert.QkvBwdIdeal.Qkv

end
-- ==== Proof.QkvBwdSpec.lean ====
/-
  The gradient of the convolved queries, keys and values, written out element by element over the extended reals, and
  the reference of the second layer read down to it.
-/
module

public import proofs.«01_k».proof.Proof.Gen.QkvBwdRefIdeal.Read
public import proofs.«01_k».proof.Proof.Scalars
public import Idealize.ShloMosaic.Lib.Pointwise

@[expose] public section

set_option maxRecDepth 16384

noncomputable section

namespace Cert.Qkv

open Idealize.ShloMosaic Cert.Step

/-- The projection, the gradient of the gated convolution's result, the taps of both layers. -/
abbrev XP := (⟨⟨2, ![8192, 3584]⟩, .f32⟩ : BufTy).Contents (Elt Ideal)
abbrev XD := (⟨⟨2, ![8192, 768]⟩, .f32⟩ : BufTy).Contents (Elt Ideal)
abbrev XW := (⟨⟨3, ![2, 4, 768]⟩, .f32⟩ : BufTy).Contents (Elt Ideal)

/-- The convolution's operand behind three rows of zeros and in front of zeros: row `n` is token `n - 3`. -/
def xs (p : XP) (n : ℕ) (j : Fin 768) : EReal :=
  if h : 3 ≤ n ∧ n - 3 < 8192 then p (ix2 (⟨n - 3, h.2⟩ : Fin 8192) (⟨j.val, by omega⟩ : Fin 3584)) else 0

/-- Tap `k` of the second layer. -/
def tap (w : XW) (k : Fin 4) (j : Fin 768) : EReal := w (ix3 (1 : Fin 2) k j)

/-- The convolution at token `n`. -/
def conv (p : XP) (w : XW) (n : ℕ) (j : Fin 768) : EReal :=
  xs p n j * tap w 0 j + xs p (n + 1) j * tap w 1 j + xs p (n + 2) j * tap w 2 j + xs p (n + 3) j * tap w 3 j

/-- The derivative of the gated unit at `c`, as the kernel computes it. -/
def gate (c : EReal) : EReal := sig c * (1 + c * (1 - sig c))

/-- The gradient of the convolution, continued by zeros behind the last token. -/
def dc (p : XP) (d : XD) (w : XW) (n : ℕ) (j : Fin 768) : EReal :=
  if h : n < 8192 then d (ix2 (⟨n, h⟩ : Fin 8192) j) * gate (conv p w n j) else 0

/-- The gradient of the convolution's operand at token `n`. -/
def ds (p : XP) (d : XD) (w : XW) (n : ℕ) (j : Fin 768) : EReal :=
  dc p d w (n + 3) j * tap w 0 j + dc p d w (n + 2) j * tap w 1 j + dc p d w (n + 1) j * tap w 2 j + dc p d w n j * tap w 3 j

/-- The gradient of tap `k`: a sum over the tokens. -/
def dw (p : XP) (d : XD) (w : XW) (k : Fin 4) (j : Fin 768) : EReal :=
  ∑ n : Fin 8192, xs p (n.val + k.val) j * dc p d w n.val j

/-- Behind the last token the gradient is zero. -/
theorem dc_tail (p : XP) (d : XD) (w : XW) (n : ℕ) (j : Fin 768) (h : ¬n < 8192) : dc p d w n j = 0 := dif_neg h

end Cert.Qkv

namespace Cert.QkvBwdRefIdeal.Qkv

open Cert.QkvBwdRefIdeal Cert.QkvBwdRefIdeal.Read Idealize.ShloMosaic Cert.Qkv Cert.Step

/-- The reference's padded operand. -/
theorem xp_apply (p : XP) (n : Fin 8195) (j : Fin 768) : val_main_v4 (F := Ideal) p (ix2 n j) = xs p n.val j := by
  pointwise [val_main_v4, val_main_v3, val_main_cst, val_main_v0, xs]
  by_cases h : n.val < 3
  · rw [dif_pos h, dif_neg (by omega)]
  · rw [dif_neg h, dif_pos (by omega)]

/-- A tap of the reference's weights. -/
theorem tap_apply (w : XW) (k : Fin 4) (j : Fin 768) : val_main_v2 (F := Ideal) w (ix2 k j) = tap w k j := by
  pointwise [val_main_v2, val_main_v1, tap]

/-- The reference's convolution. -/
theorem conv_apply (p : XP) (w : XW) (n : Fin 8192) (j : Fin 768) : val_main_v26 (F := Ideal) p w (ix2 n j) = conv p w n.val j := by
  pointwise [val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8,
    val_main_v7, val_main_v6, val_main_cst_1, xp_apply, tap_apply, conv]
  simp only [Nat.add_comm 1 n.val, Nat.add_comm 2 n.val, Nat.add_comm 3 n.val]

variable (p : XP) (d : XD) (w : XW) (hd : ∀ (n : Fin 8192) (j : Fin 768), ∃ r : ℝ, d (ix2 n j) = (r : EReal))

include hd in
/-- The reference's gradient of the convolution, at a real gradient of its result. -/
theorem dc_apply (n : Fin 8192) (j : Fin 768) : val_main_v28 (F := Ideal) p d w (ix2 n j) = dc p d w n.val j := by
  have h26 := conv_apply p w
  pointwise [val_main_v28, val_main_call1_v0, val_main_call1_v1, val_main_call1_v2, val_main_v27_1, val_main_v27_2, val_main_call0_v7,
    val_main_call0_v6, val_main_call0_v4, val_main_call0_v3, val_main_call0_v2, val_main_call0_v1, val_main_call0_v0,
    val_main_call0_cst, val_main_call0_cst_0, val_main_call0_cst_1, h26]
  unfold dc gate
  rw [dif_pos n.isLt]
  obtain ⟨r, e⟩ := hd n j
  have k := silu_bwd r (conv p w n.val j)
  rw [← e] at k
  rw [← k, sig_eq]
  rfl

include hd in
/-- The reference's first result, element by element. -/
theorem ds_apply (n : Fin 8192) (j : Fin 768) : val_main_v65 (F := Ideal) p d w (ix2 n j) = ds p d w n.val j := by
  have hdc := dc_apply p d w hd
  pointwise [val_main_v65, val_main_v64, val_main_v62, val_main_v61, val_main_cst_13, val_main_v58, val_main_v57, val_main_v7, val_main_v53,
    val_main_v52, val_main_cst_10, val_main_v49, val_main_v48, val_main_v13, val_main_v44, val_main_v43, val_main_cst_7, val_main_v40,
    val_main_v39, val_main_v18, val_main_v35, val_main_cst_4, val_main_v33, val_main_v32, val_main_v23, hdc, tap_apply, ds]
  have e (a : ℕ) (k : Fin 4) : (if h : n.val + a < 8192 then dc p d w (n.val + a) j * tap w k j else 0) = dc p d w (n.val + a) j * tap w k j := by
    by_cases h : n.val + a < 8192
    · rw [dif_pos h]
    · rw [dif_neg h, dc_tail p d w _ j h, zero_mul]
  have e2 : (if h : 1 ≤ 3 + n.val ∧ 3 + n.val - 1 < 8192 then dc p d w (3 + n.val - 1) j * tap w 1 j else 0) = dc p d w (n.val + 2) j * tap w 1 j := by
    rw [← e 2 1]
    simp only [show 3 + n.val - 1 = n.val + 2 by omega]
    split_ifs <;> first | rfl | omega
  have e1 : (if h : 2 ≤ 3 + n.val ∧ 3 + n.val - 2 < 8192 then dc p d w (3 + n.val - 2) j * tap w 2 j else 0) = dc p d w (n.val + 1) j * tap w 2 j := by
    rw [← e 1 2]
    simp only [show 3 + n.val - 2 = n.val + 1 by omega]
    split_ifs <;> first | rfl | omega
  have e3 : (if h : 3 + n.val < 8192 then dc p d w (3 + n.val) j * tap w 0 j else 0) = dc p d w (n.val + 3) j * tap w 0 j := by
    rw [← e 3 0]
    simp only [Nat.add_comm 3 n.val]
  rw [e1, e2, e3]
  ac_rfl

include hd in
/-- The reference's second result, element by element. -/
theorem dw_apply (k : Fin 4) (j : Fin 768) : val_main_v60 (F := Ideal) p d w (ix2 k j) = dw p d w k j := by
  have hdc := dc_apply p d w hd
  pointwise [val_main_v60, val_main_v59, val_main_cst_12, val_main_v56, val_main_v55, val_main_cst_11, val_main_v54, val_main_v6,
    val_main_v51, val_main_v50, val_main_cst_9, val_main_v47, val_main_v46, val_main_cst_8, val_main_v45, val_main_v12,
    val_main_v42, val_main_v41, val_main_cst_6, val_main_v38, val_main_v37, val_main_cst_5, val_main_v36, val_main_v17,
    val_main_v34, val_main_cst_3, val_main_v31, val_main_v30, val_main_cst_2, val_main_v29, val_main_v22, xp_apply, hdc, dw]
  fin_vals k with hk
  all_goals simp [hk, Nat.add_comm]

end Cert.QkvBwdRefIdeal.Qkv

end
-- ==== Proof.QkvBwdKernel.lean ====
/-
  The gradient of the convolved queries, keys and values: the kernel's two result arrays, element by element.
-/
module

public import proofs.«01_k».proof.Proof.QkvBwdBlocks
public import proofs.«01_k».proof.Proof.QkvBwdSpec
public import Idealize.ShloMosaic.Lib.Pipeline.ValueKit

@[expose] public section

set_option maxRecDepth 16384

noncomputable section

namespace Cert.QkvBwdIdeal.Qkv

open Cert.QkvBwdIdeal Cert.QkvBwdIdeal.Gen Idealize.ShloMosaic Idealize.ShloMosaic.TcCoe Idealize.SL.Sem Cert.Qkv Cert.Step
open Idealize.ShloMosaic.Pipeline (Dat)

variable (m : (ℓ : Loc nD τ sig) → Buf (Elt Ideal) ℓ)

/-- The arguments as the specification takes them. -/
abbrev argP (c : Dev nD) : XP := m ((c : Thread nD τ).loc main_arg0)
abbrev argD (c : Dev nD) : XD := m ((c : Thread nD τ).loc main_arg1)
abbrev argW (c : Dev nD) : XW := m ((c : Thread nD τ).loc main_arg2)

/-- Which block each window is at. -/
theorem idx : ∀ t : Fin cfg0.N, win0_0.index t = ![t.val, 0] ∧ win0_1.index t = ![t.val * 128 - 1, 0]
    ∧ win0_2.index t = ![min ((t.val + 1) * 128) 1023, 0] ∧ win0_3.index t = ![t.val, 0]
    ∧ win0_4.index t = ![min ((t.val + 1) * 128) 1023, 0] ∧ win0_5.index t = ![1, 0, 0] ∧ win0_6.index t = ![t.val, 0]
    ∧ win0_7.index t = ![0, 0] :=
  (by decide +kernel : ∀ t : Fin grid0.N, win0_0.index t = ![t.val, 0] ∧ win0_1.index t = ![t.val * 128 - 1, 0]
    ∧ win0_2.index t = ![min ((t.val + 1) * 128) 1023, 0] ∧ win0_3.index t = ![t.val, 0]
    ∧ win0_4.index t = ![min ((t.val + 1) * 128) 1023, 0] ∧ win0_5.index t = ![1, 0, 0] ∧ win0_6.index t = ![t.val, 0]
    ∧ win0_7.index t = ![0, 0])

/-- Whether a point is the first. -/
theorem isFirst : ∀ t : Fin cfg0.N, Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1)

/-- Whether a point is the last. -/
theorem isLast : ∀ t : Fin cfg0.N, Scalar.cmpi .eq (BitVec.ofNat 32 (grid0.coords t 0).val) 7#32 = if t.val = 7 then 1#1 else 0#1 :=
  (by decide +kernel : ∀ t : Fin grid0.N, Scalar.cmpi .eq (BitVec.ofNat 32 (grid0.coords t 0).val) 7#32 = if t.val = 7 then 1#1 else 0#1)

theorem lt8 (t : Fin cfg0.N) : t.val < 8 := lt_of_lt_of_eq t.isLt N_0

/-- A point's rows of the operand and of the result's gradient, and their halos, read off the arguments. -/
theorem blk0 (c : Dev nD) (t : Fin cfg0.N) (r : Fin 1024) (j : Fin 768) (n : Fin 8192) (k : Fin 3584)
    (hn : n.val = t.val * 1024 + r.val) (hk : k.val = j.val) : X0_0 m c t (ix2 r j) = argP m c (ix2 n k) := by
  unfold X0_0 Pipeline.Window.fill
  rw [dif_pos (moved0_0 t _)]
  blk_ext [iblk, V, idx t]
theorem blk1 (c : Dev nD) (t : Fin cfg0.N) (r : Fin 8) (j : Fin 768) (n : Fin 8192) (k : Fin 3584)
    (hn : n.val = (t.val * 128 - 1) * 8 + r.val) (hk : k.val = j.val) : X0_1 m c t (ix2 r j) = argP m c (ix2 n k) := by
  unfold X0_1 Pipeline.Window.fill
  rw [dif_pos (moved0_1 t _)]
  blk_ext [iblk, V, idx t]
theorem blk2 (c : Dev nD) (t : Fin cfg0.N) (r : Fin 8) (j : Fin 768) (n : Fin 8192) (k : Fin 3584)
    (hn : n.val = (min ((t.val + 1) * 128) 1023) * 8 + r.val) (hk : k.val = j.val) : X0_2 m c t (ix2 r j) = argP m c (ix2 n k) := by
  unfold X0_2 Pipeline.Window.fill
  rw [dif_pos (moved0_2 t _)]
  blk_ext [iblk, V, idx t]
theorem blk3 (c : Dev nD) (t : Fin cfg0.N) (r : Fin 1024) (j : Fin 768) (n : Fin 8192)
    (hn : n.val = t.val * 1024 + r.val) : iblk m c 3 t (ix2 r j) = argD m c (ix2 n j) := by
  blk_ext [iblk, V, idx t]
theorem blk4 (c : Dev nD) (t : Fin cfg0.N) (r : Fin 8) (j : Fin 768) (n : Fin 8192)
    (hn : n.val = (min ((t.val + 1) * 128) 1023) * 8 + r.val) : iblk m c 4 t (ix2 r j) = argD m c (ix2 n j) := by
  blk_ext [iblk, V, idx t]

/-- The operand between its halos is the padded operand, from the sixth row on. -/
theorem xAll_apply (c : Dev nD) (t : Fin cfg0.N) (q : Fin 1040) (j : Fin 768) (hq : 5 ≤ q.val) :
    xAll m c t (ix2 q j) = xs (argP m c) (t.val * 1024 + q.val - 5) j := by
  have ht := lt8 t
  pointwise [xAll, k0_pay4, xs, isFirst t, isLast t]
  by_cases h8 : q.val < 8
  · simp only [dif_pos h8, dif_pos (show q.val < 1032 by omega)]
    by_cases h0 : t.val = 0
    · rw [dif_neg (by omega)]
      simp [h0, Scalar.select]
    · rw [dif_pos (by omega)]
      have e {α : Type} (a b : α) : Scalar.select (if t.val = 0 then 1#1 else 0#1) a b = b := by rw [if_neg h0]; rfl
      simp only [e]
      exact blk1 m c t _ j _ _ (by dsimp only; omega) rfl
  · simp only [dif_neg h8]
    by_cases h9 : q.val < 1032
    · simp only [dif_pos h9]
      rw [dif_pos (by omega)]
      exact blk0 m c t _ j _ _ (by dsimp only; omega) rfl
    · simp only [dif_neg h9]
      by_cases h7 : t.val = 7
      · rw [dif_neg (by omega)]
        simp [h7, Scalar.select]
      · rw [dif_pos (by omega)]
        have e {α : Type} (a b : α) : Scalar.select (if t.val = 7 then 1#1 else 0#1) a b = b := by rw [if_neg h7]; rfl
        simp only [e]
        exact blk2 m c t _ j _ _ (by dsimp only; omega) rfl

/-- A tap of the point's weights. -/
theorem tapBlk_apply (c : Dev nD) (t : Fin cfg0.N) (k : Fin 4) (j : Fin 768) :
    k0_pay3 (iblk m c 5 t) (ix2 k j) = tap (argW m c) k j := by
  pointwise [k0_pay3, tap]
  blk_ext [iblk, V, idx t]

/-- The convolution at a point's rows and behind them. -/
theorem cExt_apply (c : Dev nD) (t : Fin cfg0.N) (q : Fin 1032) (j : Fin 768) :
    cExt m c t (ix2 q j) = conv (argP m c) (argW m c) (t.val * 1024 + q.val) j := by
  have ht := lt8 t
  have hr := q.isLt
  have hs (x : Fin 1040) (e : ℕ) (hx : 5 ≤ x.val) (h : t.val * 1024 + x.val - 5 = e) :
      k0_pay4 (grid0.coords t) (X0_1 m c t) (X0_0 m c t) (X0_2 m c t) (ix2 x j) = xs (argP m c) e j :=
    h ▸ xAll_apply m c t x j hx
  pointwise [cExt, k0_pay5, tapBlk_apply]
  generalize k0_pay4 (grid0.coords t) (X0_1 m c t) (X0_0 m c t) (X0_2 m c t) = S at hs ⊢
  unfold conv
  rw [hs _ (t.val * 1024 + q.val) (by dsimp only; omega) (by dsimp only; omega),
    hs _ (t.val * 1024 + q.val + 1) (by dsimp only; omega) (by dsimp only; omega),
    hs _ (t.val * 1024 + q.val + 2) (by dsimp only; omega) (by dsimp only; omega),
    hs _ (t.val * 1024 + q.val + 3) (by dsimp only; omega) (by dsimp only; omega)]

/-- The gradient of the convolution at a point's rows and behind them. -/
theorem gExt_apply (c : Dev nD) (t : Fin cfg0.N) (q : Fin 1032) (j : Fin 768) :
    gExt m c t (ix2 q j) = dc (argP m c) (argD m c) (argW m c) (t.val * 1024 + q.val) j := by
  have ht := lt8 t
  have hc := cExt_apply m c t q j
  unfold gExt
  generalize cExt m c t = C at hc ⊢
  pointwise [k0_pay7, k0_pay6, hc, isLast t]
  unfold dc gate sig
  by_cases h8 : q.val < 1024
  · simp only [dif_pos h8]
    rw [dif_pos (by omega)]
    exact congrArg₂ (· * ·) (blk3 m c t _ j _ (by dsimp only)) rfl
  · simp only [dif_neg h8]
    by_cases h7 : t.val = 7
    · rw [dif_neg (by omega)]
      simp [h7, Scalar.select]
    · rw [dif_pos (by omega)]
      have e {α : Type} (a b : α) : Scalar.select (if t.val = 7 then 1#1 else 0#1) a b = b := by rw [if_neg h7]; rfl
      simp only [e]
      exact congrArg₂ (· * ·) (blk4 m c t _ j _ (by dsimp only; omega)) rfl

/-- What a point writes of the first result. -/
theorem dsBlk_apply (c : Dev nD) (t : Fin cfg0.N) (r : Fin 1024) (j : Fin 768) (n : ℕ) (hn : n = t.val * 1024 + r.val) :
    dsBlk m c t (ix2 r j) = ds (argP m c) (argD m c) (argW m c) n j := by
  have ht := lt8 t
  have hr := r.isLt
  have hg (q : Fin 1032) (e : ℕ) (h : t.val * 1024 + q.val = e) :
      k0_pay7 (BitVec.ofNat 32 (grid0.coords t 0).val) (cExt m c t) k0_pay6 (iblk m c 4 t) (iblk m c 3 t) (ix2 q j)
        = dc (argP m c) (argD m c) (argW m c) e j :=
    h ▸ gExt_apply m c t q j
  unfold dsBlk
  pointwise [k0_pay8, tapBlk_apply]
  generalize k0_pay7 (BitVec.ofNat 32 (grid0.coords t 0).val) (cExt m c t) k0_pay6 (iblk m c 4 t) (iblk m c 3 t) = G at hg ⊢
  unfold ds
  rw [hg _ (n + 3) (by dsimp only; omega), hg _ (n + 2) (by dsimp only; omega), hg _ (n + 1) (by dsimp only; omega),
    hg _ n (by dsimp only; omega)]

/-- What a point adds to the tap gradient. -/
theorem dwStep_apply (c : Dev nD) (t : Fin cfg0.N) (acc : FVec Ideal S4x768 .f32) (k : Fin 4) (j : Fin 768) :
    dwStep m c t acc (ix2 k j) = acc (ix2 k j) + ∑ r : Fin 1024,
      xs (argP m c) (t.val * 1024 + r.val + k.val) j * dc (argP m c) (argD m c) (argW m c) (t.val * 1024 + r.val) j := by
  have ht := lt8 t
  have hx := xAll_apply m c t
  have hg := gExt_apply m c t
  unfold dwStep
  generalize xAll m c t = X at hx ⊢
  generalize gExt m c t = G at hg ⊢
  have key (i : Fin 1024 → Fin 1040) (g : Fin 1024 → Fin 1032) (hi : ∀ r, (i r).val = 5 + r.val + k.val) (he : ∀ r, (g r).val = r.val) :
      (∑ r, X (ix2 (i r) j) * G (ix2 (g r) j)) = ∑ r : Fin 1024,
        xs (argP m c) (t.val * 1024 + r.val + k.val) j * dc (argP m c) (argD m c) (argW m c) (t.val * 1024 + r.val) j := by
    refine Finset.sum_congr rfl fun r _ => ?_
    rw [hx _ j (by rw [hi]; omega), hg, hi, he, show t.val * 1024 + (5 + r.val + k.val) - 5 = t.val * 1024 + r.val + k.val by omega]
  pointwise [k0_pay1]
  refine congrArg (acc (ix2 k j) + ·) ?_
  have hk := k.isLt
  by_cases h0 : k.val < 1
  · rw [dif_pos h0]
    exact key _ _ (fun r => by have := r.isLt; dsimp only; omega) (fun r => rfl)
  rw [dif_neg h0]
  by_cases h1 : k.val - 1 < 1
  · rw [dif_pos h1]
    exact key _ _ (fun r => by have := r.isLt; dsimp only; omega) (fun r => rfl)
  rw [dif_neg h1]
  by_cases h2 : k.val - 1 - 1 < 1
  · rw [dif_pos h2]
    exact key _ _ (fun r => by have := r.isLt; dsimp only; omega) (fun r => rfl)
  rw [dif_neg h2]
  exact key _ _ (fun r => by have := r.isLt; dsimp only; omega) (fun r => rfl)

/-- The first result array. -/
theorem final_ds (c : Dev nD) :
    (dats m 0 c).arrAt 6 cfg0.N = fun i : S8192x768.Idx => ds (argP m c) (argD m c) (argW m c) (i 0).val (i 1) := by
  refine (dats m 0 c).arrAt_eq_of_covers 6 _ (by decide +kernel) fun t hf y => ?_
  blk_simp
  rw [after0_6]
  have e : (outsAt0 m c t.val t.isLt).1 = dsBlk m c t := by
    by_cases h0 : t.val % 8 = 0
    · exact outs_ds_A m c t h0
    · exact outs_ds_B m c t h0
  rw [e]
  obtain ⟨r, k, rfl⟩ : ∃ (r : Fin 1024) (k : Fin 768), y = ix2 r k := ⟨y 0, y 1, eq_ix2 y⟩
  rw [dsBlk_apply m c t r k (t.val * 1024 + r.val) rfl]
  refine congrArg₂ (ds (argP m c) (argD m c) (argW m c)) ?_ (Fin.ext ?_)
  · blk_simp [idx t]
  · blk_simp [idx t]

/-- The second result array. -/
theorem final_dw (c : Dev nD) :
    (dats m 0 c).arrAt 7 cfg0.N = fun i : S4x768.Idx => dw (argP m c) (argD m c) (argW m c) (i 0) (i 1) := by
  refine (dats m 0 c).arrAt_eq_of_after_last 7 t0_7 (by decide +kernel) _ fun y => ?_
  blk_simp
  rw [after0_7]
  obtain ⟨k, j, rfl⟩ : ∃ (k : Fin 4) (j : Fin 768), y = ix2 k j := ⟨y 0, y 1, eq_ix2 y⟩
  rw [Pipeline.eq_sum_fin_of_reset_step_apply_last (fun n h => (outsAt0 m c n h).2) 8 (fun _ => (0 : EReal))
    (fun t y => ∑ r : Fin 1024, xs (argP m c) (t.val * 1024 + r.val + (y 0).val) (y 1)
      * dc (argP m c) (argD m c) (argW m c) (t.val * 1024 + r.val) (y 1))
    (fun t h y => by
      idx_vars y
      rw [outs_dw_A m c t h]
      refine (dwStep_apply ..).trans ?_
      exact congrArg (· + _) (by pointwise [k0_pay2]))
    (fun t h y => by
      idx_vars y
      rw [outs_dw_B m c t h (Nat.lt_of_le_of_lt (Nat.sub_le _ _) t.isLt)]
      exact dwStep_apply ..)
    (le_of_eq N_0) t0_7 rfl (ix2 k j), zero_add]
  unfold dw
  exact Fin.sum_mul_add_congr fun t r hl => rfl

end Cert.QkvBwdIdeal.Qkv

end
-- ==== Proof.SconvFwdSpec.lean ====
/-
  The second layer's gated short convolution, forward: the reference read down to gate B times the convolution.
-/
module

public import proofs.«01_k».proof.Proof.Gen.SconvFwdRefIdeal.Read
public import proofs.«01_k».proof.Proof.ConvSpec

@[expose] public section

set_option maxRecDepth 16384

noncomputable section

namespace Cert.Conv

open Idealize.ShloMosaic

/-- The mixer's result at token `n`: gate B times the convolution. -/
def y (p : XP) (w : XW) (n : Fin 8192) (j : Fin 256) : EReal :=
  p (ix2 n (⟨2048 + j.val, by omega⟩ : Fin 3584)) * conv p w n.val j

end Cert.Conv

namespace Cert.SconvFwdRefIdeal.Conv

open Cert.SconvFwdRefIdeal Cert.SconvFwdRefIdeal.Read Idealize.ShloMosaic Cert.Conv

/-- The reference's padded operand. -/
theorem xp_apply (p : XP) (n : Fin 8194) (j : Fin 256) : val_main_v7 (F := Ideal) p (ix2 n j) = xs p n.val j := by
  pointwise [val_main_v7, val_main_v6, val_main_v5, val_main_v2, val_main_v1, val_main_cst, xs]
  by_cases h : n.val < 2
  · rw [dif_pos h, dif_neg (by omega)]
  · rw [dif_neg h, dif_pos (by omega)]

/-- A tap of the reference's weights. -/
theorem tap_apply (w : XW) (k : Fin 3) (j : Fin 256) : val_main_v4 (F := Ideal) w (ix2 k j) = tap w k j := by
  pointwise [val_main_v4, val_main_v3, tap]

/-- The reference's result, element by element. -/
theorem y_apply (p : XP) (w : XW) (n : Fin 8192) (j : Fin 256) : val_main_v25 (F := Ideal) p w (ix2 n j) = y p w n j := by
  pointwise [val_main_v25, val_main_v24, val_main_v23, val_main_v22, val_main_v21, val_main_v20, val_main_v19, val_main_v18, val_main_v17,
    val_main_v16, val_main_v15, val_main_v14, val_main_v13, val_main_v12, val_main_cst_0, val_main_v11, val_main_v10, val_main_v9, val_main_v8,
    val_main_v0, xp_apply, tap_apply, y, conv]
  simp only [Nat.add_comm 1 n.val, Nat.add_comm 2 n.val]

end Cert.SconvFwdRefIdeal.Conv

end
-- ==== Proof.SconvFwdKernel.lean ====
/-
  The second layer's gated short convolution, forward: the kernel's result array, element by element.
-/
module

public import proofs.«01_k».proof.Proof.Gen.SconvFwdIdeal.Value
public import proofs.«01_k».proof.Proof.SconvFwdSpec
public import Idealize.ShloMosaic.Lib.Pipeline.ValueKit
public import Idealize.ShloMosaic.Lib.Tactic

@[expose] public section

set_option maxRecDepth 16384

noncomputable section

namespace Cert.SconvFwdIdeal.Conv

open Cert.SconvFwdIdeal Cert.SconvFwdIdeal.Gen Idealize.ShloMosaic Idealize.ShloMosaic.TcCoe Idealize.SL.Sem Cert.Conv
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The arguments as the specification takes them. -/
abbrev argP (c : Dev nD) : XP := m ((c : Thread nD τ).loc main_arg0)
abbrev argW (c : Dev nD) : XW := m ((c : Thread nD τ).loc main_arg1)

/-- Which block each window is at. -/
theorem idx : ∀ t : Fin cfg0.N, win0_0.index t = ![t.val, 8] ∧ win0_1.index t = ![t.val, 9] ∧ win0_2.index t = ![t.val, 10]
    ∧ win0_3.index t = ![t.val * 256 - 1, 9] ∧ win0_4.index t = ![t.val * 256 - 1, 10] ∧ win0_5.index t = ![1, 0, 0]
    ∧ win0_6.index t = ![t.val, 0] :=
  (by decide +kernel : ∀ t : Fin grid0.N, win0_0.index t = ![t.val, 8] ∧ win0_1.index t = ![t.val, 9] ∧ win0_2.index t = ![t.val, 10]
    ∧ win0_3.index t = ![t.val * 256 - 1, 9] ∧ win0_4.index t = ![t.val * 256 - 1, 10] ∧ win0_5.index t = ![1, 0, 0]
    ∧ win0_6.index t = ![t.val, 0])

/-- Whether a point is the first. -/
theorem isFirst : ∀ t : Fin cfg0.N, Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1)

theorem lt4 (t : Fin cfg0.N) : t.val < 4 := lt_of_lt_of_eq t.isLt N_0

/-- A point's rows of gate B, gate C and h, and the two halos, read off the projection. -/
theorem blk0 (c : Dev nD) (t : Fin cfg0.N) (r : Fin 2048) (j : Fin 256) (n : Fin 8192) (k : Fin 3584)
    (hn : n.val = t.val * 2048 + r.val) (hk : k.val = 2048 + j.val) : iblk m c 0 t (ix2 r j) = argP m c (ix2 n k) := by
  blk_ext [iblk, V, idx t]
theorem blk1 (c : Dev nD) (t : Fin cfg0.N) (r : Fin 2048) (j : Fin 256) (n : Fin 8192) (k : Fin 3584)
    (hn : n.val = t.val * 2048 + r.val) (hk : k.val = 2304 + j.val) : iblk m c 1 t (ix2 r j) = argP m c (ix2 n k) := by
  blk_ext [iblk, V, idx t]
theorem blk2 (c : Dev nD) (t : Fin cfg0.N) (r : Fin 2048) (j : Fin 256) (n : Fin 8192) (k : Fin 3584)
    (hn : n.val = t.val * 2048 + r.val) (hk : k.val = 2560 + j.val) : iblk m c 2 t (ix2 r j) = argP m c (ix2 n k) := by
  blk_ext [iblk, V, idx t]
theorem blk3 (c : Dev nD) (t : Fin cfg0.N) (r : Fin 8) (j : Fin 256) (n : Fin 8192) (k : Fin 3584)
    (hn : n.val = (t.val * 256 - 1) * 8 + r.val) (hk : k.val = 2304 + j.val) : iblk m c 3 t (ix2 r j) = argP m c (ix2 n k) := by
  blk_ext [iblk, V, idx t]
theorem blk4 (c : Dev nD) (t : Fin cfg0.N) (r : Fin 8) (j : Fin 256) (n : Fin 8192) (k : Fin 3584)
    (hn : n.val = (t.val * 256 - 1) * 8 + r.val) (hk : k.val = 2560 + j.val) : iblk m c 4 t (ix2 r j) = argP m c (ix2 n k) := by
  blk_ext [iblk, V, idx t]
/-- A tap of the point's weights. -/
theorem blk5 (c : Dev nD) (t : Fin cfg0.N) (k : Fin 3) (j : Fin 256) : iblk m c 5 t (ix3 0 k j) = tap (argW m c) k j := by
  unfold tap
  blk_ext [iblk, V, idx t]

/-- The convolved gate behind its halo of eight rows, as the kernel computes it at point `t`. -/
def sExt (c : Dev nD) (t : Fin cfg0.N) : FVec Ideal S2056x256 .f32 :=
  mulf (concatenate S2056x256 0 [⟨S8x256, Scalar.select (Scalar.cmpi .eq (BitVec.ofNat 32 (grid0.coords t 0).val) 0#32)
      (broadcast S8x256 (Scalar.ofBits (F := Ideal) .f32 0x00000000#32)) (iblk m c 3 t)⟩, ⟨S2048x256, iblk m c 1 t⟩] concatenates_S8x256_S2048x256_S2056x256_d0)
    (concatenate S2056x256 0 [⟨S8x256, Scalar.select (Scalar.cmpi .eq (BitVec.ofNat 32 (grid0.coords t 0).val) 0#32)
      (broadcast S8x256 (Scalar.ofBits (F := Ideal) .f32 0x00000000#32)) (iblk m c 4 t)⟩, ⟨S2048x256, iblk m c 2 t⟩] concatenates_S8x256_S2048x256_S2056x256_d0)

/-- It is the padded operand, from the sixth row on. -/
theorem sExt_apply (c : Dev nD) (t : Fin cfg0.N) (q : Fin 2056) (j : Fin 256) (hq : 6 ≤ q.val) :
    sExt m c t (ix2 q j) = xs (argP m c) (t.val * 2048 + q.val - 6) j := by
  have ht := lt4 t
  have hq' := q.isLt
  pointwise [sExt, xs, isFirst t]
  by_cases h8 : q.val < 8
  · simp only [dif_pos h8]
    by_cases h0 : t.val = 0
    · rw [dif_neg (by omega)]
      simp [h0, Scalar.select]
    · rw [dif_pos (by omega)]
      have e {α : Type} (a b : α) : Scalar.select (if t.val = 0 then 1#1 else 0#1) a b = b := by rw [if_neg h0]; rfl
      simp only [e]
      exact congrArg₂ (· * ·) (blk3 m c t _ j _ _ (by dsimp only; omega) rfl) (blk4 m c t _ j _ _ (by dsimp only; omega) rfl)
  · simp only [dif_neg h8]
    rw [dif_pos (by omega)]
    exact congrArg₂ (· * ·) (blk1 m c t _ j _ _ (by dsimp only; omega) rfl) (blk2 m c t _ j _ _ (by dsimp only; omega) rfl)

/-- What a point computes from the convolved gate, gate B and the taps. -/
def gated (S : FVec Ideal S2056x256 .f32) (b : FVec Ideal S2048x256 .f32) (x : FVec Ideal S1x3x256 .f32) : FVec Ideal S2048x256 .bf16 :=
  have w : FVec Ideal S3x256 .f32 := shapeCast S3x256 x shapeCasts_S1x3x256_S3x256
  have a0 := mulf (extractStridedSlice S2048x256 ![8, 0] (dynamicRotate 0 2#32 none S rotates_S2056x256_d0) slices_S2056x256_o8_0_S2048x256)
    (broadcastTo S2048x256 (extractStridedSlice S1x256 ![0, 0] w slices_S3x256_o0_0_S1x256) broadcasts_S1x256_S2048x256)
  have a1 := mulf (extractStridedSlice S2048x256 ![8, 0] (dynamicRotate 0 1#32 none S rotates_S2056x256_d0) slices_S2056x256_o8_0_S2048x256)
    (broadcastTo S2048x256 (extractStridedSlice S1x256 ![1, 0] w slices_S3x256_o1_0_S1x256) broadcasts_S1x256_S2048x256)
  have a2 := mulf (extractStridedSlice S2048x256 ![8, 0] S slices_S2056x256_o8_0_S2048x256)
    (broadcastTo S2048x256 (extractStridedSlice S1x256 ![2, 0] w slices_S3x256_o2_0_S1x256) broadcasts_S1x256_S2048x256)
  truncf .bf16 (mulf b (addf (addf a0 a1) a2)) bitsLt_bf16_f32

/-- The point's block, from its input blocks. -/
theorem out_eq (c : Dev nD) (t : Fin cfg0.N) :
    out0_6 (grid0.coords t) (iblk m c 0 t) (iblk m c 1 t) (iblk m c 2 t) (iblk m c 3 t) (iblk m c 4 t) (iblk m c 5 t)
      = gated (sExt m c t) (iblk m c 0 t) (iblk m c 5 t) := by
  unfold out0_6
  rw [View.canon_unit_zero hz2]
  simp only [View.ld_unit_zero (S := S2048x256) hz2, View.ld_unit_zero (S := S8x256) hz2, View.ld_unit_zero (S := S1x3x256) hz3]
  rfl

/-- What a point writes. -/
theorem gated_apply (c : Dev nD) (t : Fin cfg0.N) (r : Fin 2048) (j : Fin 256) (n : Fin 8192) (hn : n.val = t.val * 2048 + r.val) :
    gated (sExt m c t) (iblk m c 0 t) (iblk m c 5 t) (ix2 r j) = y (argP m c) (argW m c) n j := by
  have ht := lt4 t
  have hr := r.isLt
  have hs (q : Fin 2056) (e : ℕ) (hq : 6 ≤ q.val) (h : t.val * 2048 + q.val - 6 = e) : sExt m c t (ix2 q j) = xs (argP m c) e j :=
    h ▸ sExt_apply m c t q j hq
  have hb := blk0 m c t r j n ⟨2048 + j.val, by omega⟩ hn rfl
  have hw (k : Fin 3) := blk5 m c t k j
  generalize sExt m c t = S at hs ⊢
  generalize iblk m c 0 t = B at hb ⊢
  generalize iblk m c 5 t = W at hw ⊢
  pointwise [gated, hw]
  unfold y conv
  rw [hb, hs _ n.val (by dsimp only; omega) (by dsimp only; omega),
    hs _ (n.val + 1) (by dsimp only; omega) (by dsimp only; omega), hs _ (n.val + 2) (by dsimp only; omega) (by dsimp only; omega)]

/-- The result array. -/
theorem final_y (c : Dev nD) :
    (dats m 0 c).arrAt 6 cfg0.N = fun i : S8192x256.Idx => y (argP m c) (argW m c) (i 0) (i 1) := by
  refine (dats m 0 c).arrAt_eq_of_covers 6 _ (by decide +kernel) fun t hf y' => ?_
  blk_simp
  rw [after0_6, out_eq]
  obtain ⟨r, k, rfl⟩ : ∃ (r : Fin 2048) (k : Fin 256), y' = ix2 r k := ⟨y' 0, y' 1, eq_ix2 y'⟩
  have ht := lt4 t
  rw [gated_apply m c t r k ⟨t.val * 2048 + r.val, by omega⟩ rfl]
  refine congrArg₂ (y (argP m c) (argW m c)) (Fin.ext ?_) (Fin.ext ?_)
  · blk_simp [idx t]
  · blk_simp [idx t]

end Cert.SconvFwdIdeal.Conv

end
-- ==== Proof.QkvFwdSpec.lean ====
/-
  The second layer's convolved queries, keys and values: the reference read down to the convolution times its logistic.
-/
module

public import proofs.«01_k».proof.Proof.Gen.QkvFwdRefIdeal.Read
public import proofs.«01_k».proof.Proof.QkvBwdSpec

@[expose] public section

set_option maxRecDepth 16384

noncomputable section

namespace Cert.Qkv

open Idealize.ShloMosaic Cert.Step

/-- The result at token `n`: the convolution times its logistic. -/
def y (p : XP) (w : XW) (n : Fin 8192) (j : Fin 768) : EReal := conv p w n.val j * sig (conv p w n.val j)

end Cert.Qkv

namespace Cert.QkvFwdRefIdeal.Qkv

open Cert.QkvFwdRefIdeal Cert.QkvFwdRefIdeal.Read Idealize.ShloMosaic Cert.Qkv Cert.Step

/-- The reference's padded operand. -/
theorem xp_apply (p : XP) (n : Fin 8195) (j : Fin 768) : val_main_v4 (F := Ideal) p (ix2 n j) = xs p n.val j := by
  pointwise [val_main_v4, val_main_v3, val_main_cst, val_main_v0, xs]
  by_cases h : n.val < 3
  · rw [dif_pos h, dif_neg (by omega)]
  · rw [dif_neg h, dif_pos (by omega)]

/-- A tap of the reference's weights. -/
theorem tap_apply (w : XW) (k : Fin 4) (j : Fin 768) : val_main_v2 (F := Ideal) w (ix2 k j) = tap w k j := by
  pointwise [val_main_v2, val_main_v1, tap]

/-- The reference's convolution. -/
theorem conv_apply (p : XP) (w : XW) (n : Fin 8192) (j : Fin 768) : val_main_v25 (F := Ideal) p w (ix2 n j) = conv p w n.val j := by
  pointwise [val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8,
    val_main_v7, val_main_v6, val_main_v5, val_main_cst_0, xp_apply, tap_apply, conv]
  simp only [Nat.add_comm 1 n.val, Nat.add_comm 2 n.val, Nat.add_comm 3 n.val]

/-- The reference's result, element by element. -/
theorem y_apply (p : XP) (w : XW) (n : Fin 8192) (j : Fin 768) : val_main_v26 (F := Ideal) p w (ix2 n j) = y p w n j := by
  have h25 := conv_apply p w
  pointwise [val_main_v26, val_main_call0_v5, val_main_call0_v4, val_main_call0_v3, val_main_call0_v2, val_main_call0_v1, val_main_call0_v0,
    val_main_call0_cst, val_main_call0_cst_0, h25]
  unfold y
  rw [sig_eq]
  rfl

end Cert.QkvFwdRefIdeal.Qkv

end
-- ==== Proof.QkvFwdKernel.lean ====
/-
  The second layer's convolved queries, keys and values: the kernel's result array, element by element.
-/
module

public import proofs.«01_k».proof.Proof.Gen.QkvFwdIdeal.Value
public import proofs.«01_k».proof.Proof.QkvFwdSpec
public import Idealize.ShloMosaic.Lib.Pipeline.ValueKit
public import Idealize.ShloMosaic.Lib.Tactic

@[expose] public section

set_option maxRecDepth 16384

noncomputable section

namespace Cert.QkvFwdIdeal.Qkv

open Cert.QkvFwdIdeal Cert.QkvFwdIdeal.Gen Idealize.ShloMosaic Idealize.ShloMosaic.TcCoe Idealize.SL.Sem Cert.Qkv Cert.Step
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The arguments as the specification takes them. -/
abbrev argP (c : Dev nD) : XP := m ((c : Thread nD τ).loc main_arg0)
abbrev argW (c : Dev nD) : XW := m ((c : Thread nD τ).loc main_arg1)

/-- Which block each window is at. -/
theorem idx : ∀ t : Fin cfg0.N, win0_0.index t = ![t.val, 0] ∧ win0_1.index t = ![t.val * 256 - 1, 0] ∧ win0_2.index t = ![1, 0, 0]
    ∧ win0_3.index t = ![t.val, 0] :=
  (by decide +kernel : ∀ t : Fin grid0.N, win0_0.index t = ![t.val, 0] ∧ win0_1.index t = ![t.val * 256 - 1, 0]
    ∧ win0_2.index t = ![1, 0, 0] ∧ win0_3.index t = ![t.val, 0])

/-- Whether a point is the first. -/
theorem isFirst : ∀ t : Fin cfg0.N, Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1)

theorem lt4 (t : Fin cfg0.N) : t.val < 4 := lt_of_lt_of_eq t.isLt N_0

/-- A point's rows of the operand and their halo, read off the projection. -/
theorem blk0 (c : Dev nD) (t : Fin cfg0.N) (r : Fin 2048) (j : Fin 768) (n : Fin 8192) (k : Fin 3584)
    (hn : n.val = t.val * 2048 + r.val) (hk : k.val = j.val) : X0_0 m c t (ix2 r j) = argP m c (ix2 n k) := by
  unfold X0_0 Pipeline.Window.fill
  rw [dif_pos (moved0_0 t _)]
  blk_ext [iblk, V, idx t]
theorem blk1 (c : Dev nD) (t : Fin cfg0.N) (r : Fin 8) (j : Fin 768) (n : Fin 8192) (k : Fin 3584)
    (hn : n.val = (t.val * 256 - 1) * 8 + r.val) (hk : k.val = j.val) : X0_1 m c t (ix2 r j) = argP m c (ix2 n k) := by
  unfold X0_1 Pipeline.Window.fill
  rw [dif_pos (moved0_1 t _)]
  blk_ext [iblk, V, idx t]
/-- A tap of the point's weights. -/
theorem blk2 (c : Dev nD) (t : Fin cfg0.N) (k : Fin 4) (j : Fin 768) : iblk m c 2 t (ix3 0 k j) = tap (argW m c) k j := by
  unfold tap
  blk_ext [iblk, V, idx t]

/-- The operand behind its halo of eight rows, as the kernel assembles it at point `t`. -/
def xExt (c : Dev nD) (t : Fin cfg0.N) : FVec Ideal S2056x768 .f32 :=
  concatenate S2056x768 0 [⟨S8x768, Scalar.select (Scalar.cmpi .eq (BitVec.ofNat 32 (grid0.coords t 0).val) 0#32)
      (broadcast S8x768 (Scalar.ofBits (F := Ideal) .f32 0x00000000#32)) (X0_1 m c t)⟩, ⟨S2048x768, X0_0 m c t⟩] concatenates_S8x768_S2048x768_S2056x768_d0

/-- It is the padded operand, from the fifth row on. -/
theorem xExt_apply (c : Dev nD) (t : Fin cfg0.N) (q : Fin 2056) (j : Fin 768) (hq : 5 ≤ q.val) :
    xExt m c t (ix2 q j) = xs (argP m c) (t.val * 2048 + q.val - 5) j := by
  have ht := lt4 t
  have hq' := q.isLt
  pointwise [xExt, xs, isFirst t]
  by_cases h8 : q.val < 8
  · simp only [dif_pos h8]
    by_cases h0 : t.val = 0
    · rw [dif_neg (by omega)]
      simp [h0, Scalar.select]
    · rw [dif_pos (by omega)]
      have e {α : Type} (a b : α) : Scalar.select (if t.val = 0 then 1#1 else 0#1) a b = b := by rw [if_neg h0]; rfl
      simp only [e]
      exact blk1 m c t _ j _ _ (by dsimp only; omega) rfl
  · simp only [dif_neg h8]
    rw [dif_pos (by omega)]
    exact blk0 m c t _ j _ _ (by dsimp only; omega) rfl

/-- The convolution of a point's rows. -/
def convBlk (S : FVec Ideal S2056x768 .f32) (x : FVec Ideal S1x4x768 .f32) : FVec Ideal S2048x768 .f32 :=
  have w : FVec Ideal S4x768 .f32 := shapeCast S4x768 x shapeCasts_S1x4x768_S4x768
  have a0 := mulf (extractStridedSlice S2048x768 ![8, 0] (dynamicRotate 0 3#32 none S rotates_S2056x768_d0) slices_S2056x768_o8_0_S2048x768)
    (broadcastTo S2048x768 (extractStridedSlice S1x768 ![0, 0] w slices_S4x768_o0_0_S1x768) broadcasts_S1x768_S2048x768)
  have a1 := mulf (extractStridedSlice S2048x768 ![8, 0] (dynamicRotate 0 2#32 none S rotates_S2056x768_d0) slices_S2056x768_o8_0_S2048x768)
    (broadcastTo S2048x768 (extractStridedSlice S1x768 ![1, 0] w slices_S4x768_o1_0_S1x768) broadcasts_S1x768_S2048x768)
  have a2 := mulf (extractStridedSlice S2048x768 ![8, 0] (dynamicRotate 0 1#32 none S rotates_S2056x768_d0) slices_S2056x768_o8_0_S2048x768)
    (broadcastTo S2048x768 (extractStridedSlice S1x768 ![2, 0] w slices_S4x768_o2_0_S1x768) broadcasts_S1x768_S2048x768)
  have a3 := mulf (extractStridedSlice S2048x768 ![8, 0] S slices_S2056x768_o8_0_S2048x768)
    (broadcastTo S2048x768 (extractStridedSlice S1x768 ![3, 0] w slices_S4x768_o3_0_S1x768) broadcasts_S1x768_S2048x768)
  addf (addf (addf a0 a1) a2) a3

/-- The convolution times its logistic, the logistic as half a hyperbolic tangent plus a half. -/
def siluBlk (C : FVec Ideal S2048x768 .f32) : FVec Ideal S2048x768 .f32 :=
  have h : FVec Ideal S2048x768 .f32 := broadcast S2048x768 (Scalar.ofBits (F := Ideal) .f32 0x3F000000#32)
  mulf C (addf (mulf h (tanh (mulf h C))) h)

/-- The point's block, from its input blocks. -/
theorem out_eq (c : Dev nD) (t : Fin cfg0.N) : outsAt0 m c t = siluBlk (convBlk (xExt m c t) (iblk m c 2 t)) := by
  unfold outsAt0 out0_A_3
  refine (View.read_writes_eq_canon _ _ _ fun y => ?_).trans ?_
  · exact cover0_A_3 ..
  unfold kernelRun0_A
  dsimp only
  sl_unfold_words
  rw [View.canon_unit_zero hz2]
  simp only [View.readAt_eq_ld, Memref.IsWhole.read_unread, View.ld_unit_zero (S := S2048x768) hz2,
    View.ld_unit_zero (S := S8x768) hz2, View.ld_unit_zero (S := S1x4x768) hz3]
  rfl

/-- The convolution at a point's rows. -/
theorem convBlk_apply (c : Dev nD) (t : Fin cfg0.N) (r : Fin 2048) (j : Fin 768) (n : ℕ) (hn : n = t.val * 2048 + r.val) :
    convBlk (xExt m c t) (iblk m c 2 t) (ix2 r j) = conv (argP m c) (argW m c) n j := by
  have ht := lt4 t
  have hr := r.isLt
  have hs (q : Fin 2056) (e : ℕ) (hq : 5 ≤ q.val) (h : t.val * 2048 + q.val - 5 = e) : xExt m c t (ix2 q j) = xs (argP m c) e j :=
    h ▸ xExt_apply m c t q j hq
  have hw (k : Fin 4) := blk2 m c t k j
  generalize xExt m c t = S at hs ⊢
  generalize iblk m c 2 t = W at hw ⊢
  pointwise [convBlk, hw]
  unfold conv
  rw [hs _ n (by dsimp only; omega) (by dsimp only; omega), hs _ (n + 1) (by dsimp only; omega) (by dsimp only; omega),
    hs _ (n + 2) (by dsimp only; omega) (by dsimp only; omega), hs _ (n + 3) (by dsimp only; omega) (by dsimp only; omega)]

/-- The result array. -/
theorem final_y (c : Dev nD) :
    (dats m 0 c).arrAt 3 cfg0.N = fun i : S8192x768.Idx => y (argP m c) (argW m c) (i 0) (i 1) := by
  refine (dats m 0 c).arrAt_eq_of_covers 3 _ (by decide +kernel) fun t hf y' => ?_
  blk_simp
  rw [after0_3, out_eq]
  obtain ⟨r, k, rfl⟩ : ∃ (r : Fin 2048) (k : Fin 768), y' = ix2 r k := ⟨y' 0, y' 1, eq_ix2 y'⟩
  have ht := lt4 t
  have hc := convBlk_apply m c t r k (t.val * 2048 + r.val) rfl
  have e : siluBlk (convBlk (xExt m c t) (iblk m c 2 t)) (ix2 r k) = y (argP m c) (argW m c) ⟨t.val * 2048 + r.val, by omega⟩ k := by
    generalize convBlk (xExt m c t) (iblk m c 2 t) = C at hc ⊢
    pointwise [siluBlk, hc]
    rfl
  rw [e]
  refine congrArg₂ (y (argP m c) (argW m c)) (Fin.ext ?_) (Fin.ext ?_)
  · blk_simp [idx t]
  · blk_simp [idx t]

end Cert.QkvFwdIdeal.Qkv

end
-- ==== Proof.SconvBwd0Blocks.lean ====
/-
  The first layer: the gated short convolution's gradient, one grid point of the kernel: what each of the two outputs' staging buffers
  holds after the point, as a function of the point's input blocks.
-/
module

public import proofs.«01_k».proof.Proof.Gen.SconvBwd0Ideal.Value
public import Idealize.ShloMosaic.Lib.Pointwise
public import Idealize.ShloMosaic.Lib.Tactic

@[expose] public section

set_option maxRecDepth 16384

noncomputable section

namespace Cert.SconvBwd0Ideal.Conv

open Cert.SconvBwd0Ideal Cert.SconvBwd0Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The convolved gate behind its halo of eight rows, at point `t`. -/
def sExt (c : Dev nD) (t : Fin cfg0.N) : FVec F S2056x256 .f32 :=
  k0_pay5 (grid0.coords t) (iblk m c 3 t) (iblk m c 1 t) (iblk m c 4 t) (iblk m c 2 t)

/-- The output gradient times gate B, in front of its halo of eight rows, at point `t`. -/
def gExt (c : Dev nD) (t : Fin cfg0.N) : FVec F S2056x256 .f32 :=
  k0_pay7 (BitVec.ofNat 32 (grid0.coords t 0).val) 3#32 (iblk m c 7 t) (iblk m c 6 t) (iblk m c 5 t) (iblk m c 0 t)

/-- The block of the projection's gradient that point `t` writes. -/
def dpBlk (c : Dev nD) (t : Fin cfg0.N) : FVec F S2048x768 .bf16 :=
  k0_pay2 (k0_pay6 (grid0.coords t) (iblk m c 8 t) (iblk m c 3 t) (iblk m c 1 t) (iblk m c 4 t) (iblk m c 2 t) (iblk m c 6 t))
    (k0_pay8 (BitVec.ofNat 32 (grid0.coords t 0).val) (k0_pay4 (iblk m c 8 t)) 3#32 (iblk m c 7 t) (iblk m c 6 t) (iblk m c 5 t) (iblk m c 0 t))
    (iblk m c 2 t) (iblk m c 1 t)

/-- The weight gradient's accumulator after point `t`, when it holds `acc` before. -/
def dwStep (c : Dev nD) (t : Fin cfg0.N) (acc : FVec F S3x256 .f32) : FVec F S3x256 .f32 :=
  k0_pay1 (sExt m c t) (k0_pay9 acc)
    (k0_pay10 (BitVec.ofNat 32 (grid0.coords t 0).val) 3#32 (iblk m c 7 t) (iblk m c 6 t) (iblk m c 5 t) (iblk m c 0 t))
    (k0_pay11 (BitVec.ofNat 32 (grid0.coords t 0).val) (sExt m c t) 3#32 (iblk m c 7 t) (iblk m c 6 t) (iblk m c 5 t) (iblk m c 0 t))
    (k0_pay12 (BitVec.ofNat 32 (grid0.coords t 0).val) (sExt m c t) 3#32 (iblk m c 7 t) (iblk m c 6 t) (iblk m c 5 t) (iblk m c 0 t))

/-- The first output's staging buffer after a point where the accumulator is reset. -/
theorem outs_dp_A (c : Dev nD) (t : Fin cfg0.N) (h0 : t.val % 4 = 0) :
    (outsAt0 m c t.val t.isLt).1 = dpBlk m c t := by
  unfold dpBlk
  rw [outsAt0_A m c t h0]
  dsimp only
  unfold out0_A_9
  refine (View.read_writes_eq_canon _ _ _ fun y => ?_).trans ?_
  · exact cover0_A_9 ..
  unfold kernelRun0_A
  dsimp only
  sl_unfold_words
  rw [View.canon_unit_zero hz2]
  simp only [View.readAt_eq_ld, Memref.IsWhole.read_unread, View.ld_unit_zero (S := S2048x256) hz2,
    View.ld_unit_zero (S := S8x256) hz2, View.ld_unit_zero (S := S1x3x256) hz3]

/-- The first output's staging buffer after any other point. -/
theorem outs_dp_B (c : Dev nD) (t : Fin cfg0.N) (h0 : ¬t.val % 4 = 0) :
    (outsAt0 m c t.val t.isLt).1 = dpBlk m c t := by
  unfold dpBlk
  rw [outsAt0_B m c t h0]
  dsimp only
  unfold out0_B_9
  refine (View.read_writes_eq_canon _ _ _ fun y => ?_).trans ?_
  · exact cover0_B_9 ..
  unfold kernelRun0_B
  dsimp only
  sl_unfold_words
  rw [View.canon_unit_zero hz2]
  simp only [View.readAt_eq_ld, Memref.IsWhole.read_unread, View.ld_unit_zero (S := S2048x256) hz2,
    View.ld_unit_zero (S := S8x256) hz2, View.ld_unit_zero (S := S1x3x256) hz3]

/-- The accumulator after a point where it is reset. -/
theorem outs_dw_A (c : Dev nD) (t : Fin cfg0.N) (h0 : t.val % 4 = 0) :
    (outsAt0 m c t.val t.isLt).2 = dwStep m c t k0_pay3 := by
  unfold dwStep sExt
  rw [outsAt0_A m c t h0]
  dsimp only
  unfold out0_A_10
  refine (View.read_writes_eq_canon _ _ _ fun y => ?_).trans ?_
  · exact cover0_A_10 ..
  unfold kernelRun0_A
  dsimp only
  sl_unfold_words
  rw [View.canon_cons_unit_zero (S := S3x256) hz2, View.readCov_unit_zero (S := S3x256) _ hz2]
  simp only [View.readAt_eq_ld, Memref.IsWhole.read_unread, View.ld_unit_zero (S := S2048x256) hz2,
    View.ld_unit_zero (S := S8x256) hz2, View.ld_unit_zero (S := S1x3x256) hz3]

/-- The accumulator after any other point, from what the point before left. -/
theorem outs_dw_B (c : Dev nD) (t : Fin cfg0.N) (h0 : ¬t.val % 4 = 0) (hlt : t.val - 1 < cfg0.N) :
    (outsAt0 m c t.val t.isLt).2 = dwStep m c t (outsAt0 m c (t.val - 1) hlt).2 := by
  unfold dwStep sExt
  rw [outsAt0_B m c t h0]
  dsimp only
  unfold out0_B_10
  refine (View.read_writes_eq_canon _ _ _ fun y => ?_).trans ?_
  · exact cover0_B_10 ..
  unfold kernelRun0_B
  dsimp only
  sl_unfold_words
  rw [View.canon_unit_zero hz2]
  simp only [View.readAt_eq_ld, Memref.IsWhole.read_unread, View.ld_unit_zero (S := S2048x256) hz2,
    View.ld_unit_zero (S := S8x256) hz2, View.ld_unit_zero (S := S1x3x256) hz3, View.ld_unit_zero (S := S3x256) hz2]

end Cert.SconvBwd0Ideal.Conv

end
-- ==== Proof.SconvBwd0Spec.lean ====
/-
  The first layer's gated short convolution, backward: the reference read down to the specification.
-/
module

public import proofs.«01_k».proof.Proof.Gen.SconvBwd0RefIdeal.Read
public import proofs.«01_k».proof.Proof.ConvSpec
public import Idealize.ShloMosaic.Lib.Pointwise

@[expose] public section

set_option maxRecDepth 16384

noncomputable section

namespace Cert.Conv

open Idealize.ShloMosaic

/-- The weights with the first layer's taps at the second layer's place, where the specification reads them. -/
def first (w : XW) : XW := fun i => w (ix3 (0 : Fin 2) (⟨(i 1).val, (i 1).isLt⟩ : Fin 3) (⟨(i 2).val, (i 2).isLt⟩ : Fin 256))

/-- So a tap is the first layer's. -/
theorem tap_first (w : XW) (k : Fin 3) (j : Fin 256) : tap (first w) k j = w (ix3 (0 : Fin 2) k j) := rfl

end Cert.Conv

namespace Cert.SconvBwd0RefIdeal.Conv

open Cert.SconvBwd0RefIdeal Cert.SconvBwd0RefIdeal.Read Idealize.ShloMosaic Cert.Conv

/-- The reference's padded operand. -/
theorem xp_apply (p : XP) (n : Fin 8194) (j : Fin 256) : val_main_v7 (F := Ideal) p (ix2 n j) = xs p n.val j := by
  pointwise [val_main_v7, val_main_v6, val_main_v5, val_main_v2, val_main_v1, val_main_cst, xs]
  by_cases h : n.val < 2
  · rw [dif_pos h, dif_neg (by omega)]
  · rw [dif_neg h, dif_pos (by omega)]

/-- The reference's gradient of the convolution's result. -/
theorem dc_apply (p : XP) (d : XD) (n : Fin 8192) (j : Fin 256) : val_main_v27 (F := Ideal) p d (ix2 n j) = dc p d n.val j := by
  pointwise [val_main_v27, val_main_v26, val_main_v0, dc]
  exact mul_comm _ _

/-- A tap of the reference's weights. -/
theorem tap_apply (w : XW) (k : Fin 3) (j : Fin 256) : val_main_v4 (F := Ideal) w (ix2 k j) = tap (first w) k j := by
  pointwise [val_main_v4, val_main_v3, tap_first]

/-- The reference's convolution. -/
theorem conv_apply (p : XP) (w : XW) (n : Fin 8192) (j : Fin 256) : val_main_v24 (F := Ideal) p w (ix2 n j) = conv p (first w) n.val j := by
  pointwise [val_main_v24, val_main_v23, val_main_v22, val_main_v21, val_main_v20, val_main_v19, val_main_v18, val_main_v17, val_main_v16,
    val_main_v15, val_main_v14, val_main_v13, val_main_cst_1, val_main_v12, val_main_v11, val_main_v10, val_main_v9, xp_apply, tap_apply, conv]
  simp only [Nat.add_comm 1 n.val, Nat.add_comm 2 n.val]

/-- The reference's gradient of the convolution's operand, behind two rows. -/
theorem ds_apply (p : XP) (d : XD) (w : XW) (n : Fin 8192) (j : Fin 256) :
    val_main_v55 (F := Ideal) p d w (ix2 n j) = ds p d (first w) n.val j := by
  pointwise [val_main_v55, val_main_v53, val_main_v52, val_main_cst_10, val_main_v49, val_main_v48, val_main_v10, val_main_v44,
    val_main_v43, val_main_cst_7, val_main_v40, val_main_v39, val_main_v16, val_main_v35, val_main_cst_4, val_main_v33, val_main_v32, val_main_v21,
    dc_apply, tap_apply, ds]
  have e1 : (if h : 1 ≤ 2 + n.val ∧ 2 + n.val - 1 < 8192 then dc p d (2 + n.val - 1) j * tap (first w) 1 j else 0) = dc p d (n.val + 1) j * tap (first w) 1 j := by
    rw [show 2 + n.val - 1 = n.val + 1 by omega]
    by_cases h : n.val + 1 < 8192
    · rw [dif_pos ⟨by omega, h⟩]
    · rw [dif_neg (fun a => h a.2), dc_tail p d _ j h, zero_mul]
  have e2 : (if h : 2 + n.val < 8192 then dc p d (2 + n.val) j * tap (first w) 0 j else 0) = dc p d (n.val + 2) j * tap (first w) 0 j := by
    rw [Nat.add_comm 2 n.val]
    by_cases h : n.val + 2 < 8192
    · rw [dif_pos h]
    · rw [dif_neg h, dc_tail p d _ j h, zero_mul]
  rw [e1, e2]
  ac_rfl

/-- The reference's first result, element by element. -/
theorem dp_apply (p : XP) (d : XD) (w : XW) (n : Fin 8192) (c : Fin 768) :
    val_main_v59 (F := Ideal) p d w (ix2 n c) = dp p d (first w) n c := by
  pointwise [val_main_v59, val_main_v58, val_main_v57, val_main_v56, val_main_v28, val_main_v26, val_main_v1, val_main_v2, conv_apply, ds_apply, dp]
  split_ifs <;> first | rfl | exact mul_comm _ _

/-- The reference's second result, element by element. -/
theorem dw_apply (p : XP) (d : XD) (k : Fin 3) (j : Fin 256) :
    val_main_v51 (F := Ideal) p d (ix2 k j) = dw p d k j := by
  pointwise [val_main_v51, val_main_v50, val_main_cst_9, val_main_v47, val_main_v46, val_main_cst_8, val_main_v45, val_main_v9,
    val_main_v42, val_main_v41, val_main_cst_6, val_main_v38, val_main_v37, val_main_cst_5, val_main_v36, val_main_v15,
    val_main_v34, val_main_cst_3, val_main_v31, val_main_v30, val_main_cst_2, val_main_v29, val_main_v20, xp_apply, dc_apply, dw]
  fin_vals k with hk
  all_goals simp [hk, Nat.add_comm]

end Cert.SconvBwd0RefIdeal.Conv

end
-- ==== Proof.SconvBwd0Kernel.lean ====
/-
  The first layer: the gated short convolution's gradient: the kernel's two result arrays, element by element.
-/
module

public import proofs.«01_k».proof.Proof.SconvBwd0Blocks
public import proofs.«01_k».proof.Proof.SconvBwd0Spec
public import Idealize.ShloMosaic.Lib.Pipeline.ValueKit

@[expose] public section

set_option maxRecDepth 16384

noncomputable section

namespace Cert.SconvBwd0Ideal.Conv

open Cert.SconvBwd0Ideal Cert.SconvBwd0Ideal.Gen Idealize.ShloMosaic Idealize.ShloMosaic.TcCoe Idealize.SL.Sem Cert.Conv
open Idealize.ShloMosaic.Pipeline (Dat)

variable (m : (ℓ : Loc nD τ sig) → Buf (Elt Ideal) ℓ)

/-- The arguments as the specification takes them. -/
abbrev argP (c : Dev nD) : XP := m ((c : Thread nD τ).loc main_arg0)
abbrev argD (c : Dev nD) : XD := m ((c : Thread nD τ).loc main_arg1)
abbrev argW (c : Dev nD) : XW := m ((c : Thread nD τ).loc main_arg2)

/-- Which block each window is at. -/
theorem idx : ∀ t : Fin cfg0.N, win0_0.index t = ![t.val, 8] ∧ win0_1.index t = ![t.val, 9] ∧ win0_2.index t = ![t.val, 10]
    ∧ win0_3.index t = ![t.val * 256 - 1, 9] ∧ win0_4.index t = ![t.val * 256 - 1, 10]
    ∧ win0_5.index t = ![min ((t.val + 1) * 256) 1023, 8] ∧ win0_6.index t = ![t.val, 1]
    ∧ win0_7.index t = ![min ((t.val + 1) * 256) 1023, 1] ∧ win0_8.index t = ![0, 0, 0] ∧ win0_9.index t = ![t.val, 0]
    ∧ win0_10.index t = ![0, 0] :=
  (by decide +kernel : ∀ t : Fin grid0.N, win0_0.index t = ![t.val, 8] ∧ win0_1.index t = ![t.val, 9] ∧ win0_2.index t = ![t.val, 10]
    ∧ win0_3.index t = ![t.val * 256 - 1, 9] ∧ win0_4.index t = ![t.val * 256 - 1, 10]
    ∧ win0_5.index t = ![min ((t.val + 1) * 256) 1023, 8] ∧ win0_6.index t = ![t.val, 1]
    ∧ win0_7.index t = ![min ((t.val + 1) * 256) 1023, 1] ∧ win0_8.index t = ![0, 0, 0] ∧ win0_9.index t = ![t.val, 0]
    ∧ win0_10.index t = ![0, 0])

theorem isFirst : ∀ t : Fin cfg0.N, Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1)

theorem isLast : ∀ t : Fin cfg0.N, Scalar.cmpi .eq (BitVec.ofNat 32 (grid0.coords t 0).val) 3#32 = if t.val = 3 then 1#1 else 0#1 :=
  (by decide +kernel : ∀ t : Fin grid0.N, Scalar.cmpi .eq (BitVec.ofNat 32 (grid0.coords t 0).val) 3#32 = if t.val = 3 then 1#1 else 0#1)

theorem lt4 (t : Fin cfg0.N) : t.val < 4 := lt_of_lt_of_eq t.isLt N_0

/-- A point's rows of gate B, gate C, h and the mixers' gradient, and the two halos, read off the arguments. -/
theorem blk0 (c : Dev nD) (t : Fin cfg0.N) (r : Fin 2048) (j : Fin 256) (n : Fin 8192) (k : Fin 3584)
    (hn : n.val = t.val * 2048 + r.val) (hk : k.val = 2048 + j.val) : iblk m c 0 t (ix2 r j) = argP m c (ix2 n k) := by
  blk_ext [iblk, V, idx t]
theorem blk1 (c : Dev nD) (t : Fin cfg0.N) (r : Fin 2048) (j : Fin 256) (n : Fin 8192) (k : Fin 3584)
    (hn : n.val = t.val * 2048 + r.val) (hk : k.val = 2304 + j.val) : iblk m c 1 t (ix2 r j) = argP m c (ix2 n k) := by
  blk_ext [iblk, V, idx t]
theorem blk2 (c : Dev nD) (t : Fin cfg0.N) (r : Fin 2048) (j : Fin 256) (n : Fin 8192) (k : Fin 3584)
    (hn : n.val = t.val * 2048 + r.val) (hk : k.val = 2560 + j.val) : iblk m c 2 t (ix2 r j) = argP m c (ix2 n k) := by
  blk_ext [iblk, V, idx t]
theorem blk3 (c : Dev nD) (t : Fin cfg0.N) (r : Fin 8) (j : Fin 256) (n : Fin 8192) (k : Fin 3584)
    (hn : n.val = (t.val * 256 - 1) * 8 + r.val) (hk : k.val = 2304 + j.val) : iblk m c 3 t (ix2 r j) = argP m c (ix2 n k) := by
  blk_ext [iblk, V, idx t]
theorem blk4 (c : Dev nD) (t : Fin cfg0.N) (r : Fin 8) (j : Fin 256) (n : Fin 8192) (k : Fin 3584)
    (hn : n.val = (t.val * 256 - 1) * 8 + r.val) (hk : k.val = 2560 + j.val) : iblk m c 4 t (ix2 r j) = argP m c (ix2 n k) := by
  blk_ext [iblk, V, idx t]
theorem blk5 (c : Dev nD) (t : Fin cfg0.N) (r : Fin 8) (j : Fin 256) (n : Fin 8192) (k : Fin 3584)
    (hn : n.val = (min ((t.val + 1) * 256) 1023) * 8 + r.val) (hk : k.val = 2048 + j.val) : iblk m c 5 t (ix2 r j) = argP m c (ix2 n k) := by
  blk_ext [iblk, V, idx t]
theorem blk6 (c : Dev nD) (t : Fin cfg0.N) (r : Fin 2048) (j : Fin 256) (n : Fin 8192) (k : Fin 1024)
    (hn : n.val = t.val * 2048 + r.val) (hk : k.val = 256 + j.val) : iblk m c 6 t (ix2 r j) = argD m c (ix2 n k) := by
  blk_ext [iblk, V, idx t]
theorem blk7 (c : Dev nD) (t : Fin cfg0.N) (r : Fin 8) (j : Fin 256) (n : Fin 8192) (k : Fin 1024)
    (hn : n.val = (min ((t.val + 1) * 256) 1023) * 8 + r.val) (hk : k.val = 256 + j.val) : iblk m c 7 t (ix2 r j) = argD m c (ix2 n k) := by
  blk_ext [iblk, V, idx t]

/-- The operand behind its halo is the padded operand, from the sixth row on. -/
theorem sExt_apply (c : Dev nD) (t : Fin cfg0.N) (q : Fin 2056) (j : Fin 256) (hq : 6 ≤ q.val) (hn : t.val * 2048 + q.val - 6 < 8194) :
    sExt m c t (ix2 q j) = xs (argP m c) (t.val * 2048 + q.val - 6) j := by
  have ht := lt4 t
  pointwise [sExt, k0_pay5, xs, isFirst t]
  by_cases h8 : q.val < 8
  · simp only [dif_pos h8]
    by_cases h0 : t.val = 0
    · rw [dif_neg (by omega)]
      simp [h0, Scalar.select]
    · rw [dif_pos (by omega)]
      have e {α : Type} (a b : α) : Scalar.select (if t.val = 0 then 1#1 else 0#1) a b = b := by rw [if_neg h0]; rfl
      simp only [e]
      exact congrArg₂ (· * ·) (blk3 m c t _ j _ _ (by dsimp only; omega) rfl) (blk4 m c t _ j _ _ (by dsimp only; omega) rfl)
  · simp only [dif_neg h8]
    rw [dif_pos (by omega)]
    exact congrArg₂ (· * ·) (blk1 m c t _ j _ _ (by dsimp only; omega) rfl) (blk2 m c t _ j _ _ (by dsimp only; omega) rfl)

theorem gExt_apply (c : Dev nD) (t : Fin cfg0.N) (q : Fin 2056) (j : Fin 256) (hq : q.val < 2050) :
    gExt m c t (ix2 q j) = dc (argP m c) (argD m c) (t.val * 2048 + q.val) j := by
  have ht := lt4 t
  pointwise [gExt, k0_pay7, dc, isLast t]
  by_cases h8 : q.val < 2048
  · simp only [dif_pos h8]
    rw [dif_pos (by omega)]
    exact congrArg₂ (· * ·) (blk6 m c t _ j _ _ (by dsimp only) rfl) (blk0 m c t _ j _ _ (by dsimp only) rfl)
  · simp only [dif_neg h8]
    by_cases h3 : t.val = 3
    · rw [dif_neg (by omega)]
      simp [h3, Scalar.select]
    · rw [dif_pos (by omega)]
      have e {α : Type} (a b : α) : Scalar.select (if t.val = 3 then 1#1 else 0#1) a b = b := by rw [if_neg h3]; rfl
      simp only [e]
      exact congrArg₂ (· * ·) (blk7 m c t _ j _ _ (by dsimp only; omega) rfl) (blk5 m c t _ j _ _ (by dsimp only; omega) rfl)

theorem tapBlk_apply (c : Dev nD) (t : Fin cfg0.N) (k : Fin 3) (j : Fin 256) :
    k0_pay4 (iblk m c 8 t) (ix2 k j) = tap (first (argW m c)) k j := by
  pointwise [k0_pay4, tap_first]
  blk_ext [iblk, V, idx t]

/-- Gate B's gradient at a point: the output's gradient times the convolution. -/
theorem dgBlk_apply (c : Dev nD) (t : Fin cfg0.N) (r : Fin 2048) (j : Fin 256) (n : Fin 8192) (k : Fin 1024)
    (hn : n.val = t.val * 2048 + r.val) (hk : k.val = 256 + j.val) :
    k0_pay6 (grid0.coords t) (iblk m c 8 t) (iblk m c 3 t) (iblk m c 1 t) (iblk m c 4 t) (iblk m c 2 t) (iblk m c 6 t) (ix2 r j)
      = argD m c (ix2 n k) * conv (argP m c) (first (argW m c)) n.val j := by
  have ht := lt4 t
  have hr := r.isLt
  have hs (q : Fin 2056) (e : ℕ) (hq : 6 ≤ q.val) (h : t.val * 2048 + q.val - 6 = e) :
      k0_pay5 (grid0.coords t) (iblk m c 3 t) (iblk m c 1 t) (iblk m c 4 t) (iblk m c 2 t) (ix2 q j) = xs (argP m c) e j :=
    h ▸ sExt_apply m c t q j hq (by omega)
  pointwise [k0_pay6, tapBlk_apply]
  generalize k0_pay5 (grid0.coords t) (iblk m c 3 t) (iblk m c 1 t) (iblk m c 4 t) (iblk m c 2 t) = S at hs ⊢
  unfold conv
  rw [blk6 m c t r j n k hn hk, hs _ n.val (by dsimp only; omega) (by dsimp only; omega),
    hs _ (n.val + 1) (by dsimp only; omega) (by dsimp only; omega), hs _ (n.val + 2) (by dsimp only; omega) (by dsimp only; omega)]

/-- The gradient with respect to the convolution's operand at a point. -/
theorem dsBlk_apply (c : Dev nD) (t : Fin cfg0.N) (r : Fin 2048) (j : Fin 256) (n : ℕ) (hn : n = t.val * 2048 + r.val) :
    k0_pay8 (BitVec.ofNat 32 (grid0.coords t 0).val) (k0_pay4 (iblk m c 8 t)) 3#32 (iblk m c 7 t) (iblk m c 6 t) (iblk m c 5 t)
        (iblk m c 0 t) (ix2 r j)
      = ds (argP m c) (argD m c) (first (argW m c)) n j := by
  have ht := lt4 t
  have hr := r.isLt
  have hg (q : Fin 2056) (e : ℕ) (hq : q.val < 2050) (h : t.val * 2048 + q.val = e) :
      k0_pay7 (BitVec.ofNat 32 (grid0.coords t 0).val) 3#32 (iblk m c 7 t) (iblk m c 6 t) (iblk m c 5 t) (iblk m c 0 t) (ix2 q j)
        = dc (argP m c) (argD m c) e j :=
    h ▸ gExt_apply m c t q j hq
  pointwise [k0_pay8, tapBlk_apply]
  generalize k0_pay7 (BitVec.ofNat 32 (grid0.coords t 0).val) 3#32 (iblk m c 7 t) (iblk m c 6 t) (iblk m c 5 t) (iblk m c 0 t) = G at hg ⊢
  unfold ds
  rw [hg _ (n + 2) (by dsimp only; omega) (by dsimp only; omega), hg _ (n + 1) (by dsimp only; omega) (by dsimp only; omega),
    hg _ n (by dsimp only; omega) (by dsimp only; omega)]

/-- What a point writes of the first result. -/
theorem dpBlk_apply (c : Dev nD) (t : Fin cfg0.N) (r : Fin 2048) (k : Fin 768) (n : Fin 8192) (hn : n.val = t.val * 2048 + r.val) :
    dpBlk m c t (ix2 r k) = dp (argP m c) (argD m c) (first (argW m c)) n k := by
  have hA (j : Fin 256) (k' : Fin 1024) (hk : k'.val = 256 + j.val) := dgBlk_apply m c t r j n k' hn hk
  have hB (j : Fin 256) := dsBlk_apply m c t r j n.val hn
  have h2 (j : Fin 256) (k' : Fin 3584) (hk : k'.val = 2560 + j.val) := blk2 m c t r j n k' hn hk
  have h1 (j : Fin 256) (k' : Fin 3584) (hk : k'.val = 2304 + j.val) := blk1 m c t r j n k' hn hk
  unfold dpBlk
  generalize k0_pay6 (grid0.coords t) (iblk m c 8 t) (iblk m c 3 t) (iblk m c 1 t) (iblk m c 4 t) (iblk m c 2 t) (iblk m c 6 t) = A at hA ⊢
  generalize k0_pay8 (BitVec.ofNat 32 (grid0.coords t 0).val) (k0_pay4 (iblk m c 8 t)) 3#32 (iblk m c 7 t) (iblk m c 6 t) (iblk m c 5 t)
    (iblk m c 0 t) = B at hB ⊢
  generalize iblk m c 2 t = H at h2 ⊢
  generalize iblk m c 1 t = C at h1 ⊢
  pointwise [k0_pay2]
  unfold dp
  split_ifs
  all_goals first
    | exact hA _ _ rfl
    | exact congrArg₂ (· * ·) (hB _) (h2 _ _ rfl)
    | exact congrArg₂ (· * ·) (hB _) (h1 _ _ rfl)
    | exact absurd rfl ‹_›

theorem dwStep_apply (c : Dev nD) (t : Fin cfg0.N) (acc : FVec Ideal S3x256 .f32) (k : Fin 3) (j : Fin 256) :
    dwStep m c t acc (ix2 k j) = acc (ix2 k j) + ∑ r : Fin 2048,
      xs (argP m c) (t.val * 2048 + r.val + k.val) j * dc (argP m c) (argD m c) (t.val * 2048 + r.val) j := by
  have ht := lt4 t
  pointwise [dwStep, k0_pay1, k0_pay9, k0_pay10, k0_pay11, k0_pay12]
  congr 1
  fin_vals k with hk
  all_goals simp only [hk, Nat.reduceSub, Nat.reduceLT, ↓reduceDIte]
  all_goals refine Finset.sum_congr rfl fun r _ => ?_
  all_goals have hr := r.isLt
  all_goals
    refine congrArg₂ (· * ·) ?_ (gExt_apply m c t _ j (by dsimp only; omega))
    rw [sExt_apply m c t _ j (by dsimp only; omega) (by dsimp only; omega)]
    congr 1
    dsimp only
    omega

/-- The first result array. -/
theorem final_dp (c : Dev nD) :
    (dats m 0 c).arrAt 9 cfg0.N = fun i : S8192x768.Idx => dp (argP m c) (argD m c) (first (argW m c)) (i 0) (i 1) := by
  refine (dats m 0 c).arrAt_eq_of_covers 9 _ (by decide +kernel) fun t hf y => ?_
  blk_simp
  rw [after0_9]
  have e : (outsAt0 m c t.val t.isLt).1 = dpBlk m c t := by
    by_cases h0 : t.val % 4 = 0
    · exact outs_dp_A m c t h0
    · exact outs_dp_B m c t h0
  rw [e]
  obtain ⟨r, k, rfl⟩ : ∃ (r : Fin 2048) (k : Fin 768), y = ix2 r k := ⟨y 0, y 1, eq_ix2 y⟩
  have ht := lt4 t
  rw [dpBlk_apply m c t r k ⟨t.val * 2048 + r.val, by omega⟩ rfl]
  refine congrArg₂ (dp (argP m c) (argD m c) (first (argW m c))) (Fin.ext ?_) (Fin.ext ?_)
  · blk_simp [idx t]
  · blk_simp [idx t]

/-- The second result array. -/
theorem final_dw (c : Dev nD) :
    (dats m 0 c).arrAt 10 cfg0.N = fun i : S3x256.Idx => dw (argP m c) (argD m c) (i 0) (i 1) := by
  refine (dats m 0 c).arrAt_eq_of_after_last 10 t0_3 (by decide +kernel) _ fun y => ?_
  blk_simp
  rw [after0_10]
  obtain ⟨k, j, rfl⟩ : ∃ (k : Fin 3) (j : Fin 256), y = ix2 k j := ⟨y 0, y 1, eq_ix2 y⟩
  rw [Pipeline.eq_sum_fin_of_reset_step_apply_last (fun n h => (outsAt0 m c n h).2) 4 (fun _ => (0 : EReal))
    (fun t y => ∑ r : Fin 2048, xs (argP m c) (t.val * 2048 + r.val + (y 0).val) (y 1) * dc (argP m c) (argD m c) (t.val * 2048 + r.val) (y 1))
    (fun t h y => by
      idx_vars y
      rw [outs_dw_A m c t h]
      refine (dwStep_apply ..).trans ?_
      exact congrArg (· + _) (by pointwise [k0_pay3]))
    (fun t h y => by
      idx_vars y
      rw [outs_dw_B m c t h (Nat.lt_of_le_of_lt (Nat.sub_le _ _) t.isLt)]
      exact dwStep_apply ..)
    (le_of_eq N_0) t0_3 rfl (ix2 k j), zero_add]
  unfold dw
  exact Fin.sum_mul_add_congr fun t r hl => rfl

end Cert.SconvBwd0Ideal.Conv

end
-- ==== Proof.QkvBwd0Blocks.lean ====
/-
  The first layer: the gradient of the convolved queries, keys and values, one grid point of the kernel: what each of the two outputs'
  staging buffers holds after the point, as a function of the point's input blocks.
-/
module

public import proofs.«01_k».proof.Proof.Gen.QkvBwd0Ideal.Value
public import Idealize.ShloMosaic.Lib.Pointwise
public import Idealize.ShloMosaic.Lib.Tactic

@[expose] public section

set_option maxRecDepth 16384

noncomputable section

namespace Cert.QkvBwd0Ideal.Qkv

open Cert.QkvBwd0Ideal Cert.QkvBwd0Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The operand between its two halos of eight rows, at point `t`. -/
def xAll (c : Dev nD) (t : Fin cfg0.N) : FVec F S1040x768 .f32 :=
  k0_pay4 (grid0.coords t) (X0_1 m c t) (X0_0 m c t) (X0_2 m c t)

/-- The convolution at the point's rows and the eight behind them. -/
def cExt (c : Dev nD) (t : Fin cfg0.N) : FVec F S1032x768 .f32 :=
  k0_pay5 (grid0.coords t) (iblk m c 5 t) (X0_1 m c t) (X0_0 m c t) (X0_2 m c t)

/-- The convolution's gradient at the point's rows and the eight behind them. -/
def gExt (c : Dev nD) (t : Fin cfg0.N) : FVec F S1032x768 .f32 :=
  k0_pay7 (BitVec.ofNat 32 (grid0.coords t 0).val) (cExt m c t) k0_pay6 (iblk m c 4 t) (iblk m c 3 t)

/-- The block of the operand's gradient that point `t` writes. -/
def dsBlk (c : Dev nD) (t : Fin cfg0.N) : FVec F S1024x768 .bf16 :=
  k0_pay8 (BitVec.ofNat 32 (grid0.coords t 0).val) (k0_pay3 (iblk m c 5 t)) (cExt m c t) k0_pay6 (iblk m c 4 t) (iblk m c 3 t)

/-- The tap gradient's accumulator after point `t`, when it holds `acc` before. -/
def dwStep (c : Dev nD) (t : Fin cfg0.N) (acc : FVec F S4x768 .f32) : FVec F S4x768 .f32 :=
  k0_pay1 (xAll m c t) (gExt m c t) acc

/-- The first output's staging buffer after a point where the accumulator is reset. -/
theorem outs_ds_A (c : Dev nD) (t : Fin cfg0.N) (h0 : t.val % 8 = 0) :
    (outsAt0 m c t.val t.isLt).1 = dsBlk m c t := by
  unfold dsBlk cExt
  rw [outsAt0_A m c t h0]
  dsimp only
  unfold out0_A_6
  refine (View.read_writes_eq_canon _ _ _ fun y => ?_).trans ?_
  · exact cover0_A_6 ..
  unfold kernelRun0_A
  dsimp only
  sl_unfold_words
  rw [View.canon_unit_zero hz2]
  simp only [View.readAt_eq_ld, Memref.IsWhole.read_unread, View.ld_unit_zero (S := S1024x768) hz2,
    View.ld_unit_zero (S := S8x768) hz2, View.ld_unit_zero (S := S1x4x768) hz3]

/-- The first output's staging buffer after any other point. -/
theorem outs_ds_B (c : Dev nD) (t : Fin cfg0.N) (h0 : ¬t.val % 8 = 0) :
    (outsAt0 m c t.val t.isLt).1 = dsBlk m c t := by
  unfold dsBlk cExt
  rw [outsAt0_B m c t h0]
  dsimp only
  unfold out0_B_6
  refine (View.read_writes_eq_canon _ _ _ fun y => ?_).trans ?_
  · exact cover0_B_6 ..
  unfold kernelRun0_B
  dsimp only
  sl_unfold_words
  rw [View.canon_unit_zero hz2]
  simp only [View.readAt_eq_ld, Memref.IsWhole.read_unread, View.ld_unit_zero (S := S1024x768) hz2,
    View.ld_unit_zero (S := S8x768) hz2, View.ld_unit_zero (S := S1x4x768) hz3]

/-- The accumulator after a point where it is reset. -/
theorem outs_dw_A (c : Dev nD) (t : Fin cfg0.N) (h0 : t.val % 8 = 0) :
    (outsAt0 m c t.val t.isLt).2 = dwStep m c t k0_pay2 := by
  unfold dwStep xAll gExt cExt
  rw [outsAt0_A m c t h0]
  dsimp only
  unfold out0_A_7
  refine (View.read_writes_eq_canon _ _ _ fun y => ?_).trans ?_
  · exact cover0_A_7 ..
  unfold kernelRun0_A
  dsimp only
  sl_unfold_words
  rw [View.canon_cons_unit_zero (S := S4x768) hz2, View.readCov_unit_zero (S := S4x768) _ hz2]
  simp only [View.readAt_eq_ld, Memref.IsWhole.read_unread, View.ld_unit_zero (S := S1024x768) hz2,
    View.ld_unit_zero (S := S8x768) hz2, View.ld_unit_zero (S := S1x4x768) hz3]

/-- The accumulator after any other point, from what the point before left. -/
theorem outs_dw_B (c : Dev nD) (t : Fin cfg0.N) (h0 : ¬t.val % 8 = 0) (hlt : t.val - 1 < cfg0.N) :
    (outsAt0 m c t.val t.isLt).2 = dwStep m c t (outsAt0 m c (t.val - 1) hlt).2 := by
  unfold dwStep xAll gExt cExt
  rw [outsAt0_B m c t h0]
  dsimp only
  unfold out0_B_7
  refine (View.read_writes_eq_canon _ _ _ fun y => ?_).trans ?_
  · exact cover0_B_7 ..
  unfold kernelRun0_B
  dsimp only
  sl_unfold_words
  rw [View.canon_unit_zero hz2]
  simp only [View.readAt_eq_ld, Memref.IsWhole.read_unread, View.ld_unit_zero (S := S1024x768) hz2,
    View.ld_unit_zero (S := S8x768) hz2, View.ld_unit_zero (S := S1x4x768) hz3, View.ld_unit_zero (S := S4x768) hz2]

end Cert.QkvBwd0Ideal.Qkv

end
-- ==== Proof.QkvBwd0Spec.lean ====
/-
  The first layer's convolved queries, keys and values, backward: the reference read down to the specification.
-/
module

public import proofs.«01_k».proof.Proof.Gen.QkvBwd0RefIdeal.Read
public import proofs.«01_k».proof.Proof.QkvBwdSpec
public import Idealize.ShloMosaic.Lib.Pointwise

@[expose] public section

set_option maxRecDepth 16384

noncomputable section

namespace Cert.Qkv

open Idealize.ShloMosaic

/-- The weights with the first layer's taps at the second layer's place, where the specification reads them. -/
def first (w : XW) : XW := fun i => w (ix3 (0 : Fin 2) (⟨(i 1).val, (i 1).isLt⟩ : Fin 4) (⟨(i 2).val, (i 2).isLt⟩ : Fin 768))

/-- So a tap is the first layer's. -/
theorem tap_first (w : XW) (k : Fin 4) (j : Fin 768) : tap (first w) k j = w (ix3 (0 : Fin 2) k j) := rfl

end Cert.Qkv

namespace Cert.QkvBwd0RefIdeal.Qkv

open Cert.QkvBwd0RefIdeal Cert.QkvBwd0RefIdeal.Read Idealize.ShloMosaic Cert.Qkv Cert.Step

/-- The reference's padded operand. -/
theorem xp_apply (p : XP) (n : Fin 8195) (j : Fin 768) : val_main_v4 (F := Ideal) p (ix2 n j) = xs p n.val j := by
  pointwise [val_main_v4, val_main_v3, val_main_cst, val_main_v0, xs]
  by_cases h : n.val < 3
  · rw [dif_pos h, dif_neg (by omega)]
  · rw [dif_neg h, dif_pos (by omega)]

/-- A tap of the reference's weights. -/
theorem tap_apply (w : XW) (k : Fin 4) (j : Fin 768) : val_main_v2 (F := Ideal) w (ix2 k j) = tap (first w) k j := by
  pointwise [val_main_v2, val_main_v1, tap_first]

/-- The reference's convolution. -/
theorem conv_apply (p : XP) (w : XW) (n : Fin 8192) (j : Fin 768) : val_main_v26 (F := Ideal) p w (ix2 n j) = conv p (first w) n.val j := by
  pointwise [val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8,
    val_main_v7, val_main_v6, val_main_cst_1, xp_apply, tap_apply, conv]
  simp only [Nat.add_comm 1 n.val, Nat.add_comm 2 n.val, Nat.add_comm 3 n.val]

variable (p : XP) (d : XD) (w : XW) (hd : ∀ (n : Fin 8192) (j : Fin 768), ∃ r : ℝ, d (ix2 n j) = (r : EReal))

include hd in
/-- The reference's gradient of the convolution, at a real gradient of its result. -/
theorem dc_apply (n : Fin 8192) (j : Fin 768) : val_main_v28 (F := Ideal) p d w (ix2 n j) = dc p d (first w) n.val j := by
  have h26 := conv_apply p w
  pointwise [val_main_v28, val_main_call1_v0, val_main_call1_v1, val_main_call1_v2, val_main_v27_1, val_main_v27_2, val_main_call0_v7,
    val_main_call0_v6, val_main_call0_v4, val_main_call0_v3, val_main_call0_v2, val_main_call0_v1, val_main_call0_v0,
    val_main_call0_cst, val_main_call0_cst_0, val_main_call0_cst_1, h26]
  unfold dc gate
  rw [dif_pos n.isLt]
  obtain ⟨r, e⟩ := hd n j
  have k := silu_bwd r (conv p (first w) n.val j)
  rw [← e] at k
  rw [← k, sig_eq]
  rfl

include hd in
/-- The reference's first result, element by element. -/
theorem ds_apply (n : Fin 8192) (j : Fin 768) : val_main_v65 (F := Ideal) p d w (ix2 n j) = ds p d (first w) n.val j := by
  have hdc := dc_apply p d w hd
  pointwise [val_main_v65, val_main_v64, val_main_v62, val_main_v61, val_main_cst_13, val_main_v58, val_main_v57, val_main_v7, val_main_v53,
    val_main_v52, val_main_cst_10, val_main_v49, val_main_v48, val_main_v13, val_main_v44, val_main_v43, val_main_cst_7, val_main_v40,
    val_main_v39, val_main_v18, val_main_v35, val_main_cst_4, val_main_v33, val_main_v32, val_main_v23, hdc, tap_apply, ds]
  have e (a : ℕ) (k : Fin 4) : (if h : n.val + a < 8192 then dc p d (first w) (n.val + a) j * tap (first w) k j else 0) = dc p d (first w) (n.val + a) j * tap (first w) k j := by
    by_cases h : n.val + a < 8192
    · rw [dif_pos h]
    · rw [dif_neg h, dc_tail p d (first w) _ j h, zero_mul]
  have e2 : (if h : 1 ≤ 3 + n.val ∧ 3 + n.val - 1 < 8192 then dc p d (first w) (3 + n.val - 1) j * tap (first w) 1 j else 0) = dc p d (first w) (n.val + 2) j * tap (first w) 1 j := by
    rw [← e 2 1]
    simp only [show 3 + n.val - 1 = n.val + 2 by omega]
    split_ifs <;> first | rfl | omega
  have e1 : (if h : 2 ≤ 3 + n.val ∧ 3 + n.val - 2 < 8192 then dc p d (first w) (3 + n.val - 2) j * tap (first w) 2 j else 0) = dc p d (first w) (n.val + 1) j * tap (first w) 2 j := by
    rw [← e 1 2]
    simp only [show 3 + n.val - 2 = n.val + 1 by omega]
    split_ifs <;> first | rfl | omega
  have e3 : (if h : 3 + n.val < 8192 then dc p d (first w) (3 + n.val) j * tap (first w) 0 j else 0) = dc p d (first w) (n.val + 3) j * tap (first w) 0 j := by
    rw [← e 3 0]
    simp only [Nat.add_comm 3 n.val]
  rw [e1, e2, e3]
  ac_rfl

include hd in
/-- The reference's second result, element by element. -/
theorem dw_apply (k : Fin 4) (j : Fin 768) : val_main_v60 (F := Ideal) p d w (ix2 k j) = dw p d (first w) k j := by
  have hdc := dc_apply p d w hd
  pointwise [val_main_v60, val_main_v59, val_main_cst_12, val_main_v56, val_main_v55, val_main_cst_11, val_main_v54, val_main_v6,
    val_main_v51, val_main_v50, val_main_cst_9, val_main_v47, val_main_v46, val_main_cst_8, val_main_v45, val_main_v12,
    val_main_v42, val_main_v41, val_main_cst_6, val_main_v38, val_main_v37, val_main_cst_5, val_main_v36, val_main_v17,
    val_main_v34, val_main_cst_3, val_main_v31, val_main_v30, val_main_cst_2, val_main_v29, val_main_v22, xp_apply, hdc, dw]
  fin_vals k with hk
  all_goals simp [hk, Nat.add_comm]

end Cert.QkvBwd0RefIdeal.Qkv

end
-- ==== Proof.QkvBwd0Kernel.lean ====
/-
  The first layer: the gradient of the convolved queries, keys and values: the kernel's two result arrays, element by element.
-/
module

public import proofs.«01_k».proof.Proof.QkvBwd0Blocks
public import proofs.«01_k».proof.Proof.QkvBwd0Spec
public import Idealize.ShloMosaic.Lib.Pipeline.ValueKit

@[expose] public section

set_option maxRecDepth 16384

noncomputable section

namespace Cert.QkvBwd0Ideal.Qkv

open Cert.QkvBwd0Ideal Cert.QkvBwd0Ideal.Gen Idealize.ShloMosaic Idealize.ShloMosaic.TcCoe Idealize.SL.Sem Cert.Qkv Cert.Step
open Idealize.ShloMosaic.Pipeline (Dat)

variable (m : (ℓ : Loc nD τ sig) → Buf (Elt Ideal) ℓ)

/-- The arguments as the specification takes them. -/
abbrev argP (c : Dev nD) : XP := m ((c : Thread nD τ).loc main_arg0)
abbrev argD (c : Dev nD) : XD := m ((c : Thread nD τ).loc main_arg1)
abbrev argW (c : Dev nD) : XW := m ((c : Thread nD τ).loc main_arg2)

/-- Which block each window is at. -/
theorem idx : ∀ t : Fin cfg0.N, win0_0.index t = ![t.val, 0] ∧ win0_1.index t = ![t.val * 128 - 1, 0]
    ∧ win0_2.index t = ![min ((t.val + 1) * 128) 1023, 0] ∧ win0_3.index t = ![t.val, 0]
    ∧ win0_4.index t = ![min ((t.val + 1) * 128) 1023, 0] ∧ win0_5.index t = ![0, 0, 0] ∧ win0_6.index t = ![t.val, 0]
    ∧ win0_7.index t = ![0, 0] :=
  (by decide +kernel : ∀ t : Fin grid0.N, win0_0.index t = ![t.val, 0] ∧ win0_1.index t = ![t.val * 128 - 1, 0]
    ∧ win0_2.index t = ![min ((t.val + 1) * 128) 1023, 0] ∧ win0_3.index t = ![t.val, 0]
    ∧ win0_4.index t = ![min ((t.val + 1) * 128) 1023, 0] ∧ win0_5.index t = ![0, 0, 0] ∧ win0_6.index t = ![t.val, 0]
    ∧ win0_7.index t = ![0, 0])

/-- Whether a point is the first. -/
theorem isFirst : ∀ t : Fin cfg0.N, Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1)

/-- Whether a point is the last. -/
theorem isLast : ∀ t : Fin cfg0.N, Scalar.cmpi .eq (BitVec.ofNat 32 (grid0.coords t 0).val) 7#32 = if t.val = 7 then 1#1 else 0#1 :=
  (by decide +kernel : ∀ t : Fin grid0.N, Scalar.cmpi .eq (BitVec.ofNat 32 (grid0.coords t 0).val) 7#32 = if t.val = 7 then 1#1 else 0#1)

theorem lt8 (t : Fin cfg0.N) : t.val < 8 := lt_of_lt_of_eq t.isLt N_0

/-- A point's rows of the operand and of the result's gradient, and their halos, read off the arguments. -/
theorem blk0 (c : Dev nD) (t : Fin cfg0.N) (r : Fin 1024) (j : Fin 768) (n : Fin 8192) (k : Fin 3584)
    (hn : n.val = t.val * 1024 + r.val) (hk : k.val = j.val) : X0_0 m c t (ix2 r j) = argP m c (ix2 n k) := by
  unfold X0_0 Pipeline.Window.fill
  rw [dif_pos (moved0_0 t _)]
  blk_ext [iblk, V, idx t]
theorem blk1 (c : Dev nD) (t : Fin cfg0.N) (r : Fin 8) (j : Fin 768) (n : Fin 8192) (k : Fin 3584)
    (hn : n.val = (t.val * 128 - 1) * 8 + r.val) (hk : k.val = j.val) : X0_1 m c t (ix2 r j) = argP m c (ix2 n k) := by
  unfold X0_1 Pipeline.Window.fill
  rw [dif_pos (moved0_1 t _)]
  blk_ext [iblk, V, idx t]
theorem blk2 (c : Dev nD) (t : Fin cfg0.N) (r : Fin 8) (j : Fin 768) (n : Fin 8192) (k : Fin 3584)
    (hn : n.val = (min ((t.val + 1) * 128) 1023) * 8 + r.val) (hk : k.val = j.val) : X0_2 m c t (ix2 r j) = argP m c (ix2 n k) := by
  unfold X0_2 Pipeline.Window.fill
  rw [dif_pos (moved0_2 t _)]
  blk_ext [iblk, V, idx t]
theorem blk3 (c : Dev nD) (t : Fin cfg0.N) (r : Fin 1024) (j : Fin 768) (n : Fin 8192)
    (hn : n.val = t.val * 1024 + r.val) : iblk m c 3 t (ix2 r j) = argD m c (ix2 n j) := by
  blk_ext [iblk, V, idx t]
theorem blk4 (c : Dev nD) (t : Fin cfg0.N) (r : Fin 8) (j : Fin 768) (n : Fin 8192)
    (hn : n.val = (min ((t.val + 1) * 128) 1023) * 8 + r.val) : iblk m c 4 t (ix2 r j) = argD m c (ix2 n j) := by
  blk_ext [iblk, V, idx t]

/-- The operand between its halos is the padded operand, from the sixth row on. -/
theorem xAll_apply (c : Dev nD) (t : Fin cfg0.N) (q : Fin 1040) (j : Fin 768) (hq : 5 ≤ q.val) :
    xAll m c t (ix2 q j) = xs (argP m c) (t.val * 1024 + q.val - 5) j := by
  have ht := lt8 t
  pointwise [xAll, k0_pay4, xs, isFirst t, isLast t]
  by_cases h8 : q.val < 8
  · simp only [dif_pos h8, dif_pos (show q.val < 1032 by omega)]
    by_cases h0 : t.val = 0
    · rw [dif_neg (by omega)]
      simp [h0, Scalar.select]
    · rw [dif_pos (by omega)]
      have e {α : Type} (a b : α) : Scalar.select (if t.val = 0 then 1#1 else 0#1) a b = b := by rw [if_neg h0]; rfl
      simp only [e]
      exact blk1 m c t _ j _ _ (by dsimp only; omega) rfl
  · simp only [dif_neg h8]
    by_cases h9 : q.val < 1032
    · simp only [dif_pos h9]
      rw [dif_pos (by omega)]
      exact blk0 m c t _ j _ _ (by dsimp only; omega) rfl
    · simp only [dif_neg h9]
      by_cases h7 : t.val = 7
      · rw [dif_neg (by omega)]
        simp [h7, Scalar.select]
      · rw [dif_pos (by omega)]
        have e {α : Type} (a b : α) : Scalar.select (if t.val = 7 then 1#1 else 0#1) a b = b := by rw [if_neg h7]; rfl
        simp only [e]
        exact blk2 m c t _ j _ _ (by dsimp only; omega) rfl

/-- A tap of the point's weights. -/
theorem tapBlk_apply (c : Dev nD) (t : Fin cfg0.N) (k : Fin 4) (j : Fin 768) :
    k0_pay3 (iblk m c 5 t) (ix2 k j) = tap (first (argW m c)) k j := by
  pointwise [k0_pay3, tap_first]
  blk_ext [iblk, V, idx t]

/-- The convolution at a point's rows and behind them. -/
theorem cExt_apply (c : Dev nD) (t : Fin cfg0.N) (q : Fin 1032) (j : Fin 768) :
    cExt m c t (ix2 q j) = conv (argP m c) (first (argW m c)) (t.val * 1024 + q.val) j := by
  have ht := lt8 t
  have hr := q.isLt
  have hs (x : Fin 1040) (e : ℕ) (hx : 5 ≤ x.val) (h : t.val * 1024 + x.val - 5 = e) :
      k0_pay4 (grid0.coords t) (X0_1 m c t) (X0_0 m c t) (X0_2 m c t) (ix2 x j) = xs (argP m c) e j :=
    h ▸ xAll_apply m c t x j hx
  pointwise [cExt, k0_pay5, tapBlk_apply]
  generalize k0_pay4 (grid0.coords t) (X0_1 m c t) (X0_0 m c t) (X0_2 m c t) = S at hs ⊢
  unfold conv
  rw [hs _ (t.val * 1024 + q.val) (by dsimp only; omega) (by dsimp only; omega),
    hs _ (t.val * 1024 + q.val + 1) (by dsimp only; omega) (by dsimp only; omega),
    hs _ (t.val * 1024 + q.val + 2) (by dsimp only; omega) (by dsimp only; omega),
    hs _ (t.val * 1024 + q.val + 3) (by dsimp only; omega) (by dsimp only; omega)]

/-- The gradient of the convolution at a point's rows and behind them. -/
theorem gExt_apply (c : Dev nD) (t : Fin cfg0.N) (q : Fin 1032) (j : Fin 768) :
    gExt m c t (ix2 q j) = dc (argP m c) (argD m c) (first (argW m c)) (t.val * 1024 + q.val) j := by
  have ht := lt8 t
  have hc := cExt_apply m c t q j
  unfold gExt
  generalize cExt m c t = C at hc ⊢
  pointwise [k0_pay7, k0_pay6, hc, isLast t]
  unfold dc gate sig
  by_cases h8 : q.val < 1024
  · simp only [dif_pos h8]
    rw [dif_pos (by omega)]
    exact congrArg₂ (· * ·) (blk3 m c t _ j _ (by dsimp only)) rfl
  · simp only [dif_neg h8]
    by_cases h7 : t.val = 7
    · rw [dif_neg (by omega)]
      simp [h7, Scalar.select]
    · rw [dif_pos (by omega)]
      have e {α : Type} (a b : α) : Scalar.select (if t.val = 7 then 1#1 else 0#1) a b = b := by rw [if_neg h7]; rfl
      simp only [e]
      exact congrArg₂ (· * ·) (blk4 m c t _ j _ (by dsimp only; omega)) rfl

/-- What a point writes of the first result. -/
theorem dsBlk_apply (c : Dev nD) (t : Fin cfg0.N) (r : Fin 1024) (j : Fin 768) (n : ℕ) (hn : n = t.val * 1024 + r.val) :
    dsBlk m c t (ix2 r j) = ds (argP m c) (argD m c) (first (argW m c)) n j := by
  have ht := lt8 t
  have hr := r.isLt
  have hg (q : Fin 1032) (e : ℕ) (h : t.val * 1024 + q.val = e) :
      k0_pay7 (BitVec.ofNat 32 (grid0.coords t 0).val) (cExt m c t) k0_pay6 (iblk m c 4 t) (iblk m c 3 t) (ix2 q j)
        = dc (argP m c) (argD m c) (first (argW m c)) e j :=
    h ▸ gExt_apply m c t q j
  unfold dsBlk
  pointwise [k0_pay8, tapBlk_apply]
  generalize k0_pay7 (BitVec.ofNat 32 (grid0.coords t 0).val) (cExt m c t) k0_pay6 (iblk m c 4 t) (iblk m c 3 t) = G at hg ⊢
  unfold ds
  rw [hg _ (n + 3) (by dsimp only; omega), hg _ (n + 2) (by dsimp only; omega), hg _ (n + 1) (by dsimp only; omega),
    hg _ n (by dsimp only; omega)]

/-- What a point adds to the tap gradient. -/
theorem dwStep_apply (c : Dev nD) (t : Fin cfg0.N) (acc : FVec Ideal S4x768 .f32) (k : Fin 4) (j : Fin 768) :
    dwStep m c t acc (ix2 k j) = acc (ix2 k j) + ∑ r : Fin 1024,
      xs (argP m c) (t.val * 1024 + r.val + k.val) j * dc (argP m c) (argD m c) (first (argW m c)) (t.val * 1024 + r.val) j := by
  have ht := lt8 t
  have hx := xAll_apply m c t
  have hg := gExt_apply m c t
  unfold dwStep
  generalize xAll m c t = X at hx ⊢
  generalize gExt m c t = G at hg ⊢
  have key (i : Fin 1024 → Fin 1040) (g : Fin 1024 → Fin 1032) (hi : ∀ r, (i r).val = 5 + r.val + k.val) (he : ∀ r, (g r).val = r.val) :
      (∑ r, X (ix2 (i r) j) * G (ix2 (g r) j)) = ∑ r : Fin 1024,
        xs (argP m c) (t.val * 1024 + r.val + k.val) j * dc (argP m c) (argD m c) (first (argW m c)) (t.val * 1024 + r.val) j := by
    refine Finset.sum_congr rfl fun r _ => ?_
    rw [hx _ j (by rw [hi]; omega), hg, hi, he, show t.val * 1024 + (5 + r.val + k.val) - 5 = t.val * 1024 + r.val + k.val by omega]
  pointwise [k0_pay1]
  refine congrArg (acc (ix2 k j) + ·) ?_
  have hk := k.isLt
  by_cases h0 : k.val < 1
  · rw [dif_pos h0]
    exact key _ _ (fun r => by have := r.isLt; dsimp only; omega) (fun r => rfl)
  rw [dif_neg h0]
  by_cases h1 : k.val - 1 < 1
  · rw [dif_pos h1]
    exact key _ _ (fun r => by have := r.isLt; dsimp only; omega) (fun r => rfl)
  rw [dif_neg h1]
  by_cases h2 : k.val - 1 - 1 < 1
  · rw [dif_pos h2]
    exact key _ _ (fun r => by have := r.isLt; dsimp only; omega) (fun r => rfl)
  rw [dif_neg h2]
  exact key _ _ (fun r => by have := r.isLt; dsimp only; omega) (fun r => rfl)

/-- The first result array. -/
theorem final_ds (c : Dev nD) :
    (dats m 0 c).arrAt 6 cfg0.N = fun i : S8192x768.Idx => ds (argP m c) (argD m c) (first (argW m c)) (i 0).val (i 1) := by
  refine (dats m 0 c).arrAt_eq_of_covers 6 _ (by decide +kernel) fun t hf y => ?_
  blk_simp
  rw [after0_6]
  have e : (outsAt0 m c t.val t.isLt).1 = dsBlk m c t := by
    by_cases h0 : t.val % 8 = 0
    · exact outs_ds_A m c t h0
    · exact outs_ds_B m c t h0
  rw [e]
  obtain ⟨r, k, rfl⟩ : ∃ (r : Fin 1024) (k : Fin 768), y = ix2 r k := ⟨y 0, y 1, eq_ix2 y⟩
  rw [dsBlk_apply m c t r k (t.val * 1024 + r.val) rfl]
  refine congrArg₂ (ds (argP m c) (argD m c) (first (argW m c))) ?_ (Fin.ext ?_)
  · blk_simp [idx t]
  · blk_simp [idx t]

/-- The second result array. -/
theorem final_dw (c : Dev nD) :
    (dats m 0 c).arrAt 7 cfg0.N = fun i : S4x768.Idx => dw (argP m c) (argD m c) (first (argW m c)) (i 0) (i 1) := by
  refine (dats m 0 c).arrAt_eq_of_after_last 7 t0_7 (by decide +kernel) _ fun y => ?_
  blk_simp
  rw [after0_7]
  obtain ⟨k, j, rfl⟩ : ∃ (k : Fin 4) (j : Fin 768), y = ix2 k j := ⟨y 0, y 1, eq_ix2 y⟩
  rw [Pipeline.eq_sum_fin_of_reset_step_apply_last (fun n h => (outsAt0 m c n h).2) 8 (fun _ => (0 : EReal))
    (fun t y => ∑ r : Fin 1024, xs (argP m c) (t.val * 1024 + r.val + (y 0).val) (y 1)
      * dc (argP m c) (argD m c) (first (argW m c)) (t.val * 1024 + r.val) (y 1))
    (fun t h y => by
      idx_vars y
      rw [outs_dw_A m c t h]
      refine (dwStep_apply ..).trans ?_
      exact congrArg (· + _) (by pointwise [k0_pay2]))
    (fun t h y => by
      idx_vars y
      rw [outs_dw_B m c t h (Nat.lt_of_le_of_lt (Nat.sub_le _ _) t.isLt)]
      exact dwStep_apply ..)
    (le_of_eq N_0) t0_7 rfl (ix2 k j), zero_add]
  unfold dw
  exact Fin.sum_mul_add_congr fun t r hl => rfl

end Cert.QkvBwd0Ideal.Qkv

end
-- ==== Proof.SconvFwd0Spec.lean ====
/-
  The first layer's gated short convolution, forward: the reference read down to the specification.
-/
module

public import proofs.«01_k».proof.Proof.Gen.SconvFwd0RefIdeal.Read
public import proofs.«01_k».proof.Proof.SconvFwdSpec
public import proofs.«01_k».proof.Proof.SconvBwd0Spec

@[expose] public section

set_option maxRecDepth 16384

noncomputable section

namespace Cert.SconvFwd0RefIdeal.Conv

open Cert.SconvFwd0RefIdeal Cert.SconvFwd0RefIdeal.Read Idealize.ShloMosaic Cert.Conv

/-- The reference's padded operand. -/
theorem xp_apply (p : XP) (n : Fin 8194) (j : Fin 256) : val_main_v7 (F := Ideal) p (ix2 n j) = xs p n.val j := by
  pointwise [val_main_v7, val_main_v6, val_main_v5, val_main_v2, val_main_v1, val_main_cst, xs]
  by_cases h : n.val < 2
  · rw [dif_pos h, dif_neg (by omega)]
  · rw [dif_neg h, dif_pos (by omega)]

/-- A tap of the reference's weights. -/
theorem tap_apply (w : XW) (k : Fin 3) (j : Fin 256) : val_main_v4 (F := Ideal) w (ix2 k j) = tap (first w) k j := by
  pointwise [val_main_v4, val_main_v3, tap_first]

/-- The reference's result, element by element. -/
theorem y_apply (p : XP) (w : XW) (n : Fin 8192) (j : Fin 256) : val_main_v25 (F := Ideal) p w (ix2 n j) = y p (first w) n j := by
  pointwise [val_main_v25, val_main_v24, val_main_v23, val_main_v22, val_main_v21, val_main_v20, val_main_v19, val_main_v18, val_main_v17,
    val_main_v16, val_main_v15, val_main_v14, val_main_v13, val_main_v12, val_main_cst_0, val_main_v11, val_main_v10, val_main_v9, val_main_v8,
    val_main_v0, xp_apply, tap_apply, y, conv]
  simp only [Nat.add_comm 1 n.val, Nat.add_comm 2 n.val]

end Cert.SconvFwd0RefIdeal.Conv

end
-- ==== Proof.SconvFwd0Kernel.lean ====
/-
  The first layer: the gated short convolution, forward: the kernel's result array, element by element.
-/
module

public import proofs.«01_k».proof.Proof.Gen.SconvFwd0Ideal.Value
public import proofs.«01_k».proof.Proof.SconvFwd0Spec
public import Idealize.ShloMosaic.Lib.Pipeline.ValueKit
public import Idealize.ShloMosaic.Lib.Tactic

@[expose] public section

set_option maxRecDepth 16384

noncomputable section

namespace Cert.SconvFwd0Ideal.Conv

open Cert.SconvFwd0Ideal Cert.SconvFwd0Ideal.Gen Idealize.ShloMosaic Idealize.ShloMosaic.TcCoe Idealize.SL.Sem Cert.Conv
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The arguments as the specification takes them. -/
abbrev argP (c : Dev nD) : XP := m ((c : Thread nD τ).loc main_arg0)
abbrev argW (c : Dev nD) : XW := m ((c : Thread nD τ).loc main_arg1)

/-- Which block each window is at. -/
theorem idx : ∀ t : Fin cfg0.N, win0_0.index t = ![t.val, 8] ∧ win0_1.index t = ![t.val, 9] ∧ win0_2.index t = ![t.val, 10]
    ∧ win0_3.index t = ![t.val * 256 - 1, 9] ∧ win0_4.index t = ![t.val * 256 - 1, 10] ∧ win0_5.index t = ![0, 0, 0]
    ∧ win0_6.index t = ![t.val, 0] :=
  (by decide +kernel : ∀ t : Fin grid0.N, win0_0.index t = ![t.val, 8] ∧ win0_1.index t = ![t.val, 9] ∧ win0_2.index t = ![t.val, 10]
    ∧ win0_3.index t = ![t.val * 256 - 1, 9] ∧ win0_4.index t = ![t.val * 256 - 1, 10] ∧ win0_5.index t = ![0, 0, 0]
    ∧ win0_6.index t = ![t.val, 0])

/-- Whether a point is the first. -/
theorem isFirst : ∀ t : Fin cfg0.N, Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1)

theorem lt4 (t : Fin cfg0.N) : t.val < 4 := lt_of_lt_of_eq t.isLt N_0

/-- A point's rows of gate B, gate C and h, and the two halos, read off the projection. -/
theorem blk0 (c : Dev nD) (t : Fin cfg0.N) (r : Fin 2048) (j : Fin 256) (n : Fin 8192) (k : Fin 3584)
    (hn : n.val = t.val * 2048 + r.val) (hk : k.val = 2048 + j.val) : iblk m c 0 t (ix2 r j) = argP m c (ix2 n k) := by
  blk_ext [iblk, V, idx t]
theorem blk1 (c : Dev nD) (t : Fin cfg0.N) (r : Fin 2048) (j : Fin 256) (n : Fin 8192) (k : Fin 3584)
    (hn : n.val = t.val * 2048 + r.val) (hk : k.val = 2304 + j.val) : iblk m c 1 t (ix2 r j) = argP m c (ix2 n k) := by
  blk_ext [iblk, V, idx t]
theorem blk2 (c : Dev nD) (t : Fin cfg0.N) (r : Fin 2048) (j : Fin 256) (n : Fin 8192) (k : Fin 3584)
    (hn : n.val = t.val * 2048 + r.val) (hk : k.val = 2560 + j.val) : iblk m c 2 t (ix2 r j) = argP m c (ix2 n k) := by
  blk_ext [iblk, V, idx t]
theorem blk3 (c : Dev nD) (t : Fin cfg0.N) (r : Fin 8) (j : Fin 256) (n : Fin 8192) (k : Fin 3584)
    (hn : n.val = (t.val * 256 - 1) * 8 + r.val) (hk : k.val = 2304 + j.val) : iblk m c 3 t (ix2 r j) = argP m c (ix2 n k) := by
  blk_ext [iblk, V, idx t]
theorem blk4 (c : Dev nD) (t : Fin cfg0.N) (r : Fin 8) (j : Fin 256) (n : Fin 8192) (k : Fin 3584)
    (hn : n.val = (t.val * 256 - 1) * 8 + r.val) (hk : k.val = 2560 + j.val) : iblk m c 4 t (ix2 r j) = argP m c (ix2 n k) := by
  blk_ext [iblk, V, idx t]
/-- A tap of the point's weights. -/
theorem blk5 (c : Dev nD) (t : Fin cfg0.N) (k : Fin 3) (j : Fin 256) : iblk m c 5 t (ix3 0 k j) = tap (first (argW m c)) k j := by
  rw [tap_first]
  blk_ext [iblk, V, idx t]

/-- The convolved gate behind its halo of eight rows, as the kernel computes it at point `t`. -/
def sExt (c : Dev nD) (t : Fin cfg0.N) : FVec Ideal S2056x256 .f32 :=
  mulf (concatenate S2056x256 0 [⟨S8x256, Scalar.select (Scalar.cmpi .eq (BitVec.ofNat 32 (grid0.coords t 0).val) 0#32)
      (broadcast S8x256 (Scalar.ofBits (F := Ideal) .f32 0x00000000#32)) (iblk m c 3 t)⟩, ⟨S2048x256, iblk m c 1 t⟩] concatenates_S8x256_S2048x256_S2056x256_d0)
    (concatenate S2056x256 0 [⟨S8x256, Scalar.select (Scalar.cmpi .eq (BitVec.ofNat 32 (grid0.coords t 0).val) 0#32)
      (broadcast S8x256 (Scalar.ofBits (F := Ideal) .f32 0x00000000#32)) (iblk m c 4 t)⟩, ⟨S2048x256, iblk m c 2 t⟩] concatenates_S8x256_S2048x256_S2056x256_d0)

/-- It is the padded operand, from the sixth row on. -/
theorem sExt_apply (c : Dev nD) (t : Fin cfg0.N) (q : Fin 2056) (j : Fin 256) (hq : 6 ≤ q.val) :
    sExt m c t (ix2 q j) = xs (argP m c) (t.val * 2048 + q.val - 6) j := by
  have ht := lt4 t
  have hq' := q.isLt
  pointwise [sExt, xs, isFirst t]
  by_cases h8 : q.val < 8
  · simp only [dif_pos h8]
    by_cases h0 : t.val = 0
    · rw [dif_neg (by omega)]
      simp [h0, Scalar.select]
    · rw [dif_pos (by omega)]
      have e {α : Type} (a b : α) : Scalar.select (if t.val = 0 then 1#1 else 0#1) a b = b := by rw [if_neg h0]; rfl
      simp only [e]
      exact congrArg₂ (· * ·) (blk3 m c t _ j _ _ (by dsimp only; omega) rfl) (blk4 m c t _ j _ _ (by dsimp only; omega) rfl)
  · simp only [dif_neg h8]
    rw [dif_pos (by omega)]
    exact congrArg₂ (· * ·) (blk1 m c t _ j _ _ (by dsimp only; omega) rfl) (blk2 m c t _ j _ _ (by dsimp only; omega) rfl)

/-- What a point computes from the convolved gate, gate B and the taps. -/
def gated (S : FVec Ideal S2056x256 .f32) (b : FVec Ideal S2048x256 .f32) (x : FVec Ideal S1x3x256 .f32) : FVec Ideal S2048x256 .bf16 :=
  have w : FVec Ideal S3x256 .f32 := shapeCast S3x256 x shapeCasts_S1x3x256_S3x256
  have a0 := mulf (extractStridedSlice S2048x256 ![8, 0] (dynamicRotate 0 2#32 none S rotates_S2056x256_d0) slices_S2056x256_o8_0_S2048x256)
    (broadcastTo S2048x256 (extractStridedSlice S1x256 ![0, 0] w slices_S3x256_o0_0_S1x256) broadcasts_S1x256_S2048x256)
  have a1 := mulf (extractStridedSlice S2048x256 ![8, 0] (dynamicRotate 0 1#32 none S rotates_S2056x256_d0) slices_S2056x256_o8_0_S2048x256)
    (broadcastTo S2048x256 (extractStridedSlice S1x256 ![1, 0] w slices_S3x256_o1_0_S1x256) broadcasts_S1x256_S2048x256)
  have a2 := mulf (extractStridedSlice S2048x256 ![8, 0] S slices_S2056x256_o8_0_S2048x256)
    (broadcastTo S2048x256 (extractStridedSlice S1x256 ![2, 0] w slices_S3x256_o2_0_S1x256) broadcasts_S1x256_S2048x256)
  truncf .bf16 (mulf b (addf (addf a0 a1) a2)) bitsLt_bf16_f32

/-- The point's block, from its input blocks. -/
theorem out_eq (c : Dev nD) (t : Fin cfg0.N) :
    out0_6 (grid0.coords t) (iblk m c 0 t) (iblk m c 1 t) (iblk m c 2 t) (iblk m c 3 t) (iblk m c 4 t) (iblk m c 5 t)
      = gated (sExt m c t) (iblk m c 0 t) (iblk m c 5 t) := by
  unfold out0_6
  rw [View.canon_unit_zero hz2]
  simp only [View.ld_unit_zero (S := S2048x256) hz2, View.ld_unit_zero (S := S8x256) hz2, View.ld_unit_zero (S := S1x3x256) hz3]
  rfl

/-- What a point writes. -/
theorem gated_apply (c : Dev nD) (t : Fin cfg0.N) (r : Fin 2048) (j : Fin 256) (n : Fin 8192) (hn : n.val = t.val * 2048 + r.val) :
    gated (sExt m c t) (iblk m c 0 t) (iblk m c 5 t) (ix2 r j) = y (argP m c) (first (argW m c)) n j := by
  have ht := lt4 t
  have hr := r.isLt
  have hs (q : Fin 2056) (e : ℕ) (hq : 6 ≤ q.val) (h : t.val * 2048 + q.val - 6 = e) : sExt m c t (ix2 q j) = xs (argP m c) e j :=
    h ▸ sExt_apply m c t q j hq
  have hb := blk0 m c t r j n ⟨2048 + j.val, by omega⟩ hn rfl
  have hw (k : Fin 3) := blk5 m c t k j
  generalize sExt m c t = S at hs ⊢
  generalize iblk m c 0 t = B at hb ⊢
  generalize iblk m c 5 t = W at hw ⊢
  pointwise [gated, hw]
  unfold y conv
  rw [hb, hs _ n.val (by dsimp only; omega) (by dsimp only; omega),
    hs _ (n.val + 1) (by dsimp only; omega) (by dsimp only; omega), hs _ (n.val + 2) (by dsimp only; omega) (by dsimp only; omega)]

/-- The result array. -/
theorem final_y (c : Dev nD) :
    (dats m 0 c).arrAt 6 cfg0.N = fun i : S8192x256.Idx => y (argP m c) (first (argW m c)) (i 0) (i 1) := by
  refine (dats m 0 c).arrAt_eq_of_covers 6 _ (by decide +kernel) fun t hf y' => ?_
  blk_simp
  rw [after0_6, out_eq]
  obtain ⟨r, k, rfl⟩ : ∃ (r : Fin 2048) (k : Fin 256), y' = ix2 r k := ⟨y' 0, y' 1, eq_ix2 y'⟩
  have ht := lt4 t
  rw [gated_apply m c t r k ⟨t.val * 2048 + r.val, by omega⟩ rfl]
  refine congrArg₂ (y (argP m c) (first (argW m c))) (Fin.ext ?_) (Fin.ext ?_)
  · blk_simp [idx t]
  · blk_simp [idx t]

end Cert.SconvFwd0Ideal.Conv

end
-- ==== Proof.QkvFwd0Spec.lean ====
/-
  The first layer's convolved queries, keys and values, forward: the reference read down to the specification.
-/
module

public import proofs.«01_k».proof.Proof.Gen.QkvFwd0RefIdeal.Read
public import proofs.«01_k».proof.Proof.QkvFwdSpec
public import proofs.«01_k».proof.Proof.QkvBwd0Spec

@[expose] public section

set_option maxRecDepth 16384

noncomputable section

namespace Cert.QkvFwd0RefIdeal.Qkv

open Cert.QkvFwd0RefIdeal Cert.QkvFwd0RefIdeal.Read Idealize.ShloMosaic Cert.Qkv Cert.Step

/-- The reference's padded operand. -/
theorem xp_apply (p : XP) (n : Fin 8195) (j : Fin 768) : val_main_v4 (F := Ideal) p (ix2 n j) = xs p n.val j := by
  pointwise [val_main_v4, val_main_v3, val_main_cst, val_main_v0, xs]
  by_cases h : n.val < 3
  · rw [dif_pos h, dif_neg (by omega)]
  · rw [dif_neg h, dif_pos (by omega)]

/-- A tap of the reference's weights. -/
theorem tap_apply (w : XW) (k : Fin 4) (j : Fin 768) : val_main_v2 (F := Ideal) w (ix2 k j) = tap (first w) k j := by
  pointwise [val_main_v2, val_main_v1, tap_first]

/-- The reference's convolution. -/
theorem conv_apply (p : XP) (w : XW) (n : Fin 8192) (j : Fin 768) : val_main_v25 (F := Ideal) p w (ix2 n j) = conv p (first w) n.val j := by
  pointwise [val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8,
    val_main_v7, val_main_v6, val_main_v5, val_main_cst_0, xp_apply, tap_apply, conv]
  simp only [Nat.add_comm 1 n.val, Nat.add_comm 2 n.val, Nat.add_comm 3 n.val]

/-- The reference's result, element by element. -/
theorem y_apply (p : XP) (w : XW) (n : Fin 8192) (j : Fin 768) : val_main_v26 (F := Ideal) p w (ix2 n j) = y p (first w) n j := by
  have h25 := conv_apply p w
  pointwise [val_main_v26, val_main_call0_v5, val_main_call0_v4, val_main_call0_v3, val_main_call0_v2, val_main_call0_v1, val_main_call0_v0,
    val_main_call0_cst, val_main_call0_cst_0, h25]
  unfold y
  rw [sig_eq]
  rfl

end Cert.QkvFwd0RefIdeal.Qkv

end
-- ==== Proof.QkvFwd0Kernel.lean ====
/-
  The first layer: the convolved queries, keys and values: the kernel's result array, element by element.
-/
module

public import proofs.«01_k».proof.Proof.Gen.QkvFwd0Ideal.Value
public import proofs.«01_k».proof.Proof.QkvFwd0Spec
public import Idealize.ShloMosaic.Lib.Pipeline.ValueKit
public import Idealize.ShloMosaic.Lib.Tactic

@[expose] public section

set_option maxRecDepth 16384

noncomputable section

namespace Cert.QkvFwd0Ideal.Qkv

open Cert.QkvFwd0Ideal Cert.QkvFwd0Ideal.Gen Idealize.ShloMosaic Idealize.ShloMosaic.TcCoe Idealize.SL.Sem Cert.Qkv Cert.Step
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The arguments as the specification takes them. -/
abbrev argP (c : Dev nD) : XP := m ((c : Thread nD τ).loc main_arg0)
abbrev argW (c : Dev nD) : XW := m ((c : Thread nD τ).loc main_arg1)

/-- Which block each window is at. -/
theorem idx : ∀ t : Fin cfg0.N, win0_0.index t = ![t.val, 0] ∧ win0_1.index t = ![t.val * 256 - 1, 0] ∧ win0_2.index t = ![0, 0, 0]
    ∧ win0_3.index t = ![t.val, 0] :=
  (by decide +kernel : ∀ t : Fin grid0.N, win0_0.index t = ![t.val, 0] ∧ win0_1.index t = ![t.val * 256 - 1, 0]
    ∧ win0_2.index t = ![0, 0, 0] ∧ win0_3.index t = ![t.val, 0])

/-- Whether a point is the first. -/
theorem isFirst : ∀ t : Fin cfg0.N, Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1)

theorem lt4 (t : Fin cfg0.N) : t.val < 4 := lt_of_lt_of_eq t.isLt N_0

/-- A point's rows of the operand and their halo, read off the projection. -/
theorem blk0 (c : Dev nD) (t : Fin cfg0.N) (r : Fin 2048) (j : Fin 768) (n : Fin 8192) (k : Fin 3584)
    (hn : n.val = t.val * 2048 + r.val) (hk : k.val = j.val) : X0_0 m c t (ix2 r j) = argP m c (ix2 n k) := by
  unfold X0_0 Pipeline.Window.fill
  rw [dif_pos (moved0_0 t _)]
  blk_ext [iblk, V, idx t]
theorem blk1 (c : Dev nD) (t : Fin cfg0.N) (r : Fin 8) (j : Fin 768) (n : Fin 8192) (k : Fin 3584)
    (hn : n.val = (t.val * 256 - 1) * 8 + r.val) (hk : k.val = j.val) : X0_1 m c t (ix2 r j) = argP m c (ix2 n k) := by
  unfold X0_1 Pipeline.Window.fill
  rw [dif_pos (moved0_1 t _)]
  blk_ext [iblk, V, idx t]
/-- A tap of the point's weights. -/
theorem blk2 (c : Dev nD) (t : Fin cfg0.N) (k : Fin 4) (j : Fin 768) : iblk m c 2 t (ix3 0 k j) = tap (first (argW m c)) k j := by
  rw [tap_first]
  blk_ext [iblk, V, idx t]

/-- The operand behind its halo of eight rows, as the kernel assembles it at point `t`. -/
def xExt (c : Dev nD) (t : Fin cfg0.N) : FVec Ideal S2056x768 .f32 :=
  concatenate S2056x768 0 [⟨S8x768, Scalar.select (Scalar.cmpi .eq (BitVec.ofNat 32 (grid0.coords t 0).val) 0#32)
      (broadcast S8x768 (Scalar.ofBits (F := Ideal) .f32 0x00000000#32)) (X0_1 m c t)⟩, ⟨S2048x768, X0_0 m c t⟩] concatenates_S8x768_S2048x768_S2056x768_d0

/-- It is the padded operand, from the fifth row on. -/
theorem xExt_apply (c : Dev nD) (t : Fin cfg0.N) (q : Fin 2056) (j : Fin 768) (hq : 5 ≤ q.val) :
    xExt m c t (ix2 q j) = xs (argP m c) (t.val * 2048 + q.val - 5) j := by
  have ht := lt4 t
  have hq' := q.isLt
  pointwise [xExt, xs, isFirst t]
  by_cases h8 : q.val < 8
  · simp only [dif_pos h8]
    by_cases h0 : t.val = 0
    · rw [dif_neg (by omega)]
      simp [h0, Scalar.select]
    · rw [dif_pos (by omega)]
      have e {α : Type} (a b : α) : Scalar.select (if t.val = 0 then 1#1 else 0#1) a b = b := by rw [if_neg h0]; rfl
      simp only [e]
      exact blk1 m c t _ j _ _ (by dsimp only; omega) rfl
  · simp only [dif_neg h8]
    rw [dif_pos (by omega)]
    exact blk0 m c t _ j _ _ (by dsimp only; omega) rfl

/-- The convolution of a point's rows. -/
def convBlk (S : FVec Ideal S2056x768 .f32) (x : FVec Ideal S1x4x768 .f32) : FVec Ideal S2048x768 .f32 :=
  have w : FVec Ideal S4x768 .f32 := shapeCast S4x768 x shapeCasts_S1x4x768_S4x768
  have a0 := mulf (extractStridedSlice S2048x768 ![8, 0] (dynamicRotate 0 3#32 none S rotates_S2056x768_d0) slices_S2056x768_o8_0_S2048x768)
    (broadcastTo S2048x768 (extractStridedSlice S1x768 ![0, 0] w slices_S4x768_o0_0_S1x768) broadcasts_S1x768_S2048x768)
  have a1 := mulf (extractStridedSlice S2048x768 ![8, 0] (dynamicRotate 0 2#32 none S rotates_S2056x768_d0) slices_S2056x768_o8_0_S2048x768)
    (broadcastTo S2048x768 (extractStridedSlice S1x768 ![1, 0] w slices_S4x768_o1_0_S1x768) broadcasts_S1x768_S2048x768)
  have a2 := mulf (extractStridedSlice S2048x768 ![8, 0] (dynamicRotate 0 1#32 none S rotates_S2056x768_d0) slices_S2056x768_o8_0_S2048x768)
    (broadcastTo S2048x768 (extractStridedSlice S1x768 ![2, 0] w slices_S4x768_o2_0_S1x768) broadcasts_S1x768_S2048x768)
  have a3 := mulf (extractStridedSlice S2048x768 ![8, 0] S slices_S2056x768_o8_0_S2048x768)
    (broadcastTo S2048x768 (extractStridedSlice S1x768 ![3, 0] w slices_S4x768_o3_0_S1x768) broadcasts_S1x768_S2048x768)
  addf (addf (addf a0 a1) a2) a3

/-- The convolution times its logistic, the logistic as half a hyperbolic tangent plus a half. -/
def siluBlk (C : FVec Ideal S2048x768 .f32) : FVec Ideal S2048x768 .f32 :=
  have h : FVec Ideal S2048x768 .f32 := broadcast S2048x768 (Scalar.ofBits (F := Ideal) .f32 0x3F000000#32)
  mulf C (addf (mulf h (tanh (mulf h C))) h)

/-- The point's block, from its input blocks. -/
theorem out_eq (c : Dev nD) (t : Fin cfg0.N) : outsAt0 m c t = siluBlk (convBlk (xExt m c t) (iblk m c 2 t)) := by
  unfold outsAt0 out0_A_3
  refine (View.read_writes_eq_canon _ _ _ fun y => ?_).trans ?_
  · exact cover0_A_3 ..
  unfold kernelRun0_A
  dsimp only
  sl_unfold_words
  rw [View.canon_unit_zero hz2]
  simp only [View.readAt_eq_ld, Memref.IsWhole.read_unread, View.ld_unit_zero (S := S2048x768) hz2,
    View.ld_unit_zero (S := S8x768) hz2, View.ld_unit_zero (S := S1x4x768) hz3]
  rfl

/-- The convolution at a point's rows. -/
theorem convBlk_apply (c : Dev nD) (t : Fin cfg0.N) (r : Fin 2048) (j : Fin 768) (n : ℕ) (hn : n = t.val * 2048 + r.val) :
    convBlk (xExt m c t) (iblk m c 2 t) (ix2 r j) = conv (argP m c) (first (argW m c)) n j := by
  have ht := lt4 t
  have hr := r.isLt
  have hs (q : Fin 2056) (e : ℕ) (hq : 5 ≤ q.val) (h : t.val * 2048 + q.val - 5 = e) : xExt m c t (ix2 q j) = xs (argP m c) e j :=
    h ▸ xExt_apply m c t q j hq
  have hw (k : Fin 4) := blk2 m c t k j
  generalize xExt m c t = S at hs ⊢
  generalize iblk m c 2 t = W at hw ⊢
  pointwise [convBlk, hw]
  unfold conv
  rw [hs _ n (by dsimp only; omega) (by dsimp only; omega), hs _ (n + 1) (by dsimp only; omega) (by dsimp only; omega),
    hs _ (n + 2) (by dsimp only; omega) (by dsimp only; omega), hs _ (n + 3) (by dsimp only; omega) (by dsimp only; omega)]

/-- The result array. -/
theorem final_y (c : Dev nD) :
    (dats m 0 c).arrAt 3 cfg0.N = fun i : S8192x768.Idx => y (argP m c) (first (argW m c)) (i 0) (i 1) := by
  refine (dats m 0 c).arrAt_eq_of_covers 3 _ (by decide +kernel) fun t hf y' => ?_
  blk_simp
  rw [after0_3, out_eq]
  obtain ⟨r, k, rfl⟩ : ∃ (r : Fin 2048) (k : Fin 768), y' = ix2 r k := ⟨y' 0, y' 1, eq_ix2 y'⟩
  have ht := lt4 t
  have hc := convBlk_apply m c t r k (t.val * 2048 + r.val) rfl
  have e : siluBlk (convBlk (xExt m c t) (iblk m c 2 t)) (ix2 r k) = y (argP m c) (first (argW m c)) ⟨t.val * 2048 + r.val, by omega⟩ k := by
    generalize convBlk (xExt m c t) (iblk m c 2 t) = C at hc ⊢
    pointwise [siluBlk, hc]
    rfl
  rw [e]
  refine congrArg₂ (y (argP m c) (first (argW m c))) (Fin.ext ?_) (Fin.ext ?_)
  · blk_simp [idx t]
  · blk_simp [idx t]

end Cert.QkvFwd0Ideal.Qkv

end
-- ==== Proof.lean ====
/-
  The claims: every frame, every idealization, and every kernel's results equal to its reference's over the extended reals.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.MlpBwd.Frame
public import proofs.«01_k».proof.Proof.Gen.MlpBwdIdeal.Value
public import proofs.«01_k».proof.Proof.Gen.MlpBwdRefIdeal.Run
public import proofs.«01_k».proof.Proof.Gen.MlpBwd0.Frame
public import proofs.«01_k».proof.Proof.Gen.MlpBwd0Ideal.Value
public import proofs.«01_k».proof.Proof.Gen.MlpBwd0RefIdeal.Run
public import proofs.«01_k».proof.Proof.Gen.OutMlp.Frame
public import proofs.«01_k».proof.Proof.Gen.OutMlpIdeal.Value
public import proofs.«01_k».proof.Proof.Gen.OutMlpRefIdeal.Run
public import proofs.«01_k».proof.Proof.Gen.Head.Frame
public import proofs.«01_k».proof.Proof.Gen.HeadIdeal.Value
public import proofs.«01_k».proof.Proof.Gen.HeadRefIdeal.Run
public import proofs.«01_k».proof.Proof.Gen.InProj.Frame
public import proofs.«01_k».proof.Proof.Gen.InProjIdeal.Value
public import proofs.«01_k».proof.Proof.Gen.InProjRefIdeal.Run
public import proofs.«01_k».proof.Proof.Gen.InProjBwd0.Frame
public import proofs.«01_k».proof.Proof.Gen.InProjBwd0Ideal.Value
public import proofs.«01_k».proof.Proof.Gen.InProjBwd0RefIdeal.Run
public import proofs.«01_k».proof.Proof.Gen.InProjBwd.Frame
public import proofs.«01_k».proof.Proof.Gen.InProjBwdIdeal.Value
public import proofs.«01_k».proof.Proof.Gen.InProjBwdRefIdeal.Run
public import proofs.«01_k».proof.Proof.Gen.WgradGu.Frame
public import proofs.«01_k».proof.Proof.Gen.WgradGuIdeal.Value
public import proofs.«01_k».proof.Proof.Gen.WgradGuRefIdeal.Run
public import proofs.«01_k».proof.Proof.Gen.WgradDown.Frame
public import proofs.«01_k».proof.Proof.Gen.WgradDownIdeal.Value
public import proofs.«01_k».proof.Proof.Gen.WgradDownRefIdeal.Run
public import proofs.«01_k».proof.Proof.Gen.WgradOut.Frame
public import proofs.«01_k».proof.Proof.Gen.WgradOutIdeal.Value
public import proofs.«01_k».proof.Proof.Gen.WgradOutRefIdeal.Run
public import proofs.«01_k».proof.Proof.Gen.WgradIn.Frame
public import proofs.«01_k».proof.Proof.Gen.WgradInIdeal.Value
public import proofs.«01_k».proof.Proof.Gen.WgradInRefIdeal.Run
public import proofs.«01_k».proof.Proof.Gen.AdamwGu.Frame
public import proofs.«01_k».proof.Proof.Gen.AdamwGuIdeal.Value
public import proofs.«01_k».proof.Proof.Gen.AdamwGuRefIdeal.Run
public import proofs.«01_k».proof.Proof.Gen.AdamwOut.Frame
public import proofs.«01_k».proof.Proof.Gen.AdamwOutIdeal.Value
public import proofs.«01_k».proof.Proof.Gen.AdamwOutRefIdeal.Run
public import proofs.«01_k».proof.Proof.Gen.AdamwDown.Frame
public import proofs.«01_k».proof.Proof.Gen.AdamwDownIdeal.Value
public import proofs.«01_k».proof.Proof.Gen.AdamwDownRefIdeal.Run
public import proofs.«01_k».proof.Proof.Gen.AdamwIn.Frame
public import proofs.«01_k».proof.Proof.Gen.AdamwInIdeal.Value
public import proofs.«01_k».proof.Proof.Gen.AdamwInRefIdeal.Run
public import proofs.«01_k».proof.Proof.Gen.AdamwShards.Frame
public import proofs.«01_k».proof.Proof.Gen.AdamwShardsIdeal.Value
public import proofs.«01_k».proof.Proof.Gen.AdamwShardsRefIdeal.Run
public import proofs.«01_k».proof.Proof.Gen.AdamwShardsRefIdeal.Read
public import proofs.«01_k».proof.Proof.Gen.QkvBwd.Frame
public import proofs.«01_k».proof.Proof.Gen.QkvBwdIdeal.Value
public import proofs.«01_k».proof.Proof.Gen.QkvBwdRefIdeal.Run
public import proofs.«01_k».proof.Proof.Gen.SconvFwd.Frame
public import proofs.«01_k».proof.Proof.Gen.SconvFwdIdeal.Value
public import proofs.«01_k».proof.Proof.Gen.SconvFwdRefIdeal.Run
public import proofs.«01_k».proof.Proof.Gen.QkvFwd.Frame
public import proofs.«01_k».proof.Proof.Gen.QkvFwdIdeal.Value
public import proofs.«01_k».proof.Proof.Gen.QkvFwdRefIdeal.Run
public import proofs.«01_k».proof.Proof.Gen.SconvBwd0.Frame
public import proofs.«01_k».proof.Proof.Gen.SconvBwd0Ideal.Value
public import proofs.«01_k».proof.Proof.Gen.SconvBwd0RefIdeal.Run
public import proofs.«01_k».proof.Proof.Gen.QkvBwd0.Frame
public import proofs.«01_k».proof.Proof.Gen.QkvBwd0Ideal.Value
public import proofs.«01_k».proof.Proof.Gen.QkvBwd0RefIdeal.Run
public import proofs.«01_k».proof.Proof.Gen.SconvFwd0.Frame
public import proofs.«01_k».proof.Proof.Gen.SconvFwd0Ideal.Value
public import proofs.«01_k».proof.Proof.Gen.SconvFwd0RefIdeal.Run
public import proofs.«01_k».proof.Proof.Gen.QkvFwd0.Frame
public import proofs.«01_k».proof.Proof.Gen.QkvFwd0Ideal.Value
public import proofs.«01_k».proof.Proof.Gen.QkvFwd0RefIdeal.Run
public import proofs.«01_k».proof.Proof.ConvKernel
public import proofs.«01_k».proof.Proof.ConvSpec
public import proofs.«01_k».proof.Proof.MlpBwdKernel
public import proofs.«01_k».proof.Proof.MlpBwdSpec
public import proofs.«01_k».proof.Proof.MlpBwd0Kernel
public import proofs.«01_k».proof.Proof.MlpBwd0Spec
public import proofs.«01_k».proof.Proof.OutMlpKernel
public import proofs.«01_k».proof.Proof.OutMlpSpec
public import proofs.«01_k».proof.Proof.HeadKernel
public import proofs.«01_k».proof.Proof.HeadSpec
public import proofs.«01_k».proof.Proof.InProjKernel
public import proofs.«01_k».proof.Proof.InProjBwd0Kernel
public import proofs.«01_k».proof.Proof.InProjBwdKernel
public import proofs.«01_k».proof.Proof.WgradGuKernel
public import proofs.«01_k».proof.Proof.WgradDownKernel
public import proofs.«01_k».proof.Proof.WgradOutKernel
public import proofs.«01_k».proof.Proof.WgradInKernel
public import proofs.«01_k».proof.Proof.AdamwGuKernel
public import proofs.«01_k».proof.Proof.AdamwOutKernel
public import proofs.«01_k».proof.Proof.AdamwDownKernel
public import proofs.«01_k».proof.Proof.AdamwInKernel
public import proofs.«01_k».proof.Proof.QkvBwdKernel
public import proofs.«01_k».proof.Proof.SconvFwdKernel
public import proofs.«01_k».proof.Proof.QkvFwdKernel
public import proofs.«01_k».proof.Proof.SconvBwd0Kernel
public import proofs.«01_k».proof.Proof.QkvBwd0Kernel
public import proofs.«01_k».proof.Proof.SconvFwd0Kernel
public import proofs.«01_k».proof.Proof.QkvFwd0Kernel
public import Idealize.ShloMosaic.Adequacy
public import Idealize.ShloMosaic.Init

@[expose] public section

noncomputable section

namespace Cert.Proof

open Idealize.ShloMosaic Idealize.ShloMosaic.TcCoe Idealize.SL.Sem Cert.Kernel

/-- The gated short convolution's gradient: kernel and reference both compute `dp` and `dw` of the arguments. -/
theorem conv_algebraic : Cert.algebraic_KernelIdeal_ReferenceIdeal := by
  intro m g m' g' _ hagree
  refine ⟨fun c i => Cert.Conv.dp (KernelIdeal.Conv.argP m c) (KernelIdeal.Conv.argD m c) (KernelIdeal.Conv.argW m c) (i 0) (i 1),
    fun c i => Cert.Conv.dw (KernelIdeal.Conv.argP m c) (KernelIdeal.Conv.argD m c) (i 0) (i 1), ?_, ?_⟩
  · refine (θ_run Cert.KernelIdeal.defs _ _).mono (fun _ h c => ?_) (Cert.KernelIdeal.Value.run_blocks (F := Ideal) m g)
    obtain ⟨h0, h1, hargs⟩ := h c
    exact ⟨h0.trans (KernelIdeal.Conv.final_dp m c), h1.trans (KernelIdeal.Conv.final_dw m c), hargs⟩
  · refine (θ_run Cert.ReferenceIdeal.defs _ _).mono (fun _ h c => ?_) (Cert.ReferenceIdeal.Value.run (F := Ideal) m' g')
    obtain ⟨h0, h1, hargs⟩ := h c
    obtain ⟨a0, a1, a2⟩ := hagree c
    refine ⟨h0.trans ?_, h1.trans ?_, hargs⟩
    · rw [Cert.ReferenceIdeal.Read.val_main_v59_eq, a0, a1, a2]
      funext i
      idx_vars i
      exact ReferenceIdeal.Conv.dp_apply ..
    · refine (Cert.ReferenceIdeal.Read.val_main_v51_eq _ _).trans ?_
      rw [a0, a1]
      funext i
      idx_vars i
      exact ReferenceIdeal.Conv.dw_apply ..

/-- The side conditions of the precondition's operations. -/
instance finite_facts : Cert.Pre_finite.Facts := by
  constructor <;> decide

/-- The same for the second precondition. -/
instance qkv_finite_facts : Cert.Pre_qkv_finite.Facts := by
  constructor <;> decide

/-- A number whose magnitude compares below infinity is a real. -/
theorem real_of_lt {e : FTy} {x : Ideal e} (h : BitVec.ofBool (decide ((FloatOps.absf x : EReal) < Ideal.ofBits .f32 0x7F800000#32)) = 1#1) :
    Step.IsReal x := by
  have t : Ideal.ofBits .f32 0x7F800000#32 = ⊤ := by simp [Ideal.ofBits, Ideal.ieee]
  have h' : (FloatOps.absf x : EReal) < ⊤ := by
    rw [t] at h
    by_contra hc
    rw [decide_eq_false hc] at h
    exact absurd h (by decide)
  have h1 : (x : EReal) < ⊤ := lt_of_le_of_lt (le_max_left _ _) h'
  have h2 : -(x : EReal) < ⊤ := lt_of_le_of_lt (le_max_right _ _) h'
  exact ⟨EReal.toReal x, (EReal.coe_toReal h1.ne fun hb => h2.ne (by rw [hb]; rfl)).symm⟩

/-- The backward pass through the second layer's second half, at finite arguments. -/
theorem mlp_bwd_algebraic : Cert.algebraic_MlpBwdIdeal_MlpBwdRefIdeal_pre_finite := by
  intro m g m' g' hpre hagree
  refine ⟨fun c i => Cert.Mlp.dgu (MlpBwdIdeal.Mlp.argY m c) (MlpBwdIdeal.Mlp.argX m c) (MlpBwdIdeal.Mlp.argN m c) (MlpBwdIdeal.Mlp.argD m c) (MlpBwdIdeal.Mlp.argG m c) 1 (i 0) (i 1),
    fun c i => Cert.Mlp.dx (MlpBwdIdeal.Mlp.argY m c) (MlpBwdIdeal.Mlp.argX m c) (MlpBwdIdeal.Mlp.argN m c) (MlpBwdIdeal.Mlp.argD m c) (MlpBwdIdeal.Mlp.argG m c) 1 (i 0) (i 1),
    fun c i => Cert.Mlp.dmix (MlpBwdIdeal.Mlp.argY m c) (MlpBwdIdeal.Mlp.argX m c) (MlpBwdIdeal.Mlp.argN m c) (MlpBwdIdeal.Mlp.argD m c) (MlpBwdIdeal.Mlp.argG m c) (MlpBwdIdeal.Mlp.argO m c) 1 (i 0) (i 1),
    fun c i => Cert.Mlp.dnw (MlpBwdIdeal.Mlp.argY m c) (MlpBwdIdeal.Mlp.argX m c) (MlpBwdIdeal.Mlp.argN m c) (MlpBwdIdeal.Mlp.argD m c) (MlpBwdIdeal.Mlp.argG m c) 1 (i 1), ?_, ?_⟩
  · refine (θ_run Cert.MlpBwdIdeal.defs _ _).mono (fun _ h c => ?_) (Cert.MlpBwdIdeal.Value.run_blocks (F := Ideal) m g)
    obtain ⟨h0, h1, h2, h3, hargs⟩ := h c
    exact ⟨h0.trans (MlpBwdIdeal.Mlp.final_dgu m c), h1.trans (MlpBwdIdeal.Mlp.final_dx m c), h2.trans (MlpBwdIdeal.Mlp.final_dmix m c), h3.trans (MlpBwdIdeal.Mlp.final_dnw m c), hargs⟩
  · refine (θ_run Cert.MlpBwdRefIdeal.defs _ _).mono (fun _ h c => ?_) (Cert.MlpBwdRefIdeal.Value.run (F := Ideal) m' g')
    obtain ⟨h0, h1, h2, h3, hargs⟩ := h c
    obtain ⟨a0, a1, a2, a3, a4, a5⟩ := hagree c
    obtain ⟨p0, p1, p2, p3, p4⟩ := hpre c
    have hd := Mlp.dact_real (MlpBwdIdeal.Mlp.argY m c) (MlpBwdIdeal.Mlp.argX m c) (MlpBwdIdeal.Mlp.argN m c) (MlpBwdIdeal.Mlp.argD m c)
      (MlpBwdIdeal.Mlp.argG m c) 1 (fun i => real_of_lt (congrFun p0 i)) (fun i => real_of_lt (congrFun p1 i)) (fun i => real_of_lt (congrFun p2 i)) (fun i => real_of_lt (congrFun p3 i)) (fun i => real_of_lt (congrFun p4 i))
    refine ⟨h0.trans ?_, h1.trans ?_, h2.trans ?_, h3.trans ?_, hargs⟩
    · refine (Cert.MlpBwdRefIdeal.Read.val_main_v65_eq ..).trans ?_
      simp only [a0, a1, a2, a3, a4, a5]
      funext i
      idx_vars i
      exact MlpBwdRefIdeal.Mlp.dgu_apply' _ _ _ _ _ hd ..
    · refine (Cert.MlpBwdRefIdeal.Read.val_main_v58_eq ..).trans ?_
      simp only [a0, a1, a2, a3, a4, a5]
      funext i
      idx_vars i
      exact MlpBwdRefIdeal.Mlp.dx_apply _ _ _ _ _ hd ..
    · refine (Cert.MlpBwdRefIdeal.Read.val_main_v64_eq ..).trans ?_
      simp only [a0, a1, a2, a3, a4, a5]
      funext i
      idx_vars i
      exact MlpBwdRefIdeal.Mlp.dmix_apply _ _ _ _ _ _ hd ..
    · refine (Cert.MlpBwdRefIdeal.Read.val_main_v66_eq ..).trans ?_
      simp only [a0, a1, a2, a3, a4, a5]
      funext i
      obtain ⟨k, rfl⟩ : ∃ (k : Fin 1024), i = ix2 0 k := ⟨i 1, (eq_ix2 i).trans (congrArg (ix2 · (i 1)) (Subsingleton.elim _ _))⟩
      exact MlpBwdRefIdeal.Mlp.dnw_apply _ _ _ _ _ hd ..

/-- The backward pass through the first layer's second half, at finite arguments. -/
theorem mlp_bwd_first_algebraic : Cert.algebraic_MlpBwd0Ideal_MlpBwd0RefIdeal_pre_finite := by
  intro m g m' g' hpre hagree
  refine ⟨fun c i => Cert.Mlp.dgu (MlpBwd0Ideal.Mlp.argY m c) (MlpBwd0Ideal.Mlp.argX m c) (MlpBwd0Ideal.Mlp.argN m c) (MlpBwd0Ideal.Mlp.argD m c) (MlpBwd0Ideal.Mlp.argG m c) 0 (i 0) (i 1),
    fun c i => Cert.Mlp.dx (MlpBwd0Ideal.Mlp.argY m c) (MlpBwd0Ideal.Mlp.argX m c) (MlpBwd0Ideal.Mlp.argN m c) (MlpBwd0Ideal.Mlp.argD m c) (MlpBwd0Ideal.Mlp.argG m c) 0 (i 0) (i 1),
    fun c i => Cert.Mlp.dmix (MlpBwd0Ideal.Mlp.argY m c) (MlpBwd0Ideal.Mlp.argX m c) (MlpBwd0Ideal.Mlp.argN m c) (MlpBwd0Ideal.Mlp.argD m c) (MlpBwd0Ideal.Mlp.argG m c) (MlpBwd0Ideal.Mlp.argO m c) 0 (i 0) (i 1),
    fun c i => Cert.Mlp.dnw (MlpBwd0Ideal.Mlp.argY m c) (MlpBwd0Ideal.Mlp.argX m c) (MlpBwd0Ideal.Mlp.argN m c) (MlpBwd0Ideal.Mlp.argD m c) (MlpBwd0Ideal.Mlp.argG m c) 0 (i 1), ?_, ?_⟩
  · refine (θ_run Cert.MlpBwd0Ideal.defs _ _).mono (fun _ h c => ?_) (Cert.MlpBwd0Ideal.Value.run_blocks (F := Ideal) m g)
    obtain ⟨h0, h1, h2, h3, hargs⟩ := h c
    exact ⟨h0.trans (MlpBwd0Ideal.Mlp.final_dgu m c), h1.trans (MlpBwd0Ideal.Mlp.final_dx m c), h2.trans (MlpBwd0Ideal.Mlp.final_dmix m c), h3.trans (MlpBwd0Ideal.Mlp.final_dnw m c), hargs⟩
  · refine (θ_run Cert.MlpBwd0RefIdeal.defs _ _).mono (fun _ h c => ?_) (Cert.MlpBwd0RefIdeal.Value.run (F := Ideal) m' g')
    obtain ⟨h0, h1, h2, h3, hargs⟩ := h c
    obtain ⟨a0, a1, a2, a3, a4, a5⟩ := hagree c
    obtain ⟨p0, p1, p2, p3, p4⟩ := hpre c
    have hd := Mlp.dact_real (MlpBwd0Ideal.Mlp.argY m c) (MlpBwd0Ideal.Mlp.argX m c) (MlpBwd0Ideal.Mlp.argN m c) (MlpBwd0Ideal.Mlp.argD m c)
      (MlpBwd0Ideal.Mlp.argG m c) 0 (fun i => real_of_lt (congrFun p0 i)) (fun i => real_of_lt (congrFun p1 i)) (fun i => real_of_lt (congrFun p2 i)) (fun i => real_of_lt (congrFun p3 i)) (fun i => real_of_lt (congrFun p4 i))
    refine ⟨h0.trans ?_, h1.trans ?_, h2.trans ?_, h3.trans ?_, hargs⟩
    · refine (Cert.MlpBwd0RefIdeal.Read.val_main_v65_eq ..).trans ?_
      simp only [a0, a1, a2, a3, a4, a5]
      funext i
      idx_vars i
      exact MlpBwd0RefIdeal.Mlp.dgu_apply' _ _ _ _ _ hd ..
    · refine (Cert.MlpBwd0RefIdeal.Read.val_main_v58_eq ..).trans ?_
      simp only [a0, a1, a2, a3, a4, a5]
      funext i
      idx_vars i
      exact MlpBwd0RefIdeal.Mlp.dx_apply _ _ _ _ _ hd ..
    · refine (Cert.MlpBwd0RefIdeal.Read.val_main_v64_eq ..).trans ?_
      simp only [a0, a1, a2, a3, a4, a5]
      funext i
      idx_vars i
      exact MlpBwd0RefIdeal.Mlp.dmix_apply _ _ _ _ _ _ hd ..
    · refine (Cert.MlpBwd0RefIdeal.Read.val_main_v66_eq ..).trans ?_
      simp only [a0, a1, a2, a3, a4, a5]
      funext i
      obtain ⟨k, rfl⟩ : ∃ (k : Fin 1024), i = ix2 0 k := ⟨i 1, (eq_ix2 i).trans (congrArg (ix2 · (i 1)) (Subsingleton.elim _ _))⟩
      exact MlpBwd0RefIdeal.Mlp.dnw_apply _ _ _ _ _ hd ..

/-- The first layer's second half, forward. -/
theorem out_mlp_algebraic : Cert.algebraic_OutMlpIdeal_OutMlpRefIdeal := by
  intro m g m' g' _ hagree
  refine ⟨fun c i => Cert.Half.mix (OutMlpIdeal.Half.argA m c) (OutMlpIdeal.Half.argB m c) (OutMlpIdeal.Half.argC m c) (OutMlpIdeal.Half.argD m c) (i 0) (i 1),
    fun c i => Cert.Half.x1 (OutMlpIdeal.Half.argX m c) (OutMlpIdeal.Half.argA m c) (OutMlpIdeal.Half.argB m c) (OutMlpIdeal.Half.argC m c) (OutMlpIdeal.Half.argD m c) (OutMlpIdeal.Half.argO m c) 0 (i 0) (i 1),
    fun c i => Cert.Half.h2 (OutMlpIdeal.Half.argX m c) (OutMlpIdeal.Half.argA m c) (OutMlpIdeal.Half.argB m c) (OutMlpIdeal.Half.argC m c) (OutMlpIdeal.Half.argD m c) (OutMlpIdeal.Half.argO m c) (OutMlpIdeal.Half.argN m c) 0 (i 0) (i 1),
    fun c i => Cert.Half.gu (OutMlpIdeal.Half.argX m c) (OutMlpIdeal.Half.argA m c) (OutMlpIdeal.Half.argB m c) (OutMlpIdeal.Half.argC m c) (OutMlpIdeal.Half.argD m c) (OutMlpIdeal.Half.argO m c) (OutMlpIdeal.Half.argN m c) (OutMlpIdeal.Half.argG m c) 0 (i 0) (i 1),
    fun c i => Cert.Half.act (OutMlpIdeal.Half.argX m c) (OutMlpIdeal.Half.argA m c) (OutMlpIdeal.Half.argB m c) (OutMlpIdeal.Half.argC m c) (OutMlpIdeal.Half.argD m c) (OutMlpIdeal.Half.argO m c) (OutMlpIdeal.Half.argN m c) (OutMlpIdeal.Half.argG m c) 0 (i 0) (i 1),
    fun c i => Cert.Half.x2 (OutMlpIdeal.Half.argX m c) (OutMlpIdeal.Half.argA m c) (OutMlpIdeal.Half.argB m c) (OutMlpIdeal.Half.argC m c) (OutMlpIdeal.Half.argD m c) (OutMlpIdeal.Half.argO m c) (OutMlpIdeal.Half.argN m c) (OutMlpIdeal.Half.argG m c) (OutMlpIdeal.Half.argW m c) 0 (i 0) (i 1), ?_, ?_⟩
  · refine (θ_run Cert.OutMlpIdeal.defs _ _).mono (fun _ h c => ?_) (Cert.OutMlpIdeal.Value.run_blocks (F := Ideal) m g)
    obtain ⟨h0, h1, h2, h3, h4, h5, hargs⟩ := h c
    exact ⟨h0.trans (OutMlpIdeal.Half.final_mix m c), h1.trans (OutMlpIdeal.Half.final_x1 m c), h2.trans (OutMlpIdeal.Half.final_h2 m c), h3.trans (OutMlpIdeal.Half.final_gu m c), h4.trans (OutMlpIdeal.Half.final_act m c), h5.trans (OutMlpIdeal.Half.final_x2 m c), hargs⟩
  · refine (θ_run Cert.OutMlpRefIdeal.defs _ _).mono (fun _ h c => ?_) (Cert.OutMlpRefIdeal.Value.run (F := Ideal) m' g')
    obtain ⟨h0, h1, h2, h3, h4, h5, hargs⟩ := h c
    obtain ⟨a0, a1, a2, a3, a4, a5, a6, a7, a8⟩ := hagree c
    refine ⟨h0.trans ?_, h1.trans ?_, h2.trans ?_, h3.trans ?_, h4.trans ?_, h5.trans ?_, hargs⟩
    · refine (Cert.OutMlpRefIdeal.Read.val_main_v37_eq ..).trans ?_
      simp only [a0, a1, a2, a3, a4, a5, a6, a7, a8]
      funext i
      idx_vars i
      exact OutMlpSpec.mix_apply ..
    · refine (Cert.OutMlpRefIdeal.Read.val_main_v6_eq ..).trans ?_
      simp only [a0, a1, a2, a3, a4, a5, a6, a7, a8]
      funext i
      idx_vars i
      exact OutMlpSpec.x1_apply ..
    · refine (Cert.OutMlpRefIdeal.Read.val_main_v38_eq ..).trans ?_
      simp only [a0, a1, a2, a3, a4, a5, a6, a7, a8]
      funext i
      idx_vars i
      exact OutMlpSpec.h2_apply ..
    · refine (Cert.OutMlpRefIdeal.Read.val_main_v39_eq ..).trans ?_
      simp only [a0, a1, a2, a3, a4, a5, a6, a7, a8]
      funext i
      idx_vars i
      exact OutMlpSpec.gu_apply ..
    · refine (Cert.OutMlpRefIdeal.Read.val_main_v40_eq ..).trans ?_
      simp only [a0, a1, a2, a3, a4, a5, a6, a7, a8]
      funext i
      idx_vars i
      exact OutMlpSpec.act_apply ..
    · refine (Cert.OutMlpRefIdeal.Read.val_main_v36_eq ..).trans ?_
      simp only [a0, a1, a2, a3, a4, a5, a6, a7, a8]
      funext i
      idx_vars i
      exact OutMlpSpec.x2_apply ..

/-- The second layer's second half, forward, with the loss and its gradient. -/
theorem head_algebraic : Cert.algebraic_HeadIdeal_HeadRefIdeal := by
  intro m g m' g' _ hagree
  refine ⟨fun c i => Cert.Half.mix (HeadIdeal.Half.argA m c) (HeadIdeal.Half.argB m c) (HeadIdeal.Half.argC m c) (HeadIdeal.Half.argD m c) (i 0) (i 1),
    fun c i => Cert.Half.x1 (HeadIdeal.Half.argX m c) (HeadIdeal.Half.argA m c) (HeadIdeal.Half.argB m c) (HeadIdeal.Half.argC m c) (HeadIdeal.Half.argD m c) (HeadIdeal.Half.argO m c) 1 (i 0) (i 1),
    fun c i => Cert.Half.h2 (HeadIdeal.Half.argX m c) (HeadIdeal.Half.argA m c) (HeadIdeal.Half.argB m c) (HeadIdeal.Half.argC m c) (HeadIdeal.Half.argD m c) (HeadIdeal.Half.argO m c) (HeadIdeal.Half.argN m c) 1 (i 0) (i 1),
    fun c i => Cert.Half.gu (HeadIdeal.Half.argX m c) (HeadIdeal.Half.argA m c) (HeadIdeal.Half.argB m c) (HeadIdeal.Half.argC m c) (HeadIdeal.Half.argD m c) (HeadIdeal.Half.argO m c) (HeadIdeal.Half.argN m c) (HeadIdeal.Half.argG m c) 1 (i 0) (i 1),
    fun c i => Cert.Half.act (HeadIdeal.Half.argX m c) (HeadIdeal.Half.argA m c) (HeadIdeal.Half.argB m c) (HeadIdeal.Half.argC m c) (HeadIdeal.Half.argD m c) (HeadIdeal.Half.argO m c) (HeadIdeal.Half.argN m c) (HeadIdeal.Half.argG m c) 1 (i 0) (i 1),
    fun c i => Cert.Half.dx (HeadIdeal.Half.stream m c) (HeadIdeal.Half.argF m c) (HeadIdeal.Half.argT m c) (i 0) (i 1),
    fun c i => Cert.Half.loss (HeadIdeal.Half.stream m c) (HeadIdeal.Half.argF m c) (HeadIdeal.Half.argT m c),
    fun c i => Cert.Half.dw (HeadIdeal.Half.stream m c) (HeadIdeal.Half.argF m c) (HeadIdeal.Half.argT m c) (i 1), ?_, ?_⟩
  · refine (θ_run Cert.HeadIdeal.defs _ _).mono (fun _ h c => ?_) (Cert.HeadIdeal.Value.run_blocks (F := Ideal) m g)
    obtain ⟨h0, h1, h2, h3, h4, h5, h6, h7, hargs⟩ := h c
    exact ⟨h0.trans (HeadIdeal.Half.final_mix m c), h1.trans (HeadIdeal.Half.final_x1 m c), h2.trans (HeadIdeal.Half.final_h2 m c), h3.trans (HeadIdeal.Half.final_gu m c), h4.trans (HeadIdeal.Half.final_act m c), h5.trans (HeadIdeal.Half.final_dx m c), h6.trans (HeadIdeal.Half.final_loss m c), h7.trans (HeadIdeal.Half.final_dw m c), hargs⟩
  · refine (θ_run Cert.HeadRefIdeal.defs _ _).mono (fun _ h c => ?_) (Cert.HeadRefIdeal.Value.run (F := Ideal) m' g')
    obtain ⟨h0, h1, h2, h3, h4, h5, h6, h7, hargs⟩ := h c
    obtain ⟨a0, a1, a2, a3, a4, a5, a6, a7, a8, a9, a10⟩ := hagree c
    refine ⟨h0.trans ?_, h1.trans ?_, h2.trans ?_, h3.trans ?_, h4.trans ?_, h5.trans ?_, h6.trans ?_, h7.trans ?_, hargs⟩
    · refine (Cert.HeadRefIdeal.Read.val_main_v37_eq ..).trans ?_
      simp only [a0, a1, a2, a3, a4, a5, a6, a7, a8, a9, a10]
      funext i
      idx_vars i
      exact HeadSpec.mix_apply ..
    · refine (Cert.HeadRefIdeal.Read.val_main_v6_eq ..).trans ?_
      simp only [a0, a1, a2, a3, a4, a5, a6, a7, a8, a9, a10]
      funext i
      idx_vars i
      exact HeadSpec.x1_apply ..
    · refine (Cert.HeadRefIdeal.Read.val_main_v38_eq ..).trans ?_
      simp only [a0, a1, a2, a3, a4, a5, a6, a7, a8, a9, a10]
      funext i
      idx_vars i
      exact HeadSpec.h2_apply ..
    · refine (Cert.HeadRefIdeal.Read.val_main_v39_eq ..).trans ?_
      simp only [a0, a1, a2, a3, a4, a5, a6, a7, a8, a9, a10]
      funext i
      idx_vars i
      exact HeadSpec.gu_apply ..
    · refine (Cert.HeadRefIdeal.Read.val_main_v40_eq ..).trans ?_
      simp only [a0, a1, a2, a3, a4, a5, a6, a7, a8, a9, a10]
      funext i
      idx_vars i
      exact HeadSpec.act_apply ..
    · refine (Cert.HeadRefIdeal.Read.val_main_v92_eq ..).trans ?_
      simp only [a0, a1, a2, a3, a4, a5, a6, a7, a8, a9, a10]
      funext i
      idx_vars i
      exact HeadSpec.dx_apply ..
    · refine (Cert.HeadRefIdeal.Read.val_main_v93_eq ..).trans ?_
      simp only [a0, a1, a2, a3, a4, a5, a6, a7, a8, a9, a10]
      funext i
      idx_vars i
      exact HeadSpec.loss_apply ..
    · refine (Cert.HeadRefIdeal.Read.val_main_v94_eq ..).trans ?_
      simp only [a0, a1, a2, a3, a4, a5, a6, a7, a8, a9, a10]
      funext i
      obtain ⟨k, rfl⟩ : ∃ (k : Fin 1024), i = ix2 0 k := ⟨i 1, (eq_ix2 i).trans (congrArg (ix2 · (i 1)) (Subsingleton.elim _ _))⟩
      exact HeadSpec.dw_apply ..

/-- The second layer's input projection, forward. -/
theorem in_proj_algebraic : Cert.algebraic_InProjIdeal_InProjRefIdeal := by
  intro m g m' g' _ hagree
  refine ⟨fun c i => Cert.Proj.h (InProjIdeal.Proj.argX m c) (InProjIdeal.Proj.argN m c) 1 (i 0) (i 1),
    fun c i => Cert.Proj.p (InProjIdeal.Proj.argX m c) (InProjIdeal.Proj.argN m c) (InProjIdeal.Proj.argW m c) 1 (i 0) (i 1), ?_, ?_⟩
  · refine (θ_run Cert.InProjIdeal.defs _ _).mono (fun _ h c => ?_) (Cert.InProjIdeal.Value.run_blocks (F := Ideal) m g)
    obtain ⟨h0, h1, hargs⟩ := h c
    exact ⟨h0.trans (InProjIdeal.Proj.final_h m c), h1.trans (InProjIdeal.Proj.final_p m c), hargs⟩
  · refine (θ_run Cert.InProjRefIdeal.defs _ _).mono (fun _ h c => ?_) (Cert.InProjRefIdeal.Value.run (F := Ideal) m' g')
    obtain ⟨h0, h1, hargs⟩ := h c
    obtain ⟨a0, a1, a2⟩ := hagree c
    refine ⟨h0.trans ?_, h1.trans ?_, hargs⟩
    · refine (Cert.InProjRefIdeal.Read.val_main_v15_eq ..).trans ?_
      simp only [a0, a1, a2]
      funext i
      idx_vars i
      exact InProjRefIdeal.Proj.h_apply' ..
    · refine (Cert.InProjRefIdeal.Read.val_main_v17_eq ..).trans ?_
      simp only [a0, a1, a2]
      funext i
      idx_vars i
      exact InProjRefIdeal.Proj.p_apply ..

/-- The first layer's input projection, backward. -/
theorem in_proj_bwd_first_algebraic : Cert.algebraic_InProjBwd0Ideal_InProjBwd0RefIdeal := by
  intro m g m' g' _ hagree
  refine ⟨fun c i => Cert.Proj.dp (InProjBwd0Ideal.Proj.argD0 m c) (InProjBwd0Ideal.Proj.argD1 m c) (InProjBwd0Ideal.Proj.argD2 m c) (InProjBwd0Ideal.Proj.argD3 m c) (InProjBwd0Ideal.Proj.argD4 m c) (InProjBwd0Ideal.Proj.argD5 m c) (InProjBwd0Ideal.Proj.argD6 m c) (InProjBwd0Ideal.Proj.argD7 m c) (i 0) (i 1),
    fun c i => Cert.Proj.dx (InProjBwd0Ideal.Proj.argD0 m c) (InProjBwd0Ideal.Proj.argD1 m c) (InProjBwd0Ideal.Proj.argD2 m c) (InProjBwd0Ideal.Proj.argD3 m c) (InProjBwd0Ideal.Proj.argD4 m c) (InProjBwd0Ideal.Proj.argD5 m c) (InProjBwd0Ideal.Proj.argD6 m c) (InProjBwd0Ideal.Proj.argD7 m c) (InProjBwd0Ideal.Proj.argX m c) (InProjBwd0Ideal.Proj.argY m c) (InProjBwd0Ideal.Proj.argN m c) (InProjBwd0Ideal.Proj.argW m c) 0 (i 0) (i 1),
    fun c i => Cert.Proj.dnw (InProjBwd0Ideal.Proj.argD0 m c) (InProjBwd0Ideal.Proj.argD1 m c) (InProjBwd0Ideal.Proj.argD2 m c) (InProjBwd0Ideal.Proj.argD3 m c) (InProjBwd0Ideal.Proj.argD4 m c) (InProjBwd0Ideal.Proj.argD5 m c) (InProjBwd0Ideal.Proj.argD6 m c) (InProjBwd0Ideal.Proj.argD7 m c) (InProjBwd0Ideal.Proj.argX m c) (InProjBwd0Ideal.Proj.argW m c) (i 1), ?_, ?_⟩
  · refine (θ_run Cert.InProjBwd0Ideal.defs _ _).mono (fun _ h c => ?_) (Cert.InProjBwd0Ideal.Value.run_blocks (F := Ideal) m g)
    obtain ⟨h0, h1, h2, hargs⟩ := h c
    exact ⟨h0.trans (InProjBwd0Ideal.Proj.final_dp m c), h1.trans (InProjBwd0Ideal.Proj.final_dx m c), h2.trans (InProjBwd0Ideal.Proj.final_dnw m c), hargs⟩
  · refine (θ_run Cert.InProjBwd0RefIdeal.defs _ _).mono (fun _ h c => ?_) (Cert.InProjBwd0RefIdeal.Value.run (F := Ideal) m' g')
    obtain ⟨h0, h1, h2, hargs⟩ := h c
    obtain ⟨a0, a1, a2, a3, a4, a5, a6, a7, a8, a9, a10, a11⟩ := hagree c
    refine ⟨h0.trans ?_, h1.trans ?_, h2.trans ?_, hargs⟩
    · refine (Cert.InProjBwd0RefIdeal.Read.val_main_v0_eq ..).trans ?_
      simp only [a0, a1, a2, a3, a4, a5, a6, a7, a8, a9, a10, a11]
      funext i
      idx_vars i
      exact InProjBwd0RefIdeal.Proj.dp_apply ..
    · refine (Cert.InProjBwd0RefIdeal.Read.val_main_v43_eq ..).trans ?_
      simp only [a0, a1, a2, a3, a4, a5, a6, a7, a8, a9, a10, a11]
      funext i
      idx_vars i
      exact InProjBwd0RefIdeal.Proj.dx_apply ..
    · refine (Cert.InProjBwd0RefIdeal.Read.val_main_v44_eq ..).trans ?_
      simp only [a0, a1, a2, a3, a4, a5, a6, a7, a8, a9, a10, a11]
      funext i
      obtain ⟨k, rfl⟩ : ∃ (k : Fin 1024), i = ix2 0 k := ⟨i 1, (eq_ix2 i).trans (congrArg (ix2 · (i 1)) (Subsingleton.elim _ _))⟩
      exact InProjBwd0RefIdeal.Proj.dnw_apply ..

/-- The second layer's input projection, backward. -/
theorem in_proj_bwd_algebraic : Cert.algebraic_InProjBwdIdeal_InProjBwdRefIdeal := by
  intro m g m' g' _ hagree
  refine ⟨fun c i => Cert.Proj.dp (InProjBwdIdeal.Proj.argD0 m c) (InProjBwdIdeal.Proj.argD1 m c) (InProjBwdIdeal.Proj.argD2 m c) (InProjBwdIdeal.Proj.argD3 m c) (InProjBwdIdeal.Proj.argD4 m c) (InProjBwdIdeal.Proj.argD5 m c) (InProjBwdIdeal.Proj.argD6 m c) (InProjBwdIdeal.Proj.argD7 m c) (i 0) (i 1),
    fun c i => Cert.Proj.dx (InProjBwdIdeal.Proj.argD0 m c) (InProjBwdIdeal.Proj.argD1 m c) (InProjBwdIdeal.Proj.argD2 m c) (InProjBwdIdeal.Proj.argD3 m c) (InProjBwdIdeal.Proj.argD4 m c) (InProjBwdIdeal.Proj.argD5 m c) (InProjBwdIdeal.Proj.argD6 m c) (InProjBwdIdeal.Proj.argD7 m c) (InProjBwdIdeal.Proj.argX m c) (InProjBwdIdeal.Proj.argY m c) (InProjBwdIdeal.Proj.argN m c) (InProjBwdIdeal.Proj.argW m c) 1 (i 0) (i 1),
    fun c i => Cert.Proj.dnw (InProjBwdIdeal.Proj.argD0 m c) (InProjBwdIdeal.Proj.argD1 m c) (InProjBwdIdeal.Proj.argD2 m c) (InProjBwdIdeal.Proj.argD3 m c) (InProjBwdIdeal.Proj.argD4 m c) (InProjBwdIdeal.Proj.argD5 m c) (InProjBwdIdeal.Proj.argD6 m c) (InProjBwdIdeal.Proj.argD7 m c) (InProjBwdIdeal.Proj.argX m c) (InProjBwdIdeal.Proj.argW m c) (i 1), ?_, ?_⟩
  · refine (θ_run Cert.InProjBwdIdeal.defs _ _).mono (fun _ h c => ?_) (Cert.InProjBwdIdeal.Value.run_blocks (F := Ideal) m g)
    obtain ⟨h0, h1, h2, hargs⟩ := h c
    exact ⟨h0.trans (InProjBwdIdeal.Proj.final_dp m c), h1.trans (InProjBwdIdeal.Proj.final_dx m c), h2.trans (InProjBwdIdeal.Proj.final_dnw m c), hargs⟩
  · refine (θ_run Cert.InProjBwdRefIdeal.defs _ _).mono (fun _ h c => ?_) (Cert.InProjBwdRefIdeal.Value.run (F := Ideal) m' g')
    obtain ⟨h0, h1, h2, hargs⟩ := h c
    obtain ⟨a0, a1, a2, a3, a4, a5, a6, a7, a8, a9, a10, a11⟩ := hagree c
    refine ⟨h0.trans ?_, h1.trans ?_, h2.trans ?_, hargs⟩
    · refine (Cert.InProjBwdRefIdeal.Read.val_main_v0_eq ..).trans ?_
      simp only [a0, a1, a2, a3, a4, a5, a6, a7, a8, a9, a10, a11]
      funext i
      idx_vars i
      exact InProjBwdRefIdeal.Proj.dp_apply ..
    · refine (Cert.InProjBwdRefIdeal.Read.val_main_v43_eq ..).trans ?_
      simp only [a0, a1, a2, a3, a4, a5, a6, a7, a8, a9, a10, a11]
      funext i
      idx_vars i
      exact InProjBwdRefIdeal.Proj.dx_apply ..
    · refine (Cert.InProjBwdRefIdeal.Read.val_main_v44_eq ..).trans ?_
      simp only [a0, a1, a2, a3, a4, a5, a6, a7, a8, a9, a10, a11]
      funext i
      obtain ⟨k, rfl⟩ : ∃ (k : Fin 1024), i = ix2 0 k := ⟨i 1, (eq_ix2 i).trans (congrArg (ix2 · (i 1)) (Subsingleton.elim _ _))⟩
      exact InProjBwdRefIdeal.Proj.dnw_apply ..

/-- The gradient of the weights of the gates and ups. -/
theorem wgrad_gate_up_algebraic : Cert.algebraic_WgradGuIdeal_WgradGuRefIdeal := by
  intro m g m' g' _ hagree
  refine ⟨fun c i => WgradGuIdeal.Wgrad.spec (WgradGuIdeal.Wgrad.argX m c) (WgradGuIdeal.Wgrad.argY m c) (i 0) (i 1), ?_, ?_⟩
  · refine (θ_run Cert.WgradGuIdeal.defs _ _).mono (fun _ h c => ?_) (Cert.WgradGuIdeal.Value.run_blocks (F := Ideal) m g)
    obtain ⟨h0, hargs⟩ := h c
    exact ⟨h0.trans (WgradGuIdeal.Wgrad.final m c), hargs⟩
  · refine (θ_run Cert.WgradGuRefIdeal.defs _ _).mono (fun _ h c => ?_) (Cert.WgradGuRefIdeal.Value.run (F := Ideal) m' g')
    obtain ⟨h0, hargs⟩ := h c
    obtain ⟨a0, a1⟩ := hagree c
    refine ⟨h0.trans ?_, hargs⟩
    · refine (Cert.WgradGuRefIdeal.Read.val_main_v7_eq ..).trans ?_
      simp only [a0, a1]
      funext i
      idx_vars i
      exact WgradGuIdeal.Wgrad.ref_apply ..

/-- The gradient of the weights of the down projection. -/
theorem wgrad_down_algebraic : Cert.algebraic_WgradDownIdeal_WgradDownRefIdeal := by
  intro m g m' g' _ hagree
  refine ⟨fun c i => WgradDownIdeal.Wgrad.spec (WgradDownIdeal.Wgrad.argX m c) (WgradDownIdeal.Wgrad.argY m c) (i 0) (i 1), ?_, ?_⟩
  · refine (θ_run Cert.WgradDownIdeal.defs _ _).mono (fun _ h c => ?_) (Cert.WgradDownIdeal.Value.run_blocks (F := Ideal) m g)
    obtain ⟨h0, hargs⟩ := h c
    exact ⟨h0.trans (WgradDownIdeal.Wgrad.final m c), hargs⟩
  · refine (θ_run Cert.WgradDownRefIdeal.defs _ _).mono (fun _ h c => ?_) (Cert.WgradDownRefIdeal.Value.run (F := Ideal) m' g')
    obtain ⟨h0, hargs⟩ := h c
    obtain ⟨a0, a1⟩ := hagree c
    refine ⟨h0.trans ?_, hargs⟩
    · refine (Cert.WgradDownRefIdeal.Read.val_main_v5_eq ..).trans ?_
      simp only [a0, a1]
      funext i
      idx_vars i
      exact WgradDownIdeal.Wgrad.ref_apply ..

/-- The gradient of the weights of the output projection. -/
theorem wgrad_out_algebraic : Cert.algebraic_WgradOutIdeal_WgradOutRefIdeal := by
  intro m g m' g' _ hagree
  refine ⟨fun c i => WgradOutIdeal.Wgrad.spec (WgradOutIdeal.Wgrad.argX m c) (WgradOutIdeal.Wgrad.argY m c) (i 0) (i 1), ?_, ?_⟩
  · refine (θ_run Cert.WgradOutIdeal.defs _ _).mono (fun _ h c => ?_) (Cert.WgradOutIdeal.Value.run_blocks (F := Ideal) m g)
    obtain ⟨h0, hargs⟩ := h c
    exact ⟨h0.trans (WgradOutIdeal.Wgrad.final m c), hargs⟩
  · refine (θ_run Cert.WgradOutRefIdeal.defs _ _).mono (fun _ h c => ?_) (Cert.WgradOutRefIdeal.Value.run (F := Ideal) m' g')
    obtain ⟨h0, hargs⟩ := h c
    obtain ⟨a0, a1⟩ := hagree c
    refine ⟨h0.trans ?_, hargs⟩
    · refine (Cert.WgradOutRefIdeal.Read.val_main_v5_eq ..).trans ?_
      simp only [a0, a1]
      funext i
      idx_vars i
      exact WgradOutIdeal.Wgrad.ref_apply ..

/-- The gradient of the weights of the input projection. -/
theorem wgrad_in_algebraic : Cert.algebraic_WgradInIdeal_WgradInRefIdeal := by
  intro m g m' g' _ hagree
  refine ⟨fun c i => WgradInIdeal.Wgrad.spec (WgradInIdeal.Wgrad.argX m c) (WgradInIdeal.Wgrad.argY m c) (i 0) (i 1), ?_, ?_⟩
  · refine (θ_run Cert.WgradInIdeal.defs _ _).mono (fun _ h c => ?_) (Cert.WgradInIdeal.Value.run_blocks (F := Ideal) m g)
    obtain ⟨h0, hargs⟩ := h c
    exact ⟨h0.trans (WgradInIdeal.Wgrad.final m c), hargs⟩
  · refine (θ_run Cert.WgradInRefIdeal.defs _ _).mono (fun _ h c => ?_) (Cert.WgradInRefIdeal.Value.run (F := Ideal) m' g')
    obtain ⟨h0, hargs⟩ := h c
    obtain ⟨a0, a1⟩ := hagree c
    refine ⟨h0.trans ?_, hargs⟩
    · refine (Cert.WgradInRefIdeal.Read.val_main_v6_eq ..).trans ?_
      simp only [a0, a1]
      funext i
      idx_vars i
      exact WgradInIdeal.Wgrad.ref_apply ..

/-- The optimizer's step for the gate and up projections. -/
theorem adamw_gate_up_algebraic : Cert.algebraic_AdamwGuIdeal_AdamwGuRefIdeal := by
  intro m g m' g' _ hagree
  refine ⟨fun c i => AdamwGuIdeal.Step.grad (AdamwGuIdeal.Step.argP m c) (AdamwGuIdeal.Step.argQ m c) (i 0) (i 1) (i 2),
    fun c i => AdamwGuIdeal.Step.sDelta (AdamwGuIdeal.Step.argP m c) (AdamwGuIdeal.Step.argQ m c) (AdamwGuIdeal.Step.argW m c) (AdamwGuIdeal.Step.argM m c) (AdamwGuIdeal.Step.argV m c) (i 0) (i 1) (i 2),
    fun c i => AdamwGuIdeal.Step.sMom (AdamwGuIdeal.Step.argP m c) (AdamwGuIdeal.Step.argQ m c) (AdamwGuIdeal.Step.argM m c) (i 0) (i 1) (i 2),
    fun c i => AdamwGuIdeal.Step.sVar (AdamwGuIdeal.Step.argP m c) (AdamwGuIdeal.Step.argQ m c) (AdamwGuIdeal.Step.argV m c) (i 0) (i 1) (i 2), ?_, ?_⟩
  · refine (θ_run Cert.AdamwGuIdeal.defs _ _).mono (fun _ h c => ?_) (Cert.AdamwGuIdeal.Value.run_blocks (F := Ideal) m g)
    obtain ⟨h0, h1, h2, h3, hargs⟩ := h c
    exact ⟨h0.trans (AdamwGuIdeal.Step.final_grad m c), h1.trans (AdamwGuIdeal.Step.final_delta m c), h2.trans (AdamwGuIdeal.Step.final_mom m c), h3.trans (AdamwGuIdeal.Step.final_var m c), hargs⟩
  · refine (θ_run Cert.AdamwGuRefIdeal.defs _ _).mono (fun _ h c => ?_) (Cert.AdamwGuRefIdeal.Value.run (F := Ideal) m' g')
    obtain ⟨h0, h1, h2, h3, hargs⟩ := h c
    obtain ⟨a0, a1, a2, a3, a4⟩ := hagree c
    refine ⟨h0.trans ?_, h1.trans ?_, h2.trans ?_, h3.trans ?_, hargs⟩
    · refine (Cert.AdamwGuRefIdeal.Read.val_main_v6_eq ..).trans ?_
      simp only [a0, a1, a2, a3, a4]
      funext i
      idx_vars i
      exact AdamwGuIdeal.Step.ref_grad ..
    · refine (Cert.AdamwGuRefIdeal.Read.val_main_v30_eq ..).trans ?_
      simp only [a0, a1, a2, a3, a4]
      funext i
      idx_vars i
      exact AdamwGuIdeal.Step.ref_delta ..
    · refine (Cert.AdamwGuRefIdeal.Read.val_main_v11_eq ..).trans ?_
      simp only [a0, a1, a2, a3, a4]
      funext i
      idx_vars i
      exact AdamwGuIdeal.Step.ref_mom ..
    · refine (Cert.AdamwGuRefIdeal.Read.val_main_v17_eq ..).trans ?_
      simp only [a0, a1, a2, a3, a4]
      funext i
      idx_vars i
      exact AdamwGuIdeal.Step.ref_var ..

/-- The optimizer's step for the output projection. -/
theorem adamw_out_algebraic : Cert.algebraic_AdamwOutIdeal_AdamwOutRefIdeal := by
  intro m g m' g' _ hagree
  refine ⟨fun c i => AdamwOutIdeal.Step.grad (AdamwOutIdeal.Step.argP m c) (AdamwOutIdeal.Step.argQ m c) (i 0) (i 1) (i 2),
    fun c i => AdamwOutIdeal.Step.sDelta (AdamwOutIdeal.Step.argP m c) (AdamwOutIdeal.Step.argQ m c) (AdamwOutIdeal.Step.argW m c) (AdamwOutIdeal.Step.argM m c) (AdamwOutIdeal.Step.argV m c) (i 0) (i 1) (i 2),
    fun c i => AdamwOutIdeal.Step.sMom (AdamwOutIdeal.Step.argP m c) (AdamwOutIdeal.Step.argQ m c) (AdamwOutIdeal.Step.argM m c) (i 0) (i 1) (i 2),
    fun c i => AdamwOutIdeal.Step.sVar (AdamwOutIdeal.Step.argP m c) (AdamwOutIdeal.Step.argQ m c) (AdamwOutIdeal.Step.argV m c) (i 0) (i 1) (i 2), ?_, ?_⟩
  · refine (θ_run Cert.AdamwOutIdeal.defs _ _).mono (fun _ h c => ?_) (Cert.AdamwOutIdeal.Value.run_blocks (F := Ideal) m g)
    obtain ⟨h0, h1, h2, h3, hargs⟩ := h c
    exact ⟨h0.trans (AdamwOutIdeal.Step.final_grad m c), h1.trans (AdamwOutIdeal.Step.final_delta m c), h2.trans (AdamwOutIdeal.Step.final_mom m c), h3.trans (AdamwOutIdeal.Step.final_var m c), hargs⟩
  · refine (θ_run Cert.AdamwOutRefIdeal.defs _ _).mono (fun _ h c => ?_) (Cert.AdamwOutRefIdeal.Value.run (F := Ideal) m' g')
    obtain ⟨h0, h1, h2, h3, hargs⟩ := h c
    obtain ⟨a0, a1, a2, a3, a4⟩ := hagree c
    refine ⟨h0.trans ?_, h1.trans ?_, h2.trans ?_, h3.trans ?_, hargs⟩
    · refine (Cert.AdamwOutRefIdeal.Read.val_main_v6_eq ..).trans ?_
      simp only [a0, a1, a2, a3, a4]
      funext i
      idx_vars i
      exact AdamwOutIdeal.Step.ref_grad ..
    · refine (Cert.AdamwOutRefIdeal.Read.val_main_v30_eq ..).trans ?_
      simp only [a0, a1, a2, a3, a4]
      funext i
      idx_vars i
      exact AdamwOutIdeal.Step.ref_delta ..
    · refine (Cert.AdamwOutRefIdeal.Read.val_main_v11_eq ..).trans ?_
      simp only [a0, a1, a2, a3, a4]
      funext i
      idx_vars i
      exact AdamwOutIdeal.Step.ref_mom ..
    · refine (Cert.AdamwOutRefIdeal.Read.val_main_v17_eq ..).trans ?_
      simp only [a0, a1, a2, a3, a4]
      funext i
      idx_vars i
      exact AdamwOutIdeal.Step.ref_var ..

/-- The optimizer's step for the down projection. -/
theorem adamw_down_algebraic : Cert.algebraic_AdamwDownIdeal_AdamwDownRefIdeal := by
  intro m g m' g' _ hagree
  refine ⟨fun c i => AdamwDownIdeal.Step.grad (AdamwDownIdeal.Step.argP m c) (AdamwDownIdeal.Step.argQ m c) (i 0) (i 1) (i 2),
    fun c i => AdamwDownIdeal.Step.sDelta (AdamwDownIdeal.Step.argP m c) (AdamwDownIdeal.Step.argQ m c) (AdamwDownIdeal.Step.argW m c) (AdamwDownIdeal.Step.argM m c) (AdamwDownIdeal.Step.argV m c) (i 0) (i 1) (i 2),
    fun c i => AdamwDownIdeal.Step.sMom (AdamwDownIdeal.Step.argP m c) (AdamwDownIdeal.Step.argQ m c) (AdamwDownIdeal.Step.argM m c) (i 0) (i 1) (i 2),
    fun c i => AdamwDownIdeal.Step.sVar (AdamwDownIdeal.Step.argP m c) (AdamwDownIdeal.Step.argQ m c) (AdamwDownIdeal.Step.argV m c) (i 0) (i 1) (i 2), ?_, ?_⟩
  · refine (θ_run Cert.AdamwDownIdeal.defs _ _).mono (fun _ h c => ?_) (Cert.AdamwDownIdeal.Value.run_blocks (F := Ideal) m g)
    obtain ⟨h0, h1, h2, h3, hargs⟩ := h c
    exact ⟨h0.trans (AdamwDownIdeal.Step.final_grad m c), h1.trans (AdamwDownIdeal.Step.final_delta m c), h2.trans (AdamwDownIdeal.Step.final_mom m c), h3.trans (AdamwDownIdeal.Step.final_var m c), hargs⟩
  · refine (θ_run Cert.AdamwDownRefIdeal.defs _ _).mono (fun _ h c => ?_) (Cert.AdamwDownRefIdeal.Value.run (F := Ideal) m' g')
    obtain ⟨h0, h1, h2, h3, hargs⟩ := h c
    obtain ⟨a0, a1, a2, a3, a4⟩ := hagree c
    refine ⟨h0.trans ?_, h1.trans ?_, h2.trans ?_, h3.trans ?_, hargs⟩
    · refine (Cert.AdamwDownRefIdeal.Read.val_main_v6_eq ..).trans ?_
      simp only [a0, a1, a2, a3, a4]
      funext i
      idx_vars i
      exact AdamwDownIdeal.Step.ref_grad ..
    · refine (Cert.AdamwDownRefIdeal.Read.val_main_v30_eq ..).trans ?_
      simp only [a0, a1, a2, a3, a4]
      funext i
      idx_vars i
      exact AdamwDownIdeal.Step.ref_delta ..
    · refine (Cert.AdamwDownRefIdeal.Read.val_main_v11_eq ..).trans ?_
      simp only [a0, a1, a2, a3, a4]
      funext i
      idx_vars i
      exact AdamwDownIdeal.Step.ref_mom ..
    · refine (Cert.AdamwDownRefIdeal.Read.val_main_v17_eq ..).trans ?_
      simp only [a0, a1, a2, a3, a4]
      funext i
      idx_vars i
      exact AdamwDownIdeal.Step.ref_var ..

/-- The optimizer's step for the input projection. -/
theorem adamw_in_algebraic : Cert.algebraic_AdamwInIdeal_AdamwInRefIdeal := by
  intro m g m' g' _ hagree
  refine ⟨fun c i => AdamwInIdeal.Step.grad (AdamwInIdeal.Step.argP m c) (AdamwInIdeal.Step.argQ m c) (i 0) (i 1) (i 2),
    fun c i => AdamwInIdeal.Step.sDelta (AdamwInIdeal.Step.argP m c) (AdamwInIdeal.Step.argQ m c) (AdamwInIdeal.Step.argW m c) (AdamwInIdeal.Step.argM m c) (AdamwInIdeal.Step.argV m c) (i 0) (i 1) (i 2),
    fun c i => AdamwInIdeal.Step.sMom (AdamwInIdeal.Step.argP m c) (AdamwInIdeal.Step.argQ m c) (AdamwInIdeal.Step.argM m c) (i 0) (i 1) (i 2),
    fun c i => AdamwInIdeal.Step.sVar (AdamwInIdeal.Step.argP m c) (AdamwInIdeal.Step.argQ m c) (AdamwInIdeal.Step.argV m c) (i 0) (i 1) (i 2), ?_, ?_⟩
  · refine (θ_run Cert.AdamwInIdeal.defs _ _).mono (fun _ h c => ?_) (Cert.AdamwInIdeal.Value.run_blocks (F := Ideal) m g)
    obtain ⟨h0, h1, h2, h3, hargs⟩ := h c
    exact ⟨h0.trans (AdamwInIdeal.Step.final_grad m c), h1.trans (AdamwInIdeal.Step.final_delta m c), h2.trans (AdamwInIdeal.Step.final_mom m c), h3.trans (AdamwInIdeal.Step.final_var m c), hargs⟩
  · refine (θ_run Cert.AdamwInRefIdeal.defs _ _).mono (fun _ h c => ?_) (Cert.AdamwInRefIdeal.Value.run (F := Ideal) m' g')
    obtain ⟨h0, h1, h2, h3, hargs⟩ := h c
    obtain ⟨a0, a1, a2, a3, a4⟩ := hagree c
    refine ⟨h0.trans ?_, h1.trans ?_, h2.trans ?_, h3.trans ?_, hargs⟩
    · refine (Cert.AdamwInRefIdeal.Read.val_main_v8_eq ..).trans ?_
      simp only [a0, a1, a2, a3, a4]
      funext i
      idx_vars i
      exact AdamwInIdeal.Step.ref_grad ..
    · refine (Cert.AdamwInRefIdeal.Read.val_main_v32_eq ..).trans ?_
      simp only [a0, a1, a2, a3, a4]
      funext i
      idx_vars i
      exact AdamwInIdeal.Step.ref_delta ..
    · refine (Cert.AdamwInRefIdeal.Read.val_main_v13_eq ..).trans ?_
      simp only [a0, a1, a2, a3, a4]
      funext i
      idx_vars i
      exact AdamwInIdeal.Step.ref_mom ..
    · refine (Cert.AdamwInRefIdeal.Read.val_main_v19_eq ..).trans ?_
      simp only [a0, a1, a2, a3, a4]
      funext i
      idx_vars i
      exact AdamwInIdeal.Step.ref_var ..

/-- The optimizer's step for the small weights kept in shards. -/
theorem adamw_shards_algebraic : Cert.algebraic_AdamwShardsIdeal_AdamwShardsRefIdeal := by
  intro m g m' g' _ hagree
  refine ⟨fun c i => Cert.AdamwShardsIdeal.Value.G12 (m ((c : Thread AdamwShardsIdeal.nD AdamwShardsIdeal.τ).loc AdamwShardsIdeal.main_arg0)) (m ((c : Thread AdamwShardsIdeal.nD AdamwShardsIdeal.τ).loc AdamwShardsIdeal.main_arg3)) (m ((c : Thread AdamwShardsIdeal.nD AdamwShardsIdeal.τ).loc AdamwShardsIdeal.main_arg6)) (m ((c : Thread AdamwShardsIdeal.nD AdamwShardsIdeal.τ).loc AdamwShardsIdeal.main_arg9)) i,
    fun c i => Cert.AdamwShardsIdeal.Value.G13 (m ((c : Thread AdamwShardsIdeal.nD AdamwShardsIdeal.τ).loc AdamwShardsIdeal.main_arg1)) (m ((c : Thread AdamwShardsIdeal.nD AdamwShardsIdeal.τ).loc AdamwShardsIdeal.main_arg4)) (m ((c : Thread AdamwShardsIdeal.nD AdamwShardsIdeal.τ).loc AdamwShardsIdeal.main_arg7)) (m ((c : Thread AdamwShardsIdeal.nD AdamwShardsIdeal.τ).loc AdamwShardsIdeal.main_arg10)) i,
    fun c i => Cert.AdamwShardsIdeal.Value.G14 (m ((c : Thread AdamwShardsIdeal.nD AdamwShardsIdeal.τ).loc AdamwShardsIdeal.main_arg2)) (m ((c : Thread AdamwShardsIdeal.nD AdamwShardsIdeal.τ).loc AdamwShardsIdeal.main_arg5)) (m ((c : Thread AdamwShardsIdeal.nD AdamwShardsIdeal.τ).loc AdamwShardsIdeal.main_arg8)) (m ((c : Thread AdamwShardsIdeal.nD AdamwShardsIdeal.τ).loc AdamwShardsIdeal.main_arg11)) i,
    fun c i => Cert.AdamwShardsIdeal.Value.G15 (m ((c : Thread AdamwShardsIdeal.nD AdamwShardsIdeal.τ).loc AdamwShardsIdeal.main_arg0)) (m ((c : Thread AdamwShardsIdeal.nD AdamwShardsIdeal.τ).loc AdamwShardsIdeal.main_arg6)) i,
    fun c i => Cert.AdamwShardsIdeal.Value.G16 (m ((c : Thread AdamwShardsIdeal.nD AdamwShardsIdeal.τ).loc AdamwShardsIdeal.main_arg1)) (m ((c : Thread AdamwShardsIdeal.nD AdamwShardsIdeal.τ).loc AdamwShardsIdeal.main_arg7)) i,
    fun c i => Cert.AdamwShardsIdeal.Value.G17 (m ((c : Thread AdamwShardsIdeal.nD AdamwShardsIdeal.τ).loc AdamwShardsIdeal.main_arg2)) (m ((c : Thread AdamwShardsIdeal.nD AdamwShardsIdeal.τ).loc AdamwShardsIdeal.main_arg8)) i,
    fun c i => Cert.AdamwShardsIdeal.Value.G18 (m ((c : Thread AdamwShardsIdeal.nD AdamwShardsIdeal.τ).loc AdamwShardsIdeal.main_arg0)) (m ((c : Thread AdamwShardsIdeal.nD AdamwShardsIdeal.τ).loc AdamwShardsIdeal.main_arg9)) i,
    fun c i => Cert.AdamwShardsIdeal.Value.G19 (m ((c : Thread AdamwShardsIdeal.nD AdamwShardsIdeal.τ).loc AdamwShardsIdeal.main_arg1)) (m ((c : Thread AdamwShardsIdeal.nD AdamwShardsIdeal.τ).loc AdamwShardsIdeal.main_arg10)) i,
    fun c i => Cert.AdamwShardsIdeal.Value.G20 (m ((c : Thread AdamwShardsIdeal.nD AdamwShardsIdeal.τ).loc AdamwShardsIdeal.main_arg2)) (m ((c : Thread AdamwShardsIdeal.nD AdamwShardsIdeal.τ).loc AdamwShardsIdeal.main_arg11)) i, ?_, ?_⟩
  · refine (θ_run Cert.AdamwShardsIdeal.defs _ _).mono (fun _ h c => ?_) (Cert.AdamwShardsIdeal.Value.run (F := Ideal) m g)
    obtain ⟨h0, h1, h2, h3, h4, h5, h6, h7, h8, hargs⟩ := h c
    exact ⟨h0, h1, h2, h3, h4, h5, h6, h7, h8, hargs⟩
  · refine (θ_run Cert.AdamwShardsRefIdeal.defs _ _).mono (fun _ h c => ?_) (Cert.AdamwShardsRefIdeal.Value.run (F := Ideal) m' g')
    obtain ⟨h0, h1, h2, h3, h4, h5, h6, h7, h8, hargs⟩ := h c
    obtain ⟨a0, a1, a2, a3, a4, a5, a6, a7, a8, a9, a10, a11⟩ := hagree c
    refine ⟨h0.trans ?_, h1.trans ?_, h2.trans ?_, h3.trans ?_, h4.trans ?_, h5.trans ?_, h6.trans ?_, h7.trans ?_, h8.trans ?_, hargs⟩
    · refine (Cert.AdamwShardsRefIdeal.Read.val_main_v23_eq ..).trans ?_
      simp only [a0, a3, a6, a9]
      rfl
    · refine (Cert.AdamwShardsRefIdeal.Read.val_main_v47_eq ..).trans ?_
      simp only [a1, a4, a7, a10]
      rfl
    · refine (Cert.AdamwShardsRefIdeal.Read.val_main_v71_eq ..).trans ?_
      simp only [a2, a5, a8, a11]
      rfl
    · refine (Cert.AdamwShardsRefIdeal.Read.val_main_v4_eq ..).trans ?_
      simp only [a0, a6]
      rfl
    · refine (Cert.AdamwShardsRefIdeal.Read.val_main_v28_eq ..).trans ?_
      simp only [a1, a7]
      rfl
    · refine (Cert.AdamwShardsRefIdeal.Read.val_main_v52_eq ..).trans ?_
      simp only [a2, a8]
      rfl
    · refine (Cert.AdamwShardsRefIdeal.Read.val_main_v10_eq ..).trans ?_
      simp only [a0, a9]
      rfl
    · refine (Cert.AdamwShardsRefIdeal.Read.val_main_v34_eq ..).trans ?_
      simp only [a1, a10]
      rfl
    · refine (Cert.AdamwShardsRefIdeal.Read.val_main_v58_eq ..).trans ?_
      simp only [a2, a11]
      rfl

/-- The gradient of the second layer's convolved queries, keys and values, at a finite cotangent. -/
theorem qkv_bwd_algebraic : Cert.algebraic_QkvBwdIdeal_QkvBwdRefIdeal_pre_qkv_finite := by
  intro m g m' g' hpre hagree
  refine ⟨fun c i => Cert.Qkv.ds (QkvBwdIdeal.Qkv.argP m c) (QkvBwdIdeal.Qkv.argD m c) (QkvBwdIdeal.Qkv.argW m c) (i 0).val (i 1),
    fun c i => Cert.Qkv.dw (QkvBwdIdeal.Qkv.argP m c) (QkvBwdIdeal.Qkv.argD m c) (QkvBwdIdeal.Qkv.argW m c) (i 0) (i 1), ?_, ?_⟩
  · refine (θ_run Cert.QkvBwdIdeal.defs _ _).mono (fun _ h c => ?_) (Cert.QkvBwdIdeal.Value.run_blocks (F := Ideal) m g)
    obtain ⟨h0, h1, hargs⟩ := h c
    exact ⟨h0.trans (QkvBwdIdeal.Qkv.final_ds m c), h1.trans (QkvBwdIdeal.Qkv.final_dw m c), hargs⟩
  · refine (θ_run Cert.QkvBwdRefIdeal.defs _ _).mono (fun _ h c => ?_) (Cert.QkvBwdRefIdeal.Value.run (F := Ideal) m' g')
    obtain ⟨h0, h1, hargs⟩ := h c
    obtain ⟨a0, a1, a2⟩ := hagree c
    have hd (n : Fin 8192) (j : Fin 768) : Step.IsReal (QkvBwdIdeal.Qkv.argD m c (ix2 n j)) := real_of_lt (congrFun (hpre c) (ix2 n j))
    refine ⟨h0.trans ?_, h1.trans ?_, hargs⟩
    · refine (Cert.QkvBwdRefIdeal.Read.val_main_v65_eq ..).trans ?_
      simp only [a0, a1, a2]
      funext i
      idx_vars i
      exact QkvBwdRefIdeal.Qkv.ds_apply _ _ _ hd ..
    · refine (Cert.QkvBwdRefIdeal.Read.val_main_v60_eq ..).trans ?_
      simp only [a0, a1, a2]
      funext i
      idx_vars i
      exact QkvBwdRefIdeal.Qkv.dw_apply _ _ _ hd ..

/-- The second layer's gated short convolution, forward. -/
theorem sconv_fwd_algebraic : Cert.algebraic_SconvFwdIdeal_SconvFwdRefIdeal := by
  intro m g m' g' _ hagree
  refine ⟨fun c i => Cert.Conv.y (SconvFwdIdeal.Conv.argP m c) (SconvFwdIdeal.Conv.argW m c) (i 0) (i 1), ?_, ?_⟩
  · refine (θ_run Cert.SconvFwdIdeal.defs _ _).mono (fun _ h c => ?_) (Cert.SconvFwdIdeal.Value.run_blocks (F := Ideal) m g)
    obtain ⟨h0, hargs⟩ := h c
    exact ⟨h0.trans (SconvFwdIdeal.Conv.final_y m c), hargs⟩
  · refine (θ_run Cert.SconvFwdRefIdeal.defs _ _).mono (fun _ h c => ?_) (Cert.SconvFwdRefIdeal.Value.run (F := Ideal) m' g')
    obtain ⟨h0, hargs⟩ := h c
    obtain ⟨a0, a1⟩ := hagree c
    refine ⟨h0.trans ?_, hargs⟩
    · refine (Cert.SconvFwdRefIdeal.Read.val_main_v25_eq ..).trans ?_
      simp only [a0, a1]
      funext i
      idx_vars i
      exact SconvFwdRefIdeal.Conv.y_apply ..

/-- The second layer's convolved queries, keys and values, forward. -/
theorem qkv_fwd_algebraic : Cert.algebraic_QkvFwdIdeal_QkvFwdRefIdeal := by
  intro m g m' g' _ hagree
  refine ⟨fun c i => Cert.Qkv.y (QkvFwdIdeal.Qkv.argP m c) (QkvFwdIdeal.Qkv.argW m c) (i 0) (i 1), ?_, ?_⟩
  · refine (θ_run Cert.QkvFwdIdeal.defs _ _).mono (fun _ h c => ?_) (Cert.QkvFwdIdeal.Value.run_blocks (F := Ideal) m g)
    obtain ⟨h0, hargs⟩ := h c
    exact ⟨h0.trans (QkvFwdIdeal.Qkv.final_y m c), hargs⟩
  · refine (θ_run Cert.QkvFwdRefIdeal.defs _ _).mono (fun _ h c => ?_) (Cert.QkvFwdRefIdeal.Value.run (F := Ideal) m' g')
    obtain ⟨h0, hargs⟩ := h c
    obtain ⟨a0, a1⟩ := hagree c
    refine ⟨h0.trans ?_, hargs⟩
    · refine (Cert.QkvFwdRefIdeal.Read.val_main_v26_eq ..).trans ?_
      simp only [a0, a1]
      funext i
      idx_vars i
      exact QkvFwdRefIdeal.Qkv.y_apply ..

/-- The gradient of the first layer's gated short convolution. -/
theorem sconv_bwd_first_algebraic : Cert.algebraic_SconvBwd0Ideal_SconvBwd0RefIdeal := by
  intro m g m' g' _ hagree
  refine ⟨fun c i => Cert.Conv.dp (SconvBwd0Ideal.Conv.argP m c) (SconvBwd0Ideal.Conv.argD m c) (Cert.Conv.first (SconvBwd0Ideal.Conv.argW m c)) (i 0) (i 1),
    fun c i => Cert.Conv.dw (SconvBwd0Ideal.Conv.argP m c) (SconvBwd0Ideal.Conv.argD m c) (i 0) (i 1), ?_, ?_⟩
  · refine (θ_run Cert.SconvBwd0Ideal.defs _ _).mono (fun _ h c => ?_) (Cert.SconvBwd0Ideal.Value.run_blocks (F := Ideal) m g)
    obtain ⟨h0, h1, hargs⟩ := h c
    exact ⟨h0.trans (SconvBwd0Ideal.Conv.final_dp m c), h1.trans (SconvBwd0Ideal.Conv.final_dw m c), hargs⟩
  · refine (θ_run Cert.SconvBwd0RefIdeal.defs _ _).mono (fun _ h c => ?_) (Cert.SconvBwd0RefIdeal.Value.run (F := Ideal) m' g')
    obtain ⟨h0, h1, hargs⟩ := h c
    obtain ⟨a0, a1, a2⟩ := hagree c
    refine ⟨h0.trans ?_, h1.trans ?_, hargs⟩
    · refine (Cert.SconvBwd0RefIdeal.Read.val_main_v59_eq ..).trans ?_
      simp only [a0, a1, a2]
      funext i
      idx_vars i
      exact SconvBwd0RefIdeal.Conv.dp_apply ..
    · refine (Cert.SconvBwd0RefIdeal.Read.val_main_v51_eq ..).trans ?_
      simp only [a0, a1, a2]
      funext i
      idx_vars i
      exact SconvBwd0RefIdeal.Conv.dw_apply ..

/-- The gradient of the first layer's convolved queries, keys and values, at a finite cotangent. -/
theorem qkv_bwd_first_algebraic : Cert.algebraic_QkvBwd0Ideal_QkvBwd0RefIdeal_pre_qkv_finite := by
  intro m g m' g' hpre hagree
  refine ⟨fun c i => Cert.Qkv.ds (QkvBwd0Ideal.Qkv.argP m c) (QkvBwd0Ideal.Qkv.argD m c) (Cert.Qkv.first (QkvBwd0Ideal.Qkv.argW m c)) (i 0).val (i 1),
    fun c i => Cert.Qkv.dw (QkvBwd0Ideal.Qkv.argP m c) (QkvBwd0Ideal.Qkv.argD m c) (Cert.Qkv.first (QkvBwd0Ideal.Qkv.argW m c)) (i 0) (i 1), ?_, ?_⟩
  · refine (θ_run Cert.QkvBwd0Ideal.defs _ _).mono (fun _ h c => ?_) (Cert.QkvBwd0Ideal.Value.run_blocks (F := Ideal) m g)
    obtain ⟨h0, h1, hargs⟩ := h c
    exact ⟨h0.trans (QkvBwd0Ideal.Qkv.final_ds m c), h1.trans (QkvBwd0Ideal.Qkv.final_dw m c), hargs⟩
  · refine (θ_run Cert.QkvBwd0RefIdeal.defs _ _).mono (fun _ h c => ?_) (Cert.QkvBwd0RefIdeal.Value.run (F := Ideal) m' g')
    obtain ⟨h0, h1, hargs⟩ := h c
    obtain ⟨a0, a1, a2⟩ := hagree c
    have hd (n : Fin 8192) (j : Fin 768) : Step.IsReal (QkvBwd0Ideal.Qkv.argD m c (ix2 n j)) := real_of_lt (congrFun (hpre c) (ix2 n j))
    refine ⟨h0.trans ?_, h1.trans ?_, hargs⟩
    · refine (Cert.QkvBwd0RefIdeal.Read.val_main_v65_eq ..).trans ?_
      simp only [a0, a1, a2]
      funext i
      idx_vars i
      exact QkvBwd0RefIdeal.Qkv.ds_apply _ _ _ hd ..
    · refine (Cert.QkvBwd0RefIdeal.Read.val_main_v60_eq ..).trans ?_
      simp only [a0, a1, a2]
      funext i
      idx_vars i
      exact QkvBwd0RefIdeal.Qkv.dw_apply _ _ _ hd ..

/-- The first layer's gated short convolution, forward. -/
theorem sconv_fwd_first_algebraic : Cert.algebraic_SconvFwd0Ideal_SconvFwd0RefIdeal := by
  intro m g m' g' _ hagree
  refine ⟨fun c i => Cert.Conv.y (SconvFwd0Ideal.Conv.argP m c) (Cert.Conv.first (SconvFwd0Ideal.Conv.argW m c)) (i 0) (i 1), ?_, ?_⟩
  · refine (θ_run Cert.SconvFwd0Ideal.defs _ _).mono (fun _ h c => ?_) (Cert.SconvFwd0Ideal.Value.run_blocks (F := Ideal) m g)
    obtain ⟨h0, hargs⟩ := h c
    exact ⟨h0.trans (SconvFwd0Ideal.Conv.final_y m c), hargs⟩
  · refine (θ_run Cert.SconvFwd0RefIdeal.defs _ _).mono (fun _ h c => ?_) (Cert.SconvFwd0RefIdeal.Value.run (F := Ideal) m' g')
    obtain ⟨h0, hargs⟩ := h c
    obtain ⟨a0, a1⟩ := hagree c
    refine ⟨h0.trans ?_, hargs⟩
    · refine (Cert.SconvFwd0RefIdeal.Read.val_main_v25_eq ..).trans ?_
      simp only [a0, a1]
      funext i
      idx_vars i
      exact SconvFwd0RefIdeal.Conv.y_apply ..

/-- The first layer's convolved queries, keys and values, forward. -/
theorem qkv_fwd_first_algebraic : Cert.algebraic_QkvFwd0Ideal_QkvFwd0RefIdeal := by
  intro m g m' g' _ hagree
  refine ⟨fun c i => Cert.Qkv.y (QkvFwd0Ideal.Qkv.argP m c) (Cert.Qkv.first (QkvFwd0Ideal.Qkv.argW m c)) (i 0) (i 1), ?_, ?_⟩
  · refine (θ_run Cert.QkvFwd0Ideal.defs _ _).mono (fun _ h c => ?_) (Cert.QkvFwd0Ideal.Value.run_blocks (F := Ideal) m g)
    obtain ⟨h0, hargs⟩ := h c
    exact ⟨h0.trans (QkvFwd0Ideal.Qkv.final_y m c), hargs⟩
  · refine (θ_run Cert.QkvFwd0RefIdeal.defs _ _).mono (fun _ h c => ?_) (Cert.QkvFwd0RefIdeal.Value.run (F := Ideal) m' g')
    obtain ⟨h0, hargs⟩ := h c
    obtain ⟨a0, a1⟩ := hagree c
    refine ⟨h0.trans ?_, hargs⟩
    · refine (Cert.QkvFwd0RefIdeal.Read.val_main_v26_eq ..).trans ?_
      simp only [a0, a1]
      funext i
      idx_vars i
      exact QkvFwd0RefIdeal.Qkv.y_apply ..

/-- Each reference runs and leaves its arguments unchanged. -/
theorem reference_frame : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run m ρ)
theorem mlp_bwd_reference_frame : Cert.quiescent_MlpBwdRefIdeal := fun m ρ _ =>
  (θ_run Cert.MlpBwdRefIdeal.defs _ _).mono (fun r h => ⟨fun c => (h c).2.2.2.2, Idealize.ShloMosaic.sem_eq_zero_of_no_sems (by decide) r.2⟩)
    (Cert.MlpBwdRefIdeal.Value.run m ρ)
theorem mlp_bwd_first_reference_frame : Cert.quiescent_MlpBwd0RefIdeal := fun m ρ _ =>
  (θ_run Cert.MlpBwd0RefIdeal.defs _ _).mono (fun r h => ⟨fun c => (h c).2.2.2.2, Idealize.ShloMosaic.sem_eq_zero_of_no_sems (by decide) r.2⟩)
    (Cert.MlpBwd0RefIdeal.Value.run m ρ)
theorem out_mlp_reference_frame : Cert.quiescent_OutMlpRefIdeal := fun m ρ _ =>
  (θ_run Cert.OutMlpRefIdeal.defs _ _).mono (fun r h => ⟨fun c => (h c).2.2.2.2.2.2, Idealize.ShloMosaic.sem_eq_zero_of_no_sems (by decide) r.2⟩)
    (Cert.OutMlpRefIdeal.Value.run m ρ)
theorem head_reference_frame : Cert.quiescent_HeadRefIdeal := fun m ρ _ =>
  (θ_run Cert.HeadRefIdeal.defs _ _).mono (fun r h => ⟨fun c => (h c).2.2.2.2.2.2.2.2, Idealize.ShloMosaic.sem_eq_zero_of_no_sems (by decide) r.2⟩)
    (Cert.HeadRefIdeal.Value.run m ρ)
theorem in_proj_reference_frame : Cert.quiescent_InProjRefIdeal := fun m ρ _ =>
  (θ_run Cert.InProjRefIdeal.defs _ _).mono (fun r h => ⟨fun c => (h c).2.2, Idealize.ShloMosaic.sem_eq_zero_of_no_sems (by decide) r.2⟩)
    (Cert.InProjRefIdeal.Value.run m ρ)
theorem in_proj_bwd_first_reference_frame : Cert.quiescent_InProjBwd0RefIdeal := fun m ρ _ =>
  (θ_run Cert.InProjBwd0RefIdeal.defs _ _).mono (fun r h => ⟨fun c => (h c).2.2.2, Idealize.ShloMosaic.sem_eq_zero_of_no_sems (by decide) r.2⟩)
    (Cert.InProjBwd0RefIdeal.Value.run m ρ)
theorem in_proj_bwd_reference_frame : Cert.quiescent_InProjBwdRefIdeal := fun m ρ _ =>
  (θ_run Cert.InProjBwdRefIdeal.defs _ _).mono (fun r h => ⟨fun c => (h c).2.2.2, Idealize.ShloMosaic.sem_eq_zero_of_no_sems (by decide) r.2⟩)
    (Cert.InProjBwdRefIdeal.Value.run m ρ)
theorem wgrad_gate_up_reference_frame : Cert.quiescent_WgradGuRefIdeal := fun m ρ _ =>
  (θ_run Cert.WgradGuRefIdeal.defs _ _).mono (fun r h => ⟨fun c => (h c).2, Idealize.ShloMosaic.sem_eq_zero_of_no_sems (by decide) r.2⟩)
    (Cert.WgradGuRefIdeal.Value.run m ρ)
theorem wgrad_down_reference_frame : Cert.quiescent_WgradDownRefIdeal := fun m ρ _ =>
  (θ_run Cert.WgradDownRefIdeal.defs _ _).mono (fun r h => ⟨fun c => (h c).2, Idealize.ShloMosaic.sem_eq_zero_of_no_sems (by decide) r.2⟩)
    (Cert.WgradDownRefIdeal.Value.run m ρ)
theorem wgrad_out_reference_frame : Cert.quiescent_WgradOutRefIdeal := fun m ρ _ =>
  (θ_run Cert.WgradOutRefIdeal.defs _ _).mono (fun r h => ⟨fun c => (h c).2, Idealize.ShloMosaic.sem_eq_zero_of_no_sems (by decide) r.2⟩)
    (Cert.WgradOutRefIdeal.Value.run m ρ)
theorem wgrad_in_reference_frame : Cert.quiescent_WgradInRefIdeal := fun m ρ _ =>
  (θ_run Cert.WgradInRefIdeal.defs _ _).mono (fun r h => ⟨fun c => (h c).2, Idealize.ShloMosaic.sem_eq_zero_of_no_sems (by decide) r.2⟩)
    (Cert.WgradInRefIdeal.Value.run m ρ)
theorem adamw_gate_up_reference_frame : Cert.quiescent_AdamwGuRefIdeal := fun m ρ _ =>
  (θ_run Cert.AdamwGuRefIdeal.defs _ _).mono (fun r h => ⟨fun c => (h c).2.2.2.2, Idealize.ShloMosaic.sem_eq_zero_of_no_sems (by decide) r.2⟩)
    (Cert.AdamwGuRefIdeal.Value.run m ρ)
theorem adamw_out_reference_frame : Cert.quiescent_AdamwOutRefIdeal := fun m ρ _ =>
  (θ_run Cert.AdamwOutRefIdeal.defs _ _).mono (fun r h => ⟨fun c => (h c).2.2.2.2, Idealize.ShloMosaic.sem_eq_zero_of_no_sems (by decide) r.2⟩)
    (Cert.AdamwOutRefIdeal.Value.run m ρ)
theorem adamw_down_reference_frame : Cert.quiescent_AdamwDownRefIdeal := fun m ρ _ =>
  (θ_run Cert.AdamwDownRefIdeal.defs _ _).mono (fun r h => ⟨fun c => (h c).2.2.2.2, Idealize.ShloMosaic.sem_eq_zero_of_no_sems (by decide) r.2⟩)
    (Cert.AdamwDownRefIdeal.Value.run m ρ)
theorem adamw_in_reference_frame : Cert.quiescent_AdamwInRefIdeal := fun m ρ _ =>
  (θ_run Cert.AdamwInRefIdeal.defs _ _).mono (fun r h => ⟨fun c => (h c).2.2.2.2, Idealize.ShloMosaic.sem_eq_zero_of_no_sems (by decide) r.2⟩)
    (Cert.AdamwInRefIdeal.Value.run m ρ)
theorem adamw_shards_reference_frame : Cert.quiescent_AdamwShardsRefIdeal := fun m ρ _ =>
  (θ_run Cert.AdamwShardsRefIdeal.defs _ _).mono (fun r h => ⟨fun c => (h c).2.2.2.2.2.2.2.2.2, Idealize.ShloMosaic.sem_eq_zero_of_no_sems (by decide) r.2⟩)
    (Cert.AdamwShardsRefIdeal.Value.run m ρ)
theorem qkv_bwd_reference_frame : Cert.quiescent_QkvBwdRefIdeal := fun m ρ _ =>
  (θ_run Cert.QkvBwdRefIdeal.defs _ _).mono (fun r h => ⟨fun c => (h c).2.2, Idealize.ShloMosaic.sem_eq_zero_of_no_sems (by decide) r.2⟩)
    (Cert.QkvBwdRefIdeal.Value.run m ρ)
theorem sconv_fwd_reference_frame : Cert.quiescent_SconvFwdRefIdeal := fun m ρ _ =>
  (θ_run Cert.SconvFwdRefIdeal.defs _ _).mono (fun r h => ⟨fun c => (h c).2, Idealize.ShloMosaic.sem_eq_zero_of_no_sems (by decide) r.2⟩)
    (Cert.SconvFwdRefIdeal.Value.run m ρ)
theorem qkv_fwd_reference_frame : Cert.quiescent_QkvFwdRefIdeal := fun m ρ _ =>
  (θ_run Cert.QkvFwdRefIdeal.defs _ _).mono (fun r h => ⟨fun c => (h c).2, Idealize.ShloMosaic.sem_eq_zero_of_no_sems (by decide) r.2⟩)
    (Cert.QkvFwdRefIdeal.Value.run m ρ)
theorem sconv_bwd_first_reference_frame : Cert.quiescent_SconvBwd0RefIdeal := fun m ρ _ =>
  (θ_run Cert.SconvBwd0RefIdeal.defs _ _).mono (fun r h => ⟨fun c => (h c).2.2, Idealize.ShloMosaic.sem_eq_zero_of_no_sems (by decide) r.2⟩)
    (Cert.SconvBwd0RefIdeal.Value.run m ρ)
theorem qkv_bwd_first_reference_frame : Cert.quiescent_QkvBwd0RefIdeal := fun m ρ _ =>
  (θ_run Cert.QkvBwd0RefIdeal.defs _ _).mono (fun r h => ⟨fun c => (h c).2.2, Idealize.ShloMosaic.sem_eq_zero_of_no_sems (by decide) r.2⟩)
    (Cert.QkvBwd0RefIdeal.Value.run m ρ)
theorem sconv_fwd_first_reference_frame : Cert.quiescent_SconvFwd0RefIdeal := fun m ρ _ =>
  (θ_run Cert.SconvFwd0RefIdeal.defs _ _).mono (fun r h => ⟨fun c => (h c).2, Idealize.ShloMosaic.sem_eq_zero_of_no_sems (by decide) r.2⟩)
    (Cert.SconvFwd0RefIdeal.Value.run m ρ)
theorem qkv_fwd_first_reference_frame : Cert.quiescent_QkvFwd0RefIdeal := fun m ρ _ =>
  (θ_run Cert.QkvFwd0RefIdeal.defs _ _).mono (fun r h => ⟨fun c => (h c).2, Idealize.ShloMosaic.sem_eq_zero_of_no_sems (by decide) r.2⟩)
    (Cert.QkvFwd0RefIdeal.Value.run m ρ)

theorem claim : Cert.Claim := ⟨
  Cert.Kernel.Gen.facts, Cert.KernelIdeal.Gen.facts, Cert.ReferenceIdeal.Gen.facts, Cert.MlpBwd.Gen.facts,
  Cert.MlpBwdIdeal.Gen.facts, Cert.MlpBwdRefIdeal.Gen.facts, Cert.OutMlp.Gen.facts, Cert.OutMlpIdeal.Gen.facts,
  Cert.OutMlpRefIdeal.Gen.facts, Cert.Head.Gen.facts, Cert.HeadIdeal.Gen.facts, Cert.HeadRefIdeal.Gen.facts,
  Cert.InProj.Gen.facts, Cert.InProjIdeal.Gen.facts, Cert.InProjRefIdeal.Gen.facts, Cert.InProjBwd.Gen.facts,
  Cert.InProjBwdIdeal.Gen.facts, Cert.InProjBwdRefIdeal.Gen.facts, Cert.WgradGu.Gen.facts, Cert.WgradGuIdeal.Gen.facts,
  Cert.WgradGuRefIdeal.Gen.facts, Cert.WgradDown.Gen.facts, Cert.WgradDownIdeal.Gen.facts, Cert.WgradDownRefIdeal.Gen.facts,
  Cert.WgradOut.Gen.facts, Cert.WgradOutIdeal.Gen.facts, Cert.WgradOutRefIdeal.Gen.facts, Cert.WgradIn.Gen.facts,
  Cert.WgradInIdeal.Gen.facts, Cert.WgradInRefIdeal.Gen.facts, Cert.InProjBwd0.Gen.facts, Cert.InProjBwd0Ideal.Gen.facts,
  Cert.InProjBwd0RefIdeal.Gen.facts, Cert.MlpBwd0.Gen.facts, Cert.MlpBwd0Ideal.Gen.facts, Cert.MlpBwd0RefIdeal.Gen.facts,
  Cert.AdamwGu.Gen.facts, Cert.AdamwGuIdeal.Gen.facts, Cert.AdamwGuRefIdeal.Gen.facts, Cert.AdamwOut.Gen.facts,
  Cert.AdamwOutIdeal.Gen.facts, Cert.AdamwOutRefIdeal.Gen.facts, Cert.AdamwDown.Gen.facts, Cert.AdamwDownIdeal.Gen.facts,
  Cert.AdamwDownRefIdeal.Gen.facts, Cert.AdamwIn.Gen.facts, Cert.AdamwInIdeal.Gen.facts, Cert.AdamwInRefIdeal.Gen.facts,
  Cert.AdamwShards.Gen.facts, Cert.AdamwShardsIdeal.Gen.facts, Cert.AdamwShardsRefIdeal.Gen.facts, Cert.QkvBwd.Gen.facts,
  Cert.QkvBwdIdeal.Gen.facts, Cert.QkvBwdRefIdeal.Gen.facts, Cert.SconvFwd.Gen.facts, Cert.SconvFwdIdeal.Gen.facts,
  Cert.SconvFwdRefIdeal.Gen.facts, Cert.QkvFwd.Gen.facts, Cert.QkvFwdIdeal.Gen.facts, Cert.QkvFwdRefIdeal.Gen.facts,
  Cert.SconvBwd0.Gen.facts, Cert.SconvBwd0Ideal.Gen.facts, Cert.SconvBwd0RefIdeal.Gen.facts, Cert.QkvBwd0.Gen.facts,
  Cert.QkvBwd0Ideal.Gen.facts, Cert.QkvBwd0RefIdeal.Gen.facts, Cert.SconvFwd0.Gen.facts, Cert.SconvFwd0Ideal.Gen.facts,
  Cert.SconvFwd0RefIdeal.Gen.facts, Cert.QkvFwd0.Gen.facts, Cert.QkvFwd0Ideal.Gen.facts, Cert.QkvFwd0RefIdeal.Gen.facts,
  finite_facts, qkv_finite_facts, fun m ρ _ => Cert.Kernel.Gen.frame m ρ, fun m ρ _ => Cert.KernelIdeal.Gen.frame m ρ,
  reference_frame, fun m ρ _ => Cert.MlpBwd.Gen.frame m ρ, fun m ρ _ => Cert.MlpBwdIdeal.Gen.frame m ρ,
  fun m ρ _ => Cert.MlpBwdIdeal.Gen.frame m ρ, mlp_bwd_reference_frame, fun m ρ _ => mlp_bwd_reference_frame m ρ trivial,
  fun m ρ _ => Cert.OutMlp.Gen.frame m ρ, fun m ρ _ => Cert.OutMlpIdeal.Gen.frame m ρ, out_mlp_reference_frame,
  fun m ρ _ => Cert.Head.Gen.frame m ρ, fun m ρ _ => Cert.HeadIdeal.Gen.frame m ρ, head_reference_frame,
  fun m ρ _ => Cert.InProj.Gen.frame m ρ, fun m ρ _ => Cert.InProjIdeal.Gen.frame m ρ, in_proj_reference_frame,
  fun m ρ _ => Cert.InProjBwd.Gen.frame m ρ, fun m ρ _ => Cert.InProjBwdIdeal.Gen.frame m ρ, in_proj_bwd_reference_frame,
  fun m ρ _ => Cert.WgradGu.Gen.frame m ρ, fun m ρ _ => Cert.WgradGuIdeal.Gen.frame m ρ, wgrad_gate_up_reference_frame,
  fun m ρ _ => Cert.WgradDown.Gen.frame m ρ, fun m ρ _ => Cert.WgradDownIdeal.Gen.frame m ρ, wgrad_down_reference_frame,
  fun m ρ _ => Cert.WgradOut.Gen.frame m ρ, fun m ρ _ => Cert.WgradOutIdeal.Gen.frame m ρ, wgrad_out_reference_frame,
  fun m ρ _ => Cert.WgradIn.Gen.frame m ρ, fun m ρ _ => Cert.WgradInIdeal.Gen.frame m ρ, wgrad_in_reference_frame,
  fun m ρ _ => Cert.InProjBwd0.Gen.frame m ρ, fun m ρ _ => Cert.InProjBwd0Ideal.Gen.frame m ρ,
  in_proj_bwd_first_reference_frame, fun m ρ _ => Cert.MlpBwd0.Gen.frame m ρ, fun m ρ _ => Cert.MlpBwd0Ideal.Gen.frame m ρ,
  fun m ρ _ => Cert.MlpBwd0Ideal.Gen.frame m ρ, mlp_bwd_first_reference_frame,
  fun m ρ _ => mlp_bwd_first_reference_frame m ρ trivial, fun m ρ _ => Cert.AdamwGu.Gen.frame m ρ,
  fun m ρ _ => Cert.AdamwGuIdeal.Gen.frame m ρ, adamw_gate_up_reference_frame, fun m ρ _ => Cert.AdamwOut.Gen.frame m ρ,
  fun m ρ _ => Cert.AdamwOutIdeal.Gen.frame m ρ, adamw_out_reference_frame, fun m ρ _ => Cert.AdamwDown.Gen.frame m ρ,
  fun m ρ _ => Cert.AdamwDownIdeal.Gen.frame m ρ, adamw_down_reference_frame, fun m ρ _ => Cert.AdamwIn.Gen.frame m ρ,
  fun m ρ _ => Cert.AdamwInIdeal.Gen.frame m ρ, adamw_in_reference_frame, fun m ρ _ => Cert.AdamwShards.Gen.frame m ρ,
  fun m ρ _ => Cert.AdamwShardsIdeal.Gen.frame m ρ, adamw_shards_reference_frame, fun m ρ _ => Cert.QkvBwd.Gen.frame m ρ,
  fun m ρ _ => Cert.QkvBwdIdeal.Gen.frame m ρ, fun m ρ _ => Cert.QkvBwdIdeal.Gen.frame m ρ, qkv_bwd_reference_frame,
  fun m ρ _ => qkv_bwd_reference_frame m ρ trivial, fun m ρ _ => Cert.SconvFwd.Gen.frame m ρ,
  fun m ρ _ => Cert.SconvFwdIdeal.Gen.frame m ρ, sconv_fwd_reference_frame, fun m ρ _ => Cert.QkvFwd.Gen.frame m ρ,
  fun m ρ _ => Cert.QkvFwdIdeal.Gen.frame m ρ, qkv_fwd_reference_frame, fun m ρ _ => Cert.SconvBwd0.Gen.frame m ρ,
  fun m ρ _ => Cert.SconvBwd0Ideal.Gen.frame m ρ, sconv_bwd_first_reference_frame, fun m ρ _ => Cert.QkvBwd0.Gen.frame m ρ,
  fun m ρ _ => Cert.QkvBwd0Ideal.Gen.frame m ρ, fun m ρ _ => Cert.QkvBwd0Ideal.Gen.frame m ρ, qkv_bwd_first_reference_frame,
  fun m ρ _ => qkv_bwd_first_reference_frame m ρ trivial, fun m ρ _ => Cert.SconvFwd0.Gen.frame m ρ,
  fun m ρ _ => Cert.SconvFwd0Ideal.Gen.frame m ρ, sconv_fwd_first_reference_frame, fun m ρ _ => Cert.QkvFwd0.Gen.frame m ρ,
  fun m ρ _ => Cert.QkvFwd0Ideal.Gen.frame m ρ, qkv_fwd_first_reference_frame, trivial, conv_algebraic, trivial,
  mlp_bwd_algebraic, trivial, out_mlp_algebraic, trivial, head_algebraic, trivial, in_proj_algebraic, trivial,
  in_proj_bwd_algebraic, trivial, wgrad_gate_up_algebraic, trivial, wgrad_down_algebraic, trivial, wgrad_out_algebraic,
  trivial, wgrad_in_algebraic, trivial, in_proj_bwd_first_algebraic, trivial, mlp_bwd_first_algebraic, trivial,
  adamw_gate_up_algebraic, trivial, adamw_out_algebraic, trivial, adamw_down_algebraic, trivial, adamw_in_algebraic, trivial,
  adamw_shards_algebraic, trivial, qkv_bwd_algebraic, trivial, sconv_fwd_algebraic, trivial, qkv_fwd_algebraic, trivial,
  sconv_bwd_first_algebraic, trivial, qkv_bwd_first_algebraic, trivial, sconv_fwd_first_algebraic, trivial,
  qkv_fwd_first_algebraic⟩

end Cert.Proof

end
